-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_AbInDx (m : (ℓ : Loc Cert.AbInDx.nD Cert.AbInDx.τ Cert.AbInDx.sig) → Buf (Elt Bits) ℓ) : Prop :=
  True

def Pre_AbInDxIdeal (m : (ℓ : Loc Cert.AbInDxIdeal.nD Cert.AbInDxIdeal.τ Cert.AbInDxIdeal.sig) → Buf (Elt Ideal) ℓ) : Prop :=
  True

def Pre_AbInDxRefIdeal (m : (ℓ : Loc Cert.AbInDxRefIdeal.nD Cert.AbInDxRefIdeal.τ Cert.AbInDxRefIdeal.sig) → Buf (Elt Ideal) ℓ) : Prop :=
  True

def Pre_AbInDw (m : (ℓ : Loc Cert.AbInDw.nD Cert.AbInDw.τ Cert.AbInDw.sig) → Buf (Elt Bits) ℓ) : Prop :=
  True

def Pre_AbInDwIdeal (m : (ℓ : Loc Cert.AbInDwIdeal.nD Cert.AbInDwIdeal.τ Cert.AbInDwIdeal.sig) → Buf (Elt Ideal) ℓ) : Prop :=
  True

def Pre_AbInDwRefIdeal (m : (ℓ : Loc Cert.AbInDwRefIdeal.nD Cert.AbInDwRefIdeal.τ Cert.AbInDwRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_XqDx (m : (ℓ : Loc Cert.XqDx.nD Cert.XqDx.τ Cert.XqDx.sig) → Buf (Elt Bits) ℓ) : Prop :=
  True

def Pre_XqDxIdeal (m : (ℓ : Loc Cert.XqDxIdeal.nD Cert.XqDxIdeal.τ Cert.XqDxIdeal.sig) → Buf (Elt Ideal) ℓ) : Prop :=
  True

def Pre_XqDxRefIdeal (m : (ℓ : Loc Cert.XqDxRefIdeal.nD Cert.XqDxRefIdeal.τ Cert.XqDxRefIdeal.sig) → Buf (Elt Ideal) ℓ) : Prop :=
  True

def Pre_XqDw (m : (ℓ : Loc Cert.XqDw.nD Cert.XqDw.τ Cert.XqDw.sig) → Buf (Elt Bits) ℓ) : Prop :=
  True

def Pre_XqDwIdeal (m : (ℓ : Loc Cert.XqDwIdeal.nD Cert.XqDwIdeal.τ Cert.XqDwIdeal.sig) → Buf (Elt Ideal) ℓ) : Prop :=
  True

def Pre_XqDwRefIdeal (m : (ℓ : Loc Cert.XqDwRefIdeal.nD Cert.XqDwRefIdeal.τ Cert.XqDwRefIdeal.sig) → Buf (Elt Ideal) ℓ) : Prop :=
  True

def Pre_XoDx (m : (ℓ : Loc Cert.XoDx.nD Cert.XoDx.τ Cert.XoDx.sig) → Buf (Elt Bits) ℓ) : Prop :=
  True

def Pre_XoDxIdeal (m : (ℓ : Loc Cert.XoDxIdeal.nD Cert.XoDxIdeal.τ Cert.XoDxIdeal.sig) → Buf (Elt Ideal) ℓ) : Prop :=
  True

def Pre_XoDxRefIdeal (m : (ℓ : Loc Cert.XoDxRefIdeal.nD Cert.XoDxRefIdeal.τ Cert.XoDxRefIdeal.sig) → Buf (Elt Ideal) ℓ) : Prop :=
  True

def Pre_XkvDx (m : (ℓ : Loc Cert.XkvDx.nD Cert.XkvDx.τ Cert.XkvDx.sig) → Buf (Elt Bits) ℓ) : Prop :=
  True

def Pre_XkvDxIdeal (m : (ℓ : Loc Cert.XkvDxIdeal.nD Cert.XkvDxIdeal.τ Cert.XkvDxIdeal.sig) → Buf (Elt Ideal) ℓ) : Prop :=
  True

def Pre_XkvDxRefIdeal (m : (ℓ : Loc Cert.XkvDxRefIdeal.nD Cert.XkvDxRefIdeal.τ Cert.XkvDxRefIdeal.sig) → Buf (Elt Ideal) ℓ) : Prop :=
  True

def Pre_XkvDw (m : (ℓ : Loc Cert.XkvDw.nD Cert.XkvDw.τ Cert.XkvDw.sig) → Buf (Elt Bits) ℓ) : Prop :=
  True

def Pre_XkvDwIdeal (m : (ℓ : Loc Cert.XkvDwIdeal.nD Cert.XkvDwIdeal.τ Cert.XkvDwIdeal.sig) → Buf (Elt Ideal) ℓ) : Prop :=
  True

def Pre_XkvDwRefIdeal (m : (ℓ : Loc Cert.XkvDwRefIdeal.nD Cert.XkvDwRefIdeal.τ Cert.XkvDwRefIdeal.sig) → Buf (Elt Ideal) ℓ) : Prop :=
  True

def Pre_AbOutDw (m : (ℓ : Loc Cert.AbOutDw.nD Cert.AbOutDw.τ Cert.AbOutDw.sig) → Buf (Elt Bits) ℓ) : Prop :=
  True

def Pre_AbOutDwIdeal (m : (ℓ : Loc Cert.AbOutDwIdeal.nD Cert.AbOutDwIdeal.τ Cert.AbOutDwIdeal.sig) → Buf (Elt Ideal) ℓ) : Prop :=
  True

def Pre_AbOutDwRefIdeal (m : (ℓ : Loc Cert.AbOutDwRefIdeal.nD Cert.AbOutDwRefIdeal.τ Cert.AbOutDwRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutRefIdeal (m : (ℓ : Loc Cert.AbOutRefIdeal.nD Cert.AbOutRefIdeal.τ Cert.AbOutRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_Xkv (m : (ℓ : Loc Cert.Xkv.nD Cert.Xkv.τ Cert.Xkv.sig) → Buf (Elt Bits) ℓ) : Prop :=
  True

def Pre_XkvIdeal (m : (ℓ : Loc Cert.XkvIdeal.nD Cert.XkvIdeal.τ Cert.XkvIdeal.sig) → Buf (Elt Ideal) ℓ) : Prop :=
  True

def Pre_XkvRefIdeal (m : (ℓ : Loc Cert.XkvRefIdeal.nD Cert.XkvRefIdeal.τ Cert.XkvRefIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoRefIdeal (m : (ℓ : Loc Cert.XoRefIdeal.nD Cert.XoRefIdeal.τ Cert.XoRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_XAttnF (m : (ℓ : Loc Cert.XAttnF.nD Cert.XAttnF.τ Cert.XAttnF.sig) → Buf (Elt Bits) ℓ) : Prop :=
  True

def Pre_XAttnFIdeal (m : (ℓ : Loc Cert.XAttnFIdeal.nD Cert.XAttnFIdeal.τ Cert.XAttnFIdeal.sig) → Buf (Elt Ideal) ℓ) : Prop :=
  True

def Pre_XAttnFRefIdeal (m : (ℓ : Loc Cert.XAttnFRefIdeal.nD Cert.XAttnFRefIdeal.τ Cert.XAttnFRefIdeal.sig) → Buf (Elt Ideal) ℓ) : Prop :=
  True

def Pre_AdamAbIn (m : (ℓ : Loc Cert.AdamAbIn.nD Cert.AdamAbIn.τ Cert.AdamAbIn.sig) → Buf (Elt Bits) ℓ) : Prop :=
  True

def Pre_AdamAbInIdeal (m : (ℓ : Loc Cert.AdamAbInIdeal.nD Cert.AdamAbInIdeal.τ Cert.AdamAbInIdeal.sig) → Buf (Elt Ideal) ℓ) : Prop :=
  True

def Pre_AdamAbInRefIdeal (m : (ℓ : Loc Cert.AdamAbInRefIdeal.nD Cert.AdamAbInRefIdeal.τ Cert.AdamAbInRefIdeal.sig) → Buf (Elt Ideal) ℓ) : Prop :=
  True

def Pre_AdamAbOut (m : (ℓ : Loc Cert.AdamAbOut.nD Cert.AdamAbOut.τ Cert.AdamAbOut.sig) → Buf (Elt Bits) ℓ) : Prop :=
  True

def Pre_AdamAbOutIdeal (m : (ℓ : Loc Cert.AdamAbOutIdeal.nD Cert.AdamAbOutIdeal.τ Cert.AdamAbOutIdeal.sig) → Buf (Elt Ideal) ℓ) : Prop :=
  True

def Pre_AdamAbOutRefIdeal (m : (ℓ : Loc Cert.AdamAbOutRefIdeal.nD Cert.AdamAbOutRefIdeal.τ Cert.AdamAbOutRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_AdamXqo (m : (ℓ : Loc Cert.AdamXqo.nD Cert.AdamXqo.τ Cert.AdamXqo.sig) → Buf (Elt Bits) ℓ) : Prop :=
  True

def Pre_AdamXqoIdeal (m : (ℓ : Loc Cert.AdamXqoIdeal.nD Cert.AdamXqoIdeal.τ Cert.AdamXqoIdeal.sig) → Buf (Elt Ideal) ℓ) : Prop :=
  True

def Pre_AdamXqoRefIdeal (m : (ℓ : Loc Cert.AdamXqoRefIdeal.nD Cert.AdamXqoRefIdeal.τ Cert.AdamXqoRefIdeal.sig) → Buf (Elt Ideal) ℓ) : Prop :=
  True

def Pre_AdamXkv (m : (ℓ : Loc Cert.AdamXkv.nD Cert.AdamXkv.τ Cert.AdamXkv.sig) → Buf (Elt Bits) ℓ) : Prop :=
  True

def Pre_AdamXkvIdeal (m : (ℓ : Loc Cert.AdamXkvIdeal.nD Cert.AdamXkvIdeal.τ Cert.AdamXkvIdeal.sig) → Buf (Elt Ideal) ℓ) : Prop :=
  True

def Pre_AdamXkvRefIdeal (m : (ℓ : Loc Cert.AdamXkvRefIdeal.nD Cert.AdamXkvRefIdeal.τ Cert.AdamXkvRefIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_AdamFfnInRefIdeal (m : (ℓ : Loc Cert.AdamFfnInRefIdeal.nD Cert.AdamFfnInRefIdeal.τ Cert.AdamFfnInRefIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_AdamFfnOutRefIdeal (m : (ℓ : Loc Cert.AdamFfnOutRefIdeal.nD Cert.AdamFfnOutRefIdeal.τ Cert.AdamFfnOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_ResNorm (m : (ℓ : Loc Cert.ResNorm.nD Cert.ResNorm.τ Cert.ResNorm.sig) → Buf (Elt Bits) ℓ) : Prop :=
  True

def Pre_ResNormIdeal (m : (ℓ : Loc Cert.ResNormIdeal.nD Cert.ResNormIdeal.τ Cert.ResNormIdeal.sig) → Buf (Elt Ideal) ℓ) : Prop :=
  True

def Pre_ResNormRefIdeal (m : (ℓ : Loc Cert.ResNormRefIdeal.nD Cert.ResNormRefIdeal.τ Cert.ResNormRefIdeal.sig) → Buf (Elt Ideal) ℓ) : Prop :=
  True

def Pre_ResNormC (m : (ℓ : Loc Cert.ResNormC.nD Cert.ResNormC.τ Cert.ResNormC.sig) → Buf (Elt Bits) ℓ) : Prop :=
  True

def Pre_ResNormCIdeal (m : (ℓ : Loc Cert.ResNormCIdeal.nD Cert.ResNormCIdeal.τ Cert.ResNormCIdeal.sig) → Buf (Elt Ideal) ℓ) : Prop :=
  True

def Pre_ResNormCRefIdeal (m : (ℓ : Loc Cert.ResNormCRefIdeal.nD Cert.ResNormCRefIdeal.τ Cert.ResNormCRefIdeal.sig) → Buf (Elt Ideal) ℓ) : Prop :=
  True

def Pre_Gelu (m : (ℓ : Loc Cert.Gelu.nD Cert.Gelu.τ Cert.Gelu.sig) → Buf (Elt Bits) ℓ) : Prop :=
  True

def Pre_GeluIdeal (m : (ℓ : Loc Cert.GeluIdeal.nD Cert.GeluIdeal.τ Cert.GeluIdeal.sig) → Buf (Elt Ideal) ℓ) : Prop :=
  True

def Pre_GeluRefIdeal (m : (ℓ : Loc Cert.GeluRefIdeal.nD Cert.GeluRefIdeal.τ Cert.GeluRefIdeal.sig) → Buf (Elt Ideal) ℓ) : Prop :=
  True

def Pre_GateB (m : (ℓ : Loc Cert.GateB.nD Cert.GateB.τ Cert.GateB.sig) → Buf (Elt Bits) ℓ) : Prop :=
  True

def Pre_GateBIdeal (m : (ℓ : Loc Cert.GateBIdeal.nD Cert.GateBIdeal.τ Cert.GateBIdeal.sig) → Buf (Elt Ideal) ℓ) : Prop :=
  True

def Pre_GateBRefIdeal (m : (ℓ : Loc Cert.GateBRefIdeal.nD Cert.GateBRefIdeal.τ Cert.GateBRefIdeal.sig) → Buf (Elt Ideal) ℓ) : Prop :=
  True

def Pre_SumSlots (m : (ℓ : Loc Cert.SumSlots.nD Cert.SumSlots.τ Cert.SumSlots.sig) → Buf (Elt Bits) ℓ) : Prop :=
  True

def Pre_SumSlotsIdeal (m : (ℓ : Loc Cert.SumSlotsIdeal.nD Cert.SumSlotsIdeal.τ Cert.SumSlotsIdeal.sig) → Buf (Elt Ideal) ℓ) : Prop :=
  True

def Pre_SumSlotsRefIdeal (m : (ℓ : Loc Cert.SumSlotsRefIdeal.nD Cert.SumSlotsRefIdeal.τ Cert.SumSlotsRefIdeal.sig) → Buf (Elt Ideal) ℓ) : Prop :=
  True

def Pre_MemNormB (m : (ℓ : Loc Cert.MemNormB.nD Cert.MemNormB.τ Cert.MemNormB.sig) → Buf (Elt Bits) ℓ) : Prop :=
  True

def Pre_MemNormBIdeal (m : (ℓ : Loc Cert.MemNormBIdeal.nD Cert.MemNormBIdeal.τ Cert.MemNormBIdeal.sig) → Buf (Elt Ideal) ℓ) : Prop :=
  True

def Pre_MemNormBRefIdeal (m : (ℓ : Loc Cert.MemNormBRefIdeal.nD Cert.MemNormBRefIdeal.τ Cert.MemNormBRefIdeal.sig) → Buf (Elt Ideal) ℓ) : Prop :=
  True

def Pre_HgrnF (m : (ℓ : Loc Cert.HgrnF.nD Cert.HgrnF.τ Cert.HgrnF.sig) → Buf (Elt Bits) ℓ) : Prop :=
  True

def Pre_HgrnFIdeal (m : (ℓ : Loc Cert.HgrnFIdeal.nD Cert.HgrnFIdeal.τ Cert.HgrnFIdeal.sig) → Buf (Elt Ideal) ℓ) : Prop :=
  True

def Pre_HgrnFIdeal_finite_gates [hPre_finite_gates : Cert.Pre_finite_gates.Facts] (m : (ℓ : Loc Cert.HgrnFIdeal.nD Cert.HgrnFIdeal.τ Cert.HgrnFIdeal.sig) → Buf (Elt Ideal) ℓ) : Prop :=
  ∀ c : Dev Cert.HgrnFIdeal.nD,
    (Cert.Pre_finite_gates.fn (F := Ideal) (m ((c.tc : Thread Cert.HgrnFIdeal.nD Cert.HgrnFIdeal.τ).loc Cert.HgrnFIdeal.main_arg0)) (m ((c.tc : Thread Cert.HgrnFIdeal.nD Cert.HgrnFIdeal.τ).loc Cert.HgrnFIdeal.main_arg1)) (m ((c.tc : Thread Cert.HgrnFIdeal.nD Cert.HgrnFIdeal.τ).loc Cert.HgrnFIdeal.main_arg2))) = (fun _ => 1#1)

def Pre_HgrnFRefIdeal (m : (ℓ : Loc Cert.HgrnFRefIdeal.nD Cert.HgrnFRefIdeal.τ Cert.HgrnFRefIdeal.sig) → Buf (Elt Ideal) ℓ) : Prop :=
  True

def Pre_HgrnFRefIdeal_finite_gates [hPre_finite_gates : Cert.Pre_finite_gates.Facts] (m : (ℓ : Loc Cert.HgrnFRefIdeal.nD Cert.HgrnFRefIdeal.τ Cert.HgrnFRefIdeal.sig) → Buf (Elt Ideal) ℓ) : Prop :=
  ∀ c : Dev Cert.HgrnFRefIdeal.nD,
    (Cert.Pre_finite_gates.fn (F := Ideal) (m ((c.tc : Thread Cert.HgrnFRefIdeal.nD Cert.HgrnFRefIdeal.τ).loc Cert.HgrnFRefIdeal.main_arg0)) (m ((c.tc : Thread Cert.HgrnFRefIdeal.nD Cert.HgrnFRefIdeal.τ).loc Cert.HgrnFRefIdeal.main_arg1)) (m ((c.tc : Thread Cert.HgrnFRefIdeal.nD Cert.HgrnFRefIdeal.τ).loc Cert.HgrnFRefIdeal.main_arg2))) = (fun _ => 1#1)

def Pre_NormInB (m : (ℓ : Loc Cert.NormInB.nD Cert.NormInB.τ Cert.NormInB.sig) → Buf (Elt Bits) ℓ) : Prop :=
  True

def Pre_NormInBIdeal (m : (ℓ : Loc Cert.NormInBIdeal.nD Cert.NormInBIdeal.τ Cert.NormInBIdeal.sig) → Buf (Elt Ideal) ℓ) : Prop :=
  True

def Pre_NormInBIdeal_finite_rows [hPre_finite_rows : Cert.Pre_finite_rows.Facts] (m : (ℓ : Loc Cert.NormInBIdeal.nD Cert.NormInBIdeal.τ Cert.NormInBIdeal.sig) → Buf (Elt Ideal) ℓ) : Prop :=
  ∀ c : Dev Cert.NormInBIdeal.nD,
    (Cert.Pre_finite_rows.fn (F := Ideal) (m ((c.tc : Thread Cert.NormInBIdeal.nD Cert.NormInBIdeal.τ).loc Cert.NormInBIdeal.main_arg0)) (m ((c.tc : Thread Cert.NormInBIdeal.nD Cert.NormInBIdeal.τ).loc Cert.NormInBIdeal.main_arg1)) (m ((c.tc : Thread Cert.NormInBIdeal.nD Cert.NormInBIdeal.τ).loc Cert.NormInBIdeal.main_arg2)) (m ((c.tc : Thread Cert.NormInBIdeal.nD Cert.NormInBIdeal.τ).loc Cert.NormInBIdeal.main_arg3))) = (fun _ => 1#1)

def Pre_NormInBRefIdeal (m : (ℓ : Loc Cert.NormInBRefIdeal.nD Cert.NormInBRefIdeal.τ Cert.NormInBRefIdeal.sig) → Buf (Elt Ideal) ℓ) : Prop :=
  True

def Pre_NormInBRefIdeal_finite_rows [hPre_finite_rows : Cert.Pre_finite_rows.Facts] (m : (ℓ : Loc Cert.NormInBRefIdeal.nD Cert.NormInBRefIdeal.τ Cert.NormInBRefIdeal.sig) → Buf (Elt Ideal) ℓ) : Prop :=
  ∀ c : Dev Cert.NormInBRefIdeal.nD,
    (Cert.Pre_finite_rows.fn (F := Ideal) (m ((c.tc : Thread Cert.NormInBRefIdeal.nD Cert.NormInBRefIdeal.τ).loc Cert.NormInBRefIdeal.main_arg0)) (m ((c.tc : Thread Cert.NormInBRefIdeal.nD Cert.NormInBRefIdeal.τ).loc Cert.NormInBRefIdeal.main_arg1)) (m ((c.tc : Thread Cert.NormInBRefIdeal.nD Cert.NormInBRefIdeal.τ).loc Cert.NormInBRefIdeal.main_arg2)) (m ((c.tc : Thread Cert.NormInBRefIdeal.nD Cert.NormInBRefIdeal.τ).loc Cert.NormInBRefIdeal.main_arg3))) = (fun _ => 1#1)

def Pre_ResNormB (m : (ℓ : Loc Cert.ResNormB.nD Cert.ResNormB.τ Cert.ResNormB.sig) → Buf (Elt Bits) ℓ) : Prop :=
  True

def Pre_ResNormBIdeal (m : (ℓ : Loc Cert.ResNormBIdeal.nD Cert.ResNormBIdeal.τ Cert.ResNormBIdeal.sig) → Buf (Elt Ideal) ℓ) : Prop :=
  True

def Pre_ResNormBIdeal_finite_stream [hPre_finite_stream : Cert.Pre_finite_stream.Facts] (m : (ℓ : Loc Cert.ResNormBIdeal.nD Cert.ResNormBIdeal.τ Cert.ResNormBIdeal.sig) → Buf (Elt Ideal) ℓ) : Prop :=
  ∀ c : Dev Cert.ResNormBIdeal.nD,
    (Cert.Pre_finite_stream.fn (F := Ideal) (m ((c.tc : Thread Cert.ResNormBIdeal.nD Cert.ResNormBIdeal.τ).loc Cert.ResNormBIdeal.main_arg0)) (m ((c.tc : Thread Cert.ResNormBIdeal.nD Cert.ResNormBIdeal.τ).loc Cert.ResNormBIdeal.main_arg1)) (m ((c.tc : Thread Cert.ResNormBIdeal.nD Cert.ResNormBIdeal.τ).loc Cert.ResNormBIdeal.main_arg2)) (m ((c.tc : Thread Cert.ResNormBIdeal.nD Cert.ResNormBIdeal.τ).loc Cert.ResNormBIdeal.main_arg3)) (m ((c.tc : Thread Cert.ResNormBIdeal.nD Cert.ResNormBIdeal.τ).loc Cert.ResNormBIdeal.main_arg4)) (m ((c.tc : Thread Cert.ResNormBIdeal.nD Cert.ResNormBIdeal.τ).loc Cert.ResNormBIdeal.main_arg5))) = (fun _ => 1#1)

def Pre_ResNormBRefIdeal (m : (ℓ : Loc Cert.ResNormBRefIdeal.nD Cert.ResNormBRefIdeal.τ Cert.ResNormBRefIdeal.sig) → Buf (Elt Ideal) ℓ) : Prop :=
  True

def Pre_ResNormBRefIdeal_finite_stream [hPre_finite_stream : Cert.Pre_finite_stream.Facts] (m : (ℓ : Loc Cert.ResNormBRefIdeal.nD Cert.ResNormBRefIdeal.τ Cert.ResNormBRefIdeal.sig) → Buf (Elt Ideal) ℓ) : Prop :=
  ∀ c : Dev Cert.ResNormBRefIdeal.nD,
    (Cert.Pre_finite_stream.fn (F := Ideal) (m ((c.tc : Thread Cert.ResNormBRefIdeal.nD Cert.ResNormBRefIdeal.τ).loc Cert.ResNormBRefIdeal.main_arg0)) (m ((c.tc : Thread Cert.ResNormBRefIdeal.nD Cert.ResNormBRefIdeal.τ).loc Cert.ResNormBRefIdeal.main_arg1)) (m ((c.tc : Thread Cert.ResNormBRefIdeal.nD Cert.ResNormBRefIdeal.τ).loc Cert.ResNormBRefIdeal.main_arg2)) (m ((c.tc : Thread Cert.ResNormBRefIdeal.nD Cert.ResNormBRefIdeal.τ).loc Cert.ResNormBRefIdeal.main_arg3)) (m ((c.tc : Thread Cert.ResNormBRefIdeal.nD Cert.ResNormBRefIdeal.τ).loc Cert.ResNormBRefIdeal.main_arg4)) (m ((c.tc : Thread Cert.ResNormBRefIdeal.nD Cert.ResNormBRefIdeal.τ).loc Cert.ResNormBRefIdeal.main_arg5))) = (fun _ => 1#1)

def Pre_SwigluB (m : (ℓ : Loc Cert.SwigluB.nD Cert.SwigluB.τ Cert.SwigluB.sig) → Buf (Elt Bits) ℓ) : Prop :=
  True

def Pre_SwigluBIdeal (m : (ℓ : Loc Cert.SwigluBIdeal.nD Cert.SwigluBIdeal.τ Cert.SwigluBIdeal.sig) → Buf (Elt Ideal) ℓ) : Prop :=
  True

def Pre_SwigluBIdeal_finite_gate [hPre_finite_gate : Cert.Pre_finite_gate.Facts] (m : (ℓ : Loc Cert.SwigluBIdeal.nD Cert.SwigluBIdeal.τ Cert.SwigluBIdeal.sig) → Buf (Elt Ideal) ℓ) : Prop :=
  ∀ c : Dev Cert.SwigluBIdeal.nD,
    (Cert.Pre_finite_gate.fn (F := Ideal) (m ((c.tc : Thread Cert.SwigluBIdeal.nD Cert.SwigluBIdeal.τ).loc Cert.SwigluBIdeal.main_arg0)) (m ((c.tc : Thread Cert.SwigluBIdeal.nD Cert.SwigluBIdeal.τ).loc Cert.SwigluBIdeal.main_arg1)) (m ((c.tc : Thread Cert.SwigluBIdeal.nD Cert.SwigluBIdeal.τ).loc Cert.SwigluBIdeal.main_arg2))) = (fun _ => 1#1)

def Pre_SwigluBRefIdeal (m : (ℓ : Loc Cert.SwigluBRefIdeal.nD Cert.SwigluBRefIdeal.τ Cert.SwigluBRefIdeal.sig) → Buf (Elt Ideal) ℓ) : Prop :=
  True

def Pre_SwigluBRefIdeal_finite_gate [hPre_finite_gate : Cert.Pre_finite_gate.Facts] (m : (ℓ : Loc Cert.SwigluBRefIdeal.nD Cert.SwigluBRefIdeal.τ Cert.SwigluBRefIdeal.sig) → Buf (Elt Ideal) ℓ) : Prop :=
  ∀ c : Dev Cert.SwigluBRefIdeal.nD,
    (Cert.Pre_finite_gate.fn (F := Ideal) (m ((c.tc : Thread Cert.SwigluBRefIdeal.nD Cert.SwigluBRefIdeal.τ).loc Cert.SwigluBRefIdeal.main_arg0)) (m ((c.tc : Thread Cert.SwigluBRefIdeal.nD Cert.SwigluBRefIdeal.τ).loc Cert.SwigluBRefIdeal.main_arg1)) (m ((c.tc : Thread Cert.SwigluBRefIdeal.nD Cert.SwigluBRefIdeal.τ).loc Cert.SwigluBRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_AbInDx [hAbInDx : Cert.AbInDx.Facts] : Prop :=
  ∀ (m : (ℓ : Loc Cert.AbInDx.nD Cert.AbInDx.τ Cert.AbInDx.sig) → Buf (Elt Bits) ℓ) (g : Dev Cert.AbInDx.nD → PrngReg), Pre_AbInDx m →
    θ_run (Cert.AbInDx.defs (F := Bits)) (onTc (τ := Cert.AbInDx.τ) (Cert.AbInDx.main (F := Bits))) ⟨m, fun _ => 0, g⟩ (fun r => (∀ c : Dev Cert.AbInDx.nD,
      r.2.mem ((c.tc : Thread Cert.AbInDx.nD Cert.AbInDx.τ).loc Cert.AbInDx.main_arg0) = m ((c.tc : Thread Cert.AbInDx.nD Cert.AbInDx.τ).loc Cert.AbInDx.main_arg0)
      ∧ r.2.mem ((c.tc : Thread Cert.AbInDx.nD Cert.AbInDx.τ).loc Cert.AbInDx.main_arg1) = m ((c.tc : Thread Cert.AbInDx.nD Cert.AbInDx.τ).loc Cert.AbInDx.main_arg1))
      ∧ r.2.sem = fun _ => 0)

def quiescent_AbInDxIdeal [hAbInDxIdeal : Cert.AbInDxIdeal.Facts] : Prop :=
  ∀ (m : (ℓ : Loc Cert.AbInDxIdeal.nD Cert.AbInDxIdeal.τ Cert.AbInDxIdeal.sig) → Buf (Elt Ideal) ℓ) (g : Dev Cert.AbInDxIdeal.nD → PrngReg), Pre_AbInDxIdeal m →
    θ_run (Cert.AbInDxIdeal.defs (F := Ideal)) (onTc (τ := Cert.AbInDxIdeal.τ) (Cert.AbInDxIdeal.main (F := Ideal))) ⟨m, fun _ => 0, g⟩ (fun r => (∀ c : Dev Cert.AbInDxIdeal.nD,
      r.2.mem ((c.tc : Thread Cert.AbInDxIdeal.nD Cert.AbInDxIdeal.τ).loc Cert.AbInDxIdeal.main_arg0) = m ((c.tc : Thread Cert.AbInDxIdeal.nD Cert.AbInDxIdeal.τ).loc Cert.AbInDxIdeal.main_arg0)
      ∧ r.2.mem ((c.tc : Thread Cert.AbInDxIdeal.nD Cert.AbInDxIdeal.τ).loc Cert.AbInDxIdeal.main_arg1) = m ((c.tc : Thread Cert.AbInDxIdeal.nD Cert.AbInDxIdeal.τ).loc Cert.AbInDxIdeal.main_arg1))
      ∧ r.2.sem = fun _ => 0)

def quiescent_AbInDxRefIdeal [hAbInDxRefIdeal : Cert.AbInDxRefIdeal.Facts] : Prop :=
  ∀ (m : (ℓ : Loc Cert.AbInDxRefIdeal.nD Cert.AbInDxRefIdeal.τ Cert.AbInDxRefIdeal.sig) → Buf (Elt Ideal) ℓ) (g : Dev Cert.AbInDxRefIdeal.nD → PrngReg), Pre_AbInDxRefIdeal m →
    θ_run (Cert.AbInDxRefIdeal.defs (F := Ideal)) (onTc (τ := Cert.AbInDxRefIdeal.τ) (Cert.AbInDxRefIdeal.main (F := Ideal))) ⟨m, fun _ => 0, g⟩ (fun r => (∀ c : Dev Cert.AbInDxRefIdeal.nD,
      r.2.mem ((c.tc : Thread Cert.AbInDxRefIdeal.nD Cert.AbInDxRefIdeal.τ).loc Cert.AbInDxRefIdeal.main_arg0) = m ((c.tc : Thread Cert.AbInDxRefIdeal.nD Cert.AbInDxRefIdeal.τ).loc Cert.AbInDxRefIdeal.main_arg0)
      ∧ r.2.mem ((c.tc : Thread Cert.AbInDxRefIdeal.nD Cert.AbInDxRefIdeal.τ).loc Cert.AbInDxRefIdeal.main_arg1) = m ((c.tc : Thread Cert.AbInDxRefIdeal.nD Cert.AbInDxRefIdeal.τ).loc Cert.AbInDxRefIdeal.main_arg1))
      ∧ r.2.sem = fun _ => 0)

def quiescent_AbInDw [hAbInDw : Cert.AbInDw.Facts] : Prop :=
  ∀ (m : (ℓ : Loc Cert.AbInDw.nD Cert.AbInDw.τ Cert.AbInDw.sig) → Buf (Elt Bits) ℓ) (g : Dev Cert.AbInDw.nD → PrngReg), Pre_AbInDw m →
    θ_run (Cert.AbInDw.defs (F := Bits)) (onTc (τ := Cert.AbInDw.τ) (Cert.AbInDw.main (F := Bits))) ⟨m, fun _ => 0, g⟩ (fun r => (∀ c : Dev Cert.AbInDw.nD,
      r.2.mem ((c.tc : Thread Cert.AbInDw.nD Cert.AbInDw.τ).loc Cert.AbInDw.main_arg0) = m ((c.tc : Thread Cert.AbInDw.nD Cert.AbInDw.τ).loc Cert.AbInDw.main_arg0)
      ∧ r.2.mem ((c.tc : Thread Cert.AbInDw.nD Cert.AbInDw.τ).loc Cert.AbInDw.main_arg1) = m ((c.tc : Thread Cert.AbInDw.nD Cert.AbInDw.τ).loc Cert.AbInDw.main_arg1))
      ∧ r.2.sem = fun _ => 0)

def quiescent_AbInDwIdeal [hAbInDwIdeal : Cert.AbInDwIdeal.Facts] : Prop :=
  ∀ (m : (ℓ : Loc Cert.AbInDwIdeal.nD Cert.AbInDwIdeal.τ Cert.AbInDwIdeal.sig) → Buf (Elt Ideal) ℓ) (g : Dev Cert.AbInDwIdeal.nD → PrngReg), Pre_AbInDwIdeal m →
    θ_run (Cert.AbInDwIdeal.defs (F := Ideal)) (onTc (τ := Cert.AbInDwIdeal.τ) (Cert.AbInDwIdeal.main (F := Ideal))) ⟨m, fun _ => 0, g⟩ (fun r => (∀ c : Dev Cert.AbInDwIdeal.nD,
      r.2.mem ((c.tc : Thread Cert.AbInDwIdeal.nD Cert.AbInDwIdeal.τ).loc Cert.AbInDwIdeal.main_arg0) = m ((c.tc : Thread Cert.AbInDwIdeal.nD Cert.AbInDwIdeal.τ).loc Cert.AbInDwIdeal.main_arg0)
      ∧ r.2.mem ((c.tc : Thread Cert.AbInDwIdeal.nD Cert.AbInDwIdeal.τ).loc Cert.AbInDwIdeal.main_arg1) = m ((c.tc : Thread Cert.AbInDwIdeal.nD Cert.AbInDwIdeal.τ).loc Cert.AbInDwIdeal.main_arg1))
      ∧ r.2.sem = fun _ => 0)

def quiescent_AbInDwRefIdeal [hAbInDwRefIdeal : Cert.AbInDwRefIdeal.Facts] : Prop :=
  ∀ (m : (ℓ : Loc Cert.AbInDwRefIdeal.nD Cert.AbInDwRefIdeal.τ Cert.AbInDwRefIdeal.sig) → Buf (Elt Ideal) ℓ) (g : Dev Cert.AbInDwRefIdeal.nD → PrngReg), Pre_AbInDwRefIdeal m →
    θ_run (Cert.AbInDwRefIdeal.defs (F := Ideal)) (onTc (τ := Cert.AbInDwRefIdeal.τ) (Cert.AbInDwRefIdeal.main (F := Ideal))) ⟨m, fun _ => 0, g⟩ (fun r => (∀ c : Dev Cert.AbInDwRefIdeal.nD,
      r.2.mem ((c.tc : Thread Cert.AbInDwRefIdeal.nD Cert.AbInDwRefIdeal.τ).loc Cert.AbInDwRefIdeal.main_arg0) = m ((c.tc : Thread Cert.AbInDwRefIdeal.nD Cert.AbInDwRefIdeal.τ).loc Cert.AbInDwRefIdeal.main_arg0)
      ∧ r.2.mem ((c.tc : Thread Cert.AbInDwRefIdeal.nD Cert.AbInDwRefIdeal.τ).loc Cert.AbInDwRefIdeal.main_arg1) = m ((c.tc : Thread Cert.AbInDwRefIdeal.nD Cert.AbInDwRefIdeal.τ).loc Cert.AbInDwRefIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_XqDx [hXqDx : Cert.XqDx.Facts] : Prop :=
  ∀ (m : (ℓ : Loc Cert.XqDx.nD Cert.XqDx.τ Cert.XqDx.sig) → Buf (Elt Bits) ℓ) (g : Dev Cert.XqDx.nD → PrngReg), Pre_XqDx m →
    θ_run (Cert.XqDx.defs (F := Bits)) (onTc (τ := Cert.XqDx.τ) (Cert.XqDx.main (F := Bits))) ⟨m, fun _ => 0, g⟩ (fun r => (∀ c : Dev Cert.XqDx.nD,
      r.2.mem ((c.tc : Thread Cert.XqDx.nD Cert.XqDx.τ).loc Cert.XqDx.main_arg0) = m ((c.tc : Thread Cert.XqDx.nD Cert.XqDx.τ).loc Cert.XqDx.main_arg0)
      ∧ r.2.mem ((c.tc : Thread Cert.XqDx.nD Cert.XqDx.τ).loc Cert.XqDx.main_arg1) = m ((c.tc : Thread Cert.XqDx.nD Cert.XqDx.τ).loc Cert.XqDx.main_arg1))
      ∧ r.2.sem = fun _ => 0)

def quiescent_XqDxIdeal [hXqDxIdeal : Cert.XqDxIdeal.Facts] : Prop :=
  ∀ (m : (ℓ : Loc Cert.XqDxIdeal.nD Cert.XqDxIdeal.τ Cert.XqDxIdeal.sig) → Buf (Elt Ideal) ℓ) (g : Dev Cert.XqDxIdeal.nD → PrngReg), Pre_XqDxIdeal m →
    θ_run (Cert.XqDxIdeal.defs (F := Ideal)) (onTc (τ := Cert.XqDxIdeal.τ) (Cert.XqDxIdeal.main (F := Ideal))) ⟨m, fun _ => 0, g⟩ (fun r => (∀ c : Dev Cert.XqDxIdeal.nD,
      r.2.mem ((c.tc : Thread Cert.XqDxIdeal.nD Cert.XqDxIdeal.τ).loc Cert.XqDxIdeal.main_arg0) = m ((c.tc : Thread Cert.XqDxIdeal.nD Cert.XqDxIdeal.τ).loc Cert.XqDxIdeal.main_arg0)
      ∧ r.2.mem ((c.tc : Thread Cert.XqDxIdeal.nD Cert.XqDxIdeal.τ).loc Cert.XqDxIdeal.main_arg1) = m ((c.tc : Thread Cert.XqDxIdeal.nD Cert.XqDxIdeal.τ).loc Cert.XqDxIdeal.main_arg1))
      ∧ r.2.sem = fun _ => 0)

def quiescent_XqDxRefIdeal [hXqDxRefIdeal : Cert.XqDxRefIdeal.Facts] : Prop :=
  ∀ (m : (ℓ : Loc Cert.XqDxRefIdeal.nD Cert.XqDxRefIdeal.τ Cert.XqDxRefIdeal.sig) → Buf (Elt Ideal) ℓ) (g : Dev Cert.XqDxRefIdeal.nD → PrngReg), Pre_XqDxRefIdeal m →
    θ_run (Cert.XqDxRefIdeal.defs (F := Ideal)) (onTc (τ := Cert.XqDxRefIdeal.τ) (Cert.XqDxRefIdeal.main (F := Ideal))) ⟨m, fun _ => 0, g⟩ (fun r => (∀ c : Dev Cert.XqDxRefIdeal.nD,
      r.2.mem ((c.tc : Thread Cert.XqDxRefIdeal.nD Cert.XqDxRefIdeal.τ).loc Cert.XqDxRefIdeal.main_arg0) = m ((c.tc : Thread Cert.XqDxRefIdeal.nD Cert.XqDxRefIdeal.τ).loc Cert.XqDxRefIdeal.main_arg0)
      ∧ r.2.mem ((c.tc : Thread Cert.XqDxRefIdeal.nD Cert.XqDxRefIdeal.τ).loc Cert.XqDxRefIdeal.main_arg1) = m ((c.tc : Thread Cert.XqDxRefIdeal.nD Cert.XqDxRefIdeal.τ).loc Cert.XqDxRefIdeal.main_arg1))
      ∧ r.2.sem = fun _ => 0)

def quiescent_XqDw [hXqDw : Cert.XqDw.Facts] : Prop :=
  ∀ (m : (ℓ : Loc Cert.XqDw.nD Cert.XqDw.τ Cert.XqDw.sig) → Buf (Elt Bits) ℓ) (g : Dev Cert.XqDw.nD → PrngReg), Pre_XqDw m →
    θ_run (Cert.XqDw.defs (F := Bits)) (onTc (τ := Cert.XqDw.τ) (Cert.XqDw.main (F := Bits))) ⟨m, fun _ => 0, g⟩ (fun r => (∀ c : Dev Cert.XqDw.nD,
      r.2.mem ((c.tc : Thread Cert.XqDw.nD Cert.XqDw.τ).loc Cert.XqDw.main_arg0) = m ((c.tc : Thread Cert.XqDw.nD Cert.XqDw.τ).loc Cert.XqDw.main_arg0)
      ∧ r.2.mem ((c.tc : Thread Cert.XqDw.nD Cert.XqDw.τ).loc Cert.XqDw.main_arg1) = m ((c.tc : Thread Cert.XqDw.nD Cert.XqDw.τ).loc Cert.XqDw.main_arg1))
      ∧ r.2.sem = fun _ => 0)

def quiescent_XqDwIdeal [hXqDwIdeal : Cert.XqDwIdeal.Facts] : Prop :=
  ∀ (m : (ℓ : Loc Cert.XqDwIdeal.nD Cert.XqDwIdeal.τ Cert.XqDwIdeal.sig) → Buf (Elt Ideal) ℓ) (g : Dev Cert.XqDwIdeal.nD → PrngReg), Pre_XqDwIdeal m →
    θ_run (Cert.XqDwIdeal.defs (F := Ideal)) (onTc (τ := Cert.XqDwIdeal.τ) (Cert.XqDwIdeal.main (F := Ideal))) ⟨m, fun _ => 0, g⟩ (fun r => (∀ c : Dev Cert.XqDwIdeal.nD,
      r.2.mem ((c.tc : Thread Cert.XqDwIdeal.nD Cert.XqDwIdeal.τ).loc Cert.XqDwIdeal.main_arg0) = m ((c.tc : Thread Cert.XqDwIdeal.nD Cert.XqDwIdeal.τ).loc Cert.XqDwIdeal.main_arg0)
      ∧ r.2.mem ((c.tc : Thread Cert.XqDwIdeal.nD Cert.XqDwIdeal.τ).loc Cert.XqDwIdeal.main_arg1) = m ((c.tc : Thread Cert.XqDwIdeal.nD Cert.XqDwIdeal.τ).loc Cert.XqDwIdeal.main_arg1))
      ∧ r.2.sem = fun _ => 0)

def quiescent_XqDwRefIdeal [hXqDwRefIdeal : Cert.XqDwRefIdeal.Facts] : Prop :=
  ∀ (m : (ℓ : Loc Cert.XqDwRefIdeal.nD Cert.XqDwRefIdeal.τ Cert.XqDwRefIdeal.sig) → Buf (Elt Ideal) ℓ) (g : Dev Cert.XqDwRefIdeal.nD → PrngReg), Pre_XqDwRefIdeal m →
    θ_run (Cert.XqDwRefIdeal.defs (F := Ideal)) (onTc (τ := Cert.XqDwRefIdeal.τ) (Cert.XqDwRefIdeal.main (F := Ideal))) ⟨m, fun _ => 0, g⟩ (fun r => (∀ c : Dev Cert.XqDwRefIdeal.nD,
      r.2.mem ((c.tc : Thread Cert.XqDwRefIdeal.nD Cert.XqDwRefIdeal.τ).loc Cert.XqDwRefIdeal.main_arg0) = m ((c.tc : Thread Cert.XqDwRefIdeal.nD Cert.XqDwRefIdeal.τ).loc Cert.XqDwRefIdeal.main_arg0)
      ∧ r.2.mem ((c.tc : Thread Cert.XqDwRefIdeal.nD Cert.XqDwRefIdeal.τ).loc Cert.XqDwRefIdeal.main_arg1) = m ((c.tc : Thread Cert.XqDwRefIdeal.nD Cert.XqDwRefIdeal.τ).loc Cert.XqDwRefIdeal.main_arg1))
      ∧ r.2.sem = fun _ => 0)

def quiescent_XoDx [hXoDx : Cert.XoDx.Facts] : Prop :=
  ∀ (m : (ℓ : Loc Cert.XoDx.nD Cert.XoDx.τ Cert.XoDx.sig) → Buf (Elt Bits) ℓ) (g : Dev Cert.XoDx.nD → PrngReg), Pre_XoDx m →
    θ_run (Cert.XoDx.defs (F := Bits)) (onTc (τ := Cert.XoDx.τ) (Cert.XoDx.main (F := Bits))) ⟨m, fun _ => 0, g⟩ (fun r => (∀ c : Dev Cert.XoDx.nD,
      r.2.mem ((c.tc : Thread Cert.XoDx.nD Cert.XoDx.τ).loc Cert.XoDx.main_arg0) = m ((c.tc : Thread Cert.XoDx.nD Cert.XoDx.τ).loc Cert.XoDx.main_arg0)
      ∧ r.2.mem ((c.tc : Thread Cert.XoDx.nD Cert.XoDx.τ).loc Cert.XoDx.main_arg1) = m ((c.tc : Thread Cert.XoDx.nD Cert.XoDx.τ).loc Cert.XoDx.main_arg1))
      ∧ r.2.sem = fun _ => 0)

def quiescent_XoDxIdeal [hXoDxIdeal : Cert.XoDxIdeal.Facts] : Prop :=
  ∀ (m : (ℓ : Loc Cert.XoDxIdeal.nD Cert.XoDxIdeal.τ Cert.XoDxIdeal.sig) → Buf (Elt Ideal) ℓ) (g : Dev Cert.XoDxIdeal.nD → PrngReg), Pre_XoDxIdeal m →
    θ_run (Cert.XoDxIdeal.defs (F := Ideal)) (onTc (τ := Cert.XoDxIdeal.τ) (Cert.XoDxIdeal.main (F := Ideal))) ⟨m, fun _ => 0, g⟩ (fun r => (∀ c : Dev Cert.XoDxIdeal.nD,
      r.2.mem ((c.tc : Thread Cert.XoDxIdeal.nD Cert.XoDxIdeal.τ).loc Cert.XoDxIdeal.main_arg0) = m ((c.tc : Thread Cert.XoDxIdeal.nD Cert.XoDxIdeal.τ).loc Cert.XoDxIdeal.main_arg0)
      ∧ r.2.mem ((c.tc : Thread Cert.XoDxIdeal.nD Cert.XoDxIdeal.τ).loc Cert.XoDxIdeal.main_arg1) = m ((c.tc : Thread Cert.XoDxIdeal.nD Cert.XoDxIdeal.τ).loc Cert.XoDxIdeal.main_arg1))
      ∧ r.2.sem = fun _ => 0)

def quiescent_XoDxRefIdeal [hXoDxRefIdeal : Cert.XoDxRefIdeal.Facts] : Prop :=
  ∀ (m : (ℓ : Loc Cert.XoDxRefIdeal.nD Cert.XoDxRefIdeal.τ Cert.XoDxRefIdeal.sig) → Buf (Elt Ideal) ℓ) (g : Dev Cert.XoDxRefIdeal.nD → PrngReg), Pre_XoDxRefIdeal m →
    θ_run (Cert.XoDxRefIdeal.defs (F := Ideal)) (onTc (τ := Cert.XoDxRefIdeal.τ) (Cert.XoDxRefIdeal.main (F := Ideal))) ⟨m, fun _ => 0, g⟩ (fun r => (∀ c : Dev Cert.XoDxRefIdeal.nD,
      r.2.mem ((c.tc : Thread Cert.XoDxRefIdeal.nD Cert.XoDxRefIdeal.τ).loc Cert.XoDxRefIdeal.main_arg0) = m ((c.tc : Thread Cert.XoDxRefIdeal.nD Cert.XoDxRefIdeal.τ).loc Cert.XoDxRefIdeal.main_arg0)
      ∧ r.2.mem ((c.tc : Thread Cert.XoDxRefIdeal.nD Cert.XoDxRefIdeal.τ).loc Cert.XoDxRefIdeal.main_arg1) = m ((c.tc : Thread Cert.XoDxRefIdeal.nD Cert.XoDxRefIdeal.τ).loc Cert.XoDxRefIdeal.main_arg1))
      ∧ r.2.sem = fun _ => 0)

def quiescent_XkvDx [hXkvDx : Cert.XkvDx.Facts] : Prop :=
  ∀ (m : (ℓ : Loc Cert.XkvDx.nD Cert.XkvDx.τ Cert.XkvDx.sig) → Buf (Elt Bits) ℓ) (g : Dev Cert.XkvDx.nD → PrngReg), Pre_XkvDx m →
    θ_run (Cert.XkvDx.defs (F := Bits)) (onTc (τ := Cert.XkvDx.τ) (Cert.XkvDx.main (F := Bits))) ⟨m, fun _ => 0, g⟩ (fun r => (∀ c : Dev Cert.XkvDx.nD,
      r.2.mem ((c.tc : Thread Cert.XkvDx.nD Cert.XkvDx.τ).loc Cert.XkvDx.main_arg0) = m ((c.tc : Thread Cert.XkvDx.nD Cert.XkvDx.τ).loc Cert.XkvDx.main_arg0)
      ∧ r.2.mem ((c.tc : Thread Cert.XkvDx.nD Cert.XkvDx.τ).loc Cert.XkvDx.main_arg1) = m ((c.tc : Thread Cert.XkvDx.nD Cert.XkvDx.τ).loc Cert.XkvDx.main_arg1))
      ∧ r.2.sem = fun _ => 0)

def quiescent_XkvDxIdeal [hXkvDxIdeal : Cert.XkvDxIdeal.Facts] : Prop :=
  ∀ (m : (ℓ : Loc Cert.XkvDxIdeal.nD Cert.XkvDxIdeal.τ Cert.XkvDxIdeal.sig) → Buf (Elt Ideal) ℓ) (g : Dev Cert.XkvDxIdeal.nD → PrngReg), Pre_XkvDxIdeal m →
    θ_run (Cert.XkvDxIdeal.defs (F := Ideal)) (onTc (τ := Cert.XkvDxIdeal.τ) (Cert.XkvDxIdeal.main (F := Ideal))) ⟨m, fun _ => 0, g⟩ (fun r => (∀ c : Dev Cert.XkvDxIdeal.nD,
      r.2.mem ((c.tc : Thread Cert.XkvDxIdeal.nD Cert.XkvDxIdeal.τ).loc Cert.XkvDxIdeal.main_arg0) = m ((c.tc : Thread Cert.XkvDxIdeal.nD Cert.XkvDxIdeal.τ).loc Cert.XkvDxIdeal.main_arg0)
      ∧ r.2.mem ((c.tc : Thread Cert.XkvDxIdeal.nD Cert.XkvDxIdeal.τ).loc Cert.XkvDxIdeal.main_arg1) = m ((c.tc : Thread Cert.XkvDxIdeal.nD Cert.XkvDxIdeal.τ).loc Cert.XkvDxIdeal.main_arg1))
      ∧ r.2.sem = fun _ => 0)

def quiescent_XkvDxRefIdeal [hXkvDxRefIdeal : Cert.XkvDxRefIdeal.Facts] : Prop :=
  ∀ (m : (ℓ : Loc Cert.XkvDxRefIdeal.nD Cert.XkvDxRefIdeal.τ Cert.XkvDxRefIdeal.sig) → Buf (Elt Ideal) ℓ) (g : Dev Cert.XkvDxRefIdeal.nD → PrngReg), Pre_XkvDxRefIdeal m →
    θ_run (Cert.XkvDxRefIdeal.defs (F := Ideal)) (onTc (τ := Cert.XkvDxRefIdeal.τ) (Cert.XkvDxRefIdeal.main (F := Ideal))) ⟨m, fun _ => 0, g⟩ (fun r => (∀ c : Dev Cert.XkvDxRefIdeal.nD,
      r.2.mem ((c.tc : Thread Cert.XkvDxRefIdeal.nD Cert.XkvDxRefIdeal.τ).loc Cert.XkvDxRefIdeal.main_arg0) = m ((c.tc : Thread Cert.XkvDxRefIdeal.nD Cert.XkvDxRefIdeal.τ).loc Cert.XkvDxRefIdeal.main_arg0)
      ∧ r.2.mem ((c.tc : Thread Cert.XkvDxRefIdeal.nD Cert.XkvDxRefIdeal.τ).loc Cert.XkvDxRefIdeal.main_arg1) = m ((c.tc : Thread Cert.XkvDxRefIdeal.nD Cert.XkvDxRefIdeal.τ).loc Cert.XkvDxRefIdeal.main_arg1))
      ∧ r.2.sem = fun _ => 0)

def quiescent_XkvDw [hXkvDw : Cert.XkvDw.Facts] : Prop :=
  ∀ (m : (ℓ : Loc Cert.XkvDw.nD Cert.XkvDw.τ Cert.XkvDw.sig) → Buf (Elt Bits) ℓ) (g : Dev Cert.XkvDw.nD → PrngReg), Pre_XkvDw m →
    θ_run (Cert.XkvDw.defs (F := Bits)) (onTc (τ := Cert.XkvDw.τ) (Cert.XkvDw.main (F := Bits))) ⟨m, fun _ => 0, g⟩ (fun r => (∀ c : Dev Cert.XkvDw.nD,
      r.2.mem ((c.tc : Thread Cert.XkvDw.nD Cert.XkvDw.τ).loc Cert.XkvDw.main_arg0) = m ((c.tc : Thread Cert.XkvDw.nD Cert.XkvDw.τ).loc Cert.XkvDw.main_arg0)
      ∧ r.2.mem ((c.tc : Thread Cert.XkvDw.nD Cert.XkvDw.τ).loc Cert.XkvDw.main_arg1) = m ((c.tc : Thread Cert.XkvDw.nD Cert.XkvDw.τ).loc Cert.XkvDw.main_arg1))
      ∧ r.2.sem = fun _ => 0)

def quiescent_XkvDwIdeal [hXkvDwIdeal : Cert.XkvDwIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg), Pre_XkvDwIdeal m →
    θ_run (Cert.XkvDwIdeal.defs (F := Ideal)) (onTc (τ := Cert.XkvDwIdeal.τ) (Cert.XkvDwIdeal.main (F := Ideal))) ⟨m, fun _ => 0, g⟩ (fun r => (∀ c : Dev Cert.XkvDwIdeal.nD,
      r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
      ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ r.2.sem = fun _ => 0)

def quiescent_XkvDwRefIdeal [hXkvDwRefIdeal : Cert.XkvDwRefIdeal.Facts] : Prop :=
  ∀ (m : (ℓ : Loc Cert.XkvDwRefIdeal.nD Cert.XkvDwRefIdeal.τ Cert.XkvDwRefIdeal.sig) → Buf (Elt Ideal) ℓ) (g : Dev Cert.XkvDwRefIdeal.nD → PrngReg), Pre_XkvDwRefIdeal m →
    θ_run (Cert.XkvDwRefIdeal.defs (F := Ideal)) (onTc (τ := Cert.XkvDwRefIdeal.τ) (Cert.XkvDwRefIdeal.main (F := Ideal))) ⟨m, fun _ => 0, g⟩ (fun r => (∀ c : Dev Cert.XkvDwRefIdeal.nD,
      r.2.mem ((c.tc : Thread Cert.XkvDwRefIdeal.nD Cert.XkvDwRefIdeal.τ).loc Cert.XkvDwRefIdeal.main_arg0) = m ((c.tc : Thread Cert.XkvDwRefIdeal.nD Cert.XkvDwRefIdeal.τ).loc Cert.XkvDwRefIdeal.main_arg0)
      ∧ r.2.mem ((c.tc : Thread Cert.XkvDwRefIdeal.nD Cert.XkvDwRefIdeal.τ).loc Cert.XkvDwRefIdeal.main_arg1) = m ((c.tc : Thread Cert.XkvDwRefIdeal.nD Cert.XkvDwRefIdeal.τ).loc Cert.XkvDwRefIdeal.main_arg1))
      ∧ r.2.sem = fun _ => 0)

def quiescent_AbOutDw [hAbOutDw : Cert.AbOutDw.Facts] : Prop :=
  ∀ (m : (ℓ : Loc Cert.AbOutDw.nD Cert.AbOutDw.τ Cert.AbOutDw.sig) → Buf (Elt Bits) ℓ) (g : Dev Cert.AbOutDw.nD → PrngReg), Pre_AbOutDw m →
    θ_run (Cert.AbOutDw.defs (F := Bits)) (onTc (τ := Cert.AbOutDw.τ) (Cert.AbOutDw.main (F := Bits))) ⟨m, fun _ => 0, g⟩ (fun r => (∀ c : Dev Cert.AbOutDw.nD,
      r.2.mem ((c.tc : Thread Cert.AbOutDw.nD Cert.AbOutDw.τ).loc Cert.AbOutDw.main_arg0) = m ((c.tc : Thread Cert.AbOutDw.nD Cert.AbOutDw.τ).loc Cert.AbOutDw.main_arg0)
      ∧ r.2.mem ((c.tc : Thread Cert.AbOutDw.nD Cert.AbOutDw.τ).loc Cert.AbOutDw.main_arg1) = m ((c.tc : Thread Cert.AbOutDw.nD Cert.AbOutDw.τ).loc Cert.AbOutDw.main_arg1))
      ∧ r.2.sem = fun _ => 0)

def quiescent_AbOutDwIdeal [hAbOutDwIdeal : Cert.AbOutDwIdeal.Facts] : Prop :=
  ∀ (m : (ℓ : Loc Cert.AbOutDwIdeal.nD Cert.AbOutDwIdeal.τ Cert.AbOutDwIdeal.sig) → Buf (Elt Ideal) ℓ) (g : Dev Cert.AbOutDwIdeal.nD → PrngReg), Pre_AbOutDwIdeal m →
    θ_run (Cert.AbOutDwIdeal.defs (F := Ideal)) (onTc (τ := Cert.AbOutDwIdeal.τ) (Cert.AbOutDwIdeal.main (F := Ideal))) ⟨m, fun _ => 0, g⟩ (fun r => (∀ c : Dev Cert.AbOutDwIdeal.nD,
      r.2.mem ((c.tc : Thread Cert.AbOutDwIdeal.nD Cert.AbOutDwIdeal.τ).loc Cert.AbOutDwIdeal.main_arg0) = m ((c.tc : Thread Cert.AbOutDwIdeal.nD Cert.AbOutDwIdeal.τ).loc Cert.AbOutDwIdeal.main_arg0)
      ∧ r.2.mem ((c.tc : Thread Cert.AbOutDwIdeal.nD Cert.AbOutDwIdeal.τ).loc Cert.AbOutDwIdeal.main_arg1) = m ((c.tc : Thread Cert.AbOutDwIdeal.nD Cert.AbOutDwIdeal.τ).loc Cert.AbOutDwIdeal.main_arg1))
      ∧ r.2.sem = fun _ => 0)

def quiescent_AbOutDwRefIdeal [hAbOutDwRefIdeal : Cert.AbOutDwRefIdeal.Facts] : Prop :=
  ∀ (m : (ℓ : Loc Cert.AbOutDwRefIdeal.nD Cert.AbOutDwRefIdeal.τ Cert.AbOutDwRefIdeal.sig) → Buf (Elt Ideal) ℓ) (g : Dev Cert.AbOutDwRefIdeal.nD → PrngReg), Pre_AbOutDwRefIdeal m →
    θ_run (Cert.AbOutDwRefIdeal.defs (F := Ideal)) (onTc (τ := Cert.AbOutDwRefIdeal.τ) (Cert.AbOutDwRefIdeal.main (F := Ideal))) ⟨m, fun _ => 0, g⟩ (fun r => (∀ c : Dev Cert.AbOutDwRefIdeal.nD,
      r.2.mem ((c.tc : Thread Cert.AbOutDwRefIdeal.nD Cert.AbOutDwRefIdeal.τ).loc Cert.AbOutDwRefIdeal.main_arg0) = m ((c.tc : Thread Cert.AbOutDwRefIdeal.nD Cert.AbOutDwRefIdeal.τ).loc Cert.AbOutDwRefIdeal.main_arg0)
      ∧ r.2.mem ((c.tc : Thread Cert.AbOutDwRefIdeal.nD Cert.AbOutDwRefIdeal.τ).loc Cert.AbOutDwRefIdeal.main_arg1) = m ((c.tc : Thread Cert.AbOutDwRefIdeal.nD Cert.AbOutDwRefIdeal.τ).loc Cert.AbOutDwRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1))
      ∧ r.2.sem = fun _ => 0)

def quiescent_Xkv [hXkv : Cert.Xkv.Facts] : Prop :=
  ∀ (m : (ℓ : Loc Cert.Xkv.nD Cert.Xkv.τ Cert.Xkv.sig) → Buf (Elt Bits) ℓ) (g : Dev Cert.Xkv.nD → PrngReg), Pre_Xkv m →
    θ_run (Cert.Xkv.defs (F := Bits)) (onTc (τ := Cert.Xkv.τ) (Cert.Xkv.main (F := Bits))) ⟨m, fun _ => 0, g⟩ (fun r => (∀ c : Dev Cert.Xkv.nD,
      r.2.mem ((c.tc : Thread Cert.Xkv.nD Cert.Xkv.τ).loc Cert.Xkv.main_arg0) = m ((c.tc : Thread Cert.Xkv.nD Cert.Xkv.τ).loc Cert.Xkv.main_arg0)
      ∧ r.2.mem ((c.tc : Thread Cert.Xkv.nD Cert.Xkv.τ).loc Cert.Xkv.main_arg1) = m ((c.tc : Thread Cert.Xkv.nD Cert.Xkv.τ).loc Cert.Xkv.main_arg1))
      ∧ r.2.sem = fun _ => 0)

def quiescent_XkvIdeal [hXkvIdeal : Cert.XkvIdeal.Facts] : Prop :=
  ∀ (m : (ℓ : Loc Cert.XkvIdeal.nD Cert.XkvIdeal.τ Cert.XkvIdeal.sig) → Buf (Elt Ideal) ℓ) (g : Dev Cert.XkvIdeal.nD → PrngReg), Pre_XkvIdeal m →
    θ_run (Cert.XkvIdeal.defs (F := Ideal)) (onTc (τ := Cert.XkvIdeal.τ) (Cert.XkvIdeal.main (F := Ideal))) ⟨m, fun _ => 0, g⟩ (fun r => (∀ c : Dev Cert.XkvIdeal.nD,
      r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
      ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ r.2.sem = fun _ => 0)

def quiescent_XkvRefIdeal [hXkvRefIdeal : Cert.XkvRefIdeal.Facts] : Prop :=
  ∀ (m : (ℓ : Loc Cert.XkvRefIdeal.nD Cert.XkvRefIdeal.τ Cert.XkvRefIdeal.sig) → Buf (Elt Ideal) ℓ) (g : Dev Cert.XkvRefIdeal.nD → PrngReg), Pre_XkvRefIdeal m →
    θ_run (Cert.XkvRefIdeal.defs (F := Ideal)) (onTc (τ := Cert.XkvRefIdeal.τ) (Cert.XkvRefIdeal.main (F := Ideal))) ⟨m, fun _ => 0, g⟩ (fun r => (∀ c : Dev Cert.XkvRefIdeal.nD,
      r.2.mem ((c.tc : Thread Cert.XkvRefIdeal.nD Cert.XkvRefIdeal.τ).loc Cert.XkvRefIdeal.main_arg0) = m ((c.tc : Thread Cert.XkvRefIdeal.nD Cert.XkvRefIdeal.τ).loc Cert.XkvRefIdeal.main_arg0)
      ∧ r.2.mem ((c.tc : Thread Cert.XkvRefIdeal.nD Cert.XkvRefIdeal.τ).loc Cert.XkvRefIdeal.main_arg1) = m ((c.tc : Thread Cert.XkvRefIdeal.nD Cert.XkvRefIdeal.τ).loc Cert.XkvRefIdeal.main_arg1))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1))
      ∧ r.2.sem = fun _ => 0)

def quiescent_XoRefIdeal [hXoRefIdeal : Cert.XoRefIdeal.Facts] : Prop :=
  ∀ (m : (ℓ : Loc Cert.XoRefIdeal.nD Cert.XoRefIdeal.τ Cert.XoRefIdeal.sig) → Buf (Elt Ideal) ℓ) (g : Dev Cert.XoRefIdeal.nD → PrngReg), Pre_XoRefIdeal m →
    θ_run (Cert.XoRefIdeal.defs (F := Ideal)) (onTc (τ := Cert.XoRefIdeal.τ) (Cert.XoRefIdeal.main (F := Ideal))) ⟨m, fun _ => 0, g⟩ (fun r => (∀ c : Dev Cert.XoRefIdeal.nD,
      r.2.mem ((c.tc : Thread Cert.XoRefIdeal.nD Cert.XoRefIdeal.τ).loc Cert.XoRefIdeal.main_arg0) = m ((c.tc : Thread Cert.XoRefIdeal.nD Cert.XoRefIdeal.τ).loc Cert.XoRefIdeal.main_arg0)
      ∧ r.2.mem ((c.tc : Thread Cert.XoRefIdeal.nD Cert.XoRefIdeal.τ).loc Cert.XoRefIdeal.main_arg1) = m ((c.tc : Thread Cert.XoRefIdeal.nD Cert.XoRefIdeal.τ).loc Cert.XoRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_XAttnF [hXAttnF : Cert.XAttnF.Facts] : Prop :=
  ∀ (m : (ℓ : Loc Cert.XAttnF.nD Cert.XAttnF.τ Cert.XAttnF.sig) → Buf (Elt Bits) ℓ) (g : Dev Cert.XAttnF.nD → PrngReg), Pre_XAttnF m →
    θ_run (Cert.XAttnF.defs (F := Bits)) (onTc (τ := Cert.XAttnF.τ) (Cert.XAttnF.main (F := Bits))) ⟨m, fun _ => 0, g⟩ (fun r => (∀ c : Dev Cert.XAttnF.nD,
      r.2.mem ((c.tc : Thread Cert.XAttnF.nD Cert.XAttnF.τ).loc Cert.XAttnF.main_arg0) = m ((c.tc : Thread Cert.XAttnF.nD Cert.XAttnF.τ).loc Cert.XAttnF.main_arg0)
      ∧ r.2.mem ((c.tc : Thread Cert.XAttnF.nD Cert.XAttnF.τ).loc Cert.XAttnF.main_arg1) = m ((c.tc : Thread Cert.XAttnF.nD Cert.XAttnF.τ).loc Cert.XAttnF.main_arg1))
      ∧ r.2.sem = fun _ => 0)

def quiescent_XAttnFIdeal [hXAttnFIdeal : Cert.XAttnFIdeal.Facts] : Prop :=
  ∀ (m : (ℓ : Loc Cert.XAttnFIdeal.nD Cert.XAttnFIdeal.τ Cert.XAttnFIdeal.sig) → Buf (Elt Ideal) ℓ) (g : Dev Cert.XAttnFIdeal.nD → PrngReg), Pre_XAttnFIdeal m →
    θ_run (Cert.XAttnFIdeal.defs (F := Ideal)) (onTc (τ := Cert.XAttnFIdeal.τ) (Cert.XAttnFIdeal.main (F := Ideal))) ⟨m, fun _ => 0, g⟩ (fun r => (∀ c : Dev Cert.XAttnFIdeal.nD,
      r.2.mem ((c.tc : Thread Cert.XAttnFIdeal.nD Cert.XAttnFIdeal.τ).loc Cert.XAttnFIdeal.main_arg0) = m ((c.tc : Thread Cert.XAttnFIdeal.nD Cert.XAttnFIdeal.τ).loc Cert.XAttnFIdeal.main_arg0)
      ∧ r.2.mem ((c.tc : Thread Cert.XAttnFIdeal.nD Cert.XAttnFIdeal.τ).loc Cert.XAttnFIdeal.main_arg1) = m ((c.tc : Thread Cert.XAttnFIdeal.nD Cert.XAttnFIdeal.τ).loc Cert.XAttnFIdeal.main_arg1))
      ∧ r.2.sem = fun _ => 0)

def quiescent_XAttnFRefIdeal [hXAttnFRefIdeal : Cert.XAttnFRefIdeal.Facts] : Prop :=
  ∀ (m : (ℓ : Loc Cert.XAttnFRefIdeal.nD Cert.XAttnFRefIdeal.τ Cert.XAttnFRefIdeal.sig) → Buf (Elt Ideal) ℓ) (g : Dev Cert.XAttnFRefIdeal.nD → PrngReg), Pre_XAttnFRefIdeal m →
    θ_run (Cert.XAttnFRefIdeal.defs (F := Ideal)) (onTc (τ := Cert.XAttnFRefIdeal.τ) (Cert.XAttnFRefIdeal.main (F := Ideal))) ⟨m, fun _ => 0, g⟩ (fun r => (∀ c : Dev Cert.XAttnFRefIdeal.nD,
      r.2.mem ((c.tc : Thread Cert.XAttnFRefIdeal.nD Cert.XAttnFRefIdeal.τ).loc Cert.XAttnFRefIdeal.main_arg0) = m ((c.tc : Thread Cert.XAttnFRefIdeal.nD Cert.XAttnFRefIdeal.τ).loc Cert.XAttnFRefIdeal.main_arg0)
      ∧ r.2.mem ((c.tc : Thread Cert.XAttnFRefIdeal.nD Cert.XAttnFRefIdeal.τ).loc Cert.XAttnFRefIdeal.main_arg1) = m ((c.tc : Thread Cert.XAttnFRefIdeal.nD Cert.XAttnFRefIdeal.τ).loc Cert.XAttnFRefIdeal.main_arg1))
      ∧ r.2.sem = fun _ => 0)

def quiescent_AdamAbIn [hAdamAbIn : Cert.AdamAbIn.Facts] : Prop :=
  ∀ (m : (ℓ : Loc Cert.AdamAbIn.nD Cert.AdamAbIn.τ Cert.AdamAbIn.sig) → Buf (Elt Bits) ℓ) (g : Dev Cert.AdamAbIn.nD → PrngReg), Pre_AdamAbIn m →
    θ_run (Cert.AdamAbIn.defs (F := Bits)) (onTc (τ := Cert.AdamAbIn.τ) (Cert.AdamAbIn.main (F := Bits))) ⟨m, fun _ => 0, g⟩ (fun r => (∀ c : Dev Cert.AdamAbIn.nD,
      r.2.mem ((c.tc : Thread Cert.AdamAbIn.nD Cert.AdamAbIn.τ).loc Cert.AdamAbIn.main_arg0) = m ((c.tc : Thread Cert.AdamAbIn.nD Cert.AdamAbIn.τ).loc Cert.AdamAbIn.main_arg0)
      ∧ r.2.mem ((c.tc : Thread Cert.AdamAbIn.nD Cert.AdamAbIn.τ).loc Cert.AdamAbIn.main_arg1) = m ((c.tc : Thread Cert.AdamAbIn.nD Cert.AdamAbIn.τ).loc Cert.AdamAbIn.main_arg1)
      ∧ r.2.mem ((c.tc : Thread Cert.AdamAbIn.nD Cert.AdamAbIn.τ).loc Cert.AdamAbIn.main_arg2) = m ((c.tc : Thread Cert.AdamAbIn.nD Cert.AdamAbIn.τ).loc Cert.AdamAbIn.main_arg2)
      ∧ r.2.mem ((c.tc : Thread Cert.AdamAbIn.nD Cert.AdamAbIn.τ).loc Cert.AdamAbIn.main_arg3) = m ((c.tc : Thread Cert.AdamAbIn.nD Cert.AdamAbIn.τ).loc Cert.AdamAbIn.main_arg3))
      ∧ r.2.sem = fun _ => 0)

def quiescent_AdamAbInIdeal [hAdamAbInIdeal : Cert.AdamAbInIdeal.Facts] : Prop :=
  ∀ (m : (ℓ : Loc Cert.AdamAbInIdeal.nD Cert.AdamAbInIdeal.τ Cert.AdamAbInIdeal.sig) → Buf (Elt Ideal) ℓ) (g : Dev Cert.AdamAbInIdeal.nD → PrngReg), Pre_AdamAbInIdeal m →
    θ_run (Cert.AdamAbInIdeal.defs (F := Ideal)) (onTc (τ := Cert.AdamAbInIdeal.τ) (Cert.AdamAbInIdeal.main (F := Ideal))) ⟨m, fun _ => 0, g⟩ (fun r => (∀ c : Dev Cert.AdamAbInIdeal.nD,
      r.2.mem ((c.tc : Thread Cert.AdamAbInIdeal.nD Cert.AdamAbInIdeal.τ).loc Cert.AdamAbInIdeal.main_arg0) = m ((c.tc : Thread Cert.AdamAbInIdeal.nD Cert.AdamAbInIdeal.τ).loc Cert.AdamAbInIdeal.main_arg0)
      ∧ r.2.mem ((c.tc : Thread Cert.AdamAbInIdeal.nD Cert.AdamAbInIdeal.τ).loc Cert.AdamAbInIdeal.main_arg1) = m ((c.tc : Thread Cert.AdamAbInIdeal.nD Cert.AdamAbInIdeal.τ).loc Cert.AdamAbInIdeal.main_arg1)
      ∧ r.2.mem ((c.tc : Thread Cert.AdamAbInIdeal.nD Cert.AdamAbInIdeal.τ).loc Cert.AdamAbInIdeal.main_arg2) = m ((c.tc : Thread Cert.AdamAbInIdeal.nD Cert.AdamAbInIdeal.τ).loc Cert.AdamAbInIdeal.main_arg2)
      ∧ r.2.mem ((c.tc : Thread Cert.AdamAbInIdeal.nD Cert.AdamAbInIdeal.τ).loc Cert.AdamAbInIdeal.main_arg3) = m ((c.tc : Thread Cert.AdamAbInIdeal.nD Cert.AdamAbInIdeal.τ).loc Cert.AdamAbInIdeal.main_arg3))
      ∧ r.2.sem = fun _ => 0)

def quiescent_AdamAbInRefIdeal [hAdamAbInRefIdeal : Cert.AdamAbInRefIdeal.Facts] : Prop :=
  ∀ (m : (ℓ : Loc Cert.AdamAbInRefIdeal.nD Cert.AdamAbInRefIdeal.τ Cert.AdamAbInRefIdeal.sig) → Buf (Elt Ideal) ℓ) (g : Dev Cert.AdamAbInRefIdeal.nD → PrngReg), Pre_AdamAbInRefIdeal m →
    θ_run (Cert.AdamAbInRefIdeal.defs (F := Ideal)) (onTc (τ := Cert.AdamAbInRefIdeal.τ) (Cert.AdamAbInRefIdeal.main (F := Ideal))) ⟨m, fun _ => 0, g⟩ (fun r => (∀ c : Dev Cert.AdamAbInRefIdeal.nD,
      r.2.mem ((c.tc : Thread Cert.AdamAbInRefIdeal.nD Cert.AdamAbInRefIdeal.τ).loc Cert.AdamAbInRefIdeal.main_arg0) = m ((c.tc : Thread Cert.AdamAbInRefIdeal.nD Cert.AdamAbInRefIdeal.τ).loc Cert.AdamAbInRefIdeal.main_arg0)
      ∧ r.2.mem ((c.tc : Thread Cert.AdamAbInRefIdeal.nD Cert.AdamAbInRefIdeal.τ).loc Cert.AdamAbInRefIdeal.main_arg1) = m ((c.tc : Thread Cert.AdamAbInRefIdeal.nD Cert.AdamAbInRefIdeal.τ).loc Cert.AdamAbInRefIdeal.main_arg1)
      ∧ r.2.mem ((c.tc : Thread Cert.AdamAbInRefIdeal.nD Cert.AdamAbInRefIdeal.τ).loc Cert.AdamAbInRefIdeal.main_arg2) = m ((c.tc : Thread Cert.AdamAbInRefIdeal.nD Cert.AdamAbInRefIdeal.τ).loc Cert.AdamAbInRefIdeal.main_arg2)
      ∧ r.2.mem ((c.tc : Thread Cert.AdamAbInRefIdeal.nD Cert.AdamAbInRefIdeal.τ).loc Cert.AdamAbInRefIdeal.main_arg3) = m ((c.tc : Thread Cert.AdamAbInRefIdeal.nD Cert.AdamAbInRefIdeal.τ).loc Cert.AdamAbInRefIdeal.main_arg3))
      ∧ r.2.sem = fun _ => 0)

def quiescent_AdamAbOut [hAdamAbOut : Cert.AdamAbOut.Facts] : Prop :=
  ∀ (m : (ℓ : Loc Cert.AdamAbOut.nD Cert.AdamAbOut.τ Cert.AdamAbOut.sig) → Buf (Elt Bits) ℓ) (g : Dev Cert.AdamAbOut.nD → PrngReg), Pre_AdamAbOut m →
    θ_run (Cert.AdamAbOut.defs (F := Bits)) (onTc (τ := Cert.AdamAbOut.τ) (Cert.AdamAbOut.main (F := Bits))) ⟨m, fun _ => 0, g⟩ (fun r => (∀ c : Dev Cert.AdamAbOut.nD,
      r.2.mem ((c.tc : Thread Cert.AdamAbOut.nD Cert.AdamAbOut.τ).loc Cert.AdamAbOut.main_arg0) = m ((c.tc : Thread Cert.AdamAbOut.nD Cert.AdamAbOut.τ).loc Cert.AdamAbOut.main_arg0)
      ∧ r.2.mem ((c.tc : Thread Cert.AdamAbOut.nD Cert.AdamAbOut.τ).loc Cert.AdamAbOut.main_arg1) = m ((c.tc : Thread Cert.AdamAbOut.nD Cert.AdamAbOut.τ).loc Cert.AdamAbOut.main_arg1)
      ∧ r.2.mem ((c.tc : Thread Cert.AdamAbOut.nD Cert.AdamAbOut.τ).loc Cert.AdamAbOut.main_arg2) = m ((c.tc : Thread Cert.AdamAbOut.nD Cert.AdamAbOut.τ).loc Cert.AdamAbOut.main_arg2)
      ∧ r.2.mem ((c.tc : Thread Cert.AdamAbOut.nD Cert.AdamAbOut.τ).loc Cert.AdamAbOut.main_arg3) = m ((c.tc : Thread Cert.AdamAbOut.nD Cert.AdamAbOut.τ).loc Cert.AdamAbOut.main_arg3))
      ∧ r.2.sem = fun _ => 0)

def quiescent_AdamAbOutIdeal [hAdamAbOutIdeal : Cert.AdamAbOutIdeal.Facts] : Prop :=
  ∀ (m : (ℓ : Loc Cert.AdamAbOutIdeal.nD Cert.AdamAbOutIdeal.τ Cert.AdamAbOutIdeal.sig) → Buf (Elt Ideal) ℓ) (g : Dev Cert.AdamAbOutIdeal.nD → PrngReg), Pre_AdamAbOutIdeal m →
    θ_run (Cert.AdamAbOutIdeal.defs (F := Ideal)) (onTc (τ := Cert.AdamAbOutIdeal.τ) (Cert.AdamAbOutIdeal.main (F := Ideal))) ⟨m, fun _ => 0, g⟩ (fun r => (∀ c : Dev Cert.AdamAbOutIdeal.nD,
      r.2.mem ((c.tc : Thread Cert.AdamAbOutIdeal.nD Cert.AdamAbOutIdeal.τ).loc Cert.AdamAbOutIdeal.main_arg0) = m ((c.tc : Thread Cert.AdamAbOutIdeal.nD Cert.AdamAbOutIdeal.τ).loc Cert.AdamAbOutIdeal.main_arg0)
      ∧ r.2.mem ((c.tc : Thread Cert.AdamAbOutIdeal.nD Cert.AdamAbOutIdeal.τ).loc Cert.AdamAbOutIdeal.main_arg1) = m ((c.tc : Thread Cert.AdamAbOutIdeal.nD Cert.AdamAbOutIdeal.τ).loc Cert.AdamAbOutIdeal.main_arg1)
      ∧ r.2.mem ((c.tc : Thread Cert.AdamAbOutIdeal.nD Cert.AdamAbOutIdeal.τ).loc Cert.AdamAbOutIdeal.main_arg2) = m ((c.tc : Thread Cert.AdamAbOutIdeal.nD Cert.AdamAbOutIdeal.τ).loc Cert.AdamAbOutIdeal.main_arg2)
      ∧ r.2.mem ((c.tc : Thread Cert.AdamAbOutIdeal.nD Cert.AdamAbOutIdeal.τ).loc Cert.AdamAbOutIdeal.main_arg3) = m ((c.tc : Thread Cert.AdamAbOutIdeal.nD Cert.AdamAbOutIdeal.τ).loc Cert.AdamAbOutIdeal.main_arg3))
      ∧ r.2.sem = fun _ => 0)

def quiescent_AdamAbOutRefIdeal [hAdamAbOutRefIdeal : Cert.AdamAbOutRefIdeal.Facts] : Prop :=
  ∀ (m : (ℓ : Loc Cert.AdamAbOutRefIdeal.nD Cert.AdamAbOutRefIdeal.τ Cert.AdamAbOutRefIdeal.sig) → Buf (Elt Ideal) ℓ) (g : Dev Cert.AdamAbOutRefIdeal.nD → PrngReg), Pre_AdamAbOutRefIdeal m →
    θ_run (Cert.AdamAbOutRefIdeal.defs (F := Ideal)) (onTc (τ := Cert.AdamAbOutRefIdeal.τ) (Cert.AdamAbOutRefIdeal.main (F := Ideal))) ⟨m, fun _ => 0, g⟩ (fun r => (∀ c : Dev Cert.AdamAbOutRefIdeal.nD,
      r.2.mem ((c.tc : Thread Cert.AdamAbOutRefIdeal.nD Cert.AdamAbOutRefIdeal.τ).loc Cert.AdamAbOutRefIdeal.main_arg0) = m ((c.tc : Thread Cert.AdamAbOutRefIdeal.nD Cert.AdamAbOutRefIdeal.τ).loc Cert.AdamAbOutRefIdeal.main_arg0)
      ∧ r.2.mem ((c.tc : Thread Cert.AdamAbOutRefIdeal.nD Cert.AdamAbOutRefIdeal.τ).loc Cert.AdamAbOutRefIdeal.main_arg1) = m ((c.tc : Thread Cert.AdamAbOutRefIdeal.nD Cert.AdamAbOutRefIdeal.τ).loc Cert.AdamAbOutRefIdeal.main_arg1)
      ∧ r.2.mem ((c.tc : Thread Cert.AdamAbOutRefIdeal.nD Cert.AdamAbOutRefIdeal.τ).loc Cert.AdamAbOutRefIdeal.main_arg2) = m ((c.tc : Thread Cert.AdamAbOutRefIdeal.nD Cert.AdamAbOutRefIdeal.τ).loc Cert.AdamAbOutRefIdeal.main_arg2)
      ∧ r.2.mem ((c.tc : Thread Cert.AdamAbOutRefIdeal.nD Cert.AdamAbOutRefIdeal.τ).loc Cert.AdamAbOutRefIdeal.main_arg3) = m ((c.tc : Thread Cert.AdamAbOutRefIdeal.nD Cert.AdamAbOutRefIdeal.τ).loc Cert.AdamAbOutRefIdeal.main_arg3))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3))
      ∧ r.2.sem = fun _ => 0)

def quiescent_AdamXqo [hAdamXqo : Cert.AdamXqo.Facts] : Prop :=
  ∀ (m : (ℓ : Loc Cert.AdamXqo.nD Cert.AdamXqo.τ Cert.AdamXqo.sig) → Buf (Elt Bits) ℓ) (g : Dev Cert.AdamXqo.nD → PrngReg), Pre_AdamXqo m →
    θ_run (Cert.AdamXqo.defs (F := Bits)) (onTc (τ := Cert.AdamXqo.τ) (Cert.AdamXqo.main (F := Bits))) ⟨m, fun _ => 0, g⟩ (fun r => (∀ c : Dev Cert.AdamXqo.nD,
      r.2.mem ((c.tc : Thread Cert.AdamXqo.nD Cert.AdamXqo.τ).loc Cert.AdamXqo.main_arg0) = m ((c.tc : Thread Cert.AdamXqo.nD Cert.AdamXqo.τ).loc Cert.AdamXqo.main_arg0)
      ∧ r.2.mem ((c.tc : Thread Cert.AdamXqo.nD Cert.AdamXqo.τ).loc Cert.AdamXqo.main_arg1) = m ((c.tc : Thread Cert.AdamXqo.nD Cert.AdamXqo.τ).loc Cert.AdamXqo.main_arg1)
      ∧ r.2.mem ((c.tc : Thread Cert.AdamXqo.nD Cert.AdamXqo.τ).loc Cert.AdamXqo.main_arg2) = m ((c.tc : Thread Cert.AdamXqo.nD Cert.AdamXqo.τ).loc Cert.AdamXqo.main_arg2)
      ∧ r.2.mem ((c.tc : Thread Cert.AdamXqo.nD Cert.AdamXqo.τ).loc Cert.AdamXqo.main_arg3) = m ((c.tc : Thread Cert.AdamXqo.nD Cert.AdamXqo.τ).loc Cert.AdamXqo.main_arg3))
      ∧ r.2.sem = fun _ => 0)

def quiescent_AdamXqoIdeal [hAdamXqoIdeal : Cert.AdamXqoIdeal.Facts] : Prop :=
  ∀ (m : (ℓ : Loc Cert.AdamXqoIdeal.nD Cert.AdamXqoIdeal.τ Cert.AdamXqoIdeal.sig) → Buf (Elt Ideal) ℓ) (g : Dev Cert.AdamXqoIdeal.nD → PrngReg), Pre_AdamXqoIdeal m →
    θ_run (Cert.AdamXqoIdeal.defs (F := Ideal)) (onTc (τ := Cert.AdamXqoIdeal.τ) (Cert.AdamXqoIdeal.main (F := Ideal))) ⟨m, fun _ => 0, g⟩ (fun r => (∀ c : Dev Cert.AdamXqoIdeal.nD,
      r.2.mem ((c.tc : Thread Cert.AdamXqoIdeal.nD Cert.AdamXqoIdeal.τ).loc Cert.AdamXqoIdeal.main_arg0) = m ((c.tc : Thread Cert.AdamXqoIdeal.nD Cert.AdamXqoIdeal.τ).loc Cert.AdamXqoIdeal.main_arg0)
      ∧ r.2.mem ((c.tc : Thread Cert.AdamXqoIdeal.nD Cert.AdamXqoIdeal.τ).loc Cert.AdamXqoIdeal.main_arg1) = m ((c.tc : Thread Cert.AdamXqoIdeal.nD Cert.AdamXqoIdeal.τ).loc Cert.AdamXqoIdeal.main_arg1)
      ∧ r.2.mem ((c.tc : Thread Cert.AdamXqoIdeal.nD Cert.AdamXqoIdeal.τ).loc Cert.AdamXqoIdeal.main_arg2) = m ((c.tc : Thread Cert.AdamXqoIdeal.nD Cert.AdamXqoIdeal.τ).loc Cert.AdamXqoIdeal.main_arg2)
      ∧ r.2.mem ((c.tc : Thread Cert.AdamXqoIdeal.nD Cert.AdamXqoIdeal.τ).loc Cert.AdamXqoIdeal.main_arg3) = m ((c.tc : Thread Cert.AdamXqoIdeal.nD Cert.AdamXqoIdeal.τ).loc Cert.AdamXqoIdeal.main_arg3))
      ∧ r.2.sem = fun _ => 0)

def quiescent_AdamXqoRefIdeal [hAdamXqoRefIdeal : Cert.AdamXqoRefIdeal.Facts] : Prop :=
  ∀ (m : (ℓ : Loc Cert.AdamXqoRefIdeal.nD Cert.AdamXqoRefIdeal.τ Cert.AdamXqoRefIdeal.sig) → Buf (Elt Ideal) ℓ) (g : Dev Cert.AdamXqoRefIdeal.nD → PrngReg), Pre_AdamXqoRefIdeal m →
    θ_run (Cert.AdamXqoRefIdeal.defs (F := Ideal)) (onTc (τ := Cert.AdamXqoRefIdeal.τ) (Cert.AdamXqoRefIdeal.main (F := Ideal))) ⟨m, fun _ => 0, g⟩ (fun r => (∀ c : Dev Cert.AdamXqoRefIdeal.nD,
      r.2.mem ((c.tc : Thread Cert.AdamXqoRefIdeal.nD Cert.AdamXqoRefIdeal.τ).loc Cert.AdamXqoRefIdeal.main_arg0) = m ((c.tc : Thread Cert.AdamXqoRefIdeal.nD Cert.AdamXqoRefIdeal.τ).loc Cert.AdamXqoRefIdeal.main_arg0)
      ∧ r.2.mem ((c.tc : Thread Cert.AdamXqoRefIdeal.nD Cert.AdamXqoRefIdeal.τ).loc Cert.AdamXqoRefIdeal.main_arg1) = m ((c.tc : Thread Cert.AdamXqoRefIdeal.nD Cert.AdamXqoRefIdeal.τ).loc Cert.AdamXqoRefIdeal.main_arg1)
      ∧ r.2.mem ((c.tc : Thread Cert.AdamXqoRefIdeal.nD Cert.AdamXqoRefIdeal.τ).loc Cert.AdamXqoRefIdeal.main_arg2) = m ((c.tc : Thread Cert.AdamXqoRefIdeal.nD Cert.AdamXqoRefIdeal.τ).loc Cert.AdamXqoRefIdeal.main_arg2)
      ∧ r.2.mem ((c.tc : Thread Cert.AdamXqoRefIdeal.nD Cert.AdamXqoRefIdeal.τ).loc Cert.AdamXqoRefIdeal.main_arg3) = m ((c.tc : Thread Cert.AdamXqoRefIdeal.nD Cert.AdamXqoRefIdeal.τ).loc Cert.AdamXqoRefIdeal.main_arg3))
      ∧ r.2.sem = fun _ => 0)

def quiescent_AdamXkv [hAdamXkv : Cert.AdamXkv.Facts] : Prop :=
  ∀ (m : (ℓ : Loc Cert.AdamXkv.nD Cert.AdamXkv.τ Cert.AdamXkv.sig) → Buf (Elt Bits) ℓ) (g : Dev Cert.AdamXkv.nD → PrngReg), Pre_AdamXkv m →
    θ_run (Cert.AdamXkv.defs (F := Bits)) (onTc (τ := Cert.AdamXkv.τ) (Cert.AdamXkv.main (F := Bits))) ⟨m, fun _ => 0, g⟩ (fun r => (∀ c : Dev Cert.AdamXkv.nD,
      r.2.mem ((c.tc : Thread Cert.AdamXkv.nD Cert.AdamXkv.τ).loc Cert.AdamXkv.main_arg0) = m ((c.tc : Thread Cert.AdamXkv.nD Cert.AdamXkv.τ).loc Cert.AdamXkv.main_arg0)
      ∧ r.2.mem ((c.tc : Thread Cert.AdamXkv.nD Cert.AdamXkv.τ).loc Cert.AdamXkv.main_arg1) = m ((c.tc : Thread Cert.AdamXkv.nD Cert.AdamXkv.τ).loc Cert.AdamXkv.main_arg1)
      ∧ r.2.mem ((c.tc : Thread Cert.AdamXkv.nD Cert.AdamXkv.τ).loc Cert.AdamXkv.main_arg2) = m ((c.tc : Thread Cert.AdamXkv.nD Cert.AdamXkv.τ).loc Cert.AdamXkv.main_arg2)
      ∧ r.2.mem ((c.tc : Thread Cert.AdamXkv.nD Cert.AdamXkv.τ).loc Cert.AdamXkv.main_arg3) = m ((c.tc : Thread Cert.AdamXkv.nD Cert.AdamXkv.τ).loc Cert.AdamXkv.main_arg3))
      ∧ r.2.sem = fun _ => 0)

def quiescent_AdamXkvIdeal [hAdamXkvIdeal : Cert.AdamXkvIdeal.Facts] : Prop :=
  ∀ (m : (ℓ : Loc Cert.AdamXkvIdeal.nD Cert.AdamXkvIdeal.τ Cert.AdamXkvIdeal.sig) → Buf (Elt Ideal) ℓ) (g : Dev Cert.AdamXkvIdeal.nD → PrngReg), Pre_AdamXkvIdeal m →
    θ_run (Cert.AdamXkvIdeal.defs (F := Ideal)) (onTc (τ := Cert.AdamXkvIdeal.τ) (Cert.AdamXkvIdeal.main (F := Ideal))) ⟨m, fun _ => 0, g⟩ (fun r => (∀ c : Dev Cert.AdamXkvIdeal.nD,
      r.2.mem ((c.tc : Thread Cert.AdamXkvIdeal.nD Cert.AdamXkvIdeal.τ).loc Cert.AdamXkvIdeal.main_arg0) = m ((c.tc : Thread Cert.AdamXkvIdeal.nD Cert.AdamXkvIdeal.τ).loc Cert.AdamXkvIdeal.main_arg0)
      ∧ r.2.mem ((c.tc : Thread Cert.AdamXkvIdeal.nD Cert.AdamXkvIdeal.τ).loc Cert.AdamXkvIdeal.main_arg1) = m ((c.tc : Thread Cert.AdamXkvIdeal.nD Cert.AdamXkvIdeal.τ).loc Cert.AdamXkvIdeal.main_arg1)
      ∧ r.2.mem ((c.tc : Thread Cert.AdamXkvIdeal.nD Cert.AdamXkvIdeal.τ).loc Cert.AdamXkvIdeal.main_arg2) = m ((c.tc : Thread Cert.AdamXkvIdeal.nD Cert.AdamXkvIdeal.τ).loc Cert.AdamXkvIdeal.main_arg2)
      ∧ r.2.mem ((c.tc : Thread Cert.AdamXkvIdeal.nD Cert.AdamXkvIdeal.τ).loc Cert.AdamXkvIdeal.main_arg3) = m ((c.tc : Thread Cert.AdamXkvIdeal.nD Cert.AdamXkvIdeal.τ).loc Cert.AdamXkvIdeal.main_arg3))
      ∧ r.2.sem = fun _ => 0)

def quiescent_AdamXkvRefIdeal [hAdamXkvRefIdeal : Cert.AdamXkvRefIdeal.Facts] : Prop :=
  ∀ (m : (ℓ : Loc Cert.AdamXkvRefIdeal.nD Cert.AdamXkvRefIdeal.τ Cert.AdamXkvRefIdeal.sig) → Buf (Elt Ideal) ℓ) (g : Dev Cert.AdamXkvRefIdeal.nD → PrngReg), Pre_AdamXkvRefIdeal m →
    θ_run (Cert.AdamXkvRefIdeal.defs (F := Ideal)) (onTc (τ := Cert.AdamXkvRefIdeal.τ) (Cert.AdamXkvRefIdeal.main (F := Ideal))) ⟨m, fun _ => 0, g⟩ (fun r => (∀ c : Dev Cert.AdamXkvRefIdeal.nD,
      r.2.mem ((c.tc : Thread Cert.AdamXkvRefIdeal.nD Cert.AdamXkvRefIdeal.τ).loc Cert.AdamXkvRefIdeal.main_arg0) = m ((c.tc : Thread Cert.AdamXkvRefIdeal.nD Cert.AdamXkvRefIdeal.τ).loc Cert.AdamXkvRefIdeal.main_arg0)
      ∧ r.2.mem ((c.tc : Thread Cert.AdamXkvRefIdeal.nD Cert.AdamXkvRefIdeal.τ).loc Cert.AdamXkvRefIdeal.main_arg1) = m ((c.tc : Thread Cert.AdamXkvRefIdeal.nD Cert.AdamXkvRefIdeal.τ).loc Cert.AdamXkvRefIdeal.main_arg1)
      ∧ r.2.mem ((c.tc : Thread Cert.AdamXkvRefIdeal.nD Cert.AdamXkvRefIdeal.τ).loc Cert.AdamXkvRefIdeal.main_arg2) = m ((c.tc : Thread Cert.AdamXkvRefIdeal.nD Cert.AdamXkvRefIdeal.τ).loc Cert.AdamXkvRefIdeal.main_arg2)
      ∧ r.2.mem ((c.tc : Thread Cert.AdamXkvRefIdeal.nD Cert.AdamXkvRefIdeal.τ).loc Cert.AdamXkvRefIdeal.main_arg3) = m ((c.tc : Thread Cert.AdamXkvRefIdeal.nD Cert.AdamXkvRefIdeal.τ).loc Cert.AdamXkvRefIdeal.main_arg3))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ r.2.sem = fun _ => 0)

def quiescent_AdamFfnInRefIdeal [hAdamFfnInRefIdeal : Cert.AdamFfnInRefIdeal.Facts] : Prop :=
  ∀ (m : (ℓ : Loc Cert.AdamFfnInRefIdeal.nD Cert.AdamFfnInRefIdeal.τ Cert.AdamFfnInRefIdeal.sig) → Buf (Elt Ideal) ℓ) (g : Dev Cert.AdamFfnInRefIdeal.nD → PrngReg), Pre_AdamFfnInRefIdeal m →
    θ_run (Cert.AdamFfnInRefIdeal.defs (F := Ideal)) (onTc (τ := Cert.AdamFfnInRefIdeal.τ) (Cert.AdamFfnInRefIdeal.main (F := Ideal))) ⟨m, fun _ => 0, g⟩ (fun r => (∀ c : Dev Cert.AdamFfnInRefIdeal.nD,
      r.2.mem ((c.tc : Thread Cert.AdamFfnInRefIdeal.nD Cert.AdamFfnInRefIdeal.τ).loc Cert.AdamFfnInRefIdeal.main_arg0) = m ((c.tc : Thread Cert.AdamFfnInRefIdeal.nD Cert.AdamFfnInRefIdeal.τ).loc Cert.AdamFfnInRefIdeal.main_arg0)
      ∧ r.2.mem ((c.tc : Thread Cert.AdamFfnInRefIdeal.nD Cert.AdamFfnInRefIdeal.τ).loc Cert.AdamFfnInRefIdeal.main_arg1) = m ((c.tc : Thread Cert.AdamFfnInRefIdeal.nD Cert.AdamFfnInRefIdeal.τ).loc Cert.AdamFfnInRefIdeal.main_arg1)
      ∧ r.2.mem ((c.tc : Thread Cert.AdamFfnInRefIdeal.nD Cert.AdamFfnInRefIdeal.τ).loc Cert.AdamFfnInRefIdeal.main_arg2) = m ((c.tc : Thread Cert.AdamFfnInRefIdeal.nD Cert.AdamFfnInRefIdeal.τ).loc Cert.AdamFfnInRefIdeal.main_arg2)
      ∧ r.2.mem ((c.tc : Thread Cert.AdamFfnInRefIdeal.nD Cert.AdamFfnInRefIdeal.τ).loc Cert.AdamFfnInRefIdeal.main_arg3) = m ((c.tc : Thread Cert.AdamFfnInRefIdeal.nD Cert.AdamFfnInRefIdeal.τ).loc Cert.AdamFfnInRefIdeal.main_arg3))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ r.2.sem = fun _ => 0)

def quiescent_AdamFfnOutRefIdeal [hAdamFfnOutRefIdeal : Cert.AdamFfnOutRefIdeal.Facts] : Prop :=
  ∀ (m : (ℓ : Loc Cert.AdamFfnOutRefIdeal.nD Cert.AdamFfnOutRefIdeal.τ Cert.AdamFfnOutRefIdeal.sig) → Buf (Elt Ideal) ℓ) (g : Dev Cert.AdamFfnOutRefIdeal.nD → PrngReg), Pre_AdamFfnOutRefIdeal m →
    θ_run (Cert.AdamFfnOutRefIdeal.defs (F := Ideal)) (onTc (τ := Cert.AdamFfnOutRefIdeal.τ) (Cert.AdamFfnOutRefIdeal.main (F := Ideal))) ⟨m, fun _ => 0, g⟩ (fun r => (∀ c : Dev Cert.AdamFfnOutRefIdeal.nD,
      r.2.mem ((c.tc : Thread Cert.AdamFfnOutRefIdeal.nD Cert.AdamFfnOutRefIdeal.τ).loc Cert.AdamFfnOutRefIdeal.main_arg0) = m ((c.tc : Thread Cert.AdamFfnOutRefIdeal.nD Cert.AdamFfnOutRefIdeal.τ).loc Cert.AdamFfnOutRefIdeal.main_arg0)
      ∧ r.2.mem ((c.tc : Thread Cert.AdamFfnOutRefIdeal.nD Cert.AdamFfnOutRefIdeal.τ).loc Cert.AdamFfnOutRefIdeal.main_arg1) = m ((c.tc : Thread Cert.AdamFfnOutRefIdeal.nD Cert.AdamFfnOutRefIdeal.τ).loc Cert.AdamFfnOutRefIdeal.main_arg1)
      ∧ r.2.mem ((c.tc : Thread Cert.AdamFfnOutRefIdeal.nD Cert.AdamFfnOutRefIdeal.τ).loc Cert.AdamFfnOutRefIdeal.main_arg2) = m ((c.tc : Thread Cert.AdamFfnOutRefIdeal.nD Cert.AdamFfnOutRefIdeal.τ).loc Cert.AdamFfnOutRefIdeal.main_arg2)
      ∧ r.2.mem ((c.tc : Thread Cert.AdamFfnOutRefIdeal.nD Cert.AdamFfnOutRefIdeal.τ).loc Cert.AdamFfnOutRefIdeal.main_arg3) = m ((c.tc : Thread Cert.AdamFfnOutRefIdeal.nD Cert.AdamFfnOutRefIdeal.τ).loc Cert.AdamFfnOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_ResNorm [hResNorm : Cert.ResNorm.Facts] : Prop :=
  ∀ (m : (ℓ : Loc Cert.ResNorm.nD Cert.ResNorm.τ Cert.ResNorm.sig) → Buf (Elt Bits) ℓ) (g : Dev Cert.ResNorm.nD → PrngReg), Pre_ResNorm m →
    θ_run (Cert.ResNorm.defs (F := Bits)) (onTc (τ := Cert.ResNorm.τ) (Cert.ResNorm.main (F := Bits))) ⟨m, fun _ => 0, g⟩ (fun r => (∀ c : Dev Cert.ResNorm.nD,
      r.2.mem ((c.tc : Thread Cert.ResNorm.nD Cert.ResNorm.τ).loc Cert.ResNorm.main_arg0) = m ((c.tc : Thread Cert.ResNorm.nD Cert.ResNorm.τ).loc Cert.ResNorm.main_arg0)
      ∧ r.2.mem ((c.tc : Thread Cert.ResNorm.nD Cert.ResNorm.τ).loc Cert.ResNorm.main_arg1) = m ((c.tc : Thread Cert.ResNorm.nD Cert.ResNorm.τ).loc Cert.ResNorm.main_arg1)
      ∧ r.2.mem ((c.tc : Thread Cert.ResNorm.nD Cert.ResNorm.τ).loc Cert.ResNorm.main_arg2) = m ((c.tc : Thread Cert.ResNorm.nD Cert.ResNorm.τ).loc Cert.ResNorm.main_arg2)
      ∧ r.2.mem ((c.tc : Thread Cert.ResNorm.nD Cert.ResNorm.τ).loc Cert.ResNorm.main_arg3) = m ((c.tc : Thread Cert.ResNorm.nD Cert.ResNorm.τ).loc Cert.ResNorm.main_arg3))
      ∧ r.2.sem = fun _ => 0)

def quiescent_ResNormIdeal [hResNormIdeal : Cert.ResNormIdeal.Facts] : Prop :=
  ∀ (m : (ℓ : Loc Cert.ResNormIdeal.nD Cert.ResNormIdeal.τ Cert.ResNormIdeal.sig) → Buf (Elt Ideal) ℓ) (g : Dev Cert.ResNormIdeal.nD → PrngReg), Pre_ResNormIdeal m →
    θ_run (Cert.ResNormIdeal.defs (F := Ideal)) (onTc (τ := Cert.ResNormIdeal.τ) (Cert.ResNormIdeal.main (F := Ideal))) ⟨m, fun _ => 0, g⟩ (fun r => (∀ c : Dev Cert.ResNormIdeal.nD,
      r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
      ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
      ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
      ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ r.2.sem = fun _ => 0)

def quiescent_ResNormRefIdeal [hResNormRefIdeal : Cert.ResNormRefIdeal.Facts] : Prop :=
  ∀ (m : (ℓ : Loc Cert.ResNormRefIdeal.nD Cert.ResNormRefIdeal.τ Cert.ResNormRefIdeal.sig) → Buf (Elt Ideal) ℓ) (g : Dev Cert.ResNormRefIdeal.nD → PrngReg), Pre_ResNormRefIdeal m →
    θ_run (Cert.ResNormRefIdeal.defs (F := Ideal)) (onTc (τ := Cert.ResNormRefIdeal.τ) (Cert.ResNormRefIdeal.main (F := Ideal))) ⟨m, fun _ => 0, g⟩ (fun r => (∀ c : Dev Cert.ResNormRefIdeal.nD,
      r.2.mem ((c.tc : Thread Cert.ResNormRefIdeal.nD Cert.ResNormRefIdeal.τ).loc Cert.ResNormRefIdeal.main_arg0) = m ((c.tc : Thread Cert.ResNormRefIdeal.nD Cert.ResNormRefIdeal.τ).loc Cert.ResNormRefIdeal.main_arg0)
      ∧ r.2.mem ((c.tc : Thread Cert.ResNormRefIdeal.nD Cert.ResNormRefIdeal.τ).loc Cert.ResNormRefIdeal.main_arg1) = m ((c.tc : Thread Cert.ResNormRefIdeal.nD Cert.ResNormRefIdeal.τ).loc Cert.ResNormRefIdeal.main_arg1)
      ∧ r.2.mem ((c.tc : Thread Cert.ResNormRefIdeal.nD Cert.ResNormRefIdeal.τ).loc Cert.ResNormRefIdeal.main_arg2) = m ((c.tc : Thread Cert.ResNormRefIdeal.nD Cert.ResNormRefIdeal.τ).loc Cert.ResNormRefIdeal.main_arg2)
      ∧ r.2.mem ((c.tc : Thread Cert.ResNormRefIdeal.nD Cert.ResNormRefIdeal.τ).loc Cert.ResNormRefIdeal.main_arg3) = m ((c.tc : Thread Cert.ResNormRefIdeal.nD Cert.ResNormRefIdeal.τ).loc Cert.ResNormRefIdeal.main_arg3))
      ∧ r.2.sem = fun _ => 0)

def quiescent_ResNormC [hResNormC : Cert.ResNormC.Facts] : Prop :=
  ∀ (m : (ℓ : Loc Cert.ResNormC.nD Cert.ResNormC.τ Cert.ResNormC.sig) → Buf (Elt Bits) ℓ) (g : Dev Cert.ResNormC.nD → PrngReg), Pre_ResNormC m →
    θ_run (Cert.ResNormC.defs (F := Bits)) (onTc (τ := Cert.ResNormC.τ) (Cert.ResNormC.main (F := Bits))) ⟨m, fun _ => 0, g⟩ (fun r => (∀ c : Dev Cert.ResNormC.nD,
      r.2.mem ((c.tc : Thread Cert.ResNormC.nD Cert.ResNormC.τ).loc Cert.ResNormC.main_arg0) = m ((c.tc : Thread Cert.ResNormC.nD Cert.ResNormC.τ).loc Cert.ResNormC.main_arg0)
      ∧ r.2.mem ((c.tc : Thread Cert.ResNormC.nD Cert.ResNormC.τ).loc Cert.ResNormC.main_arg1) = m ((c.tc : Thread Cert.ResNormC.nD Cert.ResNormC.τ).loc Cert.ResNormC.main_arg1)
      ∧ r.2.mem ((c.tc : Thread Cert.ResNormC.nD Cert.ResNormC.τ).loc Cert.ResNormC.main_arg2) = m ((c.tc : Thread Cert.ResNormC.nD Cert.ResNormC.τ).loc Cert.ResNormC.main_arg2)
      ∧ r.2.mem ((c.tc : Thread Cert.ResNormC.nD Cert.ResNormC.τ).loc Cert.ResNormC.main_arg3) = m ((c.tc : Thread Cert.ResNormC.nD Cert.ResNormC.τ).loc Cert.ResNormC.main_arg3))
      ∧ r.2.sem = fun _ => 0)

def quiescent_ResNormCIdeal [hResNormCIdeal : Cert.ResNormCIdeal.Facts] : Prop :=
  ∀ (m : (ℓ : Loc Cert.ResNormCIdeal.nD Cert.ResNormCIdeal.τ Cert.ResNormCIdeal.sig) → Buf (Elt Ideal) ℓ) (g : Dev Cert.ResNormCIdeal.nD → PrngReg), Pre_ResNormCIdeal m →
    θ_run (Cert.ResNormCIdeal.defs (F := Ideal)) (onTc (τ := Cert.ResNormCIdeal.τ) (Cert.ResNormCIdeal.main (F := Ideal))) ⟨m, fun _ => 0, g⟩ (fun r => (∀ c : Dev Cert.ResNormCIdeal.nD,
      r.2.mem ((c.tc : Thread Cert.ResNormCIdeal.nD Cert.ResNormCIdeal.τ).loc Cert.ResNormCIdeal.main_arg0) = m ((c.tc : Thread Cert.ResNormCIdeal.nD Cert.ResNormCIdeal.τ).loc Cert.ResNormCIdeal.main_arg0)
      ∧ r.2.mem ((c.tc : Thread Cert.ResNormCIdeal.nD Cert.ResNormCIdeal.τ).loc Cert.ResNormCIdeal.main_arg1) = m ((c.tc : Thread Cert.ResNormCIdeal.nD Cert.ResNormCIdeal.τ).loc Cert.ResNormCIdeal.main_arg1)
      ∧ r.2.mem ((c.tc : Thread Cert.ResNormCIdeal.nD Cert.ResNormCIdeal.τ).loc Cert.ResNormCIdeal.main_arg2) = m ((c.tc : Thread Cert.ResNormCIdeal.nD Cert.ResNormCIdeal.τ).loc Cert.ResNormCIdeal.main_arg2)
      ∧ r.2.mem ((c.tc : Thread Cert.ResNormCIdeal.nD Cert.ResNormCIdeal.τ).loc Cert.ResNormCIdeal.main_arg3) = m ((c.tc : Thread Cert.ResNormCIdeal.nD Cert.ResNormCIdeal.τ).loc Cert.ResNormCIdeal.main_arg3))
      ∧ r.2.sem = fun _ => 0)

def quiescent_ResNormCRefIdeal [hResNormCRefIdeal : Cert.ResNormCRefIdeal.Facts] : Prop :=
  ∀ (m : (ℓ : Loc Cert.ResNormCRefIdeal.nD Cert.ResNormCRefIdeal.τ Cert.ResNormCRefIdeal.sig) → Buf (Elt Ideal) ℓ) (g : Dev Cert.ResNormCRefIdeal.nD → PrngReg), Pre_ResNormCRefIdeal m →
    θ_run (Cert.ResNormCRefIdeal.defs (F := Ideal)) (onTc (τ := Cert.ResNormCRefIdeal.τ) (Cert.ResNormCRefIdeal.main (F := Ideal))) ⟨m, fun _ => 0, g⟩ (fun r => (∀ c : Dev Cert.ResNormCRefIdeal.nD,
      r.2.mem ((c.tc : Thread Cert.ResNormCRefIdeal.nD Cert.ResNormCRefIdeal.τ).loc Cert.ResNormCRefIdeal.main_arg0) = m ((c.tc : Thread Cert.ResNormCRefIdeal.nD Cert.ResNormCRefIdeal.τ).loc Cert.ResNormCRefIdeal.main_arg0)
      ∧ r.2.mem ((c.tc : Thread Cert.ResNormCRefIdeal.nD Cert.ResNormCRefIdeal.τ).loc Cert.ResNormCRefIdeal.main_arg1) = m ((c.tc : Thread Cert.ResNormCRefIdeal.nD Cert.ResNormCRefIdeal.τ).loc Cert.ResNormCRefIdeal.main_arg1)
      ∧ r.2.mem ((c.tc : Thread Cert.ResNormCRefIdeal.nD Cert.ResNormCRefIdeal.τ).loc Cert.ResNormCRefIdeal.main_arg2) = m ((c.tc : Thread Cert.ResNormCRefIdeal.nD Cert.ResNormCRefIdeal.τ).loc Cert.ResNormCRefIdeal.main_arg2)
      ∧ r.2.mem ((c.tc : Thread Cert.ResNormCRefIdeal.nD Cert.ResNormCRefIdeal.τ).loc Cert.ResNormCRefIdeal.main_arg3) = m ((c.tc : Thread Cert.ResNormCRefIdeal.nD Cert.ResNormCRefIdeal.τ).loc Cert.ResNormCRefIdeal.main_arg3))
      ∧ r.2.sem = fun _ => 0)

def quiescent_Gelu [hGelu : Cert.Gelu.Facts] : Prop :=
  ∀ (m : (ℓ : Loc Cert.Gelu.nD Cert.Gelu.τ Cert.Gelu.sig) → Buf (Elt Bits) ℓ) (g : Dev Cert.Gelu.nD → PrngReg), Pre_Gelu m →
    θ_run (Cert.Gelu.defs (F := Bits)) (onTc (τ := Cert.Gelu.τ) (Cert.Gelu.main (F := Bits))) ⟨m, fun _ => 0, g⟩ (fun r => (∀ c : Dev Cert.Gelu.nD,
      r.2.mem ((c.tc : Thread Cert.Gelu.nD Cert.Gelu.τ).loc Cert.Gelu.main_arg0) = m ((c.tc : Thread Cert.Gelu.nD Cert.Gelu.τ).loc Cert.Gelu.main_arg0)
      ∧ r.2.mem ((c.tc : Thread Cert.Gelu.nD Cert.Gelu.τ).loc Cert.Gelu.main_arg1) = m ((c.tc : Thread Cert.Gelu.nD Cert.Gelu.τ).loc Cert.Gelu.main_arg1)
      ∧ r.2.mem ((c.tc : Thread Cert.Gelu.nD Cert.Gelu.τ).loc Cert.Gelu.main_arg2) = m ((c.tc : Thread Cert.Gelu.nD Cert.Gelu.τ).loc Cert.Gelu.main_arg2))
      ∧ r.2.sem = fun _ => 0)

def quiescent_GeluIdeal [hGeluIdeal : Cert.GeluIdeal.Facts] : Prop :=
  ∀ (m : (ℓ : Loc Cert.GeluIdeal.nD Cert.GeluIdeal.τ Cert.GeluIdeal.sig) → Buf (Elt Ideal) ℓ) (g : Dev Cert.GeluIdeal.nD → PrngReg), Pre_GeluIdeal m →
    θ_run (Cert.GeluIdeal.defs (F := Ideal)) (onTc (τ := Cert.GeluIdeal.τ) (Cert.GeluIdeal.main (F := Ideal))) ⟨m, fun _ => 0, g⟩ (fun r => (∀ c : Dev Cert.GeluIdeal.nD,
      r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
      ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
      ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2))
      ∧ r.2.sem = fun _ => 0)

def quiescent_GeluRefIdeal [hGeluRefIdeal : Cert.GeluRefIdeal.Facts] : Prop :=
  ∀ (m : (ℓ : Loc Cert.GeluRefIdeal.nD Cert.GeluRefIdeal.τ Cert.GeluRefIdeal.sig) → Buf (Elt Ideal) ℓ) (g : Dev Cert.GeluRefIdeal.nD → PrngReg), Pre_GeluRefIdeal m →
    θ_run (Cert.GeluRefIdeal.defs (F := Ideal)) (onTc (τ := Cert.GeluRefIdeal.τ) (Cert.GeluRefIdeal.main (F := Ideal))) ⟨m, fun _ => 0, g⟩ (fun r => (∀ c : Dev Cert.GeluRefIdeal.nD,
      r.2.mem ((c.tc : Thread Cert.GeluRefIdeal.nD Cert.GeluRefIdeal.τ).loc Cert.GeluRefIdeal.main_arg0) = m ((c.tc : Thread Cert.GeluRefIdeal.nD Cert.GeluRefIdeal.τ).loc Cert.GeluRefIdeal.main_arg0)
      ∧ r.2.mem ((c.tc : Thread Cert.GeluRefIdeal.nD Cert.GeluRefIdeal.τ).loc Cert.GeluRefIdeal.main_arg1) = m ((c.tc : Thread Cert.GeluRefIdeal.nD Cert.GeluRefIdeal.τ).loc Cert.GeluRefIdeal.main_arg1)
      ∧ r.2.mem ((c.tc : Thread Cert.GeluRefIdeal.nD Cert.GeluRefIdeal.τ).loc Cert.GeluRefIdeal.main_arg2) = m ((c.tc : Thread Cert.GeluRefIdeal.nD Cert.GeluRefIdeal.τ).loc Cert.GeluRefIdeal.main_arg2))
      ∧ r.2.sem = fun _ => 0)

def quiescent_GateB [hGateB : Cert.GateB.Facts] : Prop :=
  ∀ (m : (ℓ : Loc Cert.GateB.nD Cert.GateB.τ Cert.GateB.sig) → Buf (Elt Bits) ℓ) (g : Dev Cert.GateB.nD → PrngReg), Pre_GateB m →
    θ_run (Cert.GateB.defs (F := Bits)) (onTc (τ := Cert.GateB.τ) (Cert.GateB.main (F := Bits))) ⟨m, fun _ => 0, g⟩ (fun r => (∀ c : Dev Cert.GateB.nD,
      r.2.mem ((c.tc : Thread Cert.GateB.nD Cert.GateB.τ).loc Cert.GateB.main_arg0) = m ((c.tc : Thread Cert.GateB.nD Cert.GateB.τ).loc Cert.GateB.main_arg0)
      ∧ r.2.mem ((c.tc : Thread Cert.GateB.nD Cert.GateB.τ).loc Cert.GateB.main_arg1) = m ((c.tc : Thread Cert.GateB.nD Cert.GateB.τ).loc Cert.GateB.main_arg1)
      ∧ r.2.mem ((c.tc : Thread Cert.GateB.nD Cert.GateB.τ).loc Cert.GateB.main_arg2) = m ((c.tc : Thread Cert.GateB.nD Cert.GateB.τ).loc Cert.GateB.main_arg2))
      ∧ r.2.sem = fun _ => 0)

def quiescent_GateBIdeal [hGateBIdeal : Cert.GateBIdeal.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
      ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2))
      ∧ r.2.sem = fun _ => 0)

def quiescent_GateBRefIdeal [hGateBRefIdeal : Cert.GateBRefIdeal.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1)
      ∧ r.2.mem ((c.tc : Thread Cert.GateBRefIdeal.nD Cert.GateBRefIdeal.τ).loc Cert.GateBRefIdeal.main_arg2) = m ((c.tc : Thread Cert.GateBRefIdeal.nD Cert.GateBRefIdeal.τ).loc Cert.GateBRefIdeal.main_arg2))
      ∧ r.2.sem = fun _ => 0)

def quiescent_SumSlots [hSumSlots : Cert.SumSlots.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0))
      ∧ r.2.sem = fun _ => 0)

def quiescent_SumSlotsIdeal [hSumSlotsIdeal : Cert.SumSlotsIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0))
      ∧ r.2.sem = fun _ => 0)

def quiescent_MemNormB [hMemNormB : Cert.MemNormB.Facts] : Prop :=
  ∀ (m : (ℓ : Loc Cert.MemNormB.nD Cert.MemNormB.τ Cert.MemNormB.sig) → Buf (Elt Bits) ℓ) (g : Dev Cert.MemNormB.nD → PrngReg), Pre_MemNormB m →
    θ_run (Cert.MemNormB.defs (F := Bits)) (onTc (τ := Cert.MemNormB.τ) (Cert.MemNormB.main (F := Bits))) ⟨m, fun _ => 0, g⟩ (fun r => (∀ c : Dev Cert.MemNormB.nD,
      r.2.mem ((c.tc : Thread Cert.MemNormB.nD Cert.MemNormB.τ).loc Cert.MemNormB.main_arg0) = m ((c.tc : Thread Cert.MemNormB.nD Cert.MemNormB.τ).loc Cert.MemNormB.main_arg0)
      ∧ r.2.mem ((c.tc : Thread Cert.MemNormB.nD Cert.MemNormB.τ).loc Cert.MemNormB.main_arg1) = m ((c.tc : Thread Cert.MemNormB.nD Cert.MemNormB.τ).loc Cert.MemNormB.main_arg1)
      ∧ r.2.mem ((c.tc : Thread Cert.MemNormB.nD Cert.MemNormB.τ).loc Cert.MemNormB.main_arg2) = m ((c.tc : Thread Cert.MemNormB.nD Cert.MemNormB.τ).loc Cert.MemNormB.main_arg2))
      ∧ r.2.sem = fun _ => 0)

def quiescent_MemNormBIdeal [hMemNormBIdeal : Cert.MemNormBIdeal.Facts] : Prop :=
  ∀ (m : (ℓ : Loc Cert.MemNormBIdeal.nD Cert.MemNormBIdeal.τ Cert.MemNormBIdeal.sig) → Buf (Elt Ideal) ℓ) (g : Dev Cert.MemNormBIdeal.nD → PrngReg), Pre_MemNormBIdeal m →
    θ_run (Cert.MemNormBIdeal.defs (F := Ideal)) (onTc (τ := Cert.MemNormBIdeal.τ) (Cert.MemNormBIdeal.main (F := Ideal))) ⟨m, fun _ => 0, g⟩ (fun r => (∀ c : Dev Cert.MemNormBIdeal.nD,
      r.2.mem ((c.tc : Thread Cert.MemNormBIdeal.nD Cert.MemNormBIdeal.τ).loc Cert.MemNormBIdeal.main_arg0) = m ((c.tc : Thread Cert.MemNormBIdeal.nD Cert.MemNormBIdeal.τ).loc Cert.MemNormBIdeal.main_arg0)
      ∧ r.2.mem ((c.tc : Thread Cert.MemNormBIdeal.nD Cert.MemNormBIdeal.τ).loc Cert.MemNormBIdeal.main_arg1) = m ((c.tc : Thread Cert.MemNormBIdeal.nD Cert.MemNormBIdeal.τ).loc Cert.MemNormBIdeal.main_arg1)
      ∧ r.2.mem ((c.tc : Thread Cert.MemNormBIdeal.nD Cert.MemNormBIdeal.τ).loc Cert.MemNormBIdeal.main_arg2) = m ((c.tc : Thread Cert.MemNormBIdeal.nD Cert.MemNormBIdeal.τ).loc Cert.MemNormBIdeal.main_arg2))
      ∧ r.2.sem = fun _ => 0)

def quiescent_MemNormBRefIdeal [hMemNormBRefIdeal : Cert.MemNormBRefIdeal.Facts] : Prop :=
  ∀ (m : (ℓ : Loc Cert.MemNormBRefIdeal.nD Cert.MemNormBRefIdeal.τ Cert.MemNormBRefIdeal.sig) → Buf (Elt Ideal) ℓ) (g : Dev Cert.MemNormBRefIdeal.nD → PrngReg), Pre_MemNormBRefIdeal m →
    θ_run (Cert.MemNormBRefIdeal.defs (F := Ideal)) (onTc (τ := Cert.MemNormBRefIdeal.τ) (Cert.MemNormBRefIdeal.main (F := Ideal))) ⟨m, fun _ => 0, g⟩ (fun r => (∀ c : Dev Cert.MemNormBRefIdeal.nD,
      r.2.mem ((c.tc : Thread Cert.MemNormBRefIdeal.nD Cert.MemNormBRefIdeal.τ).loc Cert.MemNormBRefIdeal.main_arg0) = m ((c.tc : Thread Cert.MemNormBRefIdeal.nD Cert.MemNormBRefIdeal.τ).loc Cert.MemNormBRefIdeal.main_arg0)
      ∧ r.2.mem ((c.tc : Thread Cert.MemNormBRefIdeal.nD Cert.MemNormBRefIdeal.τ).loc Cert.MemNormBRefIdeal.main_arg1) = m ((c.tc : Thread Cert.MemNormBRefIdeal.nD Cert.MemNormBRefIdeal.τ).loc Cert.MemNormBRefIdeal.main_arg1)
      ∧ r.2.mem ((c.tc : Thread Cert.MemNormBRefIdeal.nD Cert.MemNormBRefIdeal.τ).loc Cert.MemNormBRefIdeal.main_arg2) = m ((c.tc : Thread Cert.MemNormBRefIdeal.nD Cert.MemNormBRefIdeal.τ).loc Cert.MemNormBRefIdeal.main_arg2))
      ∧ r.2.sem = fun _ => 0)

def quiescent_HgrnF [hHgrnF : Cert.HgrnF.Facts] : Prop :=
  ∀ (m : (ℓ : Loc Cert.HgrnF.nD Cert.HgrnF.τ Cert.HgrnF.sig) → Buf (Elt Bits) ℓ) (g : Dev Cert.HgrnF.nD → PrngReg), Pre_HgrnF m →
    θ_run (Cert.HgrnF.defs (F := Bits)) (onTc (τ := Cert.HgrnF.τ) (Cert.HgrnF.main (F := Bits))) ⟨m, fun _ => 0, g⟩ (fun r => (∀ c : Dev Cert.HgrnF.nD,
      r.2.mem ((c.tc : Thread Cert.HgrnF.nD Cert.HgrnF.τ).loc Cert.HgrnF.main_arg0) = m ((c.tc : Thread Cert.HgrnF.nD Cert.HgrnF.τ).loc Cert.HgrnF.main_arg0)
      ∧ r.2.mem ((c.tc : Thread Cert.HgrnF.nD Cert.HgrnF.τ).loc Cert.HgrnF.main_arg1) = m ((c.tc : Thread Cert.HgrnF.nD Cert.HgrnF.τ).loc Cert.HgrnF.main_arg1)
      ∧ r.2.mem ((c.tc : Thread Cert.HgrnF.nD Cert.HgrnF.τ).loc Cert.HgrnF.main_arg2) = m ((c.tc : Thread Cert.HgrnF.nD Cert.HgrnF.τ).loc Cert.HgrnF.main_arg2))
      ∧ r.2.sem = fun _ => 0)

def quiescent_HgrnFIdeal [hHgrnFIdeal : Cert.HgrnFIdeal.Facts] : Prop :=
  ∀ (m : (ℓ : Loc Cert.HgrnFIdeal.nD Cert.HgrnFIdeal.τ Cert.HgrnFIdeal.sig) → Buf (Elt Ideal) ℓ) (g : Dev Cert.HgrnFIdeal.nD → PrngReg), Pre_HgrnFIdeal m →
    θ_run (Cert.HgrnFIdeal.defs (F := Ideal)) (onTc (τ := Cert.HgrnFIdeal.τ) (Cert.HgrnFIdeal.main (F := Ideal))) ⟨m, fun _ => 0, g⟩ (fun r => (∀ c : Dev Cert.HgrnFIdeal.nD,
      r.2.mem ((c.tc : Thread Cert.HgrnFIdeal.nD Cert.HgrnFIdeal.τ).loc Cert.HgrnFIdeal.main_arg0) = m ((c.tc : Thread Cert.HgrnFIdeal.nD Cert.HgrnFIdeal.τ).loc Cert.HgrnFIdeal.main_arg0)
      ∧ r.2.mem ((c.tc : Thread Cert.HgrnFIdeal.nD Cert.HgrnFIdeal.τ).loc Cert.HgrnFIdeal.main_arg1) = m ((c.tc : Thread Cert.HgrnFIdeal.nD Cert.HgrnFIdeal.τ).loc Cert.HgrnFIdeal.main_arg1)
      ∧ r.2.mem ((c.tc : Thread Cert.HgrnFIdeal.nD Cert.HgrnFIdeal.τ).loc Cert.HgrnFIdeal.main_arg2) = m ((c.tc : Thread Cert.HgrnFIdeal.nD Cert.HgrnFIdeal.τ).loc Cert.HgrnFIdeal.main_arg2))
      ∧ r.2.sem = fun _ => 0)

def quiescent_HgrnFIdeal_pre_finite_gates [hHgrnFIdeal : Cert.HgrnFIdeal.Facts] [hPre_finite_gates : Cert.Pre_finite_gates.Facts] : Prop :=
  ∀ (m : (ℓ : Loc Cert.HgrnFIdeal.nD Cert.HgrnFIdeal.τ Cert.HgrnFIdeal.sig) → Buf (Elt Ideal) ℓ) (g : Dev Cert.HgrnFIdeal.nD → PrngReg), Pre_HgrnFIdeal_finite_gates m →
    θ_run (Cert.HgrnFIdeal.defs (F := Ideal)) (onTc (τ := Cert.HgrnFIdeal.τ) (Cert.HgrnFIdeal.main (F := Ideal))) ⟨m, fun _ => 0, g⟩ (fun r => (∀ c : Dev Cert.HgrnFIdeal.nD,
      r.2.mem ((c.tc : Thread Cert.HgrnFIdeal.nD Cert.HgrnFIdeal.τ).loc Cert.HgrnFIdeal.main_arg0) = m ((c.tc : Thread Cert.HgrnFIdeal.nD Cert.HgrnFIdeal.τ).loc Cert.HgrnFIdeal.main_arg0)
      ∧ r.2.mem ((c.tc : Thread Cert.HgrnFIdeal.nD Cert.HgrnFIdeal.τ).loc Cert.HgrnFIdeal.main_arg1) = m ((c.tc : Thread Cert.HgrnFIdeal.nD Cert.HgrnFIdeal.τ).loc Cert.HgrnFIdeal.main_arg1)
      ∧ r.2.mem ((c.tc : Thread Cert.HgrnFIdeal.nD Cert.HgrnFIdeal.τ).loc Cert.HgrnFIdeal.main_arg2) = m ((c.tc : Thread Cert.HgrnFIdeal.nD Cert.HgrnFIdeal.τ).loc Cert.HgrnFIdeal.main_arg2))
      ∧ r.2.sem = fun _ => 0)

def quiescent_HgrnFRefIdeal [hHgrnFRefIdeal : Cert.HgrnFRefIdeal.Facts] : Prop :=
  ∀ (m : (ℓ : Loc Cert.HgrnFRefIdeal.nD Cert.HgrnFRefIdeal.τ Cert.HgrnFRefIdeal.sig) → Buf (Elt Ideal) ℓ) (g : Dev Cert.HgrnFRefIdeal.nD → PrngReg), Pre_HgrnFRefIdeal m →
    θ_run (Cert.HgrnFRefIdeal.defs (F := Ideal)) (onTc (τ := Cert.HgrnFRefIdeal.τ) (Cert.HgrnFRefIdeal.main (F := Ideal))) ⟨m, fun _ => 0, g⟩ (fun r => (∀ c : Dev Cert.HgrnFRefIdeal.nD,
      r.2.mem ((c.tc : Thread Cert.HgrnFRefIdeal.nD Cert.HgrnFRefIdeal.τ).loc Cert.HgrnFRefIdeal.main_arg0) = m ((c.tc : Thread Cert.HgrnFRefIdeal.nD Cert.HgrnFRefIdeal.τ).loc Cert.HgrnFRefIdeal.main_arg0)
      ∧ r.2.mem ((c.tc : Thread Cert.HgrnFRefIdeal.nD Cert.HgrnFRefIdeal.τ).loc Cert.HgrnFRefIdeal.main_arg1) = m ((c.tc : Thread Cert.HgrnFRefIdeal.nD Cert.HgrnFRefIdeal.τ).loc Cert.HgrnFRefIdeal.main_arg1)
      ∧ r.2.mem ((c.tc : Thread Cert.HgrnFRefIdeal.nD Cert.HgrnFRefIdeal.τ).loc Cert.HgrnFRefIdeal.main_arg2) = m ((c.tc : Thread Cert.HgrnFRefIdeal.nD Cert.HgrnFRefIdeal.τ).loc Cert.HgrnFRefIdeal.main_arg2))
      ∧ r.2.sem = fun _ => 0)

def quiescent_HgrnFRefIdeal_pre_finite_gates [hHgrnFRefIdeal : Cert.HgrnFRefIdeal.Facts] [hPre_finite_gates : Cert.Pre_finite_gates.Facts] : Prop :=
  ∀ (m : (ℓ : Loc Cert.HgrnFRefIdeal.nD Cert.HgrnFRefIdeal.τ Cert.HgrnFRefIdeal.sig) → Buf (Elt Ideal) ℓ) (g : Dev Cert.HgrnFRefIdeal.nD → PrngReg), Pre_HgrnFRefIdeal_finite_gates m →
    θ_run (Cert.HgrnFRefIdeal.defs (F := Ideal)) (onTc (τ := Cert.HgrnFRefIdeal.τ) (Cert.HgrnFRefIdeal.main (F := Ideal))) ⟨m, fun _ => 0, g⟩ (fun r => (∀ c : Dev Cert.HgrnFRefIdeal.nD,
      r.2.mem ((c.tc : Thread Cert.HgrnFRefIdeal.nD Cert.HgrnFRefIdeal.τ).loc Cert.HgrnFRefIdeal.main_arg0) = m ((c.tc : Thread Cert.HgrnFRefIdeal.nD Cert.HgrnFRefIdeal.τ).loc Cert.HgrnFRefIdeal.main_arg0)
      ∧ r.2.mem ((c.tc : Thread Cert.HgrnFRefIdeal.nD Cert.HgrnFRefIdeal.τ).loc Cert.HgrnFRefIdeal.main_arg1) = m ((c.tc : Thread Cert.HgrnFRefIdeal.nD Cert.HgrnFRefIdeal.τ).loc Cert.HgrnFRefIdeal.main_arg1)
      ∧ r.2.mem ((c.tc : Thread Cert.HgrnFRefIdeal.nD Cert.HgrnFRefIdeal.τ).loc Cert.HgrnFRefIdeal.main_arg2) = m ((c.tc : Thread Cert.HgrnFRefIdeal.nD Cert.HgrnFRefIdeal.τ).loc Cert.HgrnFRefIdeal.main_arg2))
      ∧ r.2.sem = fun _ => 0)

def quiescent_NormInB [hNormInB : Cert.NormInB.Facts] : Prop :=
  ∀ (m : (ℓ : Loc Cert.NormInB.nD Cert.NormInB.τ Cert.NormInB.sig) → Buf (Elt Bits) ℓ) (g : Dev Cert.NormInB.nD → PrngReg), Pre_NormInB m →
    θ_run (Cert.NormInB.defs (F := Bits)) (onTc (τ := Cert.NormInB.τ) (Cert.NormInB.main (F := Bits))) ⟨m, fun _ => 0, g⟩ (fun r => (∀ c : Dev Cert.NormInB.nD,
      r.2.mem ((c.tc : Thread Cert.NormInB.nD Cert.NormInB.τ).loc Cert.NormInB.main_arg0) = m ((c.tc : Thread Cert.NormInB.nD Cert.NormInB.τ).loc Cert.NormInB.main_arg0)
      ∧ r.2.mem ((c.tc : Thread Cert.NormInB.nD Cert.NormInB.τ).loc Cert.NormInB.main_arg1) = m ((c.tc : Thread Cert.NormInB.nD Cert.NormInB.τ).loc Cert.NormInB.main_arg1)
      ∧ r.2.mem ((c.tc : Thread Cert.NormInB.nD Cert.NormInB.τ).loc Cert.NormInB.main_arg2) = m ((c.tc : Thread Cert.NormInB.nD Cert.NormInB.τ).loc Cert.NormInB.main_arg2)
      ∧ r.2.mem ((c.tc : Thread Cert.NormInB.nD Cert.NormInB.τ).loc Cert.NormInB.main_arg3) = m ((c.tc : Thread Cert.NormInB.nD Cert.NormInB.τ).loc Cert.NormInB.main_arg3))
      ∧ r.2.sem = fun _ => 0)

def quiescent_NormInBIdeal [hNormInBIdeal : Cert.NormInBIdeal.Facts] : Prop :=
  ∀ (m : (ℓ : Loc Cert.NormInBIdeal.nD Cert.NormInBIdeal.τ Cert.NormInBIdeal.sig) → Buf (Elt Ideal) ℓ) (g : Dev Cert.NormInBIdeal.nD → PrngReg), Pre_NormInBIdeal m →
    θ_run (Cert.NormInBIdeal.defs (F := Ideal)) (onTc (τ := Cert.NormInBIdeal.τ) (Cert.NormInBIdeal.main (F := Ideal))) ⟨m, fun _ => 0, g⟩ (fun r => (∀ c : Dev Cert.NormInBIdeal.nD,
      r.2.mem ((c.tc : Thread Cert.NormInBIdeal.nD Cert.NormInBIdeal.τ).loc Cert.NormInBIdeal.main_arg0) = m ((c.tc : Thread Cert.NormInBIdeal.nD Cert.NormInBIdeal.τ).loc Cert.NormInBIdeal.main_arg0)
      ∧ r.2.mem ((c.tc : Thread Cert.NormInBIdeal.nD Cert.NormInBIdeal.τ).loc Cert.NormInBIdeal.main_arg1) = m ((c.tc : Thread Cert.NormInBIdeal.nD Cert.NormInBIdeal.τ).loc Cert.NormInBIdeal.main_arg1)
      ∧ r.2.mem ((c.tc : Thread Cert.NormInBIdeal.nD Cert.NormInBIdeal.τ).loc Cert.NormInBIdeal.main_arg2) = m ((c.tc : Thread Cert.NormInBIdeal.nD Cert.NormInBIdeal.τ).loc Cert.NormInBIdeal.main_arg2)
      ∧ r.2.mem ((c.tc : Thread Cert.NormInBIdeal.nD Cert.NormInBIdeal.τ).loc Cert.NormInBIdeal.main_arg3) = m ((c.tc : Thread Cert.NormInBIdeal.nD Cert.NormInBIdeal.τ).loc Cert.NormInBIdeal.main_arg3))
      ∧ r.2.sem = fun _ => 0)

def quiescent_NormInBIdeal_pre_finite_rows [hNormInBIdeal : Cert.NormInBIdeal.Facts] [hPre_finite_rows : Cert.Pre_finite_rows.Facts] : Prop :=
  ∀ (m : (ℓ : Loc Cert.NormInBIdeal.nD Cert.NormInBIdeal.τ Cert.NormInBIdeal.sig) → Buf (Elt Ideal) ℓ) (g : Dev Cert.NormInBIdeal.nD → PrngReg), Pre_NormInBIdeal_finite_rows m →
    θ_run (Cert.NormInBIdeal.defs (F := Ideal)) (onTc (τ := Cert.NormInBIdeal.τ) (Cert.NormInBIdeal.main (F := Ideal))) ⟨m, fun _ => 0, g⟩ (fun r => (∀ c : Dev Cert.NormInBIdeal.nD,
      r.2.mem ((c.tc : Thread Cert.NormInBIdeal.nD Cert.NormInBIdeal.τ).loc Cert.NormInBIdeal.main_arg0) = m ((c.tc : Thread Cert.NormInBIdeal.nD Cert.NormInBIdeal.τ).loc Cert.NormInBIdeal.main_arg0)
      ∧ r.2.mem ((c.tc : Thread Cert.NormInBIdeal.nD Cert.NormInBIdeal.τ).loc Cert.NormInBIdeal.main_arg1) = m ((c.tc : Thread Cert.NormInBIdeal.nD Cert.NormInBIdeal.τ).loc Cert.NormInBIdeal.main_arg1)
      ∧ r.2.mem ((c.tc : Thread Cert.NormInBIdeal.nD Cert.NormInBIdeal.τ).loc Cert.NormInBIdeal.main_arg2) = m ((c.tc : Thread Cert.NormInBIdeal.nD Cert.NormInBIdeal.τ).loc Cert.NormInBIdeal.main_arg2)
      ∧ r.2.mem ((c.tc : Thread Cert.NormInBIdeal.nD Cert.NormInBIdeal.τ).loc Cert.NormInBIdeal.main_arg3) = m ((c.tc : Thread Cert.NormInBIdeal.nD Cert.NormInBIdeal.τ).loc Cert.NormInBIdeal.main_arg3))
      ∧ r.2.sem = fun _ => 0)

def quiescent_NormInBRefIdeal [hNormInBRefIdeal : Cert.NormInBRefIdeal.Facts] : Prop :=
  ∀ (m : (ℓ : Loc Cert.NormInBRefIdeal.nD Cert.NormInBRefIdeal.τ Cert.NormInBRefIdeal.sig) → Buf (Elt Ideal) ℓ) (g : Dev Cert.NormInBRefIdeal.nD → PrngReg), Pre_NormInBRefIdeal m →
    θ_run (Cert.NormInBRefIdeal.defs (F := Ideal)) (onTc (τ := Cert.NormInBRefIdeal.τ) (Cert.NormInBRefIdeal.main (F := Ideal))) ⟨m, fun _ => 0, g⟩ (fun r => (∀ c : Dev Cert.NormInBRefIdeal.nD,
      r.2.mem ((c.tc : Thread Cert.NormInBRefIdeal.nD Cert.NormInBRefIdeal.τ).loc Cert.NormInBRefIdeal.main_arg0) = m ((c.tc : Thread Cert.NormInBRefIdeal.nD Cert.NormInBRefIdeal.τ).loc Cert.NormInBRefIdeal.main_arg0)
      ∧ r.2.mem ((c.tc : Thread Cert.NormInBRefIdeal.nD Cert.NormInBRefIdeal.τ).loc Cert.NormInBRefIdeal.main_arg1) = m ((c.tc : Thread Cert.NormInBRefIdeal.nD Cert.NormInBRefIdeal.τ).loc Cert.NormInBRefIdeal.main_arg1)
      ∧ r.2.mem ((c.tc : Thread Cert.NormInBRefIdeal.nD Cert.NormInBRefIdeal.τ).loc Cert.NormInBRefIdeal.main_arg2) = m ((c.tc : Thread Cert.NormInBRefIdeal.nD Cert.NormInBRefIdeal.τ).loc Cert.NormInBRefIdeal.main_arg2)
      ∧ r.2.mem ((c.tc : Thread Cert.NormInBRefIdeal.nD Cert.NormInBRefIdeal.τ).loc Cert.NormInBRefIdeal.main_arg3) = m ((c.tc : Thread Cert.NormInBRefIdeal.nD Cert.NormInBRefIdeal.τ).loc Cert.NormInBRefIdeal.main_arg3))
      ∧ r.2.sem = fun _ => 0)

def quiescent_NormInBRefIdeal_pre_finite_rows [hNormInBRefIdeal : Cert.NormInBRefIdeal.Facts] [hPre_finite_rows : Cert.Pre_finite_rows.Facts] : Prop :=
  ∀ (m : (ℓ : Loc Cert.NormInBRefIdeal.nD Cert.NormInBRefIdeal.τ Cert.NormInBRefIdeal.sig) → Buf (Elt Ideal) ℓ) (g : Dev Cert.NormInBRefIdeal.nD → PrngReg), Pre_NormInBRefIdeal_finite_rows m →
    θ_run (Cert.NormInBRefIdeal.defs (F := Ideal)) (onTc (τ := Cert.NormInBRefIdeal.τ) (Cert.NormInBRefIdeal.main (F := Ideal))) ⟨m, fun _ => 0, g⟩ (fun r => (∀ c : Dev Cert.NormInBRefIdeal.nD,
      r.2.mem ((c.tc : Thread Cert.NormInBRefIdeal.nD Cert.NormInBRefIdeal.τ).loc Cert.NormInBRefIdeal.main_arg0) = m ((c.tc : Thread Cert.NormInBRefIdeal.nD Cert.NormInBRefIdeal.τ).loc Cert.NormInBRefIdeal.main_arg0)
      ∧ r.2.mem ((c.tc : Thread Cert.NormInBRefIdeal.nD Cert.NormInBRefIdeal.τ).loc Cert.NormInBRefIdeal.main_arg1) = m ((c.tc : Thread Cert.NormInBRefIdeal.nD Cert.NormInBRefIdeal.τ).loc Cert.NormInBRefIdeal.main_arg1)
      ∧ r.2.mem ((c.tc : Thread Cert.NormInBRefIdeal.nD Cert.NormInBRefIdeal.τ).loc Cert.NormInBRefIdeal.main_arg2) = m ((c.tc : Thread Cert.NormInBRefIdeal.nD Cert.NormInBRefIdeal.τ).loc Cert.NormInBRefIdeal.main_arg2)
      ∧ r.2.mem ((c.tc : Thread Cert.NormInBRefIdeal.nD Cert.NormInBRefIdeal.τ).loc Cert.NormInBRefIdeal.main_arg3) = m ((c.tc : Thread Cert.NormInBRefIdeal.nD Cert.NormInBRefIdeal.τ).loc Cert.NormInBRefIdeal.main_arg3))
      ∧ r.2.sem = fun _ => 0)

def quiescent_ResNormB [hResNormB : Cert.ResNormB.Facts] : Prop :=
  ∀ (m : (ℓ : Loc Cert.ResNormB.nD Cert.ResNormB.τ Cert.ResNormB.sig) → Buf (Elt Bits) ℓ) (g : Dev Cert.ResNormB.nD → PrngReg), Pre_ResNormB m →
    θ_run (Cert.ResNormB.defs (F := Bits)) (onTc (τ := Cert.ResNormB.τ) (Cert.ResNormB.main (F := Bits))) ⟨m, fun _ => 0, g⟩ (fun r => (∀ c : Dev Cert.ResNormB.nD,
      r.2.mem ((c.tc : Thread Cert.ResNormB.nD Cert.ResNormB.τ).loc Cert.ResNormB.main_arg0) = m ((c.tc : Thread Cert.ResNormB.nD Cert.ResNormB.τ).loc Cert.ResNormB.main_arg0)
      ∧ r.2.mem ((c.tc : Thread Cert.ResNormB.nD Cert.ResNormB.τ).loc Cert.ResNormB.main_arg1) = m ((c.tc : Thread Cert.ResNormB.nD Cert.ResNormB.τ).loc Cert.ResNormB.main_arg1)
      ∧ r.2.mem ((c.tc : Thread Cert.ResNormB.nD Cert.ResNormB.τ).loc Cert.ResNormB.main_arg2) = m ((c.tc : Thread Cert.ResNormB.nD Cert.ResNormB.τ).loc Cert.ResNormB.main_arg2)
      ∧ r.2.mem ((c.tc : Thread Cert.ResNormB.nD Cert.ResNormB.τ).loc Cert.ResNormB.main_arg3) = m ((c.tc : Thread Cert.ResNormB.nD Cert.ResNormB.τ).loc Cert.ResNormB.main_arg3)
      ∧ r.2.mem ((c.tc : Thread Cert.ResNormB.nD Cert.ResNormB.τ).loc Cert.ResNormB.main_arg4) = m ((c.tc : Thread Cert.ResNormB.nD Cert.ResNormB.τ).loc Cert.ResNormB.main_arg4)
      ∧ r.2.mem ((c.tc : Thread Cert.ResNormB.nD Cert.ResNormB.τ).loc Cert.ResNormB.main_arg5) = m ((c.tc : Thread Cert.ResNormB.nD Cert.ResNormB.τ).loc Cert.ResNormB.main_arg5))
      ∧ r.2.sem = fun _ => 0)

def quiescent_ResNormBIdeal [hResNormBIdeal : Cert.ResNormBIdeal.Facts] : Prop :=
  ∀ (m : (ℓ : Loc Cert.ResNormBIdeal.nD Cert.ResNormBIdeal.τ Cert.ResNormBIdeal.sig) → Buf (Elt Ideal) ℓ) (g : Dev Cert.ResNormBIdeal.nD → PrngReg), Pre_ResNormBIdeal m →
    θ_run (Cert.ResNormBIdeal.defs (F := Ideal)) (onTc (τ := Cert.ResNormBIdeal.τ) (Cert.ResNormBIdeal.main (F := Ideal))) ⟨m, fun _ => 0, g⟩ (fun r => (∀ c : Dev Cert.ResNormBIdeal.nD,
      r.2.mem ((c.tc : Thread Cert.ResNormBIdeal.nD Cert.ResNormBIdeal.τ).loc Cert.ResNormBIdeal.main_arg0) = m ((c.tc : Thread Cert.ResNormBIdeal.nD Cert.ResNormBIdeal.τ).loc Cert.ResNormBIdeal.main_arg0)
      ∧ r.2.mem ((c.tc : Thread Cert.ResNormBIdeal.nD Cert.ResNormBIdeal.τ).loc Cert.ResNormBIdeal.main_arg1) = m ((c.tc : Thread Cert.ResNormBIdeal.nD Cert.ResNormBIdeal.τ).loc Cert.ResNormBIdeal.main_arg1)
      ∧ r.2.mem ((c.tc : Thread Cert.ResNormBIdeal.nD Cert.ResNormBIdeal.τ).loc Cert.ResNormBIdeal.main_arg2) = m ((c.tc : Thread Cert.ResNormBIdeal.nD Cert.ResNormBIdeal.τ).loc Cert.ResNormBIdeal.main_arg2)
      ∧ r.2.mem ((c.tc : Thread Cert.ResNormBIdeal.nD Cert.ResNormBIdeal.τ).loc Cert.ResNormBIdeal.main_arg3) = m ((c.tc : Thread Cert.ResNormBIdeal.nD Cert.ResNormBIdeal.τ).loc Cert.ResNormBIdeal.main_arg3)
      ∧ r.2.mem ((c.tc : Thread Cert.ResNormBIdeal.nD Cert.ResNormBIdeal.τ).loc Cert.ResNormBIdeal.main_arg4) = m ((c.tc : Thread Cert.ResNormBIdeal.nD Cert.ResNormBIdeal.τ).loc Cert.ResNormBIdeal.main_arg4)
      ∧ r.2.mem ((c.tc : Thread Cert.ResNormBIdeal.nD Cert.ResNormBIdeal.τ).loc Cert.ResNormBIdeal.main_arg5) = m ((c.tc : Thread Cert.ResNormBIdeal.nD Cert.ResNormBIdeal.τ).loc Cert.ResNormBIdeal.main_arg5))
      ∧ r.2.sem = fun _ => 0)

def quiescent_ResNormBIdeal_pre_finite_stream [hResNormBIdeal : Cert.ResNormBIdeal.Facts] [hPre_finite_stream : Cert.Pre_finite_stream.Facts] : Prop :=
  ∀ (m : (ℓ : Loc Cert.ResNormBIdeal.nD Cert.ResNormBIdeal.τ Cert.ResNormBIdeal.sig) → Buf (Elt Ideal) ℓ) (g : Dev Cert.ResNormBIdeal.nD → PrngReg), Pre_ResNormBIdeal_finite_stream m →
    θ_run (Cert.ResNormBIdeal.defs (F := Ideal)) (onTc (τ := Cert.ResNormBIdeal.τ) (Cert.ResNormBIdeal.main (F := Ideal))) ⟨m, fun _ => 0, g⟩ (fun r => (∀ c : Dev Cert.ResNormBIdeal.nD,
      r.2.mem ((c.tc : Thread Cert.ResNormBIdeal.nD Cert.ResNormBIdeal.τ).loc Cert.ResNormBIdeal.main_arg0) = m ((c.tc : Thread Cert.ResNormBIdeal.nD Cert.ResNormBIdeal.τ).loc Cert.ResNormBIdeal.main_arg0)
      ∧ r.2.mem ((c.tc : Thread Cert.ResNormBIdeal.nD Cert.ResNormBIdeal.τ).loc Cert.ResNormBIdeal.main_arg1) = m ((c.tc : Thread Cert.ResNormBIdeal.nD Cert.ResNormBIdeal.τ).loc Cert.ResNormBIdeal.main_arg1)
      ∧ r.2.mem ((c.tc : Thread Cert.ResNormBIdeal.nD Cert.ResNormBIdeal.τ).loc Cert.ResNormBIdeal.main_arg2) = m ((c.tc : Thread Cert.ResNormBIdeal.nD Cert.ResNormBIdeal.τ).loc Cert.ResNormBIdeal.main_arg2)
      ∧ r.2.mem ((c.tc : Thread Cert.ResNormBIdeal.nD Cert.ResNormBIdeal.τ).loc Cert.ResNormBIdeal.main_arg3) = m ((c.tc : Thread Cert.ResNormBIdeal.nD Cert.ResNormBIdeal.τ).loc Cert.ResNormBIdeal.main_arg3)
      ∧ r.2.mem ((c.tc : Thread Cert.ResNormBIdeal.nD Cert.ResNormBIdeal.τ).loc Cert.ResNormBIdeal.main_arg4) = m ((c.tc : Thread Cert.ResNormBIdeal.nD Cert.ResNormBIdeal.τ).loc Cert.ResNormBIdeal.main_arg4)
      ∧ r.2.mem ((c.tc : Thread Cert.ResNormBIdeal.nD Cert.ResNormBIdeal.τ).loc Cert.ResNormBIdeal.main_arg5) = m ((c.tc : Thread Cert.ResNormBIdeal.nD Cert.ResNormBIdeal.τ).loc Cert.ResNormBIdeal.main_arg5))
      ∧ r.2.sem = fun _ => 0)

def quiescent_ResNormBRefIdeal [hResNormBRefIdeal : Cert.ResNormBRefIdeal.Facts] : Prop :=
  ∀ (m : (ℓ : Loc Cert.ResNormBRefIdeal.nD Cert.ResNormBRefIdeal.τ Cert.ResNormBRefIdeal.sig) → Buf (Elt Ideal) ℓ) (g : Dev Cert.ResNormBRefIdeal.nD → PrngReg), Pre_ResNormBRefIdeal m →
    θ_run (Cert.ResNormBRefIdeal.defs (F := Ideal)) (onTc (τ := Cert.ResNormBRefIdeal.τ) (Cert.ResNormBRefIdeal.main (F := Ideal))) ⟨m, fun _ => 0, g⟩ (fun r => (∀ c : Dev Cert.ResNormBRefIdeal.nD,
      r.2.mem ((c.tc : Thread Cert.ResNormBRefIdeal.nD Cert.ResNormBRefIdeal.τ).loc Cert.ResNormBRefIdeal.main_arg0) = m ((c.tc : Thread Cert.ResNormBRefIdeal.nD Cert.ResNormBRefIdeal.τ).loc Cert.ResNormBRefIdeal.main_arg0)
      ∧ r.2.mem ((c.tc : Thread Cert.ResNormBRefIdeal.nD Cert.ResNormBRefIdeal.τ).loc Cert.ResNormBRefIdeal.main_arg1) = m ((c.tc : Thread Cert.ResNormBRefIdeal.nD Cert.ResNormBRefIdeal.τ).loc Cert.ResNormBRefIdeal.main_arg1)
      ∧ r.2.mem ((c.tc : Thread Cert.ResNormBRefIdeal.nD Cert.ResNormBRefIdeal.τ).loc Cert.ResNormBRefIdeal.main_arg2) = m ((c.tc : Thread Cert.ResNormBRefIdeal.nD Cert.ResNormBRefIdeal.τ).loc Cert.ResNormBRefIdeal.main_arg2)
      ∧ r.2.mem ((c.tc : Thread Cert.ResNormBRefIdeal.nD Cert.ResNormBRefIdeal.τ).loc Cert.ResNormBRefIdeal.main_arg3) = m ((c.tc : Thread Cert.ResNormBRefIdeal.nD Cert.ResNormBRefIdeal.τ).loc Cert.ResNormBRefIdeal.main_arg3)
      ∧ r.2.mem ((c.tc : Thread Cert.ResNormBRefIdeal.nD Cert.ResNormBRefIdeal.τ).loc Cert.ResNormBRefIdeal.main_arg4) = m ((c.tc : Thread Cert.ResNormBRefIdeal.nD Cert.ResNormBRefIdeal.τ).loc Cert.ResNormBRefIdeal.main_arg4)
      ∧ r.2.mem ((c.tc : Thread Cert.ResNormBRefIdeal.nD Cert.ResNormBRefIdeal.τ).loc Cert.ResNormBRefIdeal.main_arg5) = m ((c.tc : Thread Cert.ResNormBRefIdeal.nD Cert.ResNormBRefIdeal.τ).loc Cert.ResNormBRefIdeal.main_arg5))
      ∧ r.2.sem = fun _ => 0)

def quiescent_ResNormBRefIdeal_pre_finite_stream [hResNormBRefIdeal : Cert.ResNormBRefIdeal.Facts] [hPre_finite_stream : Cert.Pre_finite_stream.Facts] : Prop :=
  ∀ (m : (ℓ : Loc Cert.ResNormBRefIdeal.nD Cert.ResNormBRefIdeal.τ Cert.ResNormBRefIdeal.sig) → Buf (Elt Ideal) ℓ) (g : Dev Cert.ResNormBRefIdeal.nD → PrngReg), Pre_ResNormBRefIdeal_finite_stream m →
    θ_run (Cert.ResNormBRefIdeal.defs (F := Ideal)) (onTc (τ := Cert.ResNormBRefIdeal.τ) (Cert.ResNormBRefIdeal.main (F := Ideal))) ⟨m, fun _ => 0, g⟩ (fun r => (∀ c : Dev Cert.ResNormBRefIdeal.nD,
      r.2.mem ((c.tc : Thread Cert.ResNormBRefIdeal.nD Cert.ResNormBRefIdeal.τ).loc Cert.ResNormBRefIdeal.main_arg0) = m ((c.tc : Thread Cert.ResNormBRefIdeal.nD Cert.ResNormBRefIdeal.τ).loc Cert.ResNormBRefIdeal.main_arg0)
      ∧ r.2.mem ((c.tc : Thread Cert.ResNormBRefIdeal.nD Cert.ResNormBRefIdeal.τ).loc Cert.ResNormBRefIdeal.main_arg1) = m ((c.tc : Thread Cert.ResNormBRefIdeal.nD Cert.ResNormBRefIdeal.τ).loc Cert.ResNormBRefIdeal.main_arg1)
      ∧ r.2.mem ((c.tc : Thread Cert.ResNormBRefIdeal.nD Cert.ResNormBRefIdeal.τ).loc Cert.ResNormBRefIdeal.main_arg2) = m ((c.tc : Thread Cert.ResNormBRefIdeal.nD Cert.ResNormBRefIdeal.τ).loc Cert.ResNormBRefIdeal.main_arg2)
      ∧ r.2.mem ((c.tc : Thread Cert.ResNormBRefIdeal.nD Cert.ResNormBRefIdeal.τ).loc Cert.ResNormBRefIdeal.main_arg3) = m ((c.tc : Thread Cert.ResNormBRefIdeal.nD Cert.ResNormBRefIdeal.τ).loc Cert.ResNormBRefIdeal.main_arg3)
      ∧ r.2.mem ((c.tc : Thread Cert.ResNormBRefIdeal.nD Cert.ResNormBRefIdeal.τ).loc Cert.ResNormBRefIdeal.main_arg4) = m ((c.tc : Thread Cert.ResNormBRefIdeal.nD Cert.ResNormBRefIdeal.τ).loc Cert.ResNormBRefIdeal.main_arg4)
      ∧ r.2.mem ((c.tc : Thread Cert.ResNormBRefIdeal.nD Cert.ResNormBRefIdeal.τ).loc Cert.ResNormBRefIdeal.main_arg5) = m ((c.tc : Thread Cert.ResNormBRefIdeal.nD Cert.ResNormBRefIdeal.τ).loc Cert.ResNormBRefIdeal.main_arg5))
      ∧ r.2.sem = fun _ => 0)

def quiescent_SwigluB [hSwigluB : Cert.SwigluB.Facts] : Prop :=
  ∀ (m : (ℓ : Loc Cert.SwigluB.nD Cert.SwigluB.τ Cert.SwigluB.sig) → Buf (Elt Bits) ℓ) (g : Dev Cert.SwigluB.nD → PrngReg), Pre_SwigluB m →
    θ_run (Cert.SwigluB.defs (F := Bits)) (onTc (τ := Cert.SwigluB.τ) (Cert.SwigluB.main (F := Bits))) ⟨m, fun _ => 0, g⟩ (fun r => (∀ c : Dev Cert.SwigluB.nD,
      r.2.mem ((c.tc : Thread Cert.SwigluB.nD Cert.SwigluB.τ).loc Cert.SwigluB.main_arg0) = m ((c.tc : Thread Cert.SwigluB.nD Cert.SwigluB.τ).loc Cert.SwigluB.main_arg0)
      ∧ r.2.mem ((c.tc : Thread Cert.SwigluB.nD Cert.SwigluB.τ).loc Cert.SwigluB.main_arg1) = m ((c.tc : Thread Cert.SwigluB.nD Cert.SwigluB.τ).loc Cert.SwigluB.main_arg1)
      ∧ r.2.mem ((c.tc : Thread Cert.SwigluB.nD Cert.SwigluB.τ).loc Cert.SwigluB.main_arg2) = m ((c.tc : Thread Cert.SwigluB.nD Cert.SwigluB.τ).loc Cert.SwigluB.main_arg2))
      ∧ r.2.sem = fun _ => 0)

def quiescent_SwigluBIdeal [hSwigluBIdeal : Cert.SwigluBIdeal.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1)
      ∧ r.2.mem ((c.tc : Thread Cert.SwigluBIdeal.nD Cert.SwigluBIdeal.τ).loc Cert.SwigluBIdeal.main_arg2) = m ((c.tc : Thread Cert.SwigluBIdeal.nD Cert.SwigluBIdeal.τ).loc Cert.SwigluBIdeal.main_arg2))
      ∧ r.2.sem = fun _ => 0)

def quiescent_SwigluBIdeal_pre_finite_gate [hSwigluBIdeal : Cert.SwigluBIdeal.Facts] [hPre_finite_gate : Cert.Pre_finite_gate.Facts] : Prop :=
  ∀ (m : (ℓ : Loc Cert.SwigluBIdeal.nD Cert.SwigluBIdeal.τ Cert.SwigluBIdeal.sig) → Buf (Elt Ideal) ℓ) (g : Dev Cert.SwigluBIdeal.nD → PrngReg), Pre_SwigluBIdeal_finite_gate m →
    θ_run (Cert.SwigluBIdeal.defs (F := Ideal)) (onTc (τ := Cert.SwigluBIdeal.τ) (Cert.SwigluBIdeal.main (F := Ideal))) ⟨m, fun _ => 0, g⟩ (fun r => (∀ c : Dev Cert.SwigluBIdeal.nD,
      r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
      ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1)
      ∧ r.2.mem ((c.tc : Thread Cert.SwigluBIdeal.nD Cert.SwigluBIdeal.τ).loc Cert.SwigluBIdeal.main_arg2) = m ((c.tc : Thread Cert.SwigluBIdeal.nD Cert.SwigluBIdeal.τ).loc Cert.SwigluBIdeal.main_arg2))
      ∧ r.2.sem = fun _ => 0)

def quiescent_SwigluBRefIdeal [hSwigluBRefIdeal : Cert.SwigluBRefIdeal.Facts] : Prop :=
  ∀ (m : (ℓ : Loc Cert.SwigluBRefIdeal.nD Cert.SwigluBRefIdeal.τ Cert.SwigluBRefIdeal.sig) → Buf (Elt Ideal) ℓ) (g : Dev Cert.SwigluBRefIdeal.nD → PrngReg), Pre_SwigluBRefIdeal m →
    θ_run (Cert.SwigluBRefIdeal.defs (F := Ideal)) (onTc (τ := Cert.SwigluBRefIdeal.τ) (Cert.SwigluBRefIdeal.main (F := Ideal))) ⟨m, fun _ => 0, g⟩ (fun r => (∀ c : Dev Cert.SwigluBRefIdeal.nD,
      r.2.mem ((c.tc : Thread Cert.SwigluBRefIdeal.nD Cert.SwigluBRefIdeal.τ).loc Cert.SwigluBRefIdeal.main_arg0) = m ((c.tc : Thread Cert.SwigluBRefIdeal.nD Cert.SwigluBRefIdeal.τ).loc Cert.SwigluBRefIdeal.main_arg0)
      ∧ r.2.mem ((c.tc : Thread Cert.SwigluBRefIdeal.nD Cert.SwigluBRefIdeal.τ).loc Cert.SwigluBRefIdeal.main_arg1) = m ((c.tc : Thread Cert.SwigluBRefIdeal.nD Cert.SwigluBRefIdeal.τ).loc Cert.SwigluBRefIdeal.main_arg1)
      ∧ r.2.mem ((c.tc : Thread Cert.SwigluBRefIdeal.nD Cert.SwigluBRefIdeal.τ).loc Cert.SwigluBRefIdeal.main_arg2) = m ((c.tc : Thread Cert.SwigluBRefIdeal.nD Cert.SwigluBRefIdeal.τ).loc Cert.SwigluBRefIdeal.main_arg2))
      ∧ r.2.sem = fun _ => 0)

def quiescent_SwigluBRefIdeal_pre_finite_gate [hSwigluBRefIdeal : Cert.SwigluBRefIdeal.Facts] [hPre_finite_gate : Cert.Pre_finite_gate.Facts] : Prop :=
  ∀ (m : (ℓ : Loc Cert.SwigluBRefIdeal.nD Cert.SwigluBRefIdeal.τ Cert.SwigluBRefIdeal.sig) → Buf (Elt Ideal) ℓ) (g : Dev Cert.SwigluBRefIdeal.nD → PrngReg), Pre_SwigluBRefIdeal_finite_gate m →
    θ_run (Cert.SwigluBRefIdeal.defs (F := Ideal)) (onTc (τ := Cert.SwigluBRefIdeal.τ) (Cert.SwigluBRefIdeal.main (F := Ideal))) ⟨m, fun _ => 0, g⟩ (fun r => (∀ c : Dev Cert.SwigluBRefIdeal.nD,
      r.2.mem ((c.tc : Thread Cert.SwigluBRefIdeal.nD Cert.SwigluBRefIdeal.τ).loc Cert.SwigluBRefIdeal.main_arg0) = m ((c.tc : Thread Cert.SwigluBRefIdeal.nD Cert.SwigluBRefIdeal.τ).loc Cert.SwigluBRefIdeal.main_arg0)
      ∧ r.2.mem ((c.tc : Thread Cert.SwigluBRefIdeal.nD Cert.SwigluBRefIdeal.τ).loc Cert.SwigluBRefIdeal.main_arg1) = m ((c.tc : Thread Cert.SwigluBRefIdeal.nD Cert.SwigluBRefIdeal.τ).loc Cert.SwigluBRefIdeal.main_arg1)
      ∧ r.2.mem ((c.tc : Thread Cert.SwigluBRefIdeal.nD Cert.SwigluBRefIdeal.τ).loc Cert.SwigluBRefIdeal.main_arg2) = m ((c.tc : Thread Cert.SwigluBRefIdeal.nD Cert.SwigluBRefIdeal.τ).loc Cert.SwigluBRefIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)) →
    ∃ (v0 : (c : Dev Cert.FfnOutDxIdeal.nD) → Buf (Elt Ideal) ((c.tc : Thread Cert.FfnOutDxIdeal.nD Cert.FfnOutDxIdeal.τ).loc Cert.FfnOutDxIdeal.main_v0)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v5) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v5) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v4) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v5) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_AbInDx_AbInDxIdeal : Prop :=
  True

def algebraic_AbInDxIdeal_AbInDxRefIdeal [hAbInDxIdeal : Cert.AbInDxIdeal.Facts] [hAbInDxRefIdeal : Cert.AbInDxRefIdeal.Facts] : Prop :=
  ∀ (m : (ℓ : Loc Cert.AbInDxIdeal.nD Cert.AbInDxIdeal.τ Cert.AbInDxIdeal.sig) → Buf (Elt Ideal) ℓ) (g : Dev Cert.AbInDxIdeal.nD → PrngReg)
    (m' : (ℓ : Loc Cert.AbInDxRefIdeal.nD Cert.AbInDxRefIdeal.τ Cert.AbInDxRefIdeal.sig) → Buf (Elt Ideal) ℓ) (g' : Dev Cert.AbInDxRefIdeal.nD → PrngReg), Pre_AbInDxIdeal m →
    (∀ c : Dev Cert.AbInDxIdeal.nD,
      m' ((c.tc : Thread Cert.AbInDxRefIdeal.nD Cert.AbInDxRefIdeal.τ).loc Cert.AbInDxRefIdeal.main_arg0) = m ((c.tc : Thread Cert.AbInDxIdeal.nD Cert.AbInDxIdeal.τ).loc Cert.AbInDxIdeal.main_arg0)
      ∧ m' ((c.tc : Thread Cert.AbInDxRefIdeal.nD Cert.AbInDxRefIdeal.τ).loc Cert.AbInDxRefIdeal.main_arg1) = m ((c.tc : Thread Cert.AbInDxIdeal.nD Cert.AbInDxIdeal.τ).loc Cert.AbInDxIdeal.main_arg1)) →
    ∃ (v0 : (c : Dev Cert.AbInDxIdeal.nD) → Buf (Elt Ideal) ((c.tc : Thread Cert.AbInDxIdeal.nD Cert.AbInDxIdeal.τ).loc Cert.AbInDxIdeal.main_v0)),
      θ_run (Cert.AbInDxIdeal.defs (F := Ideal)) (onTc (τ := Cert.AbInDxIdeal.τ) (Cert.AbInDxIdeal.main (F := Ideal))) ⟨m, fun _ => 0, g⟩ (fun r => ∀ c : Dev Cert.AbInDxIdeal.nD,
          r.2.mem ((c.tc : Thread Cert.AbInDxIdeal.nD Cert.AbInDxIdeal.τ).loc Cert.AbInDxIdeal.main_v0) = v0 c
          ∧ r.2.mem ((c.tc : Thread Cert.AbInDxIdeal.nD Cert.AbInDxIdeal.τ).loc Cert.AbInDxIdeal.main_arg0) = m ((c.tc : Thread Cert.AbInDxIdeal.nD Cert.AbInDxIdeal.τ).loc Cert.AbInDxIdeal.main_arg0)
          ∧ r.2.mem ((c.tc : Thread Cert.AbInDxIdeal.nD Cert.AbInDxIdeal.τ).loc Cert.AbInDxIdeal.main_arg1) = m ((c.tc : Thread Cert.AbInDxIdeal.nD Cert.AbInDxIdeal.τ).loc Cert.AbInDxIdeal.main_arg1))
      ∧ θ_run (Cert.AbInDxRefIdeal.defs (F := Ideal)) (onTc (τ := Cert.AbInDxRefIdeal.τ) (Cert.AbInDxRefIdeal.main (F := Ideal))) ⟨m', fun _ => 0, g'⟩ (fun r => ∀ c : Dev Cert.AbInDxRefIdeal.nD,
          r.2.mem ((c.tc : Thread Cert.AbInDxRefIdeal.nD Cert.AbInDxRefIdeal.τ).loc Cert.AbInDxRefIdeal.main_v4) = v0 c
          ∧ r.2.mem ((c.tc : Thread Cert.AbInDxRefIdeal.nD Cert.AbInDxRefIdeal.τ).loc Cert.AbInDxRefIdeal.main_arg0) = m' ((c.tc : Thread Cert.AbInDxRefIdeal.nD Cert.AbInDxRefIdeal.τ).loc Cert.AbInDxRefIdeal.main_arg0)
          ∧ r.2.mem ((c.tc : Thread Cert.AbInDxRefIdeal.nD Cert.AbInDxRefIdeal.τ).loc Cert.AbInDxRefIdeal.main_arg1) = m' ((c.tc : Thread Cert.AbInDxRefIdeal.nD Cert.AbInDxRefIdeal.τ).loc Cert.AbInDxRefIdeal.main_arg1))

def preserves_AbInDw_AbInDwIdeal : Prop :=
  True

def algebraic_AbInDwIdeal_AbInDwRefIdeal [hAbInDwIdeal : Cert.AbInDwIdeal.Facts] [hAbInDwRefIdeal : Cert.AbInDwRefIdeal.Facts] : Prop :=
  ∀ (m : (ℓ : Loc Cert.AbInDwIdeal.nD Cert.AbInDwIdeal.τ Cert.AbInDwIdeal.sig) → Buf (Elt Ideal) ℓ) (g : Dev Cert.AbInDwIdeal.nD → PrngReg)
    (m' : (ℓ : Loc Cert.AbInDwRefIdeal.nD Cert.AbInDwRefIdeal.τ Cert.AbInDwRefIdeal.sig) → Buf (Elt Ideal) ℓ) (g' : Dev Cert.AbInDwRefIdeal.nD → PrngReg), Pre_AbInDwIdeal m →
    (∀ c : Dev Cert.AbInDwIdeal.nD,
      m' ((c.tc : Thread Cert.AbInDwRefIdeal.nD Cert.AbInDwRefIdeal.τ).loc Cert.AbInDwRefIdeal.main_arg0) = m ((c.tc : Thread Cert.AbInDwIdeal.nD Cert.AbInDwIdeal.τ).loc Cert.AbInDwIdeal.main_arg0)
      ∧ m' ((c.tc : Thread Cert.AbInDwRefIdeal.nD Cert.AbInDwRefIdeal.τ).loc Cert.AbInDwRefIdeal.main_arg1) = m ((c.tc : Thread Cert.AbInDwIdeal.nD Cert.AbInDwIdeal.τ).loc Cert.AbInDwIdeal.main_arg1)) →
    ∃ (v0 : (c : Dev Cert.AbInDwIdeal.nD) → Buf (Elt Ideal) ((c.tc : Thread Cert.AbInDwIdeal.nD Cert.AbInDwIdeal.τ).loc Cert.AbInDwIdeal.main_v0)),
      θ_run (Cert.AbInDwIdeal.defs (F := Ideal)) (onTc (τ := Cert.AbInDwIdeal.τ) (Cert.AbInDwIdeal.main (F := Ideal))) ⟨m, fun _ => 0, g⟩ (fun r => ∀ c : Dev Cert.AbInDwIdeal.nD,
          r.2.mem ((c.tc : Thread Cert.AbInDwIdeal.nD Cert.AbInDwIdeal.τ).loc Cert.AbInDwIdeal.main_v0) = v0 c
          ∧ r.2.mem ((c.tc : Thread Cert.AbInDwIdeal.nD Cert.AbInDwIdeal.τ).loc Cert.AbInDwIdeal.main_arg0) = m ((c.tc : Thread Cert.AbInDwIdeal.nD Cert.AbInDwIdeal.τ).loc Cert.AbInDwIdeal.main_arg0)
          ∧ r.2.mem ((c.tc : Thread Cert.AbInDwIdeal.nD Cert.AbInDwIdeal.τ).loc Cert.AbInDwIdeal.main_arg1) = m ((c.tc : Thread Cert.AbInDwIdeal.nD Cert.AbInDwIdeal.τ).loc Cert.AbInDwIdeal.main_arg1))
      ∧ θ_run (Cert.AbInDwRefIdeal.defs (F := Ideal)) (onTc (τ := Cert.AbInDwRefIdeal.τ) (Cert.AbInDwRefIdeal.main (F := Ideal))) ⟨m', fun _ => 0, g'⟩ (fun r => ∀ c : Dev Cert.AbInDwRefIdeal.nD,
          r.2.mem ((c.tc : Thread Cert.AbInDwRefIdeal.nD Cert.AbInDwRefIdeal.τ).loc Cert.AbInDwRefIdeal.main_v5) = v0 c
          ∧ r.2.mem ((c.tc : Thread Cert.AbInDwRefIdeal.nD Cert.AbInDwRefIdeal.τ).loc Cert.AbInDwRefIdeal.main_arg0) = m' ((c.tc : Thread Cert.AbInDwRefIdeal.nD Cert.AbInDwRefIdeal.τ).loc Cert.AbInDwRefIdeal.main_arg0)
          ∧ r.2.mem ((c.tc : Thread Cert.AbInDwRefIdeal.nD Cert.AbInDwRefIdeal.τ).loc Cert.AbInDwRefIdeal.main_arg1) = m' ((c.tc : Thread Cert.AbInDwRefIdeal.nD Cert.AbInDwRefIdeal.τ).loc Cert.AbInDwRefIdeal.main_arg1))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)) →
    ∃ (v0 : (c : Dev Cert.GluDxIdeal.nD) → Buf (Elt Ideal) ((c.tc : Thread Cert.GluDxIdeal.nD Cert.GluDxIdeal.τ).loc Cert.GluDxIdeal.main_v0)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v4) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v5) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_XqDx_XqDxIdeal : Prop :=
  True

def algebraic_XqDxIdeal_XqDxRefIdeal [hXqDxIdeal : Cert.XqDxIdeal.Facts] [hXqDxRefIdeal : Cert.XqDxRefIdeal.Facts] : Prop :=
  ∀ (m : (ℓ : Loc Cert.XqDxIdeal.nD Cert.XqDxIdeal.τ Cert.XqDxIdeal.sig) → Buf (Elt Ideal) ℓ) (g : Dev Cert.XqDxIdeal.nD → PrngReg)
    (m' : (ℓ : Loc Cert.XqDxRefIdeal.nD Cert.XqDxRefIdeal.τ Cert.XqDxRefIdeal.sig) → Buf (Elt Ideal) ℓ) (g' : Dev Cert.XqDxRefIdeal.nD → PrngReg), Pre_XqDxIdeal m →
    (∀ c : Dev Cert.XqDxIdeal.nD,
      m' ((c.tc : Thread Cert.XqDxRefIdeal.nD Cert.XqDxRefIdeal.τ).loc Cert.XqDxRefIdeal.main_arg0) = m ((c.tc : Thread Cert.XqDxIdeal.nD Cert.XqDxIdeal.τ).loc Cert.XqDxIdeal.main_arg0)
      ∧ m' ((c.tc : Thread Cert.XqDxRefIdeal.nD Cert.XqDxRefIdeal.τ).loc Cert.XqDxRefIdeal.main_arg1) = m ((c.tc : Thread Cert.XqDxIdeal.nD Cert.XqDxIdeal.τ).loc Cert.XqDxIdeal.main_arg1)) →
    ∃ (v0 : (c : Dev Cert.XqDxIdeal.nD) → Buf (Elt Ideal) ((c.tc : Thread Cert.XqDxIdeal.nD Cert.XqDxIdeal.τ).loc Cert.XqDxIdeal.main_v0)),
      θ_run (Cert.XqDxIdeal.defs (F := Ideal)) (onTc (τ := Cert.XqDxIdeal.τ) (Cert.XqDxIdeal.main (F := Ideal))) ⟨m, fun _ => 0, g⟩ (fun r => ∀ c : Dev Cert.XqDxIdeal.nD,
          r.2.mem ((c.tc : Thread Cert.XqDxIdeal.nD Cert.XqDxIdeal.τ).loc Cert.XqDxIdeal.main_v0) = v0 c
          ∧ r.2.mem ((c.tc : Thread Cert.XqDxIdeal.nD Cert.XqDxIdeal.τ).loc Cert.XqDxIdeal.main_arg0) = m ((c.tc : Thread Cert.XqDxIdeal.nD Cert.XqDxIdeal.τ).loc Cert.XqDxIdeal.main_arg0)
          ∧ r.2.mem ((c.tc : Thread Cert.XqDxIdeal.nD Cert.XqDxIdeal.τ).loc Cert.XqDxIdeal.main_arg1) = m ((c.tc : Thread Cert.XqDxIdeal.nD Cert.XqDxIdeal.τ).loc Cert.XqDxIdeal.main_arg1))
      ∧ θ_run (Cert.XqDxRefIdeal.defs (F := Ideal)) (onTc (τ := Cert.XqDxRefIdeal.τ) (Cert.XqDxRefIdeal.main (F := Ideal))) ⟨m', fun _ => 0, g'⟩ (fun r => ∀ c : Dev Cert.XqDxRefIdeal.nD,
          r.2.mem ((c.tc : Thread Cert.XqDxRefIdeal.nD Cert.XqDxRefIdeal.τ).loc Cert.XqDxRefIdeal.main_v4) = v0 c
          ∧ r.2.mem ((c.tc : Thread Cert.XqDxRefIdeal.nD Cert.XqDxRefIdeal.τ).loc Cert.XqDxRefIdeal.main_arg0) = m' ((c.tc : Thread Cert.XqDxRefIdeal.nD Cert.XqDxRefIdeal.τ).loc Cert.XqDxRefIdeal.main_arg0)
          ∧ r.2.mem ((c.tc : Thread Cert.XqDxRefIdeal.nD Cert.XqDxRefIdeal.τ).loc Cert.XqDxRefIdeal.main_arg1) = m' ((c.tc : Thread Cert.XqDxRefIdeal.nD Cert.XqDxRefIdeal.τ).loc Cert.XqDxRefIdeal.main_arg1))

def preserves_XqDw_XqDwIdeal : Prop :=
  True

def algebraic_XqDwIdeal_XqDwRefIdeal [hXqDwIdeal : Cert.XqDwIdeal.Facts] [hXqDwRefIdeal : Cert.XqDwRefIdeal.Facts] : Prop :=
  ∀ (m : (ℓ : Loc Cert.XqDwIdeal.nD Cert.XqDwIdeal.τ Cert.XqDwIdeal.sig) → Buf (Elt Ideal) ℓ) (g : Dev Cert.XqDwIdeal.nD → PrngReg)
    (m' : (ℓ : Loc Cert.XqDwRefIdeal.nD Cert.XqDwRefIdeal.τ Cert.XqDwRefIdeal.sig) → Buf (Elt Ideal) ℓ) (g' : Dev Cert.XqDwRefIdeal.nD → PrngReg), Pre_XqDwIdeal m →
    (∀ c : Dev Cert.XqDwIdeal.nD,
      m' ((c.tc : Thread Cert.XqDwRefIdeal.nD Cert.XqDwRefIdeal.τ).loc Cert.XqDwRefIdeal.main_arg0) = m ((c.tc : Thread Cert.XqDwIdeal.nD Cert.XqDwIdeal.τ).loc Cert.XqDwIdeal.main_arg0)
      ∧ m' ((c.tc : Thread Cert.XqDwRefIdeal.nD Cert.XqDwRefIdeal.τ).loc Cert.XqDwRefIdeal.main_arg1) = m ((c.tc : Thread Cert.XqDwIdeal.nD Cert.XqDwIdeal.τ).loc Cert.XqDwIdeal.main_arg1)) →
    ∃ (v0 : (c : Dev Cert.XqDwIdeal.nD) → Buf (Elt Ideal) ((c.tc : Thread Cert.XqDwIdeal.nD Cert.XqDwIdeal.τ).loc Cert.XqDwIdeal.main_v0)),
      θ_run (Cert.XqDwIdeal.defs (F := Ideal)) (onTc (τ := Cert.XqDwIdeal.τ) (Cert.XqDwIdeal.main (F := Ideal))) ⟨m, fun _ => 0, g⟩ (fun r => ∀ c : Dev Cert.XqDwIdeal.nD,
          r.2.mem ((c.tc : Thread Cert.XqDwIdeal.nD Cert.XqDwIdeal.τ).loc Cert.XqDwIdeal.main_v0) = v0 c
          ∧ r.2.mem ((c.tc : Thread Cert.XqDwIdeal.nD Cert.XqDwIdeal.τ).loc Cert.XqDwIdeal.main_arg0) = m ((c.tc : Thread Cert.XqDwIdeal.nD Cert.XqDwIdeal.τ).loc Cert.XqDwIdeal.main_arg0)
          ∧ r.2.mem ((c.tc : Thread Cert.XqDwIdeal.nD Cert.XqDwIdeal.τ).loc Cert.XqDwIdeal.main_arg1) = m ((c.tc : Thread Cert.XqDwIdeal.nD Cert.XqDwIdeal.τ).loc Cert.XqDwIdeal.main_arg1))
      ∧ θ_run (Cert.XqDwRefIdeal.defs (F := Ideal)) (onTc (τ := Cert.XqDwRefIdeal.τ) (Cert.XqDwRefIdeal.main (F := Ideal))) ⟨m', fun _ => 0, g'⟩ (fun r => ∀ c : Dev Cert.XqDwRefIdeal.nD,
          r.2.mem ((c.tc : Thread Cert.XqDwRefIdeal.nD Cert.XqDwRefIdeal.τ).loc Cert.XqDwRefIdeal.main_v5) = v0 c
          ∧ r.2.mem ((c.tc : Thread Cert.XqDwRefIdeal.nD Cert.XqDwRefIdeal.τ).loc Cert.XqDwRefIdeal.main_arg0) = m' ((c.tc : Thread Cert.XqDwRefIdeal.nD Cert.XqDwRefIdeal.τ).loc Cert.XqDwRefIdeal.main_arg0)
          ∧ r.2.mem ((c.tc : Thread Cert.XqDwRefIdeal.nD Cert.XqDwRefIdeal.τ).loc Cert.XqDwRefIdeal.main_arg1) = m' ((c.tc : Thread Cert.XqDwRefIdeal.nD Cert.XqDwRefIdeal.τ).loc Cert.XqDwRefIdeal.main_arg1))

def preserves_XoDx_XoDxIdeal : Prop :=
  True

def algebraic_XoDxIdeal_XoDxRefIdeal [hXoDxIdeal : Cert.XoDxIdeal.Facts] [hXoDxRefIdeal : Cert.XoDxRefIdeal.Facts] : Prop :=
  ∀ (m : (ℓ : Loc Cert.XoDxIdeal.nD Cert.XoDxIdeal.τ Cert.XoDxIdeal.sig) → Buf (Elt Ideal) ℓ) (g : Dev Cert.XoDxIdeal.nD → PrngReg)
    (m' : (ℓ : Loc Cert.XoDxRefIdeal.nD Cert.XoDxRefIdeal.τ Cert.XoDxRefIdeal.sig) → Buf (Elt Ideal) ℓ) (g' : Dev Cert.XoDxRefIdeal.nD → PrngReg), Pre_XoDxIdeal m →
    (∀ c : Dev Cert.XoDxIdeal.nD,
      m' ((c.tc : Thread Cert.XoDxRefIdeal.nD Cert.XoDxRefIdeal.τ).loc Cert.XoDxRefIdeal.main_arg0) = m ((c.tc : Thread Cert.XoDxIdeal.nD Cert.XoDxIdeal.τ).loc Cert.XoDxIdeal.main_arg0)
      ∧ m' ((c.tc : Thread Cert.XoDxRefIdeal.nD Cert.XoDxRefIdeal.τ).loc Cert.XoDxRefIdeal.main_arg1) = m ((c.tc : Thread Cert.XoDxIdeal.nD Cert.XoDxIdeal.τ).loc Cert.XoDxIdeal.main_arg1)) →
    ∃ (v0 : (c : Dev Cert.XoDxIdeal.nD) → Buf (Elt Ideal) ((c.tc : Thread Cert.XoDxIdeal.nD Cert.XoDxIdeal.τ).loc Cert.XoDxIdeal.main_v0)),
      θ_run (Cert.XoDxIdeal.defs (F := Ideal)) (onTc (τ := Cert.XoDxIdeal.τ) (Cert.XoDxIdeal.main (F := Ideal))) ⟨m, fun _ => 0, g⟩ (fun r => ∀ c : Dev Cert.XoDxIdeal.nD,
          r.2.mem ((c.tc : Thread Cert.XoDxIdeal.nD Cert.XoDxIdeal.τ).loc Cert.XoDxIdeal.main_v0) = v0 c
          ∧ r.2.mem ((c.tc : Thread Cert.XoDxIdeal.nD Cert.XoDxIdeal.τ).loc Cert.XoDxIdeal.main_arg0) = m ((c.tc : Thread Cert.XoDxIdeal.nD Cert.XoDxIdeal.τ).loc Cert.XoDxIdeal.main_arg0)
          ∧ r.2.mem ((c.tc : Thread Cert.XoDxIdeal.nD Cert.XoDxIdeal.τ).loc Cert.XoDxIdeal.main_arg1) = m ((c.tc : Thread Cert.XoDxIdeal.nD Cert.XoDxIdeal.τ).loc Cert.XoDxIdeal.main_arg1))
      ∧ θ_run (Cert.XoDxRefIdeal.defs (F := Ideal)) (onTc (τ := Cert.XoDxRefIdeal.τ) (Cert.XoDxRefIdeal.main (F := Ideal))) ⟨m', fun _ => 0, g'⟩ (fun r => ∀ c : Dev Cert.XoDxRefIdeal.nD,
          r.2.mem ((c.tc : Thread Cert.XoDxRefIdeal.nD Cert.XoDxRefIdeal.τ).loc Cert.XoDxRefIdeal.main_v5) = v0 c
          ∧ r.2.mem ((c.tc : Thread Cert.XoDxRefIdeal.nD Cert.XoDxRefIdeal.τ).loc Cert.XoDxRefIdeal.main_arg0) = m' ((c.tc : Thread Cert.XoDxRefIdeal.nD Cert.XoDxRefIdeal.τ).loc Cert.XoDxRefIdeal.main_arg0)
          ∧ r.2.mem ((c.tc : Thread Cert.XoDxRefIdeal.nD Cert.XoDxRefIdeal.τ).loc Cert.XoDxRefIdeal.main_arg1) = m' ((c.tc : Thread Cert.XoDxRefIdeal.nD Cert.XoDxRefIdeal.τ).loc Cert.XoDxRefIdeal.main_arg1))

def preserves_XkvDx_XkvDxIdeal : Prop :=
  True

def algebraic_XkvDxIdeal_XkvDxRefIdeal [hXkvDxIdeal : Cert.XkvDxIdeal.Facts] [hXkvDxRefIdeal : Cert.XkvDxRefIdeal.Facts] : Prop :=
  ∀ (m : (ℓ : Loc Cert.XkvDxIdeal.nD Cert.XkvDxIdeal.τ Cert.XkvDxIdeal.sig) → Buf (Elt Ideal) ℓ) (g : Dev Cert.XkvDxIdeal.nD → PrngReg)
    (m' : (ℓ : Loc Cert.XkvDxRefIdeal.nD Cert.XkvDxRefIdeal.τ Cert.XkvDxRefIdeal.sig) → Buf (Elt Ideal) ℓ) (g' : Dev Cert.XkvDxRefIdeal.nD → PrngReg), Pre_XkvDxIdeal m →
    (∀ c : Dev Cert.XkvDxIdeal.nD,
      m' ((c.tc : Thread Cert.XkvDxRefIdeal.nD Cert.XkvDxRefIdeal.τ).loc Cert.XkvDxRefIdeal.main_arg0) = m ((c.tc : Thread Cert.XkvDxIdeal.nD Cert.XkvDxIdeal.τ).loc Cert.XkvDxIdeal.main_arg0)
      ∧ m' ((c.tc : Thread Cert.XkvDxRefIdeal.nD Cert.XkvDxRefIdeal.τ).loc Cert.XkvDxRefIdeal.main_arg1) = m ((c.tc : Thread Cert.XkvDxIdeal.nD Cert.XkvDxIdeal.τ).loc Cert.XkvDxIdeal.main_arg1)) →
    ∃ (v0 : (c : Dev Cert.XkvDxIdeal.nD) → Buf (Elt Ideal) ((c.tc : Thread Cert.XkvDxIdeal.nD Cert.XkvDxIdeal.τ).loc Cert.XkvDxIdeal.main_v0)),
      θ_run (Cert.XkvDxIdeal.defs (F := Ideal)) (onTc (τ := Cert.XkvDxIdeal.τ) (Cert.XkvDxIdeal.main (F := Ideal))) ⟨m, fun _ => 0, g⟩ (fun r => ∀ c : Dev Cert.XkvDxIdeal.nD,
          r.2.mem ((c.tc : Thread Cert.XkvDxIdeal.nD Cert.XkvDxIdeal.τ).loc Cert.XkvDxIdeal.main_v0) = v0 c
          ∧ r.2.mem ((c.tc : Thread Cert.XkvDxIdeal.nD Cert.XkvDxIdeal.τ).loc Cert.XkvDxIdeal.main_arg0) = m ((c.tc : Thread Cert.XkvDxIdeal.nD Cert.XkvDxIdeal.τ).loc Cert.XkvDxIdeal.main_arg0)
          ∧ r.2.mem ((c.tc : Thread Cert.XkvDxIdeal.nD Cert.XkvDxIdeal.τ).loc Cert.XkvDxIdeal.main_arg1) = m ((c.tc : Thread Cert.XkvDxIdeal.nD Cert.XkvDxIdeal.τ).loc Cert.XkvDxIdeal.main_arg1))
      ∧ θ_run (Cert.XkvDxRefIdeal.defs (F := Ideal)) (onTc (τ := Cert.XkvDxRefIdeal.τ) (Cert.XkvDxRefIdeal.main (F := Ideal))) ⟨m', fun _ => 0, g'⟩ (fun r => ∀ c : Dev Cert.XkvDxRefIdeal.nD,
          r.2.mem ((c.tc : Thread Cert.XkvDxRefIdeal.nD Cert.XkvDxRefIdeal.τ).loc Cert.XkvDxRefIdeal.main_v3) = v0 c
          ∧ r.2.mem ((c.tc : Thread Cert.XkvDxRefIdeal.nD Cert.XkvDxRefIdeal.τ).loc Cert.XkvDxRefIdeal.main_arg0) = m' ((c.tc : Thread Cert.XkvDxRefIdeal.nD Cert.XkvDxRefIdeal.τ).loc Cert.XkvDxRefIdeal.main_arg0)
          ∧ r.2.mem ((c.tc : Thread Cert.XkvDxRefIdeal.nD Cert.XkvDxRefIdeal.τ).loc Cert.XkvDxRefIdeal.main_arg1) = m' ((c.tc : Thread Cert.XkvDxRefIdeal.nD Cert.XkvDxRefIdeal.τ).loc Cert.XkvDxRefIdeal.main_arg1))

def preserves_XkvDw_XkvDwIdeal : Prop :=
  True

def algebraic_XkvDwIdeal_XkvDwRefIdeal [hXkvDwIdeal : Cert.XkvDwIdeal.Facts] [hXkvDwRefIdeal : Cert.XkvDwRefIdeal.Facts] : Prop :=
  ∀ (m : (ℓ : Loc Cert.XkvDwIdeal.nD Cert.XkvDwIdeal.τ Cert.XkvDwIdeal.sig) → Buf (Elt Ideal) ℓ) (g : Dev Cert.XkvDwIdeal.nD → PrngReg)
    (m' : (ℓ : Loc Cert.XkvDwRefIdeal.nD Cert.XkvDwRefIdeal.τ Cert.XkvDwRefIdeal.sig) → Buf (Elt Ideal) ℓ) (g' : Dev Cert.XkvDwRefIdeal.nD → PrngReg), Pre_XkvDwIdeal m →
    (∀ c : Dev Cert.XkvDwIdeal.nD,
      m' ((c.tc : Thread Cert.XkvDwRefIdeal.nD Cert.XkvDwRefIdeal.τ).loc Cert.XkvDwRefIdeal.main_arg0) = m ((c.tc : Thread Cert.XkvDwIdeal.nD Cert.XkvDwIdeal.τ).loc Cert.XkvDwIdeal.main_arg0)
      ∧ m' ((c.tc : Thread Cert.XkvDwRefIdeal.nD Cert.XkvDwRefIdeal.τ).loc Cert.XkvDwRefIdeal.main_arg1) = m ((c.tc : Thread Cert.XkvDwIdeal.nD Cert.XkvDwIdeal.τ).loc Cert.XkvDwIdeal.main_arg1)) →
    ∃ (v0 : (c : Dev Cert.XkvDwIdeal.nD) → Buf (Elt Ideal) ((c.tc : Thread Cert.XkvDwIdeal.nD Cert.XkvDwIdeal.τ).loc Cert.XkvDwIdeal.main_v0)),
      θ_run (Cert.XkvDwIdeal.defs (F := Ideal)) (onTc (τ := Cert.XkvDwIdeal.τ) (Cert.XkvDwIdeal.main (F := Ideal))) ⟨m, fun _ => 0, g⟩ (fun r => ∀ c : Dev Cert.XkvDwIdeal.nD,
          r.2.mem ((c.tc : Thread Cert.XkvDwIdeal.nD Cert.XkvDwIdeal.τ).loc Cert.XkvDwIdeal.main_v0) = v0 c
          ∧ r.2.mem ((c.tc : Thread Cert.XkvDwIdeal.nD Cert.XkvDwIdeal.τ).loc Cert.XkvDwIdeal.main_arg0) = m ((c.tc : Thread Cert.XkvDwIdeal.nD Cert.XkvDwIdeal.τ).loc Cert.XkvDwIdeal.main_arg0)
          ∧ r.2.mem ((c.tc : Thread Cert.XkvDwIdeal.nD Cert.XkvDwIdeal.τ).loc Cert.XkvDwIdeal.main_arg1) = m ((c.tc : Thread Cert.XkvDwIdeal.nD Cert.XkvDwIdeal.τ).loc Cert.XkvDwIdeal.main_arg1))
      ∧ θ_run (Cert.XkvDwRefIdeal.defs (F := Ideal)) (onTc (τ := Cert.XkvDwRefIdeal.τ) (Cert.XkvDwRefIdeal.main (F := Ideal))) ⟨m', fun _ => 0, g'⟩ (fun r => ∀ c : Dev Cert.XkvDwRefIdeal.nD,
          r.2.mem ((c.tc : Thread Cert.XkvDwRefIdeal.nD Cert.XkvDwRefIdeal.τ).loc Cert.XkvDwRefIdeal.main_v4) = v0 c
          ∧ r.2.mem ((c.tc : Thread Cert.XkvDwRefIdeal.nD Cert.XkvDwRefIdeal.τ).loc Cert.XkvDwRefIdeal.main_arg0) = m' ((c.tc : Thread Cert.XkvDwRefIdeal.nD Cert.XkvDwRefIdeal.τ).loc Cert.XkvDwRefIdeal.main_arg0)
          ∧ r.2.mem ((c.tc : Thread Cert.XkvDwRefIdeal.nD Cert.XkvDwRefIdeal.τ).loc Cert.XkvDwRefIdeal.main_arg1) = m' ((c.tc : Thread Cert.XkvDwRefIdeal.nD Cert.XkvDwRefIdeal.τ).loc Cert.XkvDwRefIdeal.main_arg1))

def preserves_AbOutDw_AbOutDwIdeal : Prop :=
  True

def algebraic_AbOutDwIdeal_AbOutDwRefIdeal [hAbOutDwIdeal : Cert.AbOutDwIdeal.Facts] [hAbOutDwRefIdeal : Cert.AbOutDwRefIdeal.Facts] : Prop :=
  ∀ (m : (ℓ : Loc Cert.AbOutDwIdeal.nD Cert.AbOutDwIdeal.τ Cert.AbOutDwIdeal.sig) → Buf (Elt Ideal) ℓ) (g : Dev Cert.AbOutDwIdeal.nD → PrngReg)
    (m' : (ℓ : Loc Cert.AbOutDwRefIdeal.nD Cert.AbOutDwRefIdeal.τ Cert.AbOutDwRefIdeal.sig) → Buf (Elt Ideal) ℓ) (g' : Dev Cert.AbOutDwRefIdeal.nD → PrngReg), Pre_AbOutDwIdeal m →
    (∀ c : Dev Cert.AbOutDwIdeal.nD,
      m' ((c.tc : Thread Cert.AbOutDwRefIdeal.nD Cert.AbOutDwRefIdeal.τ).loc Cert.AbOutDwRefIdeal.main_arg0) = m ((c.tc : Thread Cert.AbOutDwIdeal.nD Cert.AbOutDwIdeal.τ).loc Cert.AbOutDwIdeal.main_arg0)
      ∧ m' ((c.tc : Thread Cert.AbOutDwRefIdeal.nD Cert.AbOutDwRefIdeal.τ).loc Cert.AbOutDwRefIdeal.main_arg1) = m ((c.tc : Thread Cert.AbOutDwIdeal.nD Cert.AbOutDwIdeal.τ).loc Cert.AbOutDwIdeal.main_arg1)) →
    ∃ (v0 : (c : Dev Cert.AbOutDwIdeal.nD) → Buf (Elt Ideal) ((c.tc : Thread Cert.AbOutDwIdeal.nD Cert.AbOutDwIdeal.τ).loc Cert.AbOutDwIdeal.main_v0)),
      θ_run (Cert.AbOutDwIdeal.defs (F := Ideal)) (onTc (τ := Cert.AbOutDwIdeal.τ) (Cert.AbOutDwIdeal.main (F := Ideal))) ⟨m, fun _ => 0, g⟩ (fun r => ∀ c : Dev Cert.AbOutDwIdeal.nD,
          r.2.mem ((c.tc : Thread Cert.AbOutDwIdeal.nD Cert.AbOutDwIdeal.τ).loc Cert.AbOutDwIdeal.main_v0) = v0 c
          ∧ r.2.mem ((c.tc : Thread Cert.AbOutDwIdeal.nD Cert.AbOutDwIdeal.τ).loc Cert.AbOutDwIdeal.main_arg0) = m ((c.tc : Thread Cert.AbOutDwIdeal.nD Cert.AbOutDwIdeal.τ).loc Cert.AbOutDwIdeal.main_arg0)
          ∧ r.2.mem ((c.tc : Thread Cert.AbOutDwIdeal.nD Cert.AbOutDwIdeal.τ).loc Cert.AbOutDwIdeal.main_arg1) = m ((c.tc : Thread Cert.AbOutDwIdeal.nD Cert.AbOutDwIdeal.τ).loc Cert.AbOutDwIdeal.main_arg1))
      ∧ θ_run (Cert.AbOutDwRefIdeal.defs (F := Ideal)) (onTc (τ := Cert.AbOutDwRefIdeal.τ) (Cert.AbOutDwRefIdeal.main (F := Ideal))) ⟨m', fun _ => 0, g'⟩ (fun r => ∀ c : Dev Cert.AbOutDwRefIdeal.nD,
          r.2.mem ((c.tc : Thread Cert.AbOutDwRefIdeal.nD Cert.AbOutDwRefIdeal.τ).loc Cert.AbOutDwRefIdeal.main_v4) = v0 c
          ∧ r.2.mem ((c.tc : Thread Cert.AbOutDwRefIdeal.nD Cert.AbOutDwRefIdeal.τ).loc Cert.AbOutDwRefIdeal.main_arg0) = m' ((c.tc : Thread Cert.AbOutDwRefIdeal.nD Cert.AbOutDwRefIdeal.τ).loc Cert.AbOutDwRefIdeal.main_arg0)
          ∧ r.2.mem ((c.tc : Thread Cert.AbOutDwRefIdeal.nD Cert.AbOutDwRefIdeal.τ).loc Cert.AbOutDwRefIdeal.main_arg1) = m' ((c.tc : Thread Cert.AbOutDwRefIdeal.nD Cert.AbOutDwRefIdeal.τ).loc Cert.AbOutDwRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v2) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)) →
    ∃ (v0 : (c : Dev Cert.AbInIdeal.nD) → Buf (Elt Ideal) ((c.tc : Thread Cert.AbInIdeal.nD Cert.AbInIdeal.τ).loc Cert.AbInIdeal.main_v0)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v0) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v2) = v0 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1))

def preserves_AbOut_AbOutIdeal : Prop :=
  True

def algebraic_AbOutIdeal_AbOutRefIdeal [hAbOutIdeal : Cert.AbOutIdeal.Facts] [hAbOutRefIdeal : Cert.AbOutRefIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)) →
    ∃ (v0 : (c : Dev Cert.AbOutIdeal.nD) → Buf (Elt Ideal) ((c.tc : Thread Cert.AbOutIdeal.nD Cert.AbOutIdeal.τ).loc Cert.AbOutIdeal.main_v0)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v0) = v0 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v1) = v0 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v0)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v0) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v3) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1))

def preserves_Xkv_XkvIdeal : Prop :=
  True

def algebraic_XkvIdeal_XkvRefIdeal [hXkvIdeal : Cert.XkvIdeal.Facts] [hXkvRefIdeal : Cert.XkvRefIdeal.Facts] : Prop :=
  ∀ (m : (ℓ : Loc Cert.XkvIdeal.nD Cert.XkvIdeal.τ Cert.XkvIdeal.sig) → Buf (Elt Ideal) ℓ) (g : Dev Cert.XkvIdeal.nD → PrngReg)
    (m' : (ℓ : Loc Cert.XkvRefIdeal.nD Cert.XkvRefIdeal.τ Cert.XkvRefIdeal.sig) → Buf (Elt Ideal) ℓ) (g' : Dev Cert.XkvRefIdeal.nD → PrngReg), Pre_XkvIdeal m →
    (∀ c : Dev Cert.XkvIdeal.nD,
      m' ((c.tc : Thread Cert.XkvRefIdeal.nD Cert.XkvRefIdeal.τ).loc Cert.XkvRefIdeal.main_arg0) = m ((c.tc : Thread Cert.XkvIdeal.nD Cert.XkvIdeal.τ).loc Cert.XkvIdeal.main_arg0)
      ∧ m' ((c.tc : Thread Cert.XkvRefIdeal.nD Cert.XkvRefIdeal.τ).loc Cert.XkvRefIdeal.main_arg1) = m ((c.tc : Thread Cert.XkvIdeal.nD Cert.XkvIdeal.τ).loc Cert.XkvIdeal.main_arg1)) →
    ∃ (v0 : (c : Dev Cert.XkvIdeal.nD) → Buf (Elt Ideal) ((c.tc : Thread Cert.XkvIdeal.nD Cert.XkvIdeal.τ).loc Cert.XkvIdeal.main_v0)),
      θ_run (Cert.XkvIdeal.defs (F := Ideal)) (onTc (τ := Cert.XkvIdeal.τ) (Cert.XkvIdeal.main (F := Ideal))) ⟨m, fun _ => 0, g⟩ (fun r => ∀ c : Dev Cert.XkvIdeal.nD,
          r.2.mem ((c.tc : Thread Cert.XkvIdeal.nD Cert.XkvIdeal.τ).loc Cert.XkvIdeal.main_v0) = v0 c
          ∧ r.2.mem ((c.tc : Thread Cert.XkvIdeal.nD Cert.XkvIdeal.τ).loc Cert.XkvIdeal.main_arg0) = m ((c.tc : Thread Cert.XkvIdeal.nD Cert.XkvIdeal.τ).loc Cert.XkvIdeal.main_arg0)
          ∧ r.2.mem ((c.tc : Thread Cert.XkvIdeal.nD Cert.XkvIdeal.τ).loc Cert.XkvIdeal.main_arg1) = m ((c.tc : Thread Cert.XkvIdeal.nD Cert.XkvIdeal.τ).loc Cert.XkvIdeal.main_arg1))
      ∧ θ_run (Cert.XkvRefIdeal.defs (F := Ideal)) (onTc (τ := Cert.XkvRefIdeal.τ) (Cert.XkvRefIdeal.main (F := Ideal))) ⟨m', fun _ => 0, g'⟩ (fun r => ∀ c : Dev Cert.XkvRefIdeal.nD,
          r.2.mem ((c.tc : Thread Cert.XkvRefIdeal.nD Cert.XkvRefIdeal.τ).loc Cert.XkvRefIdeal.main_v3) = v0 c
          ∧ r.2.mem ((c.tc : Thread Cert.XkvRefIdeal.nD Cert.XkvRefIdeal.τ).loc Cert.XkvRefIdeal.main_arg0) = m' ((c.tc : Thread Cert.XkvRefIdeal.nD Cert.XkvRefIdeal.τ).loc Cert.XkvRefIdeal.main_arg0)
          ∧ r.2.mem ((c.tc : Thread Cert.XkvRefIdeal.nD Cert.XkvRefIdeal.τ).loc Cert.XkvRefIdeal.main_arg1) = m' ((c.tc : Thread Cert.XkvRefIdeal.nD Cert.XkvRefIdeal.τ).loc Cert.XkvRefIdeal.main_arg1))

def preserves_Xo_XoIdeal : Prop :=
  True

def algebraic_XoIdeal_XoRefIdeal [hXoIdeal : Cert.XoIdeal.Facts] [hXoRefIdeal : Cert.XoRefIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoRefIdeal.nD Cert.XoRefIdeal.τ Cert.XoRefIdeal.sig) → Buf (Elt Ideal) ℓ) (g' : Dev Cert.XoRefIdeal.nD → PrngReg), Pre_XoIdeal m →
    (∀ c : Dev Cert.XoIdeal.nD,
      m' ((c.tc : Thread Cert.XoRefIdeal.nD Cert.XoRefIdeal.τ).loc Cert.XoRefIdeal.main_arg0) = m ((c.tc : Thread Cert.XoIdeal.nD Cert.XoIdeal.τ).loc Cert.XoIdeal.main_arg0)
      ∧ m' ((c.tc : Thread Cert.XoRefIdeal.nD Cert.XoRefIdeal.τ).loc Cert.XoRefIdeal.main_arg1) = m ((c.tc : Thread Cert.XoIdeal.nD Cert.XoIdeal.τ).loc Cert.XoIdeal.main_arg1)) →
    ∃ (v0 : (c : Dev Cert.XoIdeal.nD) → Buf (Elt Ideal) ((c.tc : Thread Cert.XoIdeal.nD Cert.XoIdeal.τ).loc Cert.XoIdeal.main_v0)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v0) = v0 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1))
      ∧ θ_run (Cert.XoRefIdeal.defs (F := Ideal)) (onTc (τ := Cert.XoRefIdeal.τ) (Cert.XoRefIdeal.main (F := Ideal))) ⟨m', fun _ => 0, g'⟩ (fun r => ∀ c : Dev Cert.XoRefIdeal.nD,
          r.2.mem ((c.tc : Thread Cert.XoRefIdeal.nD Cert.XoRefIdeal.τ).loc Cert.XoRefIdeal.main_v2) = v0 c
          ∧ r.2.mem ((c.tc : Thread Cert.XoRefIdeal.nD Cert.XoRefIdeal.τ).loc Cert.XoRefIdeal.main_arg0) = m' ((c.tc : Thread Cert.XoRefIdeal.nD Cert.XoRefIdeal.τ).loc Cert.XoRefIdeal.main_arg0)
          ∧ r.2.mem ((c.tc : Thread Cert.XoRefIdeal.nD Cert.XoRefIdeal.τ).loc Cert.XoRefIdeal.main_arg1) = m' ((c.tc : Thread Cert.XoRefIdeal.nD Cert.XoRefIdeal.τ).loc Cert.XoRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v7) = v0 c
          ∧ r.2.mem ((c.tc : Thread Cert.FfnInRefIdeal.nD Cert.FfnInRefIdeal.τ).loc Cert.FfnInRefIdeal.main_v9) = v1 c
          ∧ r.2.mem ((c.tc : Thread Cert.FfnInRefIdeal.nD Cert.FfnInRefIdeal.τ).loc Cert.FfnInRefIdeal.main_v11) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)) (v2 : (c : Dev Cert.GluIdeal.nD) → Buf (Elt Ideal) ((c.tc : Thread Cert.GluIdeal.nD Cert.GluIdeal.τ).loc Cert.GluIdeal.main_v0_2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_v0_2) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v11) = v0 c
          ∧ r.2.mem ((c.tc : Thread Cert.GluRefIdeal.nD Cert.GluRefIdeal.τ).loc Cert.GluRefIdeal.main_v13) = v1 c
          ∧ r.2.mem ((c.tc : Thread Cert.GluRefIdeal.nD Cert.GluRefIdeal.τ).loc Cert.GluRefIdeal.main_v15) = v2 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_XAttnF_XAttnFIdeal : Prop :=
  True

def algebraic_XAttnFIdeal_XAttnFRefIdeal [hXAttnFIdeal : Cert.XAttnFIdeal.Facts] [hXAttnFRefIdeal : Cert.XAttnFRefIdeal.Facts] : Prop :=
  ∀ (m : (ℓ : Loc Cert.XAttnFIdeal.nD Cert.XAttnFIdeal.τ Cert.XAttnFIdeal.sig) → Buf (Elt Ideal) ℓ) (g : Dev Cert.XAttnFIdeal.nD → PrngReg)
    (m' : (ℓ : Loc Cert.XAttnFRefIdeal.nD Cert.XAttnFRefIdeal.τ Cert.XAttnFRefIdeal.sig) → Buf (Elt Ideal) ℓ) (g' : Dev Cert.XAttnFRefIdeal.nD → PrngReg), Pre_XAttnFIdeal m →
    (∀ c : Dev Cert.XAttnFIdeal.nD,
      m' ((c.tc : Thread Cert.XAttnFRefIdeal.nD Cert.XAttnFRefIdeal.τ).loc Cert.XAttnFRefIdeal.main_arg0) = m ((c.tc : Thread Cert.XAttnFIdeal.nD Cert.XAttnFIdeal.τ).loc Cert.XAttnFIdeal.main_arg0)
      ∧ m' ((c.tc : Thread Cert.XAttnFRefIdeal.nD Cert.XAttnFRefIdeal.τ).loc Cert.XAttnFRefIdeal.main_arg1) = m ((c.tc : Thread Cert.XAttnFIdeal.nD Cert.XAttnFIdeal.τ).loc Cert.XAttnFIdeal.main_arg1)) →
    ∃ (v0 : (c : Dev Cert.XAttnFIdeal.nD) → Buf (Elt Ideal) ((c.tc : Thread Cert.XAttnFIdeal.nD Cert.XAttnFIdeal.τ).loc Cert.XAttnFIdeal.main_v0)),
      θ_run (Cert.XAttnFIdeal.defs (F := Ideal)) (onTc (τ := Cert.XAttnFIdeal.τ) (Cert.XAttnFIdeal.main (F := Ideal))) ⟨m, fun _ => 0, g⟩ (fun r => ∀ c : Dev Cert.XAttnFIdeal.nD,
          r.2.mem ((c.tc : Thread Cert.XAttnFIdeal.nD Cert.XAttnFIdeal.τ).loc Cert.XAttnFIdeal.main_v0) = v0 c
          ∧ r.2.mem ((c.tc : Thread Cert.XAttnFIdeal.nD Cert.XAttnFIdeal.τ).loc Cert.XAttnFIdeal.main_arg0) = m ((c.tc : Thread Cert.XAttnFIdeal.nD Cert.XAttnFIdeal.τ).loc Cert.XAttnFIdeal.main_arg0)
          ∧ r.2.mem ((c.tc : Thread Cert.XAttnFIdeal.nD Cert.XAttnFIdeal.τ).loc Cert.XAttnFIdeal.main_arg1) = m ((c.tc : Thread Cert.XAttnFIdeal.nD Cert.XAttnFIdeal.τ).loc Cert.XAttnFIdeal.main_arg1))
      ∧ θ_run (Cert.XAttnFRefIdeal.defs (F := Ideal)) (onTc (τ := Cert.XAttnFRefIdeal.τ) (Cert.XAttnFRefIdeal.main (F := Ideal))) ⟨m', fun _ => 0, g'⟩ (fun r => ∀ c : Dev Cert.XAttnFRefIdeal.nD,
          r.2.mem ((c.tc : Thread Cert.XAttnFRefIdeal.nD Cert.XAttnFRefIdeal.τ).loc Cert.XAttnFRefIdeal.main_v27) = v0 c
          ∧ r.2.mem ((c.tc : Thread Cert.XAttnFRefIdeal.nD Cert.XAttnFRefIdeal.τ).loc Cert.XAttnFRefIdeal.main_arg0) = m' ((c.tc : Thread Cert.XAttnFRefIdeal.nD Cert.XAttnFRefIdeal.τ).loc Cert.XAttnFRefIdeal.main_arg0)
          ∧ r.2.mem ((c.tc : Thread Cert.XAttnFRefIdeal.nD Cert.XAttnFRefIdeal.τ).loc Cert.XAttnFRefIdeal.main_arg1) = m' ((c.tc : Thread Cert.XAttnFRefIdeal.nD Cert.XAttnFRefIdeal.τ).loc Cert.XAttnFRefIdeal.main_arg1))

def preserves_AdamAbIn_AdamAbInIdeal : Prop :=
  True

def algebraic_AdamAbInIdeal_AdamAbInRefIdeal [hAdamAbInIdeal : Cert.AdamAbInIdeal.Facts] [hAdamAbInRefIdeal : Cert.AdamAbInRefIdeal.Facts] : Prop :=
  ∀ (m : (ℓ : Loc Cert.AdamAbInIdeal.nD Cert.AdamAbInIdeal.τ Cert.AdamAbInIdeal.sig) → Buf (Elt Ideal) ℓ) (g : Dev Cert.AdamAbInIdeal.nD → PrngReg)
    (m' : (ℓ : Loc Cert.AdamAbInRefIdeal.nD Cert.AdamAbInRefIdeal.τ Cert.AdamAbInRefIdeal.sig) → Buf (Elt Ideal) ℓ) (g' : Dev Cert.AdamAbInRefIdeal.nD → PrngReg), Pre_AdamAbInIdeal m →
    (∀ c : Dev Cert.AdamAbInIdeal.nD,
      m' ((c.tc : Thread Cert.AdamAbInRefIdeal.nD Cert.AdamAbInRefIdeal.τ).loc Cert.AdamAbInRefIdeal.main_arg0) = m ((c.tc : Thread Cert.AdamAbInIdeal.nD Cert.AdamAbInIdeal.τ).loc Cert.AdamAbInIdeal.main_arg0)
      ∧ m' ((c.tc : Thread Cert.AdamAbInRefIdeal.nD Cert.AdamAbInRefIdeal.τ).loc Cert.AdamAbInRefIdeal.main_arg1) = m ((c.tc : Thread Cert.AdamAbInIdeal.nD Cert.AdamAbInIdeal.τ).loc Cert.AdamAbInIdeal.main_arg1)
      ∧ m' ((c.tc : Thread Cert.AdamAbInRefIdeal.nD Cert.AdamAbInRefIdeal.τ).loc Cert.AdamAbInRefIdeal.main_arg2) = m ((c.tc : Thread Cert.AdamAbInIdeal.nD Cert.AdamAbInIdeal.τ).loc Cert.AdamAbInIdeal.main_arg2)
      ∧ m' ((c.tc : Thread Cert.AdamAbInRefIdeal.nD Cert.AdamAbInRefIdeal.τ).loc Cert.AdamAbInRefIdeal.main_arg3) = m ((c.tc : Thread Cert.AdamAbInIdeal.nD Cert.AdamAbInIdeal.τ).loc Cert.AdamAbInIdeal.main_arg3)) →
    ∃ (v0 : (c : Dev Cert.AdamAbInIdeal.nD) → Buf (Elt Ideal) ((c.tc : Thread Cert.AdamAbInIdeal.nD Cert.AdamAbInIdeal.τ).loc Cert.AdamAbInIdeal.main_v0_0)) (v1 : (c : Dev Cert.AdamAbInIdeal.nD) → Buf (Elt Ideal) ((c.tc : Thread Cert.AdamAbInIdeal.nD Cert.AdamAbInIdeal.τ).loc Cert.AdamAbInIdeal.main_v0_1)) (v2 : (c : Dev Cert.AdamAbInIdeal.nD) → Buf (Elt Ideal) ((c.tc : Thread Cert.AdamAbInIdeal.nD Cert.AdamAbInIdeal.τ).loc Cert.AdamAbInIdeal.main_v0_2)),
      θ_run (Cert.AdamAbInIdeal.defs (F := Ideal)) (onTc (τ := Cert.AdamAbInIdeal.τ) (Cert.AdamAbInIdeal.main (F := Ideal))) ⟨m, fun _ => 0, g⟩ (fun r => ∀ c : Dev Cert.AdamAbInIdeal.nD,
          r.2.mem ((c.tc : Thread Cert.AdamAbInIdeal.nD Cert.AdamAbInIdeal.τ).loc Cert.AdamAbInIdeal.main_v0_0) = v0 c
          ∧ r.2.mem ((c.tc : Thread Cert.AdamAbInIdeal.nD Cert.AdamAbInIdeal.τ).loc Cert.AdamAbInIdeal.main_v0_1) = v1 c
          ∧ r.2.mem ((c.tc : Thread Cert.AdamAbInIdeal.nD Cert.AdamAbInIdeal.τ).loc Cert.AdamAbInIdeal.main_v0_2) = v2 c
          ∧ r.2.mem ((c.tc : Thread Cert.AdamAbInIdeal.nD Cert.AdamAbInIdeal.τ).loc Cert.AdamAbInIdeal.main_arg0) = m ((c.tc : Thread Cert.AdamAbInIdeal.nD Cert.AdamAbInIdeal.τ).loc Cert.AdamAbInIdeal.main_arg0)
          ∧ r.2.mem ((c.tc : Thread Cert.AdamAbInIdeal.nD Cert.AdamAbInIdeal.τ).loc Cert.AdamAbInIdeal.main_arg1) = m ((c.tc : Thread Cert.AdamAbInIdeal.nD Cert.AdamAbInIdeal.τ).loc Cert.AdamAbInIdeal.main_arg1)
          ∧ r.2.mem ((c.tc : Thread Cert.AdamAbInIdeal.nD Cert.AdamAbInIdeal.τ).loc Cert.AdamAbInIdeal.main_arg2) = m ((c.tc : Thread Cert.AdamAbInIdeal.nD Cert.AdamAbInIdeal.τ).loc Cert.AdamAbInIdeal.main_arg2)
          ∧ r.2.mem ((c.tc : Thread Cert.AdamAbInIdeal.nD Cert.AdamAbInIdeal.τ).loc Cert.AdamAbInIdeal.main_arg3) = m ((c.tc : Thread Cert.AdamAbInIdeal.nD Cert.AdamAbInIdeal.τ).loc Cert.AdamAbInIdeal.main_arg3))
      ∧ θ_run (Cert.AdamAbInRefIdeal.defs (F := Ideal)) (onTc (τ := Cert.AdamAbInRefIdeal.τ) (Cert.AdamAbInRefIdeal.main (F := Ideal))) ⟨m', fun _ => 0, g'⟩ (fun r => ∀ c : Dev Cert.AdamAbInRefIdeal.nD,
          r.2.mem ((c.tc : Thread Cert.AdamAbInRefIdeal.nD Cert.AdamAbInRefIdeal.τ).loc Cert.AdamAbInRefIdeal.main_v23) = v0 c
          ∧ r.2.mem ((c.tc : Thread Cert.AdamAbInRefIdeal.nD Cert.AdamAbInRefIdeal.τ).loc Cert.AdamAbInRefIdeal.main_v4) = v1 c
          ∧ r.2.mem ((c.tc : Thread Cert.AdamAbInRefIdeal.nD Cert.AdamAbInRefIdeal.τ).loc Cert.AdamAbInRefIdeal.main_v10) = v2 c
          ∧ r.2.mem ((c.tc : Thread Cert.AdamAbInRefIdeal.nD Cert.AdamAbInRefIdeal.τ).loc Cert.AdamAbInRefIdeal.main_arg0) = m' ((c.tc : Thread Cert.AdamAbInRefIdeal.nD Cert.AdamAbInRefIdeal.τ).loc Cert.AdamAbInRefIdeal.main_arg0)
          ∧ r.2.mem ((c.tc : Thread Cert.AdamAbInRefIdeal.nD Cert.AdamAbInRefIdeal.τ).loc Cert.AdamAbInRefIdeal.main_arg1) = m' ((c.tc : Thread Cert.AdamAbInRefIdeal.nD Cert.AdamAbInRefIdeal.τ).loc Cert.AdamAbInRefIdeal.main_arg1)
          ∧ r.2.mem ((c.tc : Thread Cert.AdamAbInRefIdeal.nD Cert.AdamAbInRefIdeal.τ).loc Cert.AdamAbInRefIdeal.main_arg2) = m' ((c.tc : Thread Cert.AdamAbInRefIdeal.nD Cert.AdamAbInRefIdeal.τ).loc Cert.AdamAbInRefIdeal.main_arg2)
          ∧ r.2.mem ((c.tc : Thread Cert.AdamAbInRefIdeal.nD Cert.AdamAbInRefIdeal.τ).loc Cert.AdamAbInRefIdeal.main_arg3) = m' ((c.tc : Thread Cert.AdamAbInRefIdeal.nD Cert.AdamAbInRefIdeal.τ).loc Cert.AdamAbInRefIdeal.main_arg3))

def preserves_AdamAbOut_AdamAbOutIdeal : Prop :=
  True

def algebraic_AdamAbOutIdeal_AdamAbOutRefIdeal [hAdamAbOutIdeal : Cert.AdamAbOutIdeal.Facts] [hAdamAbOutRefIdeal : Cert.AdamAbOutRefIdeal.Facts] : Prop :=
  ∀ (m : (ℓ : Loc Cert.AdamAbOutIdeal.nD Cert.AdamAbOutIdeal.τ Cert.AdamAbOutIdeal.sig) → Buf (Elt Ideal) ℓ) (g : Dev Cert.AdamAbOutIdeal.nD → PrngReg)
    (m' : (ℓ : Loc Cert.AdamAbOutRefIdeal.nD Cert.AdamAbOutRefIdeal.τ Cert.AdamAbOutRefIdeal.sig) → Buf (Elt Ideal) ℓ) (g' : Dev Cert.AdamAbOutRefIdeal.nD → PrngReg), Pre_AdamAbOutIdeal m →
    (∀ c : Dev Cert.AdamAbOutIdeal.nD,
      m' ((c.tc : Thread Cert.AdamAbOutRefIdeal.nD Cert.AdamAbOutRefIdeal.τ).loc Cert.AdamAbOutRefIdeal.main_arg0) = m ((c.tc : Thread Cert.AdamAbOutIdeal.nD Cert.AdamAbOutIdeal.τ).loc Cert.AdamAbOutIdeal.main_arg0)
      ∧ m' ((c.tc : Thread Cert.AdamAbOutRefIdeal.nD Cert.AdamAbOutRefIdeal.τ).loc Cert.AdamAbOutRefIdeal.main_arg1) = m ((c.tc : Thread Cert.AdamAbOutIdeal.nD Cert.AdamAbOutIdeal.τ).loc Cert.AdamAbOutIdeal.main_arg1)
      ∧ m' ((c.tc : Thread Cert.AdamAbOutRefIdeal.nD Cert.AdamAbOutRefIdeal.τ).loc Cert.AdamAbOutRefIdeal.main_arg2) = m ((c.tc : Thread Cert.AdamAbOutIdeal.nD Cert.AdamAbOutIdeal.τ).loc Cert.AdamAbOutIdeal.main_arg2)
      ∧ m' ((c.tc : Thread Cert.AdamAbOutRefIdeal.nD Cert.AdamAbOutRefIdeal.τ).loc Cert.AdamAbOutRefIdeal.main_arg3) = m ((c.tc : Thread Cert.AdamAbOutIdeal.nD Cert.AdamAbOutIdeal.τ).loc Cert.AdamAbOutIdeal.main_arg3)) →
    ∃ (v0 : (c : Dev Cert.AdamAbOutIdeal.nD) → Buf (Elt Ideal) ((c.tc : Thread Cert.AdamAbOutIdeal.nD Cert.AdamAbOutIdeal.τ).loc Cert.AdamAbOutIdeal.main_v0_0)) (v1 : (c : Dev Cert.AdamAbOutIdeal.nD) → Buf (Elt Ideal) ((c.tc : Thread Cert.AdamAbOutIdeal.nD Cert.AdamAbOutIdeal.τ).loc Cert.AdamAbOutIdeal.main_v0_1)) (v2 : (c : Dev Cert.AdamAbOutIdeal.nD) → Buf (Elt Ideal) ((c.tc : Thread Cert.AdamAbOutIdeal.nD Cert.AdamAbOutIdeal.τ).loc Cert.AdamAbOutIdeal.main_v0_2)),
      θ_run (Cert.AdamAbOutIdeal.defs (F := Ideal)) (onTc (τ := Cert.AdamAbOutIdeal.τ) (Cert.AdamAbOutIdeal.main (F := Ideal))) ⟨m, fun _ => 0, g⟩ (fun r => ∀ c : Dev Cert.AdamAbOutIdeal.nD,
          r.2.mem ((c.tc : Thread Cert.AdamAbOutIdeal.nD Cert.AdamAbOutIdeal.τ).loc Cert.AdamAbOutIdeal.main_v0_0) = v0 c
          ∧ r.2.mem ((c.tc : Thread Cert.AdamAbOutIdeal.nD Cert.AdamAbOutIdeal.τ).loc Cert.AdamAbOutIdeal.main_v0_1) = v1 c
          ∧ r.2.mem ((c.tc : Thread Cert.AdamAbOutIdeal.nD Cert.AdamAbOutIdeal.τ).loc Cert.AdamAbOutIdeal.main_v0_2) = v2 c
          ∧ r.2.mem ((c.tc : Thread Cert.AdamAbOutIdeal.nD Cert.AdamAbOutIdeal.τ).loc Cert.AdamAbOutIdeal.main_arg0) = m ((c.tc : Thread Cert.AdamAbOutIdeal.nD Cert.AdamAbOutIdeal.τ).loc Cert.AdamAbOutIdeal.main_arg0)
          ∧ r.2.mem ((c.tc : Thread Cert.AdamAbOutIdeal.nD Cert.AdamAbOutIdeal.τ).loc Cert.AdamAbOutIdeal.main_arg1) = m ((c.tc : Thread Cert.AdamAbOutIdeal.nD Cert.AdamAbOutIdeal.τ).loc Cert.AdamAbOutIdeal.main_arg1)
          ∧ r.2.mem ((c.tc : Thread Cert.AdamAbOutIdeal.nD Cert.AdamAbOutIdeal.τ).loc Cert.AdamAbOutIdeal.main_arg2) = m ((c.tc : Thread Cert.AdamAbOutIdeal.nD Cert.AdamAbOutIdeal.τ).loc Cert.AdamAbOutIdeal.main_arg2)
          ∧ r.2.mem ((c.tc : Thread Cert.AdamAbOutIdeal.nD Cert.AdamAbOutIdeal.τ).loc Cert.AdamAbOutIdeal.main_arg3) = m ((c.tc : Thread Cert.AdamAbOutIdeal.nD Cert.AdamAbOutIdeal.τ).loc Cert.AdamAbOutIdeal.main_arg3))
      ∧ θ_run (Cert.AdamAbOutRefIdeal.defs (F := Ideal)) (onTc (τ := Cert.AdamAbOutRefIdeal.τ) (Cert.AdamAbOutRefIdeal.main (F := Ideal))) ⟨m', fun _ => 0, g'⟩ (fun r => ∀ c : Dev Cert.AdamAbOutRefIdeal.nD,
          r.2.mem ((c.tc : Thread Cert.AdamAbOutRefIdeal.nD Cert.AdamAbOutRefIdeal.τ).loc Cert.AdamAbOutRefIdeal.main_v23) = v0 c
          ∧ r.2.mem ((c.tc : Thread Cert.AdamAbOutRefIdeal.nD Cert.AdamAbOutRefIdeal.τ).loc Cert.AdamAbOutRefIdeal.main_v4) = v1 c
          ∧ r.2.mem ((c.tc : Thread Cert.AdamAbOutRefIdeal.nD Cert.AdamAbOutRefIdeal.τ).loc Cert.AdamAbOutRefIdeal.main_v10) = v2 c
          ∧ r.2.mem ((c.tc : Thread Cert.AdamAbOutRefIdeal.nD Cert.AdamAbOutRefIdeal.τ).loc Cert.AdamAbOutRefIdeal.main_arg0) = m' ((c.tc : Thread Cert.AdamAbOutRefIdeal.nD Cert.AdamAbOutRefIdeal.τ).loc Cert.AdamAbOutRefIdeal.main_arg0)
          ∧ r.2.mem ((c.tc : Thread Cert.AdamAbOutRefIdeal.nD Cert.AdamAbOutRefIdeal.τ).loc Cert.AdamAbOutRefIdeal.main_arg1) = m' ((c.tc : Thread Cert.AdamAbOutRefIdeal.nD Cert.AdamAbOutRefIdeal.τ).loc Cert.AdamAbOutRefIdeal.main_arg1)
          ∧ r.2.mem ((c.tc : Thread Cert.AdamAbOutRefIdeal.nD Cert.AdamAbOutRefIdeal.τ).loc Cert.AdamAbOutRefIdeal.main_arg2) = m' ((c.tc : Thread Cert.AdamAbOutRefIdeal.nD Cert.AdamAbOutRefIdeal.τ).loc Cert.AdamAbOutRefIdeal.main_arg2)
          ∧ r.2.mem ((c.tc : Thread Cert.AdamAbOutRefIdeal.nD Cert.AdamAbOutRefIdeal.τ).loc Cert.AdamAbOutRefIdeal.main_arg3) = m' ((c.tc : Thread Cert.AdamAbOutRefIdeal.nD Cert.AdamAbOutRefIdeal.τ).loc Cert.AdamAbOutRefIdeal.main_arg3))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v23) = v0 c
          ∧ r.2.mem ((c.tc : Thread Cert.AdamGluRefIdeal.nD Cert.AdamGluRefIdeal.τ).loc Cert.AdamGluRefIdeal.main_v4) = v1 c
          ∧ r.2.mem ((c.tc : Thread Cert.AdamGluRefIdeal.nD Cert.AdamGluRefIdeal.τ).loc Cert.AdamGluRefIdeal.main_v10) = v2 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3))

def preserves_AdamXqo_AdamXqoIdeal : Prop :=
  True

def algebraic_AdamXqoIdeal_AdamXqoRefIdeal [hAdamXqoIdeal : Cert.AdamXqoIdeal.Facts] [hAdamXqoRefIdeal : Cert.AdamXqoRefIdeal.Facts] : Prop :=
  ∀ (m : (ℓ : Loc Cert.AdamXqoIdeal.nD Cert.AdamXqoIdeal.τ Cert.AdamXqoIdeal.sig) → Buf (Elt Ideal) ℓ) (g : Dev Cert.AdamXqoIdeal.nD → PrngReg)
    (m' : (ℓ : Loc Cert.AdamXqoRefIdeal.nD Cert.AdamXqoRefIdeal.τ Cert.AdamXqoRefIdeal.sig) → Buf (Elt Ideal) ℓ) (g' : Dev Cert.AdamXqoRefIdeal.nD → PrngReg), Pre_AdamXqoIdeal m →
    (∀ c : Dev Cert.AdamXqoIdeal.nD,
      m' ((c.tc : Thread Cert.AdamXqoRefIdeal.nD Cert.AdamXqoRefIdeal.τ).loc Cert.AdamXqoRefIdeal.main_arg0) = m ((c.tc : Thread Cert.AdamXqoIdeal.nD Cert.AdamXqoIdeal.τ).loc Cert.AdamXqoIdeal.main_arg0)
      ∧ m' ((c.tc : Thread Cert.AdamXqoRefIdeal.nD Cert.AdamXqoRefIdeal.τ).loc Cert.AdamXqoRefIdeal.main_arg1) = m ((c.tc : Thread Cert.AdamXqoIdeal.nD Cert.AdamXqoIdeal.τ).loc Cert.AdamXqoIdeal.main_arg1)
      ∧ m' ((c.tc : Thread Cert.AdamXqoRefIdeal.nD Cert.AdamXqoRefIdeal.τ).loc Cert.AdamXqoRefIdeal.main_arg2) = m ((c.tc : Thread Cert.AdamXqoIdeal.nD Cert.AdamXqoIdeal.τ).loc Cert.AdamXqoIdeal.main_arg2)
      ∧ m' ((c.tc : Thread Cert.AdamXqoRefIdeal.nD Cert.AdamXqoRefIdeal.τ).loc Cert.AdamXqoRefIdeal.main_arg3) = m ((c.tc : Thread Cert.AdamXqoIdeal.nD Cert.AdamXqoIdeal.τ).loc Cert.AdamXqoIdeal.main_arg3)) →
    ∃ (v0 : (c : Dev Cert.AdamXqoIdeal.nD) → Buf (Elt Ideal) ((c.tc : Thread Cert.AdamXqoIdeal.nD Cert.AdamXqoIdeal.τ).loc Cert.AdamXqoIdeal.main_v0_0)) (v1 : (c : Dev Cert.AdamXqoIdeal.nD) → Buf (Elt Ideal) ((c.tc : Thread Cert.AdamXqoIdeal.nD Cert.AdamXqoIdeal.τ).loc Cert.AdamXqoIdeal.main_v0_1)) (v2 : (c : Dev Cert.AdamXqoIdeal.nD) → Buf (Elt Ideal) ((c.tc : Thread Cert.AdamXqoIdeal.nD Cert.AdamXqoIdeal.τ).loc Cert.AdamXqoIdeal.main_v0_2)),
      θ_run (Cert.AdamXqoIdeal.defs (F := Ideal)) (onTc (τ := Cert.AdamXqoIdeal.τ) (Cert.AdamXqoIdeal.main (F := Ideal))) ⟨m, fun _ => 0, g⟩ (fun r => ∀ c : Dev Cert.AdamXqoIdeal.nD,
          r.2.mem ((c.tc : Thread Cert.AdamXqoIdeal.nD Cert.AdamXqoIdeal.τ).loc Cert.AdamXqoIdeal.main_v0_0) = v0 c
          ∧ r.2.mem ((c.tc : Thread Cert.AdamXqoIdeal.nD Cert.AdamXqoIdeal.τ).loc Cert.AdamXqoIdeal.main_v0_1) = v1 c
          ∧ r.2.mem ((c.tc : Thread Cert.AdamXqoIdeal.nD Cert.AdamXqoIdeal.τ).loc Cert.AdamXqoIdeal.main_v0_2) = v2 c
          ∧ r.2.mem ((c.tc : Thread Cert.AdamXqoIdeal.nD Cert.AdamXqoIdeal.τ).loc Cert.AdamXqoIdeal.main_arg0) = m ((c.tc : Thread Cert.AdamXqoIdeal.nD Cert.AdamXqoIdeal.τ).loc Cert.AdamXqoIdeal.main_arg0)
          ∧ r.2.mem ((c.tc : Thread Cert.AdamXqoIdeal.nD Cert.AdamXqoIdeal.τ).loc Cert.AdamXqoIdeal.main_arg1) = m ((c.tc : Thread Cert.AdamXqoIdeal.nD Cert.AdamXqoIdeal.τ).loc Cert.AdamXqoIdeal.main_arg1)
          ∧ r.2.mem ((c.tc : Thread Cert.AdamXqoIdeal.nD Cert.AdamXqoIdeal.τ).loc Cert.AdamXqoIdeal.main_arg2) = m ((c.tc : Thread Cert.AdamXqoIdeal.nD Cert.AdamXqoIdeal.τ).loc Cert.AdamXqoIdeal.main_arg2)
          ∧ r.2.mem ((c.tc : Thread Cert.AdamXqoIdeal.nD Cert.AdamXqoIdeal.τ).loc Cert.AdamXqoIdeal.main_arg3) = m ((c.tc : Thread Cert.AdamXqoIdeal.nD Cert.AdamXqoIdeal.τ).loc Cert.AdamXqoIdeal.main_arg3))
      ∧ θ_run (Cert.AdamXqoRefIdeal.defs (F := Ideal)) (onTc (τ := Cert.AdamXqoRefIdeal.τ) (Cert.AdamXqoRefIdeal.main (F := Ideal))) ⟨m', fun _ => 0, g'⟩ (fun r => ∀ c : Dev Cert.AdamXqoRefIdeal.nD,
          r.2.mem ((c.tc : Thread Cert.AdamXqoRefIdeal.nD Cert.AdamXqoRefIdeal.τ).loc Cert.AdamXqoRefIdeal.main_v23) = v0 c
          ∧ r.2.mem ((c.tc : Thread Cert.AdamXqoRefIdeal.nD Cert.AdamXqoRefIdeal.τ).loc Cert.AdamXqoRefIdeal.main_v4) = v1 c
          ∧ r.2.mem ((c.tc : Thread Cert.AdamXqoRefIdeal.nD Cert.AdamXqoRefIdeal.τ).loc Cert.AdamXqoRefIdeal.main_v10) = v2 c
          ∧ r.2.mem ((c.tc : Thread Cert.AdamXqoRefIdeal.nD Cert.AdamXqoRefIdeal.τ).loc Cert.AdamXqoRefIdeal.main_arg0) = m' ((c.tc : Thread Cert.AdamXqoRefIdeal.nD Cert.AdamXqoRefIdeal.τ).loc Cert.AdamXqoRefIdeal.main_arg0)
          ∧ r.2.mem ((c.tc : Thread Cert.AdamXqoRefIdeal.nD Cert.AdamXqoRefIdeal.τ).loc Cert.AdamXqoRefIdeal.main_arg1) = m' ((c.tc : Thread Cert.AdamXqoRefIdeal.nD Cert.AdamXqoRefIdeal.τ).loc Cert.AdamXqoRefIdeal.main_arg1)
          ∧ r.2.mem ((c.tc : Thread Cert.AdamXqoRefIdeal.nD Cert.AdamXqoRefIdeal.τ).loc Cert.AdamXqoRefIdeal.main_arg2) = m' ((c.tc : Thread Cert.AdamXqoRefIdeal.nD Cert.AdamXqoRefIdeal.τ).loc Cert.AdamXqoRefIdeal.main_arg2)
          ∧ r.2.mem ((c.tc : Thread Cert.AdamXqoRefIdeal.nD Cert.AdamXqoRefIdeal.τ).loc Cert.AdamXqoRefIdeal.main_arg3) = m' ((c.tc : Thread Cert.AdamXqoRefIdeal.nD Cert.AdamXqoRefIdeal.τ).loc Cert.AdamXqoRefIdeal.main_arg3))

def preserves_AdamXkv_AdamXkvIdeal : Prop :=
  True

def algebraic_AdamXkvIdeal_AdamXkvRefIdeal [hAdamXkvIdeal : Cert.AdamXkvIdeal.Facts] [hAdamXkvRefIdeal : Cert.AdamXkvRefIdeal.Facts] : Prop :=
  ∀ (m : (ℓ : Loc Cert.AdamXkvIdeal.nD Cert.AdamXkvIdeal.τ Cert.AdamXkvIdeal.sig) → Buf (Elt Ideal) ℓ) (g : Dev Cert.AdamXkvIdeal.nD → PrngReg)
    (m' : (ℓ : Loc Cert.AdamXkvRefIdeal.nD Cert.AdamXkvRefIdeal.τ Cert.AdamXkvRefIdeal.sig) → Buf (Elt Ideal) ℓ) (g' : Dev Cert.AdamXkvRefIdeal.nD → PrngReg), Pre_AdamXkvIdeal m →
    (∀ c : Dev Cert.AdamXkvIdeal.nD,
      m' ((c.tc : Thread Cert.AdamXkvRefIdeal.nD Cert.AdamXkvRefIdeal.τ).loc Cert.AdamXkvRefIdeal.main_arg0) = m ((c.tc : Thread Cert.AdamXkvIdeal.nD Cert.AdamXkvIdeal.τ).loc Cert.AdamXkvIdeal.main_arg0)
      ∧ m' ((c.tc : Thread Cert.AdamXkvRefIdeal.nD Cert.AdamXkvRefIdeal.τ).loc Cert.AdamXkvRefIdeal.main_arg1) = m ((c.tc : Thread Cert.AdamXkvIdeal.nD Cert.AdamXkvIdeal.τ).loc Cert.AdamXkvIdeal.main_arg1)
      ∧ m' ((c.tc : Thread Cert.AdamXkvRefIdeal.nD Cert.AdamXkvRefIdeal.τ).loc Cert.AdamXkvRefIdeal.main_arg2) = m ((c.tc : Thread Cert.AdamXkvIdeal.nD Cert.AdamXkvIdeal.τ).loc Cert.AdamXkvIdeal.main_arg2)
      ∧ m' ((c.tc : Thread Cert.AdamXkvRefIdeal.nD Cert.AdamXkvRefIdeal.τ).loc Cert.AdamXkvRefIdeal.main_arg3) = m ((c.tc : Thread Cert.AdamXkvIdeal.nD Cert.AdamXkvIdeal.τ).loc Cert.AdamXkvIdeal.main_arg3)) →
    ∃ (v0 : (c : Dev Cert.AdamXkvIdeal.nD) → Buf (Elt Ideal) ((c.tc : Thread Cert.AdamXkvIdeal.nD Cert.AdamXkvIdeal.τ).loc Cert.AdamXkvIdeal.main_v0_0)) (v1 : (c : Dev Cert.AdamXkvIdeal.nD) → Buf (Elt Ideal) ((c.tc : Thread Cert.AdamXkvIdeal.nD Cert.AdamXkvIdeal.τ).loc Cert.AdamXkvIdeal.main_v0_1)) (v2 : (c : Dev Cert.AdamXkvIdeal.nD) → Buf (Elt Ideal) ((c.tc : Thread Cert.AdamXkvIdeal.nD Cert.AdamXkvIdeal.τ).loc Cert.AdamXkvIdeal.main_v0_2)),
      θ_run (Cert.AdamXkvIdeal.defs (F := Ideal)) (onTc (τ := Cert.AdamXkvIdeal.τ) (Cert.AdamXkvIdeal.main (F := Ideal))) ⟨m, fun _ => 0, g⟩ (fun r => ∀ c : Dev Cert.AdamXkvIdeal.nD,
          r.2.mem ((c.tc : Thread Cert.AdamXkvIdeal.nD Cert.AdamXkvIdeal.τ).loc Cert.AdamXkvIdeal.main_v0_0) = v0 c
          ∧ r.2.mem ((c.tc : Thread Cert.AdamXkvIdeal.nD Cert.AdamXkvIdeal.τ).loc Cert.AdamXkvIdeal.main_v0_1) = v1 c
          ∧ r.2.mem ((c.tc : Thread Cert.AdamXkvIdeal.nD Cert.AdamXkvIdeal.τ).loc Cert.AdamXkvIdeal.main_v0_2) = v2 c
          ∧ r.2.mem ((c.tc : Thread Cert.AdamXkvIdeal.nD Cert.AdamXkvIdeal.τ).loc Cert.AdamXkvIdeal.main_arg0) = m ((c.tc : Thread Cert.AdamXkvIdeal.nD Cert.AdamXkvIdeal.τ).loc Cert.AdamXkvIdeal.main_arg0)
          ∧ r.2.mem ((c.tc : Thread Cert.AdamXkvIdeal.nD Cert.AdamXkvIdeal.τ).loc Cert.AdamXkvIdeal.main_arg1) = m ((c.tc : Thread Cert.AdamXkvIdeal.nD Cert.AdamXkvIdeal.τ).loc Cert.AdamXkvIdeal.main_arg1)
          ∧ r.2.mem ((c.tc : Thread Cert.AdamXkvIdeal.nD Cert.AdamXkvIdeal.τ).loc Cert.AdamXkvIdeal.main_arg2) = m ((c.tc : Thread Cert.AdamXkvIdeal.nD Cert.AdamXkvIdeal.τ).loc Cert.AdamXkvIdeal.main_arg2)
          ∧ r.2.mem ((c.tc : Thread Cert.AdamXkvIdeal.nD Cert.AdamXkvIdeal.τ).loc Cert.AdamXkvIdeal.main_arg3) = m ((c.tc : Thread Cert.AdamXkvIdeal.nD Cert.AdamXkvIdeal.τ).loc Cert.AdamXkvIdeal.main_arg3))
      ∧ θ_run (Cert.AdamXkvRefIdeal.defs (F := Ideal)) (onTc (τ := Cert.AdamXkvRefIdeal.τ) (Cert.AdamXkvRefIdeal.main (F := Ideal))) ⟨m', fun _ => 0, g'⟩ (fun r => ∀ c : Dev Cert.AdamXkvRefIdeal.nD,
          r.2.mem ((c.tc : Thread Cert.AdamXkvRefIdeal.nD Cert.AdamXkvRefIdeal.τ).loc Cert.AdamXkvRefIdeal.main_v23) = v0 c
          ∧ r.2.mem ((c.tc : Thread Cert.AdamXkvRefIdeal.nD Cert.AdamXkvRefIdeal.τ).loc Cert.AdamXkvRefIdeal.main_v4) = v1 c
          ∧ r.2.mem ((c.tc : Thread Cert.AdamXkvRefIdeal.nD Cert.AdamXkvRefIdeal.τ).loc Cert.AdamXkvRefIdeal.main_v10) = v2 c
          ∧ r.2.mem ((c.tc : Thread Cert.AdamXkvRefIdeal.nD Cert.AdamXkvRefIdeal.τ).loc Cert.AdamXkvRefIdeal.main_arg0) = m' ((c.tc : Thread Cert.AdamXkvRefIdeal.nD Cert.AdamXkvRefIdeal.τ).loc Cert.AdamXkvRefIdeal.main_arg0)
          ∧ r.2.mem ((c.tc : Thread Cert.AdamXkvRefIdeal.nD Cert.AdamXkvRefIdeal.τ).loc Cert.AdamXkvRefIdeal.main_arg1) = m' ((c.tc : Thread Cert.AdamXkvRefIdeal.nD Cert.AdamXkvRefIdeal.τ).loc Cert.AdamXkvRefIdeal.main_arg1)
          ∧ r.2.mem ((c.tc : Thread Cert.AdamXkvRefIdeal.nD Cert.AdamXkvRefIdeal.τ).loc Cert.AdamXkvRefIdeal.main_arg2) = m' ((c.tc : Thread Cert.AdamXkvRefIdeal.nD Cert.AdamXkvRefIdeal.τ).loc Cert.AdamXkvRefIdeal.main_arg2)
          ∧ r.2.mem ((c.tc : Thread Cert.AdamXkvRefIdeal.nD Cert.AdamXkvRefIdeal.τ).loc Cert.AdamXkvRefIdeal.main_arg3) = m' ((c.tc : Thread Cert.AdamXkvRefIdeal.nD Cert.AdamXkvRefIdeal.τ).loc Cert.AdamXkvRefIdeal.main_arg3))

def preserves_AdamFfnIn_AdamFfnInIdeal : Prop :=
  True

def algebraic_AdamFfnInIdeal_AdamFfnInRefIdeal [hAdamFfnInIdeal : Cert.AdamFfnInIdeal.Facts] [hAdamFfnInRefIdeal : Cert.AdamFfnInRefIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.AdamFfnInRefIdeal.nD Cert.AdamFfnInRefIdeal.τ Cert.AdamFfnInRefIdeal.sig) → Buf (Elt Ideal) ℓ) (g' : Dev Cert.AdamFfnInRefIdeal.nD → PrngReg), Pre_AdamFfnInIdeal m →
    (∀ c : Dev Cert.AdamFfnInIdeal.nD,
      m' ((c.tc : Thread Cert.AdamFfnInRefIdeal.nD Cert.AdamFfnInRefIdeal.τ).loc Cert.AdamFfnInRefIdeal.main_arg0) = m ((c.tc : Thread Cert.AdamFfnInIdeal.nD Cert.AdamFfnInIdeal.τ).loc Cert.AdamFfnInIdeal.main_arg0)
      ∧ m' ((c.tc : Thread Cert.AdamFfnInRefIdeal.nD Cert.AdamFfnInRefIdeal.τ).loc Cert.AdamFfnInRefIdeal.main_arg1) = m ((c.tc : Thread Cert.AdamFfnInIdeal.nD Cert.AdamFfnInIdeal.τ).loc Cert.AdamFfnInIdeal.main_arg1)
      ∧ m' ((c.tc : Thread Cert.AdamFfnInRefIdeal.nD Cert.AdamFfnInRefIdeal.τ).loc Cert.AdamFfnInRefIdeal.main_arg2) = m ((c.tc : Thread Cert.AdamFfnInIdeal.nD Cert.AdamFfnInIdeal.τ).loc Cert.AdamFfnInIdeal.main_arg2)
      ∧ m' ((c.tc : Thread Cert.AdamFfnInRefIdeal.nD Cert.AdamFfnInRefIdeal.τ).loc Cert.AdamFfnInRefIdeal.main_arg3) = m ((c.tc : Thread Cert.AdamFfnInIdeal.nD Cert.AdamFfnInIdeal.τ).loc Cert.AdamFfnInIdeal.main_arg3)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3))
      ∧ θ_run (Cert.AdamFfnInRefIdeal.defs (F := Ideal)) (onTc (τ := Cert.AdamFfnInRefIdeal.τ) (Cert.AdamFfnInRefIdeal.main (F := Ideal))) ⟨m', fun _ => 0, g'⟩ (fun r => ∀ c : Dev Cert.AdamFfnInRefIdeal.nD,
          r.2.mem ((c.tc : Thread Cert.AdamFfnInRefIdeal.nD Cert.AdamFfnInRefIdeal.τ).loc Cert.AdamFfnInRefIdeal.main_v23) = v0 c
          ∧ r.2.mem ((c.tc : Thread Cert.AdamFfnInRefIdeal.nD Cert.AdamFfnInRefIdeal.τ).loc Cert.AdamFfnInRefIdeal.main_v4) = v1 c
          ∧ r.2.mem ((c.tc : Thread Cert.AdamFfnInRefIdeal.nD Cert.AdamFfnInRefIdeal.τ).loc Cert.AdamFfnInRefIdeal.main_v10) = v2 c
          ∧ r.2.mem ((c.tc : Thread Cert.AdamFfnInRefIdeal.nD Cert.AdamFfnInRefIdeal.τ).loc Cert.AdamFfnInRefIdeal.main_arg0) = m' ((c.tc : Thread Cert.AdamFfnInRefIdeal.nD Cert.AdamFfnInRefIdeal.τ).loc Cert.AdamFfnInRefIdeal.main_arg0)
          ∧ r.2.mem ((c.tc : Thread Cert.AdamFfnInRefIdeal.nD Cert.AdamFfnInRefIdeal.τ).loc Cert.AdamFfnInRefIdeal.main_arg1) = m' ((c.tc : Thread Cert.AdamFfnInRefIdeal.nD Cert.AdamFfnInRefIdeal.τ).loc Cert.AdamFfnInRefIdeal.main_arg1)
          ∧ r.2.mem ((c.tc : Thread Cert.AdamFfnInRefIdeal.nD Cert.AdamFfnInRefIdeal.τ).loc Cert.AdamFfnInRefIdeal.main_arg2) = m' ((c.tc : Thread Cert.AdamFfnInRefIdeal.nD Cert.AdamFfnInRefIdeal.τ).loc Cert.AdamFfnInRefIdeal.main_arg2)
          ∧ r.2.mem ((c.tc : Thread Cert.AdamFfnInRefIdeal.nD Cert.AdamFfnInRefIdeal.τ).loc Cert.AdamFfnInRefIdeal.main_arg3) = m' ((c.tc : Thread Cert.AdamFfnInRefIdeal.nD Cert.AdamFfnInRefIdeal.τ).loc Cert.AdamFfnInRefIdeal.main_arg3))

def preserves_AdamFfnOut_AdamFfnOutIdeal : Prop :=
  True

def algebraic_AdamFfnOutIdeal_AdamFfnOutRefIdeal [hAdamFfnOutIdeal : Cert.AdamFfnOutIdeal.Facts] [hAdamFfnOutRefIdeal : Cert.AdamFfnOutRefIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.AdamFfnOutRefIdeal.nD Cert.AdamFfnOutRefIdeal.τ Cert.AdamFfnOutRefIdeal.sig) → Buf (Elt Ideal) ℓ) (g' : Dev Cert.AdamFfnOutRefIdeal.nD → PrngReg), Pre_AdamFfnOutIdeal m →
    (∀ c : Dev Cert.AdamFfnOutIdeal.nD,
      m' ((c.tc : Thread Cert.AdamFfnOutRefIdeal.nD Cert.AdamFfnOutRefIdeal.τ).loc Cert.AdamFfnOutRefIdeal.main_arg0) = m ((c.tc : Thread Cert.AdamFfnOutIdeal.nD Cert.AdamFfnOutIdeal.τ).loc Cert.AdamFfnOutIdeal.main_arg0)
      ∧ m' ((c.tc : Thread Cert.AdamFfnOutRefIdeal.nD Cert.AdamFfnOutRefIdeal.τ).loc Cert.AdamFfnOutRefIdeal.main_arg1) = m ((c.tc : Thread Cert.AdamFfnOutIdeal.nD Cert.AdamFfnOutIdeal.τ).loc Cert.AdamFfnOutIdeal.main_arg1)
      ∧ m' ((c.tc : Thread Cert.AdamFfnOutRefIdeal.nD Cert.AdamFfnOutRefIdeal.τ).loc Cert.AdamFfnOutRefIdeal.main_arg2) = m ((c.tc : Thread Cert.AdamFfnOutIdeal.nD Cert.AdamFfnOutIdeal.τ).loc Cert.AdamFfnOutIdeal.main_arg2)
      ∧ m' ((c.tc : Thread Cert.AdamFfnOutRefIdeal.nD Cert.AdamFfnOutRefIdeal.τ).loc Cert.AdamFfnOutRefIdeal.main_arg3) = m ((c.tc : Thread Cert.AdamFfnOutIdeal.nD Cert.AdamFfnOutIdeal.τ).loc Cert.AdamFfnOutIdeal.main_arg3)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3))
      ∧ θ_run (Cert.AdamFfnOutRefIdeal.defs (F := Ideal)) (onTc (τ := Cert.AdamFfnOutRefIdeal.τ) (Cert.AdamFfnOutRefIdeal.main (F := Ideal))) ⟨m', fun _ => 0, g'⟩ (fun r => ∀ c : Dev Cert.AdamFfnOutRefIdeal.nD,
          r.2.mem ((c.tc : Thread Cert.AdamFfnOutRefIdeal.nD Cert.AdamFfnOutRefIdeal.τ).loc Cert.AdamFfnOutRefIdeal.main_v23) = v0 c
          ∧ r.2.mem ((c.tc : Thread Cert.AdamFfnOutRefIdeal.nD Cert.AdamFfnOutRefIdeal.τ).loc Cert.AdamFfnOutRefIdeal.main_v4) = v1 c
          ∧ r.2.mem ((c.tc : Thread Cert.AdamFfnOutRefIdeal.nD Cert.AdamFfnOutRefIdeal.τ).loc Cert.AdamFfnOutRefIdeal.main_v10) = v2 c
          ∧ r.2.mem ((c.tc : Thread Cert.AdamFfnOutRefIdeal.nD Cert.AdamFfnOutRefIdeal.τ).loc Cert.AdamFfnOutRefIdeal.main_arg0) = m' ((c.tc : Thread Cert.AdamFfnOutRefIdeal.nD Cert.AdamFfnOutRefIdeal.τ).loc Cert.AdamFfnOutRefIdeal.main_arg0)
          ∧ r.2.mem ((c.tc : Thread Cert.AdamFfnOutRefIdeal.nD Cert.AdamFfnOutRefIdeal.τ).loc Cert.AdamFfnOutRefIdeal.main_arg1) = m' ((c.tc : Thread Cert.AdamFfnOutRefIdeal.nD Cert.AdamFfnOutRefIdeal.τ).loc Cert.AdamFfnOutRefIdeal.main_arg1)
          ∧ r.2.mem ((c.tc : Thread Cert.AdamFfnOutRefIdeal.nD Cert.AdamFfnOutRefIdeal.τ).loc Cert.AdamFfnOutRefIdeal.main_arg2) = m' ((c.tc : Thread Cert.AdamFfnOutRefIdeal.nD Cert.AdamFfnOutRefIdeal.τ).loc Cert.AdamFfnOutRefIdeal.main_arg2)
          ∧ r.2.mem ((c.tc : Thread Cert.AdamFfnOutRefIdeal.nD Cert.AdamFfnOutRefIdeal.τ).loc Cert.AdamFfnOutRefIdeal.main_arg3) = m' ((c.tc : Thread Cert.AdamFfnOutRefIdeal.nD Cert.AdamFfnOutRefIdeal.τ).loc Cert.AdamFfnOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v0)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v14) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v0)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v14) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_ResNorm_ResNormIdeal : Prop :=
  True

def algebraic_ResNormIdeal_ResNormRefIdeal [hResNormIdeal : Cert.ResNormIdeal.Facts] [hResNormRefIdeal : Cert.ResNormRefIdeal.Facts] : Prop :=
  ∀ (m : (ℓ : Loc Cert.ResNormIdeal.nD Cert.ResNormIdeal.τ Cert.ResNormIdeal.sig) → Buf (Elt Ideal) ℓ) (g : Dev Cert.ResNormIdeal.nD → PrngReg)
    (m' : (ℓ : Loc Cert.ResNormRefIdeal.nD Cert.ResNormRefIdeal.τ Cert.ResNormRefIdeal.sig) → Buf (Elt Ideal) ℓ) (g' : Dev Cert.ResNormRefIdeal.nD → PrngReg), Pre_ResNormIdeal m →
    (∀ c : Dev Cert.ResNormIdeal.nD,
      m' ((c.tc : Thread Cert.ResNormRefIdeal.nD Cert.ResNormRefIdeal.τ).loc Cert.ResNormRefIdeal.main_arg0) = m ((c.tc : Thread Cert.ResNormIdeal.nD Cert.ResNormIdeal.τ).loc Cert.ResNormIdeal.main_arg0)
      ∧ m' ((c.tc : Thread Cert.ResNormRefIdeal.nD Cert.ResNormRefIdeal.τ).loc Cert.ResNormRefIdeal.main_arg1) = m ((c.tc : Thread Cert.ResNormIdeal.nD Cert.ResNormIdeal.τ).loc Cert.ResNormIdeal.main_arg1)
      ∧ m' ((c.tc : Thread Cert.ResNormRefIdeal.nD Cert.ResNormRefIdeal.τ).loc Cert.ResNormRefIdeal.main_arg2) = m ((c.tc : Thread Cert.ResNormIdeal.nD Cert.ResNormIdeal.τ).loc Cert.ResNormIdeal.main_arg2)
      ∧ m' ((c.tc : Thread Cert.ResNormRefIdeal.nD Cert.ResNormRefIdeal.τ).loc Cert.ResNormRefIdeal.main_arg3) = m ((c.tc : Thread Cert.ResNormIdeal.nD Cert.ResNormIdeal.τ).loc Cert.ResNormIdeal.main_arg3)) →
    ∃ (v0 : (c : Dev Cert.ResNormIdeal.nD) → Buf (Elt Ideal) ((c.tc : Thread Cert.ResNormIdeal.nD Cert.ResNormIdeal.τ).loc Cert.ResNormIdeal.main_v0_0)) (v1 : (c : Dev Cert.ResNormIdeal.nD) → Buf (Elt Ideal) ((c.tc : Thread Cert.ResNormIdeal.nD Cert.ResNormIdeal.τ).loc Cert.ResNormIdeal.main_v0_1)),
      θ_run (Cert.ResNormIdeal.defs (F := Ideal)) (onTc (τ := Cert.ResNormIdeal.τ) (Cert.ResNormIdeal.main (F := Ideal))) ⟨m, fun _ => 0, g⟩ (fun r => ∀ c : Dev Cert.ResNormIdeal.nD,
          r.2.mem ((c.tc : Thread Cert.ResNormIdeal.nD Cert.ResNormIdeal.τ).loc Cert.ResNormIdeal.main_v0_0) = v0 c
          ∧ r.2.mem ((c.tc : Thread Cert.ResNormIdeal.nD Cert.ResNormIdeal.τ).loc Cert.ResNormIdeal.main_v0_1) = v1 c
          ∧ r.2.mem ((c.tc : Thread Cert.ResNormIdeal.nD Cert.ResNormIdeal.τ).loc Cert.ResNormIdeal.main_arg0) = m ((c.tc : Thread Cert.ResNormIdeal.nD Cert.ResNormIdeal.τ).loc Cert.ResNormIdeal.main_arg0)
          ∧ r.2.mem ((c.tc : Thread Cert.ResNormIdeal.nD Cert.ResNormIdeal.τ).loc Cert.ResNormIdeal.main_arg1) = m ((c.tc : Thread Cert.ResNormIdeal.nD Cert.ResNormIdeal.τ).loc Cert.ResNormIdeal.main_arg1)
          ∧ r.2.mem ((c.tc : Thread Cert.ResNormIdeal.nD Cert.ResNormIdeal.τ).loc Cert.ResNormIdeal.main_arg2) = m ((c.tc : Thread Cert.ResNormIdeal.nD Cert.ResNormIdeal.τ).loc Cert.ResNormIdeal.main_arg2)
          ∧ r.2.mem ((c.tc : Thread Cert.ResNormIdeal.nD Cert.ResNormIdeal.τ).loc Cert.ResNormIdeal.main_arg3) = m ((c.tc : Thread Cert.ResNormIdeal.nD Cert.ResNormIdeal.τ).loc Cert.ResNormIdeal.main_arg3))
      ∧ θ_run (Cert.ResNormRefIdeal.defs (F := Ideal)) (onTc (τ := Cert.ResNormRefIdeal.τ) (Cert.ResNormRefIdeal.main (F := Ideal))) ⟨m', fun _ => 0, g'⟩ (fun r => ∀ c : Dev Cert.ResNormRefIdeal.nD,
          r.2.mem ((c.tc : Thread Cert.ResNormRefIdeal.nD Cert.ResNormRefIdeal.τ).loc Cert.ResNormRefIdeal.main_v14) = v0 c
          ∧ r.2.mem ((c.tc : Thread Cert.ResNormRefIdeal.nD Cert.ResNormRefIdeal.τ).loc Cert.ResNormRefIdeal.main_v29) = v1 c
          ∧ r.2.mem ((c.tc : Thread Cert.ResNormRefIdeal.nD Cert.ResNormRefIdeal.τ).loc Cert.ResNormRefIdeal.main_arg0) = m' ((c.tc : Thread Cert.ResNormRefIdeal.nD Cert.ResNormRefIdeal.τ).loc Cert.ResNormRefIdeal.main_arg0)
          ∧ r.2.mem ((c.tc : Thread Cert.ResNormRefIdeal.nD Cert.ResNormRefIdeal.τ).loc Cert.ResNormRefIdeal.main_arg1) = m' ((c.tc : Thread Cert.ResNormRefIdeal.nD Cert.ResNormRefIdeal.τ).loc Cert.ResNormRefIdeal.main_arg1)
          ∧ r.2.mem ((c.tc : Thread Cert.ResNormRefIdeal.nD Cert.ResNormRefIdeal.τ).loc Cert.ResNormRefIdeal.main_arg2) = m' ((c.tc : Thread Cert.ResNormRefIdeal.nD Cert.ResNormRefIdeal.τ).loc Cert.ResNormRefIdeal.main_arg2)
          ∧ r.2.mem ((c.tc : Thread Cert.ResNormRefIdeal.nD Cert.ResNormRefIdeal.τ).loc Cert.ResNormRefIdeal.main_arg3) = m' ((c.tc : Thread Cert.ResNormRefIdeal.nD Cert.ResNormRefIdeal.τ).loc Cert.ResNormRefIdeal.main_arg3))

def preserves_ResNormC_ResNormCIdeal : Prop :=
  True

def algebraic_ResNormCIdeal_ResNormCRefIdeal [hResNormCIdeal : Cert.ResNormCIdeal.Facts] [hResNormCRefIdeal : Cert.ResNormCRefIdeal.Facts] : Prop :=
  ∀ (m : (ℓ : Loc Cert.ResNormCIdeal.nD Cert.ResNormCIdeal.τ Cert.ResNormCIdeal.sig) → Buf (Elt Ideal) ℓ) (g : Dev Cert.ResNormCIdeal.nD → PrngReg)
    (m' : (ℓ : Loc Cert.ResNormCRefIdeal.nD Cert.ResNormCRefIdeal.τ Cert.ResNormCRefIdeal.sig) → Buf (Elt Ideal) ℓ) (g' : Dev Cert.ResNormCRefIdeal.nD → PrngReg), Pre_ResNormCIdeal m →
    (∀ c : Dev Cert.ResNormCIdeal.nD,
      m' ((c.tc : Thread Cert.ResNormCRefIdeal.nD Cert.ResNormCRefIdeal.τ).loc Cert.ResNormCRefIdeal.main_arg0) = m ((c.tc : Thread Cert.ResNormCIdeal.nD Cert.ResNormCIdeal.τ).loc Cert.ResNormCIdeal.main_arg0)
      ∧ m' ((c.tc : Thread Cert.ResNormCRefIdeal.nD Cert.ResNormCRefIdeal.τ).loc Cert.ResNormCRefIdeal.main_arg1) = m ((c.tc : Thread Cert.ResNormCIdeal.nD Cert.ResNormCIdeal.τ).loc Cert.ResNormCIdeal.main_arg1)
      ∧ m' ((c.tc : Thread Cert.ResNormCRefIdeal.nD Cert.ResNormCRefIdeal.τ).loc Cert.ResNormCRefIdeal.main_arg2) = m ((c.tc : Thread Cert.ResNormCIdeal.nD Cert.ResNormCIdeal.τ).loc Cert.ResNormCIdeal.main_arg2)
      ∧ m' ((c.tc : Thread Cert.ResNormCRefIdeal.nD Cert.ResNormCRefIdeal.τ).loc Cert.ResNormCRefIdeal.main_arg3) = m ((c.tc : Thread Cert.ResNormCIdeal.nD Cert.ResNormCIdeal.τ).loc Cert.ResNormCIdeal.main_arg3)) →
    ∃ (v0 : (c : Dev Cert.ResNormCIdeal.nD) → Buf (Elt Ideal) ((c.tc : Thread Cert.ResNormCIdeal.nD Cert.ResNormCIdeal.τ).loc Cert.ResNormCIdeal.main_v0_0)) (v1 : (c : Dev Cert.ResNormCIdeal.nD) → Buf (Elt Ideal) ((c.tc : Thread Cert.ResNormCIdeal.nD Cert.ResNormCIdeal.τ).loc Cert.ResNormCIdeal.main_v0_1)),
      θ_run (Cert.ResNormCIdeal.defs (F := Ideal)) (onTc (τ := Cert.ResNormCIdeal.τ) (Cert.ResNormCIdeal.main (F := Ideal))) ⟨m, fun _ => 0, g⟩ (fun r => ∀ c : Dev Cert.ResNormCIdeal.nD,
          r.2.mem ((c.tc : Thread Cert.ResNormCIdeal.nD Cert.ResNormCIdeal.τ).loc Cert.ResNormCIdeal.main_v0_0) = v0 c
          ∧ r.2.mem ((c.tc : Thread Cert.ResNormCIdeal.nD Cert.ResNormCIdeal.τ).loc Cert.ResNormCIdeal.main_v0_1) = v1 c
          ∧ r.2.mem ((c.tc : Thread Cert.ResNormCIdeal.nD Cert.ResNormCIdeal.τ).loc Cert.ResNormCIdeal.main_arg0) = m ((c.tc : Thread Cert.ResNormCIdeal.nD Cert.ResNormCIdeal.τ).loc Cert.ResNormCIdeal.main_arg0)
          ∧ r.2.mem ((c.tc : Thread Cert.ResNormCIdeal.nD Cert.ResNormCIdeal.τ).loc Cert.ResNormCIdeal.main_arg1) = m ((c.tc : Thread Cert.ResNormCIdeal.nD Cert.ResNormCIdeal.τ).loc Cert.ResNormCIdeal.main_arg1)
          ∧ r.2.mem ((c.tc : Thread Cert.ResNormCIdeal.nD Cert.ResNormCIdeal.τ).loc Cert.ResNormCIdeal.main_arg2) = m ((c.tc : Thread Cert.ResNormCIdeal.nD Cert.ResNormCIdeal.τ).loc Cert.ResNormCIdeal.main_arg2)
          ∧ r.2.mem ((c.tc : Thread Cert.ResNormCIdeal.nD Cert.ResNormCIdeal.τ).loc Cert.ResNormCIdeal.main_arg3) = m ((c.tc : Thread Cert.ResNormCIdeal.nD Cert.ResNormCIdeal.τ).loc Cert.ResNormCIdeal.main_arg3))
      ∧ θ_run (Cert.ResNormCRefIdeal.defs (F := Ideal)) (onTc (τ := Cert.ResNormCRefIdeal.τ) (Cert.ResNormCRefIdeal.main (F := Ideal))) ⟨m', fun _ => 0, g'⟩ (fun r => ∀ c : Dev Cert.ResNormCRefIdeal.nD,
          r.2.mem ((c.tc : Thread Cert.ResNormCRefIdeal.nD Cert.ResNormCRefIdeal.τ).loc Cert.ResNormCRefIdeal.main_v14) = v0 c
          ∧ r.2.mem ((c.tc : Thread Cert.ResNormCRefIdeal.nD Cert.ResNormCRefIdeal.τ).loc Cert.ResNormCRefIdeal.main_v28) = v1 c
          ∧ r.2.mem ((c.tc : Thread Cert.ResNormCRefIdeal.nD Cert.ResNormCRefIdeal.τ).loc Cert.ResNormCRefIdeal.main_arg0) = m' ((c.tc : Thread Cert.ResNormCRefIdeal.nD Cert.ResNormCRefIdeal.τ).loc Cert.ResNormCRefIdeal.main_arg0)
          ∧ r.2.mem ((c.tc : Thread Cert.ResNormCRefIdeal.nD Cert.ResNormCRefIdeal.τ).loc Cert.ResNormCRefIdeal.main_arg1) = m' ((c.tc : Thread Cert.ResNormCRefIdeal.nD Cert.ResNormCRefIdeal.τ).loc Cert.ResNormCRefIdeal.main_arg1)
          ∧ r.2.mem ((c.tc : Thread Cert.ResNormCRefIdeal.nD Cert.ResNormCRefIdeal.τ).loc Cert.ResNormCRefIdeal.main_arg2) = m' ((c.tc : Thread Cert.ResNormCRefIdeal.nD Cert.ResNormCRefIdeal.τ).loc Cert.ResNormCRefIdeal.main_arg2)
          ∧ r.2.mem ((c.tc : Thread Cert.ResNormCRefIdeal.nD Cert.ResNormCRefIdeal.τ).loc Cert.ResNormCRefIdeal.main_arg3) = m' ((c.tc : Thread Cert.ResNormCRefIdeal.nD Cert.ResNormCRefIdeal.τ).loc Cert.ResNormCRefIdeal.main_arg3))

def preserves_Gelu_GeluIdeal : Prop :=
  True

def algebraic_GeluIdeal_GeluRefIdeal [hGeluIdeal : Cert.GeluIdeal.Facts] [hGeluRefIdeal : Cert.GeluRefIdeal.Facts] : Prop :=
  ∀ (m : (ℓ : Loc Cert.GeluIdeal.nD Cert.GeluIdeal.τ Cert.GeluIdeal.sig) → Buf (Elt Ideal) ℓ) (g : Dev Cert.GeluIdeal.nD → PrngReg)
    (m' : (ℓ : Loc Cert.GeluRefIdeal.nD Cert.GeluRefIdeal.τ Cert.GeluRefIdeal.sig) → Buf (Elt Ideal) ℓ) (g' : Dev Cert.GeluRefIdeal.nD → PrngReg), Pre_GeluIdeal m →
    (∀ c : Dev Cert.GeluIdeal.nD,
      m' ((c.tc : Thread Cert.GeluRefIdeal.nD Cert.GeluRefIdeal.τ).loc Cert.GeluRefIdeal.main_arg0) = m ((c.tc : Thread Cert.GeluIdeal.nD Cert.GeluIdeal.τ).loc Cert.GeluIdeal.main_arg0)
      ∧ m' ((c.tc : Thread Cert.GeluRefIdeal.nD Cert.GeluRefIdeal.τ).loc Cert.GeluRefIdeal.main_arg1) = m ((c.tc : Thread Cert.GeluIdeal.nD Cert.GeluIdeal.τ).loc Cert.GeluIdeal.main_arg1)
      ∧ m' ((c.tc : Thread Cert.GeluRefIdeal.nD Cert.GeluRefIdeal.τ).loc Cert.GeluRefIdeal.main_arg2) = m ((c.tc : Thread Cert.GeluIdeal.nD Cert.GeluIdeal.τ).loc Cert.GeluIdeal.main_arg2)) →
    ∃ (v0 : (c : Dev Cert.GeluIdeal.nD) → Buf (Elt Ideal) ((c.tc : Thread Cert.GeluIdeal.nD Cert.GeluIdeal.τ).loc Cert.GeluIdeal.main_v0_0)) (v1 : (c : Dev Cert.GeluIdeal.nD) → Buf (Elt Ideal) ((c.tc : Thread Cert.GeluIdeal.nD Cert.GeluIdeal.τ).loc Cert.GeluIdeal.main_v0_1)),
      θ_run (Cert.GeluIdeal.defs (F := Ideal)) (onTc (τ := Cert.GeluIdeal.τ) (Cert.GeluIdeal.main (F := Ideal))) ⟨m, fun _ => 0, g⟩ (fun r => ∀ c : Dev Cert.GeluIdeal.nD,
          r.2.mem ((c.tc : Thread Cert.GeluIdeal.nD Cert.GeluIdeal.τ).loc Cert.GeluIdeal.main_v0_0) = v0 c
          ∧ r.2.mem ((c.tc : Thread Cert.GeluIdeal.nD Cert.GeluIdeal.τ).loc Cert.GeluIdeal.main_v0_1) = v1 c
          ∧ r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
          ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
          ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2))
      ∧ θ_run (Cert.GeluRefIdeal.defs (F := Ideal)) (onTc (τ := Cert.GeluRefIdeal.τ) (Cert.GeluRefIdeal.main (F := Ideal))) ⟨m', fun _ => 0, g'⟩ (fun r => ∀ c : Dev Cert.GeluRefIdeal.nD,
          r.2.mem ((c.tc : Thread Cert.GeluRefIdeal.nD Cert.GeluRefIdeal.τ).loc Cert.GeluRefIdeal.main_v4) = v0 c
          ∧ r.2.mem ((c.tc : Thread Cert.GeluRefIdeal.nD Cert.GeluRefIdeal.τ).loc Cert.GeluRefIdeal.main_v12) = v1 c
          ∧ r.2.mem ((c.tc : Thread Cert.GeluRefIdeal.nD Cert.GeluRefIdeal.τ).loc Cert.GeluRefIdeal.main_arg0) = m' ((c.tc : Thread Cert.GeluRefIdeal.nD Cert.GeluRefIdeal.τ).loc Cert.GeluRefIdeal.main_arg0)
          ∧ r.2.mem ((c.tc : Thread Cert.GeluRefIdeal.nD Cert.GeluRefIdeal.τ).loc Cert.GeluRefIdeal.main_arg1) = m' ((c.tc : Thread Cert.GeluRefIdeal.nD Cert.GeluRefIdeal.τ).loc Cert.GeluRefIdeal.main_arg1)
          ∧ r.2.mem ((c.tc : Thread Cert.GeluRefIdeal.nD Cert.GeluRefIdeal.τ).loc Cert.GeluRefIdeal.main_arg2) = m' ((c.tc : Thread Cert.GeluRefIdeal.nD Cert.GeluRefIdeal.τ).loc Cert.GeluRefIdeal.main_arg2))

def preserves_GateB_GateBIdeal : Prop :=
  True

def algebraic_GateBIdeal_GateBRefIdeal [hGateBIdeal : Cert.GateBIdeal.Facts] [hGateBRefIdeal : Cert.GateBRefIdeal.Facts] : Prop :=
  ∀ (m : (ℓ : Loc Cert.GateBIdeal.nD Cert.GateBIdeal.τ Cert.GateBIdeal.sig) → Buf (Elt Ideal) ℓ) (g : Dev Cert.GateBIdeal.nD → PrngReg)
    (m' : (ℓ : Loc Cert.GateBRefIdeal.nD Cert.GateBRefIdeal.τ Cert.GateBRefIdeal.sig) → Buf (Elt Ideal) ℓ) (g' : Dev Cert.GateBRefIdeal.nD → PrngReg), Pre_GateBIdeal m →
    (∀ c : Dev Cert.GateBIdeal.nD,
      m' ((c.tc : Thread Cert.GateBRefIdeal.nD Cert.GateBRefIdeal.τ).loc Cert.GateBRefIdeal.main_arg0) = m ((c.tc : Thread Cert.GateBIdeal.nD Cert.GateBIdeal.τ).loc Cert.GateBIdeal.main_arg0)
      ∧ m' ((c.tc : Thread Cert.GateBRefIdeal.nD Cert.GateBRefIdeal.τ).loc Cert.GateBRefIdeal.main_arg1) = m ((c.tc : Thread Cert.GateBIdeal.nD Cert.GateBIdeal.τ).loc Cert.GateBIdeal.main_arg1)
      ∧ m' ((c.tc : Thread Cert.GateBRefIdeal.nD Cert.GateBRefIdeal.τ).loc Cert.GateBRefIdeal.main_arg2) = m ((c.tc : Thread Cert.GateBIdeal.nD Cert.GateBIdeal.τ).loc Cert.GateBIdeal.main_arg2)) →
    ∃ (v0 : (c : Dev Cert.GateBIdeal.nD) → Buf (Elt Ideal) ((c.tc : Thread Cert.GateBIdeal.nD Cert.GateBIdeal.τ).loc Cert.GateBIdeal.main_v0)),
      θ_run (Cert.GateBIdeal.defs (F := Ideal)) (onTc (τ := Cert.GateBIdeal.τ) (Cert.GateBIdeal.main (F := Ideal))) ⟨m, fun _ => 0, g⟩ (fun r => ∀ c : Dev Cert.GateBIdeal.nD,
          r.2.mem ((c.tc : Thread Cert.GateBIdeal.nD Cert.GateBIdeal.τ).loc Cert.GateBIdeal.main_v0) = v0 c
          ∧ r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
          ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
          ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2))
      ∧ θ_run (Cert.GateBRefIdeal.defs (F := Ideal)) (onTc (τ := Cert.GateBRefIdeal.τ) (Cert.GateBRefIdeal.main (F := Ideal))) ⟨m', fun _ => 0, g'⟩ (fun r => ∀ c : Dev Cert.GateBRefIdeal.nD,
          r.2.mem ((c.tc : Thread Cert.GateBRefIdeal.nD Cert.GateBRefIdeal.τ).loc Cert.GateBRefIdeal.main_v20) = v0 c
          ∧ r.2.mem ((c.tc : Thread Cert.GateBRefIdeal.nD Cert.GateBRefIdeal.τ).loc Cert.GateBRefIdeal.main_arg0) = m' ((c.tc : Thread Cert.GateBRefIdeal.nD Cert.GateBRefIdeal.τ).loc Cert.GateBRefIdeal.main_arg0)
          ∧ r.2.mem ((c.tc : Thread Cert.GateBRefIdeal.nD Cert.GateBRefIdeal.τ).loc Cert.GateBRefIdeal.main_arg1) = m' ((c.tc : Thread Cert.GateBRefIdeal.nD Cert.GateBRefIdeal.τ).loc Cert.GateBRefIdeal.main_arg1)
          ∧ r.2.mem ((c.tc : Thread Cert.GateBRefIdeal.nD Cert.GateBRefIdeal.τ).loc Cert.GateBRefIdeal.main_arg2) = m' ((c.tc : Thread Cert.GateBRefIdeal.nD Cert.GateBRefIdeal.τ).loc Cert.GateBRefIdeal.main_arg2))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)) →
    ∃ (v0 : (c : Dev Cert.SumSlotsIdeal.nD) → Buf (Elt Ideal) ((c.tc : Thread Cert.SumSlotsIdeal.nD Cert.SumSlotsIdeal.τ).loc Cert.SumSlotsIdeal.main_v0)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v0) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v0) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0))

def preserves_MemNormB_MemNormBIdeal : Prop :=
  True

def algebraic_MemNormBIdeal_MemNormBRefIdeal [hMemNormBIdeal : Cert.MemNormBIdeal.Facts] [hMemNormBRefIdeal : Cert.MemNormBRefIdeal.Facts] : Prop :=
  ∀ (m : (ℓ : Loc Cert.MemNormBIdeal.nD Cert.MemNormBIdeal.τ Cert.MemNormBIdeal.sig) → Buf (Elt Ideal) ℓ) (g : Dev Cert.MemNormBIdeal.nD → PrngReg)
    (m' : (ℓ : Loc Cert.MemNormBRefIdeal.nD Cert.MemNormBRefIdeal.τ Cert.MemNormBRefIdeal.sig) → Buf (Elt Ideal) ℓ) (g' : Dev Cert.MemNormBRefIdeal.nD → PrngReg), Pre_MemNormBIdeal m →
    (∀ c : Dev Cert.MemNormBIdeal.nD,
      m' ((c.tc : Thread Cert.MemNormBRefIdeal.nD Cert.MemNormBRefIdeal.τ).loc Cert.MemNormBRefIdeal.main_arg0) = m ((c.tc : Thread Cert.MemNormBIdeal.nD Cert.MemNormBIdeal.τ).loc Cert.MemNormBIdeal.main_arg0)
      ∧ m' ((c.tc : Thread Cert.MemNormBRefIdeal.nD Cert.MemNormBRefIdeal.τ).loc Cert.MemNormBRefIdeal.main_arg1) = m ((c.tc : Thread Cert.MemNormBIdeal.nD Cert.MemNormBIdeal.τ).loc Cert.MemNormBIdeal.main_arg1)
      ∧ m' ((c.tc : Thread Cert.MemNormBRefIdeal.nD Cert.MemNormBRefIdeal.τ).loc Cert.MemNormBRefIdeal.main_arg2) = m ((c.tc : Thread Cert.MemNormBIdeal.nD Cert.MemNormBIdeal.τ).loc Cert.MemNormBIdeal.main_arg2)) →
    ∃ (v0 : (c : Dev Cert.MemNormBIdeal.nD) → Buf (Elt Ideal) ((c.tc : Thread Cert.MemNormBIdeal.nD Cert.MemNormBIdeal.τ).loc Cert.MemNormBIdeal.main_v0)),
      θ_run (Cert.MemNormBIdeal.defs (F := Ideal)) (onTc (τ := Cert.MemNormBIdeal.τ) (Cert.MemNormBIdeal.main (F := Ideal))) ⟨m, fun _ => 0, g⟩ (fun r => ∀ c : Dev Cert.MemNormBIdeal.nD,
          r.2.mem ((c.tc : Thread Cert.MemNormBIdeal.nD Cert.MemNormBIdeal.τ).loc Cert.MemNormBIdeal.main_v0) = v0 c
          ∧ r.2.mem ((c.tc : Thread Cert.MemNormBIdeal.nD Cert.MemNormBIdeal.τ).loc Cert.MemNormBIdeal.main_arg0) = m ((c.tc : Thread Cert.MemNormBIdeal.nD Cert.MemNormBIdeal.τ).loc Cert.MemNormBIdeal.main_arg0)
          ∧ r.2.mem ((c.tc : Thread Cert.MemNormBIdeal.nD Cert.MemNormBIdeal.τ).loc Cert.MemNormBIdeal.main_arg1) = m ((c.tc : Thread Cert.MemNormBIdeal.nD Cert.MemNormBIdeal.τ).loc Cert.MemNormBIdeal.main_arg1)
          ∧ r.2.mem ((c.tc : Thread Cert.MemNormBIdeal.nD Cert.MemNormBIdeal.τ).loc Cert.MemNormBIdeal.main_arg2) = m ((c.tc : Thread Cert.MemNormBIdeal.nD Cert.MemNormBIdeal.τ).loc Cert.MemNormBIdeal.main_arg2))
      ∧ θ_run (Cert.MemNormBRefIdeal.defs (F := Ideal)) (onTc (τ := Cert.MemNormBRefIdeal.τ) (Cert.MemNormBRefIdeal.main (F := Ideal))) ⟨m', fun _ => 0, g'⟩ (fun r => ∀ c : Dev Cert.MemNormBRefIdeal.nD,
          r.2.mem ((c.tc : Thread Cert.MemNormBRefIdeal.nD Cert.MemNormBRefIdeal.τ).loc Cert.MemNormBRefIdeal.main_v18) = v0 c
          ∧ r.2.mem ((c.tc : Thread Cert.MemNormBRefIdeal.nD Cert.MemNormBRefIdeal.τ).loc Cert.MemNormBRefIdeal.main_arg0) = m' ((c.tc : Thread Cert.MemNormBRefIdeal.nD Cert.MemNormBRefIdeal.τ).loc Cert.MemNormBRefIdeal.main_arg0)
          ∧ r.2.mem ((c.tc : Thread Cert.MemNormBRefIdeal.nD Cert.MemNormBRefIdeal.τ).loc Cert.MemNormBRefIdeal.main_arg1) = m' ((c.tc : Thread Cert.MemNormBRefIdeal.nD Cert.MemNormBRefIdeal.τ).loc Cert.MemNormBRefIdeal.main_arg1)
          ∧ r.2.mem ((c.tc : Thread Cert.MemNormBRefIdeal.nD Cert.MemNormBRefIdeal.τ).loc Cert.MemNormBRefIdeal.main_arg2) = m' ((c.tc : Thread Cert.MemNormBRefIdeal.nD Cert.MemNormBRefIdeal.τ).loc Cert.MemNormBRefIdeal.main_arg2))

def preserves_HgrnF_HgrnFIdeal : Prop :=
  True

def algebraic_HgrnFIdeal_HgrnFRefIdeal_pre_finite_gates [hHgrnFIdeal : Cert.HgrnFIdeal.Facts] [hHgrnFRefIdeal : Cert.HgrnFRefIdeal.Facts] [hPre_finite_gates : Cert.Pre_finite_gates.Facts] : Prop :=
  ∀ (m : (ℓ : Loc Cert.HgrnFIdeal.nD Cert.HgrnFIdeal.τ Cert.HgrnFIdeal.sig) → Buf (Elt Ideal) ℓ) (g : Dev Cert.HgrnFIdeal.nD → PrngReg)
    (m' : (ℓ : Loc Cert.HgrnFRefIdeal.nD Cert.HgrnFRefIdeal.τ Cert.HgrnFRefIdeal.sig) → Buf (Elt Ideal) ℓ) (g' : Dev Cert.HgrnFRefIdeal.nD → PrngReg), Pre_HgrnFIdeal_finite_gates m →
    (∀ c : Dev Cert.HgrnFIdeal.nD,
      m' ((c.tc : Thread Cert.HgrnFRefIdeal.nD Cert.HgrnFRefIdeal.τ).loc Cert.HgrnFRefIdeal.main_arg0) = m ((c.tc : Thread Cert.HgrnFIdeal.nD Cert.HgrnFIdeal.τ).loc Cert.HgrnFIdeal.main_arg0)
      ∧ m' ((c.tc : Thread Cert.HgrnFRefIdeal.nD Cert.HgrnFRefIdeal.τ).loc Cert.HgrnFRefIdeal.main_arg1) = m ((c.tc : Thread Cert.HgrnFIdeal.nD Cert.HgrnFIdeal.τ).loc Cert.HgrnFIdeal.main_arg1)
      ∧ m' ((c.tc : Thread Cert.HgrnFRefIdeal.nD Cert.HgrnFRefIdeal.τ).loc Cert.HgrnFRefIdeal.main_arg2) = m ((c.tc : Thread Cert.HgrnFIdeal.nD Cert.HgrnFIdeal.τ).loc Cert.HgrnFIdeal.main_arg2)) →
    ∃ (v0 : (c : Dev Cert.HgrnFIdeal.nD) → Buf (Elt Ideal) ((c.tc : Thread Cert.HgrnFIdeal.nD Cert.HgrnFIdeal.τ).loc Cert.HgrnFIdeal.main_v0)),
      θ_run (Cert.HgrnFIdeal.defs (F := Ideal)) (onTc (τ := Cert.HgrnFIdeal.τ) (Cert.HgrnFIdeal.main (F := Ideal))) ⟨m, fun _ => 0, g⟩ (fun r => ∀ c : Dev Cert.HgrnFIdeal.nD,
          r.2.mem ((c.tc : Thread Cert.HgrnFIdeal.nD Cert.HgrnFIdeal.τ).loc Cert.HgrnFIdeal.main_v0) = v0 c
          ∧ r.2.mem ((c.tc : Thread Cert.HgrnFIdeal.nD Cert.HgrnFIdeal.τ).loc Cert.HgrnFIdeal.main_arg0) = m ((c.tc : Thread Cert.HgrnFIdeal.nD Cert.HgrnFIdeal.τ).loc Cert.HgrnFIdeal.main_arg0)
          ∧ r.2.mem ((c.tc : Thread Cert.HgrnFIdeal.nD Cert.HgrnFIdeal.τ).loc Cert.HgrnFIdeal.main_arg1) = m ((c.tc : Thread Cert.HgrnFIdeal.nD Cert.HgrnFIdeal.τ).loc Cert.HgrnFIdeal.main_arg1)
          ∧ r.2.mem ((c.tc : Thread Cert.HgrnFIdeal.nD Cert.HgrnFIdeal.τ).loc Cert.HgrnFIdeal.main_arg2) = m ((c.tc : Thread Cert.HgrnFIdeal.nD Cert.HgrnFIdeal.τ).loc Cert.HgrnFIdeal.main_arg2))
      ∧ θ_run (Cert.HgrnFRefIdeal.defs (F := Ideal)) (onTc (τ := Cert.HgrnFRefIdeal.τ) (Cert.HgrnFRefIdeal.main (F := Ideal))) ⟨m', fun _ => 0, g'⟩ (fun r => ∀ c : Dev Cert.HgrnFRefIdeal.nD,
          r.2.mem ((c.tc : Thread Cert.HgrnFRefIdeal.nD Cert.HgrnFRefIdeal.τ).loc Cert.HgrnFRefIdeal.main_v68) = v0 c
          ∧ r.2.mem ((c.tc : Thread Cert.HgrnFRefIdeal.nD Cert.HgrnFRefIdeal.τ).loc Cert.HgrnFRefIdeal.main_arg0) = m' ((c.tc : Thread Cert.HgrnFRefIdeal.nD Cert.HgrnFRefIdeal.τ).loc Cert.HgrnFRefIdeal.main_arg0)
          ∧ r.2.mem ((c.tc : Thread Cert.HgrnFRefIdeal.nD Cert.HgrnFRefIdeal.τ).loc Cert.HgrnFRefIdeal.main_arg1) = m' ((c.tc : Thread Cert.HgrnFRefIdeal.nD Cert.HgrnFRefIdeal.τ).loc Cert.HgrnFRefIdeal.main_arg1)
          ∧ r.2.mem ((c.tc : Thread Cert.HgrnFRefIdeal.nD Cert.HgrnFRefIdeal.τ).loc Cert.HgrnFRefIdeal.main_arg2) = m' ((c.tc : Thread Cert.HgrnFRefIdeal.nD Cert.HgrnFRefIdeal.τ).loc Cert.HgrnFRefIdeal.main_arg2))

def preserves_NormInB_NormInBIdeal : Prop :=
  True

def algebraic_NormInBIdeal_NormInBRefIdeal_pre_finite_rows [hNormInBIdeal : Cert.NormInBIdeal.Facts] [hNormInBRefIdeal : Cert.NormInBRefIdeal.Facts] [hPre_finite_rows : Cert.Pre_finite_rows.Facts] : Prop :=
  ∀ (m : (ℓ : Loc Cert.NormInBIdeal.nD Cert.NormInBIdeal.τ Cert.NormInBIdeal.sig) → Buf (Elt Ideal) ℓ) (g : Dev Cert.NormInBIdeal.nD → PrngReg)
    (m' : (ℓ : Loc Cert.NormInBRefIdeal.nD Cert.NormInBRefIdeal.τ Cert.NormInBRefIdeal.sig) → Buf (Elt Ideal) ℓ) (g' : Dev Cert.NormInBRefIdeal.nD → PrngReg), Pre_NormInBIdeal_finite_rows m →
    (∀ c : Dev Cert.NormInBIdeal.nD,
      m' ((c.tc : Thread Cert.NormInBRefIdeal.nD Cert.NormInBRefIdeal.τ).loc Cert.NormInBRefIdeal.main_arg0) = m ((c.tc : Thread Cert.NormInBIdeal.nD Cert.NormInBIdeal.τ).loc Cert.NormInBIdeal.main_arg0)
      ∧ m' ((c.tc : Thread Cert.NormInBRefIdeal.nD Cert.NormInBRefIdeal.τ).loc Cert.NormInBRefIdeal.main_arg1) = m ((c.tc : Thread Cert.NormInBIdeal.nD Cert.NormInBIdeal.τ).loc Cert.NormInBIdeal.main_arg1)
      ∧ m' ((c.tc : Thread Cert.NormInBRefIdeal.nD Cert.NormInBRefIdeal.τ).loc Cert.NormInBRefIdeal.main_arg2) = m ((c.tc : Thread Cert.NormInBIdeal.nD Cert.NormInBIdeal.τ).loc Cert.NormInBIdeal.main_arg2)
      ∧ m' ((c.tc : Thread Cert.NormInBRefIdeal.nD Cert.NormInBRefIdeal.τ).loc Cert.NormInBRefIdeal.main_arg3) = m ((c.tc : Thread Cert.NormInBIdeal.nD Cert.NormInBIdeal.τ).loc Cert.NormInBIdeal.main_arg3)) →
    ∃ (v0 : (c : Dev Cert.NormInBIdeal.nD) → Buf (Elt Ideal) ((c.tc : Thread Cert.NormInBIdeal.nD Cert.NormInBIdeal.τ).loc Cert.NormInBIdeal.main_v0_0)) (v1 : (c : Dev Cert.NormInBIdeal.nD) → Buf (Elt Ideal) ((c.tc : Thread Cert.NormInBIdeal.nD Cert.NormInBIdeal.τ).loc Cert.NormInBIdeal.main_v0_1)),
      θ_run (Cert.NormInBIdeal.defs (F := Ideal)) (onTc (τ := Cert.NormInBIdeal.τ) (Cert.NormInBIdeal.main (F := Ideal))) ⟨m, fun _ => 0, g⟩ (fun r => ∀ c : Dev Cert.NormInBIdeal.nD,
          r.2.mem ((c.tc : Thread Cert.NormInBIdeal.nD Cert.NormInBIdeal.τ).loc Cert.NormInBIdeal.main_v0_0) = v0 c
          ∧ r.2.mem ((c.tc : Thread Cert.NormInBIdeal.nD Cert.NormInBIdeal.τ).loc Cert.NormInBIdeal.main_v0_1) = v1 c
          ∧ r.2.mem ((c.tc : Thread Cert.NormInBIdeal.nD Cert.NormInBIdeal.τ).loc Cert.NormInBIdeal.main_arg0) = m ((c.tc : Thread Cert.NormInBIdeal.nD Cert.NormInBIdeal.τ).loc Cert.NormInBIdeal.main_arg0)
          ∧ r.2.mem ((c.tc : Thread Cert.NormInBIdeal.nD Cert.NormInBIdeal.τ).loc Cert.NormInBIdeal.main_arg1) = m ((c.tc : Thread Cert.NormInBIdeal.nD Cert.NormInBIdeal.τ).loc Cert.NormInBIdeal.main_arg1)
          ∧ r.2.mem ((c.tc : Thread Cert.NormInBIdeal.nD Cert.NormInBIdeal.τ).loc Cert.NormInBIdeal.main_arg2) = m ((c.tc : Thread Cert.NormInBIdeal.nD Cert.NormInBIdeal.τ).loc Cert.NormInBIdeal.main_arg2)
          ∧ r.2.mem ((c.tc : Thread Cert.NormInBIdeal.nD Cert.NormInBIdeal.τ).loc Cert.NormInBIdeal.main_arg3) = m ((c.tc : Thread Cert.NormInBIdeal.nD Cert.NormInBIdeal.τ).loc Cert.NormInBIdeal.main_arg3))
      ∧ θ_run (Cert.NormInBRefIdeal.defs (F := Ideal)) (onTc (τ := Cert.NormInBRefIdeal.τ) (Cert.NormInBRefIdeal.main (F := Ideal))) ⟨m', fun _ => 0, g'⟩ (fun r => ∀ c : Dev Cert.NormInBRefIdeal.nD,
          r.2.mem ((c.tc : Thread Cert.NormInBRefIdeal.nD Cert.NormInBRefIdeal.τ).loc Cert.NormInBRefIdeal.main_v37) = v0 c
          ∧ r.2.mem ((c.tc : Thread Cert.NormInBRefIdeal.nD Cert.NormInBRefIdeal.τ).loc Cert.NormInBRefIdeal.main_v38) = v1 c
          ∧ r.2.mem ((c.tc : Thread Cert.NormInBRefIdeal.nD Cert.NormInBRefIdeal.τ).loc Cert.NormInBRefIdeal.main_arg0) = m' ((c.tc : Thread Cert.NormInBRefIdeal.nD Cert.NormInBRefIdeal.τ).loc Cert.NormInBRefIdeal.main_arg0)
          ∧ r.2.mem ((c.tc : Thread Cert.NormInBRefIdeal.nD Cert.NormInBRefIdeal.τ).loc Cert.NormInBRefIdeal.main_arg1) = m' ((c.tc : Thread Cert.NormInBRefIdeal.nD Cert.NormInBRefIdeal.τ).loc Cert.NormInBRefIdeal.main_arg1)
          ∧ r.2.mem ((c.tc : Thread Cert.NormInBRefIdeal.nD Cert.NormInBRefIdeal.τ).loc Cert.NormInBRefIdeal.main_arg2) = m' ((c.tc : Thread Cert.NormInBRefIdeal.nD Cert.NormInBRefIdeal.τ).loc Cert.NormInBRefIdeal.main_arg2)
          ∧ r.2.mem ((c.tc : Thread Cert.NormInBRefIdeal.nD Cert.NormInBRefIdeal.τ).loc Cert.NormInBRefIdeal.main_arg3) = m' ((c.tc : Thread Cert.NormInBRefIdeal.nD Cert.NormInBRefIdeal.τ).loc Cert.NormInBRefIdeal.main_arg3))

def preserves_ResNormB_ResNormBIdeal : Prop :=
  True

def algebraic_ResNormBIdeal_ResNormBRefIdeal_pre_finite_stream [hResNormBIdeal : Cert.ResNormBIdeal.Facts] [hResNormBRefIdeal : Cert.ResNormBRefIdeal.Facts] [hPre_finite_stream : Cert.Pre_finite_stream.Facts] : Prop :=
  ∀ (m : (ℓ : Loc Cert.ResNormBIdeal.nD Cert.ResNormBIdeal.τ Cert.ResNormBIdeal.sig) → Buf (Elt Ideal) ℓ) (g : Dev Cert.ResNormBIdeal.nD → PrngReg)
    (m' : (ℓ : Loc Cert.ResNormBRefIdeal.nD Cert.ResNormBRefIdeal.τ Cert.ResNormBRefIdeal.sig) → Buf (Elt Ideal) ℓ) (g' : Dev Cert.ResNormBRefIdeal.nD → PrngReg), Pre_ResNormBIdeal_finite_stream m →
    (∀ c : Dev Cert.ResNormBIdeal.nD,
      m' ((c.tc : Thread Cert.ResNormBRefIdeal.nD Cert.ResNormBRefIdeal.τ).loc Cert.ResNormBRefIdeal.main_arg0) = m ((c.tc : Thread Cert.ResNormBIdeal.nD Cert.ResNormBIdeal.τ).loc Cert.ResNormBIdeal.main_arg0)
      ∧ m' ((c.tc : Thread Cert.ResNormBRefIdeal.nD Cert.ResNormBRefIdeal.τ).loc Cert.ResNormBRefIdeal.main_arg1) = m ((c.tc : Thread Cert.ResNormBIdeal.nD Cert.ResNormBIdeal.τ).loc Cert.ResNormBIdeal.main_arg1)
      ∧ m' ((c.tc : Thread Cert.ResNormBRefIdeal.nD Cert.ResNormBRefIdeal.τ).loc Cert.ResNormBRefIdeal.main_arg2) = m ((c.tc : Thread Cert.ResNormBIdeal.nD Cert.ResNormBIdeal.τ).loc Cert.ResNormBIdeal.main_arg2)
      ∧ m' ((c.tc : Thread Cert.ResNormBRefIdeal.nD Cert.ResNormBRefIdeal.τ).loc Cert.ResNormBRefIdeal.main_arg3) = m ((c.tc : Thread Cert.ResNormBIdeal.nD Cert.ResNormBIdeal.τ).loc Cert.ResNormBIdeal.main_arg3)
      ∧ m' ((c.tc : Thread Cert.ResNormBRefIdeal.nD Cert.ResNormBRefIdeal.τ).loc Cert.ResNormBRefIdeal.main_arg4) = m ((c.tc : Thread Cert.ResNormBIdeal.nD Cert.ResNormBIdeal.τ).loc Cert.ResNormBIdeal.main_arg4)
      ∧ m' ((c.tc : Thread Cert.ResNormBRefIdeal.nD Cert.ResNormBRefIdeal.τ).loc Cert.ResNormBRefIdeal.main_arg5) = m ((c.tc : Thread Cert.ResNormBIdeal.nD Cert.ResNormBIdeal.τ).loc Cert.ResNormBIdeal.main_arg5)) →
    ∃ (v0 : (c : Dev Cert.ResNormBIdeal.nD) → Buf (Elt Ideal) ((c.tc : Thread Cert.ResNormBIdeal.nD Cert.ResNormBIdeal.τ).loc Cert.ResNormBIdeal.main_v0_0)) (v1 : (c : Dev Cert.ResNormBIdeal.nD) → Buf (Elt Ideal) ((c.tc : Thread Cert.ResNormBIdeal.nD Cert.ResNormBIdeal.τ).loc Cert.ResNormBIdeal.main_v0_1)) (v2 : (c : Dev Cert.ResNormBIdeal.nD) → Buf (Elt Ideal) ((c.tc : Thread Cert.ResNormBIdeal.nD Cert.ResNormBIdeal.τ).loc Cert.ResNormBIdeal.main_v0_2)) (v3 : (c : Dev Cert.ResNormBIdeal.nD) → Buf (Elt Ideal) ((c.tc : Thread Cert.ResNormBIdeal.nD Cert.ResNormBIdeal.τ).loc Cert.ResNormBIdeal.main_v0_3)),
      θ_run (Cert.ResNormBIdeal.defs (F := Ideal)) (onTc (τ := Cert.ResNormBIdeal.τ) (Cert.ResNormBIdeal.main (F := Ideal))) ⟨m, fun _ => 0, g⟩ (fun r => ∀ c : Dev Cert.ResNormBIdeal.nD,
          r.2.mem ((c.tc : Thread Cert.ResNormBIdeal.nD Cert.ResNormBIdeal.τ).loc Cert.ResNormBIdeal.main_v0_0) = v0 c
          ∧ r.2.mem ((c.tc : Thread Cert.ResNormBIdeal.nD Cert.ResNormBIdeal.τ).loc Cert.ResNormBIdeal.main_v0_1) = v1 c
          ∧ r.2.mem ((c.tc : Thread Cert.ResNormBIdeal.nD Cert.ResNormBIdeal.τ).loc Cert.ResNormBIdeal.main_v0_2) = v2 c
          ∧ r.2.mem ((c.tc : Thread Cert.ResNormBIdeal.nD Cert.ResNormBIdeal.τ).loc Cert.ResNormBIdeal.main_v0_3) = v3 c
          ∧ r.2.mem ((c.tc : Thread Cert.ResNormBIdeal.nD Cert.ResNormBIdeal.τ).loc Cert.ResNormBIdeal.main_arg0) = m ((c.tc : Thread Cert.ResNormBIdeal.nD Cert.ResNormBIdeal.τ).loc Cert.ResNormBIdeal.main_arg0)
          ∧ r.2.mem ((c.tc : Thread Cert.ResNormBIdeal.nD Cert.ResNormBIdeal.τ).loc Cert.ResNormBIdeal.main_arg1) = m ((c.tc : Thread Cert.ResNormBIdeal.nD Cert.ResNormBIdeal.τ).loc Cert.ResNormBIdeal.main_arg1)
          ∧ r.2.mem ((c.tc : Thread Cert.ResNormBIdeal.nD Cert.ResNormBIdeal.τ).loc Cert.ResNormBIdeal.main_arg2) = m ((c.tc : Thread Cert.ResNormBIdeal.nD Cert.ResNormBIdeal.τ).loc Cert.ResNormBIdeal.main_arg2)
          ∧ r.2.mem ((c.tc : Thread Cert.ResNormBIdeal.nD Cert.ResNormBIdeal.τ).loc Cert.ResNormBIdeal.main_arg3) = m ((c.tc : Thread Cert.ResNormBIdeal.nD Cert.ResNormBIdeal.τ).loc Cert.ResNormBIdeal.main_arg3)
          ∧ r.2.mem ((c.tc : Thread Cert.ResNormBIdeal.nD Cert.ResNormBIdeal.τ).loc Cert.ResNormBIdeal.main_arg4) = m ((c.tc : Thread Cert.ResNormBIdeal.nD Cert.ResNormBIdeal.τ).loc Cert.ResNormBIdeal.main_arg4)
          ∧ r.2.mem ((c.tc : Thread Cert.ResNormBIdeal.nD Cert.ResNormBIdeal.τ).loc Cert.ResNormBIdeal.main_arg5) = m ((c.tc : Thread Cert.ResNormBIdeal.nD Cert.ResNormBIdeal.τ).loc Cert.ResNormBIdeal.main_arg5))
      ∧ θ_run (Cert.ResNormBRefIdeal.defs (F := Ideal)) (onTc (τ := Cert.ResNormBRefIdeal.τ) (Cert.ResNormBRefIdeal.main (F := Ideal))) ⟨m', fun _ => 0, g'⟩ (fun r => ∀ c : Dev Cert.ResNormBRefIdeal.nD,
          r.2.mem ((c.tc : Thread Cert.ResNormBRefIdeal.nD Cert.ResNormBRefIdeal.τ).loc Cert.ResNormBRefIdeal.main_v75) = v0 c
          ∧ r.2.mem ((c.tc : Thread Cert.ResNormBRefIdeal.nD Cert.ResNormBRefIdeal.τ).loc Cert.ResNormBRefIdeal.main_v76) = v1 c
          ∧ r.2.mem ((c.tc : Thread Cert.ResNormBRefIdeal.nD Cert.ResNormBRefIdeal.τ).loc Cert.ResNormBRefIdeal.main_v77) = v2 c
          ∧ r.2.mem ((c.tc : Thread Cert.ResNormBRefIdeal.nD Cert.ResNormBRefIdeal.τ).loc Cert.ResNormBRefIdeal.main_v78) = v3 c
          ∧ r.2.mem ((c.tc : Thread Cert.ResNormBRefIdeal.nD Cert.ResNormBRefIdeal.τ).loc Cert.ResNormBRefIdeal.main_arg0) = m' ((c.tc : Thread Cert.ResNormBRefIdeal.nD Cert.ResNormBRefIdeal.τ).loc Cert.ResNormBRefIdeal.main_arg0)
          ∧ r.2.mem ((c.tc : Thread Cert.ResNormBRefIdeal.nD Cert.ResNormBRefIdeal.τ).loc Cert.ResNormBRefIdeal.main_arg1) = m' ((c.tc : Thread Cert.ResNormBRefIdeal.nD Cert.ResNormBRefIdeal.τ).loc Cert.ResNormBRefIdeal.main_arg1)
          ∧ r.2.mem ((c.tc : Thread Cert.ResNormBRefIdeal.nD Cert.ResNormBRefIdeal.τ).loc Cert.ResNormBRefIdeal.main_arg2) = m' ((c.tc : Thread Cert.ResNormBRefIdeal.nD Cert.ResNormBRefIdeal.τ).loc Cert.ResNormBRefIdeal.main_arg2)
          ∧ r.2.mem ((c.tc : Thread Cert.ResNormBRefIdeal.nD Cert.ResNormBRefIdeal.τ).loc Cert.ResNormBRefIdeal.main_arg3) = m' ((c.tc : Thread Cert.ResNormBRefIdeal.nD Cert.ResNormBRefIdeal.τ).loc Cert.ResNormBRefIdeal.main_arg3)
          ∧ r.2.mem ((c.tc : Thread Cert.ResNormBRefIdeal.nD Cert.ResNormBRefIdeal.τ).loc Cert.ResNormBRefIdeal.main_arg4) = m' ((c.tc : Thread Cert.ResNormBRefIdeal.nD Cert.ResNormBRefIdeal.τ).loc Cert.ResNormBRefIdeal.main_arg4)
          ∧ r.2.mem ((c.tc : Thread Cert.ResNormBRefIdeal.nD Cert.ResNormBRefIdeal.τ).loc Cert.ResNormBRefIdeal.main_arg5) = m' ((c.tc : Thread Cert.ResNormBRefIdeal.nD Cert.ResNormBRefIdeal.τ).loc Cert.ResNormBRefIdeal.main_arg5))

def preserves_SwigluB_SwigluBIdeal : Prop :=
  True

def algebraic_SwigluBIdeal_SwigluBRefIdeal_pre_finite_gate [hSwigluBIdeal : Cert.SwigluBIdeal.Facts] [hSwigluBRefIdeal : Cert.SwigluBRefIdeal.Facts] [hPre_finite_gate : Cert.Pre_finite_gate.Facts] : Prop :=
  ∀ (m : (ℓ : Loc Cert.SwigluBIdeal.nD Cert.SwigluBIdeal.τ Cert.SwigluBIdeal.sig) → Buf (Elt Ideal) ℓ) (g : Dev Cert.SwigluBIdeal.nD → PrngReg)
    (m' : (ℓ : Loc Cert.SwigluBRefIdeal.nD Cert.SwigluBRefIdeal.τ Cert.SwigluBRefIdeal.sig) → Buf (Elt Ideal) ℓ) (g' : Dev Cert.SwigluBRefIdeal.nD → PrngReg), Pre_SwigluBIdeal_finite_gate m →
    (∀ c : Dev Cert.SwigluBIdeal.nD,
      m' ((c.tc : Thread Cert.SwigluBRefIdeal.nD Cert.SwigluBRefIdeal.τ).loc Cert.SwigluBRefIdeal.main_arg0) = m ((c.tc : Thread Cert.SwigluBIdeal.nD Cert.SwigluBIdeal.τ).loc Cert.SwigluBIdeal.main_arg0)
      ∧ m' ((c.tc : Thread Cert.SwigluBRefIdeal.nD Cert.SwigluBRefIdeal.τ).loc Cert.SwigluBRefIdeal.main_arg1) = m ((c.tc : Thread Cert.SwigluBIdeal.nD Cert.SwigluBIdeal.τ).loc Cert.SwigluBIdeal.main_arg1)
      ∧ m' ((c.tc : Thread Cert.SwigluBRefIdeal.nD Cert.SwigluBRefIdeal.τ).loc Cert.SwigluBRefIdeal.main_arg2) = m ((c.tc : Thread Cert.SwigluBIdeal.nD Cert.SwigluBIdeal.τ).loc Cert.SwigluBIdeal.main_arg2)) →
    ∃ (v0 : (c : Dev Cert.SwigluBIdeal.nD) → Buf (Elt Ideal) ((c.tc : Thread Cert.SwigluBIdeal.nD Cert.SwigluBIdeal.τ).loc Cert.SwigluBIdeal.main_v0)),
      θ_run (Cert.SwigluBIdeal.defs (F := Ideal)) (onTc (τ := Cert.SwigluBIdeal.τ) (Cert.SwigluBIdeal.main (F := Ideal))) ⟨m, fun _ => 0, g⟩ (fun r => ∀ c : Dev Cert.SwigluBIdeal.nD,
          r.2.mem ((c.tc : Thread Cert.SwigluBIdeal.nD Cert.SwigluBIdeal.τ).loc Cert.SwigluBIdeal.main_v0) = v0 c
          ∧ r.2.mem ((c.tc : Thread Cert.SwigluBIdeal.nD Cert.SwigluBIdeal.τ).loc Cert.SwigluBIdeal.main_arg0) = m ((c.tc : Thread Cert.SwigluBIdeal.nD Cert.SwigluBIdeal.τ).loc Cert.SwigluBIdeal.main_arg0)
          ∧ r.2.mem ((c.tc : Thread Cert.SwigluBIdeal.nD Cert.SwigluBIdeal.τ).loc Cert.SwigluBIdeal.main_arg1) = m ((c.tc : Thread Cert.SwigluBIdeal.nD Cert.SwigluBIdeal.τ).loc Cert.SwigluBIdeal.main_arg1)
          ∧ r.2.mem ((c.tc : Thread Cert.SwigluBIdeal.nD Cert.SwigluBIdeal.τ).loc Cert.SwigluBIdeal.main_arg2) = m ((c.tc : Thread Cert.SwigluBIdeal.nD Cert.SwigluBIdeal.τ).loc Cert.SwigluBIdeal.main_arg2))
      ∧ θ_run (Cert.SwigluBRefIdeal.defs (F := Ideal)) (onTc (τ := Cert.SwigluBRefIdeal.τ) (Cert.SwigluBRefIdeal.main (F := Ideal))) ⟨m', fun _ => 0, g'⟩ (fun r => ∀ c : Dev Cert.SwigluBRefIdeal.nD,
          r.2.mem ((c.tc : Thread Cert.SwigluBRefIdeal.nD Cert.SwigluBRefIdeal.τ).loc Cert.SwigluBRefIdeal.main_v13) = v0 c
          ∧ r.2.mem ((c.tc : Thread Cert.SwigluBRefIdeal.nD Cert.SwigluBRefIdeal.τ).loc Cert.SwigluBRefIdeal.main_arg0) = m' ((c.tc : Thread Cert.SwigluBRefIdeal.nD Cert.SwigluBRefIdeal.τ).loc Cert.SwigluBRefIdeal.main_arg0)
          ∧ r.2.mem ((c.tc : Thread Cert.SwigluBRefIdeal.nD Cert.SwigluBRefIdeal.τ).loc Cert.SwigluBRefIdeal.main_arg1) = m' ((c.tc : Thread Cert.SwigluBRefIdeal.nD Cert.SwigluBRefIdeal.τ).loc Cert.SwigluBRefIdeal.main_arg1)
          ∧ r.2.mem ((c.tc : Thread Cert.SwigluBRefIdeal.nD Cert.SwigluBRefIdeal.τ).loc Cert.SwigluBRefIdeal.main_arg2) = m' ((c.tc : Thread Cert.SwigluBRefIdeal.nD Cert.SwigluBRefIdeal.τ).loc Cert.SwigluBRefIdeal.main_arg2))

def Claim : Prop :=
  ∃ (hKernel : Cert.Kernel.Facts) (hKernelIdeal : Cert.KernelIdeal.Facts) (hReferenceIdeal : Cert.ReferenceIdeal.Facts) (hFfnOutDx : Cert.FfnOutDx.Facts) (hFfnOutDxIdeal : Cert.FfnOutDxIdeal.Facts) (hFfnOutDxRefIdeal : Cert.FfnOutDxRefIdeal.Facts) (hFfnOutDw : Cert.FfnOutDw.Facts) (hFfnOutDwIdeal : Cert.FfnOutDwIdeal.Facts) (hFfnOutDwRefIdeal : Cert.FfnOutDwRefIdeal.Facts) (hFfnInDx : Cert.FfnInDx.Facts) (hFfnInDxIdeal : Cert.FfnInDxIdeal.Facts) (hFfnInDxRefIdeal : Cert.FfnInDxRefIdeal.Facts) (hFfnInDw : Cert.FfnInDw.Facts) (hFfnInDwIdeal : Cert.FfnInDwIdeal.Facts) (hFfnInDwRefIdeal : Cert.FfnInDwRefIdeal.Facts) (hAbInDx : Cert.AbInDx.Facts) (hAbInDxIdeal : Cert.AbInDxIdeal.Facts) (hAbInDxRefIdeal : Cert.AbInDxRefIdeal.Facts) (hAbInDw : Cert.AbInDw.Facts) (hAbInDwIdeal : Cert.AbInDwIdeal.Facts) (hAbInDwRefIdeal : Cert.AbInDwRefIdeal.Facts) (hGluDx : Cert.GluDx.Facts) (hGluDxIdeal : Cert.GluDxIdeal.Facts) (hGluDxRefIdeal : Cert.GluDxRefIdeal.Facts) (hGluDw : Cert.GluDw.Facts) (hGluDwIdeal : Cert.GluDwIdeal.Facts) (hGluDwRefIdeal : Cert.GluDwRefIdeal.Facts) (hXqDx : Cert.XqDx.Facts) (hXqDxIdeal : Cert.XqDxIdeal.Facts) (hXqDxRefIdeal : Cert.XqDxRefIdeal.Facts) (hXqDw : Cert.XqDw.Facts) (hXqDwIdeal : Cert.XqDwIdeal.Facts) (hXqDwRefIdeal : Cert.XqDwRefIdeal.Facts) (hXoDx : Cert.XoDx.Facts) (hXoDxIdeal : Cert.XoDxIdeal.Facts) (hXoDxRefIdeal : Cert.XoDxRefIdeal.Facts) (hXkvDx : Cert.XkvDx.Facts) (hXkvDxIdeal : Cert.XkvDxIdeal.Facts) (hXkvDxRefIdeal : Cert.XkvDxRefIdeal.Facts) (hXkvDw : Cert.XkvDw.Facts) (hXkvDwIdeal : Cert.XkvDwIdeal.Facts) (hXkvDwRefIdeal : Cert.XkvDwRefIdeal.Facts) (hAbOutDw : Cert.AbOutDw.Facts) (hAbOutDwIdeal : Cert.AbOutDwIdeal.Facts) (hAbOutDwRefIdeal : Cert.AbOutDwRefIdeal.Facts) (hFfnOut : Cert.FfnOut.Facts) (hFfnOutIdeal : Cert.FfnOutIdeal.Facts) (hFfnOutRefIdeal : Cert.FfnOutRefIdeal.Facts) (hAbIn : Cert.AbIn.Facts) (hAbInIdeal : Cert.AbInIdeal.Facts) (hAbInRefIdeal : Cert.AbInRefIdeal.Facts) (hAbOut : Cert.AbOut.Facts) (hAbOutIdeal : Cert.AbOutIdeal.Facts) (hAbOutRefIdeal : Cert.AbOutRefIdeal.Facts) (hXq : Cert.Xq.Facts) (hXqIdeal : Cert.XqIdeal.Facts) (hXqRefIdeal : Cert.XqRefIdeal.Facts) (hXkv : Cert.Xkv.Facts) (hXkvIdeal : Cert.XkvIdeal.Facts) (hXkvRefIdeal : Cert.XkvRefIdeal.Facts) (hXo : Cert.Xo.Facts) (hXoIdeal : Cert.XoIdeal.Facts) (hXoRefIdeal : Cert.XoRefIdeal.Facts) (hFfnIn : Cert.FfnIn.Facts) (hFfnInIdeal : Cert.FfnInIdeal.Facts) (hFfnInRefIdeal : Cert.FfnInRefIdeal.Facts) (hGlu : Cert.Glu.Facts) (hGluIdeal : Cert.GluIdeal.Facts) (hGluRefIdeal : Cert.GluRefIdeal.Facts) (hXAttnF : Cert.XAttnF.Facts) (hXAttnFIdeal : Cert.XAttnFIdeal.Facts) (hXAttnFRefIdeal : Cert.XAttnFRefIdeal.Facts) (hAdamAbIn : Cert.AdamAbIn.Facts) (hAdamAbInIdeal : Cert.AdamAbInIdeal.Facts) (hAdamAbInRefIdeal : Cert.AdamAbInRefIdeal.Facts) (hAdamAbOut : Cert.AdamAbOut.Facts) (hAdamAbOutIdeal : Cert.AdamAbOutIdeal.Facts) (hAdamAbOutRefIdeal : Cert.AdamAbOutRefIdeal.Facts) (hAdamGlu : Cert.AdamGlu.Facts) (hAdamGluIdeal : Cert.AdamGluIdeal.Facts) (hAdamGluRefIdeal : Cert.AdamGluRefIdeal.Facts) (hAdamXqo : Cert.AdamXqo.Facts) (hAdamXqoIdeal : Cert.AdamXqoIdeal.Facts) (hAdamXqoRefIdeal : Cert.AdamXqoRefIdeal.Facts) (hAdamXkv : Cert.AdamXkv.Facts) (hAdamXkvIdeal : Cert.AdamXkvIdeal.Facts) (hAdamXkvRefIdeal : Cert.AdamXkvRefIdeal.Facts) (hAdamFfnIn : Cert.AdamFfnIn.Facts) (hAdamFfnInIdeal : Cert.AdamFfnInIdeal.Facts) (hAdamFfnInRefIdeal : Cert.AdamFfnInRefIdeal.Facts) (hAdamFfnOut : Cert.AdamFfnOut.Facts) (hAdamFfnOutIdeal : Cert.AdamFfnOutIdeal.Facts) (hAdamFfnOutRefIdeal : Cert.AdamFfnOutRefIdeal.Facts) (hAdamSmall : Cert.AdamSmall.Facts) (hAdamSmallIdeal : Cert.AdamSmallIdeal.Facts) (hAdamSmallRefIdeal : Cert.AdamSmallRefIdeal.Facts) (hNormIn : Cert.NormIn.Facts) (hNormInIdeal : Cert.NormInIdeal.Facts) (hNormInRefIdeal : Cert.NormInRefIdeal.Facts) (hMemNorm : Cert.MemNorm.Facts) (hMemNormIdeal : Cert.MemNormIdeal.Facts) (hMemNormRefIdeal : Cert.MemNormRefIdeal.Facts) (hResNorm : Cert.ResNorm.Facts) (hResNormIdeal : Cert.ResNormIdeal.Facts) (hResNormRefIdeal : Cert.ResNormRefIdeal.Facts) (hResNormC : Cert.ResNormC.Facts) (hResNormCIdeal : Cert.ResNormCIdeal.Facts) (hResNormCRefIdeal : Cert.ResNormCRefIdeal.Facts) (hGelu : Cert.Gelu.Facts) (hGeluIdeal : Cert.GeluIdeal.Facts) (hGeluRefIdeal : Cert.GeluRefIdeal.Facts) (hGateB : Cert.GateB.Facts) (hGateBIdeal : Cert.GateBIdeal.Facts) (hGateBRefIdeal : Cert.GateBRefIdeal.Facts) (hSumSlots : Cert.SumSlots.Facts) (hSumSlotsIdeal : Cert.SumSlotsIdeal.Facts) (hSumSlotsRefIdeal : Cert.SumSlotsRefIdeal.Facts) (hMemNormB : Cert.MemNormB.Facts) (hMemNormBIdeal : Cert.MemNormBIdeal.Facts) (hMemNormBRefIdeal : Cert.MemNormBRefIdeal.Facts) (hHgrnF : Cert.HgrnF.Facts) (hHgrnFIdeal : Cert.HgrnFIdeal.Facts) (hHgrnFRefIdeal : Cert.HgrnFRefIdeal.Facts) (hNormInB : Cert.NormInB.Facts) (hNormInBIdeal : Cert.NormInBIdeal.Facts) (hNormInBRefIdeal : Cert.NormInBRefIdeal.Facts) (hResNormB : Cert.ResNormB.Facts) (hResNormBIdeal : Cert.ResNormBIdeal.Facts) (hResNormBRefIdeal : Cert.ResNormBRefIdeal.Facts) (hSwigluB : Cert.SwigluB.Facts) (hSwigluBIdeal : Cert.SwigluBIdeal.Facts) (hSwigluBRefIdeal : Cert.SwigluBRefIdeal.Facts) (hPre_finite_scores : Cert.Pre_finite_scores.Facts) (hPre_finite_gates : Cert.Pre_finite_gates.Facts) (hPre_finite_rows : Cert.Pre_finite_rows.Facts) (hPre_finite_stream : Cert.Pre_finite_stream.Facts) (hPre_finite_gate : Cert.Pre_finite_gate.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_AbInDx (hAbInDx := hAbInDx)
    ∧ quiescent_AbInDxIdeal (hAbInDxIdeal := hAbInDxIdeal)
    ∧ quiescent_AbInDxRefIdeal (hAbInDxRefIdeal := hAbInDxRefIdeal)
    ∧ quiescent_AbInDw (hAbInDw := hAbInDw)
    ∧ quiescent_AbInDwIdeal (hAbInDwIdeal := hAbInDwIdeal)
    ∧ quiescent_AbInDwRefIdeal (hAbInDwRefIdeal := hAbInDwRefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_XqDx (hXqDx := hXqDx)
    ∧ quiescent_XqDxIdeal (hXqDxIdeal := hXqDxIdeal)
    ∧ quiescent_XqDxRefIdeal (hXqDxRefIdeal := hXqDxRefIdeal)
    ∧ quiescent_XqDw (hXqDw := hXqDw)
    ∧ quiescent_XqDwIdeal (hXqDwIdeal := hXqDwIdeal)
    ∧ quiescent_XqDwRefIdeal (hXqDwRefIdeal := hXqDwRefIdeal)
    ∧ quiescent_XoDx (hXoDx := hXoDx)
    ∧ quiescent_XoDxIdeal (hXoDxIdeal := hXoDxIdeal)
    ∧ quiescent_XoDxRefIdeal (hXoDxRefIdeal := hXoDxRefIdeal)
    ∧ quiescent_XkvDx (hXkvDx := hXkvDx)
    ∧ quiescent_XkvDxIdeal (hXkvDxIdeal := hXkvDxIdeal)
    ∧ quiescent_XkvDxRefIdeal (hXkvDxRefIdeal := hXkvDxRefIdeal)
    ∧ quiescent_XkvDw (hXkvDw := hXkvDw)
    ∧ quiescent_XkvDwIdeal (hXkvDwIdeal := hXkvDwIdeal)
    ∧ quiescent_XkvDwRefIdeal (hXkvDwRefIdeal := hXkvDwRefIdeal)
    ∧ quiescent_AbOutDw (hAbOutDw := hAbOutDw)
    ∧ quiescent_AbOutDwIdeal (hAbOutDwIdeal := hAbOutDwIdeal)
    ∧ quiescent_AbOutDwRefIdeal (hAbOutDwRefIdeal := hAbOutDwRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_AbOut (hAbOut := hAbOut)
    ∧ quiescent_AbOutIdeal (hAbOutIdeal := hAbOutIdeal)
    ∧ quiescent_AbOutRefIdeal (hAbOutRefIdeal := hAbOutRefIdeal)
    ∧ quiescent_Xq (hXq := hXq)
    ∧ quiescent_XqIdeal (hXqIdeal := hXqIdeal)
    ∧ quiescent_XqRefIdeal (hXqRefIdeal := hXqRefIdeal)
    ∧ quiescent_Xkv (hXkv := hXkv)
    ∧ quiescent_XkvIdeal (hXkvIdeal := hXkvIdeal)
    ∧ quiescent_XkvRefIdeal (hXkvRefIdeal := hXkvRefIdeal)
    ∧ quiescent_Xo (hXo := hXo)
    ∧ quiescent_XoIdeal (hXoIdeal := hXoIdeal)
    ∧ quiescent_XoRefIdeal (hXoRefIdeal := hXoRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_Glu (hGlu := hGlu)
    ∧ quiescent_GluIdeal (hGluIdeal := hGluIdeal)
    ∧ quiescent_GluRefIdeal (hGluRefIdeal := hGluRefIdeal)
    ∧ quiescent_XAttnF (hXAttnF := hXAttnF)
    ∧ quiescent_XAttnFIdeal (hXAttnFIdeal := hXAttnFIdeal)
    ∧ quiescent_XAttnFRefIdeal (hXAttnFRefIdeal := hXAttnFRefIdeal)
    ∧ quiescent_AdamAbIn (hAdamAbIn := hAdamAbIn)
    ∧ quiescent_AdamAbInIdeal (hAdamAbInIdeal := hAdamAbInIdeal)
    ∧ quiescent_AdamAbInRefIdeal (hAdamAbInRefIdeal := hAdamAbInRefIdeal)
    ∧ quiescent_AdamAbOut (hAdamAbOut := hAdamAbOut)
    ∧ quiescent_AdamAbOutIdeal (hAdamAbOutIdeal := hAdamAbOutIdeal)
    ∧ quiescent_AdamAbOutRefIdeal (hAdamAbOutRefIdeal := hAdamAbOutRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_AdamXqo (hAdamXqo := hAdamXqo)
    ∧ quiescent_AdamXqoIdeal (hAdamXqoIdeal := hAdamXqoIdeal)
    ∧ quiescent_AdamXqoRefIdeal (hAdamXqoRefIdeal := hAdamXqoRefIdeal)
    ∧ quiescent_AdamXkv (hAdamXkv := hAdamXkv)
    ∧ quiescent_AdamXkvIdeal (hAdamXkvIdeal := hAdamXkvIdeal)
    ∧ quiescent_AdamXkvRefIdeal (hAdamXkvRefIdeal := hAdamXkvRefIdeal)
    ∧ quiescent_AdamFfnIn (hAdamFfnIn := hAdamFfnIn)
    ∧ quiescent_AdamFfnInIdeal (hAdamFfnInIdeal := hAdamFfnInIdeal)
    ∧ quiescent_AdamFfnInRefIdeal (hAdamFfnInRefIdeal := hAdamFfnInRefIdeal)
    ∧ quiescent_AdamFfnOut (hAdamFfnOut := hAdamFfnOut)
    ∧ quiescent_AdamFfnOutIdeal (hAdamFfnOutIdeal := hAdamFfnOutIdeal)
    ∧ quiescent_AdamFfnOutRefIdeal (hAdamFfnOutRefIdeal := hAdamFfnOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_ResNorm (hResNorm := hResNorm)
    ∧ quiescent_ResNormIdeal (hResNormIdeal := hResNormIdeal)
    ∧ quiescent_ResNormRefIdeal (hResNormRefIdeal := hResNormRefIdeal)
    ∧ quiescent_ResNormC (hResNormC := hResNormC)
    ∧ quiescent_ResNormCIdeal (hResNormCIdeal := hResNormCIdeal)
    ∧ quiescent_ResNormCRefIdeal (hResNormCRefIdeal := hResNormCRefIdeal)
    ∧ quiescent_Gelu (hGelu := hGelu)
    ∧ quiescent_GeluIdeal (hGeluIdeal := hGeluIdeal)
    ∧ quiescent_GeluRefIdeal (hGeluRefIdeal := hGeluRefIdeal)
    ∧ quiescent_GateB (hGateB := hGateB)
    ∧ quiescent_GateBIdeal (hGateBIdeal := hGateBIdeal)
    ∧ quiescent_GateBRefIdeal (hGateBRefIdeal := hGateBRefIdeal)
    ∧ quiescent_SumSlots (hSumSlots := hSumSlots)
    ∧ quiescent_SumSlotsIdeal (hSumSlotsIdeal := hSumSlotsIdeal)
    ∧ quiescent_SumSlotsRefIdeal (hSumSlotsRefIdeal := hSumSlotsRefIdeal)
    ∧ quiescent_MemNormB (hMemNormB := hMemNormB)
    ∧ quiescent_MemNormBIdeal (hMemNormBIdeal := hMemNormBIdeal)
    ∧ quiescent_MemNormBRefIdeal (hMemNormBRefIdeal := hMemNormBRefIdeal)
    ∧ quiescent_HgrnF (hHgrnF := hHgrnF)
    ∧ quiescent_HgrnFIdeal (hHgrnFIdeal := hHgrnFIdeal)
    ∧ quiescent_HgrnFIdeal_pre_finite_gates (hHgrnFIdeal := hHgrnFIdeal) (hPre_finite_gates := hPre_finite_gates)
    ∧ quiescent_HgrnFRefIdeal (hHgrnFRefIdeal := hHgrnFRefIdeal)
    ∧ quiescent_HgrnFRefIdeal_pre_finite_gates (hHgrnFRefIdeal := hHgrnFRefIdeal) (hPre_finite_gates := hPre_finite_gates)
    ∧ quiescent_NormInB (hNormInB := hNormInB)
    ∧ quiescent_NormInBIdeal (hNormInBIdeal := hNormInBIdeal)
    ∧ quiescent_NormInBIdeal_pre_finite_rows (hNormInBIdeal := hNormInBIdeal) (hPre_finite_rows := hPre_finite_rows)
    ∧ quiescent_NormInBRefIdeal (hNormInBRefIdeal := hNormInBRefIdeal)
    ∧ quiescent_NormInBRefIdeal_pre_finite_rows (hNormInBRefIdeal := hNormInBRefIdeal) (hPre_finite_rows := hPre_finite_rows)
    ∧ quiescent_ResNormB (hResNormB := hResNormB)
    ∧ quiescent_ResNormBIdeal (hResNormBIdeal := hResNormBIdeal)
    ∧ quiescent_ResNormBIdeal_pre_finite_stream (hResNormBIdeal := hResNormBIdeal) (hPre_finite_stream := hPre_finite_stream)
    ∧ quiescent_ResNormBRefIdeal (hResNormBRefIdeal := hResNormBRefIdeal)
    ∧ quiescent_ResNormBRefIdeal_pre_finite_stream (hResNormBRefIdeal := hResNormBRefIdeal) (hPre_finite_stream := hPre_finite_stream)
    ∧ quiescent_SwigluB (hSwigluB := hSwigluB)
    ∧ quiescent_SwigluBIdeal (hSwigluBIdeal := hSwigluBIdeal)
    ∧ quiescent_SwigluBIdeal_pre_finite_gate (hSwigluBIdeal := hSwigluBIdeal) (hPre_finite_gate := hPre_finite_gate)
    ∧ quiescent_SwigluBRefIdeal (hSwigluBRefIdeal := hSwigluBRefIdeal)
    ∧ quiescent_SwigluBRefIdeal_pre_finite_gate (hSwigluBRefIdeal := hSwigluBRefIdeal) (hPre_finite_gate := hPre_finite_gate)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_AbInDx_AbInDxIdeal
    ∧ algebraic_AbInDxIdeal_AbInDxRefIdeal (hAbInDxIdeal := hAbInDxIdeal) (hAbInDxRefIdeal := hAbInDxRefIdeal)
    ∧ preserves_AbInDw_AbInDwIdeal
    ∧ algebraic_AbInDwIdeal_AbInDwRefIdeal (hAbInDwIdeal := hAbInDwIdeal) (hAbInDwRefIdeal := hAbInDwRefIdeal)
    ∧ preserves_GluDx_GluDxIdeal
    ∧ algebraic_GluDxIdeal_GluDxRefIdeal (hGluDxIdeal := hGluDxIdeal) (hGluDxRefIdeal := hGluDxRefIdeal)
    ∧ preserves_GluDw_GluDwIdeal
    ∧ algebraic_GluDwIdeal_GluDwRefIdeal (hGluDwIdeal := hGluDwIdeal) (hGluDwRefIdeal := hGluDwRefIdeal)
    ∧ preserves_XqDx_XqDxIdeal
    ∧ algebraic_XqDxIdeal_XqDxRefIdeal (hXqDxIdeal := hXqDxIdeal) (hXqDxRefIdeal := hXqDxRefIdeal)
    ∧ preserves_XqDw_XqDwIdeal
    ∧ algebraic_XqDwIdeal_XqDwRefIdeal (hXqDwIdeal := hXqDwIdeal) (hXqDwRefIdeal := hXqDwRefIdeal)
    ∧ preserves_XoDx_XoDxIdeal
    ∧ algebraic_XoDxIdeal_XoDxRefIdeal (hXoDxIdeal := hXoDxIdeal) (hXoDxRefIdeal := hXoDxRefIdeal)
    ∧ preserves_XkvDx_XkvDxIdeal
    ∧ algebraic_XkvDxIdeal_XkvDxRefIdeal (hXkvDxIdeal := hXkvDxIdeal) (hXkvDxRefIdeal := hXkvDxRefIdeal)
    ∧ preserves_XkvDw_XkvDwIdeal
    ∧ algebraic_XkvDwIdeal_XkvDwRefIdeal (hXkvDwIdeal := hXkvDwIdeal) (hXkvDwRefIdeal := hXkvDwRefIdeal)
    ∧ preserves_AbOutDw_AbOutDwIdeal
    ∧ algebraic_AbOutDwIdeal_AbOutDwRefIdeal (hAbOutDwIdeal := hAbOutDwIdeal) (hAbOutDwRefIdeal := hAbOutDwRefIdeal)
    ∧ preserves_FfnOut_FfnOutIdeal
    ∧ algebraic_FfnOutIdeal_FfnOutRefIdeal (hFfnOutIdeal := hFfnOutIdeal) (hFfnOutRefIdeal := hFfnOutRefIdeal)
    ∧ preserves_AbIn_AbInIdeal
    ∧ algebraic_AbInIdeal_AbInRefIdeal (hAbInIdeal := hAbInIdeal) (hAbInRefIdeal := hAbInRefIdeal)
    ∧ preserves_AbOut_AbOutIdeal
    ∧ algebraic_AbOutIdeal_AbOutRefIdeal (hAbOutIdeal := hAbOutIdeal) (hAbOutRefIdeal := hAbOutRefIdeal)
    ∧ preserves_Xq_XqIdeal
    ∧ algebraic_XqIdeal_XqRefIdeal (hXqIdeal := hXqIdeal) (hXqRefIdeal := hXqRefIdeal)
    ∧ preserves_Xkv_XkvIdeal
    ∧ algebraic_XkvIdeal_XkvRefIdeal (hXkvIdeal := hXkvIdeal) (hXkvRefIdeal := hXkvRefIdeal)
    ∧ preserves_Xo_XoIdeal
    ∧ algebraic_XoIdeal_XoRefIdeal (hXoIdeal := hXoIdeal) (hXoRefIdeal := hXoRefIdeal)
    ∧ preserves_FfnIn_FfnInIdeal
    ∧ algebraic_FfnInIdeal_FfnInRefIdeal (hFfnInIdeal := hFfnInIdeal) (hFfnInRefIdeal := hFfnInRefIdeal)
    ∧ preserves_Glu_GluIdeal
    ∧ algebraic_GluIdeal_GluRefIdeal (hGluIdeal := hGluIdeal) (hGluRefIdeal := hGluRefIdeal)
    ∧ preserves_XAttnF_XAttnFIdeal
    ∧ algebraic_XAttnFIdeal_XAttnFRefIdeal (hXAttnFIdeal := hXAttnFIdeal) (hXAttnFRefIdeal := hXAttnFRefIdeal)
    ∧ preserves_AdamAbIn_AdamAbInIdeal
    ∧ algebraic_AdamAbInIdeal_AdamAbInRefIdeal (hAdamAbInIdeal := hAdamAbInIdeal) (hAdamAbInRefIdeal := hAdamAbInRefIdeal)
    ∧ preserves_AdamAbOut_AdamAbOutIdeal
    ∧ algebraic_AdamAbOutIdeal_AdamAbOutRefIdeal (hAdamAbOutIdeal := hAdamAbOutIdeal) (hAdamAbOutRefIdeal := hAdamAbOutRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_AdamXqo_AdamXqoIdeal
    ∧ algebraic_AdamXqoIdeal_AdamXqoRefIdeal (hAdamXqoIdeal := hAdamXqoIdeal) (hAdamXqoRefIdeal := hAdamXqoRefIdeal)
    ∧ preserves_AdamXkv_AdamXkvIdeal
    ∧ algebraic_AdamXkvIdeal_AdamXkvRefIdeal (hAdamXkvIdeal := hAdamXkvIdeal) (hAdamXkvRefIdeal := hAdamXkvRefIdeal)
    ∧ preserves_AdamFfnIn_AdamFfnInIdeal
    ∧ algebraic_AdamFfnInIdeal_AdamFfnInRefIdeal (hAdamFfnInIdeal := hAdamFfnInIdeal) (hAdamFfnInRefIdeal := hAdamFfnInRefIdeal)
    ∧ preserves_AdamFfnOut_AdamFfnOutIdeal
    ∧ algebraic_AdamFfnOutIdeal_AdamFfnOutRefIdeal (hAdamFfnOutIdeal := hAdamFfnOutIdeal) (hAdamFfnOutRefIdeal := hAdamFfnOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_NormIn_NormInIdeal
    ∧ algebraic_NormInIdeal_NormInRefIdeal (hNormInIdeal := hNormInIdeal) (hNormInRefIdeal := hNormInRefIdeal)
    ∧ preserves_MemNorm_MemNormIdeal
    ∧ algebraic_MemNormIdeal_MemNormRefIdeal (hMemNormIdeal := hMemNormIdeal) (hMemNormRefIdeal := hMemNormRefIdeal)
    ∧ preserves_ResNorm_ResNormIdeal
    ∧ algebraic_ResNormIdeal_ResNormRefIdeal (hResNormIdeal := hResNormIdeal) (hResNormRefIdeal := hResNormRefIdeal)
    ∧ preserves_ResNormC_ResNormCIdeal
    ∧ algebraic_ResNormCIdeal_ResNormCRefIdeal (hResNormCIdeal := hResNormCIdeal) (hResNormCRefIdeal := hResNormCRefIdeal)
    ∧ preserves_Gelu_GeluIdeal
    ∧ algebraic_GeluIdeal_GeluRefIdeal (hGeluIdeal := hGeluIdeal) (hGeluRefIdeal := hGeluRefIdeal)
    ∧ preserves_GateB_GateBIdeal
    ∧ algebraic_GateBIdeal_GateBRefIdeal (hGateBIdeal := hGateBIdeal) (hGateBRefIdeal := hGateBRefIdeal)
    ∧ preserves_SumSlots_SumSlotsIdeal
    ∧ algebraic_SumSlotsIdeal_SumSlotsRefIdeal (hSumSlotsIdeal := hSumSlotsIdeal) (hSumSlotsRefIdeal := hSumSlotsRefIdeal)
    ∧ preserves_MemNormB_MemNormBIdeal
    ∧ algebraic_MemNormBIdeal_MemNormBRefIdeal (hMemNormBIdeal := hMemNormBIdeal) (hMemNormBRefIdeal := hMemNormBRefIdeal)
    ∧ preserves_HgrnF_HgrnFIdeal
    ∧ algebraic_HgrnFIdeal_HgrnFRefIdeal_pre_finite_gates (hHgrnFIdeal := hHgrnFIdeal) (hHgrnFRefIdeal := hHgrnFRefIdeal) (hPre_finite_gates := hPre_finite_gates)
    ∧ preserves_NormInB_NormInBIdeal
    ∧ algebraic_NormInBIdeal_NormInBRefIdeal_pre_finite_rows (hNormInBIdeal := hNormInBIdeal) (hNormInBRefIdeal := hNormInBRefIdeal) (hPre_finite_rows := hPre_finite_rows)
    ∧ preserves_ResNormB_ResNormBIdeal
    ∧ algebraic_ResNormBIdeal_ResNormBRefIdeal_pre_finite_stream (hResNormBIdeal := hResNormBIdeal) (hResNormBRefIdeal := hResNormBRefIdeal) (hPre_finite_stream := hPre_finite_stream)
    ∧ preserves_SwigluB_SwigluBIdeal
    ∧ algebraic_SwigluBIdeal_SwigluBRefIdeal_pre_finite_gate (hSwigluBIdeal := hSwigluBIdeal) (hSwigluBRefIdeal := hSwigluBRefIdeal) (hPre_finite_gate := hPre_finite_gate)
-- ==== Pre_finite_gate.lean ====
abbrev S8192x2816 : Shape := ⟨2, ![8192, 2816]⟩
abbrev S_ : Shape := ⟨0, ![]⟩

class Facts : Prop where
  bcast_S_S8192x2816 : S_.BroadcastsInDim S8192x2816 (![] : Fin 0 → Fin S8192x2816.rank)
  reducesTo_S8192x2816_S_d0_1 : S8192x2816.ReducesTo [0, 1] S_
  h_S_ : 0 < S_.numel

variable [Facts]

def fn {F : FTy → Type} [FloatOps F] (main_arg0 : FVec F S8192x2816 .bf16) (main_arg1 : FVec F S8192x2816 .bf16) (main_arg2 : FVec F S8192x2816 .bf16) : IVec S_ 1 :=
  let main_v0 : FVec F S8192x2816 .bf16 := Host.absf main_arg1
  let main_cst : FVec F S_ .bf16 := constant S_ .bf16 0x7F80#16
  let main_v1 : FVec F S8192x2816 .bf16 := broadcastInDim S8192x2816 ![] bcast_S_S8192x2816 main_cst
  let main_v2 : IVec S8192x2816 1 := cmpf .olt main_v0 main_v1
  let main_c : IVec S_ 1 := constantI S_ 1 1#1
  let main_v3 : IVec S_ 1 := (fun x v => Host.reduce IntOp.andi x v reducesTo_S8192x2816_S_d0_1 h_S_) main_v2 main_c
  let main_v4 : FVec F S8192x2816 .bf16 := Host.absf main_arg2
  let main_cst_0 : FVec F S_ .bf16 := constant S_ .bf16 0x7F80#16
  let main_v5 : FVec F S8192x2816 .bf16 := broadcastInDim S8192x2816 ![] bcast_S_S8192x2816 main_cst_0
  let main_v6 : IVec S8192x2816 1 := cmpf .olt main_v4 main_v5
  let main_c_1 : IVec S_ 1 := constantI S_ 1 1#1
  let main_v7 : IVec S_ 1 := (fun x v => Host.reduce IntOp.andi x v reducesTo_S8192x2816_S_d0_1 h_S_) main_v6 main_c_1
  let main_v8 : IVec S_ 1 := andi main_v3 main_v7
  main_v8
-- ==== Pre_finite_gates.lean ====
abbrev S4x2048x3584 : Shape := ⟨3, ![4, 2048, 3584]⟩
abbrev S1x512 : Shape := ⟨2, ![1, 512]⟩
abbrev S4x2048x2048 : Shape := ⟨3, ![4, 2048, 2048]⟩
abbrev S4x2048x512 : Shape := ⟨3, ![4, 2048, 512]⟩
abbrev S_ : Shape := ⟨0, ![]⟩

class Facts : Prop where
  slices_S4x2048x3584_S4x2048x2048_0_0_0 : S4x2048x3584.Slices ![0, 0, 0] S4x2048x2048
  slices_S4x2048x2048_S4x2048x512_0_0_0 : S4x2048x2048.Slices ![0, 0, 0] S4x2048x512
  slices_S4x2048x2048_S4x2048x512_0_0_512 : S4x2048x2048.Slices ![0, 0, 512] S4x2048x512
  slices_S4x2048x2048_S4x2048x512_0_0_1024 : S4x2048x2048.Slices ![0, 0, 1024] S4x2048x512
  slices_S4x2048x2048_S4x2048x512_0_0_1536 : S4x2048x2048.Slices ![0, 0, 1536] S4x2048x512
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg1 : FVec F S1x512 .f32) (main_v13 : IVec S_ 1) (main_v17 : IVec S_ 1) : IVec S_ 1 :=
  let main_v18 : IVec S_ 1 := andi main_v13 main_v17
  let main_cst_4 : FVec F S_ .f32 := constant S_ .f32 0x00000000#32
  let main_v19 : FVec F S1x512 .f32 := broadcastInDim S1x512 ![] bcast_S_S1x512 main_cst_4
  let main_v20 : IVec S1x512 1 := cmpf .oge main_arg1 main_v19
  let main_c_5 : IVec S_ 1 := constantI S_ 1 1#1
  let main_v21 : IVec S_ 1 := (fun x v => Host.reduce IntOp.andi x v reducesTo_S1x512_S_d0_1 h_S_) main_v20 main_c_5
  let main_v22 : IVec S_ 1 := andi main_v18 main_v21
  let main_cst_6 : FVec F S_ .f32 := constant S_ .f32 0x3F800000#32
  let main_v23 : FVec F S1x512 .f32 := broadcastInDim S1x512 ![] bcast_S_S1x512 main_cst_6
  let main_v24 : IVec S1x512 1 := cmpf .ole main_arg1 main_v23
  let main_c_7 : IVec S_ 1 := constantI S_ 1 1#1
  let main_v25 : IVec S_ 1 := (fun x v => Host.reduce IntOp.andi x v reducesTo_S1x512_S_d0_1 h_S_) main_v24 main_c_7
  let main_v26 : IVec S_ 1 := andi main_v22 main_v25
  main_v26

def fn {F : FTy → Type} [FloatOps F] (main_arg0 : FVec F S4x2048x3584 .f32) (main_arg1 : FVec F S1x512 .f32) (main_arg2 : FVec F S1x512 .f32) : IVec S_ 1 :=
  let main_v0 : FVec F S4x2048x2048 .f32 := (extractStridedSlice S4x2048x2048 ![0, 0, 0] · slices_S4x2048x3584_S4x2048x2048_0_0_0) main_arg0
  let main_v1 : FVec F S4x2048x512 .f32 := (extractStridedSlice S4x2048x512 ![0, 0, 0] · slices_S4x2048x2048_S4x2048x512_0_0_0) main_v0
  let main_v2 : FVec F S4x2048x512 .f32 := (extractStridedSlice S4x2048x512 ![0, 0, 512] · slices_S4x2048x2048_S4x2048x512_0_0_512) main_v0
  let main_v3 : FVec F S4x2048x512 .f32 := (extractStridedSlice S4x2048x512 ![0, 0, 1024] · slices_S4x2048x2048_S4x2048x512_0_0_1024) main_v0
  let main_v4 : FVec F S4x2048x512 .f32 := (extractStridedSlice S4x2048x512 ![0, 0, 1536] · slices_S4x2048x2048_S4x2048x512_0_0_1536) main_v0
  let main_v5 : FVec F S4x2048x512 .f32 := Host.absf main_v1
  let main_cst : FVec F S_ .f32 := constant S_ .f32 0x7F800000#32
  let main_v6 : FVec F S4x2048x512 .f32 := broadcastInDim S4x2048x512 ![] bcast_S_S4x2048x512 main_cst
  let main_v7 : IVec S4x2048x512 1 := cmpf .olt main_v5 main_v6
  let main_c : IVec S_ 1 := constantI S_ 1 1#1
  let main_v8 : IVec S_ 1 := (fun x v => Host.reduce IntOp.andi x v reducesTo_S4x2048x512_S_d0_1_2 h_S_) main_v7 main_c
  let main_v9 : FVec F S4x2048x512 .f32 := Host.absf main_v2
  let main_cst_0 : FVec F S_ .f32 := constant S_ .f32 0x7F800000#32
  let main_v10 : FVec F S4x2048x512 .f32 := broadcastInDim S4x2048x512 ![] bcast_S_S4x2048x512 main_cst_0
  let main_v11 : IVec S4x2048x512 1 := cmpf .olt main_v9 main_v10
  let main_c_1 : IVec S_ 1 := constantI S_ 1 1#1
  let main_v12 : IVec S_ 1 := (fun x v => Host.reduce IntOp.andi x v reducesTo_S4x2048x512_S_d0_1_2 h_S_) main_v11 main_c_1
  let main_v13 : IVec S_ 1 := andi main_v8 main_v12
  let main_v14 : FVec F S4x2048x512 .f32 := Host.absf main_v3
  let main_cst_2 : FVec F S_ .f32 := constant S_ .f32 0x7F800000#32
  let main_v15 : FVec F S4x2048x512 .f32 := broadcastInDim S4x2048x512 ![] bcast_S_S4x2048x512 main_cst_2
  let main_v16 : IVec S4x2048x512 1 := cmpf .olt main_v14 main_v15
  let main_c_3 : IVec S_ 1 := constantI S_ 1 1#1
  let main_v17 : IVec S_ 1 := (fun x v => Host.reduce IntOp.andi x v reducesTo_S4x2048x512_S_d0_1_2 h_S_) main_v16 main_c_3
  fn_part1 (F := F) main_arg1 main_v13 main_v17
-- ==== Pre_finite_rows.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x1024 .f32) (main_arg1 : FVec F S8192x1024 .f32) (main_arg2 : FVec F S8192x1024 .f32) (main_arg3 : FVec F S1x1024 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg2
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Pre_finite_scores.lean ====
abbrev S4x2048x1024 : Shape := ⟨3, ![4, 2048, 1024]⟩
abbrev S4x256x2048 : Shape := ⟨3, ![4, 256, 2048]⟩
abbrev S_ : Shape := ⟨0, ![]⟩
abbrev S4x256x1024 : Shape := ⟨3, ![4, 256, 1024]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  slices_S4x256x2048_S4x256x1024_0_0_0 : S4x256x2048.Slices ![0, 0, 0] S4x256x1024
  bcast_S_S4x256x1024 : S_.BroadcastsInDim S4x256x1024 (![] : Fin 0 → Fin S4x256x1024.rank)
  reducesTo_S4x256x1024_S_d0_1_2 : S4x256x1024.ReducesTo [0, 1, 2] S_

variable [Facts]

def fn {F : FTy → Type} [FloatOps F] (main_arg0 : FVec F S4x2048x1024 .bf16) (main_arg1 : FVec F S4x256x2048 .bf16) (main_arg2 : FVec F S4x2048x1024 .bf16) : IVec S_ 1 :=
  let main_v0 : FVec F S4x2048x1024 .bf16 := Host.absf main_arg0
  let main_cst : FVec F S_ .bf16 := constant S_ .bf16 0x7F80#16
  let main_v1 : FVec F S4x2048x1024 .bf16 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x256x1024 .bf16 := (extractStridedSlice S4x256x1024 ![0, 0, 0] · slices_S4x256x2048_S4x256x1024_0_0_0) main_arg1
  let main_v5 : FVec F S4x256x1024 .bf16 := Host.absf main_v4
  let main_cst_0 : FVec F S_ .bf16 := constant S_ .bf16 0x7F80#16
  let main_v6 : FVec F S4x256x1024 .bf16 := broadcastInDim S4x256x1024 ![] bcast_S_S4x256x1024 main_cst_0
  let main_v7 : IVec S4x256x1024 1 := cmpf .olt main_v5 main_v6
  let main_c_1 : IVec S_ 1 := constantI S_ 1 1#1
  let main_v8 : IVec S_ 1 := (fun x v => Host.reduce IntOp.andi x v reducesTo_S4x256x1024_S_d0_1_2 h_S_) main_v7 main_c_1
  let main_v9 : IVec S_ 1 := andi main_v3 main_v8
  main_v9
-- ==== Pre_finite_stream.lean ====
abbrev S8192x1024 : Shape := ⟨2, ![8192, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S1x1024 .f32) (main_arg5 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_v13 main_v16
-- ==== Kernel.lean ====
abbrev S4x2048x1024 : Shape := ⟨3, ![4, 2048, 1024]⟩
abbrev S4x256x2048 : Shape := ⟨3, ![4, 256, 2048]⟩
abbrev S4x256x1024 : Shape := ⟨3, ![4, 256, 1024]⟩
abbrev S1x1024x256 : Shape := ⟨3, ![1, 1024, 256]⟩
abbrev S1x256x256 : Shape := ⟨3, ![1, 256, 256]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 6
  | .vmem => 14
  | .smem => 0
  | _ => 0

abbrev bufTy : (tb : Table) → Fin (tcTables nBuf tb) → BufTy
  | .hbm, ⟨0, _⟩ => ⟨S4x2048x1024, .bf16⟩
  | .hbm, ⟨1, _⟩ => ⟨S4x256x2048, .bf16⟩
  | .hbm, ⟨2, _⟩ => ⟨S4x2048x1024, .bf16⟩
  | .hbm, ⟨3, _⟩ => ⟨S4x2048x1024, .bf16⟩
  | .hbm, ⟨4, _⟩ => ⟨S4x256x1024, .f32⟩
  | .hbm, ⟨5, _⟩ => ⟨S4x256x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 2], ![false, false, false]⟩

def k0_cond1 (i : grid0.Coords) : BitVec 1 :=
  let arg2 : BitVec 32 := BitVec.ofNat 32 (i 2).val
  let c0_i32 : BitVec 32 := 0#32
  let v38 : BitVec 1 := Scalar.cmpi .eq arg2 c0_i32
  let v39 : BitVec 32 := Scalar.extui v38
  let c0_i32_23 : BitVec 32 := 0#32
  let v40 : BitVec 1 := Scalar.cmpi .ne v39 c0_i32_23
  v40

def k0_cond2 (i : grid0.Coords) : BitVec 1 :=
  let arg2 : BitVec 32 := BitVec.ofNat 32 (i 2).val
  let c0_i32 : BitVec 32 := 0#32
  let v38 : BitVec 1 := Scalar.cmpi .eq arg2 c0_i32
  let v_true : BitVec 1 := 1#1
  let v41 : BitVec 1 := Scalar.xori v38 v_true
  let v42 : BitVec 32 := Scalar.extui v41
  let c0_i32_24 : BitVec 32 := 0#32
  let v43 : BitVec 1 := Scalar.cmpi .ne v42 c0_i32_24
  v43

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S4x2048x1024 : Shape := ⟨3, ![4, 2048, 1024]⟩
abbrev S4x256x2048 : Shape := ⟨3, ![4, 256, 2048]⟩
abbrev S4x256x1024 : Shape := ⟨3, ![4, 256, 1024]⟩
abbrev S4x2048x4x256 : Shape := ⟨4, ![4, 2048, 4, 256]⟩
abbrev S4x4x2048x256 : Shape := ⟨4, ![4, 4, 2048, 256]⟩
abbrev S4x256x4x256 : Shape := ⟨4, ![4, 256, 4, 256]⟩
abbrev S4x4x256x256 : Shape := ⟨4, ![4, 4, 256, 256]⟩
abbrev S_ : Shape := ⟨0, ![]⟩
abbrev S4x4x2048 : Shape := ⟨3, ![4, 4, 2048]⟩
abbrev S4x4x2048x1 : Shape := ⟨4, ![4, 4, 2048, 1]⟩

abbrev nBuf : Space → Nat
  | .hbm => 90
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x256x2048, .bf16⟩
  | .hbm, ⟨2, _⟩ => ⟨S4x2048x1024, .bf16⟩
  | .hbm, ⟨3, _⟩ => ⟨S4x2048x1024, .f32⟩
  | .hbm, ⟨4, _⟩ => ⟨S4x256x2048, .f32⟩
  | .hbm, ⟨5, _⟩ => ⟨S4x2048x1024, .f32⟩
  | .hbm, ⟨6, _⟩ => ⟨S4x256x1024, .f32⟩
  | .hbm, ⟨7, _⟩ => ⟨S4x256x1024, .f32⟩
  | .hbm, ⟨8, _⟩ => ⟨S4x2048x4x256, .f32⟩
  | .hbm, ⟨9, _⟩ => ⟨S4x4x2048x256, .f32⟩
  | .hbm, ⟨10, _⟩ => ⟨S4x256x4x256, .f32⟩
  | .hbm, ⟨11, _⟩ => ⟨S4x4x256x256, .f32⟩
  | .hbm, ⟨12, _⟩ => ⟨S4x256x4x256, .f32⟩
  | .hbm, ⟨13, _⟩ => ⟨S4x4x256x256, .f32⟩
  | .hbm, ⟨14, _⟩ => ⟨S4x4x2048x256, .f32⟩
  | .hbm, ⟨15, _⟩ => ⟨S_, .f32⟩
  | .hbm, ⟨16, _⟩ => ⟨S4x4x2048x256, .f32⟩
  | .hbm, ⟨17, _⟩ => ⟨S4x4x2048x256, .f32⟩
  | .hbm, ⟨18, _⟩ => ⟨S_, .f32⟩
  | .hbm, ⟨19, _⟩ => ⟨S4x4x2048, .f32⟩
  | .hbm, ⟨20, _⟩ => ⟨S4x4x2048x1, .f32⟩
  | .hbm, ⟨21, _⟩ => ⟨S4x4x2048x256, .f32⟩
  | .hbm, ⟨22, _⟩ => ⟨S4x4x2048x256, .i1⟩
  | .hbm, ⟨23, _⟩ => ⟨S4x4x2048x256, .f32⟩
  | .hbm, ⟨24, _⟩ => ⟨S_, .f32⟩
  | .hbm, ⟨25, _⟩ => ⟨S4x4x2048, .f32⟩
  | .hbm, ⟨26, _⟩ => ⟨S_, .f32⟩
  | .hbm, ⟨27, _⟩ => ⟨S4x4x2048, .f32⟩
  | .hbm, ⟨28, _⟩ => ⟨S4x4x2048, .f32⟩
  | .hbm, ⟨29, _⟩ => ⟨S_, .f32⟩
  | .hbm, ⟨30, _⟩ => ⟨S4x4x2048, .f32⟩
  | .hbm, ⟨31, _⟩ => ⟨S4x4x2048, .i1⟩
  | .hbm, ⟨32, _⟩ => ⟨S_, .f32⟩
  | .hbm, ⟨33, _⟩ => ⟨S4x4x2048, .f32⟩
  | .hbm, ⟨34, _⟩ => ⟨S4x4x2048, .i1⟩
  | .hbm, ⟨35, _⟩ => ⟨S_, .f32⟩
  | .hbm, ⟨36, _⟩ => ⟨S4x4x2048, .f32⟩
  | .hbm, ⟨37, _⟩ => ⟨S_, .f32⟩
  | .hbm, ⟨38, _⟩ => ⟨S4x4x2048, .f32⟩
  | .hbm, ⟨39, _⟩ => ⟨S_, .f32⟩
  | .hbm, ⟨40, _⟩ => ⟨S4x4x2048, .f32⟩
  | .hbm, ⟨41, _⟩ => ⟨S4x4x2048, .f32⟩
  | .hbm, ⟨42, _⟩ => ⟨S4x4x2048, .f32⟩
  | .hbm, ⟨43, _⟩ => ⟨S4x4x2048x1, .f32⟩
  | .hbm, ⟨44, _⟩ => ⟨S4x4x2048x256, .f32⟩
  | .hbm, ⟨45, _⟩ => ⟨S4x4x2048x256, .f32⟩
  | .hbm, ⟨46, _⟩ => ⟨S4x4x2048x256, .f32⟩
  | .hbm, ⟨47, _⟩ => ⟨S_, .f32⟩
  | .hbm, ⟨48, _⟩ => ⟨S4x4x2048, .f32⟩
  | .hbm, ⟨49, _⟩ => ⟨S4x4x2048x1, .f32⟩
  | .hbm, ⟨50, _⟩ => ⟨S4x4x2048x256, .f32⟩
  | .hbm, ⟨51, _⟩ => ⟨S4x4x2048x256, .f32⟩
  | .hbm, ⟨52, _⟩ => ⟨S4x4x2048x1, .f32⟩
  | .hbm, ⟨53, _⟩ => ⟨S_, .f32⟩
  | .hbm, ⟨54, _⟩ => ⟨S4x4x2048x1, .f32⟩
  | .hbm, ⟨55, _⟩ => ⟨S4x4x2048x1, .f32⟩
  | .hbm, ⟨56, _⟩ => ⟨S4x4x2048x256, .f32⟩
  | .hbm, ⟨57, _⟩ => ⟨S4x2048x4x256, .f32⟩
  | .hbm, ⟨58, _⟩ => ⟨S4x2048x1024, .f32⟩
  | .hbm, ⟨59, _⟩ => ⟨S4x2048x4x256, .f32⟩
  | .hbm, ⟨60, _⟩ => ⟨S4x4x2048x256, .f32⟩
  | .hbm, ⟨61, _⟩ => ⟨S4x4x256x256, .f32⟩
  | .hbm, ⟨62, _⟩ => ⟨S4x4x256x256, .f32⟩
  | .hbm, ⟨63, _⟩ => ⟨S4x4x2048x256, .f32⟩
  | .hbm, ⟨64, _⟩ => ⟨S4x4x2048x256, .f32⟩
  | .hbm, ⟨65, _⟩ => ⟨S4x4x2048x256, .f32⟩
  | .hbm, ⟨66, _⟩ => ⟨S4x4x2048x256, .f32⟩
  | .hbm, ⟨67, _⟩ => ⟨S_, .f32⟩
  | .hbm, ⟨68, _⟩ => ⟨S4x4x2048, .f32⟩
  | .hbm, ⟨69, _⟩ => ⟨S4x4x2048x1, .f32⟩
  | .hbm, ⟨70, _⟩ => ⟨S4x4x2048x1, .f32⟩
  | .hbm, ⟨71, _⟩ => ⟨S4x4x2048x256, .f32⟩
  | .hbm, ⟨72, _⟩ => ⟨S4x4x2048x256, .f32⟩
  | .hbm, ⟨73, _⟩ => ⟨S_, .f32⟩
  | .hbm, ⟨74, _⟩ => ⟨S4x4x2048, .f32⟩
  | .hbm, ⟨75, _⟩ => ⟨S4x4x2048x256, .f32⟩
  | .hbm, ⟨76, _⟩ => ⟨S4x4x2048x256, .f32⟩
  | .hbm, ⟨77, _⟩ => ⟨S4x4x2048x256, .f32⟩
  | .hbm, ⟨78, _⟩ => ⟨S_, .f32⟩
  | .hbm, ⟨79, _⟩ => ⟨S4x4x2048x256, .f32⟩
  | .hbm, ⟨80, _⟩ => ⟨S4x4x2048x256, .f32⟩
  | .hbm, ⟨81, _⟩ => ⟨S4x4x256x256, .f32⟩
  | .hbm, ⟨82, _⟩ => ⟨S4x4x2048x256, .f32⟩
  | .hbm, ⟨83, _⟩ => ⟨S4x256x4x256, .f32⟩
  | .hbm, ⟨84, _⟩ => ⟨S4x256x1024, .f32⟩
  | .hbm, ⟨85, _⟩ => ⟨S4x256x4x256, .f32⟩
  | .hbm, ⟨86, _⟩ => ⟨S4x256x1024, .f32⟩
  | .hbm, ⟨87, _⟩ => ⟨S4x2048x4x256, .f32⟩
  | .hbm, ⟨88, _⟩ => ⟨S4x2048x1024, .f32⟩
  | .hbm, ⟨89, _⟩ => ⟨S4x2048x1024, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== FfnOutDx.lean ====
abbrev S8192x1024 : Shape := ⟨2, ![8192, 1024]⟩
abbrev S2816x1024 : Shape := ⟨2, ![2816, 1024]⟩
abbrev S8192x2816 : Shape := ⟨2, ![8192, 2816]⟩
abbrev S2048x1024 : Shape := ⟨2, ![2048, 1024]⟩
abbrev S256x1024 : Shape := ⟨2, ![256, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x256, .bf16⟩
  | .local _ .vmem, ⟨5, _⟩ => ⟨S2048x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnOutDw.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnInDx.lean ====
abbrev S8192x5632 : Shape := ⟨2, ![8192, 5632]⟩
abbrev S1024x5632 : Shape := ⟨2, ![1024, 5632]⟩
abbrev S8192x1024 : Shape := ⟨2, ![8192, 1024]⟩
abbrev S2048x2816 : Shape := ⟨2, ![2048, 2816]⟩
abbrev S512x2816 : Shape := ⟨2, ![512, 2816]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S2048x2816, .bf16⟩
  | .local _ .vmem, ⟨1, _⟩ => ⟨S2048x2816, .bf16⟩
  | .local _ .vmem, ⟨2, _⟩ => ⟨S512x2816, .bf16⟩
  | .local _ .vmem, ⟨3, _⟩ => ⟨S512x2816, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDxRefIdeal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnInDw.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AbInDx.lean ====
abbrev S8192x3584 : Shape := ⟨2, ![8192, 3584]⟩
abbrev S1024x3584 : Shape := ⟨2, ![1024, 3584]⟩
abbrev S8192x1024 : Shape := ⟨2, ![8192, 1024]⟩
abbrev S2048x1792 : Shape := ⟨2, ![2048, 1792]⟩
abbrev S512x1792 : Shape := ⟨2, ![512, 1792]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x3584, .bf16⟩
  | .hbm, ⟨1, _⟩ => ⟨S1024x3584, .bf16⟩
  | .hbm, ⟨2, _⟩ => ⟨S8192x1024, .f32⟩
  | .local _ .vmem, ⟨0, _⟩ => ⟨S2048x1792, .bf16⟩
  | .local _ .vmem, ⟨1, _⟩ => ⟨S2048x1792, .bf16⟩
  | .local _ .vmem, ⟨2, _⟩ => ⟨S512x1792, .bf16⟩
  | .local _ .vmem, ⟨3, _⟩ => ⟨S512x1792, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInDxRefIdeal.lean ====
abbrev S8192x3584 : Shape := ⟨2, ![8192, 3584]⟩
abbrev S1024x3584 : Shape := ⟨2, ![1024, 3584]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S1024x3584, .bf16⟩
  | .hbm, ⟨2, _⟩ => ⟨S_, .f32⟩
  | .hbm, ⟨3, _⟩ => ⟨S8192x1024, .f32⟩
  | .hbm, ⟨4, _⟩ => ⟨S1024x3584, .f32⟩
  | .hbm, ⟨5, _⟩ => ⟨S8192x3584, .f32⟩
  | .hbm, ⟨6, _⟩ => ⟨S8192x3584, .f32⟩
  | .hbm, ⟨7, _⟩ => ⟨S8192x1024, .f32⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AbInDw.lean ====
abbrev S8192x1024 : Shape := ⟨2, ![8192, 1024]⟩
abbrev S8192x3584 : Shape := ⟨2, ![8192, 3584]⟩
abbrev S1024x3584 : Shape := ⟨2, ![1024, 3584]⟩
abbrev S1024x1024 : Shape := ⟨2, ![1024, 1024]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S1024x3584, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .f32⟩
  | .local _ .vmem, ⟨5, _⟩ => ⟨S1024x1792, .f32⟩
  | .local _ .vmem, ⟨6, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInDwRefIdeal.lean ====
abbrev S8192x1024 : Shape := ⟨2, ![8192, 1024]⟩
abbrev S8192x3584 : Shape := ⟨2, ![8192, 3584]⟩
abbrev S_ : Shape := ⟨0, ![]⟩
abbrev S1024x3584 : Shape := ⟨2, ![1024, 3584]⟩
abbrev S3584x1024 : Shape := ⟨2, ![3584, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S_, .f32⟩
  | .hbm, ⟨3, _⟩ => ⟨S1024x3584, .f32⟩
  | .hbm, ⟨4, _⟩ => ⟨S8192x1024, .f32⟩
  | .hbm, ⟨5, _⟩ => ⟨S8192x3584, .f32⟩
  | .hbm, ⟨6, _⟩ => ⟨S8192x3584, .f32⟩
  | .hbm, ⟨7, _⟩ => ⟨S3584x1024, .f32⟩
  | .hbm, ⟨8, _⟩ => ⟨S1024x3584, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GluDx.lean ====
abbrev S8192x2048 : Shape := ⟨2, ![8192, 2048]⟩
abbrev S1024x2048 : Shape := ⟨2, ![1024, 2048]⟩
abbrev S8192x1024 : Shape := ⟨2, ![8192, 1024]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S8192x1024, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDxRefIdeal.lean ====
abbrev S8192x2048 : Shape := ⟨2, ![8192, 2048]⟩
abbrev S1024x2048 : Shape := ⟨2, ![1024, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .bf16⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x2048, .f32⟩
  | .hbm, ⟨7, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GluDw.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDwRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XqDx.lean ====
abbrev S8192x1024 : Shape := ⟨2, ![8192, 1024]⟩
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XqDw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== XqDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XoDx.lean ====
abbrev S8192x1024 : Shape := ⟨2, ![8192, 1024]⟩
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XoDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XkvDx.lean ====
abbrev S1024x2048 : Shape := ⟨2, ![1024, 2048]⟩
abbrev S1024x1024 : Shape := ⟨2, ![1024, 1024]⟩
abbrev S512x2048 : Shape := ⟨2, ![512, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S1024x1024, .f32⟩
  | .local _ .vmem, ⟨0, _⟩ => ⟨S1024x2048, .f32⟩
  | .local _ .vmem, ⟨1, _⟩ => ⟨S512x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvDxRefIdeal.lean ====
abbrev S1024x2048 : Shape := ⟨2, ![1024, 2048]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S_, .f32⟩
  | .hbm, ⟨3, _⟩ => ⟨S1024x1024, .f32⟩
  | .hbm, ⟨4, _⟩ => ⟨S1024x2048, .f32⟩
  | .hbm, ⟨5, _⟩ => ⟨S1024x2048, .f32⟩
  | .hbm, ⟨6, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== XkvDw.lean ====
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S1024x2048, .f32⟩
  | .local _ .vmem, ⟨0, _⟩ => ⟨S1024x1024, .bf16⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvDwRefIdeal.lean ====
abbrev S1024x1024 : Shape := ⟨2, ![1024, 1024]⟩
abbrev S1024x2048 : Shape := ⟨2, ![1024, 2048]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .f32⟩
  | .hbm, ⟨2, _⟩ => ⟨S_, .f32⟩
  | .hbm, ⟨3, _⟩ => ⟨S1024x2048, .f32⟩
  | .hbm, ⟨4, _⟩ => ⟨S1024x1024, .f32⟩
  | .hbm, ⟨5, _⟩ => ⟨S1024x2048, .f32⟩
  | .hbm, ⟨6, _⟩ => ⟨S2048x1024, .f32⟩
  | .hbm, ⟨7, _⟩ => ⟨S1024x2048, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AbOutDw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AbOutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnOut.lean ====
abbrev S8192x2816 : Shape := ⟨2, ![8192, 2816]⟩
abbrev S2816x1024 : Shape := ⟨2, ![2816, 1024]⟩
abbrev S8192x1024 : Shape := ⟨2, ![8192, 1024]⟩
abbrev S2048x2816 : Shape := ⟨2, ![2048, 2816]⟩
abbrev S2816x512 : Shape := ⟨2, ![2816, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S2048x2816, .bf16⟩
  | .local _ .vmem, ⟨1, _⟩ => ⟨S2048x2816, .bf16⟩
  | .local _ .vmem, ⟨2, _⟩ => ⟨S2816x512, .bf16⟩
  | .local _ .vmem, ⟨3, _⟩ => ⟨S2816x512, .bf16⟩
  | .local _ .vmem, ⟨4, _⟩ => ⟨S2048x512, .f32⟩
  | .local _ .vmem, ⟨5, _⟩ => ⟨S2048x512, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AbIn.lean ====
abbrev S8192x1024 : Shape := ⟨2, ![8192, 1024]⟩
abbrev S1024x3584 : Shape := ⟨2, ![1024, 3584]⟩
abbrev S8192x3584 : Shape := ⟨2, ![8192, 3584]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .bf16⟩
  | .hbm, ⟨2, _⟩ => ⟨S8192x3584, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInRefIdeal.lean ====
abbrev S8192x1024 : Shape := ⟨2, ![8192, 1024]⟩
abbrev S1024x3584 : Shape := ⟨2, ![1024, 3584]⟩
abbrev S8192x3584 : Shape := ⟨2, ![8192, 3584]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .bf16⟩
  | .hbm, ⟨2, _⟩ => ⟨S8192x1024, .f32⟩
  | .hbm, ⟨3, _⟩ => ⟨S1024x3584, .f32⟩
  | .hbm, ⟨4, _⟩ => ⟨S8192x3584, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AbOut.lean ====
abbrev S8192x1024 : Shape := ⟨2, ![8192, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbOutRefIdeal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Xq.lean ====
abbrev S8192x1024 : Shape := ⟨2, ![8192, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Xkv.lean ====
abbrev S1024x1024 : Shape := ⟨2, ![1024, 1024]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S1024x2048, .bf16⟩
  | .local _ .vmem, ⟨0, _⟩ => ⟨S1024x1024, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XkvRefIdeal.lean ====
abbrev S1024x1024 : Shape := ⟨2, ![1024, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S1024x1024, .f32⟩
  | .hbm, ⟨3, _⟩ => ⟨S1024x2048, .f32⟩
  | .hbm, ⟨4, _⟩ => ⟨S1024x2048, .f32⟩
  | .hbm, ⟨5, _⟩ => ⟨S1024x2048, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Xo.lean ====
abbrev S8192x1024 : Shape := ⟨2, ![8192, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XoRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnIn.lean ====
abbrev S8192x1024 : Shape := ⟨2, ![8192, 1024]⟩
abbrev S1024x5632 : Shape := ⟨2, ![1024, 5632]⟩
abbrev S8192x2816 : Shape := ⟨2, ![8192, 2816]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnInRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | .hbm, ⟨18, _⟩ => ⟨S8192x2816, .f32⟩
  | .hbm, ⟨19, _⟩ => ⟨S8192x2816, .bf16⟩
  | .hbm, ⟨20, _⟩ => ⟨S8192x2816, .f32⟩
  | .hbm, ⟨21, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Glu.lean ====
abbrev S8192x1024 : Shape := ⟨2, ![8192, 1024]⟩
abbrev S1024x2048 : Shape := ⟨2, ![1024, 2048]⟩
abbrev S2048x1024 : Shape := ⟨2, ![2048, 1024]⟩
abbrev S1024x256 : Shape := ⟨2, ![1024, 256]⟩
abbrev S2048x256 : Shape := ⟨2, ![2048, 256]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S8192x1024, .bf16⟩
  | .hbm, ⟨4, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S2048x256, .f32⟩
  | .local _ .vmem, ⟨7, _⟩ => ⟨S2048x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluRefIdeal.lean ====
abbrev S8192x1024 : Shape := ⟨2, ![8192, 1024]⟩
abbrev S1024x2048 : Shape := ⟨2, ![1024, 2048]⟩
abbrev S8192x2048 : Shape := ⟨2, ![8192, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .bf16⟩
  | .hbm, ⟨2, _⟩ => ⟨S8192x1024, .f32⟩
  | .hbm, ⟨3, _⟩ => ⟨S1024x2048, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S8192x1024, .f32⟩
  | .hbm, ⟨19, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== XAttnF.lean ====
abbrev S4x2048x1024 : Shape := ⟨3, ![4, 2048, 1024]⟩
abbrev S4x256x2048 : Shape := ⟨3, ![4, 256, 2048]⟩
abbrev S1x1024x256 : Shape := ⟨3, ![1, 1024, 256]⟩
abbrev S1x256x256 : Shape := ⟨3, ![1, 256, 256]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 8
  | .smem => 0
  | _ => 0

abbrev bufTy : (tb : Table) → Fin (tcTables nBuf tb) → BufTy
  | .hbm, ⟨0, _⟩ => ⟨S4x2048x1024, .bf16⟩
  | .hbm, ⟨1, _⟩ => ⟨S4x256x2048, .bf16⟩
  | .hbm, ⟨2, _⟩ => ⟨S4x2048x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x1024x256, .bf16⟩
  | .local _ .vmem, ⟨7, _⟩ => ⟨S1x1024x256, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== XAttnFRefIdeal.lean ====
abbrev S4x2048x1024 : Shape := ⟨3, ![4, 2048, 1024]⟩
abbrev S4x256x2048 : Shape := ⟨3, ![4, 256, 2048]⟩
abbrev S4x256x1024 : Shape := ⟨3, ![4, 256, 1024]⟩
abbrev S4x2048x4x256 : Shape := ⟨4, ![4, 2048, 4, 256]⟩
abbrev S4x4x2048x256 : Shape := ⟨4, ![4, 4, 2048, 256]⟩
abbrev S4x256x4x256 : Shape := ⟨4, ![4, 256, 4, 256]⟩
abbrev S4x4x256x256 : Shape := ⟨4, ![4, 4, 256, 256]⟩
abbrev S_ : Shape := ⟨0, ![]⟩
abbrev S4x4x2048 : Shape := ⟨3, ![4, 4, 2048]⟩
abbrev S4x4x2048x1 : Shape := ⟨4, ![4, 4, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x256x2048, .bf16⟩
  | .hbm, ⟨2, _⟩ => ⟨S4x2048x1024, .f32⟩
  | .hbm, ⟨3, _⟩ => ⟨S4x256x2048, .f32⟩
  | .hbm, ⟨4, _⟩ => ⟨S4x256x1024, .f32⟩
  | .hbm, ⟨5, _⟩ => ⟨S4x256x1024, .f32⟩
  | .hbm, ⟨6, _⟩ => ⟨S4x2048x4x256, .f32⟩
  | .hbm, ⟨7, _⟩ => ⟨S4x4x2048x256, .f32⟩
  | .hbm, ⟨8, _⟩ => ⟨S4x256x4x256, .f32⟩
  | .hbm, ⟨9, _⟩ => ⟨S4x4x256x256, .f32⟩
  | .hbm, ⟨10, _⟩ => ⟨S4x256x4x256, .f32⟩
  | .hbm, ⟨11, _⟩ => ⟨S4x4x256x256, .f32⟩
  | .hbm, ⟨12, _⟩ => ⟨S4x4x2048x256, .f32⟩
  | .hbm, ⟨13, _⟩ => ⟨S_, .f32⟩
  | .hbm, ⟨14, _⟩ => ⟨S4x4x2048x256, .f32⟩
  | .hbm, ⟨15, _⟩ => ⟨S4x4x2048x256, .f32⟩
  | .hbm, ⟨16, _⟩ => ⟨S_, .f32⟩
  | .hbm, ⟨17, _⟩ => ⟨S4x4x2048, .f32⟩
  | .hbm, ⟨18, _⟩ => ⟨S_, .f32⟩
  | .hbm, ⟨19, _⟩ => ⟨S4x4x2048, .f32⟩
  | .hbm, ⟨20, _⟩ => ⟨S4x4x2048, .f32⟩
  | .hbm, ⟨21, _⟩ => ⟨S4x4x2048x1, .f32⟩
  | .hbm, ⟨22, _⟩ => ⟨S4x4x2048x256, .f32⟩
  | .hbm, ⟨23, _⟩ => ⟨S4x4x2048x256, .f32⟩
  | .hbm, ⟨24, _⟩ => ⟨S4x4x2048x256, .f32⟩
  | .hbm, ⟨25, _⟩ => ⟨S_, .f32⟩
  | .hbm, ⟨26, _⟩ => ⟨S4x4x2048, .f32⟩
  | .hbm, ⟨27, _⟩ => ⟨S4x4x2048x1, .f32⟩
  | .hbm, ⟨28, _⟩ => ⟨S4x4x2048x256, .f32⟩
  | .hbm, ⟨29, _⟩ => ⟨S4x4x2048x256, .f32⟩
  | .hbm, ⟨30, _⟩ => ⟨S4x4x2048x256, .f32⟩
  | .hbm, ⟨31, _⟩ => ⟨S4x2048x4x256, .f32⟩
  | .hbm, ⟨32, _⟩ => ⟨S4x2048x1024, .f32⟩
  | .hbm, ⟨33, _⟩ => ⟨S4x2048x1024, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== AdamAbIn.lean ====
abbrev S1024x896 : Shape := ⟨2, ![1024, 896]⟩
abbrev S256x896 : Shape := ⟨2, ![256, 896]⟩

abbrev nBuf : Space → Nat
  | .hbm => 7
  | .vmem => 14
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAbInRefIdeal.lean ====
abbrev S1024x896 : Shape := ⟨2, ![1024, 896]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S_, .f32⟩
  | .hbm, ⟨5, _⟩ => ⟨S1024x896, .f32⟩
  | .hbm, ⟨6, _⟩ => ⟨S1024x896, .f32⟩
  | .hbm, ⟨7, _⟩ => ⟨S_, .f32⟩
  | .hbm, ⟨8, _⟩ => ⟨S1024x896, .f32⟩
  | .hbm, ⟨9, _⟩ => ⟨S1024x896, .f32⟩
  | .hbm, ⟨10, _⟩ => ⟨S1024x896, .f32⟩
  | .hbm, ⟨11, _⟩ => ⟨S_, .f32⟩
  | .hbm, ⟨12, _⟩ => ⟨S1024x896, .f32⟩
  | .hbm, ⟨13, _⟩ => ⟨S1024x896, .f32⟩
  | .hbm, ⟨14, _⟩ => ⟨S1024x896, .f32⟩
  | .hbm, ⟨15, _⟩ => ⟨S_, .f32⟩
  | .hbm, ⟨16, _⟩ => ⟨S1024x896, .f32⟩
  | .hbm, ⟨17, _⟩ => ⟨S1024x896, .f32⟩
  | .hbm, ⟨18, _⟩ => ⟨S1024x896, .f32⟩
  | .hbm, ⟨19, _⟩ => ⟨S_, .f32⟩
  | .hbm, ⟨20, _⟩ => ⟨S1024x896, .f32⟩
  | .hbm, ⟨21, _⟩ => ⟨S1024x896, .f32⟩
  | .hbm, ⟨22, _⟩ => ⟨S_, .f32⟩
  | .hbm, ⟨23, _⟩ => ⟨S1024x896, .f32⟩
  | .hbm, ⟨24, _⟩ => ⟨S1024x896, .f32⟩
  | .hbm, ⟨25, _⟩ => ⟨S1024x896, .f32⟩
  | .hbm, ⟨26, _⟩ => ⟨S_, .f32⟩
  | .hbm, ⟨27, _⟩ => ⟨S1024x896, .f32⟩
  | .hbm, ⟨28, _⟩ => ⟨S1024x896, .f32⟩
  | .hbm, ⟨29, _⟩ => ⟨S1024x896, .f32⟩
  | .hbm, ⟨30, _⟩ => ⟨S_, .f32⟩
  | .hbm, ⟨31, _⟩ => ⟨S1024x896, .f32⟩
  | .hbm, ⟨32, _⟩ => ⟨S1024x896, .f32⟩
  | .hbm, ⟨33, _⟩ => ⟨S1024x896, .f32⟩
  | .hbm, ⟨34, _⟩ => ⟨S_, .f32⟩
  | .hbm, ⟨35, _⟩ => ⟨S1024x896, .f32⟩
  | .hbm, ⟨36, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAbOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamAbOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGlu.lean ====
abbrev S1024x512 : Shape := ⟨2, ![1024, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGluRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamXqo.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamXqoRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamXkv.lean ====
abbrev S2048x512 : Shape := ⟨2, ![2048, 512]⟩
abbrev S256x512 : Shape := ⟨2, ![256, 512]⟩

abbrev nBuf : Space → Nat
  | .hbm => 7
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamXkvRefIdeal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnIn.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnInRefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfnOut.lean ====
abbrev S1408x1024 : Shape := ⟨2, ![1408, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnOutRefIdeal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S288x1024 : Shape := ⟨2, ![288, 1024]⟩
abbrev S32x1024 : Shape := ⟨2, ![32, 1024]⟩

abbrev nBuf : Space → Nat
  | .hbm => 7
  | .vmem => 14
  | .smem => 0
  | _ => 0

abbrev bufTy : (tb : Table) → Fin (tcTables nBuf tb) → BufTy
  | .hbm, ⟨0, _⟩ => ⟨S288x1024, .f32⟩
  | .hbm, ⟨1, _⟩ => ⟨S288x1024, .f32⟩
  | .hbm, ⟨2, _⟩ => ⟨S288x1024, .f32⟩
  | .hbm, ⟨3, _⟩ => ⟨S288x1024, .f32⟩
  | .hbm, ⟨4, _⟩ => ⟨S288x1024, .f32⟩
  | .hbm, ⟨5, _⟩ => ⟨S288x1024, .f32⟩
  | .hbm, ⟨6, _⟩ => ⟨S288x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | _, _ => ⟨S288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S288x1024 : Shape := ⟨2, ![288, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S288x1024, .f32⟩
  | .hbm, ⟨1, _⟩ => ⟨S288x1024, .f32⟩
  | .hbm, ⟨2, _⟩ => ⟨S288x1024, .f32⟩
  | .hbm, ⟨3, _⟩ => ⟨S288x1024, .f32⟩
  | .hbm, ⟨4, _⟩ => ⟨S_, .f32⟩
  | .hbm, ⟨5, _⟩ => ⟨S288x1024, .f32⟩
  | .hbm, ⟨6, _⟩ => ⟨S288x1024, .f32⟩
  | .hbm, ⟨7, _⟩ => ⟨S_, .f32⟩
  | .hbm, ⟨8, _⟩ => ⟨S288x1024, .f32⟩
  | .hbm, ⟨9, _⟩ => ⟨S288x1024, .f32⟩
  | .hbm, ⟨10, _⟩ => ⟨S288x1024, .f32⟩
  | .hbm, ⟨11, _⟩ => ⟨S_, .f32⟩
  | .hbm, ⟨12, _⟩ => ⟨S288x1024, .f32⟩
  | .hbm, ⟨13, _⟩ => ⟨S288x1024, .f32⟩
  | .hbm, ⟨14, _⟩ => ⟨S288x1024, .f32⟩
  | .hbm, ⟨15, _⟩ => ⟨S_, .f32⟩
  | .hbm, ⟨16, _⟩ => ⟨S288x1024, .f32⟩
  | .hbm, ⟨17, _⟩ => ⟨S288x1024, .f32⟩
  | .hbm, ⟨18, _⟩ => ⟨S288x1024, .f32⟩
  | .hbm, ⟨19, _⟩ => ⟨S_, .f32⟩
  | .hbm, ⟨20, _⟩ => ⟨S288x1024, .f32⟩
  | .hbm, ⟨21, _⟩ => ⟨S288x1024, .f32⟩
  | .hbm, ⟨22, _⟩ => ⟨S_, .f32⟩
  | .hbm, ⟨23, _⟩ => ⟨S288x1024, .f32⟩
  | .hbm, ⟨24, _⟩ => ⟨S288x1024, .f32⟩
  | .hbm, ⟨25, _⟩ => ⟨S288x1024, .f32⟩
  | .hbm, ⟨26, _⟩ => ⟨S_, .f32⟩
  | .hbm, ⟨27, _⟩ => ⟨S288x1024, .f32⟩
  | .hbm, ⟨28, _⟩ => ⟨S288x1024, .f32⟩
  | .hbm, ⟨29, _⟩ => ⟨S288x1024, .f32⟩
  | .hbm, ⟨30, _⟩ => ⟨S_, .f32⟩
  | .hbm, ⟨31, _⟩ => ⟨S288x1024, .f32⟩
  | .hbm, ⟨32, _⟩ => ⟨S288x1024, .f32⟩
  | .hbm, ⟨33, _⟩ => ⟨S288x1024, .f32⟩
  | .hbm, ⟨34, _⟩ => ⟨S_, .f32⟩
  | .hbm, ⟨35, _⟩ => ⟨S288x1024, .f32⟩
  | .hbm, ⟨36, _⟩ => ⟨S288x1024, .f32⟩
  | _, _ => ⟨S288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormIn.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MemNorm.lean ====
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemNormRefIdeal.lean ====
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1024x1 : Shape := ⟨2, ![1024, 1]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== ResNorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResNormRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== ResNormC.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResNormCRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Gelu.lean ====
abbrev S8192x1024 : Shape := ⟨2, ![8192, 1024]⟩
abbrev S1x1024 : Shape := ⟨2, ![1, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GeluRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GateB.lean ====
abbrev S8192x1024 : Shape := ⟨2, ![8192, 1024]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | .local _ .vmem, ⟨7, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateBRefIdeal.lean ====
abbrev S8192x1024 : Shape := ⟨2, ![8192, 1024]⟩
abbrev S8192x2048 : Shape := ⟨2, ![8192, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x2048, .bf16⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== SumSlots.lean ====
abbrev S4x288x1024 : Shape := ⟨3, ![4, 288, 1024]⟩
abbrev S288x1024 : Shape := ⟨2, ![288, 1024]⟩
abbrev S1x32x1024 : Shape := ⟨3, ![1, 32, 1024]⟩
abbrev S32x1024 : Shape := ⟨2, ![32, 1024]⟩

abbrev nBuf : Space → Nat
  | .hbm => 2
  | .vmem => 10
  | .smem => 0
  | _ => 0

abbrev bufTy : (tb : Table) → Fin (tcTables nBuf tb) → BufTy
  | .hbm, ⟨0, _⟩ => ⟨S4x288x1024, .f32⟩
  | .hbm, ⟨1, _⟩ => ⟨S288x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S32x1024, .f32⟩
  | .local _ .vmem, ⟨9, _⟩ => ⟨S32x1024, .f32⟩
  | _, _ => ⟨S4x288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumSlotsRefIdeal.lean ====
abbrev S4x288x1024 : Shape := ⟨3, ![4, 288, 1024]⟩
abbrev S_ : Shape := ⟨0, ![]⟩
abbrev S288x1024 : Shape := ⟨2, ![288, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x288x1024, .f32⟩
  | .hbm, ⟨1, _⟩ => ⟨S_, .f32⟩
  | .hbm, ⟨2, _⟩ => ⟨S288x1024, .f32⟩
  | _, _ => ⟨S4x288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MemNormB.lean ====
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024, .f32⟩
  | .hbm, ⟨3, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_6 : BitVec 32 := 0#32
  let v17 : BitVec 1 := Scalar.cmpi .ne v16 c0_i32_6
  v17

def k0_cond2 (i : grid0.Coords) : BitVec 1 :=
  let arg0 : BitVec 32 := BitVec.ofNat 32 (i 0).val
  let c0_i32 : BitVec 32 := 0#32
  let v15 : BitVec 1 := Scalar.cmpi .eq arg0 c0_i32
  let v_true : BitVec 1 := 1#1
  let v18 : BitVec 1 := Scalar.xori v15 v_true
  let v19 : BitVec 32 := Scalar.extui v18
  let c0_i32_7 : BitVec 32 := 0#32
  let v20 : BitVec 1 := Scalar.cmpi .ne v19 c0_i32_7
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemNormBRefIdeal.lean ====
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1024x1 : Shape := ⟨2, ![1024, 1]⟩

abbrev nBuf : Space → Nat
  | .hbm => 27
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S_, .f32⟩
  | .hbm, ⟨25, _⟩ => ⟨S1024, .f32⟩
  | .hbm, ⟨26, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== HgrnF.lean ====
abbrev S4x2048x3584 : Shape := ⟨3, ![4, 2048, 3584]⟩
abbrev S1x512 : Shape := ⟨2, ![1, 512]⟩
abbrev S4x2048x512 : Shape := ⟨3, ![4, 2048, 512]⟩
abbrev S1x2048x128 : Shape := ⟨3, ![1, 2048, 128]⟩
abbrev S1x128 : Shape := ⟨2, ![1, 128]⟩
abbrev S64x128x128 : Shape := ⟨3, ![64, 128, 128]⟩
abbrev S64x1x128 : Shape := ⟨3, ![64, 1, 128]⟩
abbrev S2048x128 : Shape := ⟨2, ![2048, 128]⟩
abbrev S64x32x128 : Shape := ⟨3, ![64, 32, 128]⟩
abbrev S1x32x32 : Shape := ⟨3, ![1, 32, 32]⟩
abbrev S64x32x32 : Shape := ⟨3, ![64, 32, 32]⟩
abbrev S128x128 : Shape := ⟨2, ![128, 128]⟩
abbrev S1x128x128 : Shape := ⟨3, ![1, 128, 128]⟩
abbrev S1x1x128 : Shape := ⟨3, ![1, 1, 128]⟩
abbrev S2048 : Shape := ⟨1, ![2048]⟩
abbrev S2048x1 : Shape := ⟨2, ![2048, 1]⟩

abbrev nBuf : Space → Nat
  | .hbm => 4
  | .vmem => 16
  | .smem => 0
  | _ => 0

abbrev bufTy : (tb : Table) → Fin (tcTables nBuf tb) → BufTy
  | .hbm, ⟨0, _⟩ => ⟨S4x2048x3584, .f32⟩
  | .hbm, ⟨1, _⟩ => ⟨S1x512, .f32⟩
  | .hbm, ⟨2, _⟩ => ⟨S1x512, .f32⟩
  | .hbm, ⟨3, _⟩ => ⟨S4x2048x512, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x2048x128, .f32⟩
  | .local _ .vmem, ⟨13, _⟩ => ⟨S1x2048x128, .f32⟩
  | .local _ .vmem, ⟨14, _⟩ => ⟨S64x128x128, .f32⟩
  | .local _ .vmem, ⟨15, _⟩ => ⟨S64x1x128, .f32⟩
  | _, _ => ⟨S4x2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c64_i32 : BitVec 32 := 64#32
  let v85 : BitVec 32 := Scalar.addi c0_i32 c64_i32
  let c1_i32_32 : BitVec 32 := 1#32
  ⟨c0_i32, v85, c1_i32_32⟩
def k0_off1 (k0_t1 : Fin k0_t1_loop.trips) : Fin 3 → Nat :=
  let c0_i32 : BitVec 32 := 0#32
  let c1_i32_32 : BitVec 32 := 1#32
  let arg11 : BitVec 32 := Scf.iv c0_i32 c1_i32_32 k0_t1
  let v114 : Index := Scalar.indexCast arg11
  let c0_50 : Index := 0#32
  let c0_51 : Index := 0#32
  ![v114.toNat, 0, 0]
def k0_off2 (k0_t1 : Fin k0_t1_loop.trips) : Fin 3 → Nat :=
  let c0_i32 : BitVec 32 := 0#32
  let c1_i32_32 : BitVec 32 := 1#32
  let arg11 : BitVec 32 := Scf.iv c0_i32 c1_i32_32 k0_t1
  let v121 : Index := Scalar.indexCast arg11
  let c0_54 : Index := 0#32
  let c0_55 : Index := 0#32
  ![v121.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== HgrnFRefIdeal.lean ====
abbrev S4x2048x3584 : Shape := ⟨3, ![4, 2048, 3584]⟩
abbrev S1x512 : Shape := ⟨2, ![1, 512]⟩
abbrev S4x2048x2048 : Shape := ⟨3, ![4, 2048, 2048]⟩
abbrev S4x2048x512 : Shape := ⟨3, ![4, 2048, 512]⟩
abbrev S512 : Shape := ⟨1, ![512]⟩
abbrev S_ : Shape := ⟨0, ![]⟩
abbrev S1x1x512 : Shape := ⟨3, ![1, 1, 512]⟩
abbrev S4x2048x4x128 : Shape := ⟨4, ![4, 2048, 4, 128]⟩
abbrev S4x4x2048x128 : Shape := ⟨4, ![4, 4, 2048, 128]⟩
abbrev S2048x2048 : Shape := ⟨2, ![2048, 2048]⟩
abbrev S4x4x128x2048 : Shape := ⟨4, ![4, 4, 128, 2048]⟩
abbrev S4x4x2048x1x128 : Shape := ⟨5, ![4, 4, 2048, 1, 128]⟩
abbrev S4x4x1x2048x128 : Shape := ⟨5, ![4, 4, 1, 2048, 128]⟩
abbrev S4x4x2048x2048x128 : Shape := ⟨5, ![4, 4, 2048, 2048, 128]⟩
abbrev S4x4x2048x2048 : Shape := ⟨4, ![4, 4, 2048, 2048]⟩
abbrev S4x4x2048 : Shape := ⟨3, ![4, 4, 2048]⟩
abbrev S4x4x2048x1 : Shape := ⟨4, ![4, 4, 2048, 1]⟩

abbrev nBuf : Space → Nat
  | .hbm => 101
  | .vmem => 0
  | .smem => 0
  | _ => 0

abbrev bufTy : (tb : Table) → Fin (tcTables nBuf tb) → BufTy
  | .hbm, ⟨0, _⟩ => ⟨S4x2048x3584, .f32⟩
  | .hbm, ⟨1, _⟩ => ⟨S1x512, .f32⟩
  | .hbm, ⟨2, _⟩ => ⟨S1x512, .f32⟩
  | .hbm, ⟨3, _⟩ => ⟨S4x2048x2048, .f32⟩
  | .hbm, ⟨4, _⟩ => ⟨S4x2048x512, .f32⟩
  | .hbm, ⟨5, _⟩ => ⟨S4x2048x512, .f32⟩
  | .hbm, ⟨6, _⟩ => ⟨S4x2048x512, .f32⟩
  | .hbm, ⟨7, _⟩ => ⟨S4x2048x512, .f32⟩
  | .hbm, ⟨8, _⟩ => ⟨S512, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S4x2048x512, .f32⟩
  | .hbm, ⟨14, _⟩ => ⟨S4x2048x512, .f32⟩
  | .hbm, ⟨15, _⟩ => ⟨S_, .f32⟩
  | .hbm, ⟨16, _⟩ => ⟨S4x2048x512, .f32⟩
  | .hbm, ⟨17, _⟩ => ⟨S4x2048x512, .f32⟩
  | .hbm, ⟨18, _⟩ => ⟨S_, .f32⟩
  | .hbm, ⟨19, _⟩ => ⟨S4x2048x512, .f32⟩
  | .hbm, ⟨20, _⟩ => ⟨S4x2048x512, .f32⟩
  | .hbm, ⟨21, _⟩ => ⟨S1x1x512, .f32⟩
  | .hbm, ⟨22, _⟩ => ⟨S4x2048x512, .f32⟩
  | .hbm, ⟨23, _⟩ => ⟨S4x2048x512, .f32⟩
  | .hbm, ⟨24, _⟩ => ⟨S1x1x512, .f32⟩
  | .hbm, ⟨25, _⟩ => ⟨S4x2048x512, .f32⟩
  | .hbm, ⟨26, _⟩ => ⟨S4x2048x512, .f32⟩
  | .hbm, ⟨27, _⟩ => ⟨S_, .f32⟩
  | .hbm, ⟨28, _⟩ => ⟨S4x2048x512, .f32⟩
  | .hbm, ⟨29, _⟩ => ⟨S4x2048x512, .f32⟩
  | .hbm, ⟨30, _⟩ => ⟨S4x2048x512, .f32⟩
  | .hbm, ⟨31, _⟩ => ⟨S4x2048x4x128, .f32⟩
  | .hbm, ⟨32, _⟩ => ⟨S4x4x2048x128, .f32⟩
  | .hbm, ⟨33, _⟩ => ⟨S4x2048x4x128, .f32⟩
  | .hbm, ⟨34, _⟩ => ⟨S4x4x2048x128, .f32⟩
  | .hbm, ⟨35, _⟩ => ⟨S4x2048x4x128, .f32⟩
  | .hbm, ⟨36, _⟩ => ⟨S4x4x2048x128, .f32⟩
  | .hbm, ⟨37, _⟩ => ⟨S4x2048x4x128, .f32⟩
  | .hbm, ⟨38, _⟩ => ⟨S4x4x2048x128, .f32⟩
  | .hbm, ⟨39, _⟩ => ⟨S_, .i1⟩
  | .hbm, ⟨40, _⟩ => ⟨S2048x2048, .i1⟩
  | .hbm, ⟨41, _⟩ => ⟨S2048x2048, .i32⟩
  | .hbm, ⟨42, _⟩ => ⟨S_, .i32⟩
  | .hbm, ⟨43, _⟩ => ⟨S2048x2048, .i32⟩
  | .hbm, ⟨44, _⟩ => ⟨S2048x2048, .i32⟩
  | .hbm, ⟨45, _⟩ => ⟨S2048x2048, .i32⟩
  | .hbm, ⟨46, _⟩ => ⟨S2048x2048, .i1⟩
  | .hbm, ⟨47, _⟩ => ⟨S_, .i1⟩
  | .hbm, ⟨48, _⟩ => ⟨S2048x2048, .i1⟩
  | .hbm, ⟨49, _⟩ => ⟨S2048x2048, .i1⟩
  | .hbm, ⟨50, _⟩ => ⟨S2048x2048, .f32⟩
  | .hbm, ⟨51, _⟩ => ⟨S4x4x128x2048, .f32⟩
  | .hbm, ⟨52, _⟩ => ⟨S4x4x2048x128, .f32⟩
  | .hbm, ⟨53, _⟩ => ⟨S4x4x2048x1x128, .f32⟩
  | .hbm, ⟨54, _⟩ => ⟨S4x4x1x2048x128, .f32⟩
  | .hbm, ⟨55, _⟩ => ⟨S4x4x2048x2048x128, .f32⟩
  | .hbm, ⟨56, _⟩ => ⟨S4x4x2048x2048x128, .f32⟩
  | .hbm, ⟨57, _⟩ => ⟨S4x4x2048x2048x128, .f32⟩
  | .hbm, ⟨58, _⟩ => ⟨S4x4x2048x2048x128, .f32⟩
  | .hbm, ⟨59, _⟩ => ⟨S4x4x2048x1x128, .f32⟩
  | .hbm, ⟨60, _⟩ => ⟨S4x4x2048x2048x128, .f32⟩
  | .hbm, ⟨61, _⟩ => ⟨S4x4x2048x2048x128, .f32⟩
  | .hbm, ⟨62, _⟩ => ⟨S4x4x1x2048x128, .f32⟩
  | .hbm, ⟨63, _⟩ => ⟨S4x4x2048x2048x128, .f32⟩
  | .hbm, ⟨64, _⟩ => ⟨S4x4x2048x2048x128, .f32⟩
  | .hbm, ⟨65, _⟩ => ⟨S_, .f32⟩
  | .hbm, ⟨66, _⟩ => ⟨S4x4x2048x2048, .f32⟩
  | .hbm, ⟨67, _⟩ => ⟨S_, .f32⟩
  | .hbm, ⟨68, _⟩ => ⟨S_, .f32⟩
  | .hbm, ⟨69, _⟩ => ⟨S4x4x2048x2048, .i1⟩
  | .hbm, ⟨70, _⟩ => ⟨S4x4x2048x2048, .f32⟩
  | .hbm, ⟨71, _⟩ => ⟨S4x4x2048x2048, .f32⟩
  | .hbm, ⟨72, _⟩ => ⟨S4x4x2048x128, .f32⟩
  | .hbm, ⟨73, _⟩ => ⟨S4x4x2048x128, .f32⟩
  | .hbm, ⟨74, _⟩ => ⟨S_, .f32⟩
  | .hbm, ⟨75, _⟩ => ⟨S4x4x2048, .f32⟩
  | .hbm, ⟨76, _⟩ => ⟨S4x4x2048x1, .f32⟩
  | .hbm, ⟨77, _⟩ => ⟨S_, .f32⟩
  | .hbm, ⟨78, _⟩ => ⟨S4x4x2048x1, .f32⟩
  | .hbm, ⟨79, _⟩ => ⟨S4x4x2048x1, .f32⟩
  | .hbm, ⟨80, _⟩ => ⟨S_, .f32⟩
  | .hbm, ⟨81, _⟩ => ⟨S4x4x2048x1, .f32⟩
  | .hbm, ⟨82, _⟩ => ⟨S4x4x2048x1, .f32⟩
  | .hbm, ⟨83, _⟩ => ⟨S4x4x2048x1, .f32⟩
  | .hbm, ⟨84, _⟩ => ⟨S4x4x2048x128, .f32⟩
  | .hbm, ⟨85, _⟩ => ⟨S4x4x2048x128, .f32⟩
  | .hbm, ⟨86, _⟩ => ⟨S4x2048x4x128, .f32⟩
  | .hbm, ⟨87, _⟩ => ⟨S4x2048x512, .f32⟩
  | .hbm, ⟨88, _⟩ => ⟨S1x1x512, .f32⟩
  | .hbm, ⟨89, _⟩ => ⟨S4x2048x512, .f32⟩
  | .hbm, ⟨90, _⟩ => ⟨S4x2048x512, .f32⟩
  | .hbm, ⟨91, _⟩ => ⟨S4x2048x512, .f32⟩
  | .hbm, ⟨92, _⟩ => ⟨S4x2048x512, .f32⟩
  | .hbm, ⟨93, _⟩ => ⟨S_, .f32⟩
  | .hbm, ⟨94, _⟩ => ⟨S4x2048x512, .f32⟩
  | .hbm, ⟨95, _⟩ => ⟨S4x2048x512, .f32⟩
  | .hbm, ⟨96, _⟩ => ⟨S_, .f32⟩
  | .hbm, ⟨97, _⟩ => ⟨S4x2048x512, .f32⟩
  | .hbm, ⟨98, _⟩ => ⟨S4x2048x512, .f32⟩
  | .hbm, ⟨99, _⟩ => ⟨S4x2048x512, .f32⟩
  | .hbm, ⟨100, _⟩ => ⟨S4x2048x512, .f32⟩
  | _, _ => ⟨S4x2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c : Ref sig .tc := ⟨.hbm, 39, rfl⟩
abbrev main_v32 : Ref sig .tc := ⟨.hbm, 40, rfl⟩
abbrev main_call0_v0 : Ref sig .tc := ⟨.hbm, 41, rfl⟩
abbrev main_call0_c : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_0 : Ref sig .tc := ⟨.hbm, 47, rfl⟩
abbrev main_call0_v5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_3 : Ref sig .tc := ⟨.hbm, 65, rfl⟩
abbrev main_v49 : Ref sig .tc := ⟨.hbm, 66, rfl⟩
abbrev main_cst_4 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_5 : Ref sig .tc := ⟨.hbm, 74, rfl⟩
abbrev main_v53 : Ref sig .tc := ⟨.hbm, 75, rfl⟩
abbrev main_v54 : Ref sig .tc := ⟨.hbm, 76, rfl⟩
abbrev main_cst_6 : Ref sig .tc := ⟨.hbm, 77, rfl⟩
abbrev main_v55 : Ref sig .tc := ⟨.hbm, 78, rfl⟩
abbrev main_v56 : Ref sig .tc := ⟨.hbm, 79, rfl⟩
abbrev main_cst_7 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call2_v0 : Ref sig .tc := ⟨.hbm, 91, rfl⟩
abbrev main_call2_v1 : Ref sig .tc := ⟨.hbm, 92, rfl⟩
abbrev main_call2_cst : Ref sig .tc := ⟨.hbm, 93, rfl⟩
abbrev main_call2_v2 : Ref sig .tc := ⟨.hbm, 94, rfl⟩
abbrev main_call2_v3 : Ref sig .tc := ⟨.hbm, 95, rfl⟩
abbrev main_call2_cst_0 : Ref sig .tc := ⟨.hbm, 96, rfl⟩
abbrev main_call2_v4 : Ref sig .tc := ⟨.hbm, 97, rfl⟩
abbrev main_call2_v5 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== NormInB.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v31 : BitVec 1 := Scalar.cmpi .eq arg0 c0_i32
  let v_true : BitVec 1 := 1#1
  let v34 : BitVec 1 := Scalar.xori v31 v_true
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormInBRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== ResNormB.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v60 : BitVec 1 := Scalar.cmpi .eq arg0 c0_i32
  let v61 : BitVec 32 := Scalar.extui v60
  let c0_i32_26 : BitVec 32 := 0#32
  let v62 : BitVec 1 := Scalar.cmpi .ne v61 c0_i32_26
  v62

def k0_cond2 (i : grid0.Coords) : BitVec 1 :=
  let arg0 : BitVec 32 := BitVec.ofNat 32 (i 0).val
  let c0_i32 : BitVec 32 := 0#32
  let v60 : BitVec 1 := Scalar.cmpi .eq arg0 c0_i32
  let v_true : BitVec 1 := 1#1
  let v63 : BitVec 1 := Scalar.xori v60 v_true
  let v64 : BitVec 32 := Scalar.extui v63
  let c0_i32_27 : BitVec 32 := 0#32
  let v65 : BitVec 1 := Scalar.cmpi .ne v64 c0_i32_27
  v65

def k0_cond3 (i : grid0.Coords) : BitVec 1 :=
  let arg0 : BitVec 32 := BitVec.ofNat 32 (i 0).val
  let c0_i32 : BitVec 32 := 0#32
  let v60 : BitVec 1 := Scalar.cmpi .eq arg0 c0_i32
  let v66 : BitVec 32 := Scalar.extui v60
  let c0_i32_28 : BitVec 32 := 0#32
  let v67 : BitVec 1 := Scalar.cmpi .ne v66 c0_i32_28
  v67

def k0_cond4 (i : grid0.Coords) : BitVec 1 :=
  let arg0 : BitVec 32 := BitVec.ofNat 32 (i 0).val
  let c0_i32 : BitVec 32 := 0#32
  let v60 : BitVec 1 := Scalar.cmpi .eq arg0 c0_i32
  let true_29 : BitVec 1 := 1#1
  let v68 : BitVec 1 := Scalar.xori v60 true_29
  let v69 : BitVec 32 := Scalar.extui v68
  let c0_i32_30 : BitVec 32 := 0#32
  let v70 : BitVec 1 := Scalar.cmpi .ne v69 c0_i32_30
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ResNormBRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x1024, .f32⟩
  | .hbm, ⟨87, _⟩ => ⟨S8192x1024, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .bf16⟩
  | .hbm, ⟨101, _⟩ => ⟨S1x1024, .f32⟩
  | .hbm, ⟨102, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== SwigluB.lean ====
abbrev S8192x2816 : Shape := ⟨2, ![8192, 2816]⟩
abbrev S8192x5632 : Shape := ⟨2, ![8192, 5632]⟩
abbrev S256x2816 : Shape := ⟨2, ![256, 2816]⟩
abbrev S256x5632 : Shape := ⟨2, ![256, 5632]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x2816, .bf16⟩
  | .hbm, ⟨3, _⟩ => ⟨S8192x5632, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x5632, .bf16⟩
  | .local _ .vmem, ⟨7, _⟩ => ⟨S256x5632, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SwigluBRefIdeal.lean ====
abbrev S8192x2816 : Shape := ⟨2, ![8192, 2816]⟩
abbrev S8192x5632 : Shape := ⟨2, ![8192, 5632]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x2816, .bf16⟩
  | .hbm, ⟨3, _⟩ => ⟨S8192x5632, .bf16⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== Proof.Product.lean ====
/- Sums of products taken a stretch of terms at a time. -/
module
public import Idealize.ShloMosaic.Lib.Pointwise
@[expose] public section
noncomputable section
namespace Cert.Product
open scoped BigOperators
variable {K : ℕ}

/-- The terms of a sum, numbered past its end by zeros. -/
def term (f : Fin K → EReal) (n : ℕ) : EReal := if h : n < K then f ⟨n, h⟩ else 0
/-- The sum of the first `n` terms. -/
def upto (f : Fin K → EReal) (n : ℕ) : EReal := ∑ x ∈ Finset.range n, term f x

theorem upto_all (f : Fin K → EReal) : upto f K = ∑ k : Fin K, f k := by
  unfold upto
  rw [Finset.sum_range]
  exact Finset.sum_congr rfl fun k _ => dif_pos k.isLt
/-- A further stretch of `w` terms, wherever its terms are read. -/
theorem upto_add (f : Fin K → EReal) (n w : ℕ) (g : Fin w → EReal) (h : n + w ≤ K)
    (hg : ∀ j : Fin w, g j = f ⟨n + j.val, by have := j.isLt; omega⟩) : upto f (n + w) = upto f n + ∑ j : Fin w, g j := by
  unfold upto
  rw [Finset.sum_range_add, Finset.sum_range (fun x => term f (n + x))]
  refine congrArg (_ + ·) (Finset.sum_congr rfl fun j _ => ?_)
  rw [hg j]
  exact dif_pos _
theorem upto_first (f : Fin K → EReal) (w : ℕ) (g : Fin w → EReal) (h : w ≤ K)
    (hg : ∀ j : Fin w, g j = f ⟨j.val, by have := j.isLt; omega⟩) : upto f w = ∑ j : Fin w, g j := by
  unfold upto
  rw [Finset.sum_range]
  refine Finset.sum_congr rfl fun j _ => ?_
  rw [hg j]
  exact dif_pos _
end Cert.Product
-- ==== Proof.Rows.lean ====
/- What the row by row calls share: arrays of two axes read by their coordinates, the error function, and the update of a row by the optimiser. -/
module
public import Idealize.ShloMosaic.Lib.Pointwise
@[expose] public section
noncomputable section
namespace Cert.Rows
open Idealize.ShloMosaic
open scoped BigOperators

theorem hz : (![0, 0] : Fin 2 → Nat) = fun _ => 0 := by funext a; fin_cases a <;> rfl
theorem idx2_ext {a b : ℕ} (i j : Shape.Idx ⟨2, ![a, b]⟩) (h0 : (i 0).val = (j 0).val) (h1 : (i 1).val = (j 1).val) : i = j := by
  funext x
  apply Fin.ext
  match x with
  | ⟨0, _⟩ => exact h0
  | ⟨1, _⟩ => exact h1
theorem funext2 {a b : ℕ} {α : Type} {f g : Shape.Idx ⟨2, ![a, b]⟩ → α} (h : ∀ (r : Fin a) (d : Fin b), f (ix2 r d) = g (ix2 r d)) : f = g := by
  funext j
  have hj : j = ix2 (⟨(j 0).val, (j 0).isLt⟩ : Fin a) (⟨(j 1).val, (j 1).isLt⟩ : Fin b) := idx2_ext _ _ rfl rfl
  rw [hj]
  exact h _ _
/-- The coordinates of an entry of a block: the block's corner and the place in the block. -/
theorem off0 {w : Fin 2 → ℕ} {p q : ℕ} (e : w = ![p, q]) (s r : ℕ) : w 0 * s + 1 * r = p * s + r := by subst e; show p * s + 1 * r = _; omega
theorem off1 {w : Fin 2 → ℕ} {p q : ℕ} (e : w = ![p, q]) (s r : ℕ) : w 1 * s + 1 * r = q * s + r := by subst e; show q * s + 1 * r = _; omega
theorem off0z {w : Fin 2 → ℕ} {q : ℕ} (e : w = ![0, q]) (s r : ℕ) : w 0 * s + 1 * r = r := (off0 e s r).trans (by omega)
theorem off1z {w : Fin 2 → ℕ} {p : ℕ} (e : w = ![p, 0]) (s r : ℕ) : w 1 * s + 1 * r = r := (off1 e s r).trans (by omega)
/-- An entry lies in a block, coordinate by coordinate. -/
theorem inBlock {w s i : Fin 2 → ℕ} {p q : ℕ} (e : w = ![p, q]) (h0 : p * s 0 ≤ i 0 ∧ i 0 < p * s 0 + s 0) (h1 : q * s 1 ≤ i 1 ∧ i 1 < q * s 1 + s 1) (a : Fin 2) :
    w a * s a ≤ i a ∧ i a < w a * s a + s a := by
  subst e
  match a with
  | ⟨0, _⟩ => exact h0
  | ⟨1, _⟩ => exact h1
/-- The same for blocks of whole rows. -/
theorem inRows {w s i : Fin 2 → ℕ} {p : ℕ} (e : w = ![p, 0]) (hp : p = i 0 / s 0) (h0 : 0 < s 0) (h1 : i 1 < s 1) (a : Fin 2) :
    w a * s a ≤ i a ∧ i a < w a * s a + s a :=
  inBlock e (hp ▸ ⟨Nat.div_mul_le_self _ _, Nat.lt_div_mul_add h0⟩) ⟨(zero_mul (s 1)).symm ▸ Nat.zero_le _, (by rw [zero_mul, zero_add]; exact h1)⟩ a
/-- The error function is odd. -/
theorem erf_neg (a : EReal) : Ideal.erf (-a) = -Ideal.erf a := by
  induction a with
  | bot => show (1 : EReal) = -(-1); rw [neg_neg]
  | top => rfl
  | coe r =>
    have h : (∫ t in (0 : ℝ)..(-r), Real.exp (-(t ^ 2))) = -∫ t in (0 : ℝ)..r, Real.exp (-(t ^ 2)) := by
      have e := intervalIntegral.integral_comp_neg (a := 0) (b := r) fun t : ℝ => Real.exp (-(t ^ 2))
      simp only [neg_sq, neg_zero] at e
      rw [intervalIntegral.integral_symm, ← e]
    have er : ∀ x : ℝ, Ideal.erf (x : EReal) = ((2 / Real.sqrt Real.pi * ∫ t in (0 : ℝ)..x, Real.exp (-(t ^ 2)) : ℝ) : EReal) := fun _ => rfl
    rw [← EReal.coe_neg, er, er, h, ← EReal.coe_neg]
    congr 1
    ring
theorem erfc_neg (a k : EReal) : Ideal.erfc (-a * k) = 1 + Ideal.erf (a * k) := by
  unfold Ideal.erfc
  rw [EReal.neg_mul, erf_neg, sub_eq_add_neg, neg_neg]

/-- The update of a row of weights `w` by its gradient `g`, with the moments `m` and `v`: the new moments, and the step of the weight. -/
def newM {C : ℕ} (w g m v : Fin C → EReal) (j : Fin C) : EReal := (Ideal.ofBits .f32 0x3F666666#32 * m j + Ideal.ofBits .f32 0x3DCCCCCD#32 * g j)
def newV {C : ℕ} (w g m v : Fin C → EReal) (j : Fin C) : EReal := (Ideal.ofBits .f32 0x3F7FBE77#32 * v j + Ideal.ofBits .f32 0x3A83126F#32 * (g j * g j))
def delta {C : ℕ} (w g m v : Fin C → EReal) (j : Fin C) : EReal := Ideal.ofBits .f32 0xBA83126F#32 * (Ideal.div (Ideal.div (newM w g m v j) (Ideal.ofBits .f32 0x3F26BD02#32)) (Ideal.sqrt (Ideal.div (newV w g m v j) (Ideal.ofBits .f32 0x3C231ACC#32)) + Ideal.ofBits .f32 0x322BCC77#32) + Ideal.ofBits .f32 0x3C23D70A#32 * w j)
end Cert.Rows
-- ==== Proof.FfnOutDx.lean ====
/- The product `b_ffn_out_dx`: what its array holds after the run, and every claim about it. -/
module
public import proofs.«01_k».proof.Defs
public import proofs.«01_k».proof.Proof.Product
public import proofs.«01_k».proof.Proof.Rows
public import proofs.«01_k».proof.Proof.Gen.FfnOutDx.Frame
public import proofs.«01_k».proof.Proof.Gen.FfnOutDxIdeal.Value
public import proofs.«01_k».proof.Proof.Gen.FfnOutDxRefIdeal.Run
public import proofs.«01_k».proof.Proof.Gen.FfnOutDxRefIdeal.Read
public import Idealize.ShloMosaic.Lib.Pointwise
public import Idealize.ShloMosaic.Lib.Quiescent
@[expose] public section
set_option maxRecDepth 16384
noncomputable section
namespace Cert.FfnOutDxIdeal.Blocks
open Cert.FfnOutDxIdeal Cert.FfnOutDxIdeal.Gen Idealize.ShloMosaic Idealize.ShloMosaic.TcCoe Idealize.SL.Sem Cert.Product Cert.Rows
open scoped BigOperators

theorem outW {F : FTy → Type} [FloatOps F] (x0 : Vec F S2048x1024 .bf16) (x1 : Vec F S256x1024 .bf16) : out0_2 x0 x1 = k0_pay1 x0 x1 := by
  unfold out0_2
  rw [View.canon_unit_zero hz]
  simp only [View.ld_unit_zero (S := S2048x1024) hz, View.ld_unit_zero (S := S256x1024) hz]

theorem pay1_at (x0 : FVec Ideal S2048x1024 .bf16) (x1 : FVec Ideal S256x1024 .bf16) (r : Fin 2048) (d : Fin 256) :
    k0_pay1 (F := Ideal) x0 x1 (ix2 r d) = ∑ x : Fin 1024, x0 (ix2 r x) * x1 (ix2 d x) := by
  pointwise [k0_pay1]

variable (m : (ℓ : Loc nD τ sig) → Buf (Elt Ideal) ℓ) (c : Dev nD)

/-- The arguments, read by their coordinates. -/
abbrev aA : Fin 8192 → Fin 1024 → EReal := fun i j => m ((c : Thread nD τ).loc main_arg0) (ix2 i j)
abbrev aB : Fin 2816 → Fin 1024 → EReal := fun i j => m ((c : Thread nD τ).loc main_arg1) (ix2 i j)

theorem ltN (t : Fin cfg0.N) : t.val < 44 := by have h := t.isLt; have e : cfg0.N = 44 := N_0; omega
/-- The row, the column and the summed coordinate a block index of point `t` stands for. -/
def row (t : Fin cfg0.N) (r : Fin 2048) : Fin 8192 := ⟨t.val / 11 * 2048 + r.val, by have := ltN t; omega⟩
def col (t : Fin cfg0.N) (d : Fin 256) : Fin 2816 := ⟨t.val / 1 % 11 * 256 + d.val, by have := ltN t; omega⟩
def dim (t : Fin cfg0.N) (x : Fin 1024) : Fin 1024 := ⟨x.val, by omega⟩

/-- The terms of one entry of the product. -/
def entry (i : Fin 8192) (j : Fin 2816) : Fin 1024 → EReal := fun x => aA m c (i) (x) * aB m c (j) (x)
def total (i : Fin 8192) (j : Fin 2816) : EReal := ∑ x : Fin 1024, entry m c i j x
def res : Buf (Elt Ideal) ((c : Thread nD τ).loc main_v0) := fun i : S8192x2816.Idx => total m c (i 0) (i 1)

theorem idx0 : ∀ t : Fin grid0.N, win0_0.index t = ![t.val / 11, 0] := by decide +kernel
theorem idx1 : ∀ t : Fin grid0.N, win0_1.index t = ![t.val / 1 % 11, 0] := by decide +kernel
theorem idx2 : ∀ t : Fin grid0.N, win0_2.index t = ![t.val / 11, t.val / 1 % 11] := by decide +kernel
theorem rd0 (t : Fin cfg0.N) (r : Fin 2048) (x : Fin 1024) : iblk m c 0 t (ix2 r x) = m ((c : Thread nD τ).loc main_arg0) (ix2 (row t r) (dim t x)) := by
  unfold iblk
  rw [View.read_apply]
  exact congrArg (m ((c : Thread nD τ).loc main_arg0)) (idx2_ext _ _ (off0 (idx0 t) 2048 r.val) (off1z (idx0 t) 1024 x.val))
theorem rd1 (t : Fin cfg0.N) (d : Fin 256) (x : Fin 1024) : iblk m c 1 t (ix2 d x) = m ((c : Thread nD τ).loc main_arg1) (ix2 (col t d) (dim t x)) := by
  unfold iblk
  rw [View.read_apply]
  exact congrArg (m ((c : Thread nD τ).loc main_arg1)) (idx2_ext _ _ (off0 (idx1 t) 256 d.val) (off1z (idx1 t) 1024 x.val))
/-- The blocks point `t` reads, and what they hold. -/
def bA (t : Fin cfg0.N) : FVec Ideal S2048x1024 .bf16 := iblk m c 0 t
def bB (t : Fin cfg0.N) : FVec Ideal S256x1024 .bf16 := iblk m c 1 t
theorem term_at (t : Fin cfg0.N) (r : Fin 2048) (d : Fin 256) (x : Fin 1024) : bA m c t (ix2 r x) * bB m c t (ix2 d x) = entry m c (row t r) (col t d) (dim t x) := by
  refine congrArg₂ (· * ·) ?_ ?_
  · exact rd0 m c t r x
  · exact rd1 m c t d x
theorem at_out (t : Fin cfg0.N) (r : Fin 2048) (d : Fin 256) :
    out0_2 (F := Ideal) (bA m c t) (bB m c t) (ix2 r d) = ∑ x : Fin 1024, entry m c (row t r) (col t d) x := by
  rw [outW]
  refine (pay1_at _ _ r d).trans (Finset.sum_congr rfl fun x _ => ?_)
  refine (term_at m c t r d x).trans (congrArg _ (Fin.ext ?_))
  show x.val = x.val
  omega

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 2048 r.val) (off1 (idx2 t) 256 d.val)
  rw [View.read_apply, he]
  exact at_out m c t r d
theorem final : (Gen.dats m 0 c).arrAt 2 cfg0.N = res m c :=
  (Gen.dats m 0 c).arrAt_eq_of_cover 2 (res m c) (flushes m c) fun i => by
    have h0 : (i 0 : Nat) < 8192 := (i 0).isLt
    have h1 : (i 1 : Nat) < 2816 := (i 1).isLt
    let t : Fin cfg0.N := ⟨(i 0).val / 2048 * 11 + (i 1).val / 256 * 1, by rw [show cfg0.N = 44 from N_0]; omega⟩
    have ht : t.val = (i 0).val / 2048 * 11 + (i 1).val / 256 * 1 := rfl
    refine ⟨t, flush0_2 t, ?_⟩
    show i ∈ ((View.whole main_v0).slice (win0_2.rect t)).set
    rw [View.set_slice_whole, Rect.mem_set_unit]
    exact inBlock (s := ![2048, 256]) (i := fun a => (i a).val) (idx2 t) (by show (t.val / 11) * 2048 ≤ (i 0).val ∧ (i 0).val < (t.val / 11) * 2048 + 2048; omega) (by show (t.val / 1 % 11) * 256 ≤ (i 1).val ∧ (i 1).val < (t.val / 1 % 11) * 256 + 256; omega)
end Cert.FfnOutDxIdeal.Blocks

namespace Cert.FfnOutDx
open Idealize.ShloMosaic Idealize.SL.Sem FfnOutDxIdeal
open scoped BigOperators

/-- The reference's result, and that it is the kernel's. -/
theorem reference_at (x0 : FVec Ideal S8192x1024 .bf16) (x1 : FVec Ideal S2816x1024 .bf16) (i : Fin 8192) (j : Fin 2816) :
    FfnOutDxRefIdeal.Read.val_main_v5 (F := Ideal) x0 x1 (ix2 i j) = ∑ x : Fin 1024, x0 (ix2 i x) * x1 (ix2 j x) := by
  pointwise [FfnOutDxRefIdeal.Read.val_main_v0, FfnOutDxRefIdeal.Read.val_main_v1, FfnOutDxRefIdeal.Read.val_main_v2, FfnOutDxRefIdeal.Read.val_main_v3, FfnOutDxRefIdeal.Read.val_main_v4, FfnOutDxRefIdeal.Read.val_main_v5]

theorem algebraic : algebraic_FfnOutDxIdeal_FfnOutDxRefIdeal := by
  intro m g m' g' _ e
  refine ⟨fun c => FfnOutDxIdeal.Blocks.res m c, ?_, ?_⟩
  · refine (θ_run FfnOutDxIdeal.defs _ _).mono (fun r H c => ?_) (FfnOutDxIdeal.Value.run_blocks (F := Ideal) m g)
    exact ⟨(H c).1.trans (FfnOutDxIdeal.Blocks.final m c), (H c).2⟩
  · refine (θ_run FfnOutDxRefIdeal.defs _ _).mono (fun r H c => ?_) (FfnOutDxRefIdeal.Value.run (F := Ideal) m' g')
    refine ⟨(H c).1.trans ?_, (H c).2⟩
    rw [FfnOutDxRefIdeal.Read.val_main_v5_eq, (e c).1, (e c).2]
    funext i
    idx_vars i
    refine (reference_at _ _ i0 i1).trans ?_
    rfl

theorem reference_frame : quiescent_FfnOutDxRefIdeal := fun m ρ _ =>
  (θ_run FfnOutDxRefIdeal.defs _ _).mono (fun r h => ⟨fun c => (h c).2, sem_eq_zero_of_no_sems (by decide) r.2⟩) (FfnOutDxRefIdeal.Value.run (F := Ideal) m ρ)
end Cert.FfnOutDx
-- ==== Proof.FfnOutDw.lean ====
/- The product `b_ffn_out_dw`: what its array holds after the run, and every claim about it. -/
module
public import proofs.«01_k».proof.Defs
public import proofs.«01_k».proof.Proof.Product
public import proofs.«01_k».proof.Proof.Rows
public import proofs.«01_k».proof.Proof.Gen.FfnOutDw.Frame
public import proofs.«01_k».proof.Proof.Gen.FfnOutDwIdeal.Value
public import proofs.«01_k».proof.Proof.Gen.FfnOutDwRefIdeal.Run
public import proofs.«01_k».proof.Proof.Gen.FfnOutDwRefIdeal.Read
public import Idealize.ShloMosaic.Lib.Pointwise
public import Idealize.ShloMosaic.Lib.Quiescent
@[expose] public section
set_option maxRecDepth 16384
noncomputable section
namespace Cert.FfnOutDwIdeal.Blocks
open Cert.FfnOutDwIdeal Cert.FfnOutDwIdeal.Gen Idealize.ShloMosaic Idealize.ShloMosaic.TcCoe Idealize.SL.Sem Cert.Product Cert.Rows
open scoped BigOperators

section Words
variable {F : FTy → Type} [FloatOps F]
variable (c : Dev nD) (i : grid0.Coords) (a3 : Memref sig .tc .vmem S1024x1408 .bf16) (h3 : a3.IsWhole) (a4 : Memref sig .tc .vmem S1024x1024 .bf16) (h4 : a4.IsWhole) (a5 : Memref sig .tc .vmem S1408x1024 .f32) (h5 : a5.IsWhole) (a6 : Memref sig .tc .vmem S1408x1024 .f32) (h6 : a6.IsWhole)
  (x0 : Vec F S1024x1408 .bf16) (x1 : Vec F S1024x1024 .bf16) (xs : Vec F S1408x1024 .f32)
/-- What a point leaves in the accumulator: its own product at a tile's first point, and later the sum so far with it. -/
theorem accA (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A; dsimp only; (try sl_unfold_words)
  rw [View.canon_unit_zero hz]
  simp only [View.readAt_eq_ld, h3.read_unread, h4.read_unread, h6.read_unread, View.ld_unit_zero (S := S1024x1408) hz, View.ld_unit_zero (S := S1024x1024) hz, View.ld_unit_zero (S := S1408x1024) hz]
theorem accB (hc0 : ¬cond0_0 i) (hc1 : cond0_1 i) (hc2 : ¬cond0_2 i) : sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B; dsimp only; (try sl_unfold_words)
  rw [View.canon_unit_zero hz]
  simp only [View.readAt_eq_ld, h3.read_unread, h4.read_unread, h6.read_unread, View.ld_unit_zero (S := S1024x1408) hz, View.ld_unit_zero (S := S1024x1024) hz, View.ld_unit_zero (S := S1408x1024) hz]
theorem accC (hc0 : ¬cond0_0 i) (hc1 : cond0_1 i) (hc2 : cond0_2 i) : sout0_C_0 c i a3 h3 a4 h4 a5 h5 a6 h6 hc0 hc1 hc2 x0 x1 xs = k0_pay2 xs x0 x1 := by
  unfold sout0_C_0
  rw [View.read_writes_eq_canon _ _ _ (scover0_C_0 c i a3 h3 a4 h4 a5 h5 a6 h6 hc0 hc1 hc2 x0 x1 xs)]
  unfold kernelRun0_C; dsimp only; (try sl_unfold_words)
  rw [View.canon_unit_zero hz]
  simp only [View.readAt_eq_ld, h3.read_unread, h4.read_unread, h6.read_unread, View.ld_unit_zero (S := S1024x1408) hz, View.ld_unit_zero (S := S1024x1024) hz, View.ld_unit_zero (S := S1408x1024) hz]
/-- What the last point of a tile stores. -/
theorem outC (hc0 : ¬cond0_0 i) (hc1 : cond0_1 i) (hc2 : cond0_2 i) : out0_C_2 c i a3 h3 a4 h4 a5 h5 a6 h6 hc0 hc1 hc2 x0 x1 xs = k0_pay2 xs x0 x1 := by
  unfold out0_C_2
  rw [View.read_writes_eq_canon _ _ _ (cover0_C_2 c i a3 h3 a4 h4 a5 h5 a6 h6 hc0 hc1 hc2 x0 x1 xs)]
  unfold kernelRun0_C; dsimp only; (try sl_unfold_words)
  rw [View.canon_unit_zero hz]
  simp only [View.readAt_eq_ld, h3.read_unread, h4.read_unread, h6.read_unread, View.ld_unit_zero (S := S1024x1408) hz, View.ld_unit_zero (S := S1024x1024) hz, View.ld_unit_zero (S := S1408x1024) hz]
  exact View.readCov_cons_toLoadRect ..
end Words

theorem pay1_at (x0 : FVec Ideal S1024x1408 .bf16) (x1 : FVec Ideal S1024x1024 .bf16) (r : Fin 1408) (d : Fin 1024) :
    k0_pay1 (F := Ideal) x0 x1 (ix2 r d) = ∑ x : Fin 1024, x0 (ix2 x r) * x1 (ix2 x d) := by
  pointwise [k0_pay1]
theorem pay2_at (xs : FVec Ideal S1408x1024 .f32) (x0 : FVec Ideal S1024x1408 .bf16) (x1 : FVec Ideal S1024x1024 .bf16) (r : Fin 1408) (d : Fin 1024) :
    k0_pay2 (F := Ideal) xs x0 x1 (ix2 r d) = xs (ix2 r d) + ∑ x : Fin 1024, x0 (ix2 x r) * x1 (ix2 x d) := by
  pointwise [k0_pay2]

variable (m : (ℓ : Loc nD τ sig) → Buf (Elt Ideal) ℓ) (c : Dev nD)

/-- The arguments, read by their coordinates. -/
abbrev aA : Fin 8192 → Fin 2816 → EReal := fun i j => m ((c : Thread nD τ).loc main_arg0) (ix2 i j)
abbrev aB : Fin 8192 → Fin 1024 → EReal := fun i j => m ((c : Thread nD τ).loc main_arg1) (ix2 i j)

theorem ltN (t : Fin cfg0.N) : t.val < 16 := by have h := t.isLt; have e : cfg0.N = 16 := N_0; omega
/-- The row, the column and the summed coordinate a block index of point `t` stands for. -/
def row (t : Fin cfg0.N) (r : Fin 1408) : Fin 2816 := ⟨t.val / 8 * 1408 + r.val, by have := ltN t; omega⟩
def col (t : Fin cfg0.N) (d : Fin 1024) : Fin 1024 := ⟨d.val, by have := ltN t; omega⟩
def dim (t : Fin cfg0.N) (x : Fin 1024) : Fin 8192 := ⟨t.val % 8 * 1024 + x.val, by omega⟩

/-- The terms of one entry of the product. -/
def entry (i : Fin 2816) (j : Fin 1024) : Fin 8192 → EReal := fun x => aA m c (x) (i) * aB m c (x) (j)
def total (i : Fin 2816) (j : Fin 1024) : EReal := ∑ x : Fin 8192, entry m c i j x
def res : Buf (Elt Ideal) ((c : Thread nD τ).loc main_v0) := fun i : S2816x1024.Idx => total m c (i 0) (i 1)

theorem idx0 : ∀ t : Fin grid0.N, win0_0.index t = ![t.val % 8, t.val / 8] := by decide +kernel
theorem idx1 : ∀ t : Fin grid0.N, win0_1.index t = ![t.val % 8, 0] := by decide +kernel
theorem idx2 : ∀ t : Fin grid0.N, win0_2.index t = ![t.val / 8, 0] := by decide +kernel
theorem rd0 (t : Fin cfg0.N) (x : Fin 1024) (r : Fin 1408) : iblk m c 0 t (ix2 x r) = m ((c : Thread nD τ).loc main_arg0) (ix2 (dim t x) (row t r)) := by
  unfold iblk
  rw [View.read_apply]
  exact congrArg (m ((c : Thread nD τ).loc main_arg0)) (idx2_ext _ _ (off0 (idx0 t) 1024 x.val) (off1 (idx0 t) 1408 r.val))
theorem rd1 (t : Fin cfg0.N) (x : Fin 1024) (d : Fin 1024) : iblk m c 1 t (ix2 x d) = m ((c : Thread nD τ).loc main_arg1) (ix2 (dim t x) (col t d)) := by
  unfold iblk
  rw [View.read_apply]
  exact congrArg (m ((c : Thread nD τ).loc main_arg1)) (idx2_ext _ _ (off0 (idx1 t) 1024 x.val) (off1z (idx1 t) 1024 d.val))
/-- The blocks point `t` reads, and what they hold. -/
def bA (t : Fin cfg0.N) : FVec Ideal S1024x1408 .bf16 := iblk m c 0 t
def bB (t : Fin cfg0.N) : FVec Ideal S1024x1024 .bf16 := iblk m c 1 t
theorem term_at (t : Fin cfg0.N) (r : Fin 1408) (d : Fin 1024) (x : Fin 1024) : bA m c t (ix2 x r) * bB m c t (ix2 x d) = entry m c (row t r) (col t d) (dim t x) := by
  refine congrArg₂ (· * ·) ?_ ?_
  · exact rd0 m c t x r
  · exact rd1 m c t x d

/-- The point before. -/
abbrev prev (t : Fin cfg0.N) : Fin cfg0.N := ⟨t.val - 1, Nat.lt_of_le_of_lt (Nat.sub_le _ _) t.isLt⟩
theorem held_first (t : Fin cfg0.N) (h : t.val % 8 = 0) : (outsAt0 m c t.val t.isLt).2 = k0_pay1 (F := Ideal) (bA m c t) (bB m c t) := by
  rw [outsAt0_A m c t h (by have := ltN t; omega) (by omega)]; dsimp only; exact accA (F := Ideal) ..
theorem held_next (t : Fin cfg0.N) (h : t.val % 8 ≠ 0) : (outsAt0 m c t.val t.isLt).2 = k0_pay2 (F := Ideal) (outsAt0 m c (prev t).val (prev t).isLt).2 (bA m c t) (bB m c t) := by
  by_cases h2 : t.val % 8 = 7
  · rw [outsAt0_C m c t h (by have := ltN t; omega) h2]; dsimp only; exact accC (F := Ideal) ..
  · rw [outsAt0_B m c t h (by have := ltN t; omega) h2]; dsimp only; exact accB (F := Ideal) ..
theorem stored (t : Fin cfg0.N) (h : t.val % 8 = 7) : (outsAt0 m c t.val t.isLt).1 = (outsAt0 m c t.val t.isLt).2 := by
  rw [held_next m c t (by omega), outsAt0_C m c t (by omega) (by omega) h]; dsimp only; exact outC (F := Ideal) ..

/-- After `q + 1` points of a tile the accumulator holds the sum of that many stretches. -/
theorem held (q : ℕ) : ∀ (t : Fin cfg0.N), t.val % 8 = q → ∀ (r : Fin 1408) (d : Fin 1024),
    (outsAt0 m c t.val t.isLt).2 (ix2 r d) = upto (entry m c (row t r) (col t d)) ((q + 1) * 1024) := by
  induction q with
  | zero =>
    intro t h r d
    rw [held_first m c t h]
    refine (pay1_at _ _ r d).trans ?_
    refine (upto_first (entry m c (row t r) (col t d)) 1024 (fun x => bA m c t (ix2 x r) * bB m c t (ix2 x d)) (by omega) fun x => ?_).symm
    refine (term_at m c t r d x).trans (congrArg _ (Fin.ext ?_))
    show t.val % 8 * 1024 + x.val = x.val
    omega
  | succ q ih =>
    intro t h r d
    have ht := ltN t
    rw [held_next m c t (by omega)]
    refine (pay2_at _ _ _ r d).trans ?_
    rw [ih (prev t) (by show (t.val - 1) % 8 = q; omega) r d]
    have er : row (prev t) r = row t r := Fin.ext (by show (t.val - 1) / 8 * 1408 + r.val = t.val / 8 * 1408 + r.val; omega)
    have ec : col (prev t) d = col t d := Fin.ext (by show d.val = d.val; omega)
    rw [er, ec]
    refine Eq.trans ?_ ((upto_add (entry m c (row t r) (col t d)) ((q + 1) * 1024) 1024 (fun x => bA m c t (ix2 x r) * bB m c t (ix2 x d)) (by omega) fun x => ?_).symm.trans (congrArg (upto _) (by omega)))
    · rfl
    · refine (term_at m c t r d x).trans (congrArg _ (Fin.ext ?_))
      show t.val % 8 * 1024 + x.val = (q + 1) * 1024 + x.val
      omega
theorem at_out (t : Fin cfg0.N) (h : t.val % 8 = 7) (r : Fin 1408) (d : Fin 1024) :
    (outsAt0 m c t.val t.isLt).1 (ix2 r d) = ∑ x : Fin 8192, entry m c (row t r) (col t d) x := by
  rw [stored m c t h, held m c 7 t h r d]
  exact upto_all _

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 1408 r.val) (off1z (idx2 t) 1024 d.val)
  rw [View.read_apply, he]
  exact at_out m c t ((flush0_2 t).mp hf) r d
theorem final : (Gen.dats m 0 c).arrAt 2 cfg0.N = res m c :=
  (Gen.dats m 0 c).arrAt_eq_of_cover 2 (res m c) (flushes m c) fun i => by
    have h0 : (i 0 : Nat) < 2816 := (i 0).isLt
    have h1 : (i 1 : Nat) < 1024 := (i 1).isLt
    let t : Fin cfg0.N := ⟨(i 0).val / 1408 * 8 + (i 1).val / 1024 * 8 + 7, by rw [show cfg0.N = 16 from N_0]; omega⟩
    have ht : t.val = (i 0).val / 1408 * 8 + (i 1).val / 1024 * 8 + 7 := rfl
    refine ⟨t, (flush0_2 t).mpr (by show ((i 0).val / 1408 * 8 + (i 1).val / 1024 * 8 + 7) % 8 = 7; omega), ?_⟩
    show i ∈ ((View.whole main_v0).slice (win0_2.rect t)).set
    rw [View.set_slice_whole, Rect.mem_set_unit]
    exact inBlock (s := ![1408, 1024]) (i := fun a => (i a).val) (idx2 t) (by show (t.val / 8) * 1408 ≤ (i 0).val ∧ (i 0).val < (t.val / 8) * 1408 + 1408; omega) (by show (0) * 1024 ≤ (i 1).val ∧ (i 1).val < (0) * 1024 + 1024; omega)
end Cert.FfnOutDwIdeal.Blocks

namespace Cert.FfnOutDw
open Idealize.ShloMosaic Idealize.SL.Sem FfnOutDwIdeal
open scoped BigOperators

/-- The reference's result, and that it is the kernel's. -/
theorem reference_at (x0 : FVec Ideal S8192x2816 .bf16) (x1 : FVec Ideal S8192x1024 .bf16) (i : Fin 2816) (j : Fin 1024) :
    FfnOutDwRefIdeal.Read.val_main_v5 (F := Ideal) x0 x1 (ix2 i j) = ∑ x : Fin 8192, x1 (ix2 x j) * x0 (ix2 x i) := by
  pointwise [FfnOutDwRefIdeal.Read.val_main_v0, FfnOutDwRefIdeal.Read.val_main_v1, FfnOutDwRefIdeal.Read.val_main_v2, FfnOutDwRefIdeal.Read.val_main_v3, FfnOutDwRefIdeal.Read.val_main_v4, FfnOutDwRefIdeal.Read.val_main_v5]

theorem algebraic : algebraic_FfnOutDwIdeal_FfnOutDwRefIdeal := by
  intro m g m' g' _ e
  refine ⟨fun c => FfnOutDwIdeal.Blocks.res m c, ?_, ?_⟩
  · refine (θ_run FfnOutDwIdeal.defs _ _).mono (fun r H c => ?_) (FfnOutDwIdeal.Value.run_blocks (F := Ideal) m g)
    exact ⟨(H c).1.trans (FfnOutDwIdeal.Blocks.final m c), (H c).2⟩
  · refine (θ_run FfnOutDwRefIdeal.defs _ _).mono (fun r H c => ?_) (FfnOutDwRefIdeal.Value.run (F := Ideal) m' g')
    refine ⟨(H c).1.trans ?_, (H c).2⟩
    rw [FfnOutDwRefIdeal.Read.val_main_v5_eq, (e c).1, (e c).2]
    funext i
    idx_vars i
    refine (reference_at _ _ i0 i1).trans ?_
    exact Finset.sum_congr rfl fun x _ => mul_comm (G := EReal) _ _

theorem reference_frame : quiescent_FfnOutDwRefIdeal := fun m ρ _ =>
  (θ_run FfnOutDwRefIdeal.defs _ _).mono (fun r h => ⟨fun c => (h c).2, sem_eq_zero_of_no_sems (by decide) r.2⟩) (FfnOutDwRefIdeal.Value.run (F := Ideal) m ρ)
end Cert.FfnOutDw
-- ==== Proof.FfnInDx.lean ====
/- The product `b_ffn_in_dx`: what its array holds after the run, and every claim about it. -/
module
public import proofs.«01_k».proof.Defs
public import proofs.«01_k».proof.Proof.Product
public import proofs.«01_k».proof.Proof.Rows
public import proofs.«01_k».proof.Proof.Gen.FfnInDx.Frame
public import proofs.«01_k».proof.Proof.Gen.FfnInDxIdeal.Value
public import proofs.«01_k».proof.Proof.Gen.FfnInDxRefIdeal.Run
public import proofs.«01_k».proof.Proof.Gen.FfnInDxRefIdeal.Read
public import Idealize.ShloMosaic.Lib.Pointwise
public import Idealize.ShloMosaic.Lib.Quiescent
@[expose] public section
set_option maxRecDepth 16384
noncomputable section
namespace Cert.FfnInDxIdeal.Blocks
open Cert.FfnInDxIdeal Cert.FfnInDxIdeal.Gen Idealize.ShloMosaic Idealize.ShloMosaic.TcCoe Idealize.SL.Sem Cert.Product Cert.Rows
open scoped BigOperators

section Words
variable {F : FTy → Type} [FloatOps F]
variable (c : Dev nD) (i : grid0.Coords) (a3 : Memref sig .tc .vmem S2048x2816 .bf16) (h3 : a3.IsWhole) (a4 : Memref sig .tc .vmem S512x2816 .bf16) (h4 : a4.IsWhole) (a5 : Memref sig .tc .vmem S2048x512 .f32) (h5 : a5.IsWhole) (a6 : Memref sig .tc .vmem S2048x512 .f32) (h6 : a6.IsWhole)
  (x0 : Vec F S2048x2816 .bf16) (x1 : Vec F S512x2816 .bf16) (xs : Vec F S2048x512 .f32)
/-- What a point leaves in the accumulator: its own product at a tile's first point, and later the sum so far with it. -/
theorem accA (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A; dsimp only; (try sl_unfold_words)
  rw [View.canon_unit_zero hz]
  simp only [View.readAt_eq_ld, h3.read_unread, h4.read_unread, h6.read_unread, View.ld_unit_zero (S := S2048x2816) hz, View.ld_unit_zero (S := S512x2816) hz, View.ld_unit_zero (S := S2048x512) hz]
theorem accB (hc0 : ¬cond0_0 i) (hc1 : cond0_1 i) (hc2 : cond0_2 i) : sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B; dsimp only; (try sl_unfold_words)
  rw [View.canon_unit_zero hz]
  simp only [View.readAt_eq_ld, h3.read_unread, h4.read_unread, h6.read_unread, View.ld_unit_zero (S := S2048x2816) hz, View.ld_unit_zero (S := S512x2816) hz, View.ld_unit_zero (S := S2048x512) hz]
/-- What the last point of a tile stores. -/
theorem outB (hc0 : ¬cond0_0 i) (hc1 : cond0_1 i) (hc2 : cond0_2 i) : out0_B_2 c i a3 h3 a4 h4 a5 h5 a6 h6 hc0 hc1 hc2 x0 x1 xs = k0_pay2 xs x0 x1 := by
  unfold out0_B_2
  rw [View.read_writes_eq_canon _ _ _ (cover0_B_2 c i a3 h3 a4 h4 a5 h5 a6 h6 hc0 hc1 hc2 x0 x1 xs)]
  unfold kernelRun0_B; dsimp only; (try sl_unfold_words)
  rw [View.canon_unit_zero hz]
  simp only [View.readAt_eq_ld, h3.read_unread, h4.read_unread, h6.read_unread, View.ld_unit_zero (S := S2048x2816) hz, View.ld_unit_zero (S := S512x2816) hz, View.ld_unit_zero (S := S2048x512) hz]
  exact View.readCov_cons_toLoadRect ..
end Words

theorem pay1_at (x0 : FVec Ideal S2048x2816 .bf16) (x1 : FVec Ideal S512x2816 .bf16) (r : Fin 2048) (d : Fin 512) :
    k0_pay1 (F := Ideal) x0 x1 (ix2 r d) = ∑ x : Fin 2816, x0 (ix2 r x) * x1 (ix2 d x) := by
  pointwise [k0_pay1]
theorem pay2_at (xs : FVec Ideal S2048x512 .f32) (x0 : FVec Ideal S2048x2816 .bf16) (x1 : FVec Ideal S512x2816 .bf16) (r : Fin 2048) (d : Fin 512) :
    k0_pay2 (F := Ideal) xs x0 x1 (ix2 r d) = xs (ix2 r d) + ∑ x : Fin 2816, x0 (ix2 r x) * x1 (ix2 d x) := by
  pointwise [k0_pay2]

variable (m : (ℓ : Loc nD τ sig) → Buf (Elt Ideal) ℓ) (c : Dev nD)

/-- The arguments, read by their coordinates. -/
abbrev aA : Fin 8192 → Fin 5632 → EReal := fun i j => m ((c : Thread nD τ).loc main_arg0) (ix2 i j)
abbrev aB : Fin 1024 → Fin 5632 → EReal := fun i j => m ((c : Thread nD τ).loc main_arg1) (ix2 i j)

theorem ltN (t : Fin cfg0.N) : t.val < 16 := by have h := t.isLt; have e : cfg0.N = 16 := N_0; omega
/-- The row, the column and the summed coordinate a block index of point `t` stands for. -/
def row (t : Fin cfg0.N) (r : Fin 2048) : Fin 8192 := ⟨t.val / 4 * 2048 + r.val, by have := ltN t; omega⟩
def col (t : Fin cfg0.N) (d : Fin 512) : Fin 1024 := ⟨t.val / 2 % 2 * 512 + d.val, by have := ltN t; omega⟩
def dim (t : Fin cfg0.N) (x : Fin 2816) : Fin 5632 := ⟨t.val % 2 * 2816 + x.val, by omega⟩

/-- The terms of one entry of the product. -/
def entry (i : Fin 8192) (j : Fin 1024) : Fin 5632 → EReal := fun x => aA m c (i) (x) * aB m c (j) (x)
def total (i : Fin 8192) (j : Fin 1024) : EReal := ∑ x : Fin 5632, entry m c i j x
def res : Buf (Elt Ideal) ((c : Thread nD τ).loc main_v0) := fun i : S8192x1024.Idx => total m c (i 0) (i 1)

theorem idx0 : ∀ t : Fin grid0.N, win0_0.index t = ![t.val / 4, t.val % 2] := by decide +kernel
theorem idx1 : ∀ t : Fin grid0.N, win0_1.index t = ![t.val / 2 % 2, t.val % 2] := by decide +kernel
theorem idx2 : ∀ t : Fin grid0.N, win0_2.index t = ![t.val / 4, t.val / 2 % 2] := by decide +kernel
theorem rd0 (t : Fin cfg0.N) (r : Fin 2048) (x : Fin 2816) : iblk m c 0 t (ix2 r x) = m ((c : Thread nD τ).loc main_arg0) (ix2 (row t r) (dim t x)) := by
  unfold iblk
  rw [View.read_apply]
  exact congrArg (m ((c : Thread nD τ).loc main_arg0)) (idx2_ext _ _ (off0 (idx0 t) 2048 r.val) (off1 (idx0 t) 2816 x.val))
theorem rd1 (t : Fin cfg0.N) (d : Fin 512) (x : Fin 2816) : iblk m c 1 t (ix2 d x) = m ((c : Thread nD τ).loc main_arg1) (ix2 (col t d) (dim t x)) := by
  unfold iblk
  rw [View.read_apply]
  exact congrArg (m ((c : Thread nD τ).loc main_arg1)) (idx2_ext _ _ (off0 (idx1 t) 512 d.val) (off1 (idx1 t) 2816 x.val))
/-- The blocks point `t` reads, and what they hold. -/
def bA (t : Fin cfg0.N) : FVec Ideal S2048x2816 .bf16 := iblk m c 0 t
def bB (t : Fin cfg0.N) : FVec Ideal S512x2816 .bf16 := iblk m c 1 t
theorem term_at (t : Fin cfg0.N) (r : Fin 2048) (d : Fin 512) (x : Fin 2816) : bA m c t (ix2 r x) * bB m c t (ix2 d x) = entry m c (row t r) (col t d) (dim t x) := by
  refine congrArg₂ (· * ·) ?_ ?_
  · exact rd0 m c t r x
  · exact rd1 m c t d x

/-- The point before. -/
abbrev prev (t : Fin cfg0.N) : Fin cfg0.N := ⟨t.val - 1, Nat.lt_of_le_of_lt (Nat.sub_le _ _) t.isLt⟩
theorem held_first (t : Fin cfg0.N) (h : t.val % 2 = 0) : (outsAt0 m c t.val t.isLt).2 = k0_pay1 (F := Ideal) (bA m c t) (bB m c t) := by
  rw [outsAt0_A m c t h (by have := ltN t; omega) (by omega)]; dsimp only; exact accA (F := Ideal) ..
theorem held_next (t : Fin cfg0.N) (h : t.val % 2 ≠ 0) : (outsAt0 m c t.val t.isLt).2 = k0_pay2 (F := Ideal) (outsAt0 m c (prev t).val (prev t).isLt).2 (bA m c t) (bB m c t) := by
  rw [outsAt0_B m c t h (by have := ltN t; omega) (by omega)]; dsimp only; exact accB (F := Ideal) ..
theorem stored (t : Fin cfg0.N) (h : t.val % 2 = 1) : (outsAt0 m c t.val t.isLt).1 = (outsAt0 m c t.val t.isLt).2 := by
  rw [held_next m c t (by omega), outsAt0_B m c t (by omega) (by omega) h]; dsimp only; exact outB (F := Ideal) ..

/-- After `q + 1` points of a tile the accumulator holds the sum of that many stretches. -/
theorem held (q : ℕ) : ∀ (t : Fin cfg0.N), t.val % 2 = q → ∀ (r : Fin 2048) (d : Fin 512),
    (outsAt0 m c t.val t.isLt).2 (ix2 r d) = upto (entry m c (row t r) (col t d)) ((q + 1) * 2816) := by
  induction q with
  | zero =>
    intro t h r d
    rw [held_first m c t h]
    refine (pay1_at _ _ r d).trans ?_
    refine (upto_first (entry m c (row t r) (col t d)) 2816 (fun x => bA m c t (ix2 r x) * bB m c t (ix2 d x)) (by omega) fun x => ?_).symm
    refine (term_at m c t r d x).trans (congrArg _ (Fin.ext ?_))
    show t.val % 2 * 2816 + x.val = x.val
    omega
  | succ q ih =>
    intro t h r d
    have ht := ltN t
    rw [held_next m c t (by omega)]
    refine (pay2_at _ _ _ r d).trans ?_
    rw [ih (prev t) (by show (t.val - 1) % 2 = q; omega) r d]
    have er : row (prev t) r = row t r := Fin.ext (by show (t.val - 1) / 4 * 2048 + r.val = t.val / 4 * 2048 + r.val; omega)
    have ec : col (prev t) d = col t d := Fin.ext (by show (t.val - 1) / 2 % 2 * 512 + d.val = t.val / 2 % 2 * 512 + d.val; omega)
    rw [er, ec]
    refine Eq.trans ?_ ((upto_add (entry m c (row t r) (col t d)) ((q + 1) * 2816) 2816 (fun x => bA m c t (ix2 r x) * bB m c t (ix2 d x)) (by omega) fun x => ?_).symm.trans (congrArg (upto _) (by omega)))
    · rfl
    · refine (term_at m c t r d x).trans (congrArg _ (Fin.ext ?_))
      show t.val % 2 * 2816 + x.val = (q + 1) * 2816 + x.val
      omega
theorem at_out (t : Fin cfg0.N) (h : t.val % 2 = 1) (r : Fin 2048) (d : Fin 512) :
    (outsAt0 m c t.val t.isLt).1 (ix2 r d) = ∑ x : Fin 5632, entry m c (row t r) (col t d) x := by
  rw [stored m c t h, held m c 1 t h r d]
  exact upto_all _

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 2048 r.val) (off1 (idx2 t) 512 d.val)
  rw [View.read_apply, he]
  exact at_out m c t ((flush0_2 t).mp hf) r d
theorem final : (Gen.dats m 0 c).arrAt 2 cfg0.N = res m c :=
  (Gen.dats m 0 c).arrAt_eq_of_cover 2 (res m c) (flushes m c) fun i => by
    have h0 : (i 0 : Nat) < 8192 := (i 0).isLt
    have h1 : (i 1 : Nat) < 1024 := (i 1).isLt
    let t : Fin cfg0.N := ⟨(i 0).val / 2048 * 4 + (i 1).val / 512 * 2 + 1, by rw [show cfg0.N = 16 from N_0]; omega⟩
    have ht : t.val = (i 0).val / 2048 * 4 + (i 1).val / 512 * 2 + 1 := rfl
    refine ⟨t, (flush0_2 t).mpr (by show ((i 0).val / 2048 * 4 + (i 1).val / 512 * 2 + 1) % 2 = 1; omega), ?_⟩
    show i ∈ ((View.whole main_v0).slice (win0_2.rect t)).set
    rw [View.set_slice_whole, Rect.mem_set_unit]
    exact inBlock (s := ![2048, 512]) (i := fun a => (i a).val) (idx2 t) (by show (t.val / 4) * 2048 ≤ (i 0).val ∧ (i 0).val < (t.val / 4) * 2048 + 2048; omega) (by show (t.val / 2 % 2) * 512 ≤ (i 1).val ∧ (i 1).val < (t.val / 2 % 2) * 512 + 512; omega)
end Cert.FfnInDxIdeal.Blocks

namespace Cert.FfnInDx
open Idealize.ShloMosaic Idealize.SL.Sem FfnInDxIdeal
open scoped BigOperators

/-- The reference's result, and that it is the kernel's. -/
theorem reference_at (x0 : FVec Ideal S8192x5632 .bf16) (x1 : FVec Ideal S1024x5632 .bf16) (i : Fin 8192) (j : Fin 1024) :
    FfnInDxRefIdeal.Read.val_main_v4 (F := Ideal) x0 x1 (ix2 i j) = ∑ x : Fin 5632, x0 (ix2 i x) * x1 (ix2 j x) := by
  pointwise [FfnInDxRefIdeal.Read.val_main_v0, FfnInDxRefIdeal.Read.val_main_v1, FfnInDxRefIdeal.Read.val_main_v2, FfnInDxRefIdeal.Read.val_main_v3, FfnInDxRefIdeal.Read.val_main_v4]

theorem algebraic : algebraic_FfnInDxIdeal_FfnInDxRefIdeal := by
  intro m g m' g' _ e
  refine ⟨fun c => FfnInDxIdeal.Blocks.res m c, ?_, ?_⟩
  · refine (θ_run FfnInDxIdeal.defs _ _).mono (fun r H c => ?_) (FfnInDxIdeal.Value.run_blocks (F := Ideal) m g)
    exact ⟨(H c).1.trans (FfnInDxIdeal.Blocks.final m c), (H c).2⟩
  · refine (θ_run FfnInDxRefIdeal.defs _ _).mono (fun r H c => ?_) (FfnInDxRefIdeal.Value.run (F := Ideal) m' g')
    refine ⟨(H c).1.trans ?_, (H c).2⟩
    rw [FfnInDxRefIdeal.Read.val_main_v4_eq, (e c).1, (e c).2]
    funext i
    idx_vars i
    refine (reference_at _ _ i0 i1).trans ?_
    rfl

theorem reference_frame : quiescent_FfnInDxRefIdeal := fun m ρ _ =>
  (θ_run FfnInDxRefIdeal.defs _ _).mono (fun r h => ⟨fun c => (h c).2, sem_eq_zero_of_no_sems (by decide) r.2⟩) (FfnInDxRefIdeal.Value.run (F := Ideal) m ρ)
end Cert.FfnInDx
-- ==== Proof.FfnInDw.lean ====
/- The product `b_ffn_in_dw`: what its array holds after the run, and every claim about it. -/
module
public import proofs.«01_k».proof.Defs
public import proofs.«01_k».proof.Proof.Product
public import proofs.«01_k».proof.Proof.Rows
public import proofs.«01_k».proof.Proof.Gen.FfnInDw.Frame
public import proofs.«01_k».proof.Proof.Gen.FfnInDwIdeal.Value
public import proofs.«01_k».proof.Proof.Gen.FfnInDwRefIdeal.Run
public import proofs.«01_k».proof.Proof.Gen.FfnInDwRefIdeal.Read
public import Idealize.ShloMosaic.Lib.Pointwise
public import Idealize.ShloMosaic.Lib.Quiescent
@[expose] public section
set_option maxRecDepth 16384
noncomputable section
namespace Cert.FfnInDwIdeal.Blocks
open Cert.FfnInDwIdeal Cert.FfnInDwIdeal.Gen Idealize.ShloMosaic Idealize.ShloMosaic.TcCoe Idealize.SL.Sem Cert.Product Cert.Rows
open scoped BigOperators

section Words
variable {F : FTy → Type} [FloatOps F]
variable (c : Dev nD) (i : grid0.Coords) (a3 : Memref sig .tc .vmem S1024x1024 .bf16) (h3 : a3.IsWhole) (a4 : Memref sig .tc .vmem S1024x1408 .bf16) (h4 : a4.IsWhole) (a5 : Memref sig .tc .vmem S1024x1408 .f32) (h5 : a5.IsWhole) (a6 : Memref sig .tc .vmem S1024x1408 .f32) (h6 : a6.IsWhole)
  (x0 : Vec F S1024x1024 .bf16) (x1 : Vec F S1024x1408 .bf16) (xs : Vec F S1024x1408 .f32)
/-- What a point leaves in the accumulator: its own product at a tile's first point, and later the sum so far with it. -/
theorem accA (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A; dsimp only; (try sl_unfold_words)
  rw [View.canon_unit_zero hz]
  simp only [View.readAt_eq_ld, h3.read_unread, h4.read_unread, h6.read_unread, View.ld_unit_zero (S := S1024x1024) hz, View.ld_unit_zero (S := S1024x1408) hz, View.ld_unit_zero (S := S1024x1408) hz]
theorem accB (hc0 : ¬cond0_0 i) (hc1 : cond0_1 i) (hc2 : ¬cond0_2 i) : sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B; dsimp only; (try sl_unfold_words)
  rw [View.canon_unit_zero hz]
  simp only [View.readAt_eq_ld, h3.read_unread, h4.read_unread, h6.read_unread, View.ld_unit_zero (S := S1024x1024) hz, View.ld_unit_zero (S := S1024x1408) hz, View.ld_unit_zero (S := S1024x1408) hz]
theorem accC (hc0 : ¬cond0_0 i) (hc1 : cond0_1 i) (hc2 : cond0_2 i) : sout0_C_0 c i a3 h3 a4 h4 a5 h5 a6 h6 hc0 hc1 hc2 x0 x1 xs = k0_pay2 xs x0 x1 := by
  unfold sout0_C_0
  rw [View.read_writes_eq_canon _ _ _ (scover0_C_0 c i a3 h3 a4 h4 a5 h5 a6 h6 hc0 hc1 hc2 x0 x1 xs)]
  unfold kernelRun0_C; dsimp only; (try sl_unfold_words)
  rw [View.canon_unit_zero hz]
  simp only [View.readAt_eq_ld, h3.read_unread, h4.read_unread, h6.read_unread, View.ld_unit_zero (S := S1024x1024) hz, View.ld_unit_zero (S := S1024x1408) hz, View.ld_unit_zero (S := S1024x1408) hz]
/-- What the last point of a tile stores. -/
theorem outC (hc0 : ¬cond0_0 i) (hc1 : cond0_1 i) (hc2 : cond0_2 i) : out0_C_2 c i a3 h3 a4 h4 a5 h5 a6 h6 hc0 hc1 hc2 x0 x1 xs = k0_pay2 xs x0 x1 := by
  unfold out0_C_2
  rw [View.read_writes_eq_canon _ _ _ (cover0_C_2 c i a3 h3 a4 h4 a5 h5 a6 h6 hc0 hc1 hc2 x0 x1 xs)]
  unfold kernelRun0_C; dsimp only; (try sl_unfold_words)
  rw [View.canon_unit_zero hz]
  simp only [View.readAt_eq_ld, h3.read_unread, h4.read_unread, h6.read_unread, View.ld_unit_zero (S := S1024x1024) hz, View.ld_unit_zero (S := S1024x1408) hz, View.ld_unit_zero (S := S1024x1408) hz]
  exact View.readCov_cons_toLoadRect ..
end Words

theorem pay1_at (x0 : FVec Ideal S1024x1024 .bf16) (x1 : FVec Ideal S1024x1408 .bf16) (r : Fin 1024) (d : Fin 1408) :
    k0_pay1 (F := Ideal) x0 x1 (ix2 r d) = ∑ x : Fin 1024, x0 (ix2 x r) * x1 (ix2 x d) := by
  pointwise [k0_pay1]
theorem pay2_at (xs : FVec Ideal S1024x1408 .f32) (x0 : FVec Ideal S1024x1024 .bf16) (x1 : FVec Ideal S1024x1408 .bf16) (r : Fin 1024) (d : Fin 1408) :
    k0_pay2 (F := Ideal) xs x0 x1 (ix2 r d) = xs (ix2 r d) + ∑ x : Fin 1024, x0 (ix2 x r) * x1 (ix2 x d) := by
  pointwise [k0_pay2]

variable (m : (ℓ : Loc nD τ sig) → Buf (Elt Ideal) ℓ) (c : Dev nD)

/-- The arguments, read by their coordinates. -/
abbrev aA : Fin 8192 → Fin 1024 → EReal := fun i j => m ((c : Thread nD τ).loc main_arg0) (ix2 i j)
abbrev aB : Fin 8192 → Fin 5632 → EReal := fun i j => m ((c : Thread nD τ).loc main_arg1) (ix2 i j)

theorem ltN (t : Fin cfg0.N) : t.val < 32 := by have h := t.isLt; have e : cfg0.N = 32 := N_0; omega
/-- The row, the column and the summed coordinate a block index of point `t` stands for. -/
def row (t : Fin cfg0.N) (r : Fin 1024) : Fin 1024 := ⟨t.val / 32 * 1024 + r.val, by have := ltN t; omega⟩
def col (t : Fin cfg0.N) (d : Fin 1408) : Fin 5632 := ⟨t.val / 8 % 4 * 1408 + d.val, by have := ltN t; omega⟩
def dim (t : Fin cfg0.N) (x : Fin 1024) : Fin 8192 := ⟨t.val % 8 * 1024 + x.val, by omega⟩

/-- The terms of one entry of the product. -/
def entry (i : Fin 1024) (j : Fin 5632) : Fin 8192 → EReal := fun x => aA m c (x) (i) * aB m c (x) (j)
def total (i : Fin 1024) (j : Fin 5632) : EReal := ∑ x : Fin 8192, entry m c i j x
def res : Buf (Elt Ideal) ((c : Thread nD τ).loc main_v0) := fun i : S1024x5632.Idx => total m c (i 0) (i 1)

theorem idx0 : ∀ t : Fin grid0.N, win0_0.index t = ![t.val % 8, t.val / 32] := by decide +kernel
theorem idx1 : ∀ t : Fin grid0.N, win0_1.index t = ![t.val % 8, t.val / 8 % 4] := by decide +kernel
theorem idx2 : ∀ t : Fin grid0.N, win0_2.index t = ![t.val / 32, t.val / 8 % 4] := by decide +kernel
theorem rd0 (t : Fin cfg0.N) (x : Fin 1024) (r : Fin 1024) : iblk m c 0 t (ix2 x r) = m ((c : Thread nD τ).loc main_arg0) (ix2 (dim t x) (row t r)) := by
  unfold iblk
  rw [View.read_apply]
  exact congrArg (m ((c : Thread nD τ).loc main_arg0)) (idx2_ext _ _ (off0 (idx0 t) 1024 x.val) (off1 (idx0 t) 1024 r.val))
theorem rd1 (t : Fin cfg0.N) (x : Fin 1024) (d : Fin 1408) : iblk m c 1 t (ix2 x d) = m ((c : Thread nD τ).loc main_arg1) (ix2 (dim t x) (col t d)) := by
  unfold iblk
  rw [View.read_apply]
  exact congrArg (m ((c : Thread nD τ).loc main_arg1)) (idx2_ext _ _ (off0 (idx1 t) 1024 x.val) (off1 (idx1 t) 1408 d.val))
/-- The blocks point `t` reads, and what they hold. -/
def bA (t : Fin cfg0.N) : FVec Ideal S1024x1024 .bf16 := iblk m c 0 t
def bB (t : Fin cfg0.N) : FVec Ideal S1024x1408 .bf16 := iblk m c 1 t
theorem term_at (t : Fin cfg0.N) (r : Fin 1024) (d : Fin 1408) (x : Fin 1024) : bA m c t (ix2 x r) * bB m c t (ix2 x d) = entry m c (row t r) (col t d) (dim t x) := by
  refine congrArg₂ (· * ·) ?_ ?_
  · exact rd0 m c t x r
  · exact rd1 m c t x d

/-- The point before. -/
abbrev prev (t : Fin cfg0.N) : Fin cfg0.N := ⟨t.val - 1, Nat.lt_of_le_of_lt (Nat.sub_le _ _) t.isLt⟩
theorem held_first (t : Fin cfg0.N) (h : t.val % 8 = 0) : (outsAt0 m c t.val t.isLt).2 = k0_pay1 (F := Ideal) (bA m c t) (bB m c t) := by
  rw [outsAt0_A m c t h (by have := ltN t; omega) (by omega)]; dsimp only; exact accA (F := Ideal) ..
theorem held_next (t : Fin cfg0.N) (h : t.val % 8 ≠ 0) : (outsAt0 m c t.val t.isLt).2 = k0_pay2 (F := Ideal) (outsAt0 m c (prev t).val (prev t).isLt).2 (bA m c t) (bB m c t) := by
  by_cases h2 : t.val % 8 = 7
  · rw [outsAt0_C m c t h (by have := ltN t; omega) h2]; dsimp only; exact accC (F := Ideal) ..
  · rw [outsAt0_B m c t h (by have := ltN t; omega) h2]; dsimp only; exact accB (F := Ideal) ..
theorem stored (t : Fin cfg0.N) (h : t.val % 8 = 7) : (outsAt0 m c t.val t.isLt).1 = (outsAt0 m c t.val t.isLt).2 := by
  rw [held_next m c t (by omega), outsAt0_C m c t (by omega) (by omega) h]; dsimp only; exact outC (F := Ideal) ..

/-- After `q + 1` points of a tile the accumulator holds the sum of that many stretches. -/
theorem held (q : ℕ) : ∀ (t : Fin cfg0.N), t.val % 8 = q → ∀ (r : Fin 1024) (d : Fin 1408),
    (outsAt0 m c t.val t.isLt).2 (ix2 r d) = upto (entry m c (row t r) (col t d)) ((q + 1) * 1024) := by
  induction q with
  | zero =>
    intro t h r d
    rw [held_first m c t h]
    refine (pay1_at _ _ r d).trans ?_
    refine (upto_first (entry m c (row t r) (col t d)) 1024 (fun x => bA m c t (ix2 x r) * bB m c t (ix2 x d)) (by omega) fun x => ?_).symm
    refine (term_at m c t r d x).trans (congrArg _ (Fin.ext ?_))
    show t.val % 8 * 1024 + x.val = x.val
    omega
  | succ q ih =>
    intro t h r d
    have ht := ltN t
    rw [held_next m c t (by omega)]
    refine (pay2_at _ _ _ r d).trans ?_
    rw [ih (prev t) (by show (t.val - 1) % 8 = q; omega) r d]
    have er : row (prev t) r = row t r := Fin.ext (by show (t.val - 1) / 32 * 1024 + r.val = t.val / 32 * 1024 + r.val; omega)
    have ec : col (prev t) d = col t d := Fin.ext (by show (t.val - 1) / 8 % 4 * 1408 + d.val = t.val / 8 % 4 * 1408 + d.val; omega)
    rw [er, ec]
    refine Eq.trans ?_ ((upto_add (entry m c (row t r) (col t d)) ((q + 1) * 1024) 1024 (fun x => bA m c t (ix2 x r) * bB m c t (ix2 x d)) (by omega) fun x => ?_).symm.trans (congrArg (upto _) (by omega)))
    · rfl
    · refine (term_at m c t r d x).trans (congrArg _ (Fin.ext ?_))
      show t.val % 8 * 1024 + x.val = (q + 1) * 1024 + x.val
      omega
theorem at_out (t : Fin cfg0.N) (h : t.val % 8 = 7) (r : Fin 1024) (d : Fin 1408) :
    (outsAt0 m c t.val t.isLt).1 (ix2 r d) = ∑ x : Fin 8192, entry m c (row t r) (col t d) x := by
  rw [stored m c t h, held m c 7 t h r d]
  exact upto_all _

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 1024 r.val) (off1 (idx2 t) 1408 d.val)
  rw [View.read_apply, he]
  exact at_out m c t ((flush0_2 t).mp hf) r d
theorem final : (Gen.dats m 0 c).arrAt 2 cfg0.N = res m c :=
  (Gen.dats m 0 c).arrAt_eq_of_cover 2 (res m c) (flushes m c) fun i => by
    have h0 : (i 0 : Nat) < 1024 := (i 0).isLt
    have h1 : (i 1 : Nat) < 5632 := (i 1).isLt
    let t : Fin cfg0.N := ⟨(i 0).val / 1024 * 32 + (i 1).val / 1408 * 8 + 7, by rw [show cfg0.N = 32 from N_0]; omega⟩
    have ht : t.val = (i 0).val / 1024 * 32 + (i 1).val / 1408 * 8 + 7 := rfl
    refine ⟨t, (flush0_2 t).mpr (by show ((i 0).val / 1024 * 32 + (i 1).val / 1408 * 8 + 7) % 8 = 7; omega), ?_⟩
    show i ∈ ((View.whole main_v0).slice (win0_2.rect t)).set
    rw [View.set_slice_whole, Rect.mem_set_unit]
    exact inBlock (s := ![1024, 1408]) (i := fun a => (i a).val) (idx2 t) (by show (t.val / 32) * 1024 ≤ (i 0).val ∧ (i 0).val < (t.val / 32) * 1024 + 1024; omega) (by show (t.val / 8 % 4) * 1408 ≤ (i 1).val ∧ (i 1).val < (t.val / 8 % 4) * 1408 + 1408; omega)
end Cert.FfnInDwIdeal.Blocks

namespace Cert.FfnInDw
open Idealize.ShloMosaic Idealize.SL.Sem FfnInDwIdeal
open scoped BigOperators

/-- The reference's result, and that it is the kernel's. -/
theorem reference_at (x0 : FVec Ideal S8192x1024 .bf16) (x1 : FVec Ideal S8192x5632 .bf16) (i : Fin 1024) (j : Fin 5632) :
    FfnInDwRefIdeal.Read.val_main_v5 (F := Ideal) x0 x1 (ix2 i j) = ∑ x : Fin 8192, x1 (ix2 x j) * x0 (ix2 x i) := by
  pointwise [FfnInDwRefIdeal.Read.val_main_v0, FfnInDwRefIdeal.Read.val_main_v1, FfnInDwRefIdeal.Read.val_main_v2, FfnInDwRefIdeal.Read.val_main_v3, FfnInDwRefIdeal.Read.val_main_v4, FfnInDwRefIdeal.Read.val_main_v5]

theorem algebraic : algebraic_FfnInDwIdeal_FfnInDwRefIdeal := by
  intro m g m' g' _ e
  refine ⟨fun c => FfnInDwIdeal.Blocks.res m c, ?_, ?_⟩
  · refine (θ_run FfnInDwIdeal.defs _ _).mono (fun r H c => ?_) (FfnInDwIdeal.Value.run_blocks (F := Ideal) m g)
    exact ⟨(H c).1.trans (FfnInDwIdeal.Blocks.final m c), (H c).2⟩
  · refine (θ_run FfnInDwRefIdeal.defs _ _).mono (fun r H c => ?_) (FfnInDwRefIdeal.Value.run (F := Ideal) m' g')
    refine ⟨(H c).1.trans ?_, (H c).2⟩
    rw [FfnInDwRefIdeal.Read.val_main_v5_eq, (e c).1, (e c).2]
    funext i
    idx_vars i
    refine (reference_at _ _ i0 i1).trans ?_
    exact Finset.sum_congr rfl fun x _ => mul_comm (G := EReal) _ _

theorem reference_frame : quiescent_FfnInDwRefIdeal := fun m ρ _ =>
  (θ_run FfnInDwRefIdeal.defs _ _).mono (fun r h => ⟨fun c => (h c).2, sem_eq_zero_of_no_sems (by decide) r.2⟩) (FfnInDwRefIdeal.Value.run (F := Ideal) m ρ)
end Cert.FfnInDw
-- ==== Proof.AbInDx.lean ====
/- The product `b_ab_in_dx`: what its array holds after the run, and every claim about it. -/
module
public import proofs.«01_k».proof.Defs
public import proofs.«01_k».proof.Proof.Product
public import proofs.«01_k».proof.Proof.Rows
public import proofs.«01_k».proof.Proof.Gen.AbInDx.Frame
public import proofs.«01_k».proof.Proof.Gen.AbInDxIdeal.Value
public import proofs.«01_k».proof.Proof.Gen.AbInDxRefIdeal.Run
public import proofs.«01_k».proof.Proof.Gen.AbInDxRefIdeal.Read
public import Idealize.ShloMosaic.Lib.Pointwise
public import Idealize.ShloMosaic.Lib.Quiescent
@[expose] public section
set_option maxRecDepth 16384
noncomputable section
namespace Cert.AbInDxIdeal.Blocks
open Cert.AbInDxIdeal Cert.AbInDxIdeal.Gen Idealize.ShloMosaic Idealize.ShloMosaic.TcCoe Idealize.SL.Sem Cert.Product Cert.Rows
open scoped BigOperators

section Words
variable {F : FTy → Type} [FloatOps F]
variable (c : Dev nD) (i : grid0.Coords) (a3 : Memref sig .tc .vmem S2048x1792 .bf16) (h3 : a3.IsWhole) (a4 : Memref sig .tc .vmem S512x1792 .bf16) (h4 : a4.IsWhole) (a5 : Memref sig .tc .vmem S2048x512 .f32) (h5 : a5.IsWhole) (a6 : Memref sig .tc .vmem S2048x512 .f32) (h6 : a6.IsWhole)
  (x0 : Vec F S2048x1792 .bf16) (x1 : Vec F S512x1792 .bf16) (xs : Vec F S2048x512 .f32)
/-- What a point leaves in the accumulator: its own product at a tile's first point, and later the sum so far with it. -/
theorem accA (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A; dsimp only; (try sl_unfold_words)
  rw [View.canon_unit_zero hz]
  simp only [View.readAt_eq_ld, h3.read_unread, h4.read_unread, h6.read_unread, View.ld_unit_zero (S := S2048x1792) hz, View.ld_unit_zero (S := S512x1792) hz, View.ld_unit_zero (S := S2048x512) hz]
theorem accB (hc0 : ¬cond0_0 i) (hc1 : cond0_1 i) (hc2 : cond0_2 i) : sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B; dsimp only; (try sl_unfold_words)
  rw [View.canon_unit_zero hz]
  simp only [View.readAt_eq_ld, h3.read_unread, h4.read_unread, h6.read_unread, View.ld_unit_zero (S := S2048x1792) hz, View.ld_unit_zero (S := S512x1792) hz, View.ld_unit_zero (S := S2048x512) hz]
/-- What the last point of a tile stores. -/
theorem outB (hc0 : ¬cond0_0 i) (hc1 : cond0_1 i) (hc2 : cond0_2 i) : out0_B_2 c i a3 h3 a4 h4 a5 h5 a6 h6 hc0 hc1 hc2 x0 x1 xs = k0_pay2 xs x0 x1 := by
  unfold out0_B_2
  rw [View.read_writes_eq_canon _ _ _ (cover0_B_2 c i a3 h3 a4 h4 a5 h5 a6 h6 hc0 hc1 hc2 x0 x1 xs)]
  unfold kernelRun0_B; dsimp only; (try sl_unfold_words)
  rw [View.canon_unit_zero hz]
  simp only [View.readAt_eq_ld, h3.read_unread, h4.read_unread, h6.read_unread, View.ld_unit_zero (S := S2048x1792) hz, View.ld_unit_zero (S := S512x1792) hz, View.ld_unit_zero (S := S2048x512) hz]
  exact View.readCov_cons_toLoadRect ..
end Words

theorem pay1_at (x0 : FVec Ideal S2048x1792 .bf16) (x1 : FVec Ideal S512x1792 .bf16) (r : Fin 2048) (d : Fin 512) :
    k0_pay1 (F := Ideal) x0 x1 (ix2 r d) = ∑ x : Fin 1792, x0 (ix2 r x) * x1 (ix2 d x) := by
  pointwise [k0_pay1]
theorem pay2_at (xs : FVec Ideal S2048x512 .f32) (x0 : FVec Ideal S2048x1792 .bf16) (x1 : FVec Ideal S512x1792 .bf16) (r : Fin 2048) (d : Fin 512) :
    k0_pay2 (F := Ideal) xs x0 x1 (ix2 r d) = xs (ix2 r d) + ∑ x : Fin 1792, x0 (ix2 r x) * x1 (ix2 d x) := by
  pointwise [k0_pay2]

variable (m : (ℓ : Loc nD τ sig) → Buf (Elt Ideal) ℓ) (c : Dev nD)

/-- The arguments, read by their coordinates. -/
abbrev aA : Fin 8192 → Fin 3584 → EReal := fun i j => m ((c : Thread nD τ).loc main_arg0) (ix2 i j)
abbrev aB : Fin 1024 → Fin 3584 → EReal := fun i j => m ((c : Thread nD τ).loc main_arg1) (ix2 i j)

theorem ltN (t : Fin cfg0.N) : t.val < 16 := by have h := t.isLt; have e : cfg0.N = 16 := N_0; omega
/-- The row, the column and the summed coordinate a block index of point `t` stands for. -/
def row (t : Fin cfg0.N) (r : Fin 2048) : Fin 8192 := ⟨t.val / 4 * 2048 + r.val, by have := ltN t; omega⟩
def col (t : Fin cfg0.N) (d : Fin 512) : Fin 1024 := ⟨t.val / 2 % 2 * 512 + d.val, by have := ltN t; omega⟩
def dim (t : Fin cfg0.N) (x : Fin 1792) : Fin 3584 := ⟨t.val % 2 * 1792 + x.val, by omega⟩

/-- The terms of one entry of the product. -/
def entry (i : Fin 8192) (j : Fin 1024) : Fin 3584 → EReal := fun x => aA m c (i) (x) * aB m c (j) (x)
def total (i : Fin 8192) (j : Fin 1024) : EReal := ∑ x : Fin 3584, entry m c i j x
def res : Buf (Elt Ideal) ((c : Thread nD τ).loc main_v0) := fun i : S8192x1024.Idx => total m c (i 0) (i 1)

theorem idx0 : ∀ t : Fin grid0.N, win0_0.index t = ![t.val / 4, t.val % 2] := by decide +kernel
theorem idx1 : ∀ t : Fin grid0.N, win0_1.index t = ![t.val / 2 % 2, t.val % 2] := by decide +kernel
theorem idx2 : ∀ t : Fin grid0.N, win0_2.index t = ![t.val / 4, t.val / 2 % 2] := by decide +kernel
theorem rd0 (t : Fin cfg0.N) (r : Fin 2048) (x : Fin 1792) : iblk m c 0 t (ix2 r x) = m ((c : Thread nD τ).loc main_arg0) (ix2 (row t r) (dim t x)) := by
  unfold iblk
  rw [View.read_apply]
  exact congrArg (m ((c : Thread nD τ).loc main_arg0)) (idx2_ext _ _ (off0 (idx0 t) 2048 r.val) (off1 (idx0 t) 1792 x.val))
theorem rd1 (t : Fin cfg0.N) (d : Fin 512) (x : Fin 1792) : iblk m c 1 t (ix2 d x) = m ((c : Thread nD τ).loc main_arg1) (ix2 (col t d) (dim t x)) := by
  unfold iblk
  rw [View.read_apply]
  exact congrArg (m ((c : Thread nD τ).loc main_arg1)) (idx2_ext _ _ (off0 (idx1 t) 512 d.val) (off1 (idx1 t) 1792 x.val))
/-- The blocks point `t` reads, and what they hold. -/
def bA (t : Fin cfg0.N) : FVec Ideal S2048x1792 .bf16 := iblk m c 0 t
def bB (t : Fin cfg0.N) : FVec Ideal S512x1792 .bf16 := iblk m c 1 t
theorem term_at (t : Fin cfg0.N) (r : Fin 2048) (d : Fin 512) (x : Fin 1792) : bA m c t (ix2 r x) * bB m c t (ix2 d x) = entry m c (row t r) (col t d) (dim t x) := by
  refine congrArg₂ (· * ·) ?_ ?_
  · exact rd0 m c t r x
  · exact rd1 m c t d x

/-- The point before. -/
abbrev prev (t : Fin cfg0.N) : Fin cfg0.N := ⟨t.val - 1, Nat.lt_of_le_of_lt (Nat.sub_le _ _) t.isLt⟩
theorem held_first (t : Fin cfg0.N) (h : t.val % 2 = 0) : (outsAt0 m c t.val t.isLt).2 = k0_pay1 (F := Ideal) (bA m c t) (bB m c t) := by
  rw [outsAt0_A m c t h (by have := ltN t; omega) (by omega)]; dsimp only; exact accA (F := Ideal) ..
theorem held_next (t : Fin cfg0.N) (h : t.val % 2 ≠ 0) : (outsAt0 m c t.val t.isLt).2 = k0_pay2 (F := Ideal) (outsAt0 m c (prev t).val (prev t).isLt).2 (bA m c t) (bB m c t) := by
  rw [outsAt0_B m c t h (by have := ltN t; omega) (by omega)]; dsimp only; exact accB (F := Ideal) ..
theorem stored (t : Fin cfg0.N) (h : t.val % 2 = 1) : (outsAt0 m c t.val t.isLt).1 = (outsAt0 m c t.val t.isLt).2 := by
  rw [held_next m c t (by omega), outsAt0_B m c t (by omega) (by omega) h]; dsimp only; exact outB (F := Ideal) ..

/-- After `q + 1` points of a tile the accumulator holds the sum of that many stretches. -/
theorem held (q : ℕ) : ∀ (t : Fin cfg0.N), t.val % 2 = q → ∀ (r : Fin 2048) (d : Fin 512),
    (outsAt0 m c t.val t.isLt).2 (ix2 r d) = upto (entry m c (row t r) (col t d)) ((q + 1) * 1792) := by
  induction q with
  | zero =>
    intro t h r d
    rw [held_first m c t h]
    refine (pay1_at _ _ r d).trans ?_
    refine (upto_first (entry m c (row t r) (col t d)) 1792 (fun x => bA m c t (ix2 r x) * bB m c t (ix2 d x)) (by omega) fun x => ?_).symm
    refine (term_at m c t r d x).trans (congrArg _ (Fin.ext ?_))
    show t.val % 2 * 1792 + x.val = x.val
    omega
  | succ q ih =>
    intro t h r d
    have ht := ltN t
    rw [held_next m c t (by omega)]
    refine (pay2_at _ _ _ r d).trans ?_
    rw [ih (prev t) (by show (t.val - 1) % 2 = q; omega) r d]
    have er : row (prev t) r = row t r := Fin.ext (by show (t.val - 1) / 4 * 2048 + r.val = t.val / 4 * 2048 + r.val; omega)
    have ec : col (prev t) d = col t d := Fin.ext (by show (t.val - 1) / 2 % 2 * 512 + d.val = t.val / 2 % 2 * 512 + d.val; omega)
    rw [er, ec]
    refine Eq.trans ?_ ((upto_add (entry m c (row t r) (col t d)) ((q + 1) * 1792) 1792 (fun x => bA m c t (ix2 r x) * bB m c t (ix2 d x)) (by omega) fun x => ?_).symm.trans (congrArg (upto _) (by omega)))
    · rfl
    · refine (term_at m c t r d x).trans (congrArg _ (Fin.ext ?_))
      show t.val % 2 * 1792 + x.val = (q + 1) * 1792 + x.val
      omega
theorem at_out (t : Fin cfg0.N) (h : t.val % 2 = 1) (r : Fin 2048) (d : Fin 512) :
    (outsAt0 m c t.val t.isLt).1 (ix2 r d) = ∑ x : Fin 3584, entry m c (row t r) (col t d) x := by
  rw [stored m c t h, held m c 1 t h r d]
  exact upto_all _

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 2048 r.val) (off1 (idx2 t) 512 d.val)
  rw [View.read_apply, he]
  exact at_out m c t ((flush0_2 t).mp hf) r d
theorem final : (Gen.dats m 0 c).arrAt 2 cfg0.N = res m c :=
  (Gen.dats m 0 c).arrAt_eq_of_cover 2 (res m c) (flushes m c) fun i => by
    have h0 : (i 0 : Nat) < 8192 := (i 0).isLt
    have h1 : (i 1 : Nat) < 1024 := (i 1).isLt
    let t : Fin cfg0.N := ⟨(i 0).val / 2048 * 4 + (i 1).val / 512 * 2 + 1, by rw [show cfg0.N = 16 from N_0]; omega⟩
    have ht : t.val = (i 0).val / 2048 * 4 + (i 1).val / 512 * 2 + 1 := rfl
    refine ⟨t, (flush0_2 t).mpr (by show ((i 0).val / 2048 * 4 + (i 1).val / 512 * 2 + 1) % 2 = 1; omega), ?_⟩
    show i ∈ ((View.whole main_v0).slice (win0_2.rect t)).set
    rw [View.set_slice_whole, Rect.mem_set_unit]
    exact inBlock (s := ![2048, 512]) (i := fun a => (i a).val) (idx2 t) (by show (t.val / 4) * 2048 ≤ (i 0).val ∧ (i 0).val < (t.val / 4) * 2048 + 2048; omega) (by show (t.val / 2 % 2) * 512 ≤ (i 1).val ∧ (i 1).val < (t.val / 2 % 2) * 512 + 512; omega)
end Cert.AbInDxIdeal.Blocks

namespace Cert.AbInDx
open Idealize.ShloMosaic Idealize.SL.Sem AbInDxIdeal
open scoped BigOperators

/-- The reference's result, and that it is the kernel's. -/
theorem reference_at (x0 : FVec Ideal S8192x3584 .bf16) (x1 : FVec Ideal S1024x3584 .bf16) (i : Fin 8192) (j : Fin 1024) :
    AbInDxRefIdeal.Read.val_main_v4 (F := Ideal) x0 x1 (ix2 i j) = ∑ x : Fin 3584, x0 (ix2 i x) * x1 (ix2 j x) := by
  pointwise [AbInDxRefIdeal.Read.val_main_v0, AbInDxRefIdeal.Read.val_main_v1, AbInDxRefIdeal.Read.val_main_v2, AbInDxRefIdeal.Read.val_main_v3, AbInDxRefIdeal.Read.val_main_v4]

theorem algebraic : algebraic_AbInDxIdeal_AbInDxRefIdeal := by
  intro m g m' g' _ e
  refine ⟨fun c => AbInDxIdeal.Blocks.res m c, ?_, ?_⟩
  · refine (θ_run AbInDxIdeal.defs _ _).mono (fun r H c => ?_) (AbInDxIdeal.Value.run_blocks (F := Ideal) m g)
    exact ⟨(H c).1.trans (AbInDxIdeal.Blocks.final m c), (H c).2⟩
  · refine (θ_run AbInDxRefIdeal.defs _ _).mono (fun r H c => ?_) (AbInDxRefIdeal.Value.run (F := Ideal) m' g')
    refine ⟨(H c).1.trans ?_, (H c).2⟩
    rw [AbInDxRefIdeal.Read.val_main_v4_eq, (e c).1, (e c).2]
    funext i
    idx_vars i
    refine (reference_at _ _ i0 i1).trans ?_
    rfl

theorem reference_frame : quiescent_AbInDxRefIdeal := fun m ρ _ =>
  (θ_run AbInDxRefIdeal.defs _ _).mono (fun r h => ⟨fun c => (h c).2, sem_eq_zero_of_no_sems (by decide) r.2⟩) (AbInDxRefIdeal.Value.run (F := Ideal) m ρ)
end Cert.AbInDx
-- ==== Proof.AbInDw.lean ====
/- The product `b_ab_in_dw`: what its array holds after the run, and every claim about it. -/
module
public import proofs.«01_k».proof.Defs
public import proofs.«01_k».proof.Proof.Product
public import proofs.«01_k».proof.Proof.Rows
public import proofs.«01_k».proof.Proof.Gen.AbInDw.Frame
public import proofs.«01_k».proof.Proof.Gen.AbInDwIdeal.Value
public import proofs.«01_k».proof.Proof.Gen.AbInDwRefIdeal.Run
public import proofs.«01_k».proof.Proof.Gen.AbInDwRefIdeal.Read
public import Idealize.ShloMosaic.Lib.Pointwise
public import Idealize.ShloMosaic.Lib.Quiescent
@[expose] public section
set_option maxRecDepth 16384
noncomputable section
namespace Cert.AbInDwIdeal.Blocks
open Cert.AbInDwIdeal Cert.AbInDwIdeal.Gen Idealize.ShloMosaic Idealize.ShloMosaic.TcCoe Idealize.SL.Sem Cert.Product Cert.Rows
open scoped BigOperators

section Words
variable {F : FTy → Type} [FloatOps F]
variable (c : Dev nD) (i : grid0.Coords) (a3 : Memref sig .tc .vmem S1024x1024 .bf16) (h3 : a3.IsWhole) (a4 : Memref sig .tc .vmem S1024x1792 .bf16) (h4 : a4.IsWhole) (a5 : Memref sig .tc .vmem S1024x1792 .f32) (h5 : a5.IsWhole) (a6 : Memref sig .tc .vmem S1024x1792 .f32) (h6 : a6.IsWhole)
  (x0 : Vec F S1024x1024 .bf16) (x1 : Vec F S1024x1792 .bf16) (xs : Vec F S1024x1792 .f32)
/-- What a point leaves in the accumulator: its own product at a tile's first point, and later the sum so far with it. -/
theorem accA (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A; dsimp only; (try sl_unfold_words)
  rw [View.canon_unit_zero hz]
  simp only [View.readAt_eq_ld, h3.read_unread, h4.read_unread, h6.read_unread, View.ld_unit_zero (S := S1024x1024) hz, View.ld_unit_zero (S := S1024x1792) hz, View.ld_unit_zero (S := S1024x1792) hz]
theorem accB (hc0 : ¬cond0_0 i) (hc1 : cond0_1 i) (hc2 : ¬cond0_2 i) : sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B; dsimp only; (try sl_unfold_words)
  rw [View.canon_unit_zero hz]
  simp only [View.readAt_eq_ld, h3.read_unread, h4.read_unread, h6.read_unread, View.ld_unit_zero (S := S1024x1024) hz, View.ld_unit_zero (S := S1024x1792) hz, View.ld_unit_zero (S := S1024x1792) hz]
theorem accC (hc0 : ¬cond0_0 i) (hc1 : cond0_1 i) (hc2 : cond0_2 i) : sout0_C_0 c i a3 h3 a4 h4 a5 h5 a6 h6 hc0 hc1 hc2 x0 x1 xs = k0_pay2 xs x0 x1 := by
  unfold sout0_C_0
  rw [View.read_writes_eq_canon _ _ _ (scover0_C_0 c i a3 h3 a4 h4 a5 h5 a6 h6 hc0 hc1 hc2 x0 x1 xs)]
  unfold kernelRun0_C; dsimp only; (try sl_unfold_words)
  rw [View.canon_unit_zero hz]
  simp only [View.readAt_eq_ld, h3.read_unread, h4.read_unread, h6.read_unread, View.ld_unit_zero (S := S1024x1024) hz, View.ld_unit_zero (S := S1024x1792) hz, View.ld_unit_zero (S := S1024x1792) hz]
/-- What the last point of a tile stores. -/
theorem outC (hc0 : ¬cond0_0 i) (hc1 : cond0_1 i) (hc2 : cond0_2 i) : out0_C_2 c i a3 h3 a4 h4 a5 h5 a6 h6 hc0 hc1 hc2 x0 x1 xs = k0_pay2 xs x0 x1 := by
  unfold out0_C_2
  rw [View.read_writes_eq_canon _ _ _ (cover0_C_2 c i a3 h3 a4 h4 a5 h5 a6 h6 hc0 hc1 hc2 x0 x1 xs)]
  unfold kernelRun0_C; dsimp only; (try sl_unfold_words)
  rw [View.canon_unit_zero hz]
  simp only [View.readAt_eq_ld, h3.read_unread, h4.read_unread, h6.read_unread, View.ld_unit_zero (S := S1024x1024) hz, View.ld_unit_zero (S := S1024x1792) hz, View.ld_unit_zero (S := S1024x1792) hz]
  exact View.readCov_cons_toLoadRect ..
end Words

theorem pay1_at (x0 : FVec Ideal S1024x1024 .bf16) (x1 : FVec Ideal S1024x1792 .bf16) (r : Fin 1024) (d : Fin 1792) :
    k0_pay1 (F := Ideal) x0 x1 (ix2 r d) = ∑ x : Fin 1024, x0 (ix2 x r) * x1 (ix2 x d) := by
  pointwise [k0_pay1]
theorem pay2_at (xs : FVec Ideal S1024x1792 .f32) (x0 : FVec Ideal S1024x1024 .bf16) (x1 : FVec Ideal S1024x1792 .bf16) (r : Fin 1024) (d : Fin 1792) :
    k0_pay2 (F := Ideal) xs x0 x1 (ix2 r d) = xs (ix2 r d) + ∑ x : Fin 1024, x0 (ix2 x r) * x1 (ix2 x d) := by
  pointwise [k0_pay2]

variable (m : (ℓ : Loc nD τ sig) → Buf (Elt Ideal) ℓ) (c : Dev nD)

/-- The arguments, read by their coordinates. -/
abbrev aA : Fin 8192 → Fin 1024 → EReal := fun i j => m ((c : Thread nD τ).loc main_arg0) (ix2 i j)
abbrev aB : Fin 8192 → Fin 3584 → EReal := fun i j => m ((c : Thread nD τ).loc main_arg1) (ix2 i j)

theorem ltN (t : Fin cfg0.N) : t.val < 16 := by have h := t.isLt; have e : cfg0.N = 16 := N_0; omega
/-- The row, the column and the summed coordinate a block index of point `t` stands for. -/
def row (t : Fin cfg0.N) (r : Fin 1024) : Fin 1024 := ⟨t.val / 16 * 1024 + r.val, by have := ltN t; omega⟩
def col (t : Fin cfg0.N) (d : Fin 1792) : Fin 3584 := ⟨t.val / 8 % 2 * 1792 + d.val, by have := ltN t; omega⟩
def dim (t : Fin cfg0.N) (x : Fin 1024) : Fin 8192 := ⟨t.val % 8 * 1024 + x.val, by omega⟩

/-- The terms of one entry of the product. -/
def entry (i : Fin 1024) (j : Fin 3584) : Fin 8192 → EReal := fun x => aA m c (x) (i) * aB m c (x) (j)
def total (i : Fin 1024) (j : Fin 3584) : EReal := ∑ x : Fin 8192, entry m c i j x
def res : Buf (Elt Ideal) ((c : Thread nD τ).loc main_v0) := fun i : S1024x3584.Idx => total m c (i 0) (i 1)

theorem idx0 : ∀ t : Fin grid0.N, win0_0.index t = ![t.val % 8, t.val / 16] := by decide +kernel
theorem idx1 : ∀ t : Fin grid0.N, win0_1.index t = ![t.val % 8, t.val / 8 % 2] := by decide +kernel
theorem idx2 : ∀ t : Fin grid0.N, win0_2.index t = ![t.val / 16, t.val / 8 % 2] := by decide +kernel
theorem rd0 (t : Fin cfg0.N) (x : Fin 1024) (r : Fin 1024) : iblk m c 0 t (ix2 x r) = m ((c : Thread nD τ).loc main_arg0) (ix2 (dim t x) (row t r)) := by
  unfold iblk
  rw [View.read_apply]
  exact congrArg (m ((c : Thread nD τ).loc main_arg0)) (idx2_ext _ _ (off0 (idx0 t) 1024 x.val) (off1 (idx0 t) 1024 r.val))
theorem rd1 (t : Fin cfg0.N) (x : Fin 1024) (d : Fin 1792) : iblk m c 1 t (ix2 x d) = m ((c : Thread nD τ).loc main_arg1) (ix2 (dim t x) (col t d)) := by
  unfold iblk
  rw [View.read_apply]
  exact congrArg (m ((c : Thread nD τ).loc main_arg1)) (idx2_ext _ _ (off0 (idx1 t) 1024 x.val) (off1 (idx1 t) 1792 d.val))
/-- The blocks point `t` reads, and what they hold. -/
def bA (t : Fin cfg0.N) : FVec Ideal S1024x1024 .bf16 := iblk m c 0 t
def bB (t : Fin cfg0.N) : FVec Ideal S1024x1792 .bf16 := iblk m c 1 t
theorem term_at (t : Fin cfg0.N) (r : Fin 1024) (d : Fin 1792) (x : Fin 1024) : bA m c t (ix2 x r) * bB m c t (ix2 x d) = entry m c (row t r) (col t d) (dim t x) := by
  refine congrArg₂ (· * ·) ?_ ?_
  · exact rd0 m c t x r
  · exact rd1 m c t x d

/-- The point before. -/
abbrev prev (t : Fin cfg0.N) : Fin cfg0.N := ⟨t.val - 1, Nat.lt_of_le_of_lt (Nat.sub_le _ _) t.isLt⟩
theorem held_first (t : Fin cfg0.N) (h : t.val % 8 = 0) : (outsAt0 m c t.val t.isLt).2 = k0_pay1 (F := Ideal) (bA m c t) (bB m c t) := by
  rw [outsAt0_A m c t h (by have := ltN t; omega) (by omega)]; dsimp only; exact accA (F := Ideal) ..
theorem held_next (t : Fin cfg0.N) (h : t.val % 8 ≠ 0) : (outsAt0 m c t.val t.isLt).2 = k0_pay2 (F := Ideal) (outsAt0 m c (prev t).val (prev t).isLt).2 (bA m c t) (bB m c t) := by
  by_cases h2 : t.val % 8 = 7
  · rw [outsAt0_C m c t h (by have := ltN t; omega) h2]; dsimp only; exact accC (F := Ideal) ..
  · rw [outsAt0_B m c t h (by have := ltN t; omega) h2]; dsimp only; exact accB (F := Ideal) ..
theorem stored (t : Fin cfg0.N) (h : t.val % 8 = 7) : (outsAt0 m c t.val t.isLt).1 = (outsAt0 m c t.val t.isLt).2 := by
  rw [held_next m c t (by omega), outsAt0_C m c t (by omega) (by omega) h]; dsimp only; exact outC (F := Ideal) ..

/-- After `q + 1` points of a tile the accumulator holds the sum of that many stretches. -/
theorem held (q : ℕ) : ∀ (t : Fin cfg0.N), t.val % 8 = q → ∀ (r : Fin 1024) (d : Fin 1792),
    (outsAt0 m c t.val t.isLt).2 (ix2 r d) = upto (entry m c (row t r) (col t d)) ((q + 1) * 1024) := by
  induction q with
  | zero =>
    intro t h r d
    rw [held_first m c t h]
    refine (pay1_at _ _ r d).trans ?_
    refine (upto_first (entry m c (row t r) (col t d)) 1024 (fun x => bA m c t (ix2 x r) * bB m c t (ix2 x d)) (by omega) fun x => ?_).symm
    refine (term_at m c t r d x).trans (congrArg _ (Fin.ext ?_))
    show t.val % 8 * 1024 + x.val = x.val
    omega
  | succ q ih =>
    intro t h r d
    have ht := ltN t
    rw [held_next m c t (by omega)]
    refine (pay2_at _ _ _ r d).trans ?_
    rw [ih (prev t) (by show (t.val - 1) % 8 = q; omega) r d]
    have er : row (prev t) r = row t r := Fin.ext (by show (t.val - 1) / 16 * 1024 + r.val = t.val / 16 * 1024 + r.val; omega)
    have ec : col (prev t) d = col t d := Fin.ext (by show (t.val - 1) / 8 % 2 * 1792 + d.val = t.val / 8 % 2 * 1792 + d.val; omega)
    rw [er, ec]
    refine Eq.trans ?_ ((upto_add (entry m c (row t r) (col t d)) ((q + 1) * 1024) 1024 (fun x => bA m c t (ix2 x r) * bB m c t (ix2 x d)) (by omega) fun x => ?_).symm.trans (congrArg (upto _) (by omega)))
    · rfl
    · refine (term_at m c t r d x).trans (congrArg _ (Fin.ext ?_))
      show t.val % 8 * 1024 + x.val = (q + 1) * 1024 + x.val
      omega
theorem at_out (t : Fin cfg0.N) (h : t.val % 8 = 7) (r : Fin 1024) (d : Fin 1792) :
    (outsAt0 m c t.val t.isLt).1 (ix2 r d) = ∑ x : Fin 8192, entry m c (row t r) (col t d) x := by
  rw [stored m c t h, held m c 7 t h r d]
  exact upto_all _

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 1024 r.val) (off1 (idx2 t) 1792 d.val)
  rw [View.read_apply, he]
  exact at_out m c t ((flush0_2 t).mp hf) r d
theorem final : (Gen.dats m 0 c).arrAt 2 cfg0.N = res m c :=
  (Gen.dats m 0 c).arrAt_eq_of_cover 2 (res m c) (flushes m c) fun i => by
    have h0 : (i 0 : Nat) < 1024 := (i 0).isLt
    have h1 : (i 1 : Nat) < 3584 := (i 1).isLt
    let t : Fin cfg0.N := ⟨(i 0).val / 1024 * 16 + (i 1).val / 1792 * 8 + 7, by rw [show cfg0.N = 16 from N_0]; omega⟩
    have ht : t.val = (i 0).val / 1024 * 16 + (i 1).val / 1792 * 8 + 7 := rfl
    refine ⟨t, (flush0_2 t).mpr (by show ((i 0).val / 1024 * 16 + (i 1).val / 1792 * 8 + 7) % 8 = 7; omega), ?_⟩
    show i ∈ ((View.whole main_v0).slice (win0_2.rect t)).set
    rw [View.set_slice_whole, Rect.mem_set_unit]
    exact inBlock (s := ![1024, 1792]) (i := fun a => (i a).val) (idx2 t) (by show (t.val / 16) * 1024 ≤ (i 0).val ∧ (i 0).val < (t.val / 16) * 1024 + 1024; omega) (by show (t.val / 8 % 2) * 1792 ≤ (i 1).val ∧ (i 1).val < (t.val / 8 % 2) * 1792 + 1792; omega)
end Cert.AbInDwIdeal.Blocks

namespace Cert.AbInDw
open Idealize.ShloMosaic Idealize.SL.Sem AbInDwIdeal
open scoped BigOperators

/-- The reference's result, and that it is the kernel's. -/
theorem reference_at (x0 : FVec Ideal S8192x1024 .bf16) (x1 : FVec Ideal S8192x3584 .bf16) (i : Fin 1024) (j : Fin 3584) :
    AbInDwRefIdeal.Read.val_main_v5 (F := Ideal) x0 x1 (ix2 i j) = ∑ x : Fin 8192, x1 (ix2 x j) * x0 (ix2 x i) := by
  pointwise [AbInDwRefIdeal.Read.val_main_v0, AbInDwRefIdeal.Read.val_main_v1, AbInDwRefIdeal.Read.val_main_v2, AbInDwRefIdeal.Read.val_main_v3, AbInDwRefIdeal.Read.val_main_v4, AbInDwRefIdeal.Read.val_main_v5]

theorem algebraic : algebraic_AbInDwIdeal_AbInDwRefIdeal := by
  intro m g m' g' _ e
  refine ⟨fun c => AbInDwIdeal.Blocks.res m c, ?_, ?_⟩
  · refine (θ_run AbInDwIdeal.defs _ _).mono (fun r H c => ?_) (AbInDwIdeal.Value.run_blocks (F := Ideal) m g)
    exact ⟨(H c).1.trans (AbInDwIdeal.Blocks.final m c), (H c).2⟩
  · refine (θ_run AbInDwRefIdeal.defs _ _).mono (fun r H c => ?_) (AbInDwRefIdeal.Value.run (F := Ideal) m' g')
    refine ⟨(H c).1.trans ?_, (H c).2⟩
    rw [AbInDwRefIdeal.Read.val_main_v5_eq, (e c).1, (e c).2]
    funext i
    idx_vars i
    refine (reference_at _ _ i0 i1).trans ?_
    exact Finset.sum_congr rfl fun x _ => mul_comm (G := EReal) _ _

theorem reference_frame : quiescent_AbInDwRefIdeal := fun m ρ _ =>
  (θ_run AbInDwRefIdeal.defs _ _).mono (fun r h => ⟨fun c => (h c).2, sem_eq_zero_of_no_sems (by decide) r.2⟩) (AbInDwRefIdeal.Value.run (F := Ideal) m ρ)
end Cert.AbInDw
-- ==== Proof.GluDx.lean ====
/- The product `b_s5_glu_dx`: what its array holds after the run, and every claim about it. -/
module
public import proofs.«01_k».proof.Defs
public import proofs.«01_k».proof.Proof.Product
public import proofs.«01_k».proof.Proof.Rows
public import proofs.«01_k».proof.Proof.Gen.GluDx.Frame
public import proofs.«01_k».proof.Proof.Gen.GluDxIdeal.Value
public import proofs.«01_k».proof.Proof.Gen.GluDxRefIdeal.Run
public import proofs.«01_k».proof.Proof.Gen.GluDxRefIdeal.Read
public import Idealize.ShloMosaic.Lib.Pointwise
public import Idealize.ShloMosaic.Lib.Quiescent
@[expose] public section
set_option maxRecDepth 16384
noncomputable section
namespace Cert.GluDxIdeal.Blocks
open Cert.GluDxIdeal Cert.GluDxIdeal.Gen Idealize.ShloMosaic Idealize.ShloMosaic.TcCoe Idealize.SL.Sem Cert.Product Cert.Rows
open scoped BigOperators

theorem outW {F : FTy → Type} [FloatOps F] (x0 : Vec F S2048x2048 .bf16) (x1 : Vec F S512x2048 .bf16) : out0_2 x0 x1 = k0_pay1 x0 x1 := by
  unfold out0_2
  rw [View.canon_unit_zero hz]
  simp only [View.ld_unit_zero (S := S2048x2048) hz, View.ld_unit_zero (S := S512x2048) hz]

theorem pay1_at (x0 : FVec Ideal S2048x2048 .bf16) (x1 : FVec Ideal S512x2048 .bf16) (r : Fin 2048) (d : Fin 512) :
    k0_pay1 (F := Ideal) x0 x1 (ix2 r d) = ∑ x : Fin 2048, x0 (ix2 r x) * x1 (ix2 d x) := by
  pointwise [k0_pay1]

variable (m : (ℓ : Loc nD τ sig) → Buf (Elt Ideal) ℓ) (c : Dev nD)

/-- The arguments, read by their coordinates. -/
abbrev aA : Fin 8192 → Fin 2048 → EReal := fun i j => m ((c : Thread nD τ).loc main_arg0) (ix2 i j)
abbrev aB : Fin 1024 → Fin 2048 → EReal := fun i j => m ((c : Thread nD τ).loc main_arg1) (ix2 i j)

theorem ltN (t : Fin cfg0.N) : t.val < 8 := by have h := t.isLt; have e : cfg0.N = 8 := N_0; omega
/-- The row, the column and the summed coordinate a block index of point `t` stands for. -/
def row (t : Fin cfg0.N) (r : Fin 2048) : Fin 8192 := ⟨t.val / 2 * 2048 + r.val, by have := ltN t; omega⟩
def col (t : Fin cfg0.N) (d : Fin 512) : Fin 1024 := ⟨t.val / 1 % 2 * 512 + d.val, by have := ltN t; omega⟩
def dim (t : Fin cfg0.N) (x : Fin 2048) : Fin 2048 := ⟨x.val, by omega⟩

/-- The terms of one entry of the product. -/
def entry (i : Fin 8192) (j : Fin 1024) : Fin 2048 → EReal := fun x => aA m c (i) (x) * aB m c (j) (x)
def total (i : Fin 8192) (j : Fin 1024) : EReal := ∑ x : Fin 2048, entry m c i j x
def res : Buf (Elt Ideal) ((c : Thread nD τ).loc main_v0) := fun i : S8192x1024.Idx => total m c (i 0) (i 1)

theorem idx0 : ∀ t : Fin grid0.N, win0_0.index t = ![t.val / 2, 0] := by decide +kernel
theorem idx1 : ∀ t : Fin grid0.N, win0_1.index t = ![t.val / 1 % 2, 0] := by decide +kernel
theorem idx2 : ∀ t : Fin grid0.N, win0_2.index t = ![t.val / 2, t.val / 1 % 2] := by decide +kernel
theorem rd0 (t : Fin cfg0.N) (r : Fin 2048) (x : Fin 2048) : iblk m c 0 t (ix2 r x) = m ((c : Thread nD τ).loc main_arg0) (ix2 (row t r) (dim t x)) := by
  unfold iblk
  rw [View.read_apply]
  exact congrArg (m ((c : Thread nD τ).loc main_arg0)) (idx2_ext _ _ (off0 (idx0 t) 2048 r.val) (off1z (idx0 t) 2048 x.val))
theorem rd1 (t : Fin cfg0.N) (d : Fin 512) (x : Fin 2048) : iblk m c 1 t (ix2 d x) = m ((c : Thread nD τ).loc main_arg1) (ix2 (col t d) (dim t x)) := by
  unfold iblk
  rw [View.read_apply]
  exact congrArg (m ((c : Thread nD τ).loc main_arg1)) (idx2_ext _ _ (off0 (idx1 t) 512 d.val) (off1z (idx1 t) 2048 x.val))
/-- The blocks point `t` reads, and what they hold. -/
def bA (t : Fin cfg0.N) : FVec Ideal S2048x2048 .bf16 := iblk m c 0 t
def bB (t : Fin cfg0.N) : FVec Ideal S512x2048 .bf16 := iblk m c 1 t
theorem term_at (t : Fin cfg0.N) (r : Fin 2048) (d : Fin 512) (x : Fin 2048) : bA m c t (ix2 r x) * bB m c t (ix2 d x) = entry m c (row t r) (col t d) (dim t x) := by
  refine congrArg₂ (· * ·) ?_ ?_
  · exact rd0 m c t r x
  · exact rd1 m c t d x
theorem at_out (t : Fin cfg0.N) (r : Fin 2048) (d : Fin 512) :
    out0_2 (F := Ideal) (bA m c t) (bB m c t) (ix2 r d) = ∑ x : Fin 2048, entry m c (row t r) (col t d) x := by
  rw [outW]
  refine (pay1_at _ _ r d).trans (Finset.sum_congr rfl fun x _ => ?_)
  refine (term_at m c t r d x).trans (congrArg _ (Fin.ext ?_))
  show x.val = x.val
  omega

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 2048 r.val) (off1 (idx2 t) 512 d.val)
  rw [View.read_apply, he]
  exact at_out m c t r d
theorem final : (Gen.dats m 0 c).arrAt 2 cfg0.N = res m c :=
  (Gen.dats m 0 c).arrAt_eq_of_cover 2 (res m c) (flushes m c) fun i => by
    have h0 : (i 0 : Nat) < 8192 := (i 0).isLt
    have h1 : (i 1 : Nat) < 1024 := (i 1).isLt
    let t : Fin cfg0.N := ⟨(i 0).val / 2048 * 2 + (i 1).val / 512 * 1, by rw [show cfg0.N = 8 from N_0]; omega⟩
    have ht : t.val = (i 0).val / 2048 * 2 + (i 1).val / 512 * 1 := rfl
    refine ⟨t, flush0_2 t, ?_⟩
    show i ∈ ((View.whole main_v0).slice (win0_2.rect t)).set
    rw [View.set_slice_whole, Rect.mem_set_unit]
    exact inBlock (s := ![2048, 512]) (i := fun a => (i a).val) (idx2 t) (by show (t.val / 2) * 2048 ≤ (i 0).val ∧ (i 0).val < (t.val / 2) * 2048 + 2048; omega) (by show (t.val / 1 % 2) * 512 ≤ (i 1).val ∧ (i 1).val < (t.val / 1 % 2) * 512 + 512; omega)
end Cert.GluDxIdeal.Blocks

namespace Cert.GluDx
open Idealize.ShloMosaic Idealize.SL.Sem GluDxIdeal
open scoped BigOperators

/-- The reference's result, and that it is the kernel's. -/
theorem reference_at (x0 : FVec Ideal S8192x2048 .bf16) (x1 : FVec Ideal S1024x2048 .bf16) (i : Fin 8192) (j : Fin 1024) :
    GluDxRefIdeal.Read.val_main_v4 (F := Ideal) x0 x1 (ix2 i j) = ∑ x : Fin 2048, x0 (ix2 i x) * x1 (ix2 j x) := by
  pointwise [GluDxRefIdeal.Read.val_main_v0, GluDxRefIdeal.Read.val_main_v1, GluDxRefIdeal.Read.val_main_v2, GluDxRefIdeal.Read.val_main_v3, GluDxRefIdeal.Read.val_main_v4]

theorem algebraic : algebraic_GluDxIdeal_GluDxRefIdeal := by
  intro m g m' g' _ e
  refine ⟨fun c => GluDxIdeal.Blocks.res m c, ?_, ?_⟩
  · refine (θ_run GluDxIdeal.defs _ _).mono (fun r H c => ?_) (GluDxIdeal.Value.run_blocks (F := Ideal) m g)
    exact ⟨(H c).1.trans (GluDxIdeal.Blocks.final m c), (H c).2⟩
  · refine (θ_run GluDxRefIdeal.defs _ _).mono (fun r H c => ?_) (GluDxRefIdeal.Value.run (F := Ideal) m' g')
    refine ⟨(H c).1.trans ?_, (H c).2⟩
    rw [GluDxRefIdeal.Read.val_main_v4_eq, (e c).1, (e c).2]
    funext i
    idx_vars i
    refine (reference_at _ _ i0 i1).trans ?_
    rfl

theorem reference_frame : quiescent_GluDxRefIdeal := fun m ρ _ =>
  (θ_run GluDxRefIdeal.defs _ _).mono (fun r h => ⟨fun c => (h c).2, sem_eq_zero_of_no_sems (by decide) r.2⟩) (GluDxRefIdeal.Value.run (F := Ideal) m ρ)
end Cert.GluDx
-- ==== Proof.GluDw.lean ====
/- The product `b_s5_glu_dw`: what its array holds after the run, and every claim about it. -/
module
public import proofs.«01_k».proof.Defs
public import proofs.«01_k».proof.Proof.Product
public import proofs.«01_k».proof.Proof.Rows
public import proofs.«01_k».proof.Proof.Gen.GluDw.Frame
public import proofs.«01_k».proof.Proof.Gen.GluDwIdeal.Value
public import proofs.«01_k».proof.Proof.Gen.GluDwRefIdeal.Run
public import proofs.«01_k».proof.Proof.Gen.GluDwRefIdeal.Read
public import Idealize.ShloMosaic.Lib.Pointwise
public import Idealize.ShloMosaic.Lib.Quiescent
@[expose] public section
set_option maxRecDepth 16384
noncomputable section
namespace Cert.GluDwIdeal.Blocks
open Cert.GluDwIdeal Cert.GluDwIdeal.Gen Idealize.ShloMosaic Idealize.ShloMosaic.TcCoe Idealize.SL.Sem Cert.Product Cert.Rows
open scoped BigOperators

section Words
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x0 x1 : Vec F S1024x1024 .bf16) (xs : Vec F S1024x1024 .f32)
/-- What a point leaves in the accumulator: its own product at a tile's first point, and later the sum so far with it. -/
theorem accA (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A; dsimp only; (try sl_unfold_words)
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]
theorem accB (hc0 : ¬cond0_0 i) (hc1 : cond0_1 i) (hc2 : ¬cond0_2 i) : sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B; dsimp only; (try sl_unfold_words)
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]
theorem accC (hc0 : ¬cond0_0 i) (hc1 : cond0_1 i) (hc2 : cond0_2 i) : sout0_C_0 c i a3 h3 a4 h4 a5 h5 a6 h6 hc0 hc1 hc2 x0 x1 xs = k0_pay2 xs x0 x1 := by
  unfold sout0_C_0
  rw [View.read_writes_eq_canon _ _ _ (scover0_C_0 c i a3 h3 a4 h4 a5 h5 a6 h6 hc0 hc1 hc2 x0 x1 xs)]
  unfold kernelRun0_C; dsimp only; (try sl_unfold_words)
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]
/-- What the last point of a tile stores. -/
theorem outC (hc0 : ¬cond0_0 i) (hc1 : cond0_1 i) (hc2 : cond0_2 i) : out0_C_2 c i a3 h3 a4 h4 a5 h5 a6 h6 hc0 hc1 hc2 x0 x1 xs = k0_pay2 xs x0 x1 := by
  unfold out0_C_2
  rw [View.read_writes_eq_canon _ _ _ (cover0_C_2 c i a3 h3 a4 h4 a5 h5 a6 h6 hc0 hc1 hc2 x0 x1 xs)]
  unfold kernelRun0_C; dsimp only; (try sl_unfold_words)
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]
  exact View.readCov_cons_toLoadRect ..
end Words

theorem pay1_at (x0 x1 : FVec Ideal S1024x1024 .bf16) (r : Fin 1024) (d : Fin 1024) :
    k0_pay1 (F := Ideal) x0 x1 (ix2 r d) = ∑ x : Fin 1024, x0 (ix2 x r) * x1 (ix2 x d) := by
  pointwise [k0_pay1]
theorem pay2_at (xs : FVec Ideal S1024x1024 .f32) (x0 x1 : FVec Ideal S1024x1024 .bf16) (r : Fin 1024) (d : Fin 1024) :
    k0_pay2 (F := Ideal) xs x0 x1 (ix2 r d) = xs (ix2 r d) + ∑ x : Fin 1024, x0 (ix2 x r) * x1 (ix2 x d) := by
  pointwise [k0_pay2]

variable (m : (ℓ : Loc nD τ sig) → Buf (Elt Ideal) ℓ) (c : Dev nD)

/-- The arguments, read by their coordinates. -/
abbrev aA : Fin 8192 → Fin 1024 → EReal := fun i j => m ((c : Thread nD τ).loc main_arg0) (ix2 i j)
abbrev aB : Fin 8192 → Fin 2048 → EReal := fun i j => m ((c : Thread nD τ).loc main_arg1) (ix2 i j)

theorem ltN (t : Fin cfg0.N) : t.val < 16 := by have h := t.isLt; have e : cfg0.N = 16 := N_0; omega
/-- The row, the column and the summed coordinate a block index of point `t` stands for. -/
def row (t : Fin cfg0.N) (r : Fin 1024) : Fin 1024 := ⟨t.val / 16 * 1024 + r.val, by have := ltN t; omega⟩
def col (t : Fin cfg0.N) (d : Fin 1024) : Fin 2048 := ⟨t.val / 8 % 2 * 1024 + d.val, by have := ltN t; omega⟩
def dim (t : Fin cfg0.N) (x : Fin 1024) : Fin 8192 := ⟨t.val % 8 * 1024 + x.val, by omega⟩

/-- The terms of one entry of the product. -/
def entry (i : Fin 1024) (j : Fin 2048) : Fin 8192 → EReal := fun x => aA m c (x) (i) * aB m c (x) (j)
def total (i : Fin 1024) (j : Fin 2048) : EReal := ∑ x : Fin 8192, entry m c i j x
def res : Buf (Elt Ideal) ((c : Thread nD τ).loc main_v0) := fun i : S1024x2048.Idx => total m c (i 0) (i 1)

theorem idx0 : ∀ t : Fin grid0.N, win0_0.index t = ![t.val % 8, t.val / 16] := by decide +kernel
theorem idx1 : ∀ t : Fin grid0.N, win0_1.index t = ![t.val % 8, t.val / 8 % 2] := by decide +kernel
theorem idx2 : ∀ t : Fin grid0.N, win0_2.index t = ![t.val / 16, t.val / 8 % 2] := by decide +kernel
theorem rd0 (t : Fin cfg0.N) (x : Fin 1024) (r : Fin 1024) : iblk m c 0 t (ix2 x r) = m ((c : Thread nD τ).loc main_arg0) (ix2 (dim t x) (row t r)) := by
  unfold iblk
  rw [View.read_apply]
  exact congrArg (m ((c : Thread nD τ).loc main_arg0)) (idx2_ext _ _ (off0 (idx0 t) 1024 x.val) (off1 (idx0 t) 1024 r.val))
theorem rd1 (t : Fin cfg0.N) (x : Fin 1024) (d : Fin 1024) : iblk m c 1 t (ix2 x d) = m ((c : Thread nD τ).loc main_arg1) (ix2 (dim t x) (col t d)) := by
  unfold iblk
  rw [View.read_apply]
  exact congrArg (m ((c : Thread nD τ).loc main_arg1)) (idx2_ext _ _ (off0 (idx1 t) 1024 x.val) (off1 (idx1 t) 1024 d.val))
/-- The blocks point `t` reads, and what they hold. -/
def bA (t : Fin cfg0.N) : FVec Ideal S1024x1024 .bf16 := iblk m c 0 t
def bB (t : Fin cfg0.N) : FVec Ideal S1024x1024 .bf16 := iblk m c 1 t
theorem term_at (t : Fin cfg0.N) (r : Fin 1024) (d : Fin 1024) (x : Fin 1024) : bA m c t (ix2 x r) * bB m c t (ix2 x d) = entry m c (row t r) (col t d) (dim t x) := by
  refine congrArg₂ (· * ·) ?_ ?_
  · exact rd0 m c t x r
  · exact rd1 m c t x d

/-- The point before. -/
abbrev prev (t : Fin cfg0.N) : Fin cfg0.N := ⟨t.val - 1, Nat.lt_of_le_of_lt (Nat.sub_le _ _) t.isLt⟩
theorem held_first (t : Fin cfg0.N) (h : t.val % 8 = 0) : (outsAt0 m c t.val t.isLt).2 = k0_pay1 (F := Ideal) (bA m c t) (bB m c t) := by
  rw [outsAt0_A m c t h (by have := ltN t; omega) (by omega)]; dsimp only; exact accA (F := Ideal) ..
theorem held_next (t : Fin cfg0.N) (h : t.val % 8 ≠ 0) : (outsAt0 m c t.val t.isLt).2 = k0_pay2 (F := Ideal) (outsAt0 m c (prev t).val (prev t).isLt).2 (bA m c t) (bB m c t) := by
  by_cases h2 : t.val % 8 = 7
  · rw [outsAt0_C m c t h (by have := ltN t; omega) h2]; dsimp only; exact accC (F := Ideal) ..
  · rw [outsAt0_B m c t h (by have := ltN t; omega) h2]; dsimp only; exact accB (F := Ideal) ..
theorem stored (t : Fin cfg0.N) (h : t.val % 8 = 7) : (outsAt0 m c t.val t.isLt).1 = (outsAt0 m c t.val t.isLt).2 := by
  rw [held_next m c t (by omega), outsAt0_C m c t (by omega) (by omega) h]; dsimp only; exact outC (F := Ideal) ..

/-- After `q + 1` points of a tile the accumulator holds the sum of that many stretches. -/
theorem held (q : ℕ) : ∀ (t : Fin cfg0.N), t.val % 8 = q → ∀ (r : Fin 1024) (d : Fin 1024),
    (outsAt0 m c t.val t.isLt).2 (ix2 r d) = upto (entry m c (row t r) (col t d)) ((q + 1) * 1024) := by
  induction q with
  | zero =>
    intro t h r d
    rw [held_first m c t h]
    refine (pay1_at _ _ r d).trans ?_
    refine (upto_first (entry m c (row t r) (col t d)) 1024 (fun x => bA m c t (ix2 x r) * bB m c t (ix2 x d)) (by omega) fun x => ?_).symm
    refine (term_at m c t r d x).trans (congrArg _ (Fin.ext ?_))
    show t.val % 8 * 1024 + x.val = x.val
    omega
  | succ q ih =>
    intro t h r d
    have ht := ltN t
    rw [held_next m c t (by omega)]
    refine (pay2_at _ _ _ r d).trans ?_
    rw [ih (prev t) (by show (t.val - 1) % 8 = q; omega) r d]
    have er : row (prev t) r = row t r := Fin.ext (by show (t.val - 1) / 16 * 1024 + r.val = t.val / 16 * 1024 + r.val; omega)
    have ec : col (prev t) d = col t d := Fin.ext (by show (t.val - 1) / 8 % 2 * 1024 + d.val = t.val / 8 % 2 * 1024 + d.val; omega)
    rw [er, ec]
    refine Eq.trans ?_ ((upto_add (entry m c (row t r) (col t d)) ((q + 1) * 1024) 1024 (fun x => bA m c t (ix2 x r) * bB m c t (ix2 x d)) (by omega) fun x => ?_).symm.trans (congrArg (upto _) (by omega)))
    · rfl
    · refine (term_at m c t r d x).trans (congrArg _ (Fin.ext ?_))
      show t.val % 8 * 1024 + x.val = (q + 1) * 1024 + x.val
      omega
theorem at_out (t : Fin cfg0.N) (h : t.val % 8 = 7) (r : Fin 1024) (d : Fin 1024) :
    (outsAt0 m c t.val t.isLt).1 (ix2 r d) = ∑ x : Fin 8192, entry m c (row t r) (col t d) x := by
  rw [stored m c t h, held m c 7 t h r d]
  exact upto_all _

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 1024 r.val) (off1 (idx2 t) 1024 d.val)
  rw [View.read_apply, he]
  exact at_out m c t ((flush0_2 t).mp hf) r d
theorem final : (Gen.dats m 0 c).arrAt 2 cfg0.N = res m c :=
  (Gen.dats m 0 c).arrAt_eq_of_cover 2 (res m c) (flushes m c) fun i => by
    have h0 : (i 0 : Nat) < 1024 := (i 0).isLt
    have h1 : (i 1 : Nat) < 2048 := (i 1).isLt
    let t : Fin cfg0.N := ⟨(i 0).val / 1024 * 16 + (i 1).val / 1024 * 8 + 7, by rw [show cfg0.N = 16 from N_0]; omega⟩
    have ht : t.val = (i 0).val / 1024 * 16 + (i 1).val / 1024 * 8 + 7 := rfl
    refine ⟨t, (flush0_2 t).mpr (by show ((i 0).val / 1024 * 16 + (i 1).val / 1024 * 8 + 7) % 8 = 7; omega), ?_⟩
    show i ∈ ((View.whole main_v0).slice (win0_2.rect t)).set
    rw [View.set_slice_whole, Rect.mem_set_unit]
    exact inBlock (s := ![1024, 1024]) (i := fun a => (i a).val) (idx2 t) (by show (t.val / 16) * 1024 ≤ (i 0).val ∧ (i 0).val < (t.val / 16) * 1024 + 1024; omega) (by show (t.val / 8 % 2) * 1024 ≤ (i 1).val ∧ (i 1).val < (t.val / 8 % 2) * 1024 + 1024; omega)
end Cert.GluDwIdeal.Blocks

namespace Cert.GluDw
open Idealize.ShloMosaic Idealize.SL.Sem GluDwIdeal
open scoped BigOperators

/-- The reference's result, and that it is the kernel's. -/
theorem reference_at (x0 : FVec Ideal S8192x1024 .bf16) (x1 : FVec Ideal S8192x2048 .bf16) (i : Fin 1024) (j : Fin 2048) :
    GluDwRefIdeal.Read.val_main_v5 (F := Ideal) x0 x1 (ix2 i j) = ∑ x : Fin 8192, x1 (ix2 x j) * x0 (ix2 x i) := by
  pointwise [GluDwRefIdeal.Read.val_main_v0, GluDwRefIdeal.Read.val_main_v1, GluDwRefIdeal.Read.val_main_v2, GluDwRefIdeal.Read.val_main_v3, GluDwRefIdeal.Read.val_main_v4, GluDwRefIdeal.Read.val_main_v5]

theorem algebraic : algebraic_GluDwIdeal_GluDwRefIdeal := by
  intro m g m' g' _ e
  refine ⟨fun c => GluDwIdeal.Blocks.res m c, ?_, ?_⟩
  · refine (θ_run GluDwIdeal.defs _ _).mono (fun r H c => ?_) (GluDwIdeal.Value.run_blocks (F := Ideal) m g)
    exact ⟨(H c).1.trans (GluDwIdeal.Blocks.final m c), (H c).2⟩
  · refine (θ_run GluDwRefIdeal.defs _ _).mono (fun r H c => ?_) (GluDwRefIdeal.Value.run (F := Ideal) m' g')
    refine ⟨(H c).1.trans ?_, (H c).2⟩
    rw [GluDwRefIdeal.Read.val_main_v5_eq, (e c).1, (e c).2]
    funext i
    idx_vars i
    refine (reference_at _ _ i0 i1).trans ?_
    exact Finset.sum_congr rfl fun x _ => mul_comm (G := EReal) _ _

theorem reference_frame : quiescent_GluDwRefIdeal := fun m ρ _ =>
  (θ_run GluDwRefIdeal.defs _ _).mono (fun r h => ⟨fun c => (h c).2, sem_eq_zero_of_no_sems (by decide) r.2⟩) (GluDwRefIdeal.Value.run (F := Ideal) m ρ)
end Cert.GluDw
-- ==== Proof.XqDx.lean ====
/- The product `b_xq_dx`: what its array holds after the run, and every claim about it. -/
module
public import proofs.«01_k».proof.Defs
public import proofs.«01_k».proof.Proof.Product
public import proofs.«01_k».proof.Proof.Rows
public import proofs.«01_k».proof.Proof.Gen.XqDx.Frame
public import proofs.«01_k».proof.Proof.Gen.XqDxIdeal.Value
public import proofs.«01_k».proof.Proof.Gen.XqDxRefIdeal.Run
public import proofs.«01_k».proof.Proof.Gen.XqDxRefIdeal.Read
public import Idealize.ShloMosaic.Lib.Pointwise
public import Idealize.ShloMosaic.Lib.Quiescent
@[expose] public section
set_option maxRecDepth 16384
noncomputable section
namespace Cert.XqDxIdeal.Blocks
open Cert.XqDxIdeal Cert.XqDxIdeal.Gen Idealize.ShloMosaic Idealize.ShloMosaic.TcCoe Idealize.SL.Sem Cert.Product Cert.Rows
open scoped BigOperators

theorem outW {F : FTy → Type} [FloatOps F] (x0 : Vec F S2048x1024 .bf16) (x1 : Vec F S512x1024 .bf16) : out0_2 x0 x1 = k0_pay1 x0 x1 := by
  unfold out0_2
  rw [View.canon_unit_zero hz]
  simp only [View.ld_unit_zero (S := S2048x1024) hz, View.ld_unit_zero (S := S512x1024) hz]

theorem pay1_at (x0 : FVec Ideal S2048x1024 .bf16) (x1 : FVec Ideal S512x1024 .bf16) (r : Fin 2048) (d : Fin 512) :
    k0_pay1 (F := Ideal) x0 x1 (ix2 r d) = ∑ x : Fin 1024, x0 (ix2 r x) * x1 (ix2 d x) := by
  pointwise [k0_pay1]

variable (m : (ℓ : Loc nD τ sig) → Buf (Elt Ideal) ℓ) (c : Dev nD)

/-- The arguments, read by their coordinates. -/
abbrev aA : Fin 8192 → Fin 1024 → EReal := fun i j => m ((c : Thread nD τ).loc main_arg0) (ix2 i j)
abbrev aB : Fin 1024 → Fin 1024 → EReal := fun i j => m ((c : Thread nD τ).loc main_arg1) (ix2 i j)

theorem ltN (t : Fin cfg0.N) : t.val < 8 := by have h := t.isLt; have e : cfg0.N = 8 := N_0; omega
/-- The row, the column and the summed coordinate a block index of point `t` stands for. -/
def row (t : Fin cfg0.N) (r : Fin 2048) : Fin 8192 := ⟨t.val / 2 * 2048 + r.val, by have := ltN t; omega⟩
def col (t : Fin cfg0.N) (d : Fin 512) : Fin 1024 := ⟨t.val / 1 % 2 * 512 + d.val, by have := ltN t; omega⟩
def dim (t : Fin cfg0.N) (x : Fin 1024) : Fin 1024 := ⟨x.val, by omega⟩

/-- The terms of one entry of the product. -/
def entry (i : Fin 8192) (j : Fin 1024) : Fin 1024 → EReal := fun x => aA m c (i) (x) * aB m c (j) (x)
def total (i : Fin 8192) (j : Fin 1024) : EReal := ∑ x : Fin 1024, entry m c i j x
def res : Buf (Elt Ideal) ((c : Thread nD τ).loc main_v0) := fun i : S8192x1024.Idx => total m c (i 0) (i 1)

theorem idx0 : ∀ t : Fin grid0.N, win0_0.index t = ![t.val / 2, 0] := by decide +kernel
theorem idx1 : ∀ t : Fin grid0.N, win0_1.index t = ![t.val / 1 % 2, 0] := by decide +kernel
theorem idx2 : ∀ t : Fin grid0.N, win0_2.index t = ![t.val / 2, t.val / 1 % 2] := by decide +kernel
theorem rd0 (t : Fin cfg0.N) (r : Fin 2048) (x : Fin 1024) : iblk m c 0 t (ix2 r x) = m ((c : Thread nD τ).loc main_arg0) (ix2 (row t r) (dim t x)) := by
  unfold iblk
  rw [View.read_apply]
  exact congrArg (m ((c : Thread nD τ).loc main_arg0)) (idx2_ext _ _ (off0 (idx0 t) 2048 r.val) (off1z (idx0 t) 1024 x.val))
theorem rd1 (t : Fin cfg0.N) (d : Fin 512) (x : Fin 1024) : iblk m c 1 t (ix2 d x) = m ((c : Thread nD τ).loc main_arg1) (ix2 (col t d) (dim t x)) := by
  unfold iblk
  rw [View.read_apply]
  exact congrArg (m ((c : Thread nD τ).loc main_arg1)) (idx2_ext _ _ (off0 (idx1 t) 512 d.val) (off1z (idx1 t) 1024 x.val))
/-- The blocks point `t` reads, and what they hold. -/
def bA (t : Fin cfg0.N) : FVec Ideal S2048x1024 .bf16 := iblk m c 0 t
def bB (t : Fin cfg0.N) : FVec Ideal S512x1024 .bf16 := iblk m c 1 t
theorem term_at (t : Fin cfg0.N) (r : Fin 2048) (d : Fin 512) (x : Fin 1024) : bA m c t (ix2 r x) * bB m c t (ix2 d x) = entry m c (row t r) (col t d) (dim t x) := by
  refine congrArg₂ (· * ·) ?_ ?_
  · exact rd0 m c t r x
  · exact rd1 m c t d x
theorem at_out (t : Fin cfg0.N) (r : Fin 2048) (d : Fin 512) :
    out0_2 (F := Ideal) (bA m c t) (bB m c t) (ix2 r d) = ∑ x : Fin 1024, entry m c (row t r) (col t d) x := by
  rw [outW]
  refine (pay1_at _ _ r d).trans (Finset.sum_congr rfl fun x _ => ?_)
  refine (term_at m c t r d x).trans (congrArg _ (Fin.ext ?_))
  show x.val = x.val
  omega

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 2048 r.val) (off1 (idx2 t) 512 d.val)
  rw [View.read_apply, he]
  exact at_out m c t r d
theorem final : (Gen.dats m 0 c).arrAt 2 cfg0.N = res m c :=
  (Gen.dats m 0 c).arrAt_eq_of_cover 2 (res m c) (flushes m c) fun i => by
    have h0 : (i 0 : Nat) < 8192 := (i 0).isLt
    have h1 : (i 1 : Nat) < 1024 := (i 1).isLt
    let t : Fin cfg0.N := ⟨(i 0).val / 2048 * 2 + (i 1).val / 512 * 1, by rw [show cfg0.N = 8 from N_0]; omega⟩
    have ht : t.val = (i 0).val / 2048 * 2 + (i 1).val / 512 * 1 := rfl
    refine ⟨t, flush0_2 t, ?_⟩
    show i ∈ ((View.whole main_v0).slice (win0_2.rect t)).set
    rw [View.set_slice_whole, Rect.mem_set_unit]
    exact inBlock (s := ![2048, 512]) (i := fun a => (i a).val) (idx2 t) (by show (t.val / 2) * 2048 ≤ (i 0).val ∧ (i 0).val < (t.val / 2) * 2048 + 2048; omega) (by show (t.val / 1 % 2) * 512 ≤ (i 1).val ∧ (i 1).val < (t.val / 1 % 2) * 512 + 512; omega)
end Cert.XqDxIdeal.Blocks

namespace Cert.XqDx
open Idealize.ShloMosaic Idealize.SL.Sem XqDxIdeal
open scoped BigOperators

/-- The reference's result, and that it is the kernel's. -/
theorem reference_at (x0 : FVec Ideal S8192x1024 .bf16) (x1 : FVec Ideal S1024x1024 .bf16) (i : Fin 8192) (j : Fin 1024) :
    XqDxRefIdeal.Read.val_main_v4 (F := Ideal) x0 x1 (ix2 i j) = ∑ x : Fin 1024, x0 (ix2 i x) * x1 (ix2 j x) := by
  pointwise [XqDxRefIdeal.Read.val_main_v0, XqDxRefIdeal.Read.val_main_v1, XqDxRefIdeal.Read.val_main_v2, XqDxRefIdeal.Read.val_main_v3, XqDxRefIdeal.Read.val_main_v4]

theorem algebraic : algebraic_XqDxIdeal_XqDxRefIdeal := by
  intro m g m' g' _ e
  refine ⟨fun c => XqDxIdeal.Blocks.res m c, ?_, ?_⟩
  · refine (θ_run XqDxIdeal.defs _ _).mono (fun r H c => ?_) (XqDxIdeal.Value.run_blocks (F := Ideal) m g)
    exact ⟨(H c).1.trans (XqDxIdeal.Blocks.final m c), (H c).2⟩
  · refine (θ_run XqDxRefIdeal.defs _ _).mono (fun r H c => ?_) (XqDxRefIdeal.Value.run (F := Ideal) m' g')
    refine ⟨(H c).1.trans ?_, (H c).2⟩
    rw [XqDxRefIdeal.Read.val_main_v4_eq, (e c).1, (e c).2]
    funext i
    idx_vars i
    refine (reference_at _ _ i0 i1).trans ?_
    rfl

theorem reference_frame : quiescent_XqDxRefIdeal := fun m ρ _ =>
  (θ_run XqDxRefIdeal.defs _ _).mono (fun r h => ⟨fun c => (h c).2, sem_eq_zero_of_no_sems (by decide) r.2⟩) (XqDxRefIdeal.Value.run (F := Ideal) m ρ)
end Cert.XqDx
-- ==== Proof.XqDw.lean ====
/- The product `b_xq_dw`: what its array holds after the run, and every claim about it. -/
module
public import proofs.«01_k».proof.Defs
public import proofs.«01_k».proof.Proof.Product
public import proofs.«01_k».proof.Proof.Rows
public import proofs.«01_k».proof.Proof.Gen.XqDw.Frame
public import proofs.«01_k».proof.Proof.Gen.XqDwIdeal.Value
public import proofs.«01_k».proof.Proof.Gen.XqDwRefIdeal.Run
public import proofs.«01_k».proof.Proof.Gen.XqDwRefIdeal.Read
public import Idealize.ShloMosaic.Lib.Pointwise
public import Idealize.ShloMosaic.Lib.Quiescent
@[expose] public section
set_option maxRecDepth 16384
noncomputable section
namespace Cert.XqDwIdeal.Blocks
open Cert.XqDwIdeal Cert.XqDwIdeal.Gen Idealize.ShloMosaic Idealize.ShloMosaic.TcCoe Idealize.SL.Sem Cert.Product Cert.Rows
open scoped BigOperators

section Words
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x0 x1 : Vec F S1024x1024 .bf16) (xs : Vec F S1024x1024 .f32)
/-- What a point leaves in the accumulator: its own product at a tile's first point, and later the sum so far with it. -/
theorem accA (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A; dsimp only; (try sl_unfold_words)
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]
theorem accB (hc0 : ¬cond0_0 i) (hc1 : cond0_1 i) (hc2 : ¬cond0_2 i) : sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B; dsimp only; (try sl_unfold_words)
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]
theorem accC (hc0 : ¬cond0_0 i) (hc1 : cond0_1 i) (hc2 : cond0_2 i) : sout0_C_0 c i a3 h3 a4 h4 a5 h5 a6 h6 hc0 hc1 hc2 x0 x1 xs = k0_pay2 xs x0 x1 := by
  unfold sout0_C_0
  rw [View.read_writes_eq_canon _ _ _ (scover0_C_0 c i a3 h3 a4 h4 a5 h5 a6 h6 hc0 hc1 hc2 x0 x1 xs)]
  unfold kernelRun0_C; dsimp only; (try sl_unfold_words)
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]
/-- What the last point of a tile stores. -/
theorem outC (hc0 : ¬cond0_0 i) (hc1 : cond0_1 i) (hc2 : cond0_2 i) : out0_C_2 c i a3 h3 a4 h4 a5 h5 a6 h6 hc0 hc1 hc2 x0 x1 xs = k0_pay2 xs x0 x1 := by
  unfold out0_C_2
  rw [View.read_writes_eq_canon _ _ _ (cover0_C_2 c i a3 h3 a4 h4 a5 h5 a6 h6 hc0 hc1 hc2 x0 x1 xs)]
  unfold kernelRun0_C; dsimp only; (try sl_unfold_words)
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]
  exact View.readCov_cons_toLoadRect ..
end Words

theorem pay1_at (x0 x1 : FVec Ideal S1024x1024 .bf16) (r : Fin 1024) (d : Fin 1024) :
    k0_pay1 (F := Ideal) x0 x1 (ix2 r d) = ∑ x : Fin 1024, x0 (ix2 x r) * x1 (ix2 x d) := by
  pointwise [k0_pay1]
theorem pay2_at (xs : FVec Ideal S1024x1024 .f32) (x0 x1 : FVec Ideal S1024x1024 .bf16) (r : Fin 1024) (d : Fin 1024) :
    k0_pay2 (F := Ideal) xs x0 x1 (ix2 r d) = xs (ix2 r d) + ∑ x : Fin 1024, x0 (ix2 x r) * x1 (ix2 x d) := by
  pointwise [k0_pay2]

variable (m : (ℓ : Loc nD τ sig) → Buf (Elt Ideal) ℓ) (c : Dev nD)

/-- The arguments, read by their coordinates. -/
abbrev aA : Fin 8192 → Fin 1024 → EReal := fun i j => m ((c : Thread nD τ).loc main_arg0) (ix2 i j)
abbrev aB : Fin 8192 → Fin 1024 → EReal := fun i j => m ((c : Thread nD τ).loc main_arg1) (ix2 i j)

theorem ltN (t : Fin cfg0.N) : t.val < 8 := by have h := t.isLt; have e : cfg0.N = 8 := N_0; omega
/-- The row, the column and the summed coordinate a block index of point `t` stands for. -/
def row (t : Fin cfg0.N) (r : Fin 1024) : Fin 1024 := ⟨t.val / 8 * 1024 + r.val, by have := ltN t; omega⟩
def col (t : Fin cfg0.N) (d : Fin 1024) : Fin 1024 := ⟨d.val, by have := ltN t; omega⟩
def dim (t : Fin cfg0.N) (x : Fin 1024) : Fin 8192 := ⟨t.val % 8 * 1024 + x.val, by omega⟩

/-- The terms of one entry of the product. -/
def entry (i : Fin 1024) (j : Fin 1024) : Fin 8192 → EReal := fun x => aA m c (x) (i) * aB m c (x) (j)
def total (i : Fin 1024) (j : Fin 1024) : EReal := ∑ x : Fin 8192, entry m c i j x
def res : Buf (Elt Ideal) ((c : Thread nD τ).loc main_v0) := fun i : S1024x1024.Idx => total m c (i 0) (i 1)

theorem idx0 : ∀ t : Fin grid0.N, win0_0.index t = ![t.val % 8, t.val / 8] := by decide +kernel
theorem idx1 : ∀ t : Fin grid0.N, win0_1.index t = ![t.val % 8, 0] := by decide +kernel
theorem idx2 : ∀ t : Fin grid0.N, win0_2.index t = ![t.val / 8, 0] := by decide +kernel
theorem rd0 (t : Fin cfg0.N) (x : Fin 1024) (r : Fin 1024) : iblk m c 0 t (ix2 x r) = m ((c : Thread nD τ).loc main_arg0) (ix2 (dim t x) (row t r)) := by
  unfold iblk
  rw [View.read_apply]
  exact congrArg (m ((c : Thread nD τ).loc main_arg0)) (idx2_ext _ _ (off0 (idx0 t) 1024 x.val) (off1 (idx0 t) 1024 r.val))
theorem rd1 (t : Fin cfg0.N) (x : Fin 1024) (d : Fin 1024) : iblk m c 1 t (ix2 x d) = m ((c : Thread nD τ).loc main_arg1) (ix2 (dim t x) (col t d)) := by
  unfold iblk
  rw [View.read_apply]
  exact congrArg (m ((c : Thread nD τ).loc main_arg1)) (idx2_ext _ _ (off0 (idx1 t) 1024 x.val) (off1z (idx1 t) 1024 d.val))
/-- The blocks point `t` reads, and what they hold. -/
def bA (t : Fin cfg0.N) : FVec Ideal S1024x1024 .bf16 := iblk m c 0 t
def bB (t : Fin cfg0.N) : FVec Ideal S1024x1024 .bf16 := iblk m c 1 t
theorem term_at (t : Fin cfg0.N) (r : Fin 1024) (d : Fin 1024) (x : Fin 1024) : bA m c t (ix2 x r) * bB m c t (ix2 x d) = entry m c (row t r) (col t d) (dim t x) := by
  refine congrArg₂ (· * ·) ?_ ?_
  · exact rd0 m c t x r
  · exact rd1 m c t x d

/-- The point before. -/
abbrev prev (t : Fin cfg0.N) : Fin cfg0.N := ⟨t.val - 1, Nat.lt_of_le_of_lt (Nat.sub_le _ _) t.isLt⟩
theorem held_first (t : Fin cfg0.N) (h : t.val % 8 = 0) : (outsAt0 m c t.val t.isLt).2 = k0_pay1 (F := Ideal) (bA m c t) (bB m c t) := by
  rw [outsAt0_A m c t h (by have := ltN t; omega) (by omega)]; dsimp only; exact accA (F := Ideal) ..
theorem held_next (t : Fin cfg0.N) (h : t.val % 8 ≠ 0) : (outsAt0 m c t.val t.isLt).2 = k0_pay2 (F := Ideal) (outsAt0 m c (prev t).val (prev t).isLt).2 (bA m c t) (bB m c t) := by
  by_cases h2 : t.val % 8 = 7
  · rw [outsAt0_C m c t h (by have := ltN t; omega) h2]; dsimp only; exact accC (F := Ideal) ..
  · rw [outsAt0_B m c t h (by have := ltN t; omega) h2]; dsimp only; exact accB (F := Ideal) ..
theorem stored (t : Fin cfg0.N) (h : t.val % 8 = 7) : (outsAt0 m c t.val t.isLt).1 = (outsAt0 m c t.val t.isLt).2 := by
  rw [held_next m c t (by omega), outsAt0_C m c t (by omega) (by omega) h]; dsimp only; exact outC (F := Ideal) ..

/-- After `q + 1` points of a tile the accumulator holds the sum of that many stretches. -/
theorem held (q : ℕ) : ∀ (t : Fin cfg0.N), t.val % 8 = q → ∀ (r : Fin 1024) (d : Fin 1024),
    (outsAt0 m c t.val t.isLt).2 (ix2 r d) = upto (entry m c (row t r) (col t d)) ((q + 1) * 1024) := by
  induction q with
  | zero =>
    intro t h r d
    rw [held_first m c t h]
    refine (pay1_at _ _ r d).trans ?_
    refine (upto_first (entry m c (row t r) (col t d)) 1024 (fun x => bA m c t (ix2 x r) * bB m c t (ix2 x d)) (by omega) fun x => ?_).symm
    refine (term_at m c t r d x).trans (congrArg _ (Fin.ext ?_))
    show t.val % 8 * 1024 + x.val = x.val
    omega
  | succ q ih =>
    intro t h r d
    have ht := ltN t
    rw [held_next m c t (by omega)]
    refine (pay2_at _ _ _ r d).trans ?_
    rw [ih (prev t) (by show (t.val - 1) % 8 = q; omega) r d]
    have er : row (prev t) r = row t r := Fin.ext (by show (t.val - 1) / 8 * 1024 + r.val = t.val / 8 * 1024 + r.val; omega)
    have ec : col (prev t) d = col t d := Fin.ext (by show d.val = d.val; omega)
    rw [er, ec]
    refine Eq.trans ?_ ((upto_add (entry m c (row t r) (col t d)) ((q + 1) * 1024) 1024 (fun x => bA m c t (ix2 x r) * bB m c t (ix2 x d)) (by omega) fun x => ?_).symm.trans (congrArg (upto _) (by omega)))
    · rfl
    · refine (term_at m c t r d x).trans (congrArg _ (Fin.ext ?_))
      show t.val % 8 * 1024 + x.val = (q + 1) * 1024 + x.val
      omega
theorem at_out (t : Fin cfg0.N) (h : t.val % 8 = 7) (r : Fin 1024) (d : Fin 1024) :
    (outsAt0 m c t.val t.isLt).1 (ix2 r d) = ∑ x : Fin 8192, entry m c (row t r) (col t d) x := by
  rw [stored m c t h, held m c 7 t h r d]
  exact upto_all _

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 1024 r.val) (off1z (idx2 t) 1024 d.val)
  rw [View.read_apply, he]
  exact at_out m c t ((flush0_2 t).mp hf) r d
theorem final : (Gen.dats m 0 c).arrAt 2 cfg0.N = res m c :=
  (Gen.dats m 0 c).arrAt_eq_of_cover 2 (res m c) (flushes m c) fun i => by
    have h0 : (i 0 : Nat) < 1024 := (i 0).isLt
    have h1 : (i 1 : Nat) < 1024 := (i 1).isLt
    let t : Fin cfg0.N := ⟨(i 0).val / 1024 * 8 + (i 1).val / 1024 * 8 + 7, by rw [show cfg0.N = 8 from N_0]; omega⟩
    have ht : t.val = (i 0).val / 1024 * 8 + (i 1).val / 1024 * 8 + 7 := rfl
    refine ⟨t, (flush0_2 t).mpr (by show ((i 0).val / 1024 * 8 + (i 1).val / 1024 * 8 + 7) % 8 = 7; omega), ?_⟩
    show i ∈ ((View.whole main_v0).slice (win0_2.rect t)).set
    rw [View.set_slice_whole, Rect.mem_set_unit]
    exact inBlock (s := ![1024, 1024]) (i := fun a => (i a).val) (idx2 t) (by show (t.val / 8) * 1024 ≤ (i 0).val ∧ (i 0).val < (t.val / 8) * 1024 + 1024; omega) (by show (0) * 1024 ≤ (i 1).val ∧ (i 1).val < (0) * 1024 + 1024; omega)
end Cert.XqDwIdeal.Blocks

namespace Cert.XqDw
open Idealize.ShloMosaic Idealize.SL.Sem XqDwIdeal
open scoped BigOperators

/-- The reference's result, and that it is the kernel's. -/
theorem reference_at (x0 x1 : FVec Ideal S8192x1024 .bf16) (i : Fin 1024) (j : Fin 1024) :
    XqDwRefIdeal.Read.val_main_v5 (F := Ideal) x0 x1 (ix2 i j) = ∑ x : Fin 8192, x1 (ix2 x j) * x0 (ix2 x i) := by
  pointwise [XqDwRefIdeal.Read.val_main_v0, XqDwRefIdeal.Read.val_main_v1, XqDwRefIdeal.Read.val_main_v2, XqDwRefIdeal.Read.val_main_v3, XqDwRefIdeal.Read.val_main_v4, XqDwRefIdeal.Read.val_main_v5]

theorem algebraic : algebraic_XqDwIdeal_XqDwRefIdeal := by
  intro m g m' g' _ e
  refine ⟨fun c => XqDwIdeal.Blocks.res m c, ?_, ?_⟩
  · refine (θ_run XqDwIdeal.defs _ _).mono (fun r H c => ?_) (XqDwIdeal.Value.run_blocks (F := Ideal) m g)
    exact ⟨(H c).1.trans (XqDwIdeal.Blocks.final m c), (H c).2⟩
  · refine (θ_run XqDwRefIdeal.defs _ _).mono (fun r H c => ?_) (XqDwRefIdeal.Value.run (F := Ideal) m' g')
    refine ⟨(H c).1.trans ?_, (H c).2⟩
    rw [XqDwRefIdeal.Read.val_main_v5_eq, (e c).1, (e c).2]
    funext i
    idx_vars i
    refine (reference_at _ _ i0 i1).trans ?_
    exact Finset.sum_congr rfl fun x _ => mul_comm (G := EReal) _ _

theorem reference_frame : quiescent_XqDwRefIdeal := fun m ρ _ =>
  (θ_run XqDwRefIdeal.defs _ _).mono (fun r h => ⟨fun c => (h c).2, sem_eq_zero_of_no_sems (by decide) r.2⟩) (XqDwRefIdeal.Value.run (F := Ideal) m ρ)
end Cert.XqDw
-- ==== Proof.XoDx.lean ====
/- The product `b_xo_dx`: what its array holds after the run, and every claim about it. -/
module
public import proofs.«01_k».proof.Defs
public import proofs.«01_k».proof.Proof.Product
public import proofs.«01_k».proof.Proof.Rows
public import proofs.«01_k».proof.Proof.Gen.XoDx.Frame
public import proofs.«01_k».proof.Proof.Gen.XoDxIdeal.Value
public import proofs.«01_k».proof.Proof.Gen.XoDxRefIdeal.Run
public import proofs.«01_k».proof.Proof.Gen.XoDxRefIdeal.Read
public import Idealize.ShloMosaic.Lib.Pointwise
public import Idealize.ShloMosaic.Lib.Quiescent
@[expose] public section
set_option maxRecDepth 16384
noncomputable section
namespace Cert.XoDxIdeal.Blocks
open Cert.XoDxIdeal Cert.XoDxIdeal.Gen Idealize.ShloMosaic Idealize.ShloMosaic.TcCoe Idealize.SL.Sem Cert.Product Cert.Rows
open scoped BigOperators

theorem outW {F : FTy → Type} [FloatOps F] (x0 : Vec F S2048x1024 .bf16) (x1 : Vec F S512x1024 .bf16) : out0_2 x0 x1 = k0_pay1 x0 x1 := by
  unfold out0_2
  rw [View.canon_unit_zero hz]
  simp only [View.ld_unit_zero (S := S2048x1024) hz, View.ld_unit_zero (S := S512x1024) hz]

theorem pay1_at (x0 : FVec Ideal S2048x1024 .bf16) (x1 : FVec Ideal S512x1024 .bf16) (r : Fin 2048) (d : Fin 512) :
    k0_pay1 (F := Ideal) x0 x1 (ix2 r d) = ∑ x : Fin 1024, x0 (ix2 r x) * x1 (ix2 d x) := by
  pointwise [k0_pay1]

variable (m : (ℓ : Loc nD τ sig) → Buf (Elt Ideal) ℓ) (c : Dev nD)

/-- The arguments, read by their coordinates. -/
abbrev aA : Fin 8192 → Fin 1024 → EReal := fun i j => m ((c : Thread nD τ).loc main_arg0) (ix2 i j)
abbrev aB : Fin 1024 → Fin 1024 → EReal := fun i j => m ((c : Thread nD τ).loc main_arg1) (ix2 i j)

theorem ltN (t : Fin cfg0.N) : t.val < 8 := by have h := t.isLt; have e : cfg0.N = 8 := N_0; omega
/-- The row, the column and the summed coordinate a block index of point `t` stands for. -/
def row (t : Fin cfg0.N) (r : Fin 2048) : Fin 8192 := ⟨t.val / 2 * 2048 + r.val, by have := ltN t; omega⟩
def col (t : Fin cfg0.N) (d : Fin 512) : Fin 1024 := ⟨t.val / 1 % 2 * 512 + d.val, by have := ltN t; omega⟩
def dim (t : Fin cfg0.N) (x : Fin 1024) : Fin 1024 := ⟨x.val, by omega⟩

/-- The terms of one entry of the product. -/
def entry (i : Fin 8192) (j : Fin 1024) : Fin 1024 → EReal := fun x => aA m c (i) (x) * aB m c (j) (x)
def total (i : Fin 8192) (j : Fin 1024) : EReal := ∑ x : Fin 1024, entry m c i j x
def res : Buf (Elt Ideal) ((c : Thread nD τ).loc main_v0) := fun i : S8192x1024.Idx => total m c (i 0) (i 1)

theorem idx0 : ∀ t : Fin grid0.N, win0_0.index t = ![t.val / 2, 0] := by decide +kernel
theorem idx1 : ∀ t : Fin grid0.N, win0_1.index t = ![t.val / 1 % 2, 0] := by decide +kernel
theorem idx2 : ∀ t : Fin grid0.N, win0_2.index t = ![t.val / 2, t.val / 1 % 2] := by decide +kernel
theorem rd0 (t : Fin cfg0.N) (r : Fin 2048) (x : Fin 1024) : iblk m c 0 t (ix2 r x) = m ((c : Thread nD τ).loc main_arg0) (ix2 (row t r) (dim t x)) := by
  unfold iblk
  rw [View.read_apply]
  exact congrArg (m ((c : Thread nD τ).loc main_arg0)) (idx2_ext _ _ (off0 (idx0 t) 2048 r.val) (off1z (idx0 t) 1024 x.val))
theorem rd1 (t : Fin cfg0.N) (d : Fin 512) (x : Fin 1024) : iblk m c 1 t (ix2 d x) = m ((c : Thread nD τ).loc main_arg1) (ix2 (col t d) (dim t x)) := by
  unfold iblk
  rw [View.read_apply]
  exact congrArg (m ((c : Thread nD τ).loc main_arg1)) (idx2_ext _ _ (off0 (idx1 t) 512 d.val) (off1z (idx1 t) 1024 x.val))
/-- The blocks point `t` reads, and what they hold. -/
def bA (t : Fin cfg0.N) : FVec Ideal S2048x1024 .bf16 := iblk m c 0 t
def bB (t : Fin cfg0.N) : FVec Ideal S512x1024 .bf16 := iblk m c 1 t
theorem term_at (t : Fin cfg0.N) (r : Fin 2048) (d : Fin 512) (x : Fin 1024) : bA m c t (ix2 r x) * bB m c t (ix2 d x) = entry m c (row t r) (col t d) (dim t x) := by
  refine congrArg₂ (· * ·) ?_ ?_
  · exact rd0 m c t r x
  · exact rd1 m c t d x
theorem at_out (t : Fin cfg0.N) (r : Fin 2048) (d : Fin 512) :
    out0_2 (F := Ideal) (bA m c t) (bB m c t) (ix2 r d) = ∑ x : Fin 1024, entry m c (row t r) (col t d) x := by
  rw [outW]
  refine (pay1_at _ _ r d).trans (Finset.sum_congr rfl fun x _ => ?_)
  refine (term_at m c t r d x).trans (congrArg _ (Fin.ext ?_))
  show x.val = x.val
  omega

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 2048 r.val) (off1 (idx2 t) 512 d.val)
  rw [View.read_apply, he]
  exact at_out m c t r d
theorem final : (Gen.dats m 0 c).arrAt 2 cfg0.N = res m c :=
  (Gen.dats m 0 c).arrAt_eq_of_cover 2 (res m c) (flushes m c) fun i => by
    have h0 : (i 0 : Nat) < 8192 := (i 0).isLt
    have h1 : (i 1 : Nat) < 1024 := (i 1).isLt
    let t : Fin cfg0.N := ⟨(i 0).val / 2048 * 2 + (i 1).val / 512 * 1, by rw [show cfg0.N = 8 from N_0]; omega⟩
    have ht : t.val = (i 0).val / 2048 * 2 + (i 1).val / 512 * 1 := rfl
    refine ⟨t, flush0_2 t, ?_⟩
    show i ∈ ((View.whole main_v0).slice (win0_2.rect t)).set
    rw [View.set_slice_whole, Rect.mem_set_unit]
    exact inBlock (s := ![2048, 512]) (i := fun a => (i a).val) (idx2 t) (by show (t.val / 2) * 2048 ≤ (i 0).val ∧ (i 0).val < (t.val / 2) * 2048 + 2048; omega) (by show (t.val / 1 % 2) * 512 ≤ (i 1).val ∧ (i 1).val < (t.val / 1 % 2) * 512 + 512; omega)
end Cert.XoDxIdeal.Blocks

namespace Cert.XoDx
open Idealize.ShloMosaic Idealize.SL.Sem XoDxIdeal
open scoped BigOperators

/-- The reference's result, and that it is the kernel's. -/
theorem reference_at (x0 : FVec Ideal S8192x1024 .bf16) (x1 : FVec Ideal S1024x1024 .bf16) (i : Fin 8192) (j : Fin 1024) :
    XoDxRefIdeal.Read.val_main_v5 (F := Ideal) x0 x1 (ix2 i j) = ∑ x : Fin 1024, x0 (ix2 i x) * x1 (ix2 j x) := by
  pointwise [XoDxRefIdeal.Read.val_main_v0, XoDxRefIdeal.Read.val_main_v1, XoDxRefIdeal.Read.val_main_v2, XoDxRefIdeal.Read.val_main_v3, XoDxRefIdeal.Read.val_main_v4, XoDxRefIdeal.Read.val_main_v5]

theorem algebraic : algebraic_XoDxIdeal_XoDxRefIdeal := by
  intro m g m' g' _ e
  refine ⟨fun c => XoDxIdeal.Blocks.res m c, ?_, ?_⟩
  · refine (θ_run XoDxIdeal.defs _ _).mono (fun r H c => ?_) (XoDxIdeal.Value.run_blocks (F := Ideal) m g)
    exact ⟨(H c).1.trans (XoDxIdeal.Blocks.final m c), (H c).2⟩
  · refine (θ_run XoDxRefIdeal.defs _ _).mono (fun r H c => ?_) (XoDxRefIdeal.Value.run (F := Ideal) m' g')
    refine ⟨(H c).1.trans ?_, (H c).2⟩
    rw [XoDxRefIdeal.Read.val_main_v5_eq, (e c).1, (e c).2]
    funext i
    idx_vars i
    refine (reference_at _ _ i0 i1).trans ?_
    rfl

theorem reference_frame : quiescent_XoDxRefIdeal := fun m ρ _ =>
  (θ_run XoDxRefIdeal.defs _ _).mono (fun r h => ⟨fun c => (h c).2, sem_eq_zero_of_no_sems (by decide) r.2⟩) (XoDxRefIdeal.Value.run (F := Ideal) m ρ)
end Cert.XoDx
-- ==== Proof.XkvDx.lean ====
/- The product `b_xkv_dx`: what its array holds after the run, and every claim about it. -/
module
public import proofs.«01_k».proof.Defs
public import proofs.«01_k».proof.Proof.Product
public import proofs.«01_k».proof.Proof.Rows
public import proofs.«01_k».proof.Proof.Gen.XkvDx.Frame
public import proofs.«01_k».proof.Proof.Gen.XkvDxIdeal.Value
public import proofs.«01_k».proof.Proof.Gen.XkvDxRefIdeal.Run
public import proofs.«01_k».proof.Proof.Gen.XkvDxRefIdeal.Read
public import Idealize.ShloMosaic.Lib.Pointwise
public import Idealize.ShloMosaic.Lib.Quiescent
@[expose] public section
set_option maxRecDepth 16384
noncomputable section
namespace Cert.XkvDxIdeal.Blocks
open Cert.XkvDxIdeal Cert.XkvDxIdeal.Gen Idealize.ShloMosaic Idealize.ShloMosaic.TcCoe Idealize.SL.Sem Cert.Product Cert.Rows
open scoped BigOperators

theorem outW {F : FTy → Type} [FloatOps F] (x0 : Vec F S1024x2048 .f32) (x1 : Vec F S512x2048 .bf16) : out0_2 x0 x1 = k0_pay1 x0 x1 := by
  unfold out0_2
  rw [View.canon_unit_zero hz]
  simp only [View.ld_unit_zero (S := S1024x2048) hz, View.ld_unit_zero (S := S512x2048) hz]

theorem pay1_at (x0 : FVec Ideal S1024x2048 .f32) (x1 : FVec Ideal S512x2048 .bf16) (r : Fin 1024) (d : Fin 512) :
    k0_pay1 (F := Ideal) x0 x1 (ix2 r d) = ∑ x : Fin 2048, x0 (ix2 r x) * x1 (ix2 d x) := by
  pointwise [k0_pay1]

variable (m : (ℓ : Loc nD τ sig) → Buf (Elt Ideal) ℓ) (c : Dev nD)

/-- The arguments, read by their coordinates. -/
abbrev aA : Fin 1024 → Fin 2048 → EReal := fun i j => m ((c : Thread nD τ).loc main_arg0) (ix2 i j)
abbrev aB : Fin 1024 → Fin 2048 → EReal := fun i j => m ((c : Thread nD τ).loc main_arg1) (ix2 i j)

theorem ltN (t : Fin cfg0.N) : t.val < 2 := by have h := t.isLt; have e : cfg0.N = 2 := N_0; omega
/-- The row, the column and the summed coordinate a block index of point `t` stands for. -/
def row (t : Fin cfg0.N) (r : Fin 1024) : Fin 1024 := ⟨t.val / 2 * 1024 + r.val, by have := ltN t; omega⟩
def col (t : Fin cfg0.N) (d : Fin 512) : Fin 1024 := ⟨t.val / 1 % 2 * 512 + d.val, by have := ltN t; omega⟩
def dim (t : Fin cfg0.N) (x : Fin 2048) : Fin 2048 := ⟨x.val, by omega⟩

/-- The terms of one entry of the product. -/
def entry (i : Fin 1024) (j : Fin 1024) : Fin 2048 → EReal := fun x => aA m c (i) (x) * aB m c (j) (x)
def total (i : Fin 1024) (j : Fin 1024) : EReal := ∑ x : Fin 2048, entry m c i j x
def res : Buf (Elt Ideal) ((c : Thread nD τ).loc main_v0) := fun i : S1024x1024.Idx => total m c (i 0) (i 1)

theorem idx0 : ∀ t : Fin grid0.N, win0_0.index t = ![t.val / 2, 0] := by decide +kernel
theorem idx1 : ∀ t : Fin grid0.N, win0_1.index t = ![t.val / 1 % 2, 0] := by decide +kernel
theorem idx2 : ∀ t : Fin grid0.N, win0_2.index t = ![t.val / 2, t.val / 1 % 2] := by decide +kernel
theorem rd0 (t : Fin cfg0.N) (r : Fin 1024) (x : Fin 2048) : iblk m c 0 t (ix2 r x) = m ((c : Thread nD τ).loc main_arg0) (ix2 (row t r) (dim t x)) := by
  unfold iblk
  rw [View.read_apply]
  exact congrArg (m ((c : Thread nD τ).loc main_arg0)) (idx2_ext _ _ (off0 (idx0 t) 1024 r.val) (off1z (idx0 t) 2048 x.val))
theorem rd1 (t : Fin cfg0.N) (d : Fin 512) (x : Fin 2048) : iblk m c 1 t (ix2 d x) = m ((c : Thread nD τ).loc main_arg1) (ix2 (col t d) (dim t x)) := by
  unfold iblk
  rw [View.read_apply]
  exact congrArg (m ((c : Thread nD τ).loc main_arg1)) (idx2_ext _ _ (off0 (idx1 t) 512 d.val) (off1z (idx1 t) 2048 x.val))
/-- The blocks point `t` reads, and what they hold. -/
def bA (t : Fin cfg0.N) : FVec Ideal S1024x2048 .f32 := iblk m c 0 t
def bB (t : Fin cfg0.N) : FVec Ideal S512x2048 .bf16 := iblk m c 1 t
theorem term_at (t : Fin cfg0.N) (r : Fin 1024) (d : Fin 512) (x : Fin 2048) : bA m c t (ix2 r x) * bB m c t (ix2 d x) = entry m c (row t r) (col t d) (dim t x) := by
  refine congrArg₂ (· * ·) ?_ ?_
  · exact rd0 m c t r x
  · exact rd1 m c t d x
theorem at_out (t : Fin cfg0.N) (r : Fin 1024) (d : Fin 512) :
    out0_2 (F := Ideal) (bA m c t) (bB m c t) (ix2 r d) = ∑ x : Fin 2048, entry m c (row t r) (col t d) x := by
  rw [outW]
  refine (pay1_at _ _ r d).trans (Finset.sum_congr rfl fun x _ => ?_)
  refine (term_at m c t r d x).trans (congrArg _ (Fin.ext ?_))
  show x.val = x.val
  omega

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 1024 r.val) (off1 (idx2 t) 512 d.val)
  rw [View.read_apply, he]
  exact at_out m c t r d
theorem final : (Gen.dats m 0 c).arrAt 2 cfg0.N = res m c :=
  (Gen.dats m 0 c).arrAt_eq_of_cover 2 (res m c) (flushes m c) fun i => by
    have h0 : (i 0 : Nat) < 1024 := (i 0).isLt
    have h1 : (i 1 : Nat) < 1024 := (i 1).isLt
    let t : Fin cfg0.N := ⟨(i 0).val / 1024 * 2 + (i 1).val / 512 * 1, by rw [show cfg0.N = 2 from N_0]; omega⟩
    have ht : t.val = (i 0).val / 1024 * 2 + (i 1).val / 512 * 1 := rfl
    refine ⟨t, flush0_2 t, ?_⟩
    show i ∈ ((View.whole main_v0).slice (win0_2.rect t)).set
    rw [View.set_slice_whole, Rect.mem_set_unit]
    exact inBlock (s := ![1024, 512]) (i := fun a => (i a).val) (idx2 t) (by show (t.val / 2) * 1024 ≤ (i 0).val ∧ (i 0).val < (t.val / 2) * 1024 + 1024; omega) (by show (t.val / 1 % 2) * 512 ≤ (i 1).val ∧ (i 1).val < (t.val / 1 % 2) * 512 + 512; omega)
end Cert.XkvDxIdeal.Blocks

namespace Cert.XkvDx
open Idealize.ShloMosaic Idealize.SL.Sem XkvDxIdeal
open scoped BigOperators

/-- The reference's result, and that it is the kernel's. -/
theorem reference_at (x0 : FVec Ideal S1024x2048 .f32) (x1 : FVec Ideal S1024x2048 .bf16) (i : Fin 1024) (j : Fin 1024) :
    XkvDxRefIdeal.Read.val_main_v3 (F := Ideal) x0 x1 (ix2 i j) = ∑ x : Fin 2048, x0 (ix2 i x) * x1 (ix2 j x) := by
  pointwise [XkvDxRefIdeal.Read.val_main_v0, XkvDxRefIdeal.Read.val_main_v1, XkvDxRefIdeal.Read.val_main_v2, XkvDxRefIdeal.Read.val_main_v3]

theorem algebraic : algebraic_XkvDxIdeal_XkvDxRefIdeal := by
  intro m g m' g' _ e
  refine ⟨fun c => XkvDxIdeal.Blocks.res m c, ?_, ?_⟩
  · refine (θ_run XkvDxIdeal.defs _ _).mono (fun r H c => ?_) (XkvDxIdeal.Value.run_blocks (F := Ideal) m g)
    exact ⟨(H c).1.trans (XkvDxIdeal.Blocks.final m c), (H c).2⟩
  · refine (θ_run XkvDxRefIdeal.defs _ _).mono (fun r H c => ?_) (XkvDxRefIdeal.Value.run (F := Ideal) m' g')
    refine ⟨(H c).1.trans ?_, (H c).2⟩
    rw [XkvDxRefIdeal.Read.val_main_v3_eq, (e c).1, (e c).2]
    funext i
    idx_vars i
    refine (reference_at _ _ i0 i1).trans ?_
    rfl

theorem reference_frame : quiescent_XkvDxRefIdeal := fun m ρ _ =>
  (θ_run XkvDxRefIdeal.defs _ _).mono (fun r h => ⟨fun c => (h c).2, sem_eq_zero_of_no_sems (by decide) r.2⟩) (XkvDxRefIdeal.Value.run (F := Ideal) m ρ)
end Cert.XkvDx
-- ==== Proof.XkvDw.lean ====
/- The product `b_xkv_dw`: what its array holds after the run, and every claim about it. -/
module
public import proofs.«01_k».proof.Defs
public import proofs.«01_k».proof.Proof.Product
public import proofs.«01_k».proof.Proof.Rows
public import proofs.«01_k».proof.Proof.Gen.XkvDw.Frame
public import proofs.«01_k».proof.Proof.Gen.XkvDwIdeal.Value
public import proofs.«01_k».proof.Proof.Gen.XkvDwRefIdeal.Run
public import proofs.«01_k».proof.Proof.Gen.XkvDwRefIdeal.Read
public import Idealize.ShloMosaic.Lib.Pointwise
public import Idealize.ShloMosaic.Lib.Quiescent
@[expose] public section
set_option maxRecDepth 16384
noncomputable section
namespace Cert.XkvDwIdeal.Blocks
open Cert.XkvDwIdeal Cert.XkvDwIdeal.Gen Idealize.ShloMosaic Idealize.ShloMosaic.TcCoe Idealize.SL.Sem Cert.Product Cert.Rows
open scoped BigOperators

theorem outW {F : FTy → Type} [FloatOps F] (x0 : Vec F S1024x1024 .bf16) (x1 : Vec F S1024x1024 .f32) : out0_2 x0 x1 = k0_pay1 x0 x1 := by
  unfold out0_2
  rw [View.canon_unit_zero hz]
  simp only [View.ld_unit_zero (S := S1024x1024) hz, View.ld_unit_zero (S := S1024x1024) hz]

theorem pay1_at (x0 : FVec Ideal S1024x1024 .bf16) (x1 : FVec Ideal S1024x1024 .f32) (r : Fin 1024) (d : Fin 1024) :
    k0_pay1 (F := Ideal) x0 x1 (ix2 r d) = ∑ x : Fin 1024, x0 (ix2 x r) * x1 (ix2 x d) := by
  pointwise [k0_pay1]

variable (m : (ℓ : Loc nD τ sig) → Buf (Elt Ideal) ℓ) (c : Dev nD)

/-- The arguments, read by their coordinates. -/
abbrev aA : Fin 1024 → Fin 1024 → EReal := fun i j => m ((c : Thread nD τ).loc main_arg0) (ix2 i j)
abbrev aB : Fin 1024 → Fin 2048 → EReal := fun i j => m ((c : Thread nD τ).loc main_arg1) (ix2 i j)

theorem ltN (t : Fin cfg0.N) : t.val < 2 := by have h := t.isLt; have e : cfg0.N = 2 := N_0; omega
/-- The row, the column and the summed coordinate a block index of point `t` stands for. -/
def row (t : Fin cfg0.N) (r : Fin 1024) : Fin 1024 := ⟨t.val / 2 * 1024 + r.val, by have := ltN t; omega⟩
def col (t : Fin cfg0.N) (d : Fin 1024) : Fin 2048 := ⟨t.val / 1 % 2 * 1024 + d.val, by have := ltN t; omega⟩
def dim (t : Fin cfg0.N) (x : Fin 1024) : Fin 1024 := ⟨x.val, by omega⟩

/-- The terms of one entry of the product. -/
def entry (i : Fin 1024) (j : Fin 2048) : Fin 1024 → EReal := fun x => aA m c (x) (i) * aB m c (x) (j)
def total (i : Fin 1024) (j : Fin 2048) : EReal := ∑ x : Fin 1024, entry m c i j x
def res : Buf (Elt Ideal) ((c : Thread nD τ).loc main_v0) := fun i : S1024x2048.Idx => total m c (i 0) (i 1)

theorem idx0 : ∀ t : Fin grid0.N, win0_0.index t = ![0, t.val / 2] := by decide +kernel
theorem idx1 : ∀ t : Fin grid0.N, win0_1.index t = ![0, t.val / 1 % 2] := by decide +kernel
theorem idx2 : ∀ t : Fin grid0.N, win0_2.index t = ![t.val / 2, t.val / 1 % 2] := by decide +kernel
theorem rd0 (t : Fin cfg0.N) (x : Fin 1024) (r : Fin 1024) : iblk m c 0 t (ix2 x r) = m ((c : Thread nD τ).loc main_arg0) (ix2 (dim t x) (row t r)) := by
  unfold iblk
  rw [View.read_apply]
  exact congrArg (m ((c : Thread nD τ).loc main_arg0)) (idx2_ext _ _ (off0z (idx0 t) 1024 x.val) (off1 (idx0 t) 1024 r.val))
theorem rd1 (t : Fin cfg0.N) (x : Fin 1024) (d : Fin 1024) : iblk m c 1 t (ix2 x d) = m ((c : Thread nD τ).loc main_arg1) (ix2 (dim t x) (col t d)) := by
  unfold iblk
  rw [View.read_apply]
  exact congrArg (m ((c : Thread nD τ).loc main_arg1)) (idx2_ext _ _ (off0z (idx1 t) 1024 x.val) (off1 (idx1 t) 1024 d.val))
/-- The blocks point `t` reads, and what they hold. -/
def bA (t : Fin cfg0.N) : FVec Ideal S1024x1024 .bf16 := iblk m c 0 t
def bB (t : Fin cfg0.N) : FVec Ideal S1024x1024 .f32 := iblk m c 1 t
theorem term_at (t : Fin cfg0.N) (r : Fin 1024) (d : Fin 1024) (x : Fin 1024) : bA m c t (ix2 x r) * bB m c t (ix2 x d) = entry m c (row t r) (col t d) (dim t x) := by
  refine congrArg₂ (· * ·) ?_ ?_
  · exact rd0 m c t x r
  · exact rd1 m c t x d
theorem at_out (t : Fin cfg0.N) (r : Fin 1024) (d : Fin 1024) :
    out0_2 (F := Ideal) (bA m c t) (bB m c t) (ix2 r d) = ∑ x : Fin 1024, entry m c (row t r) (col t d) x := by
  rw [outW]
  refine (pay1_at _ _ r d).trans (Finset.sum_congr rfl fun x _ => ?_)
  refine (term_at m c t r d x).trans (congrArg _ (Fin.ext ?_))
  show x.val = x.val
  omega

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 1024 r.val) (off1 (idx2 t) 1024 d.val)
  rw [View.read_apply, he]
  exact at_out m c t r d
theorem final : (Gen.dats m 0 c).arrAt 2 cfg0.N = res m c :=
  (Gen.dats m 0 c).arrAt_eq_of_cover 2 (res m c) (flushes m c) fun i => by
    have h0 : (i 0 : Nat) < 1024 := (i 0).isLt
    have h1 : (i 1 : Nat) < 2048 := (i 1).isLt
    let t : Fin cfg0.N := ⟨(i 0).val / 1024 * 2 + (i 1).val / 1024 * 1, by rw [show cfg0.N = 2 from N_0]; omega⟩
    have ht : t.val = (i 0).val / 1024 * 2 + (i 1).val / 1024 * 1 := rfl
    refine ⟨t, flush0_2 t, ?_⟩
    show i ∈ ((View.whole main_v0).slice (win0_2.rect t)).set
    rw [View.set_slice_whole, Rect.mem_set_unit]
    exact inBlock (s := ![1024, 1024]) (i := fun a => (i a).val) (idx2 t) (by show (t.val / 2) * 1024 ≤ (i 0).val ∧ (i 0).val < (t.val / 2) * 1024 + 1024; omega) (by show (t.val / 1 % 2) * 1024 ≤ (i 1).val ∧ (i 1).val < (t.val / 1 % 2) * 1024 + 1024; omega)
end Cert.XkvDwIdeal.Blocks

namespace Cert.XkvDw
open Idealize.ShloMosaic Idealize.SL.Sem XkvDwIdeal
open scoped BigOperators

/-- The reference's result, and that it is the kernel's. -/
theorem reference_at (x0 : FVec Ideal S1024x1024 .bf16) (x1 : FVec Ideal S1024x2048 .f32) (i : Fin 1024) (j : Fin 2048) :
    XkvDwRefIdeal.Read.val_main_v4 (F := Ideal) x0 x1 (ix2 i j) = ∑ x : Fin 1024, x1 (ix2 x j) * x0 (ix2 x i) := by
  pointwise [XkvDwRefIdeal.Read.val_main_v0, XkvDwRefIdeal.Read.val_main_v1, XkvDwRefIdeal.Read.val_main_v2, XkvDwRefIdeal.Read.val_main_v3, XkvDwRefIdeal.Read.val_main_v4]

theorem algebraic : algebraic_XkvDwIdeal_XkvDwRefIdeal := by
  intro m g m' g' _ e
  refine ⟨fun c => XkvDwIdeal.Blocks.res m c, ?_, ?_⟩
  · refine (θ_run XkvDwIdeal.defs _ _).mono (fun r H c => ?_) (XkvDwIdeal.Value.run_blocks (F := Ideal) m g)
    exact ⟨(H c).1.trans (XkvDwIdeal.Blocks.final m c), (H c).2⟩
  · refine (θ_run XkvDwRefIdeal.defs _ _).mono (fun r H c => ?_) (XkvDwRefIdeal.Value.run (F := Ideal) m' g')
    refine ⟨(H c).1.trans ?_, (H c).2⟩
    rw [XkvDwRefIdeal.Read.val_main_v4_eq, (e c).1, (e c).2]
    funext i
    idx_vars i
    refine (reference_at _ _ i0 i1).trans ?_
    exact Finset.sum_congr rfl fun x _ => mul_comm (G := EReal) _ _

theorem reference_frame : quiescent_XkvDwRefIdeal := fun m ρ _ =>
  (θ_run XkvDwRefIdeal.defs _ _).mono (fun r h => ⟨fun c => (h c).2, sem_eq_zero_of_no_sems (by decide) r.2⟩) (XkvDwRefIdeal.Value.run (F := Ideal) m ρ)
end Cert.XkvDw
-- ==== Proof.AbOutDw.lean ====
/- The product `b_ab_out_dw`: what its array holds after the run, and every claim about it. -/
module
public import proofs.«01_k».proof.Defs
public import proofs.«01_k».proof.Proof.Product
public import proofs.«01_k».proof.Proof.Rows
public import proofs.«01_k».proof.Proof.Gen.AbOutDw.Frame
public import proofs.«01_k».proof.Proof.Gen.AbOutDwIdeal.Value
public import proofs.«01_k».proof.Proof.Gen.AbOutDwRefIdeal.Run
public import proofs.«01_k».proof.Proof.Gen.AbOutDwRefIdeal.Read
public import Idealize.ShloMosaic.Lib.Pointwise
public import Idealize.ShloMosaic.Lib.Quiescent
@[expose] public section
set_option maxRecDepth 16384
noncomputable section
namespace Cert.AbOutDwIdeal.Blocks
open Cert.AbOutDwIdeal Cert.AbOutDwIdeal.Gen Idealize.ShloMosaic Idealize.ShloMosaic.TcCoe Idealize.SL.Sem Cert.Product Cert.Rows
open scoped BigOperators

section Words
variable {F : FTy → Type} [FloatOps F]
variable (c : Dev nD) (i : grid0.Coords) (a3 : Memref sig .tc .vmem S1024x1024 .f32) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
  (x0 : Vec F S1024x1024 .f32) (x1 : Vec F S1024x1024 .bf16) (xs : Vec F S1024x1024 .f32)
/-- What a point leaves in the accumulator: its own product at a tile's first point, and later the sum so far with it. -/
theorem accA (hc0 : cond0_0 i) (hc1 : ¬cond0_1 i) (hc2 : ¬cond0_2 i) : sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A; dsimp only; (try sl_unfold_words)
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]
theorem accB (hc0 : ¬cond0_0 i) (hc1 : cond0_1 i) (hc2 : ¬cond0_2 i) : sout0_B_0 c i a3 h3 a4 h4 a5 h5 a6 h6 hc0 hc1 hc2 x0 x1 xs = k0_pay2 xs x0 x1 := by
  unfold sout0_B_0
  rw [View.read_writes_eq_canon _ _ _ (scover0_B_0 c i a3 h3 a4 h4 a5 h5 a6 h6 hc0 hc1 hc2 x0 x1 xs)]
  unfold kernelRun0_B; dsimp only; (try sl_unfold_words)
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]
theorem accC (hc0 : ¬cond0_0 i) (hc1 : cond0_1 i) (hc2 : cond0_2 i) : sout0_C_0 c i a3 h3 a4 h4 a5 h5 a6 h6 hc0 hc1 hc2 x0 x1 xs = k0_pay2 xs x0 x1 := by
  unfold sout0_C_0
  rw [View.read_writes_eq_canon _ _ _ (scover0_C_0 c i a3 h3 a4 h4 a5 h5 a6 h6 hc0 hc1 hc2 x0 x1 xs)]
  unfold kernelRun0_C; dsimp only; (try sl_unfold_words)
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]
/-- What the last point of a tile stores. -/
theorem outC (hc0 : ¬cond0_0 i) (hc1 : cond0_1 i) (hc2 : cond0_2 i) : out0_C_2 c i a3 h3 a4 h4 a5 h5 a6 h6 hc0 hc1 hc2 x0 x1 xs = k0_pay2 xs x0 x1 := by
  unfold out0_C_2
  rw [View.read_writes_eq_canon _ _ _ (cover0_C_2 c i a3 h3 a4 h4 a5 h5 a6 h6 hc0 hc1 hc2 x0 x1 xs)]
  unfold kernelRun0_C; dsimp only; (try sl_unfold_words)
  rw [View.canon_unit_zero hz]
  simp only [View.readAt_eq_ld, h3.read_unread, h4.read_unread, h6.read_unread, View.ld_unit_zero (S := S1024x1024) hz, View.ld_unit_zero (S := S1024x1024) hz, View.ld_unit_zero (S := S1024x1024) hz]
  exact View.readCov_cons_toLoadRect ..
end Words

theorem pay1_at (x0 : FVec Ideal S1024x1024 .f32) (x1 : FVec Ideal S1024x1024 .bf16) (r : Fin 1024) (d : Fin 1024) :
    k0_pay1 (F := Ideal) x0 x1 (ix2 r d) = ∑ x : Fin 1024, x0 (ix2 x r) * x1 (ix2 x d) := by
  pointwise [k0_pay1]
theorem pay2_at (xs : FVec Ideal S1024x1024 .f32) (x0 : FVec Ideal S1024x1024 .f32) (x1 : FVec Ideal S1024x1024 .bf16) (r : Fin 1024) (d : Fin 1024) :
    k0_pay2 (F := Ideal) xs x0 x1 (ix2 r d) = xs (ix2 r d) + ∑ x : Fin 1024, x0 (ix2 x r) * x1 (ix2 x d) := by
  pointwise [k0_pay2]

variable (m : (ℓ : Loc nD τ sig) → Buf (Elt Ideal) ℓ) (c : Dev nD)

/-- The arguments, read by their coordinates. -/
abbrev aA : Fin 8192 → Fin 1024 → EReal := fun i j => m ((c : Thread nD τ).loc main_arg0) (ix2 i j)
abbrev aB : Fin 8192 → Fin 1024 → EReal := fun i j => m ((c : Thread nD τ).loc main_arg1) (ix2 i j)

theorem ltN (t : Fin cfg0.N) : t.val < 8 := by have h := t.isLt; have e : cfg0.N = 8 := N_0; omega
/-- The row, the column and the summed coordinate a block index of point `t` stands for. -/
def row (t : Fin cfg0.N) (r : Fin 1024) : Fin 1024 := ⟨t.val / 8 * 1024 + r.val, by have := ltN t; omega⟩
def col (t : Fin cfg0.N) (d : Fin 1024) : Fin 1024 := ⟨d.val, by have := ltN t; omega⟩
def dim (t : Fin cfg0.N) (x : Fin 1024) : Fin 8192 := ⟨t.val % 8 * 1024 + x.val, by omega⟩

/-- The terms of one entry of the product. -/
def entry (i : Fin 1024) (j : Fin 1024) : Fin 8192 → EReal := fun x => aA m c (x) (i) * aB m c (x) (j)
def total (i : Fin 1024) (j : Fin 1024) : EReal := ∑ x : Fin 8192, entry m c i j x
def res : Buf (Elt Ideal) ((c : Thread nD τ).loc main_v0) := fun i : S1024x1024.Idx => total m c (i 0) (i 1)

theorem idx0 : ∀ t : Fin grid0.N, win0_0.index t = ![t.val % 8, t.val / 8] := by decide +kernel
theorem idx1 : ∀ t : Fin grid0.N, win0_1.index t = ![t.val % 8, 0] := by decide +kernel
theorem idx2 : ∀ t : Fin grid0.N, win0_2.index t = ![t.val / 8, 0] := by decide +kernel
theorem rd0 (t : Fin cfg0.N) (x : Fin 1024) (r : Fin 1024) : iblk m c 0 t (ix2 x r) = m ((c : Thread nD τ).loc main_arg0) (ix2 (dim t x) (row t r)) := by
  unfold iblk
  rw [View.read_apply]
  exact congrArg (m ((c : Thread nD τ).loc main_arg0)) (idx2_ext _ _ (off0 (idx0 t) 1024 x.val) (off1 (idx0 t) 1024 r.val))
theorem rd1 (t : Fin cfg0.N) (x : Fin 1024) (d : Fin 1024) : iblk m c 1 t (ix2 x d) = m ((c : Thread nD τ).loc main_arg1) (ix2 (dim t x) (col t d)) := by
  unfold iblk
  rw [View.read_apply]
  exact congrArg (m ((c : Thread nD τ).loc main_arg1)) (idx2_ext _ _ (off0 (idx1 t) 1024 x.val) (off1z (idx1 t) 1024 d.val))
/-- The blocks point `t` reads, and what they hold. -/
def bA (t : Fin cfg0.N) : FVec Ideal S1024x1024 .f32 := iblk m c 0 t
def bB (t : Fin cfg0.N) : FVec Ideal S1024x1024 .bf16 := iblk m c 1 t
theorem term_at (t : Fin cfg0.N) (r : Fin 1024) (d : Fin 1024) (x : Fin 1024) : bA m c t (ix2 x r) * bB m c t (ix2 x d) = entry m c (row t r) (col t d) (dim t x) := by
  refine congrArg₂ (· * ·) ?_ ?_
  · exact rd0 m c t x r
  · exact rd1 m c t x d

/-- The point before. -/
abbrev prev (t : Fin cfg0.N) : Fin cfg0.N := ⟨t.val - 1, Nat.lt_of_le_of_lt (Nat.sub_le _ _) t.isLt⟩
theorem held_first (t : Fin cfg0.N) (h : t.val % 8 = 0) : (outsAt0 m c t.val t.isLt).2 = k0_pay1 (F := Ideal) (bA m c t) (bB m c t) := by
  rw [outsAt0_A m c t h (by have := ltN t; omega) (by omega)]; dsimp only; exact accA (F := Ideal) ..
theorem held_next (t : Fin cfg0.N) (h : t.val % 8 ≠ 0) : (outsAt0 m c t.val t.isLt).2 = k0_pay2 (F := Ideal) (outsAt0 m c (prev t).val (prev t).isLt).2 (bA m c t) (bB m c t) := by
  by_cases h2 : t.val % 8 = 7
  · rw [outsAt0_C m c t h (by have := ltN t; omega) h2]; dsimp only; exact accC (F := Ideal) ..
  · rw [outsAt0_B m c t h (by have := ltN t; omega) h2]; dsimp only; exact accB (F := Ideal) ..
theorem stored (t : Fin cfg0.N) (h : t.val % 8 = 7) : (outsAt0 m c t.val t.isLt).1 = (outsAt0 m c t.val t.isLt).2 := by
  rw [held_next m c t (by omega), outsAt0_C m c t (by omega) (by omega) h]; dsimp only; exact outC (F := Ideal) ..

/-- After `q + 1` points of a tile the accumulator holds the sum of that many stretches. -/
theorem held (q : ℕ) : ∀ (t : Fin cfg0.N), t.val % 8 = q → ∀ (r : Fin 1024) (d : Fin 1024),
    (outsAt0 m c t.val t.isLt).2 (ix2 r d) = upto (entry m c (row t r) (col t d)) ((q + 1) * 1024) := by
  induction q with
  | zero =>
    intro t h r d
    rw [held_first m c t h]
    refine (pay1_at _ _ r d).trans ?_
    refine (upto_first (entry m c (row t r) (col t d)) 1024 (fun x => bA m c t (ix2 x r) * bB m c t (ix2 x d)) (by omega) fun x => ?_).symm
    refine (term_at m c t r d x).trans (congrArg _ (Fin.ext ?_))
    show t.val % 8 * 1024 + x.val = x.val
    omega
  | succ q ih =>
    intro t h r d
    have ht := ltN t
    rw [held_next m c t (by omega)]
    refine (pay2_at _ _ _ r d).trans ?_
    rw [ih (prev t) (by show (t.val - 1) % 8 = q; omega) r d]
    have er : row (prev t) r = row t r := Fin.ext (by show (t.val - 1) / 8 * 1024 + r.val = t.val / 8 * 1024 + r.val; omega)
    have ec : col (prev t) d = col t d := Fin.ext (by show d.val = d.val; omega)
    rw [er, ec]
    refine Eq.trans ?_ ((upto_add (entry m c (row t r) (col t d)) ((q + 1) * 1024) 1024 (fun x => bA m c t (ix2 x r) * bB m c t (ix2 x d)) (by omega) fun x => ?_).symm.trans (congrArg (upto _) (by omega)))
    · rfl
    · refine (term_at m c t r d x).trans (congrArg _ (Fin.ext ?_))
      show t.val % 8 * 1024 + x.val = (q + 1) * 1024 + x.val
      omega
theorem at_out (t : Fin cfg0.N) (h : t.val % 8 = 7) (r : Fin 1024) (d : Fin 1024) :
    (outsAt0 m c t.val t.isLt).1 (ix2 r d) = ∑ x : Fin 8192, entry m c (row t r) (col t d) x := by
  rw [stored m c t h, held m c 7 t h r d]
  exact upto_all _

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 1024 r.val) (off1z (idx2 t) 1024 d.val)
  rw [View.read_apply, he]
  exact at_out m c t ((flush0_2 t).mp hf) r d
theorem final : (Gen.dats m 0 c).arrAt 2 cfg0.N = res m c :=
  (Gen.dats m 0 c).arrAt_eq_of_cover 2 (res m c) (flushes m c) fun i => by
    have h0 : (i 0 : Nat) < 1024 := (i 0).isLt
    have h1 : (i 1 : Nat) < 1024 := (i 1).isLt
    let t : Fin cfg0.N := ⟨(i 0).val / 1024 * 8 + (i 1).val / 1024 * 8 + 7, by rw [show cfg0.N = 8 from N_0]; omega⟩
    have ht : t.val = (i 0).val / 1024 * 8 + (i 1).val / 1024 * 8 + 7 := rfl
    refine ⟨t, (flush0_2 t).mpr (by show ((i 0).val / 1024 * 8 + (i 1).val / 1024 * 8 + 7) % 8 = 7; omega), ?_⟩
    show i ∈ ((View.whole main_v0).slice (win0_2.rect t)).set
    rw [View.set_slice_whole, Rect.mem_set_unit]
    exact inBlock (s := ![1024, 1024]) (i := fun a => (i a).val) (idx2 t) (by show (t.val / 8) * 1024 ≤ (i 0).val ∧ (i 0).val < (t.val / 8) * 1024 + 1024; omega) (by show (0) * 1024 ≤ (i 1).val ∧ (i 1).val < (0) * 1024 + 1024; omega)
end Cert.AbOutDwIdeal.Blocks

namespace Cert.AbOutDw
open Idealize.ShloMosaic Idealize.SL.Sem AbOutDwIdeal
open scoped BigOperators

/-- The reference's result, and that it is the kernel's. -/
theorem reference_at (x0 : FVec Ideal S8192x1024 .f32) (x1 : FVec Ideal S8192x1024 .bf16) (i : Fin 1024) (j : Fin 1024) :
    AbOutDwRefIdeal.Read.val_main_v4 (F := Ideal) x0 x1 (ix2 i j) = ∑ x : Fin 8192, x1 (ix2 x j) * x0 (ix2 x i) := by
  pointwise [AbOutDwRefIdeal.Read.val_main_v0, AbOutDwRefIdeal.Read.val_main_v1, AbOutDwRefIdeal.Read.val_main_v2, AbOutDwRefIdeal.Read.val_main_v3, AbOutDwRefIdeal.Read.val_main_v4]

theorem algebraic : algebraic_AbOutDwIdeal_AbOutDwRefIdeal := by
  intro m g m' g' _ e
  refine ⟨fun c => AbOutDwIdeal.Blocks.res m c, ?_, ?_⟩
  · refine (θ_run AbOutDwIdeal.defs _ _).mono (fun r H c => ?_) (AbOutDwIdeal.Value.run_blocks (F := Ideal) m g)
    exact ⟨(H c).1.trans (AbOutDwIdeal.Blocks.final m c), (H c).2⟩
  · refine (θ_run AbOutDwRefIdeal.defs _ _).mono (fun r H c => ?_) (AbOutDwRefIdeal.Value.run (F := Ideal) m' g')
    refine ⟨(H c).1.trans ?_, (H c).2⟩
    rw [AbOutDwRefIdeal.Read.val_main_v4_eq, (e c).1, (e c).2]
    funext i
    idx_vars i
    refine (reference_at _ _ i0 i1).trans ?_
    exact Finset.sum_congr rfl fun x _ => mul_comm (G := EReal) _ _

theorem reference_frame : quiescent_AbOutDwRefIdeal := fun m ρ _ =>
  (θ_run AbOutDwRefIdeal.defs _ _).mono (fun r h => ⟨fun c => (h c).2, sem_eq_zero_of_no_sems (by decide) r.2⟩) (AbOutDwRefIdeal.Value.run (F := Ideal) m ρ)
end Cert.AbOutDw
-- ==== Proof.FfnOut.lean ====
/- The product `ffn_out`: what its array holds after the run, and every claim about it. -/
module
public import proofs.«01_k».proof.Defs
public import proofs.«01_k».proof.Proof.Product
public import proofs.«01_k».proof.Proof.Rows
public import proofs.«01_k».proof.Proof.Gen.FfnOut.Frame
public import proofs.«01_k».proof.Proof.Gen.FfnOutIdeal.Value
public import proofs.«01_k».proof.Proof.Gen.FfnOutRefIdeal.Run
public import proofs.«01_k».proof.Proof.Gen.FfnOutRefIdeal.Read
public import Idealize.ShloMosaic.Lib.Pointwise
public import Idealize.ShloMosaic.Lib.Quiescent
@[expose] public section
set_option maxRecDepth 16384
noncomputable section
namespace Cert.FfnOutIdeal.Blocks
open Cert.FfnOutIdeal Cert.FfnOutIdeal.Gen Idealize.ShloMosaic Idealize.ShloMosaic.TcCoe Idealize.SL.Sem Cert.Product Cert.Rows
open scoped BigOperators

theorem outW {F : FTy → Type} [FloatOps F] (x0 : Vec F S2048x2816 .bf16) (x1 : Vec F S2816x512 .bf16) : out0_2 x0 x1 = k0_pay1 x0 x1 := by
  unfold out0_2
  rw [View.canon_unit_zero hz]
  simp only [View.ld_unit_zero (S := S2048x2816) hz, View.ld_unit_zero (S := S2816x512) hz]

theorem pay1_at (x0 : FVec Ideal S2048x2816 .bf16) (x1 : FVec Ideal S2816x512 .bf16) (r : Fin 2048) (d : Fin 512) :
    k0_pay1 (F := Ideal) x0 x1 (ix2 r d) = ∑ x : Fin 2816, x0 (ix2 r x) * x1 (ix2 x d) := by
  pointwise [k0_pay1]

variable (m : (ℓ : Loc nD τ sig) → Buf (Elt Ideal) ℓ) (c : Dev nD)

/-- The arguments, read by their coordinates. -/
abbrev aA : Fin 8192 → Fin 2816 → EReal := fun i j => m ((c : Thread nD τ).loc main_arg0) (ix2 i j)
abbrev aB : Fin 2816 → Fin 1024 → EReal := fun i j => m ((c : Thread nD τ).loc main_arg1) (ix2 i j)

theorem ltN (t : Fin cfg0.N) : t.val < 8 := by have h := t.isLt; have e : cfg0.N = 8 := N_0; omega
/-- The row, the column and the summed coordinate a block index of point `t` stands for. -/
def row (t : Fin cfg0.N) (r : Fin 2048) : Fin 8192 := ⟨t.val / 2 * 2048 + r.val, by have := ltN t; omega⟩
def col (t : Fin cfg0.N) (d : Fin 512) : Fin 1024 := ⟨t.val / 1 % 2 * 512 + d.val, by have := ltN t; omega⟩
def dim (t : Fin cfg0.N) (x : Fin 2816) : Fin 2816 := ⟨x.val, by omega⟩

/-- The terms of one entry of the product. -/
def entry (i : Fin 8192) (j : Fin 1024) : Fin 2816 → EReal := fun x => aA m c (i) (x) * aB m c (x) (j)
def total (i : Fin 8192) (j : Fin 1024) : EReal := ∑ x : Fin 2816, entry m c i j x
def res : Buf (Elt Ideal) ((c : Thread nD τ).loc main_v0) := fun i : S8192x1024.Idx => total m c (i 0) (i 1)

theorem idx0 : ∀ t : Fin grid0.N, win0_0.index t = ![t.val / 2, 0] := by decide +kernel
theorem idx1 : ∀ t : Fin grid0.N, win0_1.index t = ![0, t.val / 1 % 2] := by decide +kernel
theorem idx2 : ∀ t : Fin grid0.N, win0_2.index t = ![t.val / 2, t.val / 1 % 2] := by decide +kernel
theorem rd0 (t : Fin cfg0.N) (r : Fin 2048) (x : Fin 2816) : iblk m c 0 t (ix2 r x) = m ((c : Thread nD τ).loc main_arg0) (ix2 (row t r) (dim t x)) := by
  unfold iblk
  rw [View.read_apply]
  exact congrArg (m ((c : Thread nD τ).loc main_arg0)) (idx2_ext _ _ (off0 (idx0 t) 2048 r.val) (off1z (idx0 t) 2816 x.val))
theorem rd1 (t : Fin cfg0.N) (x : Fin 2816) (d : Fin 512) : iblk m c 1 t (ix2 x d) = m ((c : Thread nD τ).loc main_arg1) (ix2 (dim t x) (col t d)) := by
  unfold iblk
  rw [View.read_apply]
  exact congrArg (m ((c : Thread nD τ).loc main_arg1)) (idx2_ext _ _ (off0z (idx1 t) 2816 x.val) (off1 (idx1 t) 512 d.val))
/-- The blocks point `t` reads, and what they hold. -/
def bA (t : Fin cfg0.N) : FVec Ideal S2048x2816 .bf16 := iblk m c 0 t
def bB (t : Fin cfg0.N) : FVec Ideal S2816x512 .bf16 := iblk m c 1 t
theorem term_at (t : Fin cfg0.N) (r : Fin 2048) (d : Fin 512) (x : Fin 2816) : bA m c t (ix2 r x) * bB m c t (ix2 x d) = entry m c (row t r) (col t d) (dim t x) := by
  refine congrArg₂ (· * ·) ?_ ?_
  · exact rd0 m c t r x
  · exact rd1 m c t x d
theorem at_out (t : Fin cfg0.N) (r : Fin 2048) (d : Fin 512) :
    out0_2 (F := Ideal) (bA m c t) (bB m c t) (ix2 r d) = ∑ x : Fin 2816, entry m c (row t r) (col t d) x := by
  rw [outW]
  refine (pay1_at _ _ r d).trans (Finset.sum_congr rfl fun x _ => ?_)
  refine (term_at m c t r d x).trans (congrArg _ (Fin.ext ?_))
  show x.val = x.val
  omega

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 2048 r.val) (off1 (idx2 t) 512 d.val)
  rw [View.read_apply, he]
  exact at_out m c t r d
theorem final : (Gen.dats m 0 c).arrAt 2 cfg0.N = res m c :=
  (Gen.dats m 0 c).arrAt_eq_of_cover 2 (res m c) (flushes m c) fun i => by
    have h0 : (i 0 : Nat) < 8192 := (i 0).isLt
    have h1 : (i 1 : Nat) < 1024 := (i 1).isLt
    let t : Fin cfg0.N := ⟨(i 0).val / 2048 * 2 + (i 1).val / 512 * 1, by rw [show cfg0.N = 8 from N_0]; omega⟩
    have ht : t.val = (i 0).val / 2048 * 2 + (i 1).val / 512 * 1 := rfl
    refine ⟨t, flush0_2 t, ?_⟩
    show i ∈ ((View.whole main_v0).slice (win0_2.rect t)).set
    rw [View.set_slice_whole, Rect.mem_set_unit]
    exact inBlock (s := ![2048, 512]) (i := fun a => (i a).val) (idx2 t) (by show (t.val / 2) * 2048 ≤ (i 0).val ∧ (i 0).val < (t.val / 2) * 2048 + 2048; omega) (by show (t.val / 1 % 2) * 512 ≤ (i 1).val ∧ (i 1).val < (t.val / 1 % 2) * 512 + 512; omega)
end Cert.FfnOutIdeal.Blocks

namespace Cert.FfnOut
open Idealize.ShloMosaic Idealize.SL.Sem FfnOutIdeal
open scoped BigOperators

/-- The reference's result, and that it is the kernel's. -/
theorem reference_at (x0 : FVec Ideal S8192x2816 .bf16) (x1 : FVec Ideal S2816x1024 .bf16) (i : Fin 8192) (j : Fin 1024) :
    FfnOutRefIdeal.Read.val_main_v2 (F := Ideal) x0 x1 (ix2 i j) = ∑ x : Fin 2816, x0 (ix2 i x) * x1 (ix2 x j) := by
  pointwise [FfnOutRefIdeal.Read.val_main_v0, FfnOutRefIdeal.Read.val_main_v1, FfnOutRefIdeal.Read.val_main_v2]

theorem algebraic : algebraic_FfnOutIdeal_FfnOutRefIdeal := by
  intro m g m' g' _ e
  refine ⟨fun c => FfnOutIdeal.Blocks.res m c, ?_, ?_⟩
  · refine (θ_run FfnOutIdeal.defs _ _).mono (fun r H c => ?_) (FfnOutIdeal.Value.run_blocks (F := Ideal) m g)
    exact ⟨(H c).1.trans (FfnOutIdeal.Blocks.final m c), (H c).2⟩
  · refine (θ_run FfnOutRefIdeal.defs _ _).mono (fun r H c => ?_) (FfnOutRefIdeal.Value.run (F := Ideal) m' g')
    refine ⟨(H c).1.trans ?_, (H c).2⟩
    rw [FfnOutRefIdeal.Read.val_main_v2_eq, (e c).1, (e c).2]
    funext i
    idx_vars i
    refine (reference_at _ _ i0 i1).trans ?_
    rfl

theorem reference_frame : quiescent_FfnOutRefIdeal := fun m ρ _ =>
  (θ_run FfnOutRefIdeal.defs _ _).mono (fun r h => ⟨fun c => (h c).2, sem_eq_zero_of_no_sems (by decide) r.2⟩) (FfnOutRefIdeal.Value.run (F := Ideal) m ρ)
end Cert.FfnOut
-- ==== Proof.AbIn.lean ====
/- The product `ab_in`: what its array holds after the run, and every claim about it. -/
module
public import proofs.«01_k».proof.Defs
public import proofs.«01_k».proof.Proof.Product
public import proofs.«01_k».proof.Proof.Rows
public import proofs.«01_k».proof.Proof.Gen.AbIn.Frame
public import proofs.«01_k».proof.Proof.Gen.AbInIdeal.Value
public import proofs.«01_k».proof.Proof.Gen.AbInRefIdeal.Run
public import proofs.«01_k».proof.Proof.Gen.AbInRefIdeal.Read
public import Idealize.ShloMosaic.Lib.Pointwise
public import Idealize.ShloMosaic.Lib.Quiescent
@[expose] public section
set_option maxRecDepth 16384
noncomputable section
namespace Cert.AbInIdeal.Blocks
open Cert.AbInIdeal Cert.AbInIdeal.Gen Idealize.ShloMosaic Idealize.ShloMosaic.TcCoe Idealize.SL.Sem Cert.Product Cert.Rows
open scoped BigOperators

theorem outW {F : FTy → Type} [FloatOps F] (x0 : Vec F S2048x1024 .bf16) (x1 : Vec F S1024x512 .bf16) : out0_2 x0 x1 = k0_pay1 x0 x1 := by
  unfold out0_2
  rw [View.canon_unit_zero hz]
  simp only [View.ld_unit_zero (S := S2048x1024) hz, View.ld_unit_zero (S := S1024x512) hz]

theorem pay1_at (x0 : FVec Ideal S2048x1024 .bf16) (x1 : FVec Ideal S1024x512 .bf16) (r : Fin 2048) (d : Fin 512) :
    k0_pay1 (F := Ideal) x0 x1 (ix2 r d) = ∑ x : Fin 1024, x0 (ix2 r x) * x1 (ix2 x d) := by
  pointwise [k0_pay1]

variable (m : (ℓ : Loc nD τ sig) → Buf (Elt Ideal) ℓ) (c : Dev nD)

/-- The arguments, read by their coordinates. -/
abbrev aA : Fin 8192 → Fin 1024 → EReal := fun i j => m ((c : Thread nD τ).loc main_arg0) (ix2 i j)
abbrev aB : Fin 1024 → Fin 3584 → EReal := fun i j => m ((c : Thread nD τ).loc main_arg1) (ix2 i j)

theorem ltN (t : Fin cfg0.N) : t.val < 28 := by have h := t.isLt; have e : cfg0.N = 28 := N_0; omega
/-- The row, the column and the summed coordinate a block index of point `t` stands for. -/
def row (t : Fin cfg0.N) (r : Fin 2048) : Fin 8192 := ⟨t.val / 7 * 2048 + r.val, by have := ltN t; omega⟩
def col (t : Fin cfg0.N) (d : Fin 512) : Fin 3584 := ⟨t.val / 1 % 7 * 512 + d.val, by have := ltN t; omega⟩
def dim (t : Fin cfg0.N) (x : Fin 1024) : Fin 1024 := ⟨x.val, by omega⟩

/-- The terms of one entry of the product. -/
def entry (i : Fin 8192) (j : Fin 3584) : Fin 1024 → EReal := fun x => aA m c (i) (x) * aB m c (x) (j)
def total (i : Fin 8192) (j : Fin 3584) : EReal := ∑ x : Fin 1024, entry m c i j x
def res : Buf (Elt Ideal) ((c : Thread nD τ).loc main_v0) := fun i : S8192x3584.Idx => total m c (i 0) (i 1)

theorem idx0 : ∀ t : Fin grid0.N, win0_0.index t = ![t.val / 7, 0] := by decide +kernel
theorem idx1 : ∀ t : Fin grid0.N, win0_1.index t = ![0, t.val / 1 % 7] := by decide +kernel
theorem idx2 : ∀ t : Fin grid0.N, win0_2.index t = ![t.val / 7, t.val / 1 % 7] := by decide +kernel
theorem rd0 (t : Fin cfg0.N) (r : Fin 2048) (x : Fin 1024) : iblk m c 0 t (ix2 r x) = m ((c : Thread nD τ).loc main_arg0) (ix2 (row t r) (dim t x)) := by
  unfold iblk
  rw [View.read_apply]
  exact congrArg (m ((c : Thread nD τ).loc main_arg0)) (idx2_ext _ _ (off0 (idx0 t) 2048 r.val) (off1z (idx0 t) 1024 x.val))
theorem rd1 (t : Fin cfg0.N) (x : Fin 1024) (d : Fin 512) : iblk m c 1 t (ix2 x d) = m ((c : Thread nD τ).loc main_arg1) (ix2 (dim t x) (col t d)) := by
  unfold iblk
  rw [View.read_apply]
  exact congrArg (m ((c : Thread nD τ).loc main_arg1)) (idx2_ext _ _ (off0z (idx1 t) 1024 x.val) (off1 (idx1 t) 512 d.val))
/-- The blocks point `t` reads, and what they hold. -/
def bA (t : Fin cfg0.N) : FVec Ideal S2048x1024 .bf16 := iblk m c 0 t
def bB (t : Fin cfg0.N) : FVec Ideal S1024x512 .bf16 := iblk m c 1 t
theorem term_at (t : Fin cfg0.N) (r : Fin 2048) (d : Fin 512) (x : Fin 1024) : bA m c t (ix2 r x) * bB m c t (ix2 x d) = entry m c (row t r) (col t d) (dim t x) := by
  refine congrArg₂ (· * ·) ?_ ?_
  · exact rd0 m c t r x
  · exact rd1 m c t x d
theorem at_out (t : Fin cfg0.N) (r : Fin 2048) (d : Fin 512) :
    out0_2 (F := Ideal) (bA m c t) (bB m c t) (ix2 r d) = ∑ x : Fin 1024, entry m c (row t r) (col t d) x := by
  rw [outW]
  refine (pay1_at _ _ r d).trans (Finset.sum_congr rfl fun x _ => ?_)
  refine (term_at m c t r d x).trans (congrArg _ (Fin.ext ?_))
  show x.val = x.val
  omega

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 2048 r.val) (off1 (idx2 t) 512 d.val)
  rw [View.read_apply, he]
  exact at_out m c t r d
theorem final : (Gen.dats m 0 c).arrAt 2 cfg0.N = res m c :=
  (Gen.dats m 0 c).arrAt_eq_of_cover 2 (res m c) (flushes m c) fun i => by
    have h0 : (i 0 : Nat) < 8192 := (i 0).isLt
    have h1 : (i 1 : Nat) < 3584 := (i 1).isLt
    let t : Fin cfg0.N := ⟨(i 0).val / 2048 * 7 + (i 1).val / 512 * 1, by rw [show cfg0.N = 28 from N_0]; omega⟩
    have ht : t.val = (i 0).val / 2048 * 7 + (i 1).val / 512 * 1 := rfl
    refine ⟨t, flush0_2 t, ?_⟩
    show i ∈ ((View.whole main_v0).slice (win0_2.rect t)).set
    rw [View.set_slice_whole, Rect.mem_set_unit]
    exact inBlock (s := ![2048, 512]) (i := fun a => (i a).val) (idx2 t) (by show (t.val / 7) * 2048 ≤ (i 0).val ∧ (i 0).val < (t.val / 7) * 2048 + 2048; omega) (by show (t.val / 1 % 7) * 512 ≤ (i 1).val ∧ (i 1).val < (t.val / 1 % 7) * 512 + 512; omega)
end Cert.AbInIdeal.Blocks

namespace Cert.AbIn
open Idealize.ShloMosaic Idealize.SL.Sem AbInIdeal
open scoped BigOperators

/-- The reference's result, and that it is the kernel's. -/
theorem reference_at (x0 : FVec Ideal S8192x1024 .bf16) (x1 : FVec Ideal S1024x3584 .bf16) (i : Fin 8192) (j : Fin 3584) :
    AbInRefIdeal.Read.val_main_v2 (F := Ideal) x0 x1 (ix2 i j) = ∑ x : Fin 1024, x0 (ix2 i x) * x1 (ix2 x j) := by
  pointwise [AbInRefIdeal.Read.val_main_v0, AbInRefIdeal.Read.val_main_v1, AbInRefIdeal.Read.val_main_v2]

theorem algebraic : algebraic_AbInIdeal_AbInRefIdeal := by
  intro m g m' g' _ e
  refine ⟨fun c => AbInIdeal.Blocks.res m c, ?_, ?_⟩
  · refine (θ_run AbInIdeal.defs _ _).mono (fun r H c => ?_) (AbInIdeal.Value.run_blocks (F := Ideal) m g)
    exact ⟨(H c).1.trans (AbInIdeal.Blocks.final m c), (H c).2⟩
  · refine (θ_run AbInRefIdeal.defs _ _).mono (fun r H c => ?_) (AbInRefIdeal.Value.run (F := Ideal) m' g')
    refine ⟨(H c).1.trans ?_, (H c).2⟩
    rw [AbInRefIdeal.Read.val_main_v2_eq, (e c).1, (e c).2]
    funext i
    idx_vars i
    refine (reference_at _ _ i0 i1).trans ?_
    rfl

theorem reference_frame : quiescent_AbInRefIdeal := fun m ρ _ =>
  (θ_run AbInRefIdeal.defs _ _).mono (fun r h => ⟨fun c => (h c).2, sem_eq_zero_of_no_sems (by decide) r.2⟩) (AbInRefIdeal.Value.run (F := Ideal) m ρ)
end Cert.AbIn
-- ==== Proof.AbOut.lean ====
/- The product `ab_out`: what its array holds after the run, and every claim about it. -/
module
public import proofs.«01_k».proof.Defs
public import proofs.«01_k».proof.Proof.Product
public import proofs.«01_k».proof.Proof.Rows
public import proofs.«01_k».proof.Proof.Gen.AbOut.Frame
public import proofs.«01_k».proof.Proof.Gen.AbOutIdeal.Value
public import proofs.«01_k».proof.Proof.Gen.AbOutRefIdeal.Run
public import proofs.«01_k».proof.Proof.Gen.AbOutRefIdeal.Read
public import Idealize.ShloMosaic.Lib.Pointwise
public import Idealize.ShloMosaic.Lib.Quiescent
@[expose] public section
set_option maxRecDepth 16384
noncomputable section
namespace Cert.AbOutIdeal.Blocks
open Cert.AbOutIdeal Cert.AbOutIdeal.Gen Idealize.ShloMosaic Idealize.ShloMosaic.TcCoe Idealize.SL.Sem Cert.Product Cert.Rows
open scoped BigOperators

theorem outW {F : FTy → Type} [FloatOps F] (x0 : Vec F S2048x1024 .f32) (x1 : Vec F S1024x512 .bf16) : out0_2 x0 x1 = k0_pay1 x0 x1 := by
  unfold out0_2
  rw [View.canon_unit_zero hz]
  simp only [View.ld_unit_zero (S := S2048x1024) hz, View.ld_unit_zero (S := S1024x512) hz]

theorem pay1_at (x0 : FVec Ideal S2048x1024 .f32) (x1 : FVec Ideal S1024x512 .bf16) (r : Fin 2048) (d : Fin 512) :
    k0_pay1 (F := Ideal) x0 x1 (ix2 r d) = ∑ x : Fin 1024, x0 (ix2 r x) * x1 (ix2 x d) := by
  pointwise [k0_pay1]

variable (m : (ℓ : Loc nD τ sig) → Buf (Elt Ideal) ℓ) (c : Dev nD)

/-- The arguments, read by their coordinates. -/
abbrev aA : Fin 8192 → Fin 1024 → EReal := fun i j => m ((c : Thread nD τ).loc main_arg0) (ix2 i j)
abbrev aB : Fin 1024 → Fin 1024 → EReal := fun i j => m ((c : Thread nD τ).loc main_arg1) (ix2 i j)

theorem ltN (t : Fin cfg0.N) : t.val < 8 := by have h := t.isLt; have e : cfg0.N = 8 := N_0; omega
/-- The row, the column and the summed coordinate a block index of point `t` stands for. -/
def row (t : Fin cfg0.N) (r : Fin 2048) : Fin 8192 := ⟨t.val / 2 * 2048 + r.val, by have := ltN t; omega⟩
def col (t : Fin cfg0.N) (d : Fin 512) : Fin 1024 := ⟨t.val / 1 % 2 * 512 + d.val, by have := ltN t; omega⟩
def dim (t : Fin cfg0.N) (x : Fin 1024) : Fin 1024 := ⟨x.val, by omega⟩

/-- The terms of one entry of the product. -/
def entry (i : Fin 8192) (j : Fin 1024) : Fin 1024 → EReal := fun x => aA m c (i) (x) * aB m c (x) (j)
def total (i : Fin 8192) (j : Fin 1024) : EReal := ∑ x : Fin 1024, entry m c i j x
def res : Buf (Elt Ideal) ((c : Thread nD τ).loc main_v0) := fun i : S8192x1024.Idx => total m c (i 0) (i 1)

theorem idx0 : ∀ t : Fin grid0.N, win0_0.index t = ![t.val / 2, 0] := by decide +kernel
theorem idx1 : ∀ t : Fin grid0.N, win0_1.index t = ![0, t.val / 1 % 2] := by decide +kernel
theorem idx2 : ∀ t : Fin grid0.N, win0_2.index t = ![t.val / 2, t.val / 1 % 2] := by decide +kernel
theorem rd0 (t : Fin cfg0.N) (r : Fin 2048) (x : Fin 1024) : iblk m c 0 t (ix2 r x) = m ((c : Thread nD τ).loc main_arg0) (ix2 (row t r) (dim t x)) := by
  unfold iblk
  rw [View.read_apply]
  exact congrArg (m ((c : Thread nD τ).loc main_arg0)) (idx2_ext _ _ (off0 (idx0 t) 2048 r.val) (off1z (idx0 t) 1024 x.val))
theorem rd1 (t : Fin cfg0.N) (x : Fin 1024) (d : Fin 512) : iblk m c 1 t (ix2 x d) = m ((c : Thread nD τ).loc main_arg1) (ix2 (dim t x) (col t d)) := by
  unfold iblk
  rw [View.read_apply]
  exact congrArg (m ((c : Thread nD τ).loc main_arg1)) (idx2_ext _ _ (off0z (idx1 t) 1024 x.val) (off1 (idx1 t) 512 d.val))
/-- The blocks point `t` reads, and what they hold. -/
def bA (t : Fin cfg0.N) : FVec Ideal S2048x1024 .f32 := iblk m c 0 t
def bB (t : Fin cfg0.N) : FVec Ideal S1024x512 .bf16 := iblk m c 1 t
theorem term_at (t : Fin cfg0.N) (r : Fin 2048) (d : Fin 512) (x : Fin 1024) : bA m c t (ix2 r x) * bB m c t (ix2 x d) = entry m c (row t r) (col t d) (dim t x) := by
  refine congrArg₂ (· * ·) ?_ ?_
  · exact rd0 m c t r x
  · exact rd1 m c t x d
theorem at_out (t : Fin cfg0.N) (r : Fin 2048) (d : Fin 512) :
    out0_2 (F := Ideal) (bA m c t) (bB m c t) (ix2 r d) = ∑ x : Fin 1024, entry m c (row t r) (col t d) x := by
  rw [outW]
  refine (pay1_at _ _ r d).trans (Finset.sum_congr rfl fun x _ => ?_)
  refine (term_at m c t r d x).trans (congrArg _ (Fin.ext ?_))
  show x.val = x.val
  omega

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 2048 r.val) (off1 (idx2 t) 512 d.val)
  rw [View.read_apply, he]
  exact at_out m c t r d
theorem final : (Gen.dats m 0 c).arrAt 2 cfg0.N = res m c :=
  (Gen.dats m 0 c).arrAt_eq_of_cover 2 (res m c) (flushes m c) fun i => by
    have h0 : (i 0 : Nat) < 8192 := (i 0).isLt
    have h1 : (i 1 : Nat) < 1024 := (i 1).isLt
    let t : Fin cfg0.N := ⟨(i 0).val / 2048 * 2 + (i 1).val / 512 * 1, by rw [show cfg0.N = 8 from N_0]; omega⟩
    have ht : t.val = (i 0).val / 2048 * 2 + (i 1).val / 512 * 1 := rfl
    refine ⟨t, flush0_2 t, ?_⟩
    show i ∈ ((View.whole main_v0).slice (win0_2.rect t)).set
    rw [View.set_slice_whole, Rect.mem_set_unit]
    exact inBlock (s := ![2048, 512]) (i := fun a => (i a).val) (idx2 t) (by show (t.val / 2) * 2048 ≤ (i 0).val ∧ (i 0).val < (t.val / 2) * 2048 + 2048; omega) (by show (t.val / 1 % 2) * 512 ≤ (i 1).val ∧ (i 1).val < (t.val / 1 % 2) * 512 + 512; omega)
end Cert.AbOutIdeal.Blocks

namespace Cert.AbOut
open Idealize.ShloMosaic Idealize.SL.Sem AbOutIdeal
open scoped BigOperators

/-- The reference's result, and that it is the kernel's. -/
theorem reference_at (x0 : FVec Ideal S8192x1024 .f32) (x1 : FVec Ideal S1024x1024 .bf16) (i : Fin 8192) (j : Fin 1024) :
    AbOutRefIdeal.Read.val_main_v1 (F := Ideal) x0 x1 (ix2 i j) = ∑ x : Fin 1024, x0 (ix2 i x) * x1 (ix2 x j) := by
  pointwise [AbOutRefIdeal.Read.val_main_v0, AbOutRefIdeal.Read.val_main_v1]

theorem algebraic : algebraic_AbOutIdeal_AbOutRefIdeal := by
  intro m g m' g' _ e
  refine ⟨fun c => AbOutIdeal.Blocks.res m c, ?_, ?_⟩
  · refine (θ_run AbOutIdeal.defs _ _).mono (fun r H c => ?_) (AbOutIdeal.Value.run_blocks (F := Ideal) m g)
    exact ⟨(H c).1.trans (AbOutIdeal.Blocks.final m c), (H c).2⟩
  · refine (θ_run AbOutRefIdeal.defs _ _).mono (fun r H c => ?_) (AbOutRefIdeal.Value.run (F := Ideal) m' g')
    refine ⟨(H c).1.trans ?_, (H c).2⟩
    rw [AbOutRefIdeal.Read.val_main_v1_eq, (e c).1, (e c).2]
    funext i
    idx_vars i
    refine (reference_at _ _ i0 i1).trans ?_
    rfl

theorem reference_frame : quiescent_AbOutRefIdeal := fun m ρ _ =>
  (θ_run AbOutRefIdeal.defs _ _).mono (fun r h => ⟨fun c => (h c).2, sem_eq_zero_of_no_sems (by decide) r.2⟩) (AbOutRefIdeal.Value.run (F := Ideal) m ρ)
end Cert.AbOut
-- ==== Proof.Xq.lean ====
/- The product `xq`: what its array holds after the run, and every claim about it. -/
module
public import proofs.«01_k».proof.Defs
public import proofs.«01_k».proof.Proof.Product
public import proofs.«01_k».proof.Proof.Rows
public import proofs.«01_k».proof.Proof.Gen.Xq.Frame
public import proofs.«01_k».proof.Proof.Gen.XqIdeal.Value
public import proofs.«01_k».proof.Proof.Gen.XqRefIdeal.Run
public import proofs.«01_k».proof.Proof.Gen.XqRefIdeal.Read
public import Idealize.ShloMosaic.Lib.Pointwise
public import Idealize.ShloMosaic.Lib.Quiescent
@[expose] public section
set_option maxRecDepth 16384
noncomputable section
namespace Cert.XqIdeal.Blocks
open Cert.XqIdeal Cert.XqIdeal.Gen Idealize.ShloMosaic Idealize.ShloMosaic.TcCoe Idealize.SL.Sem Cert.Product Cert.Rows
open scoped BigOperators

theorem outW {F : FTy → Type} [FloatOps F] (x0 : Vec F S2048x1024 .bf16) (x1 : Vec F S1024x512 .bf16) : out0_2 x0 x1 = k0_pay1 x0 x1 := by
  unfold out0_2
  rw [View.canon_unit_zero hz]
  simp only [View.ld_unit_zero (S := S2048x1024) hz, View.ld_unit_zero (S := S1024x512) hz]

theorem pay1_at (x0 : FVec Ideal S2048x1024 .bf16) (x1 : FVec Ideal S1024x512 .bf16) (r : Fin 2048) (d : Fin 512) :
    k0_pay1 (F := Ideal) x0 x1 (ix2 r d) = ∑ x : Fin 1024, x0 (ix2 r x) * x1 (ix2 x d) := by
  pointwise [k0_pay1]

variable (m : (ℓ : Loc nD τ sig) → Buf (Elt Ideal) ℓ) (c : Dev nD)

/-- The arguments, read by their coordinates. -/
abbrev aA : Fin 8192 → Fin 1024 → EReal := fun i j => m ((c : Thread nD τ).loc main_arg0) (ix2 i j)
abbrev aB : Fin 1024 → Fin 1024 → EReal := fun i j => m ((c : Thread nD τ).loc main_arg1) (ix2 i j)

theorem ltN (t : Fin cfg0.N) : t.val < 8 := by have h := t.isLt; have e : cfg0.N = 8 := N_0; omega
/-- The row, the column and the summed coordinate a block index of point `t` stands for. -/
def row (t : Fin cfg0.N) (r : Fin 2048) : Fin 8192 := ⟨t.val / 2 * 2048 + r.val, by have := ltN t; omega⟩
def col (t : Fin cfg0.N) (d : Fin 512) : Fin 1024 := ⟨t.val / 1 % 2 * 512 + d.val, by have := ltN t; omega⟩
def dim (t : Fin cfg0.N) (x : Fin 1024) : Fin 1024 := ⟨x.val, by omega⟩

/-- The terms of one entry of the product. -/
def entry (i : Fin 8192) (j : Fin 1024) : Fin 1024 → EReal := fun x => aA m c (i) (x) * aB m c (x) (j)
def total (i : Fin 8192) (j : Fin 1024) : EReal := ∑ x : Fin 1024, entry m c i j x
def res : Buf (Elt Ideal) ((c : Thread nD τ).loc main_v0) := fun i : S8192x1024.Idx => total m c (i 0) (i 1)

theorem idx0 : ∀ t : Fin grid0.N, win0_0.index t = ![t.val / 2, 0] := by decide +kernel
theorem idx1 : ∀ t : Fin grid0.N, win0_1.index t = ![0, t.val / 1 % 2] := by decide +kernel
theorem idx2 : ∀ t : Fin grid0.N, win0_2.index t = ![t.val / 2, t.val / 1 % 2] := by decide +kernel
theorem rd0 (t : Fin cfg0.N) (r : Fin 2048) (x : Fin 1024) : iblk m c 0 t (ix2 r x) = m ((c : Thread nD τ).loc main_arg0) (ix2 (row t r) (dim t x)) := by
  unfold iblk
  rw [View.read_apply]
  exact congrArg (m ((c : Thread nD τ).loc main_arg0)) (idx2_ext _ _ (off0 (idx0 t) 2048 r.val) (off1z (idx0 t) 1024 x.val))
theorem rd1 (t : Fin cfg0.N) (x : Fin 1024) (d : Fin 512) : iblk m c 1 t (ix2 x d) = m ((c : Thread nD τ).loc main_arg1) (ix2 (dim t x) (col t d)) := by
  unfold iblk
  rw [View.read_apply]
  exact congrArg (m ((c : Thread nD τ).loc main_arg1)) (idx2_ext _ _ (off0z (idx1 t) 1024 x.val) (off1 (idx1 t) 512 d.val))
/-- The blocks point `t` reads, and what they hold. -/
def bA (t : Fin cfg0.N) : FVec Ideal S2048x1024 .bf16 := iblk m c 0 t
def bB (t : Fin cfg0.N) : FVec Ideal S1024x512 .bf16 := iblk m c 1 t
theorem term_at (t : Fin cfg0.N) (r : Fin 2048) (d : Fin 512) (x : Fin 1024) : bA m c t (ix2 r x) * bB m c t (ix2 x d) = entry m c (row t r) (col t d) (dim t x) := by
  refine congrArg₂ (· * ·) ?_ ?_
  · exact rd0 m c t r x
  · exact rd1 m c t x d
theorem at_out (t : Fin cfg0.N) (r : Fin 2048) (d : Fin 512) :
    out0_2 (F := Ideal) (bA m c t) (bB m c t) (ix2 r d) = ∑ x : Fin 1024, entry m c (row t r) (col t d) x := by
  rw [outW]
  refine (pay1_at _ _ r d).trans (Finset.sum_congr rfl fun x _ => ?_)
  refine (term_at m c t r d x).trans (congrArg _ (Fin.ext ?_))
  show x.val = x.val
  omega

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 2048 r.val) (off1 (idx2 t) 512 d.val)
  rw [View.read_apply, he]
  exact at_out m c t r d
theorem final : (Gen.dats m 0 c).arrAt 2 cfg0.N = res m c :=
  (Gen.dats m 0 c).arrAt_eq_of_cover 2 (res m c) (flushes m c) fun i => by
    have h0 : (i 0 : Nat) < 8192 := (i 0).isLt
    have h1 : (i 1 : Nat) < 1024 := (i 1).isLt
    let t : Fin cfg0.N := ⟨(i 0).val / 2048 * 2 + (i 1).val / 512 * 1, by rw [show cfg0.N = 8 from N_0]; omega⟩
    have ht : t.val = (i 0).val / 2048 * 2 + (i 1).val / 512 * 1 := rfl
    refine ⟨t, flush0_2 t, ?_⟩
    show i ∈ ((View.whole main_v0).slice (win0_2.rect t)).set
    rw [View.set_slice_whole, Rect.mem_set_unit]
    exact inBlock (s := ![2048, 512]) (i := fun a => (i a).val) (idx2 t) (by show (t.val / 2) * 2048 ≤ (i 0).val ∧ (i 0).val < (t.val / 2) * 2048 + 2048; omega) (by show (t.val / 1 % 2) * 512 ≤ (i 1).val ∧ (i 1).val < (t.val / 1 % 2) * 512 + 512; omega)
end Cert.XqIdeal.Blocks

namespace Cert.Xq
open Idealize.ShloMosaic Idealize.SL.Sem XqIdeal
open scoped BigOperators

/-- The reference's result, and that it is the kernel's. -/
theorem reference_at (x0 : FVec Ideal S8192x1024 .bf16) (x1 : FVec Ideal S1024x1024 .bf16) (i : Fin 8192) (j : Fin 1024) :
    XqRefIdeal.Read.val_main_v3 (F := Ideal) x0 x1 (ix2 i j) = ∑ x : Fin 1024, x0 (ix2 i x) * x1 (ix2 x j) := by
  pointwise [XqRefIdeal.Read.val_main_v0, XqRefIdeal.Read.val_main_v1, XqRefIdeal.Read.val_main_v2, XqRefIdeal.Read.val_main_v3]

theorem algebraic : algebraic_XqIdeal_XqRefIdeal := by
  intro m g m' g' _ e
  refine ⟨fun c => XqIdeal.Blocks.res m c, ?_, ?_⟩
  · refine (θ_run XqIdeal.defs _ _).mono (fun r H c => ?_) (XqIdeal.Value.run_blocks (F := Ideal) m g)
    exact ⟨(H c).1.trans (XqIdeal.Blocks.final m c), (H c).2⟩
  · refine (θ_run XqRefIdeal.defs _ _).mono (fun r H c => ?_) (XqRefIdeal.Value.run (F := Ideal) m' g')
    refine ⟨(H c).1.trans ?_, (H c).2⟩
    rw [XqRefIdeal.Read.val_main_v3_eq, (e c).1, (e c).2]
    funext i
    idx_vars i
    refine (reference_at _ _ i0 i1).trans ?_
    rfl

theorem reference_frame : quiescent_XqRefIdeal := fun m ρ _ =>
  (θ_run XqRefIdeal.defs _ _).mono (fun r h => ⟨fun c => (h c).2, sem_eq_zero_of_no_sems (by decide) r.2⟩) (XqRefIdeal.Value.run (F := Ideal) m ρ)
end Cert.Xq
-- ==== Proof.Xkv.lean ====
/- The product `xkv`: what its array holds after the run, and every claim about it. -/
module
public import proofs.«01_k».proof.Defs
public import proofs.«01_k».proof.Proof.Product
public import proofs.«01_k».proof.Proof.Rows
public import proofs.«01_k».proof.Proof.Gen.Xkv.Frame
public import proofs.«01_k».proof.Proof.Gen.XkvIdeal.Value
public import proofs.«01_k».proof.Proof.Gen.XkvRefIdeal.Run
public import proofs.«01_k».proof.Proof.Gen.XkvRefIdeal.Read
public import Idealize.ShloMosaic.Lib.Pointwise
public import Idealize.ShloMosaic.Lib.Quiescent
@[expose] public section
set_option maxRecDepth 16384
noncomputable section
namespace Cert.XkvIdeal.Blocks
open Cert.XkvIdeal Cert.XkvIdeal.Gen Idealize.ShloMosaic Idealize.ShloMosaic.TcCoe Idealize.SL.Sem Cert.Product Cert.Rows
open scoped BigOperators

theorem outW {F : FTy → Type} [FloatOps F] (x0 : Vec F S1024x1024 .bf16) (x1 : Vec F S1024x512 .bf16) : out0_2 x0 x1 = k0_pay1 x0 x1 := by
  unfold out0_2
  rw [View.canon_unit_zero hz]
  simp only [View.ld_unit_zero (S := S1024x1024) hz, View.ld_unit_zero (S := S1024x512) hz]

theorem pay1_at (x0 : FVec Ideal S1024x1024 .bf16) (x1 : FVec Ideal S1024x512 .bf16) (r : Fin 1024) (d : Fin 512) :
    k0_pay1 (F := Ideal) x0 x1 (ix2 r d) = ∑ x : Fin 1024, x0 (ix2 r x) * x1 (ix2 x d) := by
  pointwise [k0_pay1]

variable (m : (ℓ : Loc nD τ sig) → Buf (Elt Ideal) ℓ) (c : Dev nD)

/-- The arguments, read by their coordinates. -/
abbrev aA : Fin 1024 → Fin 1024 → EReal := fun i j => m ((c : Thread nD τ).loc main_arg0) (ix2 i j)
abbrev aB : Fin 1024 → Fin 2048 → EReal := fun i j => m ((c : Thread nD τ).loc main_arg1) (ix2 i j)

theorem ltN (t : Fin cfg0.N) : t.val < 4 := by have h := t.isLt; have e : cfg0.N = 4 := N_0; omega
/-- The row, the column and the summed coordinate a block index of point `t` stands for. -/
def row (t : Fin cfg0.N) (r : Fin 1024) : Fin 1024 := ⟨t.val / 4 * 1024 + r.val, by have := ltN t; omega⟩
def col (t : Fin cfg0.N) (d : Fin 512) : Fin 2048 := ⟨t.val / 1 % 4 * 512 + d.val, by have := ltN t; omega⟩
def dim (t : Fin cfg0.N) (x : Fin 1024) : Fin 1024 := ⟨x.val, by omega⟩

/-- The terms of one entry of the product. -/
def entry (i : Fin 1024) (j : Fin 2048) : Fin 1024 → EReal := fun x => aA m c (i) (x) * aB m c (x) (j)
def total (i : Fin 1024) (j : Fin 2048) : EReal := ∑ x : Fin 1024, entry m c i j x
def res : Buf (Elt Ideal) ((c : Thread nD τ).loc main_v0) := fun i : S1024x2048.Idx => total m c (i 0) (i 1)

theorem idx0 : ∀ t : Fin grid0.N, win0_0.index t = ![t.val / 4, 0] := by decide +kernel
theorem idx1 : ∀ t : Fin grid0.N, win0_1.index t = ![0, t.val / 1 % 4] := by decide +kernel
theorem idx2 : ∀ t : Fin grid0.N, win0_2.index t = ![t.val / 4, t.val / 1 % 4] := by decide +kernel
theorem rd0 (t : Fin cfg0.N) (r : Fin 1024) (x : Fin 1024) : iblk m c 0 t (ix2 r x) = m ((c : Thread nD τ).loc main_arg0) (ix2 (row t r) (dim t x)) := by
  unfold iblk
  rw [View.read_apply]
  exact congrArg (m ((c : Thread nD τ).loc main_arg0)) (idx2_ext _ _ (off0 (idx0 t) 1024 r.val) (off1z (idx0 t) 1024 x.val))
theorem rd1 (t : Fin cfg0.N) (x : Fin 1024) (d : Fin 512) : iblk m c 1 t (ix2 x d) = m ((c : Thread nD τ).loc main_arg1) (ix2 (dim t x) (col t d)) := by
  unfold iblk
  rw [View.read_apply]
  exact congrArg (m ((c : Thread nD τ).loc main_arg1)) (idx2_ext _ _ (off0z (idx1 t) 1024 x.val) (off1 (idx1 t) 512 d.val))
/-- The blocks point `t` reads, and what they hold. -/
def bA (t : Fin cfg0.N) : FVec Ideal S1024x1024 .bf16 := iblk m c 0 t
def bB (t : Fin cfg0.N) : FVec Ideal S1024x512 .bf16 := iblk m c 1 t
theorem term_at (t : Fin cfg0.N) (r : Fin 1024) (d : Fin 512) (x : Fin 1024) : bA m c t (ix2 r x) * bB m c t (ix2 x d) = entry m c (row t r) (col t d) (dim t x) := by
  refine congrArg₂ (· * ·) ?_ ?_
  · exact rd0 m c t r x
  · exact rd1 m c t x d
theorem at_out (t : Fin cfg0.N) (r : Fin 1024) (d : Fin 512) :
    out0_2 (F := Ideal) (bA m c t) (bB m c t) (ix2 r d) = ∑ x : Fin 1024, entry m c (row t r) (col t d) x := by
  rw [outW]
  refine (pay1_at _ _ r d).trans (Finset.sum_congr rfl fun x _ => ?_)
  refine (term_at m c t r d x).trans (congrArg _ (Fin.ext ?_))
  show x.val = x.val
  omega

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 1024 r.val) (off1 (idx2 t) 512 d.val)
  rw [View.read_apply, he]
  exact at_out m c t r d
theorem final : (Gen.dats m 0 c).arrAt 2 cfg0.N = res m c :=
  (Gen.dats m 0 c).arrAt_eq_of_cover 2 (res m c) (flushes m c) fun i => by
    have h0 : (i 0 : Nat) < 1024 := (i 0).isLt
    have h1 : (i 1 : Nat) < 2048 := (i 1).isLt
    let t : Fin cfg0.N := ⟨(i 0).val / 1024 * 4 + (i 1).val / 512 * 1, by rw [show cfg0.N = 4 from N_0]; omega⟩
    have ht : t.val = (i 0).val / 1024 * 4 + (i 1).val / 512 * 1 := rfl
    refine ⟨t, flush0_2 t, ?_⟩
    show i ∈ ((View.whole main_v0).slice (win0_2.rect t)).set
    rw [View.set_slice_whole, Rect.mem_set_unit]
    exact inBlock (s := ![1024, 512]) (i := fun a => (i a).val) (idx2 t) (by show (t.val / 4) * 1024 ≤ (i 0).val ∧ (i 0).val < (t.val / 4) * 1024 + 1024; omega) (by show (t.val / 1 % 4) * 512 ≤ (i 1).val ∧ (i 1).val < (t.val / 1 % 4) * 512 + 512; omega)
end Cert.XkvIdeal.Blocks

namespace Cert.Xkv
open Idealize.ShloMosaic Idealize.SL.Sem XkvIdeal
open scoped BigOperators

/-- The reference's result, and that it is the kernel's. -/
theorem reference_at (x0 : FVec Ideal S1024x1024 .bf16) (x1 : FVec Ideal S1024x2048 .bf16) (i : Fin 1024) (j : Fin 2048) :
    XkvRefIdeal.Read.val_main_v3 (F := Ideal) x0 x1 (ix2 i j) = ∑ x : Fin 1024, x0 (ix2 i x) * x1 (ix2 x j) := by
  pointwise [XkvRefIdeal.Read.val_main_v0, XkvRefIdeal.Read.val_main_v1, XkvRefIdeal.Read.val_main_v2, XkvRefIdeal.Read.val_main_v3]

theorem algebraic : algebraic_XkvIdeal_XkvRefIdeal := by
  intro m g m' g' _ e
  refine ⟨fun c => XkvIdeal.Blocks.res m c, ?_, ?_⟩
  · refine (θ_run XkvIdeal.defs _ _).mono (fun r H c => ?_) (XkvIdeal.Value.run_blocks (F := Ideal) m g)
    exact ⟨(H c).1.trans (XkvIdeal.Blocks.final m c), (H c).2⟩
  · refine (θ_run XkvRefIdeal.defs _ _).mono (fun r H c => ?_) (XkvRefIdeal.Value.run (F := Ideal) m' g')
    refine ⟨(H c).1.trans ?_, (H c).2⟩
    rw [XkvRefIdeal.Read.val_main_v3_eq, (e c).1, (e c).2]
    funext i
    idx_vars i
    refine (reference_at _ _ i0 i1).trans ?_
    rfl

theorem reference_frame : quiescent_XkvRefIdeal := fun m ρ _ =>
  (θ_run XkvRefIdeal.defs _ _).mono (fun r h => ⟨fun c => (h c).2, sem_eq_zero_of_no_sems (by decide) r.2⟩) (XkvRefIdeal.Value.run (F := Ideal) m ρ)
end Cert.Xkv
-- ==== Proof.Xo.lean ====
/- The product `xo`: what its array holds after the run, and every claim about it. -/
module
public import proofs.«01_k».proof.Defs
public import proofs.«01_k».proof.Proof.Product
public import proofs.«01_k».proof.Proof.Rows
public import proofs.«01_k».proof.Proof.Gen.Xo.Frame
public import proofs.«01_k».proof.Proof.Gen.XoIdeal.Value
public import proofs.«01_k».proof.Proof.Gen.XoRefIdeal.Run
public import proofs.«01_k».proof.Proof.Gen.XoRefIdeal.Read
public import Idealize.ShloMosaic.Lib.Pointwise
public import Idealize.ShloMosaic.Lib.Quiescent
@[expose] public section
set_option maxRecDepth 16384
noncomputable section
namespace Cert.XoIdeal.Blocks
open Cert.XoIdeal Cert.XoIdeal.Gen Idealize.ShloMosaic Idealize.ShloMosaic.TcCoe Idealize.SL.Sem Cert.Product Cert.Rows
open scoped BigOperators

theorem outW {F : FTy → Type} [FloatOps F] (x0 : Vec F S2048x1024 .bf16) (x1 : Vec F S1024x512 .bf16) : out0_2 x0 x1 = k0_pay1 x0 x1 := by
  unfold out0_2
  rw [View.canon_unit_zero hz]
  simp only [View.ld_unit_zero (S := S2048x1024) hz, View.ld_unit_zero (S := S1024x512) hz]

theorem pay1_at (x0 : FVec Ideal S2048x1024 .bf16) (x1 : FVec Ideal S1024x512 .bf16) (r : Fin 2048) (d : Fin 512) :
    k0_pay1 (F := Ideal) x0 x1 (ix2 r d) = ∑ x : Fin 1024, x0 (ix2 r x) * x1 (ix2 x d) := by
  pointwise [k0_pay1]

variable (m : (ℓ : Loc nD τ sig) → Buf (Elt Ideal) ℓ) (c : Dev nD)

/-- The arguments, read by their coordinates. -/
abbrev aA : Fin 8192 → Fin 1024 → EReal := fun i j => m ((c : Thread nD τ).loc main_arg0) (ix2 i j)
abbrev aB : Fin 1024 → Fin 1024 → EReal := fun i j => m ((c : Thread nD τ).loc main_arg1) (ix2 i j)

theorem ltN (t : Fin cfg0.N) : t.val < 8 := by have h := t.isLt; have e : cfg0.N = 8 := N_0; omega
/-- The row, the column and the summed coordinate a block index of point `t` stands for. -/
def row (t : Fin cfg0.N) (r : Fin 2048) : Fin 8192 := ⟨t.val / 2 * 2048 + r.val, by have := ltN t; omega⟩
def col (t : Fin cfg0.N) (d : Fin 512) : Fin 1024 := ⟨t.val / 1 % 2 * 512 + d.val, by have := ltN t; omega⟩
def dim (t : Fin cfg0.N) (x : Fin 1024) : Fin 1024 := ⟨x.val, by omega⟩

/-- The terms of one entry of the product. -/
def entry (i : Fin 8192) (j : Fin 1024) : Fin 1024 → EReal := fun x => aA m c (i) (x) * aB m c (x) (j)
def total (i : Fin 8192) (j : Fin 1024) : EReal := ∑ x : Fin 1024, entry m c i j x
def res : Buf (Elt Ideal) ((c : Thread nD τ).loc main_v0) := fun i : S8192x1024.Idx => total m c (i 0) (i 1)

theorem idx0 : ∀ t : Fin grid0.N, win0_0.index t = ![t.val / 2, 0] := by decide +kernel
theorem idx1 : ∀ t : Fin grid0.N, win0_1.index t = ![0, t.val / 1 % 2] := by decide +kernel
theorem idx2 : ∀ t : Fin grid0.N, win0_2.index t = ![t.val / 2, t.val / 1 % 2] := by decide +kernel
theorem rd0 (t : Fin cfg0.N) (r : Fin 2048) (x : Fin 1024) : iblk m c 0 t (ix2 r x) = m ((c : Thread nD τ).loc main_arg0) (ix2 (row t r) (dim t x)) := by
  unfold iblk
  rw [View.read_apply]
  exact congrArg (m ((c : Thread nD τ).loc main_arg0)) (idx2_ext _ _ (off0 (idx0 t) 2048 r.val) (off1z (idx0 t) 1024 x.val))
theorem rd1 (t : Fin cfg0.N) (x : Fin 1024) (d : Fin 512) : iblk m c 1 t (ix2 x d) = m ((c : Thread nD τ).loc main_arg1) (ix2 (dim t x) (col t d)) := by
  unfold iblk
  rw [View.read_apply]
  exact congrArg (m ((c : Thread nD τ).loc main_arg1)) (idx2_ext _ _ (off0z (idx1 t) 1024 x.val) (off1 (idx1 t) 512 d.val))
/-- The blocks point `t` reads, and what they hold. -/
def bA (t : Fin cfg0.N) : FVec Ideal S2048x1024 .bf16 := iblk m c 0 t
def bB (t : Fin cfg0.N) : FVec Ideal S1024x512 .bf16 := iblk m c 1 t
theorem term_at (t : Fin cfg0.N) (r : Fin 2048) (d : Fin 512) (x : Fin 1024) : bA m c t (ix2 r x) * bB m c t (ix2 x d) = entry m c (row t r) (col t d) (dim t x) := by
  refine congrArg₂ (· * ·) ?_ ?_
  · exact rd0 m c t r x
  · exact rd1 m c t x d
theorem at_out (t : Fin cfg0.N) (r : Fin 2048) (d : Fin 512) :
    out0_2 (F := Ideal) (bA m c t) (bB m c t) (ix2 r d) = ∑ x : Fin 1024, entry m c (row t r) (col t d) x := by
  rw [outW]
  refine (pay1_at _ _ r d).trans (Finset.sum_congr rfl fun x _ => ?_)
  refine (term_at m c t r d x).trans (congrArg _ (Fin.ext ?_))
  show x.val = x.val
  omega

theorem flushes (t : Fin cfg0.N) (hf : (cfg0.win 2).flush t = true) :
    (Gen.dats m 0 c).flushed 2 t = ((cfg0.win 2).blk t).view.read (Elt Ideal) (res m c) := by
  rw [Value.flushed2]
  refine funext2 fun r d => ?_
  have he : ((cfg0.win 2).blk t).view.emb (ix2 r d) = ix2 (row t r) (col t d) :=
    idx2_ext _ _ (off0 (idx2 t) 2048 r.val) (off1 (idx2 t) 512 d.val)
  rw [View.read_apply, he]
  exact at_out m c t r d
theorem final : (Gen.dats m 0 c).arrAt 2 cfg0.N = res m c :=
  (Gen.dats m 0 c).arrAt_eq_of_cover 2 (res m c) (flushes m c) fun i => by
    have h0 : (i 0 : Nat) < 8192 := (i 0).isLt
    have h1 : (i 1 : Nat) < 1024 := (i 1).isLt
    let t : Fin cfg0.N := ⟨(i 0).val / 2048 * 2 + (i 1).val / 512 * 1, by rw [show cfg0.N = 8 from N_0]; omega⟩
    have ht : t.val = (i 0).val / 2048 * 2 + (i 1).val / 512 * 1 := rfl
    refine ⟨t, flush0_2 t, ?_⟩
    show i ∈ ((View.whole main_v0).slice (win0_2.rect t)).set
    rw [View.set_slice_whole, Rect.mem_set_unit]
    exact inBlock (s := ![2048, 512]) (i := fun a => (i a).val) (idx2 t) (by show (t.val / 2) * 2048 ≤ (i 0).val ∧ (i 0).val < (t.val / 2) * 2048 + 2048; omega) (by show (t.val / 1 % 2) * 512 ≤ (i 1).val ∧ (i 1).val < (t.val / 1 % 2) * 512 + 512; omega)
end Cert.XoIdeal.Blocks

namespace Cert.Xo
open Idealize.ShloMosaic Idealize.SL.Sem XoIdeal
open scoped BigOperators

/-- The reference's result, and that it is the kernel's. -/
theorem reference_at (x0 : FVec Ideal S8192x1024 .bf16) (x1 : FVec Ideal S1024x1024 .bf16) (i : Fin 8192) (j : Fin 1024) :
    XoRefIdeal.Read.val_main_v2 (F := Ideal) x0 x1 (ix2 i j) = ∑ x : Fin 1024, x0 (ix2 i x) * x1 (ix2 x j) := by
  pointwise [XoRefIdeal.Read.val_main_v0, XoRefIdeal.Read.val_main_v1, XoRefIdeal.Read.val_main_v2]

theorem algebraic : algebraic_XoIdeal_XoRefIdeal := by
  intro m g m' g' _ e
  refine ⟨fun c => XoIdeal.Blocks.res m c, ?_, ?_⟩
  · refine (θ_run XoIdeal.defs _ _).mono (fun r H c => ?_) (XoIdeal.Value.run_blocks (F := Ideal) m g)
    exact ⟨(H c).1.trans (XoIdeal.Blocks.final m c), (H c).2⟩
  · refine (θ_run XoRefIdeal.defs _ _).mono (fun r H c => ?_) (XoRefIdeal.Value.run (F := Ideal) m' g')
    refine ⟨(H c).1.trans ?_, (H c).2⟩
    rw [XoRefIdeal.Read.val_main_v2_eq, (e c).1, (e c).2]
    funext i
    idx_vars i
    refine (reference_at _ _ i0 i1).trans ?_
    rfl

theorem reference_frame : quiescent_XoRefIdeal := fun m ρ _ =>
  (θ_run XoRefIdeal.defs _ _).mono (fun r h => ⟨fun c => (h c).2, sem_eq_zero_of_no_sems (by decide) r.2⟩) (XoRefIdeal.Value.run (F := Ideal) m ρ)
end Cert.Xo
-- ==== Proof.FfnIn.lean ====
/- The gated product `ffn_in`: what its three arrays hold after the run, and every claim about it. -/
module
public import proofs.«01_k».proof.Defs
public import proofs.«01_k».proof.Proof.Gen.FfnIn.Frame
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Rows
public import Idealize.ShloMosaic.Lib.Pointwise
public import Idealize.ShloMosaic.Lib.Quiescent
@[expose] public section
set_option maxRecDepth 16384
noncomputable section
namespace Cert.FfnInIdeal.Blocks
open Cert.FfnInIdeal Cert.FfnInIdeal.Gen Idealize.ShloMosaic Idealize.ShloMosaic.TcCoe Idealize.SL.Sem Cert.Rows
open scoped BigOperators

/-- The gate over the two halves of the product. -/
def gate (a b : EReal) : EReal := a * Ideal.logistic a * b
theorem outW3 {F : FTy → Type} [FloatOps F] (x0 : Vec F S2048x1024 .bf16) (x1 x2 : Vec F S1024x256 .bf16) : out0_3 x0 x1 x2 = k0_pay3 x0 x1 x2 := by
  unfold out0_3
  rw [View.canon_unit_zero hz]
  simp only [View.ld_unit_zero (S := S2048x1024) hz, View.ld_unit_zero (S := S1024x256) hz]
theorem outW4 {F : FTy → Type} [FloatOps F] (x0 : Vec F S2048x1024 .bf16) (x1 x2 : Vec F S1024x256 .bf16) : out0_4 x0 x1 x2 = k0_pay4 x0 x1 := by
  unfold out0_4
  rw [View.canon_unit_zero hz]
  simp only [View.ld_unit_zero (S := S2048x1024) hz, View.ld_unit_zero (S := S1024x256) hz]
theorem outW5 {F : FTy → Type} [FloatOps F] (x0 : Vec F S2048x1024 .bf16) (x1 x2 : Vec F S1024x256 .bf16) : out0_5 x0 x1 x2 = k0_pay5 x0 x2 := by
  unfold out0_5
  rw [View.canon_unit_zero hz]
  simp only [View.ld_unit_zero (S := S2048x1024) hz, View.ld_unit_zero (S := S1024x256) hz]
theorem pay_a (x0 : FVec Ideal S2048x1024 .bf16) (x1 x2 : FVec Ideal S1024x256 .bf16) (r : Fin 2048) (d : Fin 256) :
    k0_pay4 (F := Ideal) x0 x1 (ix2 r d) = ∑ x : Fin 1024, x0 (ix2 r x) * x1 (ix2 x d) := by
  pointwise [k0_pay1, k0_pay2, k0_pay3, k0_pay4, k0_pay5]
theorem pay_b (x0 : FVec Ideal S2048x1024 .bf16) (x1 x2 : FVec Ideal S1024x256 .bf16) (r : Fin 2048) (d : Fin 256) :
    k0_pay5 (F := Ideal) x0 x2 (ix2 r d) = ∑ x : Fin 1024, x0 (ix2 r x) * x2 (ix2 x d) := by
  pointwise [k0_pay1, k0_pay2, k0_pay3, k0_pay4, k0_pay5]
theorem pay_act (x0 : FVec Ideal S2048x1024 .bf16) (x1 x2 : FVec Ideal S1024x256 .bf16) (r : Fin 2048) (d : Fin 256) :
    k0_pay3 (F := Ideal) x0 x1 x2 (ix2 r d) = gate (∑ x : Fin 1024, x0 (ix2 r x) * x1 (ix2 x d)) (∑ x : Fin 1024, x0 (ix2 r x) * x2 (ix2 x d)) := by
  unfold gate
  pointwise [k0_pay1, k0_pay2, k0_pay3, k0_pay4, k0_pay5]

variable (m : (ℓ : Loc nD τ sig) → Buf (Elt Ideal) ℓ) (c : Dev nD)

/-- The arguments, read by their coordinates. -/
abbrev aA : Fin 8192 → Fin 1024 → EReal := fun i j => m ((c : Thread nD τ).loc main_arg0) (ix2 i j)
abbrev aB : Fin 1024 → Fin 5632 → EReal := fun i j => m ((c : Thread nD τ).loc main_arg1) (ix2 i j)

theorem ltN (t : Fin cfg0.N) : t.val < 44 := by have h := t.isLt; have e : cfg0.N = 44 := N_0; omega
/-- The row and the column a block index of point `t` stands for, and the column in either half of the weight. -/
def row (t : Fin cfg0.N) (r : Fin 2048) : Fin 8192 := ⟨t.val / 11 * 2048 + r.val, by have := ltN t; omega⟩
def col (t : Fin cfg0.N) (d : Fin 256) : Fin 2816 := ⟨t.val % 11 * 256 + d.val, by have := ltN t; omega⟩
def lo (j : Fin 2816) : Fin 5632 := ⟨j.val, by omega⟩
def hi (j : Fin 2816) : Fin 5632 := ⟨2816 + j.val, by omega⟩

/-- The product, and what the three arrays hold. -/
def total (i : Fin 8192) (j : Fin 5632) : EReal := ∑ x : Fin 1024, aA m c i x * aB m c x j
def res3 : Buf (Elt Ideal) ((c : Thread nD τ).loc main_v0_0) := fun i : S8192x2816.Idx => gate (total m c (i 0) (lo (i 1))) (total m c (i 0) (hi (i 1)))
def res4 : Buf (Elt Ideal) ((c : Thread nD τ).loc main_v0_1) := fun i : S8192x2816.Idx => total m c (i 0) (lo (i 1))
def res5 : Buf (Elt Ideal) ((c : Thread nD τ).loc main_v0_2) := fun i : S8192x2816.Idx => total m c (i 0) (hi (i 1))

theorem idx0 : ∀ t : Fin grid0.N, win0_0.index t = ![t.val / 11, 0] := by decide +kernel
theorem idx1 : ∀ t : Fin grid0.N, win0_1.index t = ![0, t.val % 11] := by decide +kernel
theorem idx2 : ∀ t : Fin grid0.N, win0_2.index t = ![0, t.val % 11 + 11] := by decide +kernel
theorem idx3 : ∀ t : Fin grid0.N, win0_3.index t = ![t.val / 11, t.val % 11] := by decide +kernel
theorem idx4 : ∀ t : Fin grid0.N, win0_4.index t = ![t.val / 11, t.val % 11] := by decide +kernel
theorem idx5 : ∀ t : Fin grid0.N, win0_5.index t = ![t.val / 11, t.val % 11] := by decide +kernel
theorem rd0 (t : Fin cfg0.N) (r : Fin 2048) (x : Fin 1024) : iblk m c 0 t (ix2 r x) = m ((c : Thread nD τ).loc main_arg0) (ix2 (row t r) x) := by
  unfold iblk
  rw [View.read_apply]
  exact congrArg (m ((c : Thread nD τ).loc main_arg0)) (idx2_ext _ _ (off0 (idx0 t) 2048 r.val) (off1z (idx0 t) 1024 x.val))
theorem rd1 (t : Fin cfg0.N) (x : Fin 1024) (d : Fin 256) : iblk m c 1 t (ix2 x d) = m ((c : Thread nD τ).loc main_arg1) (ix2 x (lo (col t d))) := by
  unfold iblk
  rw [View.read_apply]
  exact congrArg (m ((c : Thread nD τ).loc main_arg1)) (idx2_ext _ _ (off0z (idx1 t) 1024 x.val) (off1 (idx1 t) 256 d.val))
theorem rd2 (t : Fin cfg0.N) (x : Fin 1024) (d : Fin 256) : iblk m c 2 t (ix2 x d) = m ((c : Thread nD τ).loc main_arg1) (ix2 x (hi (col t d))) := by
  unfold iblk
  rw [View.read_apply]
  exact congrArg (m ((c : Thread nD τ).loc main_arg1)) (idx2_ext _ _ (off0z (idx2 t) 1024 x.val) ((off1 (idx2 t) 256 d.val).trans (by show (t.val % 11 + 11) * 256 + d.val = 2816 + (t.val % 11 * 256 + d.val); omega)))
/-- The blocks point `t` reads, and the sums over them. -/
def bA (t : Fin cfg0.N) : FVec Ideal S2048x1024 .bf16 := iblk m c 0 t
def bLo (t : Fin cfg0.N) : FVec Ideal S1024x256 .bf16 := iblk m c 1 t
def bHi (t : Fin cfg0.N) : FVec Ideal S1024x256 .bf16 := iblk m c 2 t
theorem sum_lo (t : Fin cfg0.N) (r : Fin 2048) (d : Fin 256) :
    ∑ x : Fin 1024, bA m c t (ix2 r x) * bLo m c t (ix2 x d) = total m c (row t r) (lo (col t d)) :=
  Finset.sum_congr rfl fun x _ => congrArg₂ (· * ·) (rd0 m c t r x) (rd1 m c t x d)
theorem sum_hi (t : Fin cfg0.N) (r : Fin 2048) (d : Fin 256) :
    ∑ x : Fin 1024, bA m c t (ix2 r x) * bHi m c t (ix2 x d) = total m c (row t r) (hi (col t d)) :=
  Finset.sum_congr rfl fun x _ => congrArg₂ (· * ·) (rd0 m c t r x) (rd2 m c t x d)

theorem at_out3 (t : Fin cfg0.N) (r : Fin 2048) (d : Fin 256) :
    out0_3 (F := Ideal) (bA m c t) (bLo m c t) (bHi m c t) (ix2 r d) = gate (total m c (row t r) (lo (col t d))) (total m c (row t r) (hi (col t d))) := by
  rw [outW3]
  exact (pay_act _ _ _ r d).trans (congrArg₂ gate (sum_lo m c t r d) (sum_hi m c t r d))
theorem flushes3 (t : Fin cfg0.N) (hf : (cfg0.win 3).flush t = true) :
    (Gen.dats m 0 c).flushed 3 t = ((cfg0.win 3).blk t).view.read (Elt Ideal) (res3 m c) := by
  rw [Value.flushed3]
  refine funext2 fun r d => ?_
  have he : ((cfg0.win 3).blk t).view.emb (ix2 r d) = ix2 (row t r) (col t d) :=
    idx2_ext _ _ (off0 (idx3 t) 2048 r.val) (off1 (idx3 t) 256 d.val)
  rw [View.read_apply, he]
  exact at_out3 m c t r d
theorem final3 : (Gen.dats m 0 c).arrAt 3 cfg0.N = res3 m c :=
  (Gen.dats m 0 c).arrAt_eq_of_cover 3 (res3 m c) (flushes3 m c) fun i => by
    have h0 : (i 0 : Nat) < 8192 := (i 0).isLt
    have h1 : (i 1 : Nat) < 2816 := (i 1).isLt
    let t : Fin cfg0.N := ⟨(i 0).val / 2048 * 11 + (i 1).val / 256, by rw [show cfg0.N = 44 from N_0]; omega⟩
    have ht : t.val = (i 0).val / 2048 * 11 + (i 1).val / 256 := rfl
    refine ⟨t, flush0_3 t, ?_⟩
    show i ∈ ((View.whole main_v0_0).slice (win0_3.rect t)).set
    rw [View.set_slice_whole, Rect.mem_set_unit]
    exact inBlock (s := ![2048, 256]) (i := fun a => (i a).val) (idx3 t) (by show (t.val / 11) * 2048 ≤ (i 0).val ∧ (i 0).val < (t.val / 11) * 2048 + 2048; omega) (by show (t.val % 11) * 256 ≤ (i 1).val ∧ (i 1).val < (t.val % 11) * 256 + 256; omega)
theorem at_out4 (t : Fin cfg0.N) (r : Fin 2048) (d : Fin 256) :
    out0_4 (F := Ideal) (bA m c t) (bLo m c t) (bHi m c t) (ix2 r d) = total m c (row t r) (lo (col t d)) := by
  rw [outW4]
  exact (pay_a _ _ (bHi m c t) r d).trans (sum_lo m c t r d)
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) (col t d) :=
    idx2_ext _ _ (off0 (idx4 t) 2048 r.val) (off1 (idx4 t) 256 d.val)
  rw [View.read_apply, he]
  exact at_out4 m c t r d
theorem final4 : (Gen.dats m 0 c).arrAt 4 cfg0.N = res4 m c :=
  (Gen.dats m 0 c).arrAt_eq_of_cover 4 (res4 m c) (flushes4 m c) fun i => by
    have h0 : (i 0 : Nat) < 8192 := (i 0).isLt
    have h1 : (i 1 : Nat) < 2816 := (i 1).isLt
    let t : Fin cfg0.N := ⟨(i 0).val / 2048 * 11 + (i 1).val / 256, by rw [show cfg0.N = 44 from N_0]; omega⟩
    have ht : t.val = (i 0).val / 2048 * 11 + (i 1).val / 256 := rfl
    refine ⟨t, flush0_4 t, ?_⟩
    show i ∈ ((View.whole main_v0_1).slice (win0_4.rect t)).set
    rw [View.set_slice_whole, Rect.mem_set_unit]
    exact inBlock (s := ![2048, 256]) (i := fun a => (i a).val) (idx4 t) (by show (t.val / 11) * 2048 ≤ (i 0).val ∧ (i 0).val < (t.val / 11) * 2048 + 2048; omega) (by show (t.val % 11) * 256 ≤ (i 1).val ∧ (i 1).val < (t.val % 11) * 256 + 256; omega)
theorem at_out5 (t : Fin cfg0.N) (r : Fin 2048) (d : Fin 256) :
    out0_5 (F := Ideal) (bA m c t) (bLo m c t) (bHi m c t) (ix2 r d) = total m c (row t r) (hi (col t d)) := by
  rw [outW5]
  exact (pay_b _ (bLo m c t) _ r d).trans (sum_hi m c t r d)
theorem flushes5 (t : Fin cfg0.N) (hf : (cfg0.win 5).flush t = true) :
    (Gen.dats m 0 c).flushed 5 t = ((cfg0.win 5).blk t).view.read (Elt Ideal) (res5 m c) := by
  rw [Value.flushed5]
  refine funext2 fun r d => ?_
  have he : ((cfg0.win 5).blk t).view.emb (ix2 r d) = ix2 (row t r) (col t d) :=
    idx2_ext _ _ (off0 (idx5 t) 2048 r.val) (off1 (idx5 t) 256 d.val)
  rw [View.read_apply, he]
  exact at_out5 m c t r d
theorem final5 : (Gen.dats m 0 c).arrAt 5 cfg0.N = res5 m c :=
  (Gen.dats m 0 c).arrAt_eq_of_cover 5 (res5 m c) (flushes5 m c) fun i => by
    have h0 : (i 0 : Nat) < 8192 := (i 0).isLt
    have h1 : (i 1 : Nat) < 2816 := (i 1).isLt
    let t : Fin cfg0.N := ⟨(i 0).val / 2048 * 11 + (i 1).val / 256, by rw [show cfg0.N = 44 from N_0]; omega⟩
    have ht : t.val = (i 0).val / 2048 * 11 + (i 1).val / 256 := rfl
    refine ⟨t, flush0_5 t, ?_⟩
    show i ∈ ((View.whole main_v0_2).slice (win0_5.rect t)).set
    rw [View.set_slice_whole, Rect.mem_set_unit]
    exact inBlock (s := ![2048, 256]) (i := fun a => (i a).val) (idx5 t) (by show (t.val / 11) * 2048 ≤ (i 0).val ∧ (i 0).val < (t.val / 11) * 2048 + 2048; omega) (by show (t.val % 11) * 256 ≤ (i 1).val ∧ (i 1).val < (t.val % 11) * 256 + 256; omega)
end Cert.FfnInIdeal.Blocks

namespace Cert.FfnIn
open Idealize.ShloMosaic Idealize.SL.Sem FfnInIdeal
open scoped BigOperators

/-- The reference's results, and that they are the kernel's. -/
theorem prod_lo (x0 : FVec Ideal S8192x1024 .bf16) (x1 : FVec Ideal S1024x5632 .bf16) (i : Fin 8192) (j : Fin 5632) :
    FfnInRefIdeal.Read.val_main_v2 (F := Ideal) x0 x1 (ix2 i j) = ∑ x : Fin 1024, x0 (ix2 i x) * x1 (ix2 x j) := by
  pointwise [FfnInRefIdeal.Read.val_main_v0, FfnInRefIdeal.Read.val_main_v1, FfnInRefIdeal.Read.val_main_v2]
theorem reference_at3 (x0 : FVec Ideal S8192x1024 .bf16) (x1 : FVec Ideal S1024x5632 .bf16) (i : Fin 8192) (j : Fin 2816) :
    FfnInRefIdeal.Read.val_main_v7 (F := Ideal) x0 x1 (ix2 i j) = Blocks.gate (∑ x : Fin 1024, x0 (ix2 i x) * x1 (ix2 x (Blocks.lo j))) (∑ x : Fin 1024, x0 (ix2 i x) * x1 (ix2 x (Blocks.hi j))) := by
  unfold Blocks.lo Blocks.hi Blocks.gate Ideal.logistic
  pointwise [FfnInRefIdeal.Read.val_main_v0, FfnInRefIdeal.Read.val_main_v1, FfnInRefIdeal.Read.val_main_v2, FfnInRefIdeal.Read.val_main_v3, FfnInRefIdeal.Read.val_main_call0_v0, FfnInRefIdeal.Read.val_main_call0_v1, FfnInRefIdeal.Read.val_main_call0_cst, FfnInRefIdeal.Read.val_main_call0_v2, FfnInRefIdeal.Read.val_main_call0_v3, FfnInRefIdeal.Read.val_main_call0_cst_0, FfnInRefIdeal.Read.val_main_call0_v4, FfnInRefIdeal.Read.val_main_call0_v5, FfnInRefIdeal.Read.val_main_v4, FfnInRefIdeal.Read.val_main_v5, FfnInRefIdeal.Read.val_main_v6, FfnInRefIdeal.Read.val_main_v7, FfnInRefIdeal.Read.val_main_v8, FfnInRefIdeal.Read.val_main_v9, FfnInRefIdeal.Read.val_main_v10, FfnInRefIdeal.Read.val_main_v11]
theorem reference_at4 (x0 : FVec Ideal S8192x1024 .bf16) (x1 : FVec Ideal S1024x5632 .bf16) (i : Fin 8192) (j : Fin 2816) :
    FfnInRefIdeal.Read.val_main_v9 (F := Ideal) x0 x1 (ix2 i j) = (∑ x : Fin 1024, x0 (ix2 i x) * x1 (ix2 x (Blocks.lo j))) := by
  unfold Blocks.lo
  pointwise [FfnInRefIdeal.Read.val_main_v0, FfnInRefIdeal.Read.val_main_v1, FfnInRefIdeal.Read.val_main_v2, FfnInRefIdeal.Read.val_main_v3, FfnInRefIdeal.Read.val_main_call0_v0, FfnInRefIdeal.Read.val_main_call0_v1, FfnInRefIdeal.Read.val_main_call0_cst, FfnInRefIdeal.Read.val_main_call0_v2, FfnInRefIdeal.Read.val_main_call0_v3, FfnInRefIdeal.Read.val_main_call0_cst_0, FfnInRefIdeal.Read.val_main_call0_v4, FfnInRefIdeal.Read.val_main_call0_v5, FfnInRefIdeal.Read.val_main_v4, FfnInRefIdeal.Read.val_main_v5, FfnInRefIdeal.Read.val_main_v6, FfnInRefIdeal.Read.val_main_v7, FfnInRefIdeal.Read.val_main_v8, FfnInRefIdeal.Read.val_main_v9, FfnInRefIdeal.Read.val_main_v10, FfnInRefIdeal.Read.val_main_v11]
theorem reference_at5 (x0 : FVec Ideal S8192x1024 .bf16) (x1 : FVec Ideal S1024x5632 .bf16) (i : Fin 8192) (j : Fin 2816) :
    FfnInRefIdeal.Read.val_main_v11 (F := Ideal) x0 x1 (ix2 i j) = (∑ x : Fin 1024, x0 (ix2 i x) * x1 (ix2 x (Blocks.hi j))) := by
  unfold Blocks.hi
  pointwise [FfnInRefIdeal.Read.val_main_v0, FfnInRefIdeal.Read.val_main_v1, FfnInRefIdeal.Read.val_main_v2, FfnInRefIdeal.Read.val_main_v3, FfnInRefIdeal.Read.val_main_call0_v0, FfnInRefIdeal.Read.val_main_call0_v1, FfnInRefIdeal.Read.val_main_call0_cst, FfnInRefIdeal.Read.val_main_call0_v2, FfnInRefIdeal.Read.val_main_call0_v3, FfnInRefIdeal.Read.val_main_call0_cst_0, FfnInRefIdeal.Read.val_main_call0_v4, FfnInRefIdeal.Read.val_main_call0_v5, FfnInRefIdeal.Read.val_main_v4, FfnInRefIdeal.Read.val_main_v5, FfnInRefIdeal.Read.val_main_v6, FfnInRefIdeal.Read.val_main_v7, FfnInRefIdeal.Read.val_main_v8, FfnInRefIdeal.Read.val_main_v9, FfnInRefIdeal.Read.val_main_v10, FfnInRefIdeal.Read.val_main_v11]

theorem algebraic : algebraic_FfnInIdeal_FfnInRefIdeal := by
  intro m g m' g' _ e
  refine ⟨fun c => FfnInIdeal.Blocks.res3 m c, fun c => FfnInIdeal.Blocks.res4 m c, fun c => FfnInIdeal.Blocks.res5 m c, ?_, ?_⟩
  · refine (θ_run FfnInIdeal.defs _ _).mono (fun r H c => ?_) (FfnInIdeal.Value.run_blocks (F := Ideal) m g)
    exact ⟨(H c).1.trans (FfnInIdeal.Blocks.final3 m c), (H c).2.1.trans (FfnInIdeal.Blocks.final4 m c), (H c).2.2.1.trans (FfnInIdeal.Blocks.final5 m c), (H c).2.2.2⟩
  · refine (θ_run FfnInRefIdeal.defs _ _).mono (fun r H c => ?_) (FfnInRefIdeal.Value.run (F := Ideal) m' g')
    refine ⟨(H c).1.trans ?_, (H c).2.1.trans ?_, (H c).2.2.1.trans ?_, (H c).2.2.2⟩
    · rw [FfnInRefIdeal.Read.val_main_v7_eq, (e c).1, (e c).2]
      funext i
      idx_vars i
      refine (reference_at3 _ _ i0 i1).trans ?_
      rfl
    · rw [FfnInRefIdeal.Read.val_main_v9_eq, (e c).1, (e c).2]
      funext i
      idx_vars i
      refine (reference_at4 _ _ i0 i1).trans ?_
      rfl
    · rw [FfnInRefIdeal.Read.val_main_v11_eq, (e c).1, (e c).2]
      funext i
      idx_vars i
      refine (reference_at5 _ _ i0 i1).trans ?_
      rfl

theorem reference_frame : quiescent_FfnInRefIdeal := fun m ρ _ =>
  (θ_run FfnInRefIdeal.defs _ _).mono (fun r h => ⟨fun c => (h c).2.2.2, sem_eq_zero_of_no_sems (by decide) r.2⟩) (FfnInRefIdeal.Value.run (F := Ideal) m ρ)
end Cert.FfnIn
-- ==== Proof.Glu.lean ====
/- The gated product `s5_glu`: what its three arrays hold after the run, and every claim about it. -/
module
public import proofs.«01_k».proof.Defs
public import proofs.«01_k».proof.Proof.Gen.Glu.Frame
public import proofs.«01_k».proof.Proof.Gen.GluIdeal.Value
public import proofs.«01_k».proof.Proof.Gen.GluRefIdeal.Run
public import proofs.«01_k».proof.Proof.Gen.GluRefIdeal.Read
public import proofs.«01_k».proof.Proof.Rows
public import Idealize.ShloMosaic.Lib.Pointwise
public import Idealize.ShloMosaic.Lib.Quiescent
@[expose] public section
set_option maxRecDepth 16384
noncomputable section
namespace Cert.GluIdeal.Blocks
open Cert.GluIdeal Cert.GluIdeal.Gen Idealize.ShloMosaic Idealize.ShloMosaic.TcCoe Idealize.SL.Sem Cert.Rows
open scoped BigOperators

/-- The gate over the two halves of the product. -/
def gate (a b : EReal) : EReal := a * Ideal.logistic b
theorem outW3 {F : FTy → Type} [FloatOps F] (x0 : Vec F S2048x1024 .bf16) (x1 x2 : Vec F S1024x256 .bf16) : out0_3 x0 x1 x2 = k0_pay3 x0 x1 x2 := by
  unfold out0_3
  rw [View.canon_unit_zero hz]
  simp only [View.ld_unit_zero (S := S2048x1024) hz, View.ld_unit_zero (S := S1024x256) hz]
theorem outW4 {F : FTy → Type} [FloatOps F] (x0 : Vec F S2048x1024 .bf16) (x1 x2 : Vec F S1024x256 .bf16) : out0_4 x0 x1 x2 = k0_pay4 x0 x1 := by
  unfold out0_4
  rw [View.canon_unit_zero hz]
  simp only [View.ld_unit_zero (S := S2048x1024) hz, View.ld_unit_zero (S := S1024x256) hz]
theorem outW5 {F : FTy → Type} [FloatOps F] (x0 : Vec F S2048x1024 .bf16) (x1 x2 : Vec F S1024x256 .bf16) : out0_5 x0 x1 x2 = k0_pay5 x0 x2 := by
  unfold out0_5
  rw [View.canon_unit_zero hz]
  simp only [View.ld_unit_zero (S := S2048x1024) hz, View.ld_unit_zero (S := S1024x256) hz]
theorem pay_a (x0 : FVec Ideal S2048x1024 .bf16) (x1 x2 : FVec Ideal S1024x256 .bf16) (r : Fin 2048) (d : Fin 256) :
    k0_pay4 (F := Ideal) x0 x1 (ix2 r d) = ∑ x : Fin 1024, x0 (ix2 r x) * x1 (ix2 x d) := by
  pointwise [k0_pay1, k0_pay2, k0_pay3, k0_pay4, k0_pay5]
theorem pay_b (x0 : FVec Ideal S2048x1024 .bf16) (x1 x2 : FVec Ideal S1024x256 .bf16) (r : Fin 2048) (d : Fin 256) :
    k0_pay5 (F := Ideal) x0 x2 (ix2 r d) = ∑ x : Fin 1024, x0 (ix2 r x) * x2 (ix2 x d) := by
  pointwise [k0_pay1, k0_pay2, k0_pay3, k0_pay4, k0_pay5]
theorem pay_act (x0 : FVec Ideal S2048x1024 .bf16) (x1 x2 : FVec Ideal S1024x256 .bf16) (r : Fin 2048) (d : Fin 256) :
    k0_pay3 (F := Ideal) x0 x1 x2 (ix2 r d) = gate (∑ x : Fin 1024, x0 (ix2 r x) * x1 (ix2 x d)) (∑ x : Fin 1024, x0 (ix2 r x) * x2 (ix2 x d)) := by
  unfold gate
  pointwise [k0_pay1, k0_pay2, k0_pay3, k0_pay4, k0_pay5]

variable (m : (ℓ : Loc nD τ sig) → Buf (Elt Ideal) ℓ) (c : Dev nD)

/-- The arguments, read by their coordinates. -/
abbrev aA : Fin 8192 → Fin 1024 → EReal := fun i j => m ((c : Thread nD τ).loc main_arg0) (ix2 i j)
abbrev aB : Fin 1024 → Fin 2048 → EReal := fun i j => m ((c : Thread nD τ).loc main_arg1) (ix2 i j)

theorem ltN (t : Fin cfg0.N) : t.val < 16 := by have h := t.isLt; have e : cfg0.N = 16 := N_0; omega
/-- The row and the column a block index of point `t` stands for, and the column in either half of the weight. -/
def row (t : Fin cfg0.N) (r : Fin 2048) : Fin 8192 := ⟨t.val / 4 * 2048 + r.val, by have := ltN t; omega⟩
def col (t : Fin cfg0.N) (d : Fin 256) : Fin 1024 := ⟨t.val % 4 * 256 + d.val, by have := ltN t; omega⟩
def lo (j : Fin 1024) : Fin 2048 := ⟨j.val, by omega⟩
def hi (j : Fin 1024) : Fin 2048 := ⟨1024 + j.val, by omega⟩

/-- The product, and what the three arrays hold. -/
def total (i : Fin 8192) (j : Fin 2048) : EReal := ∑ x : Fin 1024, aA m c i x * aB m c x j
def res3 : Buf (Elt Ideal) ((c : Thread nD τ).loc main_v0_0) := fun i : S8192x1024.Idx => gate (total m c (i 0) (lo (i 1))) (total m c (i 0) (hi (i 1)))
def res4 : Buf (Elt Ideal) ((c : Thread nD τ).loc main_v0_1) := fun i : S8192x1024.Idx => total m c (i 0) (lo (i 1))
def res5 : Buf (Elt Ideal) ((c : Thread nD τ).loc main_v0_2) := fun i : S8192x1024.Idx => total m c (i 0) (hi (i 1))

theorem idx0 : ∀ t : Fin grid0.N, win0_0.index t = ![t.val / 4, 0] := by decide +kernel
theorem idx1 : ∀ t : Fin grid0.N, win0_1.index t = ![0, t.val % 4] := by decide +kernel
theorem idx2 : ∀ t : Fin grid0.N, win0_2.index t = ![0, t.val % 4 + 4] := by decide +kernel
theorem idx3 : ∀ t : Fin grid0.N, win0_3.index t = ![t.val / 4, t.val % 4] := by decide +kernel
theorem idx4 : ∀ t : Fin grid0.N, win0_4.index t = ![t.val / 4, t.val % 4] := by decide +kernel
theorem idx5 : ∀ t : Fin grid0.N, win0_5.index t = ![t.val / 4, t.val % 4] := by decide +kernel
theorem rd0 (t : Fin cfg0.N) (r : Fin 2048) (x : Fin 1024) : iblk m c 0 t (ix2 r x) = m ((c : Thread nD τ).loc main_arg0) (ix2 (row t r) x) := by
  unfold iblk
  rw [View.read_apply]
  exact congrArg (m ((c : Thread nD τ).loc main_arg0)) (idx2_ext _ _ (off0 (idx0 t) 2048 r.val) (off1z (idx0 t) 1024 x.val))
theorem rd1 (t : Fin cfg0.N) (x : Fin 1024) (d : Fin 256) : iblk m c 1 t (ix2 x d) = m ((c : Thread nD τ).loc main_arg1) (ix2 x (lo (col t d))) := by
  unfold iblk
  rw [View.read_apply]
  exact congrArg (m ((c : Thread nD τ).loc main_arg1)) (idx2_ext _ _ (off0z (idx1 t) 1024 x.val) (off1 (idx1 t) 256 d.val))
theorem rd2 (t : Fin cfg0.N) (x : Fin 1024) (d : Fin 256) : iblk m c 2 t (ix2 x d) = m ((c : Thread nD τ).loc main_arg1) (ix2 x (hi (col t d))) := by
  unfold iblk
  rw [View.read_apply]
  exact congrArg (m ((c : Thread nD τ).loc main_arg1)) (idx2_ext _ _ (off0z (idx2 t) 1024 x.val) ((off1 (idx2 t) 256 d.val).trans (by show (t.val % 4 + 4) * 256 + d.val = 1024 + (t.val % 4 * 256 + d.val); omega)))
/-- The blocks point `t` reads, and the sums over them. -/
def bA (t : Fin cfg0.N) : FVec Ideal S2048x1024 .bf16 := iblk m c 0 t
def bLo (t : Fin cfg0.N) : FVec Ideal S1024x256 .bf16 := iblk m c 1 t
def bHi (t : Fin cfg0.N) : FVec Ideal S1024x256 .bf16 := iblk m c 2 t
theorem sum_lo (t : Fin cfg0.N) (r : Fin 2048) (d : Fin 256) :
    ∑ x : Fin 1024, bA m c t (ix2 r x) * bLo m c t (ix2 x d) = total m c (row t r) (lo (col t d)) :=
  Finset.sum_congr rfl fun x _ => congrArg₂ (· * ·) (rd0 m c t r x) (rd1 m c t x d)
theorem sum_hi (t : Fin cfg0.N) (r : Fin 2048) (d : Fin 256) :
    ∑ x : Fin 1024, bA m c t (ix2 r x) * bHi m c t (ix2 x d) = total m c (row t r) (hi (col t d)) :=
  Finset.sum_congr rfl fun x _ => congrArg₂ (· * ·) (rd0 m c t r x) (rd2 m c t x d)

theorem at_out3 (t : Fin cfg0.N) (r : Fin 2048) (d : Fin 256) :
    out0_3 (F := Ideal) (bA m c t) (bLo m c t) (bHi m c t) (ix2 r d) = gate (total m c (row t r) (lo (col t d))) (total m c (row t r) (hi (col t d))) := by
  rw [outW3]
  exact (pay_act _ _ _ r d).trans (congrArg₂ gate (sum_lo m c t r d) (sum_hi m c t r d))
theorem flushes3 (t : Fin cfg0.N) (hf : (cfg0.win 3).flush t = true) :
    (Gen.dats m 0 c).flushed 3 t = ((cfg0.win 3).blk t).view.read (Elt Ideal) (res3 m c) := by
  rw [Value.flushed3]
  refine funext2 fun r d => ?_
  have he : ((cfg0.win 3).blk t).view.emb (ix2 r d) = ix2 (row t r) (col t d) :=
    idx2_ext _ _ (off0 (idx3 t) 2048 r.val) (off1 (idx3 t) 256 d.val)
  rw [View.read_apply, he]
  exact at_out3 m c t r d
theorem final3 : (Gen.dats m 0 c).arrAt 3 cfg0.N = res3 m c :=
  (Gen.dats m 0 c).arrAt_eq_of_cover 3 (res3 m c) (flushes3 m c) fun i => by
    have h0 : (i 0 : Nat) < 8192 := (i 0).isLt
    have h1 : (i 1 : Nat) < 1024 := (i 1).isLt
    let t : Fin cfg0.N := ⟨(i 0).val / 2048 * 4 + (i 1).val / 256, by rw [show cfg0.N = 16 from N_0]; omega⟩
    have ht : t.val = (i 0).val / 2048 * 4 + (i 1).val / 256 := rfl
    refine ⟨t, flush0_3 t, ?_⟩
    show i ∈ ((View.whole main_v0_0).slice (win0_3.rect t)).set
    rw [View.set_slice_whole, Rect.mem_set_unit]
    exact inBlock (s := ![2048, 256]) (i := fun a => (i a).val) (idx3 t) (by show (t.val / 4) * 2048 ≤ (i 0).val ∧ (i 0).val < (t.val / 4) * 2048 + 2048; omega) (by show (t.val % 4) * 256 ≤ (i 1).val ∧ (i 1).val < (t.val % 4) * 256 + 256; omega)
theorem at_out4 (t : Fin cfg0.N) (r : Fin 2048) (d : Fin 256) :
    out0_4 (F := Ideal) (bA m c t) (bLo m c t) (bHi m c t) (ix2 r d) = total m c (row t r) (lo (col t d)) := by
  rw [outW4]
  exact (pay_a _ _ (bHi m c t) r d).trans (sum_lo m c t r d)
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) (col t d) :=
    idx2_ext _ _ (off0 (idx4 t) 2048 r.val) (off1 (idx4 t) 256 d.val)
  rw [View.read_apply, he]
  exact at_out4 m c t r d
theorem final4 : (Gen.dats m 0 c).arrAt 4 cfg0.N = res4 m c :=
  (Gen.dats m 0 c).arrAt_eq_of_cover 4 (res4 m c) (flushes4 m c) fun i => by
    have h0 : (i 0 : Nat) < 8192 := (i 0).isLt
    have h1 : (i 1 : Nat) < 1024 := (i 1).isLt
    let t : Fin cfg0.N := ⟨(i 0).val / 2048 * 4 + (i 1).val / 256, by rw [show cfg0.N = 16 from N_0]; omega⟩
    have ht : t.val = (i 0).val / 2048 * 4 + (i 1).val / 256 := rfl
    refine ⟨t, flush0_4 t, ?_⟩
    show i ∈ ((View.whole main_v0_1).slice (win0_4.rect t)).set
    rw [View.set_slice_whole, Rect.mem_set_unit]
    exact inBlock (s := ![2048, 256]) (i := fun a => (i a).val) (idx4 t) (by show (t.val / 4) * 2048 ≤ (i 0).val ∧ (i 0).val < (t.val / 4) * 2048 + 2048; omega) (by show (t.val % 4) * 256 ≤ (i 1).val ∧ (i 1).val < (t.val % 4) * 256 + 256; omega)
theorem at_out5 (t : Fin cfg0.N) (r : Fin 2048) (d : Fin 256) :
    out0_5 (F := Ideal) (bA m c t) (bLo m c t) (bHi m c t) (ix2 r d) = total m c (row t r) (hi (col t d)) := by
  rw [outW5]
  exact (pay_b _ (bLo m c t) _ r d).trans (sum_hi m c t r d)
theorem flushes5 (t : Fin cfg0.N) (hf : (cfg0.win 5).flush t = true) :
    (Gen.dats m 0 c).flushed 5 t = ((cfg0.win 5).blk t).view.read (Elt Ideal) (res5 m c) := by
  rw [Value.flushed5]
  refine funext2 fun r d => ?_
  have he : ((cfg0.win 5).blk t).view.emb (ix2 r d) = ix2 (row t r) (col t d) :=
    idx2_ext _ _ (off0 (idx5 t) 2048 r.val) (off1 (idx5 t) 256 d.val)
  rw [View.read_apply, he]
  exact at_out5 m c t r d
theorem final5 : (Gen.dats m 0 c).arrAt 5 cfg0.N = res5 m c :=
  (Gen.dats m 0 c).arrAt_eq_of_cover 5 (res5 m c) (flushes5 m c) fun i => by
    have h0 : (i 0 : Nat) < 8192 := (i 0).isLt
    have h1 : (i 1 : Nat) < 1024 := (i 1).isLt
    let t : Fin cfg0.N := ⟨(i 0).val / 2048 * 4 + (i 1).val / 256, by rw [show cfg0.N = 16 from N_0]; omega⟩
    have ht : t.val = (i 0).val / 2048 * 4 + (i 1).val / 256 := rfl
    refine ⟨t, flush0_5 t, ?_⟩
    show i ∈ ((View.whole main_v0_2).slice (win0_5.rect t)).set
    rw [View.set_slice_whole, Rect.mem_set_unit]
    exact inBlock (s := ![2048, 256]) (i := fun a => (i a).val) (idx5 t) (by show (t.val / 4) * 2048 ≤ (i 0).val ∧ (i 0).val < (t.val / 4) * 2048 + 2048; omega) (by show (t.val % 4) * 256 ≤ (i 1).val ∧ (i 1).val < (t.val % 4) * 256 + 256; omega)
end Cert.GluIdeal.Blocks

namespace Cert.Glu
open Idealize.ShloMosaic Idealize.SL.Sem GluIdeal
open scoped BigOperators

/-- The reference's results, and that they are the kernel's. -/
theorem prod_lo (x0 : FVec Ideal S8192x1024 .bf16) (x1 : FVec Ideal S1024x2048 .bf16) (i : Fin 8192) (j : Fin 2048) :
    GluRefIdeal.Read.val_main_v2 (F := Ideal) x0 x1 (ix2 i j) = ∑ x : Fin 1024, x0 (ix2 i x) * x1 (ix2 x j) := by
  pointwise [GluRefIdeal.Read.val_main_v0, GluRefIdeal.Read.val_main_v1, GluRefIdeal.Read.val_main_v2]
theorem reference_at3 (x0 : FVec Ideal S8192x1024 .bf16) (x1 : FVec Ideal S1024x2048 .bf16) (i : Fin 8192) (j : Fin 1024) :
    GluRefIdeal.Read.val_main_v11 (F := Ideal) x0 x1 (ix2 i j) = Blocks.gate (∑ x : Fin 1024, x0 (ix2 i x) * x1 (ix2 x (Blocks.lo j))) (∑ x : Fin 1024, x0 (ix2 i x) * x1 (ix2 x (Blocks.hi j))) := by
  unfold Blocks.lo Blocks.hi Blocks.gate Ideal.logistic
  pointwise [GluRefIdeal.Read.val_main_v0, GluRefIdeal.Read.val_main_v1, GluRefIdeal.Read.val_main_v2, GluRefIdeal.Read.val_main_v3, GluRefIdeal.Read.val_main_v4, GluRefIdeal.Read.val_main_v5, GluRefIdeal.Read.val_main_v6, GluRefIdeal.Read.val_main_cst, GluRefIdeal.Read.val_main_v7, GluRefIdeal.Read.val_main_v8, GluRefIdeal.Read.val_main_cst_0, GluRefIdeal.Read.val_main_v9, GluRefIdeal.Read.val_main_v10, GluRefIdeal.Read.val_main_v11, GluRefIdeal.Read.val_main_v12, GluRefIdeal.Read.val_main_v13, GluRefIdeal.Read.val_main_v14, GluRefIdeal.Read.val_main_v15]
theorem reference_at4 (x0 : FVec Ideal S8192x1024 .bf16) (x1 : FVec Ideal S1024x2048 .bf16) (i : Fin 8192) (j : Fin 1024) :
    GluRefIdeal.Read.val_main_v13 (F := Ideal) x0 x1 (ix2 i j) = (∑ x : Fin 1024, x0 (ix2 i x) * x1 (ix2 x (Blocks.lo j))) := by
  unfold Blocks.lo
  pointwise [GluRefIdeal.Read.val_main_v0, GluRefIdeal.Read.val_main_v1, GluRefIdeal.Read.val_main_v2, GluRefIdeal.Read.val_main_v3, GluRefIdeal.Read.val_main_v4, GluRefIdeal.Read.val_main_v5, GluRefIdeal.Read.val_main_v6, GluRefIdeal.Read.val_main_cst, GluRefIdeal.Read.val_main_v7, GluRefIdeal.Read.val_main_v8, GluRefIdeal.Read.val_main_cst_0, GluRefIdeal.Read.val_main_v9, GluRefIdeal.Read.val_main_v10, GluRefIdeal.Read.val_main_v11, GluRefIdeal.Read.val_main_v12, GluRefIdeal.Read.val_main_v13, GluRefIdeal.Read.val_main_v14, GluRefIdeal.Read.val_main_v15]
theorem reference_at5 (x0 : FVec Ideal S8192x1024 .bf16) (x1 : FVec Ideal S1024x2048 .bf16) (i : Fin 8192) (j : Fin 1024) :
    GluRefIdeal.Read.val_main_v15 (F := Ideal) x0 x1 (ix2 i j) = (∑ x : Fin 1024, x0 (ix2 i x) * x1 (ix2 x (Blocks.hi j))) := by
  unfold Blocks.hi
  pointwise [GluRefIdeal.Read.val_main_v0, GluRefIdeal.Read.val_main_v1, GluRefIdeal.Read.val_main_v2, GluRefIdeal.Read.val_main_v3, GluRefIdeal.Read.val_main_v4, GluRefIdeal.Read.val_main_v5, GluRefIdeal.Read.val_main_v6, GluRefIdeal.Read.val_main_cst, GluRefIdeal.Read.val_main_v7, GluRefIdeal.Read.val_main_v8, GluRefIdeal.Read.val_main_cst_0, GluRefIdeal.Read.val_main_v9, GluRefIdeal.Read.val_main_v10, GluRefIdeal.Read.val_main_v11, GluRefIdeal.Read.val_main_v12, GluRefIdeal.Read.val_main_v13, GluRefIdeal.Read.val_main_v14, GluRefIdeal.Read.val_main_v15]

theorem algebraic : algebraic_GluIdeal_GluRefIdeal := by
  intro m g m' g' _ e
  refine ⟨fun c => GluIdeal.Blocks.res3 m c, fun c => GluIdeal.Blocks.res4 m c, fun c => GluIdeal.Blocks.res5 m c, ?_, ?_⟩
  · refine (θ_run GluIdeal.defs _ _).mono (fun r H c => ?_) (GluIdeal.Value.run_blocks (F := Ideal) m g)
    exact ⟨(H c).1.trans (GluIdeal.Blocks.final3 m c), (H c).2.1.trans (GluIdeal.Blocks.final4 m c), (H c).2.2.1.trans (GluIdeal.Blocks.final5 m c), (H c).2.2.2⟩
  · refine (θ_run GluRefIdeal.defs _ _).mono (fun r H c => ?_) (GluRefIdeal.Value.run (F := Ideal) m' g')
    refine ⟨(H c).1.trans ?_, (H c).2.1.trans ?_, (H c).2.2.1.trans ?_, (H c).2.2.2⟩
    · rw [GluRefIdeal.Read.val_main_v11_eq, (e c).1, (e c).2]
      funext i
      idx_vars i
      refine (reference_at3 _ _ i0 i1).trans ?_
      rfl
    · rw [GluRefIdeal.Read.val_main_v13_eq, (e c).1, (e c).2]
      funext i
      idx_vars i
      refine (reference_at4 _ _ i0 i1).trans ?_
      rfl
    · rw [GluRefIdeal.Read.val_main_v15_eq, (e c).1, (e c).2]
      funext i
      idx_vars i
      refine (reference_at5 _ _ i0 i1).trans ?_
      rfl

theorem reference_frame : quiescent_GluRefIdeal := fun m ρ _ =>
  (θ_run GluRefIdeal.defs _ _).mono (fun r h => ⟨fun c => (h c).2.2.2, sem_eq_zero_of_no_sems (by decide) r.2⟩) (GluRefIdeal.Value.run (F := Ideal) m ρ)
end Cert.Glu
-- ==== Proof.XMath.lean ====
/- The row-wise algebra of the softmax gradient on the extended reals. -/
module
public import Idealize.ShloMosaic.PureOps.Ideal
public import Idealize.ShloMosaic.Lib.IdealHost
@[expose] public section
noncomputable section
open scoped BigOperators
namespace Cert.Xattn
open Idealize.ShloMosaic

/-- The score scale, one sixteenth, as the programs write it. -/
abbrev sc : EReal := Ideal.ofBits .f32 0x3D800000#32
/-- The bottom from which a running maximum starts. -/
abbrev lo : EReal := Ideal.ofBits .f32 0xFF800000#32

theorem sc_eq : sc = ((1 / 16 : ℝ) : EReal) := by
  simp [sc, Ideal.ofBits, Ideal.ieee, -EReal.coe_mul]; norm_num
theorem lo_eq : lo = ⊥ := by
  simp [lo, Ideal.ofBits, Ideal.ieee]

/-- The scaled scores of a query row against the keys. -/
def score (x : Fin 256 → EReal) (K : Fin 256 → Fin 256 → EReal) (j : Fin 256) : EReal := (∑ d, x d * K j d) * sc
/-- The exponential of a score below the row's largest. -/
def wt (s : Fin 256 → EReal) (j : Fin 256) : EReal := Ideal.exp (s j - Finset.univ.fold max lo s)
/-- The softmax of a row. -/
def prob (s : Fin 256 → EReal) (j : Fin 256) : EReal := Ideal.div (wt s j) (∑ k, wt s k)
/-- The gradient of the scores as the kernel forms it from the gradient `dp` of the probabilities. -/
def gradK (s dp : Fin 256 → EReal) (j : Fin 256) : EReal :=
  prob s j * (dp j - ∑ k, dp k * prob s k) * sc
/-- The same as the derivative of the quotient spells it. -/
def gradR (s dp : Fin 256 → EReal) (j : Fin 256) : EReal :=
  (Ideal.div (dp j) (∑ k, wt s k) + -∑ k, dp k * Ideal.div 1 ((∑ k, wt s k) * ∑ k, wt s k) * wt s k) * wt s j * sc

theorem sum_real {ι : Type} (t : Finset ι) (f : ι → ℝ) : ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- A nonnegative real factor passes through a sum of extended reals. -/
theorem mul_sum_real {ι : Type} (t : Finset ι) (c : ℝ) (hc : 0 ≤ c) (f : ι → EReal) :
    (c : EReal) * ∑ i ∈ t, f i = ∑ i ∈ t, (c : EReal) * f i := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

/-- The largest of finitely many reals is a real. -/
theorem fold_max_real (f : Fin 256 → ℝ) : ∃ M : ℝ, Finset.univ.fold max lo (fun k => (f k : EReal)) = M := by
  have h : ∀ t : Finset (Fin 256), t.Nonempty → ∃ M : ℝ, t.fold max lo (fun k => (f k : EReal)) = M := by
    intro t ht
    induction ht using Finset.Nonempty.cons_induction with
    | singleton a => exact ⟨f a, by rw [Finset.fold_singleton, lo_eq]; exact max_bot_right _⟩
    | cons a t ha ht ih =>
      obtain ⟨M, hM⟩ := ih
      exact ⟨max (f a) M, by rw [Finset.fold_cons, hM]; exact (EReal.coe_strictMono.monotone.map_max).symm⟩
  exact h _ Finset.univ_nonempty

/-- With real scores every weight is a real, and they sum to a positive real. -/
theorem wt_real (s : Fin 256 → EReal) (hs : ∃ r : Fin 256 → ℝ, s = fun j => (r j : EReal)) :
    ∃ e : Fin 256 → ℝ, (∀ j, 0 < e j) ∧ wt s = fun j => (e j : EReal) := by
  obtain ⟨r, rfl⟩ := hs
  obtain ⟨M, hM⟩ := fold_max_real r
  refine ⟨fun j => Real.exp (r j - M), fun j => Real.exp_pos _, funext fun j => ?_⟩
  show Ideal.exp _ = _
  rw [hM, ← EReal.coe_sub, Ideal.exp_coe]

/-- The two spellings of the softmax gradient agree where the scores are real. -/
theorem grad_eq (s dp : Fin 256 → EReal) (hs : ∃ r : Fin 256 → ℝ, s = fun j => (r j : EReal)) (j : Fin 256) :
    gradK s dp j = gradR s dp j := by
  obtain ⟨e, he, hw⟩ := wt_real s hs
  have hS : 0 < ∑ k, e k := Finset.sum_pos (fun k _ => he k) Finset.univ_nonempty
  have hne : (∑ k, e k) ≠ 0 := hS.ne'
  have hsum : ∑ k, wt s k = ((∑ k, e k : ℝ) : EReal) := by rw [hw, sum_real]
  unfold gradK gradR prob
  rw [hsum, ← EReal.coe_mul]
  simp only [hw, Ideal.div_coe hne, Ideal.div_coe (mul_ne_zero hne hne)]
  generalize (∑ k, e k) = S at *
  congr 1
  have hi : 0 ≤ 1 / S := (one_div_pos.mpr hS).le
  have hsq : ∀ k, dp k * (1 * ((1 / (S * S) : ℝ) : EReal)) * (e k : EReal)
      = ((1 / S : ℝ) : EReal) * (dp k * ((e k : EReal) * ((1 / S : ℝ) : EReal))) := by
    intro k
    rw [show (1 / (S * S) : ℝ) = 1 / S * (1 / S) by field_simp, EReal.coe_mul, one_mul]
    ac_rfl
  rw [Finset.sum_congr rfl fun k _ => hsq k, ← mul_sum_real _ _ hi, sub_eq_add_neg, mul_comm (dp j),
    ← mul_neg, ← EReal.left_distrib_of_nonneg_of_ne_top (by exact_mod_cast hi) (EReal.coe_ne_top _)]
  ac_rfl

/-- Scores of real queries and keys are real. -/
theorem score_real (x : Fin 256 → EReal) (K : Fin 256 → Fin 256 → EReal)
    (hx : ∀ d, ∃ r : ℝ, x d = r) (hK : ∀ j d, ∃ r : ℝ, K j d = r) :
    ∃ r : Fin 256 → ℝ, score x K = fun j => (r j : EReal) := by
  choose a ha using hx
  choose b hb using hK
  refine ⟨fun j => (∑ d, a d * b j d) * (1 / 16), funext fun j => ?_⟩
  unfold score
  simp only [ha, hb, ← EReal.coe_mul, sc_eq]
  rw [sum_real, ← EReal.coe_mul]

end Cert.Xattn
-- ==== Proof.XRows.lean ====
/- The three gradients of the memory attention, row by row, as functions of curried arrays. -/
module
public import proofs.«01_k».proof.Proof.XMath
@[expose] public section
noncomputable section
open scoped BigOperators
namespace Cert.Xattn
open Idealize.ShloMosaic

variable (q g : Fin 4 → Fin 2048 → Fin 1024 → EReal) (kv : Fin 4 → Fin 256 → Fin 2048 → EReal)

/-- The scores of query row `i` of head `h`. -/
def rowS (b h : Fin 4) (i : Fin 2048) : Fin 256 → EReal :=
  score (fun d => q b i ⟨h.val * 256 + d.val, by omega⟩) (fun j d => kv b j ⟨h.val * 256 + d.val, by omega⟩)
/-- The gradient of that row's probabilities. -/
def rowD (b h : Fin 4) (i : Fin 2048) (j : Fin 256) : EReal :=
  ∑ d : Fin 256, g b i ⟨h.val * 256 + d.val, by omega⟩ * kv b j ⟨1024 + (h.val * 256 + d.val), by omega⟩
/-- The head a feature belongs to. -/
abbrev headOf (n : Fin 1024) : Fin 4 := ⟨n.val / 256, by omega⟩

/-- The gradient of the queries, of the keys and of the values. -/
def gradQ (b : Fin 4) (i : Fin 2048) (n : Fin 1024) : EReal :=
  ∑ j : Fin 256, gradK (rowS q kv b (headOf n) i) (rowD g kv b (headOf n) i) j * kv b j ⟨n.val, by omega⟩
def gradKey (b : Fin 4) (j : Fin 256) (n : Fin 1024) : EReal :=
  ∑ i : Fin 2048, gradK (rowS q kv b (headOf n) i) (rowD g kv b (headOf n) i) j * q b i n
def gradVal (b : Fin 4) (j : Fin 256) (n : Fin 1024) : EReal :=
  ∑ i : Fin 2048, prob (rowS q kv b (headOf n) i) j * g b i n

/-- With finite queries and keys a row of scores is real. -/
theorem rowS_real (hq : ∀ b i n, ∃ r : ℝ, q b i n = r) (hk : ∀ b j (n : Fin 1024), ∃ r : ℝ, kv b j ⟨n.val, by omega⟩ = r)
    (b h : Fin 4) (i : Fin 2048) : ∃ r : Fin 256 → ℝ, rowS q kv b h i = fun j => ((r j : ℝ) : EReal) :=
  score_real _ _ (fun d => hq b i _) (fun j d => hk b j ⟨h.val * 256 + d.val, by omega⟩)

end Cert.Xattn
-- ==== Proof.XAttnF.lean ====
/- The forward memory attention: what its array holds after the run, and every claim about it. -/
module
public import proofs.«01_k».proof.Defs
public import proofs.«01_k».proof.Proof.XRows
public import proofs.«01_k».proof.Proof.Gen.XAttnF.Frame
public import proofs.«01_k».proof.Proof.Gen.XAttnFIdeal.Value
public import proofs.«01_k».proof.Proof.Gen.XAttnFRefIdeal.Run
public import proofs.«01_k».proof.Proof.Gen.XAttnFRefIdeal.Read
public import Idealize.ShloMosaic.Lib.Pointwise
public import Idealize.ShloMosaic.Lib.Quiescent
@[expose] public section
set_option maxRecDepth 16384
noncomputable section
namespace Cert.XAttnFIdeal.Blocks
open Cert.XAttnFIdeal Cert.XAttnFIdeal.Gen Idealize.ShloMosaic Idealize.ShloMosaic.TcCoe Idealize.SL.Sem Cert.Xattn
open scoped BigOperators

theorem hz : (![0, 0, 0] : Fin 3 → Nat) = fun _ => 0 := by funext a; fin_cases a <;> rfl
theorem outW {F : FTy → Type} [FloatOps F] (x0 : Vec F S1x1024x256 .bf16) (x1 x2 : Vec F S1x256x256 .bf16) : out0_3 x0 x1 x2 = k0_pay1 x0 x1 x2 := by
  unfold out0_3
  rw [View.canon_unit_zero hz]
  simp only [View.ld_unit_zero (S := S1x1024x256) hz, View.ld_unit_zero (S := S1x256x256) hz]

/-- The scores of row `r` of a block, and the block's result. -/
def blkS (q : FVec Ideal S1x1024x256 .bf16) (k : FVec Ideal S1x256x256 .bf16) (r : Fin 1024) : Fin 256 → EReal := score (fun d => q (ix3 0 r d)) (fun j d => k (ix3 0 j d))
theorem pay_at (q : FVec Ideal S1x1024x256 .bf16) (k v : FVec Ideal S1x256x256 .bf16) (r : Fin 1024) (n : Fin 256) :
    k0_pay1 (F := Ideal) q k v (ix3 0 r n) = ∑ j : Fin 256, prob (blkS q k r) j * v (ix3 0 j n) := by
  pointwise [k0_pay1]
  rfl

variable (m : (ℓ : Loc nD τ sig) → Buf (Elt Ideal) ℓ) (c : Dev nD)

/-- The arguments, read by their coordinates. -/
abbrev aQ : Fin 4 → Fin 2048 → Fin 1024 → EReal := fun b i n => m ((c : Thread nD τ).loc main_arg0) (ix3 b i n)
abbrev aK : Fin 4 → Fin 256 → Fin 2048 → EReal := fun b j n => m ((c : Thread nD τ).loc main_arg1) (ix3 b j n)

/-- The attention of one query row, and the array of all. -/
def attend (q : Fin 4 → Fin 2048 → Fin 1024 → EReal) (kv : Fin 4 → Fin 256 → Fin 2048 → EReal) (b : Fin 4) (i : Fin 2048) (n : Fin 1024) : EReal :=
  ∑ j : Fin 256, prob (rowS q kv b (headOf n) i) j * kv b j ⟨1024 + n.val, by omega⟩
def res : Buf (Elt Ideal) ((c : Thread nD τ).loc main_v0) := fun i : S4x2048x1024.Idx => attend (aQ m c) (aK m c) (i 0) (i 1) (i 2)

theorem lt32 (t : Fin cfg0.N) : t.val < 32 := by have h := t.isLt; have e : cfg0.N = 32 := N_0; omega
/-- The batch, the head, the row and the feature a block index of point `t` stands for. -/
def tb (t : Fin cfg0.N) : Fin 4 := ⟨t.val / 8, by have := lt32 t; omega⟩
def th (t : Fin cfg0.N) : Fin 4 := ⟨t.val / 2 % 4, by omega⟩
def row (t : Fin cfg0.N) (r : Fin 1024) : Fin 2048 := ⟨t.val % 2 * 1024 + r.val, by omega⟩
def feat (t : Fin cfg0.N) (d : Fin 256) : Fin 1024 := ⟨(th t).val * 256 + d.val, by have := (th t).isLt; omega⟩
theorem headOf_feat (t : Fin cfg0.N) (d : Fin 256) : headOf (feat t d) = th t := by
  apply Fin.ext; show ((th t).val * 256 + d.val) / 256 = (th t).val; omega

theorem idx0 : ∀ t : Fin grid0.N, win0_0.index t = ![t.val / 8, t.val % 2, t.val / 2 % 4] := by decide +kernel
theorem idx1 : ∀ t : Fin grid0.N, win0_1.index t = ![t.val / 8, 0, t.val / 2 % 4] := by decide +kernel
theorem idx2 : ∀ t : Fin grid0.N, win0_2.index t = ![t.val / 8, 0, 4 + t.val / 2 % 4] := by decide +kernel
theorem idx3 : ∀ t : Fin grid0.N, win0_3.index t = ![t.val / 8, t.val % 2, t.val / 2 % 4] := by decide +kernel
theorem rd0 (t : Fin cfg0.N) (r : Fin 1024) (d : Fin 256) : iblk m c 0 t (ix3 0 r d) = m ((c : Thread nD τ).loc main_arg0) (ix3 (tb t) (row t r) (feat t d)) := by
  have hi : win0_0.index t = ![t.val / 8, t.val % 2, t.val / 2 % 4] := idx0 t
  have e0 : win0_0.index t 0 = t.val / 8 := congrFun hi 0
  have e1 := congrFun hi 1
  have e2 := congrFun hi 2
  unfold iblk
  rw [View.read_apply]
  show V m c main_arg0 _ = _
  unfold V
  congr 1
  funext a
  apply Fin.ext
  match a with
  | ⟨0, _⟩ => show win0_0.index t 0 * 1 + 1 * 0 = t.val / 8; rw [e0]; omega
  | ⟨1, _⟩ => show win0_0.index t 1 * 1024 + 1 * r.val = t.val % 2 * 1024 + r.val; rw [e1]; show t.val % 2 * 1024 + 1 * r.val = _; omega
  | ⟨2, _⟩ => show win0_0.index t 2 * 256 + 1 * d.val = t.val / 2 % 4 * 256 + d.val; rw [e2]; show t.val / 2 % 4 * 256 + 1 * d.val = _; omega
theorem rd1 (t : Fin cfg0.N) (r : Fin 256) (d : Fin 256) : iblk m c 1 t (ix3 0 r d) = m ((c : Thread nD τ).loc main_arg1) (ix3 (tb t) r ⟨(th t).val * 256 + d.val, by have := (th t).isLt; omega⟩) := by
  have hi : win0_1.index t = ![t.val / 8, 0, t.val / 2 % 4] := idx1 t
  have e0 : win0_1.index t 0 = t.val / 8 := congrFun hi 0
  have e1 := congrFun hi 1
  have e2 := congrFun hi 2
  unfold iblk
  rw [View.read_apply]
  show V m c main_arg1 _ = _
  unfold V
  congr 1
  funext a
  apply Fin.ext
  match a with
  | ⟨0, _⟩ => show win0_1.index t 0 * 1 + 1 * 0 = t.val / 8; rw [e0]; omega
  | ⟨1, _⟩ => show win0_1.index t 1 * 256 + 1 * r.val = r.val; rw [e1]; show 0 * 256 + 1 * r.val = _; omega
  | ⟨2, _⟩ => show win0_1.index t 2 * 256 + 1 * d.val = t.val / 2 % 4 * 256 + d.val; rw [e2]; show t.val / 2 % 4 * 256 + 1 * d.val = _; omega
theorem rd2 (t : Fin cfg0.N) (r : Fin 256) (d : Fin 256) : iblk m c 2 t (ix3 0 r d) = m ((c : Thread nD τ).loc main_arg1) (ix3 (tb t) r ⟨1024 + ((th t).val * 256 + d.val), by have := (th t).isLt; omega⟩) := by
  have hi : win0_2.index t = ![t.val / 8, 0, 4 + t.val / 2 % 4] := idx2 t
  have e0 : win0_2.index t 0 = t.val / 8 := congrFun hi 0
  have e1 := congrFun hi 1
  have e2 := congrFun hi 2
  unfold iblk
  rw [View.read_apply]
  show V m c main_arg1 _ = _
  unfold V
  congr 1
  funext a
  apply Fin.ext
  match a with
  | ⟨0, _⟩ => show win0_2.index t 0 * 1 + 1 * 0 = t.val / 8; rw [e0]; omega
  | ⟨1, _⟩ => show win0_2.index t 1 * 256 + 1 * r.val = r.val; rw [e1]; show 0 * 256 + 1 * r.val = _; omega
  | ⟨2, _⟩ => show win0_2.index t 2 * 256 + 1 * d.val = 1024 + (t.val / 2 % 4 * 256 + d.val); rw [e2]; show (4 + t.val / 2 % 4) * 256 + 1 * d.val = _; omega

/-- The blocks point `t` reads. -/
def bq (t : Fin cfg0.N) : FVec Ideal S1x1024x256 .bf16 := iblk m c 0 t
def bk (t : Fin cfg0.N) : FVec Ideal S1x256x256 .bf16 := iblk m c 1 t
def bv (t : Fin cfg0.N) : FVec Ideal S1x256x256 .bf16 := iblk m c 2 t
theorem blkS_eq (t : Fin cfg0.N) (r : Fin 1024) : blkS (bq m c t) (bk m c t) r = rowS (aQ m c) (aK m c) (tb t) (th t) (row t r) := by
  unfold blkS rowS
  congr 1
  · funext d; exact rd0 m c t r d
  · funext j d; exact rd1 m c t j d
theorem at3 (t : Fin cfg0.N) (r : Fin 1024) (d : Fin 256) : out0_3 (F := Ideal) (bq m c t) (bk m c t) (bv m c t) (ix3 0 r d) = attend (aQ m c) (aK m c) (tb t) (row t r) (feat t d) := by
  rw [outW, pay_at, blkS_eq]
  unfold attend
  rw [headOf_feat]
  exact Finset.sum_congr rfl fun j _ => congrArg (prob _ j * ·) (rd2 m c t j d)

theorem fl3 (t : Fin cfg0.N) (hf : (cfg0.win 3).flush t = true) :
    (Gen.dats m 0 c).flushed 3 t = ((cfg0.win 3).blk t).view.read (Elt Ideal) (res m c) := by
  have hi : win0_3.index t = ![t.val / 8, t.val % 2, t.val / 2 % 4] := idx3 t
  have e0 : win0_3.index t 0 = t.val / 8 := congrFun hi 0
  have e1 : win0_3.index t 1 = t.val % 2 := congrFun hi 1
  have e2 : win0_3.index t 2 = t.val / 2 % 4 := congrFun hi 2
  rw [Value.flushed3]
  funext j
  have key : ∀ (r : Fin 1024) (d : Fin 256), out0_3 (F := Ideal) (bq m c t) (bk m c t) (bv m c t) (ix3 0 r d) = ((cfg0.win 3).blk t).view.read (Elt Ideal) (res m c) (ix3 0 r d) := by
    intro r d
    have he : ((cfg0.win 3).blk t).view.emb (ix3 0 r d) = ix3 (tb t) (row t r) (feat t d) := by
      funext a
      apply Fin.ext
      match a with
      | ⟨0, _⟩ => show win0_3.index t 0 * 1 + 1 * 0 = t.val / 8; rw [e0]; omega
      | ⟨1, _⟩ => show win0_3.index t 1 * 1024 + 1 * r.val = t.val % 2 * 1024 + r.val; rw [e1]; omega
      | ⟨2, _⟩ => show win0_3.index t 2 * 256 + 1 * d.val = t.val / 2 % 4 * 256 + d.val; rw [e2]; omega
    rw [View.read_apply, he, at3 m c t r d]
    rfl
  have hj : j = ix3 (⟨0, by decide⟩ : Fin 1) (⟨(j 1).val, (j 1).isLt⟩ : Fin 1024) (⟨(j 2).val, (j 2).isLt⟩ : Fin 256) := by
    funext a; apply Fin.ext
    match a with
    | ⟨0, _⟩ => have : (j 0).val < 1 := (j 0).isLt; show (j 0).val = 0; omega
    | ⟨1, _⟩ => rfl
    | ⟨2, _⟩ => rfl
  rw [hj]
  exact key _ _
theorem fin3 : (Gen.dats m 0 c).arrAt 3 cfg0.N = res m c :=
  (Gen.dats m 0 c).arrAt_eq_of_cover 3 (res m c) (fl3 m c) fun i => by
    have h0 : (i 0 : Nat) < 4 := (i 0).isLt
    have h1 : (i 1 : Nat) < 2048 := (i 1).isLt
    have h2 : (i 2 : Nat) < 1024 := (i 2).isLt
    let t : Fin cfg0.N := ⟨(i 0).val * 8 + (i 2).val / 256 * 2 + (i 1).val / 1024, by rw [show cfg0.N = 32 from N_0]; omega⟩
    have ht : t.val = (i 0).val * 8 + (i 2).val / 256 * 2 + (i 1).val / 1024 := rfl
    have hi : win0_3.index t = ![t.val / 8, t.val % 2, t.val / 2 % 4] := idx3 t
    have e0 : win0_3.index t 0 = t.val / 8 := congrFun hi 0
    have e1 : win0_3.index t 1 = t.val % 2 := congrFun hi 1
    have e2 : win0_3.index t 2 = t.val / 2 % 4 := congrFun hi 2
    refine ⟨t, flush0_3 t, ?_⟩
    show i ∈ ((View.whole main_v0).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [e0]; omega
    | ⟨1, _⟩ => show win0_3.index t 1 * 1024 ≤ (i 1 : Nat) ∧ (i 1 : Nat) < win0_3.index t 1 * 1024 + 1024
                rw [e1]; omega
    | ⟨2, _⟩ => show win0_3.index t 2 * 256 ≤ (i 2 : Nat) ∧ (i 2 : Nat) < win0_3.index t 2 * 256 + 256
                rw [e2]; omega

end Cert.XAttnFIdeal.Blocks

namespace Cert.XAttnF
open Idealize.ShloMosaic Idealize.SL.Sem XAttnFIdeal Cert.Xattn XAttnFRefIdeal XAttnFRefIdeal.Gen XAttnFRefIdeal.Read
open scoped BigOperators
variable (x0 : FVec Ideal XAttnFRefIdeal.S4x2048x1024 .bf16) (x1 : FVec Ideal XAttnFRefIdeal.S4x256x2048 .bf16)

/-- The reference's result, row by row. -/
abbrev cq (x : FVec Ideal XAttnFRefIdeal.S4x2048x1024 .bf16) : Fin 4 → Fin 2048 → Fin 1024 → EReal := fun b i n => x (ix3 b i n)
abbrev ck (x : FVec Ideal XAttnFRefIdeal.S4x256x2048 .bf16) : Fin 4 → Fin 256 → Fin 2048 → EReal := fun b i n => x (ix3 b i n)
theorem rowMax (y : FVec Ideal XAttnFRefIdeal.S4x4x2048x256 .f32) (b h : Fin 4) (i : Fin 2048) :
    Host.reduce (FloatOps.maximumf (F := Ideal) (φ := .f32)) y (val_main_cst_0 (F := Ideal)) reducesTo_S4x4x2048x256_S4x4x2048_d3 h_S_ (ix3 b h i)
      = Finset.univ.fold max lo (fun j : Fin 256 => y (ix4 b h i j)) := by
  pointwise [val_main_cst_0]
theorem scores (b h : Fin 4) (i : Fin 2048) (j : Fin 256) : val_main_v12 (F := Ideal) x0 x1 (ix4 b h i j) = rowS (cq x0) (ck x1) b h i j := by
  pointwise [XAttnFRefIdeal.Read.val_main_v12, XAttnFRefIdeal.Read.val_main_v11, XAttnFRefIdeal.Read.val_main_cst, XAttnFRefIdeal.Read.val_main_v10, XAttnFRefIdeal.Read.val_main_v7, XAttnFRefIdeal.Read.val_main_v6, XAttnFRefIdeal.Read.val_main_v5, XAttnFRefIdeal.Read.val_main_v4, XAttnFRefIdeal.Read.val_main_v2, XAttnFRefIdeal.Read.val_main_v1, XAttnFRefIdeal.Read.val_main_v0]
  rfl
theorem largest (b h : Fin 4) (i : Fin 2048) : val_main_v15 (F := Ideal) x0 x1 (ix3 b h i) = Finset.univ.fold max lo (rowS (cq x0) (ck x1) b h i) := by
  rw [val_main_v15_apply]
  unfold val_main_v13
  rw [rowMax, val_main_v14_apply]
  simp only [scores]
  show max lo _ = _
  rw [lo_eq]; exact max_bot_left _
theorem weights (b h : Fin 4) (i : Fin 2048) (j : Fin 256) : val_main_v19 (F := Ideal) x0 x1 (ix4 b h i j) = wt (rowS (cq x0) (ck x1) b h i) j := by
  rw [val_main_v19_apply, val_main_v18_apply, scores, val_main_v17_apply, val_main_v16_apply]
  have e : idx_main_v16 (idx_main_v17 (ix4 b h i j)) = ix3 b h i := by
    funext a; match a with
    | ⟨0, _⟩ => rfl
    | ⟨1, _⟩ => rfl
    | ⟨2, _⟩ => rfl
  rw [e, largest]; rfl
theorem probs (b h : Fin 4) (i : Fin 2048) (j : Fin 256) : val_main_v23 (F := Ideal) x0 x1 (ix4 b h i j) = prob (rowS (cq x0) (ck x1) b h i) j := by
  have e : val_main_v23 (F := Ideal) x0 x1 (ix4 b h i j) = Ideal.div (val_main_v19 (F := Ideal) x0 x1 (ix4 b h i j)) (∑ x : Fin 256, val_main_v19 (F := Ideal) x0 x1 (ix4 b h i x)) := by
    pointwise [XAttnFRefIdeal.Read.val_main_v23, XAttnFRefIdeal.Read.val_main_v22, XAttnFRefIdeal.Read.val_main_v21, XAttnFRefIdeal.Read.val_main_v20, XAttnFRefIdeal.Read.val_main_cst_2]
  rw [e]; simp only [weights]; rfl
theorem reference_at (b : Fin 4) (i : Fin 2048) (n : Fin 1024) : val_main_v27 (F := Ideal) x0 x1 (ix3 b i n) = XAttnFIdeal.Blocks.attend (cq x0) (ck x1) b i n := by
  have e : val_main_v27 (F := Ideal) x0 x1 (ix3 b i n) = ∑ j, val_main_v23 (F := Ideal) x0 x1 (ix4 b (headOf n) i j) * x1 (ix3 b j ⟨1024 + n.val, by omega⟩) := by
    pointwise [XAttnFRefIdeal.Read.val_main_v27, XAttnFRefIdeal.Read.val_main_v26, XAttnFRefIdeal.Read.val_main_v25, XAttnFRefIdeal.Read.val_main_v24, XAttnFRefIdeal.Read.val_main_v9, XAttnFRefIdeal.Read.val_main_v8, XAttnFRefIdeal.Read.val_main_v3, XAttnFRefIdeal.Read.val_main_v1]
  rw [e]; simp only [probs]; rfl

theorem algebraic : algebraic_XAttnFIdeal_XAttnFRefIdeal := by
  intro m g m' g' _ e
  refine ⟨fun c => XAttnFIdeal.Blocks.res m c, ?_, ?_⟩
  · refine (θ_run XAttnFIdeal.defs _ _).mono (fun r H c => ?_) (XAttnFIdeal.Value.run_blocks (F := Ideal) m g)
    exact ⟨(H c).1.trans (XAttnFIdeal.Blocks.fin3 m c), (H c).2⟩
  · refine (θ_run XAttnFRefIdeal.defs _ _).mono (fun r H c => ?_) (XAttnFRefIdeal.Value.run (F := Ideal) m' g')
    refine ⟨(H c).1.trans ?_, (H c).2⟩
    rw [XAttnFRefIdeal.Read.val_main_v27_eq, (e c).1, (e c).2]
    funext i
    idx_vars i
    exact reference_at _ _ _ _ _

theorem reference_frame : quiescent_XAttnFRefIdeal := fun m ρ _ =>
  (θ_run XAttnFRefIdeal.defs _ _).mono (fun r h => ⟨fun c => (h c).2, sem_eq_zero_of_no_sems (by decide) r.2⟩) (XAttnFRefIdeal.Value.run (F := Ideal) m ρ)
end Cert.XAttnF
-- ==== Proof.AdamAbIn.lean ====
/- The row by row call `adam_ab_w_in`: what its arrays hold after the run, and every claim about it. -/
module
public import proofs.«01_k».proof.Defs
public import proofs.«01_k».proof.Proof.Gen.AdamAbIn.Frame
public import proofs.«01_k».proof.Proof.Gen.AdamAbInIdeal.Value
public import proofs.«01_k».proof.Proof.Gen.AdamAbInRefIdeal.Run
public import proofs.«01_k».proof.Proof.Gen.AdamAbInRefIdeal.Read
public import proofs.«01_k».proof.Proof.Rows
public import Idealize.ShloMosaic.Lib.Quiescent
@[expose] public section
set_option maxRecDepth 16384
noncomputable section
namespace Cert.AdamAbInIdeal.Blocks
open Cert.AdamAbInIdeal Cert.AdamAbInIdeal.Gen Idealize.ShloMosaic Idealize.ShloMosaic.TcCoe Idealize.SL.Sem Cert.Rows
open scoped BigOperators

theorem outW4 {F : FTy → Type} [FloatOps F] (x0 x1 : Vec F S256x896 .f32) (x2 x3 : Vec F S256x896 .f32) : out0_4 x0 x1 x2 x3 = k0_pay3 x0 x1 x2 x3 := by
  unfold out0_4
  rw [View.canon_unit_zero hz]
  simp only [View.ld_unit_zero (S := S256x896) hz]
theorem pay4 (x0 x1 : FVec Ideal S256x896 .f32) (x2 x3 : FVec Ideal S256x896 .f32) (r : Fin 256) (d : Fin 896) :
    k0_pay3 (F := Ideal) x0 x1 x2 x3 (ix2 r d) = delta (fun x => x0 (ix2 r x)) (fun x => x1 (ix2 r x)) (fun x => x2 (ix2 r x)) (fun x => x3 (ix2 r x)) d := by
  unfold delta newM newV
  pointwise [k0_pay1, k0_pay2, k0_pay3]
theorem outW5 {F : FTy → Type} [FloatOps F] (x0 x1 : Vec F S256x896 .f32) (x2 x3 : Vec F S256x896 .f32) : out0_5 x0 x1 x2 x3 = k0_pay1 x1 x2 := by
  unfold out0_5
  rw [View.canon_unit_zero hz]
  simp only [View.ld_unit_zero (S := S256x896) hz]
theorem pay5 (x0 x1 : FVec Ideal S256x896 .f32) (x2 x3 : FVec Ideal S256x896 .f32) (r : Fin 256) (d : Fin 896) :
    k0_pay1 (F := Ideal) x1 x2 (ix2 r d) = newM (fun x => x0 (ix2 r x)) (fun x => x1 (ix2 r x)) (fun x => x2 (ix2 r x)) (fun x => x3 (ix2 r x)) d := by
  unfold newM
  pointwise [k0_pay1, k0_pay2, k0_pay3]
theorem outW6 {F : FTy → Type} [FloatOps F] (x0 x1 : Vec F S256x896 .f32) (x2 x3 : Vec F S256x896 .f32) : out0_6 x0 x1 x2 x3 = k0_pay2 x1 x3 := by
  unfold out0_6
  rw [View.canon_unit_zero hz]
  simp only [View.ld_unit_zero (S := S256x896) hz]
theorem pay6 (x0 x1 : FVec Ideal S256x896 .f32) (x2 x3 : FVec Ideal S256x896 .f32) (r : Fin 256) (d : Fin 896) :
    k0_pay2 (F := Ideal) x1 x3 (ix2 r d) = newV (fun x => x0 (ix2 r x)) (fun x => x1 (ix2 r x)) (fun x => x2 (ix2 r x)) (fun x => x3 (ix2 r x)) d := by
  unfold newV
  pointwise [k0_pay1, k0_pay2, k0_pay3]

variable (m : (ℓ : Loc nD τ sig) → Buf (Elt Ideal) ℓ) (c : Dev nD)

theorem ltN (t : Fin cfg0.N) : t.val < 4 := by have h := t.isLt; have e : cfg0.N = 4 := N_0; omega
/-- The row a block's row stands for at point `t`. -/
def row (t : Fin cfg0.N) (r : Fin 256) : Fin 1024 := ⟨t.val * 256 + r.val, by have := ltN t; omega⟩
def tile (r : Fin 1024) : Fin cfg0.N := ⟨r.val / 256, by rw [show cfg0.N = 4 from N_0]; omega⟩
abbrev A0 : Fin 1024 → Fin 896 → EReal := fun i x => m ((c : Thread nD τ).loc main_arg0) (ix2 i x)
abbrev A1 : Fin 1024 → Fin 896 → EReal := fun i x => m ((c : Thread nD τ).loc main_arg1) (ix2 i x)
abbrev A2 : Fin 1024 → Fin 896 → EReal := fun i x => m ((c : Thread nD τ).loc main_arg2) (ix2 i x)
abbrev A3 : Fin 1024 → Fin 896 → EReal := fun i x => m ((c : Thread nD τ).loc main_arg3) (ix2 i x)
def res4 : Buf (Elt Ideal) ((c : Thread nD τ).loc main_v0_0) := fun i : S1024x896.Idx => delta (A0 m c (i 0)) (A1 m c (i 0)) (A2 m c (i 0)) (A3 m c (i 0)) (i 1)
def res5 : Buf (Elt Ideal) ((c : Thread nD τ).loc main_v0_1) := fun i : S1024x896.Idx => newM (A0 m c (i 0)) (A1 m c (i 0)) (A2 m c (i 0)) (A3 m c (i 0)) (i 1)
def res6 : Buf (Elt Ideal) ((c : Thread nD τ).loc main_v0_2) := fun i : S1024x896.Idx => newV (A0 m c (i 0)) (A1 m c (i 0)) (A2 m c (i 0)) (A3 m c (i 0)) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
def b0 (t : Fin cfg0.N) : FVec Ideal S256x896 .f32 := iblk m c 0 t
theorem blk0 (t : Fin cfg0.N) (r : Fin 256) : (fun x => b0 m c t (ix2 r x)) = A0 m c (row t r) := funext fun x => by
  unfold b0 iblk
  rw [View.read_apply]
  exact congrArg (m ((c : Thread nD τ).loc main_arg0)) (idx2_ext _ _ (off0 (idx0 t) 256 r.val) (off1z (idx0 t) 896 x.val))
def b1 (t : Fin cfg0.N) : FVec Ideal S256x896 .f32 := iblk m c 1 t
theorem blk1 (t : Fin cfg0.N) (r : Fin 256) : (fun x => b1 m c t (ix2 r x)) = A1 m c (row t r) := funext fun x => by
  unfold b1 iblk
  rw [View.read_apply]
  exact congrArg (m ((c : Thread nD τ).loc main_arg1)) (idx2_ext _ _ (off0 (idx1 t) 256 r.val) (off1z (idx1 t) 896 x.val))
def b2 (t : Fin cfg0.N) : FVec Ideal S256x896 .f32 := iblk m c 2 t
theorem blk2 (t : Fin cfg0.N) (r : Fin 256) : (fun x => b2 m c t (ix2 r x)) = A2 m c (row t r) := funext fun x => by
  unfold b2 iblk
  rw [View.read_apply]
  exact congrArg (m ((c : Thread nD τ).loc main_arg2)) (idx2_ext _ _ (off0 (idx2 t) 256 r.val) (off1z (idx2 t) 896 x.val))
def b3 (t : Fin cfg0.N) : FVec Ideal S256x896 .f32 := iblk m c 3 t
theorem blk3 (t : Fin cfg0.N) (r : Fin 256) : (fun x => b3 m c t (ix2 r x)) = A3 m c (row t r) := funext fun x => by
  unfold b3 iblk
  rw [View.read_apply]
  exact congrArg (m ((c : Thread nD τ).loc main_arg3)) (idx2_ext _ _ (off0 (idx3 t) 256 r.val) (off1z (idx3 t) 896 x.val))
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) d := idx2_ext _ _
    (off0 (idx4 t) 256 r.val)
    (off1z (idx4 t) 896 d.val)
  rw [View.read_apply, he]
  show out0_4 (F := Ideal) (b0 m c t) (b1 m c t) (b2 m c t) (b3 m c t) (ix2 r d) = _
  rw [outW4, pay4 (b0 m c t) (b1 m c t) (b2 m c t) (b3 m c t), blk0, blk1, blk2, blk3]
  rfl
theorem final4 : (Gen.dats m 0 c).arrAt 4 cfg0.N = res4 m c :=
  (Gen.dats m 0 c).arrAt_eq_of_cover 4 (res4 m c) (flushes4 m c) fun i => by
    let t := tile (i 0)
    refine ⟨t, flush0_4 t, ?_⟩
    show i ∈ ((View.whole main_v0_0).slice (win0_4.rect t)).set
    rw [View.set_slice_whole, Rect.mem_set_unit]
    exact inRows (s := ![256, 896]) (i := fun a => (i a).val) (idx4 t) rfl (by decide) (i 1).isLt
theorem flushes5 (t : Fin cfg0.N) (hf : (cfg0.win 5).flush t = true) :
    (Gen.dats m 0 c).flushed 5 t = ((cfg0.win 5).blk t).view.read (Elt Ideal) (res5 m c) := by
  rw [Value.flushed5]
  refine funext2 fun r d => ?_
  have he : ((cfg0.win 5).blk t).view.emb (ix2 r d) = ix2 (row t r) d := idx2_ext _ _
    (off0 (idx5 t) 256 r.val)
    (off1z (idx5 t) 896 d.val)
  rw [View.read_apply, he]
  show out0_5 (F := Ideal) (b0 m c t) (b1 m c t) (b2 m c t) (b3 m c t) (ix2 r d) = _
  rw [outW5, pay5 (b0 m c t) (b1 m c t) (b2 m c t) (b3 m c t), blk0, blk1, blk2, blk3]
  rfl
theorem final5 : (Gen.dats m 0 c).arrAt 5 cfg0.N = res5 m c :=
  (Gen.dats m 0 c).arrAt_eq_of_cover 5 (res5 m c) (flushes5 m c) fun i => by
    let t := tile (i 0)
    refine ⟨t, flush0_5 t, ?_⟩
    show i ∈ ((View.whole main_v0_1).slice (win0_5.rect t)).set
    rw [View.set_slice_whole, Rect.mem_set_unit]
    exact inRows (s := ![256, 896]) (i := fun a => (i a).val) (idx5 t) rfl (by decide) (i 1).isLt
theorem flushes6 (t : Fin cfg0.N) (hf : (cfg0.win 6).flush t = true) :
    (Gen.dats m 0 c).flushed 6 t = ((cfg0.win 6).blk t).view.read (Elt Ideal) (res6 m c) := by
  rw [Value.flushed6]
  refine funext2 fun r d => ?_
  have he : ((cfg0.win 6).blk t).view.emb (ix2 r d) = ix2 (row t r) d := idx2_ext _ _
    (off0 (idx6 t) 256 r.val)
    (off1z (idx6 t) 896 d.val)
  rw [View.read_apply, he]
  show out0_6 (F := Ideal) (b0 m c t) (b1 m c t) (b2 m c t) (b3 m c t) (ix2 r d) = _
  rw [outW6, pay6 (b0 m c t) (b1 m c t) (b2 m c t) (b3 m c t), blk0, blk1, blk2, blk3]
  rfl
theorem final6 : (Gen.dats m 0 c).arrAt 6 cfg0.N = res6 m c :=
  (Gen.dats m 0 c).arrAt_eq_of_cover 6 (res6 m c) (flushes6 m c) fun i => by
    let t := tile (i 0)
    refine ⟨t, flush0_6 t, ?_⟩
    show i ∈ ((View.whole main_v0_2).slice (win0_6.rect t)).set
    rw [View.set_slice_whole, Rect.mem_set_unit]
    exact inRows (s := ![256, 896]) (i := fun a => (i a).val) (idx6 t) rfl (by decide) (i 1).isLt
end Cert.AdamAbInIdeal.Blocks

namespace Cert.AdamAbIn
open Idealize.ShloMosaic Idealize.SL.Sem AdamAbInIdeal AdamAbInRefIdeal.Read Cert.Rows
open scoped BigOperators

/-- The reference's results, and that they are the kernel's. -/
theorem reference_at4 (x0 x1 : FVec Ideal S1024x896 .f32) (x2 x3 : FVec Ideal S1024x896 .f32) (i : Fin 1024) (j : Fin 896) :
    val_main_v23 (F := Ideal) x0 x1 x2 x3 (ix2 i j) = delta (fun x => x0 (ix2 i x)) (fun x => x1 (ix2 i x)) (fun x => x2 (ix2 i x)) (fun x => x3 (ix2 i x)) j := by
  unfold delta newM newV
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem reference_at5 (x0 x1 : FVec Ideal S1024x896 .f32) (x2 x3 : FVec Ideal S1024x896 .f32) (i : Fin 1024) (j : Fin 896) :
    val_main_v4 (F := Ideal) x1 x2 (ix2 i j) = newM (fun x => x0 (ix2 i x)) (fun x => x1 (ix2 i x)) (fun x => x2 (ix2 i x)) (fun x => x3 (ix2 i x)) j := by
  unfold newM
  pointwise [val_main_cst, val_main_v0, val_main_v1, val_main_cst_0, val_main_v2, val_main_v3, val_main_v4]
theorem reference_at6 (x0 x1 : FVec Ideal S1024x896 .f32) (x2 x3 : FVec Ideal S1024x896 .f32) (i : Fin 1024) (j : Fin 896) :
    val_main_v10 (F := Ideal) x1 x3 (ix2 i j) = newV (fun x => x0 (ix2 i x)) (fun x => x1 (ix2 i x)) (fun x => x2 (ix2 i x)) (fun x => x3 (ix2 i x)) j := by
  unfold newV
  pointwise [val_main_cst_1, val_main_v5, val_main_v6, val_main_v7, val_main_cst_2, val_main_v8, val_main_v9, val_main_v10]

theorem algebraic : algebraic_AdamAbInIdeal_AdamAbInRefIdeal := by
  intro m g m' g' _ e
  refine ⟨fun c => AdamAbInIdeal.Blocks.res4 m c, fun c => AdamAbInIdeal.Blocks.res5 m c, fun c => AdamAbInIdeal.Blocks.res6 m c, ?_, ?_⟩
  · refine (θ_run AdamAbInIdeal.defs _ _).mono (fun r H c => ?_) (AdamAbInIdeal.Value.run_blocks (F := Ideal) m g)
    exact ⟨(H c).1.trans (AdamAbInIdeal.Blocks.final4 m c), (H c).2.1.trans (AdamAbInIdeal.Blocks.final5 m c), (H c).2.2.1.trans (AdamAbInIdeal.Blocks.final6 m c), (H c).2.2.2⟩
  · refine (θ_run AdamAbInRefIdeal.defs _ _).mono (fun r H c => ?_) (AdamAbInRefIdeal.Value.run (F := Ideal) m' g')
    refine ⟨(H c).1.trans ?_, (H c).2.1.trans ?_, (H c).2.2.1.trans ?_, (H c).2.2.2⟩
    · rw [val_main_v23_eq, (e c).1, (e c).2.1, (e c).2.2.1, (e c).2.2.2]
      funext i
      idx_vars i
      exact reference_at4 _ _ _ _ i0 i1
    · rw [val_main_v4_eq, (e c).2.1, (e c).2.2.1]
      funext i
      idx_vars i
      exact reference_at5 (m ((c.tc : Thread AdamAbInIdeal.nD AdamAbInIdeal.τ).loc AdamAbInIdeal.main_arg0)) _ _ (m ((c.tc : Thread AdamAbInIdeal.nD AdamAbInIdeal.τ).loc AdamAbInIdeal.main_arg3)) i0 i1
    · rw [val_main_v10_eq, (e c).2.1, (e c).2.2.2]
      funext i
      idx_vars i
      exact reference_at6 (m ((c.tc : Thread AdamAbInIdeal.nD AdamAbInIdeal.τ).loc AdamAbInIdeal.main_arg0)) _ (m ((c.tc : Thread AdamAbInIdeal.nD AdamAbInIdeal.τ).loc AdamAbInIdeal.main_arg2)) _ i0 i1

theorem reference_frame : quiescent_AdamAbInRefIdeal := fun m ρ _ =>
  (θ_run AdamAbInRefIdeal.defs _ _).mono (fun r h => ⟨fun c => (h c).2.2.2, sem_eq_zero_of_no_sems (by decide) r.2⟩) (AdamAbInRefIdeal.Value.run (F := Ideal) m ρ)
end Cert.AdamAbIn
-- ==== Proof.AdamAbOut.lean ====
/- The row by row call `adam_ab_w_out`: what its arrays hold after the run, and every claim about it. -/
module
public import proofs.«01_k».proof.Defs
public import proofs.«01_k».proof.Proof.Gen.AdamAbOut.Frame
public import proofs.«01_k».proof.Proof.Gen.AdamAbOutIdeal.Value
public import proofs.«01_k».proof.Proof.Gen.AdamAbOutRefIdeal.Run
public import proofs.«01_k».proof.Proof.Gen.AdamAbOutRefIdeal.Read
public import proofs.«01_k».proof.Proof.Rows
public import Idealize.ShloMosaic.Lib.Quiescent
@[expose] public section
set_option maxRecDepth 16384
noncomputable section
namespace Cert.AdamAbOutIdeal.Blocks
open Cert.AdamAbOutIdeal Cert.AdamAbOutIdeal.Gen Idealize.ShloMosaic Idealize.ShloMosaic.TcCoe Idealize.SL.Sem Cert.Rows
open scoped BigOperators

theorem outW4 {F : FTy → Type} [FloatOps F] (x0 x1 : Vec F S256x1024 .f32) (x2 x3 : Vec F S256x1024 .f32) : out0_4 x0 x1 x2 x3 = k0_pay3 x0 x1 x2 x3 := by
  unfold out0_4
  rw [View.canon_unit_zero hz]
  simp only [View.ld_unit_zero (S := S256x1024) hz]
theorem pay4 (x0 x1 : FVec Ideal S256x1024 .f32) (x2 x3 : FVec Ideal S256x1024 .f32) (r : Fin 256) (d : Fin 1024) :
    k0_pay3 (F := Ideal) x0 x1 x2 x3 (ix2 r d) = delta (fun x => x0 (ix2 r x)) (fun x => x1 (ix2 r x)) (fun x => x2 (ix2 r x)) (fun x => x3 (ix2 r x)) d := by
  unfold delta newM newV
  pointwise [k0_pay1, k0_pay2, k0_pay3]
theorem outW5 {F : FTy → Type} [FloatOps F] (x0 x1 : Vec F S256x1024 .f32) (x2 x3 : Vec F S256x1024 .f32) : out0_5 x0 x1 x2 x3 = k0_pay1 x1 x2 := by
  unfold out0_5
  rw [View.canon_unit_zero hz]
  simp only [View.ld_unit_zero (S := S256x1024) hz]
theorem pay5 (x0 x1 : FVec Ideal S256x1024 .f32) (x2 x3 : FVec Ideal S256x1024 .f32) (r : Fin 256) (d : Fin 1024) :
    k0_pay1 (F := Ideal) x1 x2 (ix2 r d) = newM (fun x => x0 (ix2 r x)) (fun x => x1 (ix2 r x)) (fun x => x2 (ix2 r x)) (fun x => x3 (ix2 r x)) d := by
  unfold newM
  pointwise [k0_pay1, k0_pay2, k0_pay3]
theorem outW6 {F : FTy → Type} [FloatOps F] (x0 x1 : Vec F S256x1024 .f32) (x2 x3 : Vec F S256x1024 .f32) : out0_6 x0 x1 x2 x3 = k0_pay2 x1 x3 := by
  unfold out0_6
  rw [View.canon_unit_zero hz]
  simp only [View.ld_unit_zero (S := S256x1024) hz]
theorem pay6 (x0 x1 : FVec Ideal S256x1024 .f32) (x2 x3 : FVec Ideal S256x1024 .f32) (r : Fin 256) (d : Fin 1024) :
    k0_pay2 (F := Ideal) x1 x3 (ix2 r d) = newV (fun x => x0 (ix2 r x)) (fun x => x1 (ix2 r x)) (fun x => x2 (ix2 r x)) (fun x => x3 (ix2 r x)) d := by
  unfold newV
  pointwise [k0_pay1, k0_pay2, k0_pay3]

variable (m : (ℓ : Loc nD τ sig) → Buf (Elt Ideal) ℓ) (c : Dev nD)

theorem ltN (t : Fin cfg0.N) : t.val < 1 := by have h := t.isLt; have e : cfg0.N = 1 := N_0; omega
/-- The row a block's row stands for at point `t`. -/
def row (t : Fin cfg0.N) (r : Fin 256) : Fin 256 := ⟨t.val * 256 + r.val, by have := ltN t; omega⟩
def tile (r : Fin 256) : Fin cfg0.N := ⟨r.val / 256, by rw [show cfg0.N = 1 from N_0]; omega⟩
abbrev A0 : Fin 256 → Fin 1024 → EReal := fun i x => m ((c : Thread nD τ).loc main_arg0) (ix2 i x)
abbrev A1 : Fin 256 → Fin 1024 → EReal := fun i x => m ((c : Thread nD τ).loc main_arg1) (ix2 i x)
abbrev A2 : Fin 256 → Fin 1024 → EReal := fun i x => m ((c : Thread nD τ).loc main_arg2) (ix2 i x)
abbrev A3 : Fin 256 → Fin 1024 → EReal := fun i x => m ((c : Thread nD τ).loc main_arg3) (ix2 i x)
def res4 : Buf (Elt Ideal) ((c : Thread nD τ).loc main_v0_0) := fun i : S256x1024.Idx => delta (A0 m c (i 0)) (A1 m c (i 0)) (A2 m c (i 0)) (A3 m c (i 0)) (i 1)
def res5 : Buf (Elt Ideal) ((c : Thread nD τ).loc main_v0_1) := fun i : S256x1024.Idx => newM (A0 m c (i 0)) (A1 m c (i 0)) (A2 m c (i 0)) (A3 m c (i 0)) (i 1)
def res6 : Buf (Elt Ideal) ((c : Thread nD τ).loc main_v0_2) := fun i : S256x1024.Idx => newV (A0 m c (i 0)) (A1 m c (i 0)) (A2 m c (i 0)) (A3 m c (i 0)) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
def b0 (t : Fin cfg0.N) : FVec Ideal S256x1024 .f32 := iblk m c 0 t
theorem blk0 (t : Fin cfg0.N) (r : Fin 256) : (fun x => b0 m c t (ix2 r x)) = A0 m c (row t r) := funext fun x => by
  unfold b0 iblk
  rw [View.read_apply]
  exact congrArg (m ((c : Thread nD τ).loc main_arg0)) (idx2_ext _ _ (off0 (idx0 t) 256 r.val) (off1z (idx0 t) 1024 x.val))
def b1 (t : Fin cfg0.N) : FVec Ideal S256x1024 .f32 := iblk m c 1 t
theorem blk1 (t : Fin cfg0.N) (r : Fin 256) : (fun x => b1 m c t (ix2 r x)) = A1 m c (row t r) := funext fun x => by
  unfold b1 iblk
  rw [View.read_apply]
  exact congrArg (m ((c : Thread nD τ).loc main_arg1)) (idx2_ext _ _ (off0 (idx1 t) 256 r.val) (off1z (idx1 t) 1024 x.val))
def b2 (t : Fin cfg0.N) : FVec Ideal S256x1024 .f32 := iblk m c 2 t
theorem blk2 (t : Fin cfg0.N) (r : Fin 256) : (fun x => b2 m c t (ix2 r x)) = A2 m c (row t r) := funext fun x => by
  unfold b2 iblk
  rw [View.read_apply]
  exact congrArg (m ((c : Thread nD τ).loc main_arg2)) (idx2_ext _ _ (off0 (idx2 t) 256 r.val) (off1z (idx2 t) 1024 x.val))
def b3 (t : Fin cfg0.N) : FVec Ideal S256x1024 .f32 := iblk m c 3 t
theorem blk3 (t : Fin cfg0.N) (r : Fin 256) : (fun x => b3 m c t (ix2 r x)) = A3 m c (row t r) := funext fun x => by
  unfold b3 iblk
  rw [View.read_apply]
  exact congrArg (m ((c : Thread nD τ).loc main_arg3)) (idx2_ext _ _ (off0 (idx3 t) 256 r.val) (off1z (idx3 t) 1024 x.val))
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) d := idx2_ext _ _
    (off0 (idx4 t) 256 r.val)
    (off1z (idx4 t) 1024 d.val)
  rw [View.read_apply, he]
  show out0_4 (F := Ideal) (b0 m c t) (b1 m c t) (b2 m c t) (b3 m c t) (ix2 r d) = _
  rw [outW4, pay4 (b0 m c t) (b1 m c t) (b2 m c t) (b3 m c t), blk0, blk1, blk2, blk3]
  rfl
theorem final4 : (Gen.dats m 0 c).arrAt 4 cfg0.N = res4 m c :=
  (Gen.dats m 0 c).arrAt_eq_of_cover 4 (res4 m c) (flushes4 m c) fun i => by
    let t := tile (i 0)
    refine ⟨t, flush0_4 t, ?_⟩
    show i ∈ ((View.whole main_v0_0).slice (win0_4.rect t)).set
    rw [View.set_slice_whole, Rect.mem_set_unit]
    exact inRows (s := ![256, 1024]) (i := fun a => (i a).val) (idx4 t) rfl (by decide) (i 1).isLt
theorem flushes5 (t : Fin cfg0.N) (hf : (cfg0.win 5).flush t = true) :
    (Gen.dats m 0 c).flushed 5 t = ((cfg0.win 5).blk t).view.read (Elt Ideal) (res5 m c) := by
  rw [Value.flushed5]
  refine funext2 fun r d => ?_
  have he : ((cfg0.win 5).blk t).view.emb (ix2 r d) = ix2 (row t r) d := idx2_ext _ _
    (off0 (idx5 t) 256 r.val)
    (off1z (idx5 t) 1024 d.val)
  rw [View.read_apply, he]
  show out0_5 (F := Ideal) (b0 m c t) (b1 m c t) (b2 m c t) (b3 m c t) (ix2 r d) = _
  rw [outW5, pay5 (b0 m c t) (b1 m c t) (b2 m c t) (b3 m c t), blk0, blk1, blk2, blk3]
  rfl
theorem final5 : (Gen.dats m 0 c).arrAt 5 cfg0.N = res5 m c :=
  (Gen.dats m 0 c).arrAt_eq_of_cover 5 (res5 m c) (flushes5 m c) fun i => by
    let t := tile (i 0)
    refine ⟨t, flush0_5 t, ?_⟩
    show i ∈ ((View.whole main_v0_1).slice (win0_5.rect t)).set
    rw [View.set_slice_whole, Rect.mem_set_unit]
    exact inRows (s := ![256, 1024]) (i := fun a => (i a).val) (idx5 t) rfl (by decide) (i 1).isLt
theorem flushes6 (t : Fin cfg0.N) (hf : (cfg0.win 6).flush t = true) :
    (Gen.dats m 0 c).flushed 6 t = ((cfg0.win 6).blk t).view.read (Elt Ideal) (res6 m c) := by
  rw [Value.flushed6]
  refine funext2 fun r d => ?_
  have he : ((cfg0.win 6).blk t).view.emb (ix2 r d) = ix2 (row t r) d := idx2_ext _ _
    (off0 (idx6 t) 256 r.val)
    (off1z (idx6 t) 1024 d.val)
  rw [View.read_apply, he]
  show out0_6 (F := Ideal) (b0 m c t) (b1 m c t) (b2 m c t) (b3 m c t) (ix2 r d) = _
  rw [outW6, pay6 (b0 m c t) (b1 m c t) (b2 m c t) (b3 m c t), blk0, blk1, blk2, blk3]
  rfl
theorem final6 : (Gen.dats m 0 c).arrAt 6 cfg0.N = res6 m c :=
  (Gen.dats m 0 c).arrAt_eq_of_cover 6 (res6 m c) (flushes6 m c) fun i => by
    let t := tile (i 0)
    refine ⟨t, flush0_6 t, ?_⟩
    show i ∈ ((View.whole main_v0_2).slice (win0_6.rect t)).set
    rw [View.set_slice_whole, Rect.mem_set_unit]
    exact inRows (s := ![256, 1024]) (i := fun a => (i a).val) (idx6 t) rfl (by decide) (i 1).isLt
end Cert.AdamAbOutIdeal.Blocks

namespace Cert.AdamAbOut
open Idealize.ShloMosaic Idealize.SL.Sem AdamAbOutIdeal AdamAbOutRefIdeal.Read Cert.Rows
open scoped BigOperators

/-- The reference's results, and that they are the kernel's. -/
theorem reference_at4 (x0 x1 : FVec Ideal S256x1024 .f32) (x2 x3 : FVec Ideal S256x1024 .f32) (i : Fin 256) (j : Fin 1024) :
    val_main_v23 (F := Ideal) x0 x1 x2 x3 (ix2 i j) = delta (fun x => x0 (ix2 i x)) (fun x => x1 (ix2 i x)) (fun x => x2 (ix2 i x)) (fun x => x3 (ix2 i x)) j := by
  unfold delta newM newV
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem reference_at5 (x0 x1 : FVec Ideal S256x1024 .f32) (x2 x3 : FVec Ideal S256x1024 .f32) (i : Fin 256) (j : Fin 1024) :
    val_main_v4 (F := Ideal) x1 x2 (ix2 i j) = newM (fun x => x0 (ix2 i x)) (fun x => x1 (ix2 i x)) (fun x => x2 (ix2 i x)) (fun x => x3 (ix2 i x)) j := by
  unfold newM
  pointwise [val_main_cst, val_main_v0, val_main_v1, val_main_cst_0, val_main_v2, val_main_v3, val_main_v4]
theorem reference_at6 (x0 x1 : FVec Ideal S256x1024 .f32) (x2 x3 : FVec Ideal S256x1024 .f32) (i : Fin 256) (j : Fin 1024) :
    val_main_v10 (F := Ideal) x1 x3 (ix2 i j) = newV (fun x => x0 (ix2 i x)) (fun x => x1 (ix2 i x)) (fun x => x2 (ix2 i x)) (fun x => x3 (ix2 i x)) j := by
  unfold newV
  pointwise [val_main_cst_1, val_main_v5, val_main_v6, val_main_v7, val_main_cst_2, val_main_v8, val_main_v9, val_main_v10]

theorem algebraic : algebraic_AdamAbOutIdeal_AdamAbOutRefIdeal := by
  intro m g m' g' _ e
  refine ⟨fun c => AdamAbOutIdeal.Blocks.res4 m c, fun c => AdamAbOutIdeal.Blocks.res5 m c, fun c => AdamAbOutIdeal.Blocks.res6 m c, ?_, ?_⟩
  · refine (θ_run AdamAbOutIdeal.defs _ _).mono (fun r H c => ?_) (AdamAbOutIdeal.Value.run_blocks (F := Ideal) m g)
    exact ⟨(H c).1.trans (AdamAbOutIdeal.Blocks.final4 m c), (H c).2.1.trans (AdamAbOutIdeal.Blocks.final5 m c), (H c).2.2.1.trans (AdamAbOutIdeal.Blocks.final6 m c), (H c).2.2.2⟩
  · refine (θ_run AdamAbOutRefIdeal.defs _ _).mono (fun r H c => ?_) (AdamAbOutRefIdeal.Value.run (F := Ideal) m' g')
    refine ⟨(H c).1.trans ?_, (H c).2.1.trans ?_, (H c).2.2.1.trans ?_, (H c).2.2.2⟩
    · rw [val_main_v23_eq, (e c).1, (e c).2.1, (e c).2.2.1, (e c).2.2.2]
      funext i
      idx_vars i
      exact reference_at4 _ _ _ _ i0 i1
    · rw [val_main_v4_eq, (e c).2.1, (e c).2.2.1]
      funext i
      idx_vars i
      exact reference_at5 (m ((c.tc : Thread AdamAbOutIdeal.nD AdamAbOutIdeal.τ).loc AdamAbOutIdeal.main_arg0)) _ _ (m ((c.tc : Thread AdamAbOutIdeal.nD AdamAbOutIdeal.τ).loc AdamAbOutIdeal.main_arg3)) i0 i1
    · rw [val_main_v10_eq, (e c).2.1, (e c).2.2.2]
      funext i
      idx_vars i
      exact reference_at6 (m ((c.tc : Thread AdamAbOutIdeal.nD AdamAbOutIdeal.τ).loc AdamAbOutIdeal.main_arg0)) _ (m ((c.tc : Thread AdamAbOutIdeal.nD AdamAbOutIdeal.τ).loc AdamAbOutIdeal.main_arg2)) _ i0 i1

theorem reference_frame : quiescent_AdamAbOutRefIdeal := fun m ρ _ =>
  (θ_run AdamAbOutRefIdeal.defs _ _).mono (fun r h => ⟨fun c => (h c).2.2.2, sem_eq_zero_of_no_sems (by decide) r.2⟩) (AdamAbOutRefIdeal.Value.run (F := Ideal) m ρ)
end Cert.AdamAbOut
-- ==== Proof.AdamGlu.lean ====
/- The row by row call `adam_s5_w_glu`: what its arrays hold after the run, and every claim about it. -/
module
public import proofs.«01_k».proof.Defs
public import proofs.«01_k».proof.Proof.Gen.AdamGlu.Frame
public import proofs.«01_k».proof.Proof.Gen.AdamGluIdeal.Value
public import proofs.«01_k».proof.Proof.Gen.AdamGluRefIdeal.Run
public import proofs.«01_k».proof.Proof.Gen.AdamGluRefIdeal.Read
public import proofs.«01_k».proof.Proof.Rows
public import Idealize.ShloMosaic.Lib.Quiescent
@[expose] public section
set_option maxRecDepth 16384
noncomputable section
namespace Cert.AdamGluIdeal.Blocks
open Cert.AdamGluIdeal Cert.AdamGluIdeal.Gen Idealize.ShloMosaic Idealize.ShloMosaic.TcCoe Idealize.SL.Sem Cert.Rows
open scoped BigOperators

theorem outW4 {F : FTy → Type} [FloatOps F] (x0 x1 : Vec F S256x512 .f32) (x2 x3 : Vec F S256x512 .f32) : out0_4 x0 x1 x2 x3 = k0_pay3 x0 x1 x2 x3 := by
  unfold out0_4
  rw [View.canon_unit_zero hz]
  simp only [View.ld_unit_zero (S := S256x512) hz]
theorem pay4 (x0 x1 : FVec Ideal S256x512 .f32) (x2 x3 : FVec Ideal S256x512 .f32) (r : Fin 256) (d : Fin 512) :
    k0_pay3 (F := Ideal) x0 x1 x2 x3 (ix2 r d) = delta (fun x => x0 (ix2 r x)) (fun x => x1 (ix2 r x)) (fun x => x2 (ix2 r x)) (fun x => x3 (ix2 r x)) d := by
  unfold delta newM newV
  pointwise [k0_pay1, k0_pay2, k0_pay3]
theorem outW5 {F : FTy → Type} [FloatOps F] (x0 x1 : Vec F S256x512 .f32) (x2 x3 : Vec F S256x512 .f32) : out0_5 x0 x1 x2 x3 = k0_pay1 x1 x2 := by
  unfold out0_5
  rw [View.canon_unit_zero hz]
  simp only [View.ld_unit_zero (S := S256x512) hz]
theorem pay5 (x0 x1 : FVec Ideal S256x512 .f32) (x2 x3 : FVec Ideal S256x512 .f32) (r : Fin 256) (d : Fin 512) :
    k0_pay1 (F := Ideal) x1 x2 (ix2 r d) = newM (fun x => x0 (ix2 r x)) (fun x => x1 (ix2 r x)) (fun x => x2 (ix2 r x)) (fun x => x3 (ix2 r x)) d := by
  unfold newM
  pointwise [k0_pay1, k0_pay2, k0_pay3]
theorem outW6 {F : FTy → Type} [FloatOps F] (x0 x1 : Vec F S256x512 .f32) (x2 x3 : Vec F S256x512 .f32) : out0_6 x0 x1 x2 x3 = k0_pay2 x1 x3 := by
  unfold out0_6
  rw [View.canon_unit_zero hz]
  simp only [View.ld_unit_zero (S := S256x512) hz]
theorem pay6 (x0 x1 : FVec Ideal S256x512 .f32) (x2 x3 : FVec Ideal S256x512 .f32) (r : Fin 256) (d : Fin 512) :
    k0_pay2 (F := Ideal) x1 x3 (ix2 r d) = newV (fun x => x0 (ix2 r x)) (fun x => x1 (ix2 r x)) (fun x => x2 (ix2 r x)) (fun x => x3 (ix2 r x)) d := by
  unfold newV
  pointwise [k0_pay1, k0_pay2, k0_pay3]

variable (m : (ℓ : Loc nD τ sig) → Buf (Elt Ideal) ℓ) (c : Dev nD)

theorem ltN (t : Fin cfg0.N) : t.val < 4 := by have h := t.isLt; have e : cfg0.N = 4 := N_0; omega
/-- The row a block's row stands for at point `t`. -/
def row (t : Fin cfg0.N) (r : Fin 256) : Fin 1024 := ⟨t.val * 256 + r.val, by have := ltN t; omega⟩
def tile (r : Fin 1024) : Fin cfg0.N := ⟨r.val / 256, by rw [show cfg0.N = 4 from N_0]; omega⟩
abbrev A0 : Fin 1024 → Fin 512 → EReal := fun i x => m ((c : Thread nD τ).loc main_arg0) (ix2 i x)
abbrev A1 : Fin 1024 → Fin 512 → EReal := fun i x => m ((c : Thread nD τ).loc main_arg1) (ix2 i x)
abbrev A2 : Fin 1024 → Fin 512 → EReal := fun i x => m ((c : Thread nD τ).loc main_arg2) (ix2 i x)
abbrev A3 : Fin 1024 → Fin 512 → EReal := fun i x => m ((c : Thread nD τ).loc main_arg3) (ix2 i x)
def res4 : Buf (Elt Ideal) ((c : Thread nD τ).loc main_v0_0) := fun i : S1024x512.Idx => delta (A0 m c (i 0)) (A1 m c (i 0)) (A2 m c (i 0)) (A3 m c (i 0)) (i 1)
def res5 : Buf (Elt Ideal) ((c : Thread nD τ).loc main_v0_1) := fun i : S1024x512.Idx => newM (A0 m c (i 0)) (A1 m c (i 0)) (A2 m c (i 0)) (A3 m c (i 0)) (i 1)
def res6 : Buf (Elt Ideal) ((c : Thread nD τ).loc main_v0_2) := fun i : S1024x512.Idx => newV (A0 m c (i 0)) (A1 m c (i 0)) (A2 m c (i 0)) (A3 m c (i 0)) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
def b0 (t : Fin cfg0.N) : FVec Ideal S256x512 .f32 := iblk m c 0 t
theorem blk0 (t : Fin cfg0.N) (r : Fin 256) : (fun x => b0 m c t (ix2 r x)) = A0 m c (row t r) := funext fun x => by
  unfold b0 iblk
  rw [View.read_apply]
  exact congrArg (m ((c : Thread nD τ).loc main_arg0)) (idx2_ext _ _ (off0 (idx0 t) 256 r.val) (off1z (idx0 t) 512 x.val))
def b1 (t : Fin cfg0.N) : FVec Ideal S256x512 .f32 := iblk m c 1 t
theorem blk1 (t : Fin cfg0.N) (r : Fin 256) : (fun x => b1 m c t (ix2 r x)) = A1 m c (row t r) := funext fun x => by
  unfold b1 iblk
  rw [View.read_apply]
  exact congrArg (m ((c : Thread nD τ).loc main_arg1)) (idx2_ext _ _ (off0 (idx1 t) 256 r.val) (off1z (idx1 t) 512 x.val))
def b2 (t : Fin cfg0.N) : FVec Ideal S256x512 .f32 := iblk m c 2 t
theorem blk2 (t : Fin cfg0.N) (r : Fin 256) : (fun x => b2 m c t (ix2 r x)) = A2 m c (row t r) := funext fun x => by
  unfold b2 iblk
  rw [View.read_apply]
  exact congrArg (m ((c : Thread nD τ).loc main_arg2)) (idx2_ext _ _ (off0 (idx2 t) 256 r.val) (off1z (idx2 t) 512 x.val))
def b3 (t : Fin cfg0.N) : FVec Ideal S256x512 .f32 := iblk m c 3 t
theorem blk3 (t : Fin cfg0.N) (r : Fin 256) : (fun x => b3 m c t (ix2 r x)) = A3 m c (row t r) := funext fun x => by
  unfold b3 iblk
  rw [View.read_apply]
  exact congrArg (m ((c : Thread nD τ).loc main_arg3)) (idx2_ext _ _ (off0 (idx3 t) 256 r.val) (off1z (idx3 t) 512 x.val))
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) d := idx2_ext _ _
    (off0 (idx4 t) 256 r.val)
    (off1z (idx4 t) 512 d.val)
  rw [View.read_apply, he]
  show out0_4 (F := Ideal) (b0 m c t) (b1 m c t) (b2 m c t) (b3 m c t) (ix2 r d) = _
  rw [outW4, pay4 (b0 m c t) (b1 m c t) (b2 m c t) (b3 m c t), blk0, blk1, blk2, blk3]
  rfl
theorem final4 : (Gen.dats m 0 c).arrAt 4 cfg0.N = res4 m c :=
  (Gen.dats m 0 c).arrAt_eq_of_cover 4 (res4 m c) (flushes4 m c) fun i => by
    let t := tile (i 0)
    refine ⟨t, flush0_4 t, ?_⟩
    show i ∈ ((View.whole main_v0_0).slice (win0_4.rect t)).set
    rw [View.set_slice_whole, Rect.mem_set_unit]
    exact inRows (s := ![256, 512]) (i := fun a => (i a).val) (idx4 t) rfl (by decide) (i 1).isLt
theorem flushes5 (t : Fin cfg0.N) (hf : (cfg0.win 5).flush t = true) :
    (Gen.dats m 0 c).flushed 5 t = ((cfg0.win 5).blk t).view.read (Elt Ideal) (res5 m c) := by
  rw [Value.flushed5]
  refine funext2 fun r d => ?_
  have he : ((cfg0.win 5).blk t).view.emb (ix2 r d) = ix2 (row t r) d := idx2_ext _ _
    (off0 (idx5 t) 256 r.val)
    (off1z (idx5 t) 512 d.val)
  rw [View.read_apply, he]
  show out0_5 (F := Ideal) (b0 m c t) (b1 m c t) (b2 m c t) (b3 m c t) (ix2 r d) = _
  rw [outW5, pay5 (b0 m c t) (b1 m c t) (b2 m c t) (b3 m c t), blk0, blk1, blk2, blk3]
  rfl
theorem final5 : (Gen.dats m 0 c).arrAt 5 cfg0.N = res5 m c :=
  (Gen.dats m 0 c).arrAt_eq_of_cover 5 (res5 m c) (flushes5 m c) fun i => by
    let t := tile (i 0)
    refine ⟨t, flush0_5 t, ?_⟩
    show i ∈ ((View.whole main_v0_1).slice (win0_5.rect t)).set
    rw [View.set_slice_whole, Rect.mem_set_unit]
    exact inRows (s := ![256, 512]) (i := fun a => (i a).val) (idx5 t) rfl (by decide) (i 1).isLt
theorem flushes6 (t : Fin cfg0.N) (hf : (cfg0.win 6).flush t = true) :
    (Gen.dats m 0 c).flushed 6 t = ((cfg0.win 6).blk t).view.read (Elt Ideal) (res6 m c) := by
  rw [Value.flushed6]
  refine funext2 fun r d => ?_
  have he : ((cfg0.win 6).blk t).view.emb (ix2 r d) = ix2 (row t r) d := idx2_ext _ _
    (off0 (idx6 t) 256 r.val)
    (off1z (idx6 t) 512 d.val)
  rw [View.read_apply, he]
  show out0_6 (F := Ideal) (b0 m c t) (b1 m c t) (b2 m c t) (b3 m c t) (ix2 r d) = _
  rw [outW6, pay6 (b0 m c t) (b1 m c t) (b2 m c t) (b3 m c t), blk0, blk1, blk2, blk3]
  rfl
theorem final6 : (Gen.dats m 0 c).arrAt 6 cfg0.N = res6 m c :=
  (Gen.dats m 0 c).arrAt_eq_of_cover 6 (res6 m c) (flushes6 m c) fun i => by
    let t := tile (i 0)
    refine ⟨t, flush0_6 t, ?_⟩
    show i ∈ ((View.whole main_v0_2).slice (win0_6.rect t)).set
    rw [View.set_slice_whole, Rect.mem_set_unit]
    exact inRows (s := ![256, 512]) (i := fun a => (i a).val) (idx6 t) rfl (by decide) (i 1).isLt
end Cert.AdamGluIdeal.Blocks

namespace Cert.AdamGlu
open Idealize.ShloMosaic Idealize.SL.Sem AdamGluIdeal AdamGluRefIdeal.Read Cert.Rows
open scoped BigOperators

/-- The reference's results, and that they are the kernel's. -/
theorem reference_at4 (x0 x1 : FVec Ideal S1024x512 .f32) (x2 x3 : FVec Ideal S1024x512 .f32) (i : Fin 1024) (j : Fin 512) :
    val_main_v23 (F := Ideal) x0 x1 x2 x3 (ix2 i j) = delta (fun x => x0 (ix2 i x)) (fun x => x1 (ix2 i x)) (fun x => x2 (ix2 i x)) (fun x => x3 (ix2 i x)) j := by
  unfold delta newM newV
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem reference_at5 (x0 x1 : FVec Ideal S1024x512 .f32) (x2 x3 : FVec Ideal S1024x512 .f32) (i : Fin 1024) (j : Fin 512) :
    val_main_v4 (F := Ideal) x1 x2 (ix2 i j) = newM (fun x => x0 (ix2 i x)) (fun x => x1 (ix2 i x)) (fun x => x2 (ix2 i x)) (fun x => x3 (ix2 i x)) j := by
  unfold newM
  pointwise [val_main_cst, val_main_v0, val_main_v1, val_main_cst_0, val_main_v2, val_main_v3, val_main_v4]
theorem reference_at6 (x0 x1 : FVec Ideal S1024x512 .f32) (x2 x3 : FVec Ideal S1024x512 .f32) (i : Fin 1024) (j : Fin 512) :
    val_main_v10 (F := Ideal) x1 x3 (ix2 i j) = newV (fun x => x0 (ix2 i x)) (fun x => x1 (ix2 i x)) (fun x => x2 (ix2 i x)) (fun x => x3 (ix2 i x)) j := by
  unfold newV
  pointwise [val_main_cst_1, val_main_v5, val_main_v6, val_main_v7, val_main_cst_2, val_main_v8, val_main_v9, val_main_v10]

theorem algebraic : algebraic_AdamGluIdeal_AdamGluRefIdeal := by
  intro m g m' g' _ e
  refine ⟨fun c => AdamGluIdeal.Blocks.res4 m c, fun c => AdamGluIdeal.Blocks.res5 m c, fun c => AdamGluIdeal.Blocks.res6 m c, ?_, ?_⟩
  · refine (θ_run AdamGluIdeal.defs _ _).mono (fun r H c => ?_) (AdamGluIdeal.Value.run_blocks (F := Ideal) m g)
    exact ⟨(H c).1.trans (AdamGluIdeal.Blocks.final4 m c), (H c).2.1.trans (AdamGluIdeal.Blocks.final5 m c), (H c).2.2.1.trans (AdamGluIdeal.Blocks.final6 m c), (H c).2.2.2⟩
  · refine (θ_run AdamGluRefIdeal.defs _ _).mono (fun r H c => ?_) (AdamGluRefIdeal.Value.run (F := Ideal) m' g')
    refine ⟨(H c).1.trans ?_, (H c).2.1.trans ?_, (H c).2.2.1.trans ?_, (H c).2.2.2⟩
    · rw [val_main_v23_eq, (e c).1, (e c).2.1, (e c).2.2.1, (e c).2.2.2]
      funext i
      idx_vars i
      exact reference_at4 _ _ _ _ i0 i1
    · rw [val_main_v4_eq, (e c).2.1, (e c).2.2.1]
      funext i
      idx_vars i
      exact reference_at5 (m ((c.tc : Thread AdamGluIdeal.nD AdamGluIdeal.τ).loc AdamGluIdeal.main_arg0)) _ _ (m ((c.tc : Thread AdamGluIdeal.nD AdamGluIdeal.τ).loc AdamGluIdeal.main_arg3)) i0 i1
    · rw [val_main_v10_eq, (e c).2.1, (e c).2.2.2]
      funext i
      idx_vars i
      exact reference_at6 (m ((c.tc : Thread AdamGluIdeal.nD AdamGluIdeal.τ).loc AdamGluIdeal.main_arg0)) _ (m ((c.tc : Thread AdamGluIdeal.nD AdamGluIdeal.τ).loc AdamGluIdeal.main_arg2)) _ i0 i1

theorem reference_frame : quiescent_AdamGluRefIdeal := fun m ρ _ =>
  (θ_run AdamGluRefIdeal.defs _ _).mono (fun r h => ⟨fun c => (h c).2.2.2, sem_eq_zero_of_no_sems (by decide) r.2⟩) (AdamGluRefIdeal.Value.run (F := Ideal) m ρ)
end Cert.AdamGlu
-- ==== Proof.AdamXqo.lean ====
/- The row by row call `adam_xattn_wq`: what its arrays hold after the run, and every claim about it. -/
module
public import proofs.«01_k».proof.Defs
public import proofs.«01_k».proof.Proof.Gen.AdamXqo.Frame
public import proofs.«01_k».proof.Proof.Gen.AdamXqoIdeal.Value
public import proofs.«01_k».proof.Proof.Gen.AdamXqoRefIdeal.Run
public import proofs.«01_k».proof.Proof.Gen.AdamXqoRefIdeal.Read
public import proofs.«01_k».proof.Proof.Rows
public import Idealize.ShloMosaic.Lib.Quiescent
@[expose] public section
set_option maxRecDepth 16384
noncomputable section
namespace Cert.AdamXqoIdeal.Blocks
open Cert.AdamXqoIdeal Cert.AdamXqoIdeal.Gen Idealize.ShloMosaic Idealize.ShloMosaic.TcCoe Idealize.SL.Sem Cert.Rows
open scoped BigOperators

theorem outW4 {F : FTy → Type} [FloatOps F] (x0 x1 : Vec F S256x1024 .f32) (x2 x3 : Vec F S256x1024 .f32) : out0_4 x0 x1 x2 x3 = k0_pay3 x0 x1 x2 x3 := by
  unfold out0_4
  rw [View.canon_unit_zero hz]
  simp only [View.ld_unit_zero (S := S256x1024) hz]
theorem pay4 (x0 x1 : FVec Ideal S256x1024 .f32) (x2 x3 : FVec Ideal S256x1024 .f32) (r : Fin 256) (d : Fin 1024) :
    k0_pay3 (F := Ideal) x0 x1 x2 x3 (ix2 r d) = delta (fun x => x0 (ix2 r x)) (fun x => x1 (ix2 r x)) (fun x => x2 (ix2 r x)) (fun x => x3 (ix2 r x)) d := by
  unfold delta newM newV
  pointwise [k0_pay1, k0_pay2, k0_pay3]
theorem outW5 {F : FTy → Type} [FloatOps F] (x0 x1 : Vec F S256x1024 .f32) (x2 x3 : Vec F S256x1024 .f32) : out0_5 x0 x1 x2 x3 = k0_pay1 x1 x2 := by
  unfold out0_5
  rw [View.canon_unit_zero hz]
  simp only [View.ld_unit_zero (S := S256x1024) hz]
theorem pay5 (x0 x1 : FVec Ideal S256x1024 .f32) (x2 x3 : FVec Ideal S256x1024 .f32) (r : Fin 256) (d : Fin 1024) :
    k0_pay1 (F := Ideal) x1 x2 (ix2 r d) = newM (fun x => x0 (ix2 r x)) (fun x => x1 (ix2 r x)) (fun x => x2 (ix2 r x)) (fun x => x3 (ix2 r x)) d := by
  unfold newM
  pointwise [k0_pay1, k0_pay2, k0_pay3]
theorem outW6 {F : FTy → Type} [FloatOps F] (x0 x1 : Vec F S256x1024 .f32) (x2 x3 : Vec F S256x1024 .f32) : out0_6 x0 x1 x2 x3 = k0_pay2 x1 x3 := by
  unfold out0_6
  rw [View.canon_unit_zero hz]
  simp only [View.ld_unit_zero (S := S256x1024) hz]
theorem pay6 (x0 x1 : FVec Ideal S256x1024 .f32) (x2 x3 : FVec Ideal S256x1024 .f32) (r : Fin 256) (d : Fin 1024) :
    k0_pay2 (F := Ideal) x1 x3 (ix2 r d) = newV (fun x => x0 (ix2 r x)) (fun x => x1 (ix2 r x)) (fun x => x2 (ix2 r x)) (fun x => x3 (ix2 r x)) d := by
  unfold newV
  pointwise [k0_pay1, k0_pay2, k0_pay3]

variable (m : (ℓ : Loc nD τ sig) → Buf (Elt Ideal) ℓ) (c : Dev nD)

theorem ltN (t : Fin cfg0.N) : t.val < 2 := by have h := t.isLt; have e : cfg0.N = 2 := N_0; omega
/-- The row a block's row stands for at point `t`. -/
def row (t : Fin cfg0.N) (r : Fin 256) : Fin 512 := ⟨t.val * 256 + r.val, by have := ltN t; omega⟩
def tile (r : Fin 512) : Fin cfg0.N := ⟨r.val / 256, by rw [show cfg0.N = 2 from N_0]; omega⟩
abbrev A0 : Fin 512 → Fin 1024 → EReal := fun i x => m ((c : Thread nD τ).loc main_arg0) (ix2 i x)
abbrev A1 : Fin 512 → Fin 1024 → EReal := fun i x => m ((c : Thread nD τ).loc main_arg1) (ix2 i x)
abbrev A2 : Fin 512 → Fin 1024 → EReal := fun i x => m ((c : Thread nD τ).loc main_arg2) (ix2 i x)
abbrev A3 : Fin 512 → Fin 1024 → EReal := fun i x => m ((c : Thread nD τ).loc main_arg3) (ix2 i x)
def res4 : Buf (Elt Ideal) ((c : Thread nD τ).loc main_v0_0) := fun i : S512x1024.Idx => delta (A0 m c (i 0)) (A1 m c (i 0)) (A2 m c (i 0)) (A3 m c (i 0)) (i 1)
def res5 : Buf (Elt Ideal) ((c : Thread nD τ).loc main_v0_1) := fun i : S512x1024.Idx => newM (A0 m c (i 0)) (A1 m c (i 0)) (A2 m c (i 0)) (A3 m c (i 0)) (i 1)
def res6 : Buf (Elt Ideal) ((c : Thread nD τ).loc main_v0_2) := fun i : S512x1024.Idx => newV (A0 m c (i 0)) (A1 m c (i 0)) (A2 m c (i 0)) (A3 m c (i 0)) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
def b0 (t : Fin cfg0.N) : FVec Ideal S256x1024 .f32 := iblk m c 0 t
theorem blk0 (t : Fin cfg0.N) (r : Fin 256) : (fun x => b0 m c t (ix2 r x)) = A0 m c (row t r) := funext fun x => by
  unfold b0 iblk
  rw [View.read_apply]
  exact congrArg (m ((c : Thread nD τ).loc main_arg0)) (idx2_ext _ _ (off0 (idx0 t) 256 r.val) (off1z (idx0 t) 1024 x.val))
def b1 (t : Fin cfg0.N) : FVec Ideal S256x1024 .f32 := iblk m c 1 t
theorem blk1 (t : Fin cfg0.N) (r : Fin 256) : (fun x => b1 m c t (ix2 r x)) = A1 m c (row t r) := funext fun x => by
  unfold b1 iblk
  rw [View.read_apply]
  exact congrArg (m ((c : Thread nD τ).loc main_arg1)) (idx2_ext _ _ (off0 (idx1 t) 256 r.val) (off1z (idx1 t) 1024 x.val))
def b2 (t : Fin cfg0.N) : FVec Ideal S256x1024 .f32 := iblk m c 2 t
theorem blk2 (t : Fin cfg0.N) (r : Fin 256) : (fun x => b2 m c t (ix2 r x)) = A2 m c (row t r) := funext fun x => by
  unfold b2 iblk
  rw [View.read_apply]
  exact congrArg (m ((c : Thread nD τ).loc main_arg2)) (idx2_ext _ _ (off0 (idx2 t) 256 r.val) (off1z (idx2 t) 1024 x.val))
def b3 (t : Fin cfg0.N) : FVec Ideal S256x1024 .f32 := iblk m c 3 t
theorem blk3 (t : Fin cfg0.N) (r : Fin 256) : (fun x => b3 m c t (ix2 r x)) = A3 m c (row t r) := funext fun x => by
  unfold b3 iblk
  rw [View.read_apply]
  exact congrArg (m ((c : Thread nD τ).loc main_arg3)) (idx2_ext _ _ (off0 (idx3 t) 256 r.val) (off1z (idx3 t) 1024 x.val))
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) d := idx2_ext _ _
    (off0 (idx4 t) 256 r.val)
    (off1z (idx4 t) 1024 d.val)
  rw [View.read_apply, he]
  show out0_4 (F := Ideal) (b0 m c t) (b1 m c t) (b2 m c t) (b3 m c t) (ix2 r d) = _
  rw [outW4, pay4 (b0 m c t) (b1 m c t) (b2 m c t) (b3 m c t), blk0, blk1, blk2, blk3]
  rfl
theorem final4 : (Gen.dats m 0 c).arrAt 4 cfg0.N = res4 m c :=
  (Gen.dats m 0 c).arrAt_eq_of_cover 4 (res4 m c) (flushes4 m c) fun i => by
    let t := tile (i 0)
    refine ⟨t, flush0_4 t, ?_⟩
    show i ∈ ((View.whole main_v0_0).slice (win0_4.rect t)).set
    rw [View.set_slice_whole, Rect.mem_set_unit]
    exact inRows (s := ![256, 1024]) (i := fun a => (i a).val) (idx4 t) rfl (by decide) (i 1).isLt
theorem flushes5 (t : Fin cfg0.N) (hf : (cfg0.win 5).flush t = true) :
    (Gen.dats m 0 c).flushed 5 t = ((cfg0.win 5).blk t).view.read (Elt Ideal) (res5 m c) := by
  rw [Value.flushed5]
  refine funext2 fun r d => ?_
  have he : ((cfg0.win 5).blk t).view.emb (ix2 r d) = ix2 (row t r) d := idx2_ext _ _
    (off0 (idx5 t) 256 r.val)
    (off1z (idx5 t) 1024 d.val)
  rw [View.read_apply, he]
  show out0_5 (F := Ideal) (b0 m c t) (b1 m c t) (b2 m c t) (b3 m c t) (ix2 r d) = _
  rw [outW5, pay5 (b0 m c t) (b1 m c t) (b2 m c t) (b3 m c t), blk0, blk1, blk2, blk3]
  rfl
theorem final5 : (Gen.dats m 0 c).arrAt 5 cfg0.N = res5 m c :=
  (Gen.dats m 0 c).arrAt_eq_of_cover 5 (res5 m c) (flushes5 m c) fun i => by
    let t := tile (i 0)
    refine ⟨t, flush0_5 t, ?_⟩
    show i ∈ ((View.whole main_v0_1).slice (win0_5.rect t)).set
    rw [View.set_slice_whole, Rect.mem_set_unit]
    exact inRows (s := ![256, 1024]) (i := fun a => (i a).val) (idx5 t) rfl (by decide) (i 1).isLt
theorem flushes6 (t : Fin cfg0.N) (hf : (cfg0.win 6).flush t = true) :
    (Gen.dats m 0 c).flushed 6 t = ((cfg0.win 6).blk t).view.read (Elt Ideal) (res6 m c) := by
  rw [Value.flushed6]
  refine funext2 fun r d => ?_
  have he : ((cfg0.win 6).blk t).view.emb (ix2 r d) = ix2 (row t r) d := idx2_ext _ _
    (off0 (idx6 t) 256 r.val)
    (off1z (idx6 t) 1024 d.val)
  rw [View.read_apply, he]
  show out0_6 (F := Ideal) (b0 m c t) (b1 m c t) (b2 m c t) (b3 m c t) (ix2 r d) = _
  rw [outW6, pay6 (b0 m c t) (b1 m c t) (b2 m c t) (b3 m c t), blk0, blk1, blk2, blk3]
  rfl
theorem final6 : (Gen.dats m 0 c).arrAt 6 cfg0.N = res6 m c :=
  (Gen.dats m 0 c).arrAt_eq_of_cover 6 (res6 m c) (flushes6 m c) fun i => by
    let t := tile (i 0)
    refine ⟨t, flush0_6 t, ?_⟩
    show i ∈ ((View.whole main_v0_2).slice (win0_6.rect t)).set
    rw [View.set_slice_whole, Rect.mem_set_unit]
    exact inRows (s := ![256, 1024]) (i := fun a => (i a).val) (idx6 t) rfl (by decide) (i 1).isLt
end Cert.AdamXqoIdeal.Blocks

namespace Cert.AdamXqo
open Idealize.ShloMosaic Idealize.SL.Sem AdamXqoIdeal AdamXqoRefIdeal.Read Cert.Rows
open scoped BigOperators

/-- The reference's results, and that they are the kernel's. -/
theorem reference_at4 (x0 x1 : FVec Ideal S512x1024 .f32) (x2 x3 : FVec Ideal S512x1024 .f32) (i : Fin 512) (j : Fin 1024) :
    val_main_v23 (F := Ideal) x0 x1 x2 x3 (ix2 i j) = delta (fun x => x0 (ix2 i x)) (fun x => x1 (ix2 i x)) (fun x => x2 (ix2 i x)) (fun x => x3 (ix2 i x)) j := by
  unfold delta newM newV
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem reference_at5 (x0 x1 : FVec Ideal S512x1024 .f32) (x2 x3 : FVec Ideal S512x1024 .f32) (i : Fin 512) (j : Fin 1024) :
    val_main_v4 (F := Ideal) x1 x2 (ix2 i j) = newM (fun x => x0 (ix2 i x)) (fun x => x1 (ix2 i x)) (fun x => x2 (ix2 i x)) (fun x => x3 (ix2 i x)) j := by
  unfold newM
  pointwise [val_main_cst, val_main_v0, val_main_v1, val_main_cst_0, val_main_v2, val_main_v3, val_main_v4]
theorem reference_at6 (x0 x1 : FVec Ideal S512x1024 .f32) (x2 x3 : FVec Ideal S512x1024 .f32) (i : Fin 512) (j : Fin 1024) :
    val_main_v10 (F := Ideal) x1 x3 (ix2 i j) = newV (fun x => x0 (ix2 i x)) (fun x => x1 (ix2 i x)) (fun x => x2 (ix2 i x)) (fun x => x3 (ix2 i x)) j := by
  unfold newV
  pointwise [val_main_cst_1, val_main_v5, val_main_v6, val_main_v7, val_main_cst_2, val_main_v8, val_main_v9, val_main_v10]

theorem algebraic : algebraic_AdamXqoIdeal_AdamXqoRefIdeal := by
  intro m g m' g' _ e
  refine ⟨fun c => AdamXqoIdeal.Blocks.res4 m c, fun c => AdamXqoIdeal.Blocks.res5 m c, fun c => AdamXqoIdeal.Blocks.res6 m c, ?_, ?_⟩
  · refine (θ_run AdamXqoIdeal.defs _ _).mono (fun r H c => ?_) (AdamXqoIdeal.Value.run_blocks (F := Ideal) m g)
    exact ⟨(H c).1.trans (AdamXqoIdeal.Blocks.final4 m c), (H c).2.1.trans (AdamXqoIdeal.Blocks.final5 m c), (H c).2.2.1.trans (AdamXqoIdeal.Blocks.final6 m c), (H c).2.2.2⟩
  · refine (θ_run AdamXqoRefIdeal.defs _ _).mono (fun r H c => ?_) (AdamXqoRefIdeal.Value.run (F := Ideal) m' g')
    refine ⟨(H c).1.trans ?_, (H c).2.1.trans ?_, (H c).2.2.1.trans ?_, (H c).2.2.2⟩
    · rw [val_main_v23_eq, (e c).1, (e c).2.1, (e c).2.2.1, (e c).2.2.2]
      funext i
      idx_vars i
      exact reference_at4 _ _ _ _ i0 i1
    · rw [val_main_v4_eq, (e c).2.1, (e c).2.2.1]
      funext i
      idx_vars i
      exact reference_at5 (m ((c.tc : Thread AdamXqoIdeal.nD AdamXqoIdeal.τ).loc AdamXqoIdeal.main_arg0)) _ _ (m ((c.tc : Thread AdamXqoIdeal.nD AdamXqoIdeal.τ).loc AdamXqoIdeal.main_arg3)) i0 i1
    · rw [val_main_v10_eq, (e c).2.1, (e c).2.2.2]
      funext i
      idx_vars i
      exact reference_at6 (m ((c.tc : Thread AdamXqoIdeal.nD AdamXqoIdeal.τ).loc AdamXqoIdeal.main_arg0)) _ (m ((c.tc : Thread AdamXqoIdeal.nD AdamXqoIdeal.τ).loc AdamXqoIdeal.main_arg2)) _ i0 i1

theorem reference_frame : quiescent_AdamXqoRefIdeal := fun m ρ _ =>
  (θ_run AdamXqoRefIdeal.defs _ _).mono (fun r h => ⟨fun c => (h c).2.2.2, sem_eq_zero_of_no_sems (by decide) r.2⟩) (AdamXqoRefIdeal.Value.run (F := Ideal) m ρ)
end Cert.AdamXqo
-- ==== Proof.AdamXkv.lean ====
/- The row by row call `adam_xattn_wkv`: what its arrays hold after the run, and every claim about it. -/
module
public import proofs.«01_k».proof.Defs
public import proofs.«01_k».proof.Proof.Gen.AdamXkv.Frame
public import proofs.«01_k».proof.Proof.Gen.AdamXkvIdeal.Value
public import proofs.«01_k».proof.Proof.Gen.AdamXkvRefIdeal.Run
public import proofs.«01_k».proof.Proof.Gen.AdamXkvRefIdeal.Read
public import proofs.«01_k».proof.Proof.Rows
public import Idealize.ShloMosaic.Lib.Quiescent
@[expose] public section
set_option maxRecDepth 16384
noncomputable section
namespace Cert.AdamXkvIdeal.Blocks
open Cert.AdamXkvIdeal Cert.AdamXkvIdeal.Gen Idealize.ShloMosaic Idealize.ShloMosaic.TcCoe Idealize.SL.Sem Cert.Rows
open scoped BigOperators

theorem outW4 {F : FTy → Type} [FloatOps F] (x0 x1 : Vec F S256x512 .f32) (x2 x3 : Vec F S256x512 .f32) : out0_4 x0 x1 x2 x3 = k0_pay3 x0 x1 x2 x3 := by
  unfold out0_4
  rw [View.canon_unit_zero hz]
  simp only [View.ld_unit_zero (S := S256x512) hz]
theorem pay4 (x0 x1 : FVec Ideal S256x512 .f32) (x2 x3 : FVec Ideal S256x512 .f32) (r : Fin 256) (d : Fin 512) :
    k0_pay3 (F := Ideal) x0 x1 x2 x3 (ix2 r d) = delta (fun x => x0 (ix2 r x)) (fun x => x1 (ix2 r x)) (fun x => x2 (ix2 r x)) (fun x => x3 (ix2 r x)) d := by
  unfold delta newM newV
  pointwise [k0_pay1, k0_pay2, k0_pay3]
theorem outW5 {F : FTy → Type} [FloatOps F] (x0 x1 : Vec F S256x512 .f32) (x2 x3 : Vec F S256x512 .f32) : out0_5 x0 x1 x2 x3 = k0_pay1 x1 x2 := by
  unfold out0_5
  rw [View.canon_unit_zero hz]
  simp only [View.ld_unit_zero (S := S256x512) hz]
theorem pay5 (x0 x1 : FVec Ideal S256x512 .f32) (x2 x3 : FVec Ideal S256x512 .f32) (r : Fin 256) (d : Fin 512) :
    k0_pay1 (F := Ideal) x1 x2 (ix2 r d) = newM (fun x => x0 (ix2 r x)) (fun x => x1 (ix2 r x)) (fun x => x2 (ix2 r x)) (fun x => x3 (ix2 r x)) d := by
  unfold newM
  pointwise [k0_pay1, k0_pay2, k0_pay3]
theorem outW6 {F : FTy → Type} [FloatOps F] (x0 x1 : Vec F S256x512 .f32) (x2 x3 : Vec F S256x512 .f32) : out0_6 x0 x1 x2 x3 = k0_pay2 x1 x3 := by
  unfold out0_6
  rw [View.canon_unit_zero hz]
  simp only [View.ld_unit_zero (S := S256x512) hz]
theorem pay6 (x0 x1 : FVec Ideal S256x512 .f32) (x2 x3 : FVec Ideal S256x512 .f32) (r : Fin 256) (d : Fin 512) :
    k0_pay2 (F := Ideal) x1 x3 (ix2 r d) = newV (fun x => x0 (ix2 r x)) (fun x => x1 (ix2 r x)) (fun x => x2 (ix2 r x)) (fun x => x3 (ix2 r x)) d := by
  unfold newV
  pointwise [k0_pay1, k0_pay2, k0_pay3]

variable (m : (ℓ : Loc nD τ sig) → Buf (Elt Ideal) ℓ) (c : Dev nD)

theorem ltN (t : Fin cfg0.N) : t.val < 8 := by have h := t.isLt; have e : cfg0.N = 8 := N_0; omega
/-- The row a block's row stands for at point `t`. -/
def row (t : Fin cfg0.N) (r : Fin 256) : Fin 2048 := ⟨t.val * 256 + r.val, by have := ltN t; omega⟩
def tile (r : Fin 2048) : Fin cfg0.N := ⟨r.val / 256, by rw [show cfg0.N = 8 from N_0]; omega⟩
abbrev A0 : Fin 2048 → Fin 512 → EReal := fun i x => m ((c : Thread nD τ).loc main_arg0) (ix2 i x)
abbrev A1 : Fin 2048 → Fin 512 → EReal := fun i x => m ((c : Thread nD τ).loc main_arg1) (ix2 i x)
abbrev A2 : Fin 2048 → Fin 512 → EReal := fun i x => m ((c : Thread nD τ).loc main_arg2) (ix2 i x)
abbrev A3 : Fin 2048 → Fin 512 → EReal := fun i x => m ((c : Thread nD τ).loc main_arg3) (ix2 i x)
def res4 : Buf (Elt Ideal) ((c : Thread nD τ).loc main_v0_0) := fun i : S2048x512.Idx => delta (A0 m c (i 0)) (A1 m c (i 0)) (A2 m c (i 0)) (A3 m c (i 0)) (i 1)
def res5 : Buf (Elt Ideal) ((c : Thread nD τ).loc main_v0_1) := fun i : S2048x512.Idx => newM (A0 m c (i 0)) (A1 m c (i 0)) (A2 m c (i 0)) (A3 m c (i 0)) (i 1)
def res6 : Buf (Elt Ideal) ((c : Thread nD τ).loc main_v0_2) := fun i : S2048x512.Idx => newV (A0 m c (i 0)) (A1 m c (i 0)) (A2 m c (i 0)) (A3 m c (i 0)) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
def b0 (t : Fin cfg0.N) : FVec Ideal S256x512 .f32 := iblk m c 0 t
theorem blk0 (t : Fin cfg0.N) (r : Fin 256) : (fun x => b0 m c t (ix2 r x)) = A0 m c (row t r) := funext fun x => by
  unfold b0 iblk
  rw [View.read_apply]
  exact congrArg (m ((c : Thread nD τ).loc main_arg0)) (idx2_ext _ _ (off0 (idx0 t) 256 r.val) (off1z (idx0 t) 512 x.val))
def b1 (t : Fin cfg0.N) : FVec Ideal S256x512 .f32 := iblk m c 1 t
theorem blk1 (t : Fin cfg0.N) (r : Fin 256) : (fun x => b1 m c t (ix2 r x)) = A1 m c (row t r) := funext fun x => by
  unfold b1 iblk
  rw [View.read_apply]
  exact congrArg (m ((c : Thread nD τ).loc main_arg1)) (idx2_ext _ _ (off0 (idx1 t) 256 r.val) (off1z (idx1 t) 512 x.val))
def b2 (t : Fin cfg0.N) : FVec Ideal S256x512 .f32 := iblk m c 2 t
theorem blk2 (t : Fin cfg0.N) (r : Fin 256) : (fun x => b2 m c t (ix2 r x)) = A2 m c (row t r) := funext fun x => by
  unfold b2 iblk
  rw [View.read_apply]
  exact congrArg (m ((c : Thread nD τ).loc main_arg2)) (idx2_ext _ _ (off0 (idx2 t) 256 r.val) (off1z (idx2 t) 512 x.val))
def b3 (t : Fin cfg0.N) : FVec Ideal S256x512 .f32 := iblk m c 3 t
theorem blk3 (t : Fin cfg0.N) (r : Fin 256) : (fun x => b3 m c t (ix2 r x)) = A3 m c (row t r) := funext fun x => by
  unfold b3 iblk
  rw [View.read_apply]
  exact congrArg (m ((c : Thread nD τ).loc main_arg3)) (idx2_ext _ _ (off0 (idx3 t) 256 r.val) (off1z (idx3 t) 512 x.val))
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) d := idx2_ext _ _
    (off0 (idx4 t) 256 r.val)
    (off1z (idx4 t) 512 d.val)
  rw [View.read_apply, he]
  show out0_4 (F := Ideal) (b0 m c t) (b1 m c t) (b2 m c t) (b3 m c t) (ix2 r d) = _
  rw [outW4, pay4 (b0 m c t) (b1 m c t) (b2 m c t) (b3 m c t), blk0, blk1, blk2, blk3]
  rfl
theorem final4 : (Gen.dats m 0 c).arrAt 4 cfg0.N = res4 m c :=
  (Gen.dats m 0 c).arrAt_eq_of_cover 4 (res4 m c) (flushes4 m c) fun i => by
    let t := tile (i 0)
    refine ⟨t, flush0_4 t, ?_⟩
    show i ∈ ((View.whole main_v0_0).slice (win0_4.rect t)).set
    rw [View.set_slice_whole, Rect.mem_set_unit]
    exact inRows (s := ![256, 512]) (i := fun a => (i a).val) (idx4 t) rfl (by decide) (i 1).isLt
theorem flushes5 (t : Fin cfg0.N) (hf : (cfg0.win 5).flush t = true) :
    (Gen.dats m 0 c).flushed 5 t = ((cfg0.win 5).blk t).view.read (Elt Ideal) (res5 m c) := by
  rw [Value.flushed5]
  refine funext2 fun r d => ?_
  have he : ((cfg0.win 5).blk t).view.emb (ix2 r d) = ix2 (row t r) d := idx2_ext _ _
    (off0 (idx5 t) 256 r.val)
    (off1z (idx5 t) 512 d.val)
  rw [View.read_apply, he]
  show out0_5 (F := Ideal) (b0 m c t) (b1 m c t) (b2 m c t) (b3 m c t) (ix2 r d) = _
  rw [outW5, pay5 (b0 m c t) (b1 m c t) (b2 m c t) (b3 m c t), blk0, blk1, blk2, blk3]
  rfl
theorem final5 : (Gen.dats m 0 c).arrAt 5 cfg0.N = res5 m c :=
  (Gen.dats m 0 c).arrAt_eq_of_cover 5 (res5 m c) (flushes5 m c) fun i => by
    let t := tile (i 0)
    refine ⟨t, flush0_5 t, ?_⟩
    show i ∈ ((View.whole main_v0_1).slice (win0_5.rect t)).set
    rw [View.set_slice_whole, Rect.mem_set_unit]
    exact inRows (s := ![256, 512]) (i := fun a => (i a).val) (idx5 t) rfl (by decide) (i 1).isLt
theorem flushes6 (t : Fin cfg0.N) (hf : (cfg0.win 6).flush t = true) :
    (Gen.dats m 0 c).flushed 6 t = ((cfg0.win 6).blk t).view.read (Elt Ideal) (res6 m c) := by
  rw [Value.flushed6]
  refine funext2 fun r d => ?_
  have he : ((cfg0.win 6).blk t).view.emb (ix2 r d) = ix2 (row t r) d := idx2_ext _ _
    (off0 (idx6 t) 256 r.val)
    (off1z (idx6 t) 512 d.val)
  rw [View.read_apply, he]
  show out0_6 (F := Ideal) (b0 m c t) (b1 m c t) (b2 m c t) (b3 m c t) (ix2 r d) = _
  rw [outW6, pay6 (b0 m c t) (b1 m c t) (b2 m c t) (b3 m c t), blk0, blk1, blk2, blk3]
  rfl
theorem final6 : (Gen.dats m 0 c).arrAt 6 cfg0.N = res6 m c :=
  (Gen.dats m 0 c).arrAt_eq_of_cover 6 (res6 m c) (flushes6 m c) fun i => by
    let t := tile (i 0)
    refine ⟨t, flush0_6 t, ?_⟩
    show i ∈ ((View.whole main_v0_2).slice (win0_6.rect t)).set
    rw [View.set_slice_whole, Rect.mem_set_unit]
    exact inRows (s := ![256, 512]) (i := fun a => (i a).val) (idx6 t) rfl (by decide) (i 1).isLt
end Cert.AdamXkvIdeal.Blocks

namespace Cert.AdamXkv
open Idealize.ShloMosaic Idealize.SL.Sem AdamXkvIdeal AdamXkvRefIdeal.Read Cert.Rows
open scoped BigOperators

/-- The reference's results, and that they are the kernel's. -/
theorem reference_at4 (x0 x1 : FVec Ideal S2048x512 .f32) (x2 x3 : FVec Ideal S2048x512 .f32) (i : Fin 2048) (j : Fin 512) :
    val_main_v23 (F := Ideal) x0 x1 x2 x3 (ix2 i j) = delta (fun x => x0 (ix2 i x)) (fun x => x1 (ix2 i x)) (fun x => x2 (ix2 i x)) (fun x => x3 (ix2 i x)) j := by
  unfold delta newM newV
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem reference_at5 (x0 x1 : FVec Ideal S2048x512 .f32) (x2 x3 : FVec Ideal S2048x512 .f32) (i : Fin 2048) (j : Fin 512) :
    val_main_v4 (F := Ideal) x1 x2 (ix2 i j) = newM (fun x => x0 (ix2 i x)) (fun x => x1 (ix2 i x)) (fun x => x2 (ix2 i x)) (fun x => x3 (ix2 i x)) j := by
  unfold newM
  pointwise [val_main_cst, val_main_v0, val_main_v1, val_main_cst_0, val_main_v2, val_main_v3, val_main_v4]
theorem reference_at6 (x0 x1 : FVec Ideal S2048x512 .f32) (x2 x3 : FVec Ideal S2048x512 .f32) (i : Fin 2048) (j : Fin 512) :
    val_main_v10 (F := Ideal) x1 x3 (ix2 i j) = newV (fun x => x0 (ix2 i x)) (fun x => x1 (ix2 i x)) (fun x => x2 (ix2 i x)) (fun x => x3 (ix2 i x)) j := by
  unfold newV
  pointwise [val_main_cst_1, val_main_v5, val_main_v6, val_main_v7, val_main_cst_2, val_main_v8, val_main_v9, val_main_v10]

theorem algebraic : algebraic_AdamXkvIdeal_AdamXkvRefIdeal := by
  intro m g m' g' _ e
  refine ⟨fun c => AdamXkvIdeal.Blocks.res4 m c, fun c => AdamXkvIdeal.Blocks.res5 m c, fun c => AdamXkvIdeal.Blocks.res6 m c, ?_, ?_⟩
  · refine (θ_run AdamXkvIdeal.defs _ _).mono (fun r H c => ?_) (AdamXkvIdeal.Value.run_blocks (F := Ideal) m g)
    exact ⟨(H c).1.trans (AdamXkvIdeal.Blocks.final4 m c), (H c).2.1.trans (AdamXkvIdeal.Blocks.final5 m c), (H c).2.2.1.trans (AdamXkvIdeal.Blocks.final6 m c), (H c).2.2.2⟩
  · refine (θ_run AdamXkvRefIdeal.defs _ _).mono (fun r H c => ?_) (AdamXkvRefIdeal.Value.run (F := Ideal) m' g')
    refine ⟨(H c).1.trans ?_, (H c).2.1.trans ?_, (H c).2.2.1.trans ?_, (H c).2.2.2⟩
    · rw [val_main_v23_eq, (e c).1, (e c).2.1, (e c).2.2.1, (e c).2.2.2]
      funext i
      idx_vars i
      exact reference_at4 _ _ _ _ i0 i1
    · rw [val_main_v4_eq, (e c).2.1, (e c).2.2.1]
      funext i
      idx_vars i
      exact reference_at5 (m ((c.tc : Thread AdamXkvIdeal.nD AdamXkvIdeal.τ).loc AdamXkvIdeal.main_arg0)) _ _ (m ((c.tc : Thread AdamXkvIdeal.nD AdamXkvIdeal.τ).loc AdamXkvIdeal.main_arg3)) i0 i1
    · rw [val_main_v10_eq, (e c).2.1, (e c).2.2.2]
      funext i
      idx_vars i
      exact reference_at6 (m ((c.tc : Thread AdamXkvIdeal.nD AdamXkvIdeal.τ).loc AdamXkvIdeal.main_arg0)) _ (m ((c.tc : Thread AdamXkvIdeal.nD AdamXkvIdeal.τ).loc AdamXkvIdeal.main_arg2)) _ i0 i1

theorem reference_frame : quiescent_AdamXkvRefIdeal := fun m ρ _ =>
  (θ_run AdamXkvRefIdeal.defs _ _).mono (fun r h => ⟨fun c => (h c).2.2.2, sem_eq_zero_of_no_sems (by decide) r.2⟩) (AdamXkvRefIdeal.Value.run (F := Ideal) m ρ)
end Cert.AdamXkv
-- ==== Proof.AdamFfnIn.lean ====
/- The row by row call `adam_ffn_w_in`: what its arrays hold after the run, and every claim about it. -/
module
public import proofs.«01_k».proof.Defs
public import proofs.«01_k».proof.Proof.Gen.AdamFfnIn.Frame
public import proofs.«01_k».proof.Proof.Gen.AdamFfnInIdeal.Value
public import proofs.«01_k».proof.Proof.Gen.AdamFfnInRefIdeal.Run
public import proofs.«01_k».proof.Proof.Gen.AdamFfnInRefIdeal.Read
public import proofs.«01_k».proof.Proof.Rows
public import Idealize.ShloMosaic.Lib.Quiescent
@[expose] public section
set_option maxRecDepth 16384
noncomputable section
namespace Cert.AdamFfnInIdeal.Blocks
open Cert.AdamFfnInIdeal Cert.AdamFfnInIdeal.Gen Idealize.ShloMosaic Idealize.ShloMosaic.TcCoe Idealize.SL.Sem Cert.Rows
open scoped BigOperators

theorem outW4 {F : FTy → Type} [FloatOps F] (x0 x1 : Vec F S256x1408 .f32) (x2 x3 : Vec F S256x1408 .f32) : out0_4 x0 x1 x2 x3 = k0_pay3 x0 x1 x2 x3 := by
  unfold out0_4
  rw [View.canon_unit_zero hz]
  simp only [View.ld_unit_zero (S := S256x1408) hz]
theorem pay4 (x0 x1 : FVec Ideal S256x1408 .f32) (x2 x3 : FVec Ideal S256x1408 .f32) (r : Fin 256) (d : Fin 1408) :
    k0_pay3 (F := Ideal) x0 x1 x2 x3 (ix2 r d) = delta (fun x => x0 (ix2 r x)) (fun x => x1 (ix2 r x)) (fun x => x2 (ix2 r x)) (fun x => x3 (ix2 r x)) d := by
  unfold delta newM newV
  pointwise [k0_pay1, k0_pay2, k0_pay3]
theorem outW5 {F : FTy → Type} [FloatOps F] (x0 x1 : Vec F S256x1408 .f32) (x2 x3 : Vec F S256x1408 .f32) : out0_5 x0 x1 x2 x3 = k0_pay1 x1 x2 := by
  unfold out0_5
  rw [View.canon_unit_zero hz]
  simp only [View.ld_unit_zero (S := S256x1408) hz]
theorem pay5 (x0 x1 : FVec Ideal S256x1408 .f32) (x2 x3 : FVec Ideal S256x1408 .f32) (r : Fin 256) (d : Fin 1408) :
    k0_pay1 (F := Ideal) x1 x2 (ix2 r d) = newM (fun x => x0 (ix2 r x)) (fun x => x1 (ix2 r x)) (fun x => x2 (ix2 r x)) (fun x => x3 (ix2 r x)) d := by
  unfold newM
  pointwise [k0_pay1, k0_pay2, k0_pay3]
theorem outW6 {F : FTy → Type} [FloatOps F] (x0 x1 : Vec F S256x1408 .f32) (x2 x3 : Vec F S256x1408 .f32) : out0_6 x0 x1 x2 x3 = k0_pay2 x1 x3 := by
  unfold out0_6
  rw [View.canon_unit_zero hz]
  simp only [View.ld_unit_zero (S := S256x1408) hz]
theorem pay6 (x0 x1 : FVec Ideal S256x1408 .f32) (x2 x3 : FVec Ideal S256x1408 .f32) (r : Fin 256) (d : Fin 1408) :
    k0_pay2 (F := Ideal) x1 x3 (ix2 r d) = newV (fun x => x0 (ix2 r x)) (fun x => x1 (ix2 r x)) (fun x => x2 (ix2 r x)) (fun x => x3 (ix2 r x)) d := by
  unfold newV
  pointwise [k0_pay1, k0_pay2, k0_pay3]

variable (m : (ℓ : Loc nD τ sig) → Buf (Elt Ideal) ℓ) (c : Dev nD)

theorem ltN (t : Fin cfg0.N) : t.val < 8 := by have h := t.isLt; have e : cfg0.N = 8 := N_0; omega
/-- The row a block's row stands for at point `t`. -/
def row (t : Fin cfg0.N) (r : Fin 256) : Fin 2048 := ⟨t.val * 256 + r.val, by have := ltN t; omega⟩
def tile (r : Fin 2048) : Fin cfg0.N := ⟨r.val / 256, by rw [show cfg0.N = 8 from N_0]; omega⟩
abbrev A0 : Fin 2048 → Fin 1408 → EReal := fun i x => m ((c : Thread nD τ).loc main_arg0) (ix2 i x)
abbrev A1 : Fin 2048 → Fin 1408 → EReal := fun i x => m ((c : Thread nD τ).loc main_arg1) (ix2 i x)
abbrev A2 : Fin 2048 → Fin 1408 → EReal := fun i x => m ((c : Thread nD τ).loc main_arg2) (ix2 i x)
abbrev A3 : Fin 2048 → Fin 1408 → EReal := fun i x => m ((c : Thread nD τ).loc main_arg3) (ix2 i x)
def res4 : Buf (Elt Ideal) ((c : Thread nD τ).loc main_v0_0) := fun i : S2048x1408.Idx => delta (A0 m c (i 0)) (A1 m c (i 0)) (A2 m c (i 0)) (A3 m c (i 0)) (i 1)
def res5 : Buf (Elt Ideal) ((c : Thread nD τ).loc main_v0_1) := fun i : S2048x1408.Idx => newM (A0 m c (i 0)) (A1 m c (i 0)) (A2 m c (i 0)) (A3 m c (i 0)) (i 1)
def res6 : Buf (Elt Ideal) ((c : Thread nD τ).loc main_v0_2) := fun i : S2048x1408.Idx => newV (A0 m c (i 0)) (A1 m c (i 0)) (A2 m c (i 0)) (A3 m c (i 0)) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
def b0 (t : Fin cfg0.N) : FVec Ideal S256x1408 .f32 := iblk m c 0 t
theorem blk0 (t : Fin cfg0.N) (r : Fin 256) : (fun x => b0 m c t (ix2 r x)) = A0 m c (row t r) := funext fun x => by
  unfold b0 iblk
  rw [View.read_apply]
  exact congrArg (m ((c : Thread nD τ).loc main_arg0)) (idx2_ext _ _ (off0 (idx0 t) 256 r.val) (off1z (idx0 t) 1408 x.val))
def b1 (t : Fin cfg0.N) : FVec Ideal S256x1408 .f32 := iblk m c 1 t
theorem blk1 (t : Fin cfg0.N) (r : Fin 256) : (fun x => b1 m c t (ix2 r x)) = A1 m c (row t r) := funext fun x => by
  unfold b1 iblk
  rw [View.read_apply]
  exact congrArg (m ((c : Thread nD τ).loc main_arg1)) (idx2_ext _ _ (off0 (idx1 t) 256 r.val) (off1z (idx1 t) 1408 x.val))
def b2 (t : Fin cfg0.N) : FVec Ideal S256x1408 .f32 := iblk m c 2 t
theorem blk2 (t : Fin cfg0.N) (r : Fin 256) : (fun x => b2 m c t (ix2 r x)) = A2 m c (row t r) := funext fun x => by
  unfold b2 iblk
  rw [View.read_apply]
  exact congrArg (m ((c : Thread nD τ).loc main_arg2)) (idx2_ext _ _ (off0 (idx2 t) 256 r.val) (off1z (idx2 t) 1408 x.val))
def b3 (t : Fin cfg0.N) : FVec Ideal S256x1408 .f32 := iblk m c 3 t
theorem blk3 (t : Fin cfg0.N) (r : Fin 256) : (fun x => b3 m c t (ix2 r x)) = A3 m c (row t r) := funext fun x => by
  unfold b3 iblk
  rw [View.read_apply]
  exact congrArg (m ((c : Thread nD τ).loc main_arg3)) (idx2_ext _ _ (off0 (idx3 t) 256 r.val) (off1z (idx3 t) 1408 x.val))
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) d := idx2_ext _ _
    (off0 (idx4 t) 256 r.val)
    (off1z (idx4 t) 1408 d.val)
  rw [View.read_apply, he]
  show out0_4 (F := Ideal) (b0 m c t) (b1 m c t) (b2 m c t) (b3 m c t) (ix2 r d) = _
  rw [outW4, pay4 (b0 m c t) (b1 m c t) (b2 m c t) (b3 m c t), blk0, blk1, blk2, blk3]
  rfl
theorem final4 : (Gen.dats m 0 c).arrAt 4 cfg0.N = res4 m c :=
  (Gen.dats m 0 c).arrAt_eq_of_cover 4 (res4 m c) (flushes4 m c) fun i => by
    let t := tile (i 0)
    refine ⟨t, flush0_4 t, ?_⟩
    show i ∈ ((View.whole main_v0_0).slice (win0_4.rect t)).set
    rw [View.set_slice_whole, Rect.mem_set_unit]
    exact inRows (s := ![256, 1408]) (i := fun a => (i a).val) (idx4 t) rfl (by decide) (i 1).isLt
theorem flushes5 (t : Fin cfg0.N) (hf : (cfg0.win 5).flush t = true) :
    (Gen.dats m 0 c).flushed 5 t = ((cfg0.win 5).blk t).view.read (Elt Ideal) (res5 m c) := by
  rw [Value.flushed5]
  refine funext2 fun r d => ?_
  have he : ((cfg0.win 5).blk t).view.emb (ix2 r d) = ix2 (row t r) d := idx2_ext _ _
    (off0 (idx5 t) 256 r.val)
    (off1z (idx5 t) 1408 d.val)
  rw [View.read_apply, he]
  show out0_5 (F := Ideal) (b0 m c t) (b1 m c t) (b2 m c t) (b3 m c t) (ix2 r d) = _
  rw [outW5, pay5 (b0 m c t) (b1 m c t) (b2 m c t) (b3 m c t), blk0, blk1, blk2, blk3]
  rfl
theorem final5 : (Gen.dats m 0 c).arrAt 5 cfg0.N = res5 m c :=
  (Gen.dats m 0 c).arrAt_eq_of_cover 5 (res5 m c) (flushes5 m c) fun i => by
    let t := tile (i 0)
    refine ⟨t, flush0_5 t, ?_⟩
    show i ∈ ((View.whole main_v0_1).slice (win0_5.rect t)).set
    rw [View.set_slice_whole, Rect.mem_set_unit]
    exact inRows (s := ![256, 1408]) (i := fun a => (i a).val) (idx5 t) rfl (by decide) (i 1).isLt
theorem flushes6 (t : Fin cfg0.N) (hf : (cfg0.win 6).flush t = true) :
    (Gen.dats m 0 c).flushed 6 t = ((cfg0.win 6).blk t).view.read (Elt Ideal) (res6 m c) := by
  rw [Value.flushed6]
  refine funext2 fun r d => ?_
  have he : ((cfg0.win 6).blk t).view.emb (ix2 r d) = ix2 (row t r) d := idx2_ext _ _
    (off0 (idx6 t) 256 r.val)
    (off1z (idx6 t) 1408 d.val)
  rw [View.read_apply, he]
  show out0_6 (F := Ideal) (b0 m c t) (b1 m c t) (b2 m c t) (b3 m c t) (ix2 r d) = _
  rw [outW6, pay6 (b0 m c t) (b1 m c t) (b2 m c t) (b3 m c t), blk0, blk1, blk2, blk3]
  rfl
theorem final6 : (Gen.dats m 0 c).arrAt 6 cfg0.N = res6 m c :=
  (Gen.dats m 0 c).arrAt_eq_of_cover 6 (res6 m c) (flushes6 m c) fun i => by
    let t := tile (i 0)
    refine ⟨t, flush0_6 t, ?_⟩
    show i ∈ ((View.whole main_v0_2).slice (win0_6.rect t)).set
    rw [View.set_slice_whole, Rect.mem_set_unit]
    exact inRows (s := ![256, 1408]) (i := fun a => (i a).val) (idx6 t) rfl (by decide) (i 1).isLt
end Cert.AdamFfnInIdeal.Blocks

namespace Cert.AdamFfnIn
open Idealize.ShloMosaic Idealize.SL.Sem AdamFfnInIdeal AdamFfnInRefIdeal.Read Cert.Rows
open scoped BigOperators

/-- The reference's results, and that they are the kernel's. -/
theorem reference_at4 (x0 x1 : FVec Ideal S2048x1408 .f32) (x2 x3 : FVec Ideal S2048x1408 .f32) (i : Fin 2048) (j : Fin 1408) :
    val_main_v23 (F := Ideal) x0 x1 x2 x3 (ix2 i j) = delta (fun x => x0 (ix2 i x)) (fun x => x1 (ix2 i x)) (fun x => x2 (ix2 i x)) (fun x => x3 (ix2 i x)) j := by
  unfold delta newM newV
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem reference_at5 (x0 x1 : FVec Ideal S2048x1408 .f32) (x2 x3 : FVec Ideal S2048x1408 .f32) (i : Fin 2048) (j : Fin 1408) :
    val_main_v4 (F := Ideal) x1 x2 (ix2 i j) = newM (fun x => x0 (ix2 i x)) (fun x => x1 (ix2 i x)) (fun x => x2 (ix2 i x)) (fun x => x3 (ix2 i x)) j := by
  unfold newM
  pointwise [val_main_cst, val_main_v0, val_main_v1, val_main_cst_0, val_main_v2, val_main_v3, val_main_v4]
theorem reference_at6 (x0 x1 : FVec Ideal S2048x1408 .f32) (x2 x3 : FVec Ideal S2048x1408 .f32) (i : Fin 2048) (j : Fin 1408) :
    val_main_v10 (F := Ideal) x1 x3 (ix2 i j) = newV (fun x => x0 (ix2 i x)) (fun x => x1 (ix2 i x)) (fun x => x2 (ix2 i x)) (fun x => x3 (ix2 i x)) j := by
  unfold newV
  pointwise [val_main_cst_1, val_main_v5, val_main_v6, val_main_v7, val_main_cst_2, val_main_v8, val_main_v9, val_main_v10]

theorem algebraic : algebraic_AdamFfnInIdeal_AdamFfnInRefIdeal := by
  intro m g m' g' _ e
  refine ⟨fun c => AdamFfnInIdeal.Blocks.res4 m c, fun c => AdamFfnInIdeal.Blocks.res5 m c, fun c => AdamFfnInIdeal.Blocks.res6 m c, ?_, ?_⟩
  · refine (θ_run AdamFfnInIdeal.defs _ _).mono (fun r H c => ?_) (AdamFfnInIdeal.Value.run_blocks (F := Ideal) m g)
    exact ⟨(H c).1.trans (AdamFfnInIdeal.Blocks.final4 m c), (H c).2.1.trans (AdamFfnInIdeal.Blocks.final5 m c), (H c).2.2.1.trans (AdamFfnInIdeal.Blocks.final6 m c), (H c).2.2.2⟩
  · refine (θ_run AdamFfnInRefIdeal.defs _ _).mono (fun r H c => ?_) (AdamFfnInRefIdeal.Value.run (F := Ideal) m' g')
    refine ⟨(H c).1.trans ?_, (H c).2.1.trans ?_, (H c).2.2.1.trans ?_, (H c).2.2.2⟩
    · rw [val_main_v23_eq, (e c).1, (e c).2.1, (e c).2.2.1, (e c).2.2.2]
      funext i
      idx_vars i
      exact reference_at4 _ _ _ _ i0 i1
    · rw [val_main_v4_eq, (e c).2.1, (e c).2.2.1]
      funext i
      idx_vars i
      exact reference_at5 (m ((c.tc : Thread AdamFfnInIdeal.nD AdamFfnInIdeal.τ).loc AdamFfnInIdeal.main_arg0)) _ _ (m ((c.tc : Thread AdamFfnInIdeal.nD AdamFfnInIdeal.τ).loc AdamFfnInIdeal.main_arg3)) i0 i1
    · rw [val_main_v10_eq, (e c).2.1, (e c).2.2.2]
      funext i
      idx_vars i
      exact reference_at6 (m ((c.tc : Thread AdamFfnInIdeal.nD AdamFfnInIdeal.τ).loc AdamFfnInIdeal.main_arg0)) _ (m ((c.tc : Thread AdamFfnInIdeal.nD AdamFfnInIdeal.τ).loc AdamFfnInIdeal.main_arg2)) _ i0 i1

theorem reference_frame : quiescent_AdamFfnInRefIdeal := fun m ρ _ =>
  (θ_run AdamFfnInRefIdeal.defs _ _).mono (fun r h => ⟨fun c => (h c).2.2.2, sem_eq_zero_of_no_sems (by decide) r.2⟩) (AdamFfnInRefIdeal.Value.run (F := Ideal) m ρ)
end Cert.AdamFfnIn
-- ==== Proof.AdamFfnOut.lean ====
/- The row by row call `adam_ffn_w_out`: what its arrays hold after the run, and every claim about it. -/
module
public import proofs.«01_k».proof.Defs
public import proofs.«01_k».proof.Proof.Gen.AdamFfnOut.Frame
public import proofs.«01_k».proof.Proof.Gen.AdamFfnOutIdeal.Value
public import proofs.«01_k».proof.Proof.Gen.AdamFfnOutRefIdeal.Run
public import proofs.«01_k».proof.Proof.Gen.AdamFfnOutRefIdeal.Read
public import proofs.«01_k».proof.Proof.Rows
public import Idealize.ShloMosaic.Lib.Quiescent
@[expose] public section
set_option maxRecDepth 16384
noncomputable section
namespace Cert.AdamFfnOutIdeal.Blocks
open Cert.AdamFfnOutIdeal Cert.AdamFfnOutIdeal.Gen Idealize.ShloMosaic Idealize.ShloMosaic.TcCoe Idealize.SL.Sem Cert.Rows
open scoped BigOperators

theorem outW4 {F : FTy → Type} [FloatOps F] (x0 x1 : Vec F S128x1024 .f32) (x2 x3 : Vec F S128x1024 .f32) : out0_4 x0 x1 x2 x3 = k0_pay3 x0 x1 x2 x3 := by
  unfold out0_4
  rw [View.canon_unit_zero hz]
  simp only [View.ld_unit_zero (S := S128x1024) hz]
theorem pay4 (x0 x1 : FVec Ideal S128x1024 .f32) (x2 x3 : FVec Ideal S128x1024 .f32) (r : Fin 128) (d : Fin 1024) :
    k0_pay3 (F := Ideal) x0 x1 x2 x3 (ix2 r d) = delta (fun x => x0 (ix2 r x)) (fun x => x1 (ix2 r x)) (fun x => x2 (ix2 r x)) (fun x => x3 (ix2 r x)) d := by
  unfold delta newM newV
  pointwise [k0_pay1, k0_pay2, k0_pay3]
theorem outW5 {F : FTy → Type} [FloatOps F] (x0 x1 : Vec F S128x1024 .f32) (x2 x3 : Vec F S128x1024 .f32) : out0_5 x0 x1 x2 x3 = k0_pay1 x1 x2 := by
  unfold out0_5
  rw [View.canon_unit_zero hz]
  simp only [View.ld_unit_zero (S := S128x1024) hz]
theorem pay5 (x0 x1 : FVec Ideal S128x1024 .f32) (x2 x3 : FVec Ideal S128x1024 .f32) (r : Fin 128) (d : Fin 1024) :
    k0_pay1 (F := Ideal) x1 x2 (ix2 r d) = newM (fun x => x0 (ix2 r x)) (fun x => x1 (ix2 r x)) (fun x => x2 (ix2 r x)) (fun x => x3 (ix2 r x)) d := by
  unfold newM
  pointwise [k0_pay1, k0_pay2, k0_pay3]
theorem outW6 {F : FTy → Type} [FloatOps F] (x0 x1 : Vec F S128x1024 .f32) (x2 x3 : Vec F S128x1024 .f32) : out0_6 x0 x1 x2 x3 = k0_pay2 x1 x3 := by
  unfold out0_6
  rw [View.canon_unit_zero hz]
  simp only [View.ld_unit_zero (S := S128x1024) hz]
theorem pay6 (x0 x1 : FVec Ideal S128x1024 .f32) (x2 x3 : FVec Ideal S128x1024 .f32) (r : Fin 128) (d : Fin 1024) :
    k0_pay2 (F := Ideal) x1 x3 (ix2 r d) = newV (fun x => x0 (ix2 r x)) (fun x => x1 (ix2 r x)) (fun x => x2 (ix2 r x)) (fun x => x3 (ix2 r x)) d := by
  unfold newV
  pointwise [k0_pay1, k0_pay2, k0_pay3]

variable (m : (ℓ : Loc nD τ sig) → Buf (Elt Ideal) ℓ) (c : Dev nD)

theorem ltN (t : Fin cfg0.N) : t.val < 11 := by have h := t.isLt; have e : cfg0.N = 11 := N_0; omega
/-- The row a block's row stands for at point `t`. -/
def row (t : Fin cfg0.N) (r : Fin 128) : Fin 1408 := ⟨t.val * 128 + r.val, by have := ltN t; omega⟩
def tile (r : Fin 1408) : Fin cfg0.N := ⟨r.val / 128, by rw [show cfg0.N = 11 from N_0]; omega⟩
abbrev A0 : Fin 1408 → Fin 1024 → EReal := fun i x => m ((c : Thread nD τ).loc main_arg0) (ix2 i x)
abbrev A1 : Fin 1408 → Fin 1024 → EReal := fun i x => m ((c : Thread nD τ).loc main_arg1) (ix2 i x)
abbrev A2 : Fin 1408 → Fin 1024 → EReal := fun i x => m ((c : Thread nD τ).loc main_arg2) (ix2 i x)
abbrev A3 : Fin 1408 → Fin 1024 → EReal := fun i x => m ((c : Thread nD τ).loc main_arg3) (ix2 i x)
def res4 : Buf (Elt Ideal) ((c : Thread nD τ).loc main_v0_0) := fun i : S1408x1024.Idx => delta (A0 m c (i 0)) (A1 m c (i 0)) (A2 m c (i 0)) (A3 m c (i 0)) (i 1)
def res5 : Buf (Elt Ideal) ((c : Thread nD τ).loc main_v0_1) := fun i : S1408x1024.Idx => newM (A0 m c (i 0)) (A1 m c (i 0)) (A2 m c (i 0)) (A3 m c (i 0)) (i 1)
def res6 : Buf (Elt Ideal) ((c : Thread nD τ).loc main_v0_2) := fun i : S1408x1024.Idx => newV (A0 m c (i 0)) (A1 m c (i 0)) (A2 m c (i 0)) (A3 m c (i 0)) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
def b0 (t : Fin cfg0.N) : FVec Ideal S128x1024 .f32 := iblk m c 0 t
theorem blk0 (t : Fin cfg0.N) (r : Fin 128) : (fun x => b0 m c t (ix2 r x)) = A0 m c (row t r) := funext fun x => by
  unfold b0 iblk
  rw [View.read_apply]
  exact congrArg (m ((c : Thread nD τ).loc main_arg0)) (idx2_ext _ _ (off0 (idx0 t) 128 r.val) (off1z (idx0 t) 1024 x.val))
def b1 (t : Fin cfg0.N) : FVec Ideal S128x1024 .f32 := iblk m c 1 t
theorem blk1 (t : Fin cfg0.N) (r : Fin 128) : (fun x => b1 m c t (ix2 r x)) = A1 m c (row t r) := funext fun x => by
  unfold b1 iblk
  rw [View.read_apply]
  exact congrArg (m ((c : Thread nD τ).loc main_arg1)) (idx2_ext _ _ (off0 (idx1 t) 128 r.val) (off1z (idx1 t) 1024 x.val))
def b2 (t : Fin cfg0.N) : FVec Ideal S128x1024 .f32 := iblk m c 2 t
theorem blk2 (t : Fin cfg0.N) (r : Fin 128) : (fun x => b2 m c t (ix2 r x)) = A2 m c (row t r) := funext fun x => by
  unfold b2 iblk
  rw [View.read_apply]
  exact congrArg (m ((c : Thread nD τ).loc main_arg2)) (idx2_ext _ _ (off0 (idx2 t) 128 r.val) (off1z (idx2 t) 1024 x.val))
def b3 (t : Fin cfg0.N) : FVec Ideal S128x1024 .f32 := iblk m c 3 t
theorem blk3 (t : Fin cfg0.N) (r : Fin 128) : (fun x => b3 m c t (ix2 r x)) = A3 m c (row t r) := funext fun x => by
  unfold b3 iblk
  rw [View.read_apply]
  exact congrArg (m ((c : Thread nD τ).loc main_arg3)) (idx2_ext _ _ (off0 (idx3 t) 128 r.val) (off1z (idx3 t) 1024 x.val))
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) d := idx2_ext _ _
    (off0 (idx4 t) 128 r.val)
    (off1z (idx4 t) 1024 d.val)
  rw [View.read_apply, he]
  show out0_4 (F := Ideal) (b0 m c t) (b1 m c t) (b2 m c t) (b3 m c t) (ix2 r d) = _
  rw [outW4, pay4 (b0 m c t) (b1 m c t) (b2 m c t) (b3 m c t), blk0, blk1, blk2, blk3]
  rfl
theorem final4 : (Gen.dats m 0 c).arrAt 4 cfg0.N = res4 m c :=
  (Gen.dats m 0 c).arrAt_eq_of_cover 4 (res4 m c) (flushes4 m c) fun i => by
    let t := tile (i 0)
    refine ⟨t, flush0_4 t, ?_⟩
    show i ∈ ((View.whole main_v0_0).slice (win0_4.rect t)).set
    rw [View.set_slice_whole, Rect.mem_set_unit]
    exact inRows (s := ![128, 1024]) (i := fun a => (i a).val) (idx4 t) rfl (by decide) (i 1).isLt
theorem flushes5 (t : Fin cfg0.N) (hf : (cfg0.win 5).flush t = true) :
    (Gen.dats m 0 c).flushed 5 t = ((cfg0.win 5).blk t).view.read (Elt Ideal) (res5 m c) := by
  rw [Value.flushed5]
  refine funext2 fun r d => ?_
  have he : ((cfg0.win 5).blk t).view.emb (ix2 r d) = ix2 (row t r) d := idx2_ext _ _
    (off0 (idx5 t) 128 r.val)
    (off1z (idx5 t) 1024 d.val)
  rw [View.read_apply, he]
  show out0_5 (F := Ideal) (b0 m c t) (b1 m c t) (b2 m c t) (b3 m c t) (ix2 r d) = _
  rw [outW5, pay5 (b0 m c t) (b1 m c t) (b2 m c t) (b3 m c t), blk0, blk1, blk2, blk3]
  rfl
theorem final5 : (Gen.dats m 0 c).arrAt 5 cfg0.N = res5 m c :=
  (Gen.dats m 0 c).arrAt_eq_of_cover 5 (res5 m c) (flushes5 m c) fun i => by
    let t := tile (i 0)
    refine ⟨t, flush0_5 t, ?_⟩
    show i ∈ ((View.whole main_v0_1).slice (win0_5.rect t)).set
    rw [View.set_slice_whole, Rect.mem_set_unit]
    exact inRows (s := ![128, 1024]) (i := fun a => (i a).val) (idx5 t) rfl (by decide) (i 1).isLt
theorem flushes6 (t : Fin cfg0.N) (hf : (cfg0.win 6).flush t = true) :
    (Gen.dats m 0 c).flushed 6 t = ((cfg0.win 6).blk t).view.read (Elt Ideal) (res6 m c) := by
  rw [Value.flushed6]
  refine funext2 fun r d => ?_
  have he : ((cfg0.win 6).blk t).view.emb (ix2 r d) = ix2 (row t r) d := idx2_ext _ _
    (off0 (idx6 t) 128 r.val)
    (off1z (idx6 t) 1024 d.val)
  rw [View.read_apply, he]
  show out0_6 (F := Ideal) (b0 m c t) (b1 m c t) (b2 m c t) (b3 m c t) (ix2 r d) = _
  rw [outW6, pay6 (b0 m c t) (b1 m c t) (b2 m c t) (b3 m c t), blk0, blk1, blk2, blk3]
  rfl
theorem final6 : (Gen.dats m 0 c).arrAt 6 cfg0.N = res6 m c :=
  (Gen.dats m 0 c).arrAt_eq_of_cover 6 (res6 m c) (flushes6 m c) fun i => by
    let t := tile (i 0)
    refine ⟨t, flush0_6 t, ?_⟩
    show i ∈ ((View.whole main_v0_2).slice (win0_6.rect t)).set
    rw [View.set_slice_whole, Rect.mem_set_unit]
    exact inRows (s := ![128, 1024]) (i := fun a => (i a).val) (idx6 t) rfl (by decide) (i 1).isLt
end Cert.AdamFfnOutIdeal.Blocks

namespace Cert.AdamFfnOut
open Idealize.ShloMosaic Idealize.SL.Sem AdamFfnOutIdeal AdamFfnOutRefIdeal.Read Cert.Rows
open scoped BigOperators

/-- The reference's results, and that they are the kernel's. -/
theorem reference_at4 (x0 x1 : FVec Ideal S1408x1024 .f32) (x2 x3 : FVec Ideal S1408x1024 .f32) (i : Fin 1408) (j : Fin 1024) :
    val_main_v23 (F := Ideal) x0 x1 x2 x3 (ix2 i j) = delta (fun x => x0 (ix2 i x)) (fun x => x1 (ix2 i x)) (fun x => x2 (ix2 i x)) (fun x => x3 (ix2 i x)) j := by
  unfold delta newM newV
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem reference_at5 (x0 x1 : FVec Ideal S1408x1024 .f32) (x2 x3 : FVec Ideal S1408x1024 .f32) (i : Fin 1408) (j : Fin 1024) :
    val_main_v4 (F := Ideal) x1 x2 (ix2 i j) = newM (fun x => x0 (ix2 i x)) (fun x => x1 (ix2 i x)) (fun x => x2 (ix2 i x)) (fun x => x3 (ix2 i x)) j := by
  unfold newM
  pointwise [val_main_cst, val_main_v0, val_main_v1, val_main_cst_0, val_main_v2, val_main_v3, val_main_v4]
theorem reference_at6 (x0 x1 : FVec Ideal S1408x1024 .f32) (x2 x3 : FVec Ideal S1408x1024 .f32) (i : Fin 1408) (j : Fin 1024) :
    val_main_v10 (F := Ideal) x1 x3 (ix2 i j) = newV (fun x => x0 (ix2 i x)) (fun x => x1 (ix2 i x)) (fun x => x2 (ix2 i x)) (fun x => x3 (ix2 i x)) j := by
  unfold newV
  pointwise [val_main_cst_1, val_main_v5, val_main_v6, val_main_v7, val_main_cst_2, val_main_v8, val_main_v9, val_main_v10]

theorem algebraic : algebraic_AdamFfnOutIdeal_AdamFfnOutRefIdeal := by
  intro m g m' g' _ e
  refine ⟨fun c => AdamFfnOutIdeal.Blocks.res4 m c, fun c => AdamFfnOutIdeal.Blocks.res5 m c, fun c => AdamFfnOutIdeal.Blocks.res6 m c, ?_, ?_⟩
  · refine (θ_run AdamFfnOutIdeal.defs _ _).mono (fun r H c => ?_) (AdamFfnOutIdeal.Value.run_blocks (F := Ideal) m g)
    exact ⟨(H c).1.trans (AdamFfnOutIdeal.Blocks.final4 m c), (H c).2.1.trans (AdamFfnOutIdeal.Blocks.final5 m c), (H c).2.2.1.trans (AdamFfnOutIdeal.Blocks.final6 m c), (H c).2.2.2⟩
  · refine (θ_run AdamFfnOutRefIdeal.defs _ _).mono (fun r H c => ?_) (AdamFfnOutRefIdeal.Value.run (F := Ideal) m' g')
    refine ⟨(H c).1.trans ?_, (H c).2.1.trans ?_, (H c).2.2.1.trans ?_, (H c).2.2.2⟩
    · rw [val_main_v23_eq, (e c).1, (e c).2.1, (e c).2.2.1, (e c).2.2.2]
      funext i
      idx_vars i
      exact reference_at4 _ _ _ _ i0 i1
    · rw [val_main_v4_eq, (e c).2.1, (e c).2.2.1]
      funext i
      idx_vars i
      exact reference_at5 (m ((c.tc : Thread AdamFfnOutIdeal.nD AdamFfnOutIdeal.τ).loc AdamFfnOutIdeal.main_arg0)) _ _ (m ((c.tc : Thread AdamFfnOutIdeal.nD AdamFfnOutIdeal.τ).loc AdamFfnOutIdeal.main_arg3)) i0 i1
    · rw [val_main_v10_eq, (e c).2.1, (e c).2.2.2]
      funext i
      idx_vars i
      exact reference_at6 (m ((c.tc : Thread AdamFfnOutIdeal.nD AdamFfnOutIdeal.τ).loc AdamFfnOutIdeal.main_arg0)) _ (m ((c.tc : Thread AdamFfnOutIdeal.nD AdamFfnOutIdeal.τ).loc AdamFfnOutIdeal.main_arg2)) _ i0 i1

theorem reference_frame : quiescent_AdamFfnOutRefIdeal := fun m ρ _ =>
  (θ_run AdamFfnOutRefIdeal.defs _ _).mono (fun r h => ⟨fun c => (h c).2.2.2, sem_eq_zero_of_no_sems (by decide) r.2⟩) (AdamFfnOutRefIdeal.Value.run (F := Ideal) m ρ)
end Cert.AdamFfnOut
-- ==== Proof.AdamSmall.lean ====
/- The row by row call `adam_small`: what its arrays hold after the run, and every claim about it. -/
module
public import proofs.«01_k».proof.Defs
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Rows
public import Idealize.ShloMosaic.Lib.Quiescent
@[expose] public section
set_option maxRecDepth 16384
noncomputable section
namespace Cert.AdamSmallIdeal.Blocks
open Cert.AdamSmallIdeal Cert.AdamSmallIdeal.Gen Idealize.ShloMosaic Idealize.ShloMosaic.TcCoe Idealize.SL.Sem Cert.Rows
open scoped BigOperators

theorem outW4 {F : FTy → Type} [FloatOps F] (x0 x1 : Vec F S32x1024 .f32) (x2 x3 : Vec F S32x1024 .f32) : out0_4 x0 x1 x2 x3 = k0_pay3 x0 x1 x2 x3 := by
  unfold out0_4
  rw [View.canon_unit_zero hz]
  simp only [View.ld_unit_zero (S := S32x1024) hz]
theorem pay4 (x0 x1 : FVec Ideal S32x1024 .f32) (x2 x3 : FVec Ideal S32x1024 .f32) (r : Fin 32) (d : Fin 1024) :
    k0_pay3 (F := Ideal) x0 x1 x2 x3 (ix2 r d) = delta (fun x => x0 (ix2 r x)) (fun x => x1 (ix2 r x)) (fun x => x2 (ix2 r x)) (fun x => x3 (ix2 r x)) d := by
  unfold delta newM newV
  pointwise [k0_pay1, k0_pay2, k0_pay3]
theorem outW5 {F : FTy → Type} [FloatOps F] (x0 x1 : Vec F S32x1024 .f32) (x2 x3 : Vec F S32x1024 .f32) : out0_5 x0 x1 x2 x3 = k0_pay1 x1 x2 := by
  unfold out0_5
  rw [View.canon_unit_zero hz]
  simp only [View.ld_unit_zero (S := S32x1024) hz]
theorem pay5 (x0 x1 : FVec Ideal S32x1024 .f32) (x2 x3 : FVec Ideal S32x1024 .f32) (r : Fin 32) (d : Fin 1024) :
    k0_pay1 (F := Ideal) x1 x2 (ix2 r d) = newM (fun x => x0 (ix2 r x)) (fun x => x1 (ix2 r x)) (fun x => x2 (ix2 r x)) (fun x => x3 (ix2 r x)) d := by
  unfold newM
  pointwise [k0_pay1, k0_pay2, k0_pay3]
theorem outW6 {F : FTy → Type} [FloatOps F] (x0 x1 : Vec F S32x1024 .f32) (x2 x3 : Vec F S32x1024 .f32) : out0_6 x0 x1 x2 x3 = k0_pay2 x1 x3 := by
  unfold out0_6
  rw [View.canon_unit_zero hz]
  simp only [View.ld_unit_zero (S := S32x1024) hz]
theorem pay6 (x0 x1 : FVec Ideal S32x1024 .f32) (x2 x3 : FVec Ideal S32x1024 .f32) (r : Fin 32) (d : Fin 1024) :
    k0_pay2 (F := Ideal) x1 x3 (ix2 r d) = newV (fun x => x0 (ix2 r x)) (fun x => x1 (ix2 r x)) (fun x => x2 (ix2 r x)) (fun x => x3 (ix2 r x)) d := by
  unfold newV
  pointwise [k0_pay1, k0_pay2, k0_pay3]

variable (m : (ℓ : Loc nD τ sig) → Buf (Elt Ideal) ℓ) (c : Dev nD)

theorem ltN (t : Fin cfg0.N) : t.val < 9 := by have h := t.isLt; have e : cfg0.N = 9 := N_0; omega
/-- The row a block's row stands for at point `t`. -/
def row (t : Fin cfg0.N) (r : Fin 32) : Fin 288 := ⟨t.val * 32 + r.val, by have := ltN t; omega⟩
def tile (r : Fin 288) : Fin cfg0.N := ⟨r.val / 32, by rw [show cfg0.N = 9 from N_0]; omega⟩
abbrev A0 : Fin 288 → Fin 1024 → EReal := fun i x => m ((c : Thread nD τ).loc main_arg0) (ix2 i x)
abbrev A1 : Fin 288 → Fin 1024 → EReal := fun i x => m ((c : Thread nD τ).loc main_arg1) (ix2 i x)
abbrev A2 : Fin 288 → Fin 1024 → EReal := fun i x => m ((c : Thread nD τ).loc main_arg2) (ix2 i x)
abbrev A3 : Fin 288 → Fin 1024 → EReal := fun i x => m ((c : Thread nD τ).loc main_arg3) (ix2 i x)
def res4 : Buf (Elt Ideal) ((c : Thread nD τ).loc main_v0_0) := fun i : S288x1024.Idx => delta (A0 m c (i 0)) (A1 m c (i 0)) (A2 m c (i 0)) (A3 m c (i 0)) (i 1)
def res5 : Buf (Elt Ideal) ((c : Thread nD τ).loc main_v0_1) := fun i : S288x1024.Idx => newM (A0 m c (i 0)) (A1 m c (i 0)) (A2 m c (i 0)) (A3 m c (i 0)) (i 1)
def res6 : Buf (Elt Ideal) ((c : Thread nD τ).loc main_v0_2) := fun i : S288x1024.Idx => newV (A0 m c (i 0)) (A1 m c (i 0)) (A2 m c (i 0)) (A3 m c (i 0)) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![t.val, 0] := by decide +kernel
def b0 (t : Fin cfg0.N) : FVec Ideal S32x1024 .f32 := iblk m c 0 t
theorem blk0 (t : Fin cfg0.N) (r : Fin 32) : (fun x => b0 m c t (ix2 r x)) = A0 m c (row t r) := funext fun x => by
  unfold b0 iblk
  rw [View.read_apply]
  exact congrArg (m ((c : Thread nD τ).loc main_arg0)) (idx2_ext _ _ (off0 (idx0 t) 32 r.val) (off1z (idx0 t) 1024 x.val))
def b1 (t : Fin cfg0.N) : FVec Ideal S32x1024 .f32 := iblk m c 1 t
theorem blk1 (t : Fin cfg0.N) (r : Fin 32) : (fun x => b1 m c t (ix2 r x)) = A1 m c (row t r) := funext fun x => by
  unfold b1 iblk
  rw [View.read_apply]
  exact congrArg (m ((c : Thread nD τ).loc main_arg1)) (idx2_ext _ _ (off0 (idx1 t) 32 r.val) (off1z (idx1 t) 1024 x.val))
def b2 (t : Fin cfg0.N) : FVec Ideal S32x1024 .f32 := iblk m c 2 t
theorem blk2 (t : Fin cfg0.N) (r : Fin 32) : (fun x => b2 m c t (ix2 r x)) = A2 m c (row t r) := funext fun x => by
  unfold b2 iblk
  rw [View.read_apply]
  exact congrArg (m ((c : Thread nD τ).loc main_arg2)) (idx2_ext _ _ (off0 (idx2 t) 32 r.val) (off1z (idx2 t) 1024 x.val))
def b3 (t : Fin cfg0.N) : FVec Ideal S32x1024 .f32 := iblk m c 3 t
theorem blk3 (t : Fin cfg0.N) (r : Fin 32) : (fun x => b3 m c t (ix2 r x)) = A3 m c (row t r) := funext fun x => by
  unfold b3 iblk
  rw [View.read_apply]
  exact congrArg (m ((c : Thread nD τ).loc main_arg3)) (idx2_ext _ _ (off0 (idx3 t) 32 r.val) (off1z (idx3 t) 1024 x.val))
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) d := idx2_ext _ _
    (off0 (idx4 t) 32 r.val)
    (off1z (idx4 t) 1024 d.val)
  rw [View.read_apply, he]
  show out0_4 (F := Ideal) (b0 m c t) (b1 m c t) (b2 m c t) (b3 m c t) (ix2 r d) = _
  rw [outW4, pay4 (b0 m c t) (b1 m c t) (b2 m c t) (b3 m c t), blk0, blk1, blk2, blk3]
  rfl
theorem final4 : (Gen.dats m 0 c).arrAt 4 cfg0.N = res4 m c :=
  (Gen.dats m 0 c).arrAt_eq_of_cover 4 (res4 m c) (flushes4 m c) fun i => by
    let t := tile (i 0)
    refine ⟨t, flush0_4 t, ?_⟩
    show i ∈ ((View.whole main_v0_0).slice (win0_4.rect t)).set
    rw [View.set_slice_whole, Rect.mem_set_unit]
    exact inRows (s := ![32, 1024]) (i := fun a => (i a).val) (idx4 t) rfl (by decide) (i 1).isLt
theorem flushes5 (t : Fin cfg0.N) (hf : (cfg0.win 5).flush t = true) :
    (Gen.dats m 0 c).flushed 5 t = ((cfg0.win 5).blk t).view.read (Elt Ideal) (res5 m c) := by
  rw [Value.flushed5]
  refine funext2 fun r d => ?_
  have he : ((cfg0.win 5).blk t).view.emb (ix2 r d) = ix2 (row t r) d := idx2_ext _ _
    (off0 (idx5 t) 32 r.val)
    (off1z (idx5 t) 1024 d.val)
  rw [View.read_apply, he]
  show out0_5 (F := Ideal) (b0 m c t) (b1 m c t) (b2 m c t) (b3 m c t) (ix2 r d) = _
  rw [outW5, pay5 (b0 m c t) (b1 m c t) (b2 m c t) (b3 m c t), blk0, blk1, blk2, blk3]
  rfl
theorem final5 : (Gen.dats m 0 c).arrAt 5 cfg0.N = res5 m c :=
  (Gen.dats m 0 c).arrAt_eq_of_cover 5 (res5 m c) (flushes5 m c) fun i => by
    let t := tile (i 0)
    refine ⟨t, flush0_5 t, ?_⟩
    show i ∈ ((View.whole main_v0_1).slice (win0_5.rect t)).set
    rw [View.set_slice_whole, Rect.mem_set_unit]
    exact inRows (s := ![32, 1024]) (i := fun a => (i a).val) (idx5 t) rfl (by decide) (i 1).isLt
theorem flushes6 (t : Fin cfg0.N) (hf : (cfg0.win 6).flush t = true) :
    (Gen.dats m 0 c).flushed 6 t = ((cfg0.win 6).blk t).view.read (Elt Ideal) (res6 m c) := by
  rw [Value.flushed6]
  refine funext2 fun r d => ?_
  have he : ((cfg0.win 6).blk t).view.emb (ix2 r d) = ix2 (row t r) d := idx2_ext _ _
    (off0 (idx6 t) 32 r.val)
    (off1z (idx6 t) 1024 d.val)
  rw [View.read_apply, he]
  show out0_6 (F := Ideal) (b0 m c t) (b1 m c t) (b2 m c t) (b3 m c t) (ix2 r d) = _
  rw [outW6, pay6 (b0 m c t) (b1 m c t) (b2 m c t) (b3 m c t), blk0, blk1, blk2, blk3]
  rfl
theorem final6 : (Gen.dats m 0 c).arrAt 6 cfg0.N = res6 m c :=
  (Gen.dats m 0 c).arrAt_eq_of_cover 6 (res6 m c) (flushes6 m c) fun i => by
    let t := tile (i 0)
    refine ⟨t, flush0_6 t, ?_⟩
    show i ∈ ((View.whole main_v0_2).slice (win0_6.rect t)).set
    rw [View.set_slice_whole, Rect.mem_set_unit]
    exact inRows (s := ![32, 1024]) (i := fun a => (i a).val) (idx6 t) rfl (by decide) (i 1).isLt
end Cert.AdamSmallIdeal.Blocks

namespace Cert.AdamSmall
open Idealize.ShloMosaic Idealize.SL.Sem AdamSmallIdeal AdamSmallRefIdeal.Read Cert.Rows
open scoped BigOperators

/-- The reference's results, and that they are the kernel's. -/
theorem reference_at4 (x0 x1 : FVec Ideal S288x1024 .f32) (x2 x3 : FVec Ideal S288x1024 .f32) (i : Fin 288) (j : Fin 1024) :
    val_main_v23 (F := Ideal) x0 x1 x2 x3 (ix2 i j) = delta (fun x => x0 (ix2 i x)) (fun x => x1 (ix2 i x)) (fun x => x2 (ix2 i x)) (fun x => x3 (ix2 i x)) j := by
  unfold delta newM newV
  pointwise [val_main_cst, val_main_v0, val_main_v1, val_main_cst_0, val_main_v2, val_main_v3, val_main_v4, val_main_cst_1, val_main_v5, val_main_v6, val_main_v7, val_main_cst_2, val_main_v8, val_main_v9, val_main_v10, val_main_cst_3, val_main_v11, val_main_v12, val_main_cst_4, val_main_v13, val_main_v14, val_main_v15, val_main_cst_5, val_main_v16, val_main_v17, val_main_v18, val_main_cst_6, val_main_v19, val_main_v20, val_main_v21, val_main_cst_7, val_main_v22, val_main_v23]
theorem reference_at5 (x0 x1 : FVec Ideal S288x1024 .f32) (x2 x3 : FVec Ideal S288x1024 .f32) (i : Fin 288) (j : Fin 1024) :
    val_main_v4 (F := Ideal) x1 x2 (ix2 i j) = newM (fun x => x0 (ix2 i x)) (fun x => x1 (ix2 i x)) (fun x => x2 (ix2 i x)) (fun x => x3 (ix2 i x)) j := by
  unfold newM
  pointwise [val_main_cst, val_main_v0, val_main_v1, val_main_cst_0, val_main_v2, val_main_v3, val_main_v4]
theorem reference_at6 (x0 x1 : FVec Ideal S288x1024 .f32) (x2 x3 : FVec Ideal S288x1024 .f32) (i : Fin 288) (j : Fin 1024) :
    val_main_v10 (F := Ideal) x1 x3 (ix2 i j) = newV (fun x => x0 (ix2 i x)) (fun x => x1 (ix2 i x)) (fun x => x2 (ix2 i x)) (fun x => x3 (ix2 i x)) j := by
  unfold newV
  pointwise [val_main_cst_1, val_main_v5, val_main_v6, val_main_v7, val_main_cst_2, val_main_v8, val_main_v9, val_main_v10]

theorem algebraic : algebraic_AdamSmallIdeal_AdamSmallRefIdeal := by
  intro m g m' g' _ e
  refine ⟨fun c => AdamSmallIdeal.Blocks.res4 m c, fun c => AdamSmallIdeal.Blocks.res5 m c, fun c => AdamSmallIdeal.Blocks.res6 m c, ?_, ?_⟩
  · refine (θ_run AdamSmallIdeal.defs _ _).mono (fun r H c => ?_) (AdamSmallIdeal.Value.run_blocks (F := Ideal) m g)
    exact ⟨(H c).1.trans (AdamSmallIdeal.Blocks.final4 m c), (H c).2.1.trans (AdamSmallIdeal.Blocks.final5 m c), (H c).2.2.1.trans (AdamSmallIdeal.Blocks.final6 m c), (H c).2.2.2⟩
  · refine (θ_run AdamSmallRefIdeal.defs _ _).mono (fun r H c => ?_) (AdamSmallRefIdeal.Value.run (F := Ideal) m' g')
    refine ⟨(H c).1.trans ?_, (H c).2.1.trans ?_, (H c).2.2.1.trans ?_, (H c).2.2.2⟩
    · rw [val_main_v23_eq, (e c).1, (e c).2.1, (e c).2.2.1, (e c).2.2.2]
      funext i
      idx_vars i
      exact reference_at4 _ _ _ _ i0 i1
    · rw [val_main_v4_eq, (e c).2.1, (e c).2.2.1]
      funext i
      idx_vars i
      exact reference_at5 (m ((c.tc : Thread AdamSmallIdeal.nD AdamSmallIdeal.τ).loc AdamSmallIdeal.main_arg0)) _ _ (m ((c.tc : Thread AdamSmallIdeal.nD AdamSmallIdeal.τ).loc AdamSmallIdeal.main_arg3)) i0 i1
    · rw [val_main_v10_eq, (e c).2.1, (e c).2.2.2]
      funext i
      idx_vars i
      exact reference_at6 (m ((c.tc : Thread AdamSmallIdeal.nD AdamSmallIdeal.τ).loc AdamSmallIdeal.main_arg0)) _ (m ((c.tc : Thread AdamSmallIdeal.nD AdamSmallIdeal.τ).loc AdamSmallIdeal.main_arg2)) _ i0 i1

theorem reference_frame : quiescent_AdamSmallRefIdeal := fun m ρ _ =>
  (θ_run AdamSmallRefIdeal.defs _ _).mono (fun r h => ⟨fun c => (h c).2.2.2, sem_eq_zero_of_no_sems (by decide) r.2⟩) (AdamSmallRefIdeal.Value.run (F := Ideal) m ρ)
end Cert.AdamSmall
-- ==== Proof.NormIn.lean ====
/- The row by row call `norm_in`: what its arrays hold after the run, and every claim about it. -/
module
public import proofs.«01_k».proof.Defs
public import proofs.«01_k».proof.Proof.Gen.NormIn.Frame
public import proofs.«01_k».proof.Proof.Gen.NormInIdeal.Value
public import proofs.«01_k».proof.Proof.Gen.NormInRefIdeal.Run
public import proofs.«01_k».proof.Proof.Gen.NormInRefIdeal.Read
public import proofs.«01_k».proof.Proof.Rows
public import Idealize.ShloMosaic.Lib.Quiescent
@[expose] public section
set_option maxRecDepth 16384
noncomputable section
namespace Cert.NormInIdeal.Blocks
open Cert.NormInIdeal Cert.NormInIdeal.Gen Idealize.ShloMosaic Idealize.ShloMosaic.TcCoe Idealize.SL.Sem Cert.Rows
open scoped BigOperators

/-- The normalised row. -/
def normed (x : Fin 1024 → EReal) (w : Fin 1024 → EReal) (j : Fin 1024) : EReal := x j * Ideal.rsqrt (Ideal.div (∑ k, x k * x k) (Ideal.ofBits .f32 0x44800000#32) + Ideal.ofBits .f32 0x358637BD#32) * w j
theorem outW2 {F : FTy → Type} [FloatOps F] (x0 : Vec F S512x1024 .f32) (x1 : Vec F S1x1024 .f32) : out0_2 x0 x1 = k0_pay1 x0 x1 := by
  unfold out0_2
  rw [View.canon_unit_zero hz]
  simp only [View.ld_unit_zero (S := S512x1024) hz, View.ld_unit_zero (S := S1x1024) hz]
theorem pay2 (x0 : FVec Ideal S512x1024 .f32) (x1 : FVec Ideal S1x1024 .f32) (r : Fin 512) (d : Fin 1024) :
    k0_pay1 (F := Ideal) x0 x1 (ix2 r d) = normed (fun x => x0 (ix2 r x)) (fun x => x1 (ix2 0 x)) d := by
  unfold normed
  pointwise [k0_pay1]

variable (m : (ℓ : Loc nD τ sig) → Buf (Elt Ideal) ℓ) (c : Dev nD)

theorem ltN (t : Fin cfg0.N) : t.val < 16 := by have h := t.isLt; have e : cfg0.N = 16 := N_0; omega
/-- The row a block's row stands for at point `t`. -/
def row (t : Fin cfg0.N) (r : Fin 512) : Fin 8192 := ⟨t.val * 512 + r.val, by have := ltN t; omega⟩
def tile (r : Fin 8192) : Fin cfg0.N := ⟨r.val / 512, by rw [show cfg0.N = 16 from N_0]; omega⟩
abbrev A0 : Fin 8192 → Fin 1024 → EReal := fun i x => m ((c : Thread nD τ).loc main_arg0) (ix2 i x)
abbrev A1 : Fin 1 → Fin 1024 → EReal := fun i x => m ((c : Thread nD τ).loc main_arg1) (ix2 i x)
def res2 : Buf (Elt Ideal) ((c : Thread nD τ).loc main_v0) := fun i : S8192x1024.Idx => normed (A0 m c (i 0)) (A1 m c 0) (i 1)
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
def b0 (t : Fin cfg0.N) : FVec Ideal S512x1024 .f32 := iblk m c 0 t
theorem blk0 (t : Fin cfg0.N) (r : Fin 512) : (fun x => b0 m c t (ix2 r x)) = A0 m c (row t r) := funext fun x => by
  unfold b0 iblk
  rw [View.read_apply]
  exact congrArg (m ((c : Thread nD τ).loc main_arg0)) (idx2_ext _ _ (off0 (idx0 t) 512 r.val) (off1z (idx0 t) 1024 x.val))
def b1 (t : Fin cfg0.N) : FVec Ideal S1x1024 .f32 := iblk m c 1 t
theorem blk1 (t : Fin cfg0.N) : (fun x => b1 m c t (ix2 0 x)) = A1 m c 0 := funext fun x => by
  unfold b1 iblk
  rw [View.read_apply]
  exact congrArg (m ((c : Thread nD τ).loc main_arg1)) (idx2_ext _ _ (off0z (idx1 t) 1 0) (off1z (idx1 t) 1024 x.val))
theorem at_out2 (t : Fin cfg0.N) (r : Fin 512) (d : Fin 1024) :
    out0_2 (F := Ideal) (b0 m c t) (b1 m c t) (ix2 r d) = normed (A0 m c (row t r)) (A1 m c 0) d := by
  rw [outW2, pay2 (b0 m c t) (b1 m c t) r d]
  rw [blk0, blk1]
theorem flushes2 (t : Fin cfg0.N) (hf : (cfg0.win 2).flush t = true) :
    (Gen.dats m 0 c).flushed 2 t = ((cfg0.win 2).blk t).view.read (Elt Ideal) (res2 m c) := by
  rw [Value.flushed2]
  refine funext2 fun r d => ?_
  have he : ((cfg0.win 2).blk t).view.emb (ix2 r d) = ix2 (row t r) d := idx2_ext _ _
    (off0 (idx2 t) 512 r.val)
    (off1z (idx2 t) 1024 d.val)
  rw [View.read_apply, he]
  exact at_out2 m c t r d
theorem final2 : (Gen.dats m 0 c).arrAt 2 cfg0.N = res2 m c :=
  (Gen.dats m 0 c).arrAt_eq_of_cover 2 (res2 m c) (flushes2 m c) fun i => by
    let t := tile (i 0)
    refine ⟨t, flush0_2 t, ?_⟩
    show i ∈ ((View.whole main_v0).slice (win0_2.rect t)).set
    rw [View.set_slice_whole, Rect.mem_set_unit]
    exact inRows (s := ![512, 1024]) (i := fun a => (i a).val) (idx2 t) rfl (by decide) (i 1).isLt
end Cert.NormInIdeal.Blocks

namespace Cert.NormIn
open Idealize.ShloMosaic Idealize.SL.Sem NormInIdeal NormInRefIdeal.Read Cert.Rows
open scoped BigOperators

/-- The reference's results, and that they are the kernel's. -/
theorem reference_at2 (x0 : FVec Ideal S8192x1024 .f32) (x1 : FVec Ideal S1x1024 .f32) (i : Fin 8192) (j : Fin 1024) :
    val_main_v14 (F := Ideal) x0 x1 (ix2 i j) = Blocks.normed (fun x => x0 (ix2 i x)) (fun x => x1 (ix2 0 x)) j := by
  unfold Blocks.normed
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14]

theorem algebraic : algebraic_NormInIdeal_NormInRefIdeal := by
  intro m g m' g' _ e
  refine ⟨fun c => NormInIdeal.Blocks.res2 m c, ?_, ?_⟩
  · refine (θ_run NormInIdeal.defs _ _).mono (fun r H c => ?_) (NormInIdeal.Value.run_blocks (F := Ideal) m g)
    exact ⟨(H c).1.trans (NormInIdeal.Blocks.final2 m c), (H c).2⟩
  · refine (θ_run NormInRefIdeal.defs _ _).mono (fun r H c => ?_) (NormInRefIdeal.Value.run (F := Ideal) m' g')
    refine ⟨(H c).1.trans ?_, (H c).2⟩
    · rw [val_main_v14_eq, (e c).1, (e c).2]
      funext i
      idx_vars i
      exact reference_at2 _ _ i0 i1

theorem reference_frame : quiescent_NormInRefIdeal := fun m ρ _ =>
  (θ_run NormInRefIdeal.defs _ _).mono (fun r h => ⟨fun c => (h c).2, sem_eq_zero_of_no_sems (by decide) r.2⟩) (NormInRefIdeal.Value.run (F := Ideal) m ρ)
end Cert.NormIn
-- ==== Proof.MemNorm.lean ====
/- The row by row call `mem_norm`: what its arrays hold after the run, and every claim about it. -/
module
public import proofs.«01_k».proof.Defs
public import proofs.«01_k».proof.Proof.Gen.MemNorm.Frame
public import proofs.«01_k».proof.Proof.Gen.MemNormIdeal.Value
public import proofs.«01_k».proof.Proof.Gen.MemNormRefIdeal.Run
public import proofs.«01_k».proof.Proof.Gen.MemNormRefIdeal.Read
public import proofs.«01_k».proof.Proof.Rows
public import Idealize.ShloMosaic.Lib.Quiescent
@[expose] public section
set_option maxRecDepth 16384
noncomputable section
namespace Cert.MemNormIdeal.Blocks
open Cert.MemNormIdeal Cert.MemNormIdeal.Gen Idealize.ShloMosaic Idealize.ShloMosaic.TcCoe Idealize.SL.Sem Cert.Rows
open scoped BigOperators

/-- The normalised row. -/
def normed (mem : Fin 1024 → EReal) (w : Fin 1024 → EReal) (j : Fin 1024) : EReal := mem j * Ideal.rsqrt (Ideal.div (∑ k, mem k * mem k) (Ideal.ofBits .f32 0x44800000#32) + Ideal.ofBits .f32 0x358637BD#32) * w j
theorem outW2 {F : FTy → Type} [FloatOps F] (x0 : Vec F S512x1024 .f32) (x1 : Vec F S1x1024 .f32) : out0_2 x0 x1 = k0_pay1 x0 x1 := by
  unfold out0_2
  rw [View.canon_unit_zero hz]
  simp only [View.ld_unit_zero (S := S512x1024) hz, View.ld_unit_zero (S := S1x1024) hz]
theorem pay2 (x0 : FVec Ideal S512x1024 .f32) (x1 : FVec Ideal S1x1024 .f32) (r : Fin 512) (d : Fin 1024) :
    k0_pay1 (F := Ideal) x0 x1 (ix2 r d) = normed (fun x => x0 (ix2 r x)) (fun x => x1 (ix2 0 x)) d := by
  unfold normed
  pointwise [k0_pay1]

variable (m : (ℓ : Loc nD τ sig) → Buf (Elt Ideal) ℓ) (c : Dev nD)

theorem ltN (t : Fin cfg0.N) : t.val < 2 := by have h := t.isLt; have e : cfg0.N = 2 := N_0; omega
/-- The row a block's row stands for at point `t`. -/
def row (t : Fin cfg0.N) (r : Fin 512) : Fin 1024 := ⟨t.val * 512 + r.val, by have := ltN t; omega⟩
def tile (r : Fin 1024) : Fin cfg0.N := ⟨r.val / 512, by rw [show cfg0.N = 2 from N_0]; omega⟩
abbrev A0 : Fin 1024 → Fin 1024 → EReal := fun i x => m ((c : Thread nD τ).loc main_arg0) (ix2 i x)
abbrev A1 : Fin 1 → Fin 1024 → EReal := fun i x => m ((c : Thread nD τ).loc main_arg1) (ix2 i x)
def res2 : Buf (Elt Ideal) ((c : Thread nD τ).loc main_v0) := fun i : S1024x1024.Idx => normed (A0 m c (i 0)) (A1 m c 0) (i 1)
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
def b0 (t : Fin cfg0.N) : FVec Ideal S512x1024 .f32 := iblk m c 0 t
theorem blk0 (t : Fin cfg0.N) (r : Fin 512) : (fun x => b0 m c t (ix2 r x)) = A0 m c (row t r) := funext fun x => by
  unfold b0 iblk
  rw [View.read_apply]
  exact congrArg (m ((c : Thread nD τ).loc main_arg0)) (idx2_ext _ _ (off0 (idx0 t) 512 r.val) (off1z (idx0 t) 1024 x.val))
def b1 (t : Fin cfg0.N) : FVec Ideal S1x1024 .f32 := iblk m c 1 t
theorem blk1 (t : Fin cfg0.N) : (fun x => b1 m c t (ix2 0 x)) = A1 m c 0 := funext fun x => by
  unfold b1 iblk
  rw [View.read_apply]
  exact congrArg (m ((c : Thread nD τ).loc main_arg1)) (idx2_ext _ _ (off0z (idx1 t) 1 0) (off1z (idx1 t) 1024 x.val))
theorem at_out2 (t : Fin cfg0.N) (r : Fin 512) (d : Fin 1024) :
    out0_2 (F := Ideal) (b0 m c t) (b1 m c t) (ix2 r d) = normed (A0 m c (row t r)) (A1 m c 0) d := by
  rw [outW2, pay2 (b0 m c t) (b1 m c t) r d]
  rw [blk0, blk1]
theorem flushes2 (t : Fin cfg0.N) (hf : (cfg0.win 2).flush t = true) :
    (Gen.dats m 0 c).flushed 2 t = ((cfg0.win 2).blk t).view.read (Elt Ideal) (res2 m c) := by
  rw [Value.flushed2]
  refine funext2 fun r d => ?_
  have he : ((cfg0.win 2).blk t).view.emb (ix2 r d) = ix2 (row t r) d := idx2_ext _ _
    (off0 (idx2 t) 512 r.val)
    (off1z (idx2 t) 1024 d.val)
  rw [View.read_apply, he]
  exact at_out2 m c t r d
theorem final2 : (Gen.dats m 0 c).arrAt 2 cfg0.N = res2 m c :=
  (Gen.dats m 0 c).arrAt_eq_of_cover 2 (res2 m c) (flushes2 m c) fun i => by
    let t := tile (i 0)
    refine ⟨t, flush0_2 t, ?_⟩
    show i ∈ ((View.whole main_v0).slice (win0_2.rect t)).set
    rw [View.set_slice_whole, Rect.mem_set_unit]
    exact inRows (s := ![512, 1024]) (i := fun a => (i a).val) (idx2 t) rfl (by decide) (i 1).isLt
end Cert.MemNormIdeal.Blocks

namespace Cert.MemNorm
open Idealize.ShloMosaic Idealize.SL.Sem MemNormIdeal MemNormRefIdeal.Read Cert.Rows
open scoped BigOperators

/-- The reference's results, and that they are the kernel's. -/
theorem reference_at2 (x0 : FVec Ideal S1024x1024 .f32) (x1 : FVec Ideal S1x1024 .f32) (i : Fin 1024) (j : Fin 1024) :
    val_main_v14 (F := Ideal) x0 x1 (ix2 i j) = Blocks.normed (fun x => x0 (ix2 i x)) (fun x => x1 (ix2 0 x)) j := by
  unfold Blocks.normed
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14]

theorem algebraic : algebraic_MemNormIdeal_MemNormRefIdeal := by
  intro m g m' g' _ e
  refine ⟨fun c => MemNormIdeal.Blocks.res2 m c, ?_, ?_⟩
  · refine (θ_run MemNormIdeal.defs _ _).mono (fun r H c => ?_) (MemNormIdeal.Value.run_blocks (F := Ideal) m g)
    exact ⟨(H c).1.trans (MemNormIdeal.Blocks.final2 m c), (H c).2⟩
  · refine (θ_run MemNormRefIdeal.defs _ _).mono (fun r H c => ?_) (MemNormRefIdeal.Value.run (F := Ideal) m' g')
    refine ⟨(H c).1.trans ?_, (H c).2⟩
    · rw [val_main_v14_eq, (e c).1, (e c).2]
      funext i
      idx_vars i
      exact reference_at2 _ _ i0 i1

theorem reference_frame : quiescent_MemNormRefIdeal := fun m ρ _ =>
  (θ_run MemNormRefIdeal.defs _ _).mono (fun r h => ⟨fun c => (h c).2, sem_eq_zero_of_no_sems (by decide) r.2⟩) (MemNormRefIdeal.Value.run (F := Ideal) m ρ)
end Cert.MemNorm
-- ==== Proof.ResNorm.lean ====
/- The row by row call `resnorm`: what its arrays hold after the run, and every claim about it. -/
module
public import proofs.«01_k».proof.Defs
public import proofs.«01_k».proof.Proof.Gen.ResNorm.Frame
public import proofs.«01_k».proof.Proof.Gen.ResNormIdeal.Value
public import proofs.«01_k».proof.Proof.Gen.ResNormRefIdeal.Run
public import proofs.«01_k».proof.Proof.Gen.ResNormRefIdeal.Read
public import proofs.«01_k».proof.Proof.Rows
public import Idealize.ShloMosaic.Lib.Quiescent
@[expose] public section
set_option maxRecDepth 16384
noncomputable section
namespace Cert.ResNormIdeal.Blocks
open Cert.ResNormIdeal Cert.ResNormIdeal.Gen Idealize.ShloMosaic Idealize.ShloMosaic.TcCoe Idealize.SL.Sem Cert.Rows
open scoped BigOperators

/-- The row with the normalised one added. -/
def added (x : Fin 1024 → EReal) (y : Fin 1024 → EReal) (w1 : Fin 1024 → EReal) (w2 : Fin 1024 → EReal) (j : Fin 1024) : EReal := x j + y j * Ideal.rsqrt (Ideal.div (∑ k, y k * y k) (Ideal.ofBits .f32 0x44800000#32) + Ideal.ofBits .f32 0x358637BD#32) * w1 j
/-- That row normalised. -/
def normed (x : Fin 1024 → EReal) (y : Fin 1024 → EReal) (w1 : Fin 1024 → EReal) (w2 : Fin 1024 → EReal) (j : Fin 1024) : EReal := (added x y w1 w2) j * Ideal.rsqrt (Ideal.div (∑ k, (added x y w1 w2) k * (added x y w1 w2) k) (Ideal.ofBits .f32 0x44800000#32) + Ideal.ofBits .f32 0x358637BD#32) * w2 j
theorem outW4 {F : FTy → Type} [FloatOps F] (x0 x1 : Vec F S512x1024 .f32) (x2 x3 : Vec F S1x1024 .f32) : out0_4 x0 x1 x2 x3 = k0_pay1 x0 x1 x2 := by
  unfold out0_4
  rw [View.canon_unit_zero hz]
  simp only [View.ld_unit_zero (S := S512x1024) hz, View.ld_unit_zero (S := S1x1024) hz]
theorem pay4 (x0 x1 : FVec Ideal S512x1024 .f32) (x2 x3 : FVec Ideal S1x1024 .f32) (r : Fin 512) (d : Fin 1024) :
    k0_pay1 (F := Ideal) x0 x1 x2 (ix2 r d) = added (fun x => x0 (ix2 r x)) (fun x => x1 (ix2 r x)) (fun x => x2 (ix2 0 x)) (fun x => x3 (ix2 0 x)) d := by
  unfold added
  pointwise [k0_pay1, k0_pay2]
theorem outW5 {F : FTy → Type} [FloatOps F] (x0 x1 : Vec F S512x1024 .f32) (x2 x3 : Vec F S1x1024 .f32) : out0_5 x0 x1 x2 x3 = k0_pay2 x0 x1 x2 x3 := by
  unfold out0_5
  rw [View.canon_unit_zero hz]
  simp only [View.ld_unit_zero (S := S512x1024) hz, View.ld_unit_zero (S := S1x1024) hz]
theorem pay5 (x0 x1 : FVec Ideal S512x1024 .f32) (x2 x3 : FVec Ideal S1x1024 .f32) (r : Fin 512) (d : Fin 1024) :
    k0_pay2 (F := Ideal) x0 x1 x2 x3 (ix2 r d) = normed (fun x => x0 (ix2 r x)) (fun x => x1 (ix2 r x)) (fun x => x2 (ix2 0 x)) (fun x => x3 (ix2 0 x)) d := by
  unfold normed added
  pointwise [k0_pay1, k0_pay2]

variable (m : (ℓ : Loc nD τ sig) → Buf (Elt Ideal) ℓ) (c : Dev nD)

theorem ltN (t : Fin cfg0.N) : t.val < 16 := by have h := t.isLt; have e : cfg0.N = 16 := N_0; omega
/-- The row a block's row stands for at point `t`. -/
def row (t : Fin cfg0.N) (r : Fin 512) : Fin 8192 := ⟨t.val * 512 + r.val, by have := ltN t; omega⟩
def tile (r : Fin 8192) : Fin cfg0.N := ⟨r.val / 512, by rw [show cfg0.N = 16 from N_0]; omega⟩
abbrev A0 : Fin 8192 → Fin 1024 → EReal := fun i x => m ((c : Thread nD τ).loc main_arg0) (ix2 i x)
abbrev A1 : Fin 8192 → Fin 1024 → EReal := fun i x => m ((c : Thread nD τ).loc main_arg1) (ix2 i x)
abbrev A2 : Fin 1 → Fin 1024 → EReal := fun i x => m ((c : Thread nD τ).loc main_arg2) (ix2 i x)
abbrev A3 : Fin 1 → Fin 1024 → EReal := fun i x => m ((c : Thread nD τ).loc main_arg3) (ix2 i x)
def res4 : Buf (Elt Ideal) ((c : Thread nD τ).loc main_v0_0) := fun i : S8192x1024.Idx => added (A0 m c (i 0)) (A1 m c (i 0)) (A2 m c 0) (A3 m c 0) (i 1)
def res5 : Buf (Elt Ideal) ((c : Thread nD τ).loc main_v0_1) := fun i : S8192x1024.Idx => normed (A0 m c (i 0)) (A1 m c (i 0)) (A2 m c 0) (A3 m c 0) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
def b0 (t : Fin cfg0.N) : FVec Ideal S512x1024 .f32 := iblk m c 0 t
theorem blk0 (t : Fin cfg0.N) (r : Fin 512) : (fun x => b0 m c t (ix2 r x)) = A0 m c (row t r) := funext fun x => by
  unfold b0 iblk
  rw [View.read_apply]
  exact congrArg (m ((c : Thread nD τ).loc main_arg0)) (idx2_ext _ _ (off0 (idx0 t) 512 r.val) (off1z (idx0 t) 1024 x.val))
def b1 (t : Fin cfg0.N) : FVec Ideal S512x1024 .f32 := iblk m c 1 t
theorem blk1 (t : Fin cfg0.N) (r : Fin 512) : (fun x => b1 m c t (ix2 r x)) = A1 m c (row t r) := funext fun x => by
  unfold b1 iblk
  rw [View.read_apply]
  exact congrArg (m ((c : Thread nD τ).loc main_arg1)) (idx2_ext _ _ (off0 (idx1 t) 512 r.val) (off1z (idx1 t) 1024 x.val))
def b2 (t : Fin cfg0.N) : FVec Ideal S1x1024 .f32 := iblk m c 2 t
theorem blk2 (t : Fin cfg0.N) : (fun x => b2 m c t (ix2 0 x)) = A2 m c 0 := funext fun x => by
  unfold b2 iblk
  rw [View.read_apply]
  exact congrArg (m ((c : Thread nD τ).loc main_arg2)) (idx2_ext _ _ (off0z (idx2 t) 1 0) (off1z (idx2 t) 1024 x.val))
def b3 (t : Fin cfg0.N) : FVec Ideal S1x1024 .f32 := iblk m c 3 t
theorem blk3 (t : Fin cfg0.N) : (fun x => b3 m c t (ix2 0 x)) = A3 m c 0 := funext fun x => by
  unfold b3 iblk
  rw [View.read_apply]
  exact congrArg (m ((c : Thread nD τ).loc main_arg3)) (idx2_ext _ _ (off0z (idx3 t) 1 0) (off1z (idx3 t) 1024 x.val))
theorem at_out4 (t : Fin cfg0.N) (r : Fin 512) (d : Fin 1024) :
    out0_4 (F := Ideal) (b0 m c t) (b1 m c t) (b2 m c t) (b3 m c t) (ix2 r d) = added (A0 m c (row t r)) (A1 m c (row t r)) (A2 m c 0) (A3 m c 0) d := by
  rw [outW4, pay4 (b0 m c t) (b1 m c t) (b2 m c t) (b3 m c t) r d]
  rw [blk0, blk1, blk2, blk3]
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) d := idx2_ext _ _
    (off0 (idx4 t) 512 r.val)
    (off1z (idx4 t) 1024 d.val)
  rw [View.read_apply, he]
  exact at_out4 m c t r d
theorem final4 : (Gen.dats m 0 c).arrAt 4 cfg0.N = res4 m c :=
  (Gen.dats m 0 c).arrAt_eq_of_cover 4 (res4 m c) (flushes4 m c) fun i => by
    let t := tile (i 0)
    refine ⟨t, flush0_4 t, ?_⟩
    show i ∈ ((View.whole main_v0_0).slice (win0_4.rect t)).set
    rw [View.set_slice_whole, Rect.mem_set_unit]
    exact inRows (s := ![512, 1024]) (i := fun a => (i a).val) (idx4 t) rfl (by decide) (i 1).isLt
theorem at_out5 (t : Fin cfg0.N) (r : Fin 512) (d : Fin 1024) :
    out0_5 (F := Ideal) (b0 m c t) (b1 m c t) (b2 m c t) (b3 m c t) (ix2 r d) = normed (A0 m c (row t r)) (A1 m c (row t r)) (A2 m c 0) (A3 m c 0) d := by
  rw [outW5, pay5 (b0 m c t) (b1 m c t) (b2 m c t) (b3 m c t) r d]
  rw [blk0, blk1, blk2, blk3]
theorem flushes5 (t : Fin cfg0.N) (hf : (cfg0.win 5).flush t = true) :
    (Gen.dats m 0 c).flushed 5 t = ((cfg0.win 5).blk t).view.read (Elt Ideal) (res5 m c) := by
  rw [Value.flushed5]
  refine funext2 fun r d => ?_
  have he : ((cfg0.win 5).blk t).view.emb (ix2 r d) = ix2 (row t r) d := idx2_ext _ _
    (off0 (idx5 t) 512 r.val)
    (off1z (idx5 t) 1024 d.val)
  rw [View.read_apply, he]
  exact at_out5 m c t r d
theorem final5 : (Gen.dats m 0 c).arrAt 5 cfg0.N = res5 m c :=
  (Gen.dats m 0 c).arrAt_eq_of_cover 5 (res5 m c) (flushes5 m c) fun i => by
    let t := tile (i 0)
    refine ⟨t, flush0_5 t, ?_⟩
    show i ∈ ((View.whole main_v0_1).slice (win0_5.rect t)).set
    rw [View.set_slice_whole, Rect.mem_set_unit]
    exact inRows (s := ![512, 1024]) (i := fun a => (i a).val) (idx5 t) rfl (by decide) (i 1).isLt
end Cert.ResNormIdeal.Blocks

namespace Cert.ResNorm
open Idealize.ShloMosaic Idealize.SL.Sem ResNormIdeal ResNormRefIdeal.Read Cert.Rows
open scoped BigOperators

/-- The reference's results, and that they are the kernel's. -/
theorem reference_at4 (x0 x1 : FVec Ideal S8192x1024 .f32) (x2 x3 : FVec Ideal S1x1024 .f32) (i : Fin 8192) (j : Fin 1024) :
    val_main_v14 (F := Ideal) x0 x1 x2 (ix2 i j) = Blocks.added (fun x => x0 (ix2 i x)) (fun x => x1 (ix2 i x)) (fun x => x2 (ix2 0 x)) (fun x => x3 (ix2 0 x)) j := by
  unfold Blocks.added
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_cst_2, val_main_v17, val_main_v18, val_main_cst_3, val_main_v19, val_main_v20, val_main_cst_4, val_main_v21, val_main_v22, val_main_v23, val_main_v24, val_main_v25, val_main_v26, val_main_v27, val_main_v28, val_main_v29]
theorem reference_at5 (x0 x1 : FVec Ideal S8192x1024 .f32) (x2 x3 : FVec Ideal S1x1024 .f32) (i : Fin 8192) (j : Fin 1024) :
    val_main_v29 (F := Ideal) x0 x1 x2 x3 (ix2 i j) = Blocks.normed (fun x => x0 (ix2 i x)) (fun x => x1 (ix2 i x)) (fun x => x2 (ix2 0 x)) (fun x => x3 (ix2 0 x)) j := by
  unfold Blocks.normed Blocks.added
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_cst_2, val_main_v17, val_main_v18, val_main_cst_3, val_main_v19, val_main_v20, val_main_cst_4, val_main_v21, val_main_v22, val_main_v23, val_main_v24, val_main_v25, val_main_v26, val_main_v27, val_main_v28, val_main_v29]

theorem algebraic : algebraic_ResNormIdeal_ResNormRefIdeal := by
  intro m g m' g' _ e
  refine ⟨fun c => ResNormIdeal.Blocks.res4 m c, fun c => ResNormIdeal.Blocks.res5 m c, ?_, ?_⟩
  · refine (θ_run ResNormIdeal.defs _ _).mono (fun r H c => ?_) (ResNormIdeal.Value.run_blocks (F := Ideal) m g)
    exact ⟨(H c).1.trans (ResNormIdeal.Blocks.final4 m c), (H c).2.1.trans (ResNormIdeal.Blocks.final5 m c), (H c).2.2⟩
  · refine (θ_run ResNormRefIdeal.defs _ _).mono (fun r H c => ?_) (ResNormRefIdeal.Value.run (F := Ideal) m' g')
    refine ⟨(H c).1.trans ?_, (H c).2.1.trans ?_, (H c).2.2⟩
    · rw [val_main_v14_eq, (e c).1, (e c).2.1, (e c).2.2.1]
      funext i
      idx_vars i
      exact reference_at4 _ _ _ (m ((c.tc : Thread ResNormIdeal.nD ResNormIdeal.τ).loc ResNormIdeal.main_arg3)) i0 i1
    · rw [val_main_v29_eq, (e c).1, (e c).2.1, (e c).2.2.1, (e c).2.2.2]
      funext i
      idx_vars i
      exact reference_at5 _ _ _ _ i0 i1

theorem reference_frame : quiescent_ResNormRefIdeal := fun m ρ _ =>
  (θ_run ResNormRefIdeal.defs _ _).mono (fun r h => ⟨fun c => (h c).2.2, sem_eq_zero_of_no_sems (by decide) r.2⟩) (ResNormRefIdeal.Value.run (F := Ideal) m ρ)
end Cert.ResNorm
-- ==== Proof.ResNormC.lean ====
/- The row by row call `resnorm_c`: what its arrays hold after the run, and every claim about it. -/
module
public import proofs.«01_k».proof.Defs
public import proofs.«01_k».proof.Proof.Gen.ResNormC.Frame
public import proofs.«01_k».proof.Proof.Gen.ResNormCIdeal.Value
public import proofs.«01_k».proof.Proof.Gen.ResNormCRefIdeal.Run
public import proofs.«01_k».proof.Proof.Gen.ResNormCRefIdeal.Read
public import proofs.«01_k».proof.Proof.Rows
public import Idealize.ShloMosaic.Lib.Quiescent
@[expose] public section
set_option maxRecDepth 16384
noncomputable section
namespace Cert.ResNormCIdeal.Blocks
open Cert.ResNormCIdeal Cert.ResNormCIdeal.Gen Idealize.ShloMosaic Idealize.ShloMosaic.TcCoe Idealize.SL.Sem Cert.Rows
open scoped BigOperators

/-- The row with the normalised one added. -/
def added (x : Fin 1024 → EReal) (y : Fin 1024 → EReal) (w1 : Fin 1024 → EReal) (w2 : Fin 1024 → EReal) (j : Fin 1024) : EReal := x j + y j * Ideal.rsqrt (Ideal.div (∑ k, y k * y k) (Ideal.ofBits .f32 0x44800000#32) + Ideal.ofBits .f32 0x358637BD#32) * w1 j
/-- That row normalised. -/
def normed (x : Fin 1024 → EReal) (y : Fin 1024 → EReal) (w1 : Fin 1024 → EReal) (w2 : Fin 1024 → EReal) (j : Fin 1024) : EReal := (added x y w1 w2) j * Ideal.rsqrt (Ideal.div (∑ k, (added x y w1 w2) k * (added x y w1 w2) k) (Ideal.ofBits .f32 0x44800000#32) + Ideal.ofBits .f32 0x358637BD#32) * w2 j
theorem outW4 {F : FTy → Type} [FloatOps F] (x0 x1 : Vec F S512x1024 .f32) (x2 x3 : Vec F S1x1024 .f32) : out0_4 x0 x1 x2 x3 = k0_pay1 x0 x1 x2 := by
  unfold out0_4
  rw [View.canon_unit_zero hz]
  simp only [View.ld_unit_zero (S := S512x1024) hz, View.ld_unit_zero (S := S1x1024) hz]
theorem pay4 (x0 x1 : FVec Ideal S512x1024 .f32) (x2 x3 : FVec Ideal S1x1024 .f32) (r : Fin 512) (d : Fin 1024) :
    k0_pay1 (F := Ideal) x0 x1 x2 (ix2 r d) = added (fun x => x0 (ix2 r x)) (fun x => x1 (ix2 r x)) (fun x => x2 (ix2 0 x)) (fun x => x3 (ix2 0 x)) d := by
  unfold added
  pointwise [k0_pay1, k0_pay2]
theorem outW5 {F : FTy → Type} [FloatOps F] (x0 x1 : Vec F S512x1024 .f32) (x2 x3 : Vec F S1x1024 .f32) : out0_5 x0 x1 x2 x3 = k0_pay2 x0 x1 x2 x3 := by
  unfold out0_5
  rw [View.canon_unit_zero hz]
  simp only [View.ld_unit_zero (S := S512x1024) hz, View.ld_unit_zero (S := S1x1024) hz]
theorem pay5 (x0 x1 : FVec Ideal S512x1024 .f32) (x2 x3 : FVec Ideal S1x1024 .f32) (r : Fin 512) (d : Fin 1024) :
    k0_pay2 (F := Ideal) x0 x1 x2 x3 (ix2 r d) = normed (fun x => x0 (ix2 r x)) (fun x => x1 (ix2 r x)) (fun x => x2 (ix2 0 x)) (fun x => x3 (ix2 0 x)) d := by
  unfold normed added
  pointwise [k0_pay1, k0_pay2]

variable (m : (ℓ : Loc nD τ sig) → Buf (Elt Ideal) ℓ) (c : Dev nD)

theorem ltN (t : Fin cfg0.N) : t.val < 16 := by have h := t.isLt; have e : cfg0.N = 16 := N_0; omega
/-- The row a block's row stands for at point `t`. -/
def row (t : Fin cfg0.N) (r : Fin 512) : Fin 8192 := ⟨t.val * 512 + r.val, by have := ltN t; omega⟩
def tile (r : Fin 8192) : Fin cfg0.N := ⟨r.val / 512, by rw [show cfg0.N = 16 from N_0]; omega⟩
abbrev A0 : Fin 8192 → Fin 1024 → EReal := fun i x => m ((c : Thread nD τ).loc main_arg0) (ix2 i x)
abbrev A1 : Fin 8192 → Fin 1024 → EReal := fun i x => m ((c : Thread nD τ).loc main_arg1) (ix2 i x)
abbrev A2 : Fin 1 → Fin 1024 → EReal := fun i x => m ((c : Thread nD τ).loc main_arg2) (ix2 i x)
abbrev A3 : Fin 1 → Fin 1024 → EReal := fun i x => m ((c : Thread nD τ).loc main_arg3) (ix2 i x)
def res4 : Buf (Elt Ideal) ((c : Thread nD τ).loc main_v0_0) := fun i : S8192x1024.Idx => added (A0 m c (i 0)) (A1 m c (i 0)) (A2 m c 0) (A3 m c 0) (i 1)
def res5 : Buf (Elt Ideal) ((c : Thread nD τ).loc main_v0_1) := fun i : S8192x1024.Idx => normed (A0 m c (i 0)) (A1 m c (i 0)) (A2 m c 0) (A3 m c 0) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
def b0 (t : Fin cfg0.N) : FVec Ideal S512x1024 .f32 := iblk m c 0 t
theorem blk0 (t : Fin cfg0.N) (r : Fin 512) : (fun x => b0 m c t (ix2 r x)) = A0 m c (row t r) := funext fun x => by
  unfold b0 iblk
  rw [View.read_apply]
  exact congrArg (m ((c : Thread nD τ).loc main_arg0)) (idx2_ext _ _ (off0 (idx0 t) 512 r.val) (off1z (idx0 t) 1024 x.val))
def b1 (t : Fin cfg0.N) : FVec Ideal S512x1024 .f32 := iblk m c 1 t
theorem blk1 (t : Fin cfg0.N) (r : Fin 512) : (fun x => b1 m c t (ix2 r x)) = A1 m c (row t r) := funext fun x => by
  unfold b1 iblk
  rw [View.read_apply]
  exact congrArg (m ((c : Thread nD τ).loc main_arg1)) (idx2_ext _ _ (off0 (idx1 t) 512 r.val) (off1z (idx1 t) 1024 x.val))
def b2 (t : Fin cfg0.N) : FVec Ideal S1x1024 .f32 := iblk m c 2 t
theorem blk2 (t : Fin cfg0.N) : (fun x => b2 m c t (ix2 0 x)) = A2 m c 0 := funext fun x => by
  unfold b2 iblk
  rw [View.read_apply]
  exact congrArg (m ((c : Thread nD τ).loc main_arg2)) (idx2_ext _ _ (off0z (idx2 t) 1 0) (off1z (idx2 t) 1024 x.val))
def b3 (t : Fin cfg0.N) : FVec Ideal S1x1024 .f32 := iblk m c 3 t
theorem blk3 (t : Fin cfg0.N) : (fun x => b3 m c t (ix2 0 x)) = A3 m c 0 := funext fun x => by
  unfold b3 iblk
  rw [View.read_apply]
  exact congrArg (m ((c : Thread nD τ).loc main_arg3)) (idx2_ext _ _ (off0z (idx3 t) 1 0) (off1z (idx3 t) 1024 x.val))
theorem at_out4 (t : Fin cfg0.N) (r : Fin 512) (d : Fin 1024) :
    out0_4 (F := Ideal) (b0 m c t) (b1 m c t) (b2 m c t) (b3 m c t) (ix2 r d) = added (A0 m c (row t r)) (A1 m c (row t r)) (A2 m c 0) (A3 m c 0) d := by
  rw [outW4, pay4 (b0 m c t) (b1 m c t) (b2 m c t) (b3 m c t) r d]
  rw [blk0, blk1, blk2, blk3]
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) d := idx2_ext _ _
    (off0 (idx4 t) 512 r.val)
    (off1z (idx4 t) 1024 d.val)
  rw [View.read_apply, he]
  exact at_out4 m c t r d
theorem final4 : (Gen.dats m 0 c).arrAt 4 cfg0.N = res4 m c :=
  (Gen.dats m 0 c).arrAt_eq_of_cover 4 (res4 m c) (flushes4 m c) fun i => by
    let t := tile (i 0)
    refine ⟨t, flush0_4 t, ?_⟩
    show i ∈ ((View.whole main_v0_0).slice (win0_4.rect t)).set
    rw [View.set_slice_whole, Rect.mem_set_unit]
    exact inRows (s := ![512, 1024]) (i := fun a => (i a).val) (idx4 t) rfl (by decide) (i 1).isLt
theorem at_out5 (t : Fin cfg0.N) (r : Fin 512) (d : Fin 1024) :
    out0_5 (F := Ideal) (b0 m c t) (b1 m c t) (b2 m c t) (b3 m c t) (ix2 r d) = normed (A0 m c (row t r)) (A1 m c (row t r)) (A2 m c 0) (A3 m c 0) d := by
  rw [outW5, pay5 (b0 m c t) (b1 m c t) (b2 m c t) (b3 m c t) r d]
  rw [blk0, blk1, blk2, blk3]
theorem flushes5 (t : Fin cfg0.N) (hf : (cfg0.win 5).flush t = true) :
    (Gen.dats m 0 c).flushed 5 t = ((cfg0.win 5).blk t).view.read (Elt Ideal) (res5 m c) := by
  rw [Value.flushed5]
  refine funext2 fun r d => ?_
  have he : ((cfg0.win 5).blk t).view.emb (ix2 r d) = ix2 (row t r) d := idx2_ext _ _
    (off0 (idx5 t) 512 r.val)
    (off1z (idx5 t) 1024 d.val)
  rw [View.read_apply, he]
  exact at_out5 m c t r d
theorem final5 : (Gen.dats m 0 c).arrAt 5 cfg0.N = res5 m c :=
  (Gen.dats m 0 c).arrAt_eq_of_cover 5 (res5 m c) (flushes5 m c) fun i => by
    let t := tile (i 0)
    refine ⟨t, flush0_5 t, ?_⟩
    show i ∈ ((View.whole main_v0_1).slice (win0_5.rect t)).set
    rw [View.set_slice_whole, Rect.mem_set_unit]
    exact inRows (s := ![512, 1024]) (i := fun a => (i a).val) (idx5 t) rfl (by decide) (i 1).isLt
end Cert.ResNormCIdeal.Blocks

namespace Cert.ResNormC
open Idealize.ShloMosaic Idealize.SL.Sem ResNormCIdeal ResNormCRefIdeal.Read Cert.Rows
open scoped BigOperators

/-- The reference's results, and that they are the kernel's. -/
theorem reference_at4 (x0 x1 : FVec Ideal S8192x1024 .f32) (x2 x3 : FVec Ideal S1x1024 .f32) (i : Fin 8192) (j : Fin 1024) :
    val_main_v14 (F := Ideal) x0 x1 x2 (ix2 i j) = Blocks.added (fun x => x0 (ix2 i x)) (fun x => x1 (ix2 i x)) (fun x => x2 (ix2 0 x)) (fun x => x3 (ix2 0 x)) j := by
  unfold Blocks.added
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_cst_2, val_main_v17, val_main_v18, val_main_cst_3, val_main_v19, val_main_v20, val_main_cst_4, val_main_v21, val_main_v22, val_main_v23, val_main_v24, val_main_v25, val_main_v26, val_main_v27, val_main_v28]
theorem reference_at5 (x0 x1 : FVec Ideal S8192x1024 .f32) (x2 x3 : FVec Ideal S1x1024 .f32) (i : Fin 8192) (j : Fin 1024) :
    val_main_v28 (F := Ideal) x0 x1 x2 x3 (ix2 i j) = Blocks.normed (fun x => x0 (ix2 i x)) (fun x => x1 (ix2 i x)) (fun x => x2 (ix2 0 x)) (fun x => x3 (ix2 0 x)) j := by
  unfold Blocks.normed Blocks.added
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_cst_2, val_main_v17, val_main_v18, val_main_cst_3, val_main_v19, val_main_v20, val_main_cst_4, val_main_v21, val_main_v22, val_main_v23, val_main_v24, val_main_v25, val_main_v26, val_main_v27, val_main_v28]

theorem algebraic : algebraic_ResNormCIdeal_ResNormCRefIdeal := by
  intro m g m' g' _ e
  refine ⟨fun c => ResNormCIdeal.Blocks.res4 m c, fun c => ResNormCIdeal.Blocks.res5 m c, ?_, ?_⟩
  · refine (θ_run ResNormCIdeal.defs _ _).mono (fun r H c => ?_) (ResNormCIdeal.Value.run_blocks (F := Ideal) m g)
    exact ⟨(H c).1.trans (ResNormCIdeal.Blocks.final4 m c), (H c).2.1.trans (ResNormCIdeal.Blocks.final5 m c), (H c).2.2⟩
  · refine (θ_run ResNormCRefIdeal.defs _ _).mono (fun r H c => ?_) (ResNormCRefIdeal.Value.run (F := Ideal) m' g')
    refine ⟨(H c).1.trans ?_, (H c).2.1.trans ?_, (H c).2.2⟩
    · rw [val_main_v14_eq, (e c).1, (e c).2.1, (e c).2.2.1]
      funext i
      idx_vars i
      exact reference_at4 _ _ _ (m ((c.tc : Thread ResNormCIdeal.nD ResNormCIdeal.τ).loc ResNormCIdeal.main_arg3)) i0 i1
    · rw [val_main_v28_eq, (e c).1, (e c).2.1, (e c).2.2.1, (e c).2.2.2]
      funext i
      idx_vars i
      exact reference_at5 _ _ _ _ i0 i1

theorem reference_frame : quiescent_ResNormCRefIdeal := fun m ρ _ =>
  (θ_run ResNormCRefIdeal.defs _ _).mono (fun r h => ⟨fun c => (h c).2.2, sem_eq_zero_of_no_sems (by decide) r.2⟩) (ResNormCRefIdeal.Value.run (F := Ideal) m ρ)
end Cert.ResNormC
-- ==== Proof.Gelu.lean ====
/- The row by row call `s5_gelu`: what its arrays hold after the run, and every claim about it. -/
module
public import proofs.«01_k».proof.Defs
public import proofs.«01_k».proof.Proof.Gen.Gelu.Frame
public import proofs.«01_k».proof.Proof.Gen.GeluIdeal.Value
public import proofs.«01_k».proof.Proof.Gen.GeluRefIdeal.Run
public import proofs.«01_k».proof.Proof.Gen.GeluRefIdeal.Read
public import proofs.«01_k».proof.Proof.Rows
public import Idealize.ShloMosaic.Lib.Quiescent
@[expose] public section
set_option maxRecDepth 16384
noncomputable section
namespace Cert.GeluIdeal.Blocks
open Cert.GeluIdeal Cert.GeluIdeal.Gen Idealize.ShloMosaic Idealize.ShloMosaic.TcCoe Idealize.SL.Sem Cert.Rows
open scoped BigOperators

/-- The row with the skip added. -/
def added (yc : Fin 1024 → EReal) (h : Fin 1024 → EReal) (d : Fin 1024 → EReal) (j : Fin 1024) : EReal := yc j + d j * h j
/-- Its GELU. -/
def gelu (yc : Fin 1024 → EReal) (h : Fin 1024 → EReal) (d : Fin 1024 → EReal) (j : Fin 1024) : EReal := Ideal.ofBits .f32 0x3F000000#32 * added yc h d j * (1 + Ideal.erf (added yc h d j * Ideal.ofBits .f32 0x3F3504F3#32))
theorem outW3 {F : FTy → Type} [FloatOps F] (x0 x1 : Vec F S512x1024 .f32) (x2 : Vec F S1x1024 .f32) : out0_3 x0 x1 x2 = k0_pay1 x0 x1 x2 := by
  unfold out0_3
  rw [View.canon_unit_zero hz]
  simp only [View.ld_unit_zero (S := S512x1024) hz, View.ld_unit_zero (S := S1x1024) hz]
theorem pay3 (x0 x1 : FVec Ideal S512x1024 .f32) (x2 : FVec Ideal S1x1024 .f32) (r : Fin 512) (d : Fin 1024) :
    k0_pay1 (F := Ideal) x0 x1 x2 (ix2 r d) = added (fun x => x0 (ix2 r x)) (fun x => x1 (ix2 r x)) (fun x => x2 (ix2 0 x)) d := by
  unfold added
  pointwise [k0_pay1, k0_pay2]
theorem outW4 {F : FTy → Type} [FloatOps F] (x0 x1 : Vec F S512x1024 .f32) (x2 : Vec F S1x1024 .f32) : out0_4 x0 x1 x2 = k0_pay2 x0 x1 x2 := by
  unfold out0_4
  rw [View.canon_unit_zero hz]
  simp only [View.ld_unit_zero (S := S512x1024) hz, View.ld_unit_zero (S := S1x1024) hz]
theorem pay4 (x0 x1 : FVec Ideal S512x1024 .f32) (x2 : FVec Ideal S1x1024 .f32) (r : Fin 512) (d : Fin 1024) :
    k0_pay2 (F := Ideal) x0 x1 x2 (ix2 r d) = gelu (fun x => x0 (ix2 r x)) (fun x => x1 (ix2 r x)) (fun x => x2 (ix2 0 x)) d := by
  unfold gelu added
  pointwise [k0_pay1, k0_pay2]
  rfl

variable (m : (ℓ : Loc nD τ sig) → Buf (Elt Ideal) ℓ) (c : Dev nD)

theorem ltN (t : Fin cfg0.N) : t.val < 16 := by have h := t.isLt; have e : cfg0.N = 16 := N_0; omega
/-- The row a block's row stands for at point `t`. -/
def row (t : Fin cfg0.N) (r : Fin 512) : Fin 8192 := ⟨t.val * 512 + r.val, by have := ltN t; omega⟩
def tile (r : Fin 8192) : Fin cfg0.N := ⟨r.val / 512, by rw [show cfg0.N = 16 from N_0]; omega⟩
abbrev A0 : Fin 8192 → Fin 1024 → EReal := fun i x => m ((c : Thread nD τ).loc main_arg0) (ix2 i x)
abbrev A1 : Fin 8192 → Fin 1024 → EReal := fun i x => m ((c : Thread nD τ).loc main_arg1) (ix2 i x)
abbrev A2 : Fin 1 → Fin 1024 → EReal := fun i x => m ((c : Thread nD τ).loc main_arg2) (ix2 i x)
def res3 : Buf (Elt Ideal) ((c : Thread nD τ).loc main_v0_0) := fun i : S8192x1024.Idx => added (A0 m c (i 0)) (A1 m c (i 0)) (A2 m c 0) (i 1)
def res4 : Buf (Elt Ideal) ((c : Thread nD τ).loc main_v0_1) := fun i : S8192x1024.Idx => gelu (A0 m c (i 0)) (A1 m c (i 0)) (A2 m c 0) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![t.val, 0] := by decide +kernel
def b0 (t : Fin cfg0.N) : FVec Ideal S512x1024 .f32 := iblk m c 0 t
theorem blk0 (t : Fin cfg0.N) (r : Fin 512) : (fun x => b0 m c t (ix2 r x)) = A0 m c (row t r) := funext fun x => by
  unfold b0 iblk
  rw [View.read_apply]
  exact congrArg (m ((c : Thread nD τ).loc main_arg0)) (idx2_ext _ _ (off0 (idx0 t) 512 r.val) (off1z (idx0 t) 1024 x.val))
def b1 (t : Fin cfg0.N) : FVec Ideal S512x1024 .f32 := iblk m c 1 t
theorem blk1 (t : Fin cfg0.N) (r : Fin 512) : (fun x => b1 m c t (ix2 r x)) = A1 m c (row t r) := funext fun x => by
  unfold b1 iblk
  rw [View.read_apply]
  exact congrArg (m ((c : Thread nD τ).loc main_arg1)) (idx2_ext _ _ (off0 (idx1 t) 512 r.val) (off1z (idx1 t) 1024 x.val))
def b2 (t : Fin cfg0.N) : FVec Ideal S1x1024 .f32 := iblk m c 2 t
theorem blk2 (t : Fin cfg0.N) : (fun x => b2 m c t (ix2 0 x)) = A2 m c 0 := funext fun x => by
  unfold b2 iblk
  rw [View.read_apply]
  exact congrArg (m ((c : Thread nD τ).loc main_arg2)) (idx2_ext _ _ (off0z (idx2 t) 1 0) (off1z (idx2 t) 1024 x.val))
theorem at_out3 (t : Fin cfg0.N) (r : Fin 512) (d : Fin 1024) :
    out0_3 (F := Ideal) (b0 m c t) (b1 m c t) (b2 m c t) (ix2 r d) = added (A0 m c (row t r)) (A1 m c (row t r)) (A2 m c 0) d := by
  rw [outW3, pay3 (b0 m c t) (b1 m c t) (b2 m c t) r d]
  rw [blk0, blk1, blk2]
theorem flushes3 (t : Fin cfg0.N) (hf : (cfg0.win 3).flush t = true) :
    (Gen.dats m 0 c).flushed 3 t = ((cfg0.win 3).blk t).view.read (Elt Ideal) (res3 m c) := by
  rw [Value.flushed3]
  refine funext2 fun r d => ?_
  have he : ((cfg0.win 3).blk t).view.emb (ix2 r d) = ix2 (row t r) d := idx2_ext _ _
    (off0 (idx3 t) 512 r.val)
    (off1z (idx3 t) 1024 d.val)
  rw [View.read_apply, he]
  exact at_out3 m c t r d
theorem final3 : (Gen.dats m 0 c).arrAt 3 cfg0.N = res3 m c :=
  (Gen.dats m 0 c).arrAt_eq_of_cover 3 (res3 m c) (flushes3 m c) fun i => by
    let t := tile (i 0)
    refine ⟨t, flush0_3 t, ?_⟩
    show i ∈ ((View.whole main_v0_0).slice (win0_3.rect t)).set
    rw [View.set_slice_whole, Rect.mem_set_unit]
    exact inRows (s := ![512, 1024]) (i := fun a => (i a).val) (idx3 t) rfl (by decide) (i 1).isLt
theorem at_out4 (t : Fin cfg0.N) (r : Fin 512) (d : Fin 1024) :
    out0_4 (F := Ideal) (b0 m c t) (b1 m c t) (b2 m c t) (ix2 r d) = gelu (A0 m c (row t r)) (A1 m c (row t r)) (A2 m c 0) d := by
  rw [outW4, pay4 (b0 m c t) (b1 m c t) (b2 m c t) r d]
  rw [blk0, blk1, blk2]
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) d := idx2_ext _ _
    (off0 (idx4 t) 512 r.val)
    (off1z (idx4 t) 1024 d.val)
  rw [View.read_apply, he]
  exact at_out4 m c t r d
theorem final4 : (Gen.dats m 0 c).arrAt 4 cfg0.N = res4 m c :=
  (Gen.dats m 0 c).arrAt_eq_of_cover 4 (res4 m c) (flushes4 m c) fun i => by
    let t := tile (i 0)
    refine ⟨t, flush0_4 t, ?_⟩
    show i ∈ ((View.whole main_v0_1).slice (win0_4.rect t)).set
    rw [View.set_slice_whole, Rect.mem_set_unit]
    exact inRows (s := ![512, 1024]) (i := fun a => (i a).val) (idx4 t) rfl (by decide) (i 1).isLt
end Cert.GeluIdeal.Blocks

namespace Cert.Gelu
open Idealize.ShloMosaic Idealize.SL.Sem GeluIdeal GeluRefIdeal.Read Cert.Rows
open scoped BigOperators

/-- The reference's results, and that they are the kernel's. -/
theorem reference_at3 (x0 x1 : FVec Ideal S8192x1024 .f32) (x2 : FVec Ideal S1x1024 .f32) (i : Fin 8192) (j : Fin 1024) :
    val_main_v4 (F := Ideal) x0 x1 x2 (ix2 i j) = Blocks.added (fun x => x0 (ix2 i x)) (fun x => x1 (ix2 i x)) (fun x => x2 (ix2 0 x)) j := by
  unfold Blocks.added
  pointwise [val_main_v0, val_main_v1, val_main_v2, val_main_v3, val_main_v4, val_main_cst, val_main_v5, val_main_v6, val_main_v7, val_main_cst_0, val_main_v8, val_main_v9, val_main_v10, val_main_v11, val_main_v12]
theorem reference_at4 (x0 x1 : FVec Ideal S8192x1024 .f32) (x2 : FVec Ideal S1x1024 .f32) (i : Fin 8192) (j : Fin 1024) :
    val_main_v12 (F := Ideal) x0 x1 x2 (ix2 i j) = Blocks.gelu (fun x => x0 (ix2 i x)) (fun x => x1 (ix2 i x)) (fun x => x2 (ix2 0 x)) j := by
  unfold Blocks.gelu Blocks.added
  pointwise [val_main_v0, val_main_v1, val_main_v2, val_main_v3, val_main_v4, val_main_cst, val_main_v5, val_main_v6, val_main_v7, val_main_cst_0, val_main_v8, val_main_v9, val_main_v10, val_main_v11, val_main_v12]
  rw [Rows.erfc_neg]

theorem algebraic : algebraic_GeluIdeal_GeluRefIdeal := by
  intro m g m' g' _ e
  refine ⟨fun c => GeluIdeal.Blocks.res3 m c, fun c => GeluIdeal.Blocks.res4 m c, ?_, ?_⟩
  · refine (θ_run GeluIdeal.defs _ _).mono (fun r H c => ?_) (GeluIdeal.Value.run_blocks (F := Ideal) m g)
    exact ⟨(H c).1.trans (GeluIdeal.Blocks.final3 m c), (H c).2.1.trans (GeluIdeal.Blocks.final4 m c), (H c).2.2⟩
  · refine (θ_run GeluRefIdeal.defs _ _).mono (fun r H c => ?_) (GeluRefIdeal.Value.run (F := Ideal) m' g')
    refine ⟨(H c).1.trans ?_, (H c).2.1.trans ?_, (H c).2.2⟩
    · rw [val_main_v4_eq, (e c).1, (e c).2.1, (e c).2.2]
      funext i
      idx_vars i
      exact reference_at3 _ _ _ i0 i1
    · rw [val_main_v12_eq, (e c).1, (e c).2.1, (e c).2.2]
      funext i
      idx_vars i
      exact reference_at4 _ _ _ i0 i1

theorem reference_frame : quiescent_GeluRefIdeal := fun m ρ _ =>
  (θ_run GeluRefIdeal.defs _ _).mono (fun r h => ⟨fun c => (h c).2.2, sem_eq_zero_of_no_sems (by decide) r.2⟩) (GeluRefIdeal.Value.run (F := Ideal) m ρ)
end Cert.Gelu
-- ==== Proof.GateB.lean ====
/- The row by row call `b_s5_gate`: what its arrays hold after the run, and every claim about it. -/
module
public import proofs.«01_k».proof.Defs
public import proofs.«01_k».proof.Proof.Gen.GateB.Frame
public import proofs.«01_k».proof.Proof.Gen.GateBIdeal.Value
public import proofs.«01_k».proof.Proof.Gen.GateBRefIdeal.Run
public import proofs.«01_k».proof.Proof.Gen.GateBRefIdeal.Read
public import proofs.«01_k».proof.Proof.Rows
public import Idealize.ShloMosaic.Lib.Quiescent
@[expose] public section
set_option maxRecDepth 16384
noncomputable section
namespace Cert.GateBIdeal.Blocks
open Cert.GateBIdeal Cert.GateBIdeal.Gen Idealize.ShloMosaic Idealize.ShloMosaic.TcCoe Idealize.SL.Sem Cert.Rows
open scoped BigOperators

/-- The gradients of the two halves, side by side. -/
def back (za : Fin 1024 → EReal) (zb : Fin 1024 → EReal) (dy : Fin 1024 → EReal) (j : Fin 2048) : EReal := if hj : j.val < 1024 then dy ⟨j.val, hj⟩ * Ideal.logistic (zb ⟨j.val, hj⟩) else dy ⟨j.val - 1024, by omega⟩ * za ⟨j.val - 1024, by omega⟩ * Ideal.logistic (zb ⟨j.val - 1024, by omega⟩) * (1 - Ideal.logistic (zb ⟨j.val - 1024, by omega⟩))
theorem outW3 {F : FTy → Type} [FloatOps F] (x0 x1 : Vec F S512x1024 .bf16) (x2 : Vec F S512x1024 .f32) : out0_3 x0 x1 x2 = k0_pay1 x0 x1 x2 := by
  unfold out0_3
  rw [View.canon_unit_zero hz]
  simp only [View.ld_unit_zero (S := S512x1024) hz]
theorem pay3 (x0 x1 : FVec Ideal S512x1024 .bf16) (x2 : FVec Ideal S512x1024 .f32) (r : Fin 512) (d : Fin 2048) :
    k0_pay1 (F := Ideal) x0 x1 x2 (ix2 r d) = back (fun x => x0 (ix2 r x)) (fun x => x1 (ix2 r x)) (fun x => x2 (ix2 r x)) d := by
  unfold back
  pointwise [k0_pay1]

variable (m : (ℓ : Loc nD τ sig) → Buf (Elt Ideal) ℓ) (c : Dev nD)

theorem ltN (t : Fin cfg0.N) : t.val < 16 := by have h := t.isLt; have e : cfg0.N = 16 := N_0; omega
/-- The row a block's row stands for at point `t`. -/
def row (t : Fin cfg0.N) (r : Fin 512) : Fin 8192 := ⟨t.val * 512 + r.val, by have := ltN t; omega⟩
def tile (r : Fin 8192) : Fin cfg0.N := ⟨r.val / 512, by rw [show cfg0.N = 16 from N_0]; omega⟩
abbrev A0 : Fin 8192 → Fin 1024 → EReal := fun i x => m ((c : Thread nD τ).loc main_arg0) (ix2 i x)
abbrev A1 : Fin 8192 → Fin 1024 → EReal := fun i x => m ((c : Thread nD τ).loc main_arg1) (ix2 i x)
abbrev A2 : Fin 8192 → Fin 1024 → EReal := fun i x => m ((c : Thread nD τ).loc main_arg2) (ix2 i x)
def res3 : Buf (Elt Ideal) ((c : Thread nD τ).loc main_v0) := fun i : S8192x2048.Idx => back (A0 m c (i 0)) (A1 m c (i 0)) (A2 m c (i 0)) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
def b0 (t : Fin cfg0.N) : FVec Ideal S512x1024 .bf16 := iblk m c 0 t
theorem blk0 (t : Fin cfg0.N) (r : Fin 512) : (fun x => b0 m c t (ix2 r x)) = A0 m c (row t r) := funext fun x => by
  unfold b0 iblk
  rw [View.read_apply]
  exact congrArg (m ((c : Thread nD τ).loc main_arg0)) (idx2_ext _ _ (off0 (idx0 t) 512 r.val) (off1z (idx0 t) 1024 x.val))
def b1 (t : Fin cfg0.N) : FVec Ideal S512x1024 .bf16 := iblk m c 1 t
theorem blk1 (t : Fin cfg0.N) (r : Fin 512) : (fun x => b1 m c t (ix2 r x)) = A1 m c (row t r) := funext fun x => by
  unfold b1 iblk
  rw [View.read_apply]
  exact congrArg (m ((c : Thread nD τ).loc main_arg1)) (idx2_ext _ _ (off0 (idx1 t) 512 r.val) (off1z (idx1 t) 1024 x.val))
def b2 (t : Fin cfg0.N) : FVec Ideal S512x1024 .f32 := iblk m c 2 t
theorem blk2 (t : Fin cfg0.N) (r : Fin 512) : (fun x => b2 m c t (ix2 r x)) = A2 m c (row t r) := funext fun x => by
  unfold b2 iblk
  rw [View.read_apply]
  exact congrArg (m ((c : Thread nD τ).loc main_arg2)) (idx2_ext _ _ (off0 (idx2 t) 512 r.val) (off1z (idx2 t) 1024 x.val))
theorem at_out3 (t : Fin cfg0.N) (r : Fin 512) (d : Fin 2048) :
    out0_3 (F := Ideal) (b0 m c t) (b1 m c t) (b2 m c t) (ix2 r d) = back (A0 m c (row t r)) (A1 m c (row t r)) (A2 m c (row t r)) d := by
  rw [outW3, pay3 (b0 m c t) (b1 m c t) (b2 m c t) r d]
  rw [blk0, blk1, blk2]
theorem flushes3 (t : Fin cfg0.N) (hf : (cfg0.win 3).flush t = true) :
    (Gen.dats m 0 c).flushed 3 t = ((cfg0.win 3).blk t).view.read (Elt Ideal) (res3 m c) := by
  rw [Value.flushed3]
  refine funext2 fun r d => ?_
  have he : ((cfg0.win 3).blk t).view.emb (ix2 r d) = ix2 (row t r) d := idx2_ext _ _
    (off0 (idx3 t) 512 r.val)
    (off1z (idx3 t) 2048 d.val)
  rw [View.read_apply, he]
  exact at_out3 m c t r d
theorem final3 : (Gen.dats m 0 c).arrAt 3 cfg0.N = res3 m c :=
  (Gen.dats m 0 c).arrAt_eq_of_cover 3 (res3 m c) (flushes3 m c) fun i => by
    let t := tile (i 0)
    refine ⟨t, flush0_3 t, ?_⟩
    show i ∈ ((View.whole main_v0).slice (win0_3.rect t)).set
    rw [View.set_slice_whole, Rect.mem_set_unit]
    exact inRows (s := ![512, 2048]) (i := fun a => (i a).val) (idx3 t) rfl (by decide) (i 1).isLt
end Cert.GateBIdeal.Blocks

namespace Cert.GateB
open Idealize.ShloMosaic Idealize.SL.Sem GateBIdeal GateBRefIdeal.Read Cert.Rows
open scoped BigOperators

/-- The reference's results, and that they are the kernel's. -/
theorem reference_at3 (x0 x1 : FVec Ideal S8192x1024 .bf16) (x2 : FVec Ideal S8192x1024 .f32) (i : Fin 8192) (j : Fin 2048) :
    val_main_v20 (F := Ideal) x0 x1 x2 (ix2 i j) = Blocks.back (fun x => x0 (ix2 i x)) (fun x => x1 (ix2 i x)) (fun x => x2 (ix2 i x)) j := by
  unfold Blocks.back Ideal.logistic
  pointwise [val_main_v0, val_main_v1, val_main_v2, val_main_v3, val_main_v4, val_main_v5, val_main_cst, val_main_v6, val_main_v7, val_main_cst_0, val_main_v8, val_main_v9, val_main_cst_1, val_main_v10, val_main_v11, val_main_v12, val_main_v13, val_main_v14, val_main_v15, val_main_v16, val_main_cst_2, val_main_v17, val_main_cst_3, val_main_v18, val_main_v19, val_main_v20]
  by_cases hj : j.val < 1024
  · have h1 : ¬ (1024 ≤ j.val ∧ j.val - 1024 < 1024) := by omega
    simp only [hj, h1, dite_true, dite_false, zero_add]
  · have h1 : 1024 ≤ j.val ∧ j.val - 1024 < 1024 := by omega
    simp only [hj, h1, h1.2, and_self, dite_true, dite_false, add_zero]
    rw [mul_comm (x0 _) (x2 _), mul_assoc (x2 _ * x0 _)]

theorem algebraic : algebraic_GateBIdeal_GateBRefIdeal := by
  intro m g m' g' _ e
  refine ⟨fun c => GateBIdeal.Blocks.res3 m c, ?_, ?_⟩
  · refine (θ_run GateBIdeal.defs _ _).mono (fun r H c => ?_) (GateBIdeal.Value.run_blocks (F := Ideal) m g)
    exact ⟨(H c).1.trans (GateBIdeal.Blocks.final3 m c), (H c).2⟩
  · refine (θ_run GateBRefIdeal.defs _ _).mono (fun r H c => ?_) (GateBRefIdeal.Value.run (F := Ideal) m' g')
    refine ⟨(H c).1.trans ?_, (H c).2⟩
    · rw [val_main_v20_eq, (e c).1, (e c).2.1, (e c).2.2]
      funext i
      idx_vars i
      exact reference_at3 _ _ _ i0 i1

theorem reference_frame : quiescent_GateBRefIdeal := fun m ρ _ =>
  (θ_run GateBRefIdeal.defs _ _).mono (fun r h => ⟨fun c => (h c).2, sem_eq_zero_of_no_sems (by decide) r.2⟩) (GateBRefIdeal.Value.run (F := Ideal) m ρ)
end Cert.GateB
-- ==== Proof.SumSlots.lean ====
/- The sum of the four chips' parts, the call `small_sum`: what its arrays hold after the run, and every claim about it. -/
module
public import proofs.«01_k».proof.Defs
public import proofs.«01_k».proof.Proof.Gen.SumSlots.Frame
public import proofs.«01_k».proof.Proof.Gen.SumSlotsIdeal.Value
public import proofs.«01_k».proof.Proof.Gen.SumSlotsRefIdeal.Run
public import proofs.«01_k».proof.Proof.Gen.SumSlotsRefIdeal.Read
public import proofs.«01_k».proof.Proof.Rows
public import Idealize.ShloMosaic.Lib.Quiescent
@[expose] public section
set_option maxRecDepth 16384
noncomputable section
namespace Cert.SumSlotsIdeal.Blocks
open Cert.SumSlotsIdeal Cert.SumSlotsIdeal.Gen Idealize.ShloMosaic Idealize.ShloMosaic.TcCoe Idealize.SL.Sem Cert.Rows
open scoped BigOperators

/-- The sum of the four parts' entries. -/
def total (x0 x1 x2 x3 : EReal) : EReal := x0 + x1 + x2 + x3
theorem hz3 : (![0, 0, 0] : Fin 3 → Nat) = fun _ => 0 := by funext a; fin_cases a <;> rfl
theorem out4 {F : FTy → Type} [FloatOps F] (x0 x1 x2 x3 : Vec F S1x32x1024 .f32) : out0_4 x0 x1 x2 x3 = k0_pay1 x0 x1 x2 x3 := by
  unfold out0_4
  rw [View.canon_unit_zero hz]
  simp only [View.ld_unit_zero (S := S1x32x1024) hz3]
theorem pay (x0 x1 x2 x3 : FVec Ideal S1x32x1024 .f32) (r : Fin 32) (d : Fin 1024) :
    k0_pay1 (F := Ideal) x0 x1 x2 x3 (ix2 r d) = total (x0 (ix3 0 r d)) (x1 (ix3 0 r d)) (x2 (ix3 0 r d)) (x3 (ix3 0 r d)) := by
  unfold total
  pointwise [k0_pay1]

variable (m : (ℓ : Loc nD τ sig) → Buf (Elt Ideal) ℓ) (c : Dev nD)

theorem ltN (t : Fin cfg0.N) : t.val < 9 := by have h := t.isLt; have e : cfg0.N = 9 := N_0; omega
/-- The row a block's row stands for at point `t`. -/
def row (t : Fin cfg0.N) (r : Fin 32) : Fin 288 := ⟨t.val * 32 + r.val, by have := ltN t; omega⟩
def tile (r : Fin 288) : Fin cfg0.N := ⟨r.val / 32, by rw [show cfg0.N = 9 from N_0]; omega⟩
abbrev A : Fin 4 → Fin 288 → Fin 1024 → EReal := fun k i x => m ((c : Thread nD τ).loc main_arg0) (ix3 k i x)
def res4 : Buf (Elt Ideal) ((c : Thread nD τ).loc main_v0) := fun i : S288x1024.Idx => total (A m c 0 (i 0) (i 1)) (A m c 1 (i 0) (i 1)) (A m c 2 (i 0) (i 1)) (A m c 3 (i 0) (i 1))
theorem idx0 : ∀ t : Fin grid0.N, win0_0.index t = ![0, t.val, 0] := by decide +kernel
theorem idx1 : ∀ t : Fin grid0.N, win0_1.index t = ![1, t.val, 0] := by decide +kernel
theorem idx2 : ∀ t : Fin grid0.N, win0_2.index t = ![2, t.val, 0] := by decide +kernel
theorem idx3 : ∀ t : Fin grid0.N, win0_3.index t = ![3, t.val, 0] := by decide +kernel
theorem idx4 : ∀ t : Fin grid0.N, win0_4.index t = ![t.val, 0] := by decide +kernel
/-- The coordinates of an entry of a part's block. -/
theorem place {i j : S4x288x1024.Idx} {w : Fin 3 → ℕ} {k p : ℕ} (e : w = ![k, p, 0]) (r d : ℕ)
    (i0 : (i 0).val = w 0 * 1 + 1 * 0) (i1 : (i 1).val = w 1 * 32 + 1 * r) (i2 : (i 2).val = w 2 * 1024 + 1 * d)
    (j0 : (j 0).val = k) (j1 : (j 1).val = p * 32 + r) (j2 : (j 2).val = d) : i = j := by
  subst e
  funext a
  apply Fin.ext
  match a with
  | ⟨0, _⟩ => exact i0.trans ((by show k * 1 + 1 * 0 = k; omega : _ = k).trans j0.symm)
  | ⟨1, _⟩ => exact i1.trans ((by show p * 32 + 1 * r = p * 32 + r; omega : _ = p * 32 + r).trans j1.symm)
  | ⟨2, _⟩ => exact i2.trans ((by show 0 * 1024 + 1 * d = d; omega : _ = d).trans j2.symm)
theorem at0 (t : Fin cfg0.N) (r : Fin 32) (d : Fin 1024) : iblk m c 0 t (ix3 0 r d) = A m c 0 (row t r) d := by
  unfold iblk
  rw [View.read_apply]
  exact congrArg (m ((c : Thread nD τ).loc main_arg0)) (place (idx0 t) r.val d.val rfl rfl rfl rfl rfl rfl)
theorem at1 (t : Fin cfg0.N) (r : Fin 32) (d : Fin 1024) : iblk m c 1 t (ix3 0 r d) = A m c 1 (row t r) d := by
  unfold iblk
  rw [View.read_apply]
  exact congrArg (m ((c : Thread nD τ).loc main_arg0)) (place (idx1 t) r.val d.val rfl rfl rfl rfl rfl rfl)
theorem at2 (t : Fin cfg0.N) (r : Fin 32) (d : Fin 1024) : iblk m c 2 t (ix3 0 r d) = A m c 2 (row t r) d := by
  unfold iblk
  rw [View.read_apply]
  exact congrArg (m ((c : Thread nD τ).loc main_arg0)) (place (idx2 t) r.val d.val rfl rfl rfl rfl rfl rfl)
theorem at3 (t : Fin cfg0.N) (r : Fin 32) (d : Fin 1024) : iblk m c 3 t (ix3 0 r d) = A m c 3 (row t r) d := by
  unfold iblk
  rw [View.read_apply]
  exact congrArg (m ((c : Thread nD τ).loc main_arg0)) (place (idx3 t) r.val d.val rfl rfl rfl rfl rfl rfl)
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) d := idx2_ext _ _
    (off0 (idx4 t) 32 r.val)
    (off1z (idx4 t) 1024 d.val)
  rw [View.read_apply, he]
  refine (congrFun (out4 (F := Ideal) _ _ _ _) _).trans ((pay _ _ _ _ r d).trans ?_)
  show total (iblk m c 0 t (ix3 0 r d)) (iblk m c 1 t (ix3 0 r d)) (iblk m c 2 t (ix3 0 r d)) (iblk m c 3 t (ix3 0 r d)) = _
  rw [at0, at1, at2, at3]
  rfl
theorem final4 : (Gen.dats m 0 c).arrAt 4 cfg0.N = res4 m c :=
  (Gen.dats m 0 c).arrAt_eq_of_cover 4 (res4 m c) (flushes4 m c) fun i => by
    let t := tile (i 0)
    refine ⟨t, flush0_4 t, ?_⟩
    show i ∈ ((View.whole main_v0).slice (win0_4.rect t)).set
    rw [View.set_slice_whole, Rect.mem_set_unit]
    exact inRows (s := ![32, 1024]) (i := fun a => (i a).val) (idx4 t) rfl (by decide) (i 1).isLt
end Cert.SumSlotsIdeal.Blocks

namespace Cert.SumSlots
open Idealize.ShloMosaic Idealize.SL.Sem SumSlotsIdeal SumSlotsRefIdeal.Read Cert.Rows
open scoped BigOperators

/-- The reference's result, and that it is the kernel's. -/
theorem reference_at (x0 : FVec Ideal S4x288x1024 .f32) (i : Fin 288) (j : Fin 1024) :
    val_main_v0 (F := Ideal) x0 (ix2 i j) = Blocks.total (x0 (ix3 0 i j)) (x0 (ix3 1 i j)) (x0 (ix3 2 i j)) (x0 (ix3 3 i j)) := by
  unfold Blocks.total
  pointwise [val_main_v0, val_main_cst]
  exact Fin.sum_univ_four _

theorem algebraic : algebraic_SumSlotsIdeal_SumSlotsRefIdeal := by
  intro m g m' g' _ e
  refine ⟨fun c => SumSlotsIdeal.Blocks.res4 m c, ?_, ?_⟩
  · refine (θ_run SumSlotsIdeal.defs _ _).mono (fun r H c => ?_) (SumSlotsIdeal.Value.run_blocks (F := Ideal) m g)
    exact ⟨(H c).1.trans (SumSlotsIdeal.Blocks.final4 m c), (H c).2⟩
  · refine (θ_run SumSlotsRefIdeal.defs _ _).mono (fun r H c => ?_) (SumSlotsRefIdeal.Value.run (F := Ideal) m' g')
    refine ⟨(H c).1.trans ?_, (H c).2⟩
    · rw [val_main_v0_eq, e c]
      funext i
      idx_vars i
      exact reference_at _ i0 i1

theorem reference_frame : quiescent_SumSlotsRefIdeal := fun m ρ _ =>
  (θ_run SumSlotsRefIdeal.defs _ _).mono (fun r h => ⟨fun c => (h c).2, sem_eq_zero_of_no_sems (by decide) r.2⟩) (SumSlotsRefIdeal.Value.run (F := Ideal) m ρ)
end Cert.SumSlots
-- ==== Proof.NormBwd.lean ====
/- The gradient of a row's normalisation, as the kernels write it and as the derivative has it. -/
module
public import proofs.«01_k».proof.Proof.XMath
public import Idealize.ShloMosaic.Lib.Pointwise
@[expose] public section
noncomputable section
open scoped BigOperators
namespace Cert.RowsB
open Idealize.ShloMosaic

/-- The mean square of a row with the small number added, and its inverse root. -/
def msq (x : Fin 1024 → EReal) : EReal := Ideal.div (∑ k, x k * x k) (Ideal.ofBits .f32 0x44800000#32) + Ideal.ofBits .f32 0x358637BD#32
def rinv (x : Fin 1024 → EReal) : EReal := Ideal.rsqrt (msq x)
/-- The gradient for the row, as the kernels write it. -/
def back (x w dy : Fin 1024 → EReal) (d : Fin 1024) : EReal :=
  rinv x * (dy d * w d - x d * rinv x * Ideal.div (∑ k, dy k * w k * (x k * rinv x)) (Ideal.ofBits .f32 0x44800000#32))
/-- The derivative's form: the mean square's part, and the whole. -/
def part (x w dy : Fin 1024 → EReal) : EReal :=
  ∑ _k : Fin 1, Ideal.div ((∑ k, x k * (dy k * w k)) * (Ideal.ofBits .f32 0xBF000000#32 * Ideal.div (rinv x) (msq x))) (Ideal.ofBits .f32 0x44800000#32)
def backRef (x w dy : Fin 1024 → EReal) (d : Fin 1024) : EReal := dy d * w d * rinv x + x d * part x w dy + part x w dy * x d

theorem n_eq : Ideal.ofBits .f32 0x44800000#32 = ((1024 : ℝ) : EReal) := by
  simp [Ideal.ofBits, Ideal.ieee]
  norm_num [← EReal.coe_mul]
theorem half_eq : Ideal.ofBits .f32 0xBF000000#32 = ((-(1/2) : ℝ) : EReal) := by
  simp [Ideal.ofBits, Ideal.ieee]
  norm_num [← EReal.coe_mul, ← EReal.coe_neg]
theorem eps_eq : ∃ e : ℝ, 0 < e ∧ Ideal.ofBits .f32 0x358637BD#32 = ((e : ℝ) : EReal) := by
  refine ⟨8796093 * (2 ^ 43)⁻¹, by positivity, ?_⟩
  simp [Ideal.ofBits, Ideal.ieee]
/-- A row of real numbers. -/
def IsReal (x : Fin 1024 → EReal) : Prop := ∀ k, ∃ r : ℝ, x k = r
theorem back_real {x w dy : Fin 1024 → EReal} (hx : IsReal x) (hw : IsReal w) (hd : IsReal dy) (d : Fin 1024) :
    ∃ r : ℝ, back x w dy d = r ∧ backRef x w dy d = r := by
  choose x' ex using hx
  choose w' ew using hw
  choose d' ed using hd
  obtain ⟨e, he, ee⟩ := eps_eq
  have hM : 0 < (∑ k, x' k * x' k) * (1 / 1024) + e := by
    have : 0 ≤ ∑ k, x' k * x' k := Finset.sum_nonneg fun k _ => mul_self_nonneg _
    positivity
  have hm : msq x = (((∑ k, x' k * x' k) * (1 / 1024) + e : ℝ) : EReal) := by
    unfold msq
    simp only [ex, ← EReal.coe_mul]
    rw [Cert.Xattn.sum_real, n_eq, ee, Ideal.div_coe (by norm_num), ← EReal.coe_mul, ← EReal.coe_add]
  generalize hMM : (∑ k, x' k * x' k) * (1 / 1024) + e = M at hM hm
  have hi : rinv x = (((Real.sqrt M)⁻¹ : ℝ) : EReal) := by
    unfold rinv
    rw [hm, Ideal.rsqrt_coe, if_neg (not_lt.mpr hM.le), if_neg hM.ne']
  have hs : (Real.sqrt M)⁻¹ * (Real.sqrt M)⁻¹ = 1 / M := by rw [← mul_inv, Real.mul_self_sqrt hM.le, one_div]
  generalize (Real.sqrt M)⁻¹ = r at hi hs
  refine ⟨r * (d' d * w' d - x' d * r * ((∑ k, d' k * w' k * (x' k * r)) * (1 / 1024))), ?_, ?_⟩
  · unfold back
    simp only [hi, ex, ew, ed, ← EReal.coe_mul]
    rw [Cert.Xattn.sum_real, n_eq, Ideal.div_coe (by norm_num), ← EReal.coe_mul, ← EReal.coe_mul, ← EReal.coe_sub, ← EReal.coe_mul]
  · unfold backRef part
    rw [Fin.sum_univ_one]
    simp only [hi, hm, ex, ew, ed, half_eq, ← EReal.coe_mul]
    rw [Cert.Xattn.sum_real, n_eq, Ideal.div_coe (by norm_num), Ideal.div_coe hM.ne']
    simp only [← EReal.coe_mul, ← EReal.coe_add]
    congr 1
    have e1 : ∑ k, d' k * w' k * (x' k * r) = r * ∑ k, x' k * (d' k * w' k) := by
      rw [Finset.mul_sum]; exact Finset.sum_congr rfl fun k _ => by ring
    rw [e1, ← hs]
    ring
/-- The gradient for the weight: the sum over all rows. -/
def weight {n : ℕ} (x dy : Fin n → Fin 1024 → EReal) (d : Fin 1024) : EReal := ∑ i, dy i d * (x i d * rinv (x i))
theorem weight_swap {n : ℕ} (x dy : Fin n → Fin 1024 → EReal) (d : Fin 1024) : weight x dy d = ∑ _k : Fin 1, ∑ i, x i d * rinv (x i) * dy i d := by
  rw [Fin.sum_univ_one]
  exact Finset.sum_congr rfl fun i _ => mul_comm _ _
theorem real_of_lt (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x with
  | bot => exact absurd h (by simp [Ideal.cmp])
  | top => exact absurd h (by simp [Ideal.cmp])
  | coe r => exact ⟨r, rfl⟩
end Cert.RowsB
-- ==== Proof.MemNormB.lean ====
/- The gradient of the memory's norm weight, the call `b_mem_norm`: what its array holds after the run, and every claim about it. -/
module
public import proofs.«01_k».proof.Defs
public import proofs.«01_k».proof.Proof.NormBwd
public import proofs.«01_k».proof.Proof.Product
public import proofs.«01_k».proof.Proof.Rows
public import proofs.«01_k».proof.Proof.Gen.MemNormB.Frame
public import proofs.«01_k».proof.Proof.Gen.MemNormBIdeal.Value
public import proofs.«01_k».proof.Proof.Gen.MemNormBRefIdeal.Run
public import proofs.«01_k».proof.Proof.Gen.MemNormBRefIdeal.Read
public import Idealize.ShloMosaic.Lib.Quiescent
@[expose] public section
set_option maxRecDepth 16384
noncomputable section
namespace Cert.MemNormBIdeal.Blocks
open Cert.MemNormBIdeal Cert.MemNormBIdeal.Gen Idealize.ShloMosaic Idealize.ShloMosaic.TcCoe Idealize.SL.Sem Cert.RowsB Cert.Product Cert.Rows
open scoped BigOperators

section Words
variable {F : FTy → Type} [FloatOps F]
variable (c : Dev nD) (i : grid0.Coords) (a1 : Memref sig .tc .vmem S512x1024 .f32) (h1 : a1.IsWhole) (a2 : Memref sig .tc .vmem S512x1024 .f32) (h2 : a2.IsWhole) (a3 : Memref sig .tc .vmem S1x1024 .f32) (h3 : a3.IsWhole) (a4 : Memref sig .tc .vmem S1x1024 .f32) (h4 : a4.IsWhole)
  (x0 x1 : Vec F S512x1024 .f32) (x2 y3 : Vec F S1x1024 .f32)
theorem out3A (hc0 : cond0_0 i) (hc1 : ¬cond0_1 i) : out0_A_3 c i a1 h1 a2 h2 a3 h3 a4 h4 hc0 hc1 x0 x1 x2 = k0_pay1 x0 x1 := by
  unfold out0_A_3
  rw [View.read_writes_eq_canon _ _ _ (cover0_A_3 c i a1 h1 a2 h2 a3 h3 a4 h4 hc0 hc1 x0 x1 x2)]
  unfold kernelRun0_A; dsimp only; (try sl_unfold_words)
  rw [View.canon_unit_zero hz]
  simp only [View.readAt_eq_ld, h1.read_unread, h2.read_unread, View.ld_unit_zero (S := S512x1024) hz]
theorem out3B (hc0 : ¬cond0_0 i) (hc1 : cond0_1 i) : out0_B_3 c i a1 h1 a2 h2 a3 h3 a4 h4 hc0 hc1 x0 x1 x2 y3 = k0_pay2 x0 x1 y3 := by
  unfold out0_B_3
  rw [View.read_writes_eq_canon _ _ _ (cover0_B_3 c i a1 h1 a2 h2 a3 h3 a4 h4 hc0 hc1 x0 x1 x2 y3)]
  unfold kernelRun0_B; dsimp only; (try sl_unfold_words)
  rw [View.canon_unit_zero hz]
  simp only [View.readAt_eq_ld, h1.read_unread, h2.read_unread, h4.read_unread, View.ld_unit_zero (S := S512x1024) hz, View.ld_unit_zero (S := S1x1024) hz]
end Words

theorem sum3 (x0 x1 : FVec Ideal S512x1024 .f32) (d : Fin 1024) : k0_pay1 (F := Ideal) x0 x1 (ix2 0 d) = ∑ r : Fin 512, x0 (ix2 r d) * (x1 (ix2 r d) * rinv (fun k => x1 (ix2 r k))) := by
  unfold rinv msq
  pointwise [k0_pay1]
theorem add3 (x0 x1 : FVec Ideal S512x1024 .f32) (b : FVec Ideal S1x1024 .f32) (d : Fin 1024) : k0_pay2 (F := Ideal) x0 x1 b (ix2 0 d) = b (ix2 0 d) + k0_pay1 (F := Ideal) x0 x1 (ix2 0 d) := by
  pointwise [k0_pay2]

variable (m : (ℓ : Loc nD τ sig) → Buf (Elt Ideal) ℓ) (c : Dev nD)

theorem ltN (t : Fin cfg0.N) : t.val < 2 := by have h := t.isLt; have e : cfg0.N = 2 := N_0; omega
/-- The row a block's row stands for at point `t`, and the point before. -/
def row (t : Fin cfg0.N) (r : Fin 512) : Fin 1024 := ⟨t.val * 512 + r.val, by have := ltN t; omega⟩
abbrev prev (t : Fin cfg0.N) : Fin cfg0.N := ⟨t.val - 1, Nat.lt_of_le_of_lt (Nat.sub_le _ _) t.isLt⟩
abbrev A0 : Fin 1024 → Fin 1024 → EReal := fun i x => m ((c : Thread nD τ).loc main_arg0) (ix2 i x)
abbrev A1 : Fin 1024 → Fin 1024 → EReal := fun i x => m ((c : Thread nD τ).loc main_arg1) (ix2 i x)
def res3 : Buf (Elt Ideal) ((c : Thread nD τ).loc main_v0) := fun i : S1x1024.Idx => weight (A1 m c) (A0 m c) (i 1)
theorem idx0 : ∀ t : Fin grid0.N, win0_0.index t = ![t.val, 0] := by decide +kernel
theorem idx1 : ∀ t : Fin grid0.N, win0_1.index t = ![t.val, 0] := by decide +kernel
theorem idx3 : ∀ t : Fin grid0.N, win0_3.index t = ![0, 0] := by decide +kernel
def b0 (t : Fin cfg0.N) : FVec Ideal S512x1024 .f32 := iblk m c 0 t
theorem at0 (t : Fin cfg0.N) (r : Fin 512) (x : Fin 1024) : b0 m c t (ix2 r x) = A0 m c (row t r) x := by
  unfold b0 iblk
  rw [View.read_apply]
  exact congrArg (m ((c : Thread nD τ).loc main_arg0)) (idx2_ext _ _ (off0 (idx0 t) 512 r.val) (off1z (idx0 t) 1024 x.val))
def b1 (t : Fin cfg0.N) : FVec Ideal S512x1024 .f32 := iblk m c 1 t
theorem at1 (t : Fin cfg0.N) (r : Fin 512) (x : Fin 1024) : b1 m c t (ix2 r x) = A1 m c (row t r) x := by
  unfold b1 iblk
  rw [View.read_apply]
  exact congrArg (m ((c : Thread nD τ).loc main_arg1)) (idx2_ext _ _ (off0 (idx1 t) 512 r.val) (off1z (idx1 t) 1024 x.val))
theorem first3 (t : Fin cfg0.N) (h : t.val = 0) : outsAt0 m c t.val t.isLt = k0_pay1 (F := Ideal) (b0 m c t) (b1 m c t) := by
  rw [outsAt0_A m c t (by omega) (by omega)]; exact out3A (F := Ideal) ..
theorem next3 (t : Fin cfg0.N) (h : 1 ≤ t.val) : outsAt0 m c t.val t.isLt = k0_pay2 (F := Ideal) (b0 m c t) (b1 m c t) (outsAt0 m c (prev t).val (prev t).isLt) := by
  have hn := ltN t
  rw [outsAt0_B m c t (by omega) (by omega)]; exact out3B (F := Ideal) ..
/-- One stretch of the sum over the rows, and the sum after `q + 1` points. -/
def entry3 (d : Fin 1024) : Fin 1024 → EReal := fun i => A0 m c i d * (A1 m c i d * rinv (A1 m c i))
theorem stretch3 (t : Fin cfg0.N) (d : Fin 1024) : k0_pay1 (F := Ideal) (b0 m c t) (b1 m c t) (ix2 0 d) = ∑ r : Fin 512, entry3 m c d (row t r) := by
  rw [sum3]
  simp only [at0, at1]
  rfl
theorem held3 (q : ℕ) : ∀ (t : Fin cfg0.N), t.val = q → ∀ d : Fin 1024, (outsAt0 m c t.val t.isLt) (ix2 0 d) = upto (entry3 m c d) ((q + 1) * 512) := by
  induction q with
  | zero =>
    intro t h d
    rw [first3 m c t h, stretch3]
    refine (upto_first (entry3 m c d) 512 _ (by omega) fun x => congrArg _ (Fin.ext ?_)).symm
    show t.val * 512 + x.val = x.val
    omega
  | succ q ih =>
    intro t h d
    have ht := ltN t
    rw [next3 m c t (by omega), add3, ih (prev t) (by show t.val - 1 = q; omega) d, stretch3]
    refine (upto_add (entry3 m c d) ((q + 1) * 512) 512 _ (by omega) fun x => congrArg _ (Fin.ext ?_)).symm.trans (congrArg (upto _) (by omega))
    show t.val * 512 + x.val = (q + 1) * 512 + x.val
    rw [h]
theorem flushes3 (t : Fin cfg0.N) (hf : (cfg0.win 3).flush t = true) :
    (Gen.dats m 0 c).flushed 3 t = ((cfg0.win 3).blk t).view.read (Elt Ideal) (res3 m c) := by
  have hn := ltN t
  have hl : t.val = 1 := by have := (flush0_3 t).mp hf; omega
  rw [Value.flushed3]
  have key : ∀ d : Fin 1024, (outsAt0 m c t.val t.isLt) (ix2 0 d) = ((cfg0.win 3).blk t).view.read (Elt Ideal) (res3 m c) (ix2 0 d) := by
    intro d
    have he : ((cfg0.win 3).blk t).view.emb (ix2 0 d) = ix2 0 d := idx2_ext _ _
      (off0z (idx3 t) 1 0)
      (off1z (idx3 t) 1024 d.val)
    rw [View.read_apply, he, held3 m c 1 t hl d]
    exact upto_all _
  funext j
  have hj : j = ix2 (⟨0, by decide⟩ : Fin 1) (⟨(j 1).val, (j 1).isLt⟩ : Fin 1024) := by
    funext a; apply Fin.ext
    match a with
    | ⟨0, _⟩ => have : (j 0).val < 1 := (j 0).isLt; show (j 0).val = 0; omega
    | ⟨1, _⟩ => rfl
  rw [hj]
  exact key _
theorem final3 : (Gen.dats m 0 c).arrAt 3 cfg0.N = res3 m c :=
  (Gen.dats m 0 c).arrAt_eq_of_cover 3 (res3 m c) (flushes3 m c) fun i => by
    have h0 : (i 0 : Nat) < 1 := (i 0).isLt
    have h1 : (i 1 : Nat) < 1024 := (i 1).isLt
    let t : Fin cfg0.N := ⟨1, by rw [show cfg0.N = 2 from N_0]; omega⟩
    refine ⟨t, (flush0_3 t).mpr rfl, ?_⟩
    show i ∈ ((View.whole main_v0).slice (win0_3.rect t)).set
    rw [View.set_slice_whole, Rect.mem_set_unit]
    exact inBlock (s := ![1, 1024]) (i := fun a => (i a).val) (idx3 t) (by show (0) * 1 ≤ (i 0).val ∧ (i 0).val < (0) * 1 + 1; omega) (by show (0) * 1024 ≤ (i 1).val ∧ (i 1).val < (0) * 1024 + 1024; omega)
end Cert.MemNormBIdeal.Blocks

namespace Cert.MemNormB
open Idealize.ShloMosaic Idealize.SL.Sem MemNormBIdeal MemNormBRefIdeal.Read Cert.RowsB
open scoped BigOperators

/-- The reference's result, and that it is the kernel's. -/
theorem reference_at (x0 x1 : FVec Ideal S1024x1024 .f32) (d : Fin 1024) :
    val_main_v18 (F := Ideal) x0 x1 (ix2 0 d) = weight (fun i k => x1 (ix2 i k)) (fun i k => x0 (ix2 i k)) d := by
  rw [weight_swap]
  unfold rinv msq
  pointwise [val_main_v18, val_main_v17, val_main_v16, val_main_v15, val_main_v14, val_main_v10, val_main_v9, val_main_v8, val_main_v7, val_main_v5, val_main_v3, val_main_v2, val_main_v1, val_main_cst, val_main_v4, val_main_cst_0, val_main_v6, val_main_cst_1, val_main_cst_2, val_main_cst_3]

theorem algebraic : algebraic_MemNormBIdeal_MemNormBRefIdeal := by
  intro m g m' g' _ e
  refine ⟨fun c => MemNormBIdeal.Blocks.res3 m c, ?_, ?_⟩
  · refine (θ_run MemNormBIdeal.defs _ _).mono (fun r H c => ?_) (MemNormBIdeal.Value.run_blocks (F := Ideal) m g)
    exact ⟨(H c).1.trans (MemNormBIdeal.Blocks.final3 m c), (H c).2⟩
  · refine (θ_run MemNormBRefIdeal.defs _ _).mono (fun r H c => ?_) (MemNormBRefIdeal.Value.run (F := Ideal) m' g')
    refine ⟨(H c).1.trans ?_, (H c).2⟩
    · rw [val_main_v18_eq, (e c).1, (e c).2.1]
      funext i
      idx_vars i
      have hi : i0 = 0 := Fin.ext (by have := i0.isLt; omega)
      subst hi
      exact reference_at _ _ i1

theorem reference_frame : quiescent_MemNormBRefIdeal := fun m ρ _ =>
  (θ_run MemNormBRefIdeal.defs _ _).mono (fun r h => ⟨fun c => (h c).2, sem_eq_zero_of_no_sems (by decide) r.2⟩) (MemNormBRefIdeal.Value.run (F := Ideal) m ρ)
end Cert.MemNormB
-- ==== Proof.HgMath.lean ====
/- The gated recurrence in real numbers: cut into chunks with a carried state, and solved as one sum over the past. -/
module
public import proofs.«01_k».proof.Proof.XMath
@[expose] public section
noncomputable section
open scoped BigOperators
namespace Cert.Hgrn

section Real
variable (lf k q v : ℕ → Fin 128 → ℝ)
/-- The logarithms of the gates added up: from the start of chunk `n` to its place `i`, from the start of the sequence to
    `t`, and over all chunks before `n`. -/
def inChunk (n i : ℕ) (d : Fin 128) : ℝ := ∑ j ∈ Finset.range (i + 1), lf (32 * n + j) d
def since (t : ℕ) (d : Fin 128) : ℝ := ∑ s ∈ Finset.range (t + 1), lf s d
def before (n : ℕ) (d : Fin 128) : ℝ := ∑ s ∈ Finset.range (32 * n), lf s d
theorem since_eq (n i : ℕ) (d : Fin 128) : since lf (32 * n + i) d = before lf n d + inChunk lf n i d := by
  unfold since before inChunk
  rw [show 32 * n + i + 1 = 32 * n + (i + 1) from rfl, Finset.sum_range_add]
theorem before_succ (n : ℕ) (d : Fin 128) : before lf (n + 1) d = before lf n d + inChunk lf n 31 d := by
  unfold before inChunk
  rw [show 32 * (n + 1) = 32 * n + (31 + 1) by ring, Finset.sum_range_add]
/-- The state carried from chunk to chunk. -/
def carried : ℕ → Fin 128 → Fin 128 → ℝ
  | 0 => fun _ _ => 0
  | n + 1 => fun a b => carried n a b * Real.exp (inChunk lf n 31 b)
      + ∑ j ∈ Finset.range 32, v (32 * n + j) a * ((k (32 * n + j) b * Real.exp (-inChunk lf n j b)) * Real.exp (inChunk lf n 31 b))
theorem carried_eq (n : ℕ) (a b : Fin 128) :
    carried lf k v n a b = ∑ s ∈ Finset.range (32 * n), v s a * (k s b * Real.exp (before lf n b - since lf s b)) := by
  induction n with
  | zero => simp [carried]
  | succ n ih =>
    rw [show 32 * (n + 1) = 32 * n + 32 by ring, Finset.sum_range_add]
    simp only [carried]
    rw [ih, Finset.sum_mul]
    congr 1
    · apply Finset.sum_congr rfl; intro s _
      rw [before_succ, show before lf n b + inChunk lf n 31 b - since lf s b = (before lf n b - since lf s b) + inChunk lf n 31 b by ring, Real.exp_add]
      ring
    · apply Finset.sum_congr rfl; intro j _
      rw [before_succ, since_eq, show before lf n b + inChunk lf n 31 b - (before lf n b + inChunk lf n j b) = -inChunk lf n j b + inChunk lf n 31 b by ring, Real.exp_add]
      ring
/-- How much the value at `s` weighs in the result at `t`. -/
def weight (t s : ℕ) : ℝ := ∑ d : Fin 128, q t d * Real.exp (since lf t d - since lf s d) * k s d
/-- The recurrence solved. -/
def solved (t : ℕ) (a : Fin 128) : ℝ := ∑ s ∈ Finset.range 2048, (if s ≤ t then weight lf k q t s else 0) * v s a
theorem chunked (n i : ℕ) (hn : n < 64) (hi : i < 32) (a : Fin 128) :
    (∑ j ∈ Finset.range 32, (if j ≤ i then ∑ d : Fin 128, (q (32 * n + i) d * Real.exp (inChunk lf n i d)) * (k (32 * n + j) d * Real.exp (-inChunk lf n j d)) else 0) * v (32 * n + j) a)
      + ∑ d : Fin 128, (q (32 * n + i) d * Real.exp (inChunk lf n i d)) * carried lf k v n a d
    = solved lf k q v (32 * n + i) a := by
  unfold solved
  obtain ⟨r, hr⟩ : ∃ r, 2048 = 32 * n + (32 + r) := ⟨2048 - 32 * n - 32, by omega⟩
  rw [hr, Finset.sum_range_add, Finset.sum_range_add]
  have h3 : ∑ x ∈ Finset.range r, (if 32 * n + (32 + x) ≤ 32 * n + i then weight lf k q (32 * n + i) (32 * n + (32 + x)) else 0) * v (32 * n + (32 + x)) a = 0 := by
    apply Finset.sum_eq_zero; intro x _
    rw [if_neg (by omega), zero_mul]
  rw [h3, add_zero, add_comm]
  congr 1
  · simp only [carried_eq, Finset.mul_sum]
    rw [Finset.sum_comm]
    apply Finset.sum_congr rfl; intro s hs
    rw [if_pos (by have := Finset.mem_range.mp hs; omega)]
    unfold weight
    rw [Finset.sum_mul]
    apply Finset.sum_congr rfl; intro d _
    rw [since_eq, show before lf n d + inChunk lf n i d - since lf s d = inChunk lf n i d + (before lf n d - since lf s d) by ring, Real.exp_add]
    ring
  · apply Finset.sum_congr rfl; intro j hj
    congr 1
    by_cases h : j ≤ i
    · rw [if_pos h, if_pos (by omega)]
      unfold weight
      apply Finset.sum_congr rfl; intro d _
      rw [since_eq, since_eq, show before lf n d + inChunk lf n i d - (before lf n d + inChunk lf n j d) = inChunk lf n i d + -inChunk lf n j d by ring, Real.exp_add]
      ring
    · rw [if_neg h, if_neg (by omega)]
end Real

section Doubling
variable {M : Type} [AddCommMonoid M]
/-- The last `w` places up to `t` inside `t`'s chunk, added up. -/
def lastIn (x : ℕ → M) (w t : ℕ) : M := ∑ j ∈ Finset.range w, if j ≤ t % 32 then x (t - j) else 0
theorem lastIn_one (x : ℕ → M) (t : ℕ) : lastIn x 1 t = x t := by
  unfold lastIn; simp
theorem lastIn_double (x : ℕ → M) (w t : ℕ) : lastIn x (w + w) t = lastIn x w t + (if w ≤ t % 32 then lastIn x w (t - w) else 0) := by
  unfold lastIn
  rw [Finset.sum_range_add]
  congr 1
  by_cases h : w ≤ t % 32
  · rw [if_pos h]
    apply Finset.sum_congr rfl; intro j _
    have e : (t - w) % 32 = t % 32 - w := by omega
    rw [e, Nat.sub_sub]
    by_cases h2 : w + j ≤ t % 32
    · rw [if_pos h2, if_pos (by omega)]
    · rw [if_neg h2, if_neg (by omega)]
  · rw [if_neg h]
    apply Finset.sum_eq_zero; intro j _
    rw [if_neg (by omega)]
theorem lastIn_all (x : ℕ → M) (n i : ℕ) (hi : i < 32) : lastIn x 32 (32 * n + i) = ∑ j ∈ Finset.range (i + 1), x (32 * n + j) := by
  unfold lastIn
  have e : (32 * n + i) % 32 = i := by omega
  rw [e, show 32 = (i + 1) + (31 - i) by omega, Finset.sum_range_add]
  have z : ∑ y ∈ Finset.range (31 - i), (if i + 1 + y ≤ i then x ((i + 1 + (31 - i)) * n + i - (i + 1 + y)) else 0) = 0 := by
    apply Finset.sum_eq_zero; intro y _; rw [if_neg (by omega)]
  rw [z, add_zero, show i + 1 + (31 - i) = 32 by omega, ← Finset.sum_range_reflect]
  apply Finset.sum_congr rfl; intro j hj
  have := Finset.mem_range.mp hj
  rw [if_pos (by omega)]
  congr 1; omega
end Doubling
end Cert.Hgrn
-- ==== Proof.HgFun.lean ====
/- The gated recurrence's mixer as one function of its arguments. -/
module
public import proofs.«01_k».proof.Proof.HgMath
@[expose] public section
noncomputable section
open scoped BigOperators
namespace Cert.Hgrn
open Idealize.ShloMosaic

/-- A sequence of rows read as real numbers. -/
def seqOf (f : Fin 2048 → Fin 128 → EReal) (t : ℕ) (d : Fin 128) : ℝ := if h : t < 2048 then (f ⟨t, h⟩ d).toReal else 0
theorem seqOf_eq (f : Fin 2048 → Fin 128 → EReal) (t : Fin 2048) (d : Fin 128) (h : ∃ r : ℝ, f t d = r) : f t d = ((seqOf f t.val d : ℝ) : EReal) := by
  obtain ⟨r, hr⟩ := h
  unfold seqOf
  rw [dif_pos t.isLt, hr, EReal.toReal_coe]
/-- Column `d` of head `h`. -/
abbrev col (h : Fin 4) (d : Fin 128) : Fin 512 := ⟨h.val * 128 + d.val, by omega⟩
/-- The end of the mixer: the row normalised, weighted and gated. -/
def finish (o w g : Fin 128 → EReal) (a : Fin 128) : EReal :=
  o a * Ideal.rsqrt (Ideal.div (∑ x, o x * o x) (Ideal.ofBits .f32 0x43000000#32) + Ideal.ofBits .f32 0x358637BD#32) * w a * (g a * Ideal.logistic (g a))

section Mixer
variable (z : Fin 4 → Fin 2048 → Fin 3584 → EReal) (lb onw : Fin 512 → EReal)
/-- The gate, its logarithm and what it keeps back. -/
def gate (b : Fin 4) (t : Fin 2048) (n : Fin 512) : EReal := lb n + (1 - lb n) * Ideal.logistic (z b t ⟨512 + n.val, by omega⟩)
def logs (b h : Fin 4) (t : Fin 2048) (d : Fin 128) : EReal := Ideal.log (gate z lb b t (col h d))
def keys (b h : Fin 4) (t : Fin 2048) (d : Fin 128) : EReal := 1 - gate z lb b t (col h d)
def qrys (b h : Fin 4) (t : Fin 2048) (d : Fin 128) : EReal := z b t ⟨h.val * 128 + d.val, by omega⟩
def vals (b h : Fin 4) (t : Fin 2048) (d : Fin 128) : EReal := z b t ⟨1024 + (h.val * 128 + d.val), by omega⟩
/-- The recurrence's result. -/
def recur (b h : Fin 4) (t : ℕ) (d : Fin 128) : ℝ :=
  solved (seqOf (logs z lb b h)) (seqOf (keys z lb b h)) (seqOf (qrys z b h)) (seqOf (vals z b h)) t d
/-- The mixer's result. -/
def mixer (b : Fin 4) (t : Fin 2048) (n : Fin 512) : EReal :=
  finish (fun y => ((recur z lb b ⟨n.val / 128, by omega⟩ t.val y : ℝ) : EReal)) (fun y => onw (col ⟨n.val / 128, by omega⟩ y))
    (fun y => z b t ⟨1536 + (n.val / 128 * 128 + y.val), by omega⟩) ⟨n.val % 128, by omega⟩
/-- The precondition: finite queries, gate arguments and values, a lower bound between 0 and 1. -/
structure Finite : Prop where
  z : ∀ b t (n : Fin 3584), n.val < 1536 → ∃ r : ℝ, z b t n = r
  lb : ∀ n, ∃ r : ℝ, lb n = r ∧ 0 ≤ r ∧ r ≤ 1
variable {z lb}
theorem gate_real (H : Finite z lb) (b : Fin 4) (t : Fin 2048) (n : Fin 512) : ∃ g : ℝ, 0 < g ∧ gate z lb b t n = g := by
  obtain ⟨l, hl, h0, h1⟩ := H.lb n
  obtain ⟨r, hr⟩ := H.z b t ⟨512 + n.val, by omega⟩ (by show 512 + n.val < 1536; omega)
  have he : 0 < Real.exp (-r) := Real.exp_pos _
  have hs : Ideal.logistic (r : EReal) = ((1 / (1 + Real.exp (-r)) : ℝ) : EReal) := by
    rw [Ideal.logistic_coe, one_div]
  refine ⟨l + (1 - l) * (1 / (1 + Real.exp (-r))), ?_, ?_⟩
  · have hp : 0 < 1 / (1 + Real.exp (-r)) := by positivity
    have hq : 1 / (1 + Real.exp (-r)) < 1 := by rw [div_lt_one (by positivity)]; linarith
    nlinarith
  · unfold gate
    rw [hl, hr, hs, EReal.coe_add, EReal.coe_mul, EReal.coe_sub, EReal.coe_one]
theorem logs_real (H : Finite z lb) (b h : Fin 4) (t : Fin 2048) (d : Fin 128) : ∃ r : ℝ, logs z lb b h t d = r := by
  obtain ⟨g, hg, e⟩ := gate_real H b t (col h d)
  exact ⟨Real.log g, by unfold logs; rw [e, Ideal.log_coe, if_neg (not_le.mpr hg)]⟩
theorem keys_real (H : Finite z lb) (b h : Fin 4) (t : Fin 2048) (d : Fin 128) : ∃ r : ℝ, keys z lb b h t d = r := by
  obtain ⟨g, hg, e⟩ := gate_real H b t (col h d)
  exact ⟨1 - g, by unfold keys; rw [e, EReal.coe_sub, EReal.coe_one]⟩
theorem qrys_real (H : Finite z lb) (b h : Fin 4) (t : Fin 2048) (d : Fin 128) : ∃ r : ℝ, qrys z b h t d = r :=
  H.z _ _ _ (by show h.val * 128 + d.val < 1536; omega)
theorem vals_real (H : Finite z lb) (b h : Fin 4) (t : Fin 2048) (d : Fin 128) : ∃ r : ℝ, vals z b h t d = r :=
  H.z _ _ _ (by show 1024 + (h.val * 128 + d.val) < 1536; omega)
end Mixer
end Cert.Hgrn
-- ==== Proof.HgOut.lean ====
/- What a grid point of the recurrence's forward call leaves, as the body's own words on the blocks it reads; the loop over
   the chunks is followed by induction. -/
module
public import proofs.«01_k».proof.Proof.Gen.HgrnFIdeal.Value
public import Idealize.ShloMosaic.Lib.Pointwise
@[expose] public section
set_option maxRecDepth 16384
noncomputable section
namespace Cert.HgrnFIdeal.Blocks
open Cert.HgrnFIdeal Cert.HgrnFIdeal.Gen Idealize.ShloMosaic Idealize.ShloMosaic.TcCoe Idealize.SL.Sem

theorem hz : (![0, 0, 0] : Fin 3 → Nat) = fun _ => 0 := by funext a; fin_cases a <;> rfl
theorem hz2 : (![0, 0] : Fin 2 → Nat) = fun _ => 0 := by funext a; fin_cases a <;> rfl
/-- The state before chunk `n`: what the chunk before it found, decayed, and what that chunk added. -/
def stv (U : Fin 64 → Fin 128 → Fin 128 → EReal) (D : Fin 64 → Fin 128 → EReal) : ℕ → Fin 128 → Fin 128 → EReal
  | 0 => fun _ _ => 0
  | n + 1 => fun a b => if h : n < 64 then stv U D n a b * D ⟨n, h⟩ b + U ⟨n, h⟩ a b else 0

theorem pay13 (a b : Fin 128) : k0_pay13 (F := Ideal) (ix2 a b) = 0 := by
  pointwise [k0_pay13]
theorem pay14 (w : FVec Ideal S128x128 .f32) (a b : Fin 128) : k0_pay14 (F := Ideal) w (ix3 0 a b) = w (ix2 a b) := by
  pointwise [k0_pay14]
theorem pay15 (w : FVec Ideal S128x128 .f32) (u : FVec Ideal S1x128x128 .f32) (d : FVec Ideal S1x1x128 .f32) (a b : Fin 128) :
    k0_pay15 (F := Ideal) w u d (ix2 a b) = w (ix2 a b) * d (ix3 0 0 b) + u (ix3 0 a b) := by
  pointwise [k0_pay15]
theorem trips64 : k0_t1_loop.trips = 64 := by decide +kernel
theorem off1 : ∀ k : Fin k0_t1_loop.trips, k0_off1 k = ![k.val, 0, 0] := by decide +kernel
theorem off2 : ∀ k : Fin k0_t1_loop.trips, k0_off2 k = ![k.val, 0, 0] := by decide +kernel

section Loop
variable (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048x128 .f32) (harg8 : arg8.IsWhole) (arg9 : Memref sig .tc .vmem S64x128x128 .f32) (harg9 : arg9.IsWhole) (arg10 : Memref sig .tc .vmem S64x1x128 .f32) (harg10 : arg10.IsWhole)
theorem tripR (𝒱 : Variants) (bd : Option 𝒱.V) (X : BufTy.Contents (Elt Ideal) arg10.view.ty) (k : Fin k0_t1_loop.trips) (acc : FVec Ideal S128x128 .f32) (f : BufTy.Contents (Elt Ideal) arg9.view.ty) :
    tripR_k0_t1 (F := Ideal) 𝒱 c bd i arg2 harg2 arg3 harg3 arg4 harg4 arg5 harg5 arg6 harg6 arg7 harg7 arg8 harg8 arg9 harg9 arg10 harg10 X k acc f
      = k0_pay15 acc (View.readAt (Elt Ideal) arg9.view (Rect.unit (s := S64x128x128) (k0_off1 k) S1x128x128.size (k0_off1_inb k)) f) (View.readAt (Elt Ideal) arg10.view (Rect.unit (s := S64x1x128) (k0_off2 k) S1x1x128.size (k0_off2_inb k)) X) := by
  unfold tripR_k0_t1 trip_k0_t1
  rfl
theorem tripL (𝒱 : Variants) (bd : Option 𝒱.V) (X : BufTy.Contents (Elt Ideal) arg10.view.ty) (k : Fin k0_t1_loop.trips) (acc : FVec Ideal S128x128 .f32) (f : BufTy.Contents (Elt Ideal) arg9.view.ty) :
    tripL_k0_t1 (F := Ideal) 𝒱 c bd i arg2 harg2 arg3 harg3 arg4 harg4 arg5 harg5 arg6 harg6 arg7 harg7 arg8 harg8 arg9 harg9 arg10 harg10 X k acc f
      = [⟨Rect.unit (s := S64x128x128) (k0_off1 k) S1x128x128.size (k0_off1_inb k), k0_pay14 acc⟩] := by
  unfold tripL_k0_t1 trip_k0_t1
  rfl
theorem loop (X : BufTy.Contents (Elt Ideal) arg10.view.ty) (G : BufTy.Contents (Elt Ideal) arg9.view.ty) (k : ℕ) (hk : k ≤ 64) :
    (∀ a b, (st_k0_t1 (F := Ideal) Variants.none c none i arg2 harg2 arg3 harg3 arg4 harg4 arg5 harg5 arg6 harg6 arg7 harg7 arg8 harg8 arg9 harg9 arg10 harg10 X G k0_pay13 k).1 (ix2 a b)
      = stv (fun n a b => arg9.view.read (Elt Ideal) G (ix3 n a b)) (fun n b => arg10.view.read (Elt Ideal) X (ix3 n 0 b)) k a b)
    ∧ (∀ n a b, arg9.view.read (Elt Ideal) (arg9.view.writes (Elt Ideal) G (st_k0_t1 (F := Ideal) Variants.none c none i arg2 harg2 arg3 harg3 arg4 harg4 arg5 harg5 arg6 harg6 arg7 harg7 arg8 harg8 arg9 harg9 arg10 harg10 X G k0_pay13 k).2) (ix3 n a b)
      = if n.val < k then stv (fun n a b => arg9.view.read (Elt Ideal) G (ix3 n a b)) (fun n b => arg10.view.read (Elt Ideal) X (ix3 n 0 b)) n.val a b
        else arg9.view.read (Elt Ideal) G (ix3 n a b)) := by
  induction k with
  | zero => exact ⟨fun a b => by rw [st_k0_t1_zero]; exact pay13 a b, fun n a b => by rw [st_k0_t1.eq_1]; simp⟩
  | succ k ih =>
    obtain ⟨ih1, ih2⟩ := ih (by omega)
    have hk' : k < 64 := by omega
    obtain ⟨kk, hkk⟩ : ∃ kk : Fin k0_t1_loop.trips, kk.val = k := ⟨⟨k, by rw [trips64]; omega⟩, rfl⟩
    subst hkk
    have e := st_k0_t1_succ (F := Ideal) Variants.none c none i arg2 harg2 arg3 harg3 arg4 harg4 arg5 harg5 arg6 harg6 arg7 harg7 arg8 harg8 arg9 harg9 arg10 harg10 X G k0_pay13 kk
    rw [e, tripR, tripL]
    dsimp only
    have eo : ∀ a : Fin 3, k0_off1 kk a = (![kk.val, 0, 0] : Fin 3 → ℕ) a := fun a => congrFun (off1 _) a
    have eo2 : ∀ a : Fin 3, k0_off2 kk a = (![kk.val, 0, 0] : Fin 3 → ℕ) a := fun a => congrFun (off2 _) a
    constructor
    · intro a b
      rw [pay15, ih1]
      simp only [stv, hk', dif_pos]
      congr 1
      · congr 1
        rw [View.readAt_eq_ld]
        show arg10.view.read (Elt Ideal) X _ = _
        congr 1; funext q; apply Fin.ext
        match q with
        | ⟨0, _⟩ => show k0_off2 kk 0 + 1 * 0 = kk.val; rw [eo2]; rfl
        | ⟨1, _⟩ => show k0_off2 kk 1 + 1 * 0 = 0; rw [eo2]; rfl
        | ⟨2, _⟩ => show k0_off2 kk 2 + 1 * b.val = b.val; rw [eo2]; show 0 + 1 * b.val = b.val; omega
      · rw [View.readAt_eq_ld]
        have h2 := ih2 ⟨kk.val, hk'⟩ a b
        rw [if_neg (by simp)] at h2
        refine Eq.trans ?_ h2
        show arg9.view.read (Elt Ideal) _ _ = _
        congr 1; funext q; apply Fin.ext
        match q with
        | ⟨0, _⟩ => show k0_off1 kk 0 + 1 * 0 = kk.val; rw [eo]; rfl
        | ⟨1, _⟩ => show k0_off1 kk 1 + 1 * a.val = a.val; rw [eo]; show 0 + 1 * a.val = a.val; omega
        | ⟨2, _⟩ => show k0_off1 kk 2 + 1 * b.val = b.val; rw [eo]; show 0 + 1 * b.val = b.val; omega
    · intro n a b
      by_cases hn : n.val = kk.val
      · rw [if_pos (by show n.val < kk.val + 1; omega)]
        rw [List.singleton_append, View.read_writes_cons_hit_of_coords (x := ix3 0 a b)]
        · rw [pay14, ih1, hn]
        · intro q
          match q with
          | ⟨0, _⟩ => show n.val = k0_off1 kk 0 + 1 * 0; rw [eo, hn]; rfl
          | ⟨1, _⟩ => show a.val = k0_off1 kk 1 + 1 * a.val; rw [eo]; show a.val = 0 + 1 * a.val; omega
          | ⟨2, _⟩ => show b.val = k0_off1 kk 2 + 1 * b.val; rw [eo]; show b.val = 0 + 1 * b.val; omega
      · rw [List.singleton_append, View.read_writes_cons_miss_of_axis (a := 0) (o := kk.val) (n := 1) (ho := eo 0) (hst := rfl) (hn := rfl) (h := by show n.val < kk.val ∨ kk.val + 1 ≤ n.val; omega)]
        rw [ih2]
        by_cases h1 : n.val < kk.val
        · rw [if_pos h1, if_pos (by show n.val < kk.val + 1; omega)]
        · rw [if_neg h1, if_neg (by show ¬ n.val < kk.val + 1; omega)]
end Loop
section Out
variable (c : Dev nD) (i : grid0.Coords) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x2048x128 .f32) (harg8 : arg8.IsWhole) (arg9 : Memref sig .tc .vmem S64x128x128 .f32) (harg9 : arg9.IsWhole) (arg10 : Memref sig .tc .vmem S64x1x128 .f32) (harg10 : arg10.IsWhole)
variable (x0 x1 x2 x3 : Vec Ideal S1x2048x128 .f32) (x4 x5 : Vec Ideal S1x128 .f32)
/-- What each chunk adds to the state, and the chunk's decay. -/
def addU (x1 x2 : FVec Ideal S1x2048x128 .f32) (x4 : FVec Ideal S1x128 .f32) (n : Fin 64) (a b : Fin 128) : EReal :=
  k0_pay12 (F := Ideal) (k0_pay11 (k0_pay1 x1 x4) k0_pay2 (k0_pay3 x1 x4) 16#32 x2) (ix3 n a b)
def decD (x1 : FVec Ideal S1x2048x128 .f32) (x4 : FVec Ideal S1x128 .f32) (n : Fin 64) (b : Fin 128) : EReal :=
  k0_pay6 (F := Ideal) k0_pay2 (k0_pay3 x1 x4) 16#32 (ix3 n 0 b)
/-- The states of all chunks, as the body reads them back. -/
def stAll (x1 x2 : FVec Ideal S1x2048x128 .f32) (x4 : FVec Ideal S1x128 .f32) : FVec Ideal S64x128x128 .f32 :=
  fun y => stv (addU x1 x2 x4) (decD x1 x4) (y 0).val (y 1) (y 2)
theorem out6 : out0_A_6 (F := Ideal) c i arg2 harg2 arg3 harg3 arg4 harg4 arg5 harg5 arg6 harg6 arg7 harg7 arg8 harg8 arg9 harg9 arg10 harg10 x0 x1 x2 x3 x4 x5
    = k0_pay16 (F := Ideal) (k0_pay8 k0_pay2 (k0_pay3 x1 x4) 16#32 x0) (k0_pay9 x2) (k0_pay10 (k0_pay1 x1 x4) k0_pay2 (k0_pay3 x1 x4) 16#32 x0) (stAll x1 x2 x4) x5 x3 := by
  unfold out0_A_6
  rw [View.read_writes_eq_canon _ _ _ (cover0_A_6 (F := Ideal) c i arg2 harg2 arg3 harg3 arg4 harg4 arg5 harg5 arg6 harg6 arg7 harg7 arg8 harg8 arg9 harg9 arg10 harg10 x0 x1 x2 x3 x4 x5)]
  unfold kernelRun0_A; dsimp only; (try sl_unfold_words)
  rw [View.canon_unit_zero hz]
  simp only [View.readAt_eq_ld, harg2.read_unread, harg3.read_unread, harg4.read_unread, harg5.read_unread, harg6.read_unread, harg7.read_unread, View.ld_unit_zero (S := S1x2048x128) hz, View.ld_unit_zero (S := S1x128) hz2]
  congr 1
  funext y
  unfold View.readCov
  rw [View.readAt_eq_ld, View.ld_unit_zero (S := S64x128x128) hz, View.writes_append]
  have hy : y = ix3 (y 0) (y 1) (y 2) := by funext a; fin_cases a <;> rfl
  conv_lhs => rw [hy]
  have ht : Scf.trips (0#32) (Scalar.addi 0#32 64#32) 1#32 = 64 := by decide +kernel
  rw [ht]
  refine ((loop c i arg2 harg2 arg3 harg3 arg4 harg4 arg5 harg5 arg6 harg6 arg7 harg7 arg8 harg8 arg9 harg9 arg10 harg10 _ _ 64 le_rfl).2 (y 0) (y 1) (y 2)).trans ?_
  rw [if_pos (show (y 0).val < 64 from (y 0).isLt)]
  unfold stAll
  have e1 : (fun (n : Fin 64) (a b : Fin 128) => arg9.view.read (Elt Ideal) (arg9.view.writes (Elt Ideal) arg9.view.junk
      [⟨Rect.unit (s := S64x128x128) ![0, 0, 0] S64x128x128.size inb_S64x128x128_S64x128x128_0_0_0, k0_pay12 (F := Ideal) (k0_pay11 (k0_pay1 x1 x4) k0_pay2 (k0_pay3 x1 x4) 16#32 x2)⟩]) (ix3 n a b)) = addU x1 x2 x4 := by
    funext n a b
    rw [View.read_writes_cons_hit_of_coords (x := ix3 n a b)]
    · rfl
    · intro q
      match q with
      | ⟨0, _⟩ => show n.val = 0 + 1 * n.val; omega
      | ⟨1, _⟩ => show a.val = 0 + 1 * a.val; omega
      | ⟨2, _⟩ => show b.val = 0 + 1 * b.val; omega
  have e2 : (fun (n : Fin 64) (b : Fin 128) => arg10.view.read (Elt Ideal) (arg10.view.writes (Elt Ideal) arg10.view.junk
      [⟨Rect.unit (s := S64x1x128) ![0, 0, 0] S64x1x128.size inb_S64x1x128_S64x1x128_0_0_0, k0_pay6 (F := Ideal) k0_pay2 (k0_pay3 x1 x4) 16#32⟩]) (ix3 n 0 b)) = decD x1 x4 := by
    funext n b
    rw [View.read_writes_cons_hit_of_coords (x := ix3 n 0 b)]
    · rfl
    · intro q
      match q with
      | ⟨0, _⟩ => show n.val = 0 + 1 * n.val; omega
      | ⟨1, _⟩ => show (0 : ℕ) = 0 + 1 * 0; omega
      | ⟨2, _⟩ => show b.val = 0 + 1 * b.val; omega
  exact congrArg₂ (fun U D => stv U D (y 0).val (y 1) (y 2)) e1 e2
end Out
end Cert.HgrnFIdeal.Blocks
-- ==== Proof.HgBlk.lean ====
/- The words of the recurrence's body on one block, read at an index, in real numbers. -/
module
public import proofs.«01_k».proof.Proof.HgFun
public import proofs.«01_k».proof.Proof.HgOut
@[expose] public section
set_option maxRecDepth 16384
noncomputable section
namespace Cert.HgrnFIdeal.Blocks
open Cert.HgrnFIdeal Cert.HgrnFIdeal.Gen Idealize.ShloMosaic Idealize.ShloMosaic.TcCoe Cert.Hgrn
open scoped BigOperators

theorem select_one {α : Type} (a b : α) : Scalar.select 1#1 a b = a := rfl
theorem select_zero {α : Type} (a b : α) : Scalar.select 0#1 a b = b := rfl
theorem pay1 (x1 : FVec Ideal S1x2048x128 .f32) (x4 : FVec Ideal S1x128 .f32) (t : Fin 2048) (d : Fin 128) :
    k0_pay1 (F := Ideal) x1 x4 (ix2 t d) = x4 (ix2 0 d) + (1 - x4 (ix2 0 d)) * Ideal.logistic (x1 (ix3 0 t d)) := by
  pointwise [k0_pay1]
/-- One doubling step of the sum inside the chunks. -/
def stp (w : BitVec 32) (y : FVec Ideal S2048x128 .f32) : FVec Ideal S2048x128 .f32 :=
  addf y (select (cmpi .sge k0_pay2 (broadcast S2048x128 w)) (dynamicRotate 0 w none y rotates_S2048x128_d0) (broadcast S2048x128 (Scalar.ofBits .f32 0x00000000#32)))
theorem mask1 : ∀ t : Fin 2048, IntOp.cmpi CmpIPredicate.sge (IntOp.andi (BitVec.ofNat 32 t.val) 31#32) 1#32 = if 1 ≤ t.val % 32 then 1#1 else 0#1 := by decide +kernel
theorem stp1 (y : FVec Ideal S2048x128 .f32) (X : ℕ → EReal) (d : Fin 128) (h : ∀ t : Fin 2048, y (ix2 t d) = lastIn X 1 t.val) (t : Fin 2048) :
    stp 1#32 y (ix2 t d) = lastIn X 2 t.val := by
  have e : stp 1#32 y (ix2 t d) = y (ix2 t d) + Scalar.select (IntOp.cmpi CmpIPredicate.sge (IntOp.andi (BitVec.ofNat 32 t.val) 31#32) 1#32)
      (y (ix2 ⟨(t.val + 2048 - 1) % 2048, Nat.mod_lt _ (by decide)⟩ d)) 0 := by
    pointwise [stp, k0_pay2]
  rw [e, mask1, h, h, show (2 : ℕ) = 1 + 1 from rfl, lastIn_double]
  by_cases hw : 1 ≤ t.val % 32
  · rw [if_pos hw, if_pos hw, select_one]
    congr 2
    show (t.val + 2048 - 1) % 2048 = t.val - 1
    have := t.isLt
    omega
  · rw [if_neg hw, if_neg hw, select_zero]
theorem mask2 : ∀ t : Fin 2048, IntOp.cmpi CmpIPredicate.sge (IntOp.andi (BitVec.ofNat 32 t.val) 31#32) 2#32 = if 2 ≤ t.val % 32 then 1#1 else 0#1 := by decide +kernel
theorem stp2 (y : FVec Ideal S2048x128 .f32) (X : ℕ → EReal) (d : Fin 128) (h : ∀ t : Fin 2048, y (ix2 t d) = lastIn X 2 t.val) (t : Fin 2048) :
    stp 2#32 y (ix2 t d) = lastIn X 4 t.val := by
  have e : stp 2#32 y (ix2 t d) = y (ix2 t d) + Scalar.select (IntOp.cmpi CmpIPredicate.sge (IntOp.andi (BitVec.ofNat 32 t.val) 31#32) 2#32)
      (y (ix2 ⟨(t.val + 2048 - 2) % 2048, Nat.mod_lt _ (by decide)⟩ d)) 0 := by
    pointwise [stp, k0_pay2]
  rw [e, mask2, h, h, show (4 : ℕ) = 2 + 2 from rfl, lastIn_double]
  by_cases hw : 2 ≤ t.val % 32
  · rw [if_pos hw, if_pos hw, select_one]
    congr 2
    show (t.val + 2048 - 2) % 2048 = t.val - 2
    have := t.isLt
    omega
  · rw [if_neg hw, if_neg hw, select_zero]
theorem mask4 : ∀ t : Fin 2048, IntOp.cmpi CmpIPredicate.sge (IntOp.andi (BitVec.ofNat 32 t.val) 31#32) 4#32 = if 4 ≤ t.val % 32 then 1#1 else 0#1 := by decide +kernel
theorem stp4 (y : FVec Ideal S2048x128 .f32) (X : ℕ → EReal) (d : Fin 128) (h : ∀ t : Fin 2048, y (ix2 t d) = lastIn X 4 t.val) (t : Fin 2048) :
    stp 4#32 y (ix2 t d) = lastIn X 8 t.val := by
  have e : stp 4#32 y (ix2 t d) = y (ix2 t d) + Scalar.select (IntOp.cmpi CmpIPredicate.sge (IntOp.andi (BitVec.ofNat 32 t.val) 31#32) 4#32)
      (y (ix2 ⟨(t.val + 2048 - 4) % 2048, Nat.mod_lt _ (by decide)⟩ d)) 0 := by
    pointwise [stp, k0_pay2]
  rw [e, mask4, h, h, show (8 : ℕ) = 4 + 4 from rfl, lastIn_double]
  by_cases hw : 4 ≤ t.val % 32
  · rw [if_pos hw, if_pos hw, select_one]
    congr 2
    show (t.val + 2048 - 4) % 2048 = t.val - 4
    have := t.isLt
    omega
  · rw [if_neg hw, if_neg hw, select_zero]
theorem mask8 : ∀ t : Fin 2048, IntOp.cmpi CmpIPredicate.sge (IntOp.andi (BitVec.ofNat 32 t.val) 31#32) 8#32 = if 8 ≤ t.val % 32 then 1#1 else 0#1 := by decide +kernel
theorem stp8 (y : FVec Ideal S2048x128 .f32) (X : ℕ → EReal) (d : Fin 128) (h : ∀ t : Fin 2048, y (ix2 t d) = lastIn X 8 t.val) (t : Fin 2048) :
    stp 8#32 y (ix2 t d) = lastIn X 16 t.val := by
  have e : stp 8#32 y (ix2 t d) = y (ix2 t d) + Scalar.select (IntOp.cmpi CmpIPredicate.sge (IntOp.andi (BitVec.ofNat 32 t.val) 31#32) 8#32)
      (y (ix2 ⟨(t.val + 2048 - 8) % 2048, Nat.mod_lt _ (by decide)⟩ d)) 0 := by
    pointwise [stp, k0_pay2]
  rw [e, mask8, h, h, show (16 : ℕ) = 8 + 8 from rfl, lastIn_double]
  by_cases hw : 8 ≤ t.val % 32
  · rw [if_pos hw, if_pos hw, select_one]
    congr 2
    show (t.val + 2048 - 8) % 2048 = t.val - 8
    have := t.isLt
    omega
  · rw [if_neg hw, if_neg hw, select_zero]
theorem mask16 : ∀ t : Fin 2048, IntOp.cmpi CmpIPredicate.sge (IntOp.andi (BitVec.ofNat 32 t.val) 31#32) 16#32 = if 16 ≤ t.val % 32 then 1#1 else 0#1 := by decide +kernel
theorem stp16 (y : FVec Ideal S2048x128 .f32) (X : ℕ → EReal) (d : Fin 128) (h : ∀ t : Fin 2048, y (ix2 t d) = lastIn X 16 t.val) (t : Fin 2048) :
    stp 16#32 y (ix2 t d) = lastIn X 32 t.val := by
  have e : stp 16#32 y (ix2 t d) = y (ix2 t d) + Scalar.select (IntOp.cmpi CmpIPredicate.sge (IntOp.andi (BitVec.ofNat 32 t.val) 31#32) 16#32)
      (y (ix2 ⟨(t.val + 2048 - 16) % 2048, Nat.mod_lt _ (by decide)⟩ d)) 0 := by
    pointwise [stp, k0_pay2]
  rw [e, mask16, h, h, show (32 : ℕ) = 16 + 16 from rfl, lastIn_double]
  by_cases hw : 16 ≤ t.val % 32
  · rw [if_pos hw, if_pos hw, select_one]
    congr 2
    show (t.val + 2048 - 16) % 2048 = t.val - 16
    have := t.isLt
    omega
  · rw [if_neg hw, if_neg hw, select_zero]
theorem pay4_eq (x1 : FVec Ideal S1x2048x128 .f32) (x4 : FVec Ideal S1x128 .f32) :
    k0_pay4 (F := Ideal) k0_pay2 (k0_pay3 x1 x4) 16#32 = stp 16#32 (stp 8#32 (stp 4#32 (stp 2#32 (stp 1#32 (log (k0_pay1 (F := Ideal) x1 x4)))))) := rfl
theorem mask32 : ∀ i j : Fin 32, IntOp.cmpi CmpIPredicate.sge (BitVec.ofNat 32 i.val) (BitVec.ofNat 32 j.val) = if j.val ≤ i.val then 1#1 else 0#1 := by decide +kernel

section Block
variable (x0 x1 x2 x3 : FVec Ideal S1x2048x128 .f32) (x4 x5 : FVec Ideal S1x128 .f32) (lf K Q V : ℕ → Fin 128 → ℝ)
  (h0 : ∀ (t : Fin 2048) d, x0 (ix3 0 t d) = ((Q t.val d : ℝ) : EReal)) (h1 : ∀ (t : Fin 2048) d, 1 - k0_pay1 (F := Ideal) x1 x4 (ix2 t d) = ((K t.val d : ℝ) : EReal))
  (hl : ∀ (t : Fin 2048) d, Ideal.log (k0_pay1 (F := Ideal) x1 x4 (ix2 t d)) = ((lf t.val d : ℝ) : EReal)) (h2 : ∀ (t : Fin 2048) d, x2 (ix3 0 t d) = ((V t.val d : ℝ) : EReal))
include hl
theorem sumIn (n : Fin 64) (i : Fin 32) (d : Fin 128) (h : n.val * 32 + i.val < 2048) :
    k0_pay4 (F := Ideal) k0_pay2 (k0_pay3 x1 x4) 16#32 (ix2 ⟨n.val * 32 + i.val, h⟩ d) = ((inChunk lf n.val i.val d : ℝ) : EReal) := by
  rw [pay4_eq, stp16 _ (fun s => ((lf s d : ℝ) : EReal)) d (stp8 _ _ d (stp4 _ _ d (stp2 _ _ d (stp1 _ _ d fun t => by rw [lastIn_one]; exact hl t d))))]
  show lastIn _ 32 (n.val * 32 + i.val) = _
  rw [Nat.mul_comm, lastIn_all _ _ _ i.isLt, Cert.Xattn.sum_real]
  rfl
theorem dec5 (n : Fin 64) (d : Fin 128) : k0_pay5 (F := Ideal) k0_pay2 (k0_pay3 x1 x4) 16#32 (ix3 n 0 d) = ((Real.exp (inChunk lf n.val 31 d) : ℝ) : EReal) := by
  have e : k0_pay5 (F := Ideal) k0_pay2 (k0_pay3 x1 x4) 16#32 (ix3 n 0 d) = Ideal.exp (k0_pay4 (F := Ideal) k0_pay2 (k0_pay3 x1 x4) 16#32 (ix2 ⟨n.val * 32 + 31, by omega⟩ d)) := by
    pointwise [k0_pay5]
  rw [e, show Ideal.exp (k0_pay4 (F := Ideal) k0_pay2 (k0_pay3 x1 x4) 16#32 (ix2 ⟨n.val * 32 + 31, by omega⟩ d)) = Ideal.exp ((inChunk lf n.val 31 d : ℝ) : EReal) from congrArg _ (sumIn x1 x4 lf hl n 31 d (by show n.val * 32 + 31 < 2048; omega))]
  exact Ideal.exp_coe _
include h1
theorem key7 (n : Fin 64) (j : Fin 32) (d : Fin 128) : k0_pay7 (F := Ideal) (k0_pay1 x1 x4) k0_pay2 (k0_pay3 x1 x4) 16#32 (ix3 n j d)
    = ((K (32 * n.val + j.val) d * Real.exp (-inChunk lf n.val j.val d) : ℝ) : EReal) := by
  have e : k0_pay7 (F := Ideal) (k0_pay1 x1 x4) k0_pay2 (k0_pay3 x1 x4) 16#32 (ix3 n j d) = (1 - k0_pay1 (F := Ideal) x1 x4 (ix2 ⟨n.val * 32 + j.val, by omega⟩ d))
      * Ideal.exp (0 - k0_pay4 (F := Ideal) k0_pay2 (k0_pay3 x1 x4) 16#32 (ix2 ⟨n.val * 32 + j.val, by omega⟩ d)) := by
    pointwise [k0_pay7]
  rw [e, h1, sumIn x1 x4 lf hl, zero_sub, ← EReal.coe_neg, Ideal.exp_coe, ← EReal.coe_mul]; dsimp only; rw [Nat.mul_comm n.val 32]
include h2
theorem add11 (n : Fin 64) (a b : Fin 128) : addU x1 x2 x4 n a b
    = ((∑ j ∈ Finset.range 32, V (32 * n.val + j) a * ((K (32 * n.val + j) b * Real.exp (-inChunk lf n.val j b)) * Real.exp (inChunk lf n.val 31 b)) : ℝ) : EReal) := by
  have e : addU x1 x2 x4 n a b = ∑ j : Fin 32, x2 (ix3 0 ⟨n.val * 32 + j.val, by omega⟩ a)
      * (k0_pay7 (F := Ideal) (k0_pay1 x1 x4) k0_pay2 (k0_pay3 x1 x4) 16#32 (ix3 n j b) * k0_pay5 (F := Ideal) k0_pay2 (k0_pay3 x1 x4) 16#32 (ix3 n 0 b)) := by
    unfold addU
    pointwise [k0_pay12, k0_pay11, k0_pay9]
  rw [e]
  simp only [h2, key7 x1 x4 lf K h1 hl, dec5 x1 x4 lf hl, ← EReal.coe_mul]
  rw [Cert.Xattn.sum_real, ← Fin.sum_univ_eq_sum_range (fun j => V (32 * n.val + j) a * ((K (32 * n.val + j) b * Real.exp (-inChunk lf n.val j b)) * Real.exp (inChunk lf n.val 31 b))) 32]
  simp only [Nat.mul_comm n.val 32]
theorem st_eq (n : ℕ) (hn : n ≤ 64) (a b : Fin 128) : stv (addU x1 x2 x4) (decD x1 x4) n a b = ((carried lf K V n a b : ℝ) : EReal) := by
  induction n generalizing a b with
  | zero => rfl
  | succ n ih =>
    simp only [stv, carried]
    have hd : decD x1 x4 ⟨n, by omega⟩ b = ((Real.exp (inChunk lf n 31 b) : ℝ) : EReal) := by
      unfold decD
      have e : k0_pay6 (F := Ideal) k0_pay2 (k0_pay3 x1 x4) 16#32 (ix3 ⟨n, by omega⟩ 0 b) = k0_pay5 (F := Ideal) k0_pay2 (k0_pay3 x1 x4) 16#32 (ix3 ⟨n, by omega⟩ 0 b) := by
        pointwise [k0_pay6]
      rw [e]; exact dec5 x1 x4 lf hl ⟨n, by omega⟩ b
    rw [dif_pos (by omega), ih (by omega), hd, add11 x1 x2 x4 lf K V h1 hl h2, ← EReal.coe_mul, ← EReal.coe_add]
include h0
theorem qry8 (n : Fin 64) (i : Fin 32) (d : Fin 128) : k0_pay8 (F := Ideal) k0_pay2 (k0_pay3 x1 x4) 16#32 x0 (ix3 n i d)
    = ((Q (32 * n.val + i.val) d * Real.exp (inChunk lf n.val i.val d) : ℝ) : EReal) := by
  have e : k0_pay8 (F := Ideal) k0_pay2 (k0_pay3 x1 x4) 16#32 x0 (ix3 n i d) = x0 (ix3 0 ⟨n.val * 32 + i.val, by omega⟩ d)
      * Ideal.exp (k0_pay4 (F := Ideal) k0_pay2 (k0_pay3 x1 x4) 16#32 (ix2 ⟨n.val * 32 + i.val, by omega⟩ d)) := by
    pointwise [k0_pay8]
  rw [e, h0, sumIn x1 x4 lf hl, Ideal.exp_coe, ← EReal.coe_mul]; dsimp only; rw [Nat.mul_comm n.val 32]
theorem sco10 (n : Fin 64) (i j : Fin 32) : k0_pay10 (F := Ideal) (k0_pay1 x1 x4) k0_pay2 (k0_pay3 x1 x4) 16#32 x0 (ix3 n i j)
    = (((if j.val ≤ i.val then ∑ d : Fin 128, (Q (32 * n.val + i.val) d * Real.exp (inChunk lf n.val i.val d)) * (K (32 * n.val + j.val) d * Real.exp (-inChunk lf n.val j.val d)) else 0 : ℝ)) : EReal) := by
  have e : k0_pay10 (F := Ideal) (k0_pay1 x1 x4) k0_pay2 (k0_pay3 x1 x4) 16#32 x0 (ix3 n i j)
      = Scalar.select (IntOp.cmpi CmpIPredicate.sge (BitVec.ofNat 32 i.val) (BitVec.ofNat 32 j.val))
        (∑ d, k0_pay8 (F := Ideal) k0_pay2 (k0_pay3 x1 x4) 16#32 x0 (ix3 n i d) * k0_pay7 (F := Ideal) (k0_pay1 x1 x4) k0_pay2 (k0_pay3 x1 x4) 16#32 (ix3 n j d)) 0 := by
    pointwise [k0_pay10]
  rw [e, mask32]
  by_cases h : j.val ≤ i.val
  · rw [if_pos h, if_pos h, select_one]
    simp only [qry8 x0 x1 x2 x4 lf K Q V h0 h1 hl h2, key7 x1 x4 lf K h1 hl, ← EReal.coe_mul]
    rw [Cert.Xattn.sum_real]
  · rw [if_neg h, if_neg h, select_zero]; rfl
theorem blk16 (t : Fin 2048) (a : Fin 128) :
    k0_pay16 (F := Ideal) (k0_pay8 k0_pay2 (k0_pay3 x1 x4) 16#32 x0) (k0_pay9 x2) (k0_pay10 (k0_pay1 x1 x4) k0_pay2 (k0_pay3 x1 x4) 16#32 x0) (stAll x1 x2 x4) x5 x3 (ix3 0 t a)
      = finish (fun y => ((solved lf K Q V t.val y : ℝ) : EReal)) (fun y => x5 (ix2 0 y)) (fun y => x3 (ix3 0 t y)) a := by
  have ho : ∀ y : Fin 128, (∑ j : Fin 32, k0_pay10 (F := Ideal) (k0_pay1 x1 x4) k0_pay2 (k0_pay3 x1 x4) 16#32 x0 (ix3 ⟨t.val / 32, by omega⟩ ⟨t.val % 32, by omega⟩ j) * k0_pay9 (F := Ideal) x2 (ix3 ⟨t.val / 32, by omega⟩ j y))
      + ∑ d : Fin 128, k0_pay8 (F := Ideal) k0_pay2 (k0_pay3 x1 x4) 16#32 x0 (ix3 ⟨t.val / 32, by omega⟩ ⟨t.val % 32, by omega⟩ d) * stAll x1 x2 x4 (ix3 ⟨t.val / 32, by omega⟩ y d)
      = ((solved lf K Q V t.val y : ℝ) : EReal) := by
    intro y
    have e9 : ∀ (n : Fin 64) (j : Fin 32), k0_pay9 (F := Ideal) x2 (ix3 n j y) = ((V (32 * n.val + j.val) y : ℝ) : EReal) := by
      intro n j
      have e : k0_pay9 (F := Ideal) x2 (ix3 n j y) = x2 (ix3 0 ⟨n.val * 32 + j.val, by omega⟩ y) := by
        pointwise [k0_pay9]
      rw [e, h2]; dsimp only; rw [Nat.mul_comm n.val 32]
    have es : ∀ (n : Fin 64) (d : Fin 128), stAll x1 x2 x4 (ix3 n y d) = ((carried lf K V n.val y d : ℝ) : EReal) := fun n d => st_eq x1 x2 x4 lf K V h1 hl h2 n.val (by omega) y d
    simp only [sco10 x0 x1 x2 x4 lf K Q V h0 h1 hl h2, qry8 x0 x1 x2 x4 lf K Q V h0 h1 hl h2, e9, es, ← EReal.coe_mul]
    rw [Cert.Xattn.sum_real, Cert.Xattn.sum_real, ← EReal.coe_add]
    congr 1
    have hc := chunked lf K Q V (t.val / 32) (t.val % 32) (by omega) (by omega) y
    rw [← Fin.sum_univ_eq_sum_range (fun j => (if j ≤ t.val % 32 then ∑ d : Fin 128, (Q (32 * (t.val / 32) + t.val % 32) d * Real.exp (inChunk lf (t.val / 32) (t.val % 32) d)) * (K (32 * (t.val / 32) + j) d * Real.exp (-inChunk lf (t.val / 32) j d)) else 0) * V (32 * (t.val / 32) + j) y) 32] at hc
    rw [show 32 * (t.val / 32) + t.val % 32 = t.val by omega] at hc
    rw [← hc, show 32 * (t.val / 32) + t.val % 32 = t.val by omega]
  unfold finish
  simp only [← ho]
  pointwise [k0_pay16]
end Block
end Cert.HgrnFIdeal.Blocks
-- ==== Proof.HgArr.lean ====
/- The gated recurrence forward: what its array holds after the run. -/
module
public import proofs.«01_k».proof.Proof.HgBlk
public import proofs.«01_k».proof.Proof.Gen.HgrnFIdeal.Value
@[expose] public section
set_option maxRecDepth 16384
noncomputable section
namespace Cert.HgrnFIdeal.Blocks
open Cert.HgrnFIdeal Cert.HgrnFIdeal.Gen Idealize.ShloMosaic Idealize.ShloMosaic.TcCoe Idealize.SL.Sem Cert.Hgrn
variable (m : (ℓ : Loc nD τ sig) → Buf (Elt Ideal) ℓ) (c : Dev nD)

/-- The arguments, read by their coordinates, and the array of the results. -/
abbrev aZ : Fin 4 → Fin 2048 → Fin 3584 → EReal := fun b t n => m ((c : Thread nD τ).loc main_arg0) (ix3 b t n)
abbrev aL : Fin 512 → EReal := fun n => m ((c : Thread nD τ).loc main_arg1) (ix2 0 n)
abbrev aW : Fin 512 → EReal := fun n => m ((c : Thread nD τ).loc main_arg2) (ix2 0 n)
def res : Buf (Elt Ideal) ((c : Thread nD τ).loc main_v0) := fun i : S4x2048x512.Idx => mixer (aZ m c) (aL m c) (aW m c) (i 0) (i 1) (i 2)

theorem lt16 (t : Fin cfg0.N) : t.val < 16 := by have h := t.isLt; have e : cfg0.N = 16 := N_0; omega
/-- The batch and the head of point `t`. -/
def tb (t : Fin cfg0.N) : Fin 4 := ⟨t.val / 4, by have := lt16 t; omega⟩
def th (t : Fin cfg0.N) : Fin 4 := ⟨t.val % 4, by omega⟩
theorem idx0 : ∀ t : Fin grid0.N, win0_0.index t = ![t.val / 4, 0, 0 + t.val % 4] := by decide +kernel
theorem rd0 (t : Fin cfg0.N) (r : Fin 2048) (d : Fin 128) : iblk m c 0 t (ix3 0 r d) = aZ m c (tb t) r ⟨0 + ((th t).val * 128 + d.val), by omega⟩ := by
  have e0 : win0_0.index t 0 = t.val / 4 := congrFun (idx0 t) 0
  have e1 : win0_0.index t 1 = 0 := congrFun (idx0 t) 1
  have e2 : win0_0.index t 2 = 0 + t.val % 4 := congrFun (idx0 t) 2
  unfold iblk
  rw [View.read_apply]
  show V m c main_arg0 _ = _
  unfold V
  dsimp only [aZ]
  congr 1
  funext a
  apply Fin.ext
  match a with
  | ⟨0, _⟩ => show win0_0.index t 0 * 1 + 1 * 0 = t.val / 4; rw [e0]; omega
  | ⟨1, _⟩ => show win0_0.index t 1 * 2048 + 1 * r.val = r.val; rw [e1]; omega
  | ⟨2, _⟩ => show win0_0.index t 2 * 128 + 1 * d.val = 0 + (t.val % 4 * 128 + d.val); rw [e2]; omega
theorem idx1 : ∀ t : Fin grid0.N, win0_1.index t = ![t.val / 4, 0, 4 + t.val % 4] := by decide +kernel
theorem rd1 (t : Fin cfg0.N) (r : Fin 2048) (d : Fin 128) : iblk m c 1 t (ix3 0 r d) = aZ m c (tb t) r ⟨512 + ((th t).val * 128 + d.val), by omega⟩ := by
  have e0 : win0_1.index t 0 = t.val / 4 := congrFun (idx1 t) 0
  have e1 : win0_1.index t 1 = 0 := congrFun (idx1 t) 1
  have e2 : win0_1.index t 2 = 4 + t.val % 4 := congrFun (idx1 t) 2
  unfold iblk
  rw [View.read_apply]
  show V m c main_arg0 _ = _
  unfold V
  dsimp only [aZ]
  congr 1
  funext a
  apply Fin.ext
  match a with
  | ⟨0, _⟩ => show win0_1.index t 0 * 1 + 1 * 0 = t.val / 4; rw [e0]; omega
  | ⟨1, _⟩ => show win0_1.index t 1 * 2048 + 1 * r.val = r.val; rw [e1]; omega
  | ⟨2, _⟩ => show win0_1.index t 2 * 128 + 1 * d.val = 512 + (t.val % 4 * 128 + d.val); rw [e2]; omega
theorem idx2 : ∀ t : Fin grid0.N, win0_2.index t = ![t.val / 4, 0, 8 + t.val % 4] := by decide +kernel
theorem rd2 (t : Fin cfg0.N) (r : Fin 2048) (d : Fin 128) : iblk m c 2 t (ix3 0 r d) = aZ m c (tb t) r ⟨1024 + ((th t).val * 128 + d.val), by omega⟩ := by
  have e0 : win0_2.index t 0 = t.val / 4 := congrFun (idx2 t) 0
  have e1 : win0_2.index t 1 = 0 := congrFun (idx2 t) 1
  have e2 : win0_2.index t 2 = 8 + t.val % 4 := congrFun (idx2 t) 2
  unfold iblk
  rw [View.read_apply]
  show V m c main_arg0 _ = _
  unfold V
  dsimp only [aZ]
  congr 1
  funext a
  apply Fin.ext
  match a with
  | ⟨0, _⟩ => show win0_2.index t 0 * 1 + 1 * 0 = t.val / 4; rw [e0]; omega
  | ⟨1, _⟩ => show win0_2.index t 1 * 2048 + 1 * r.val = r.val; rw [e1]; omega
  | ⟨2, _⟩ => show win0_2.index t 2 * 128 + 1 * d.val = 1024 + (t.val % 4 * 128 + d.val); rw [e2]; omega
theorem idx3 : ∀ t : Fin grid0.N, win0_3.index t = ![t.val / 4, 0, 12 + t.val % 4] := by decide +kernel
theorem rd3 (t : Fin cfg0.N) (r : Fin 2048) (d : Fin 128) : iblk m c 3 t (ix3 0 r d) = aZ m c (tb t) r ⟨1536 + ((th t).val * 128 + d.val), by omega⟩ := by
  have e0 : win0_3.index t 0 = t.val / 4 := congrFun (idx3 t) 0
  have e1 : win0_3.index t 1 = 0 := congrFun (idx3 t) 1
  have e2 : win0_3.index t 2 = 12 + t.val % 4 := congrFun (idx3 t) 2
  unfold iblk
  rw [View.read_apply]
  show V m c main_arg0 _ = _
  unfold V
  dsimp only [aZ]
  congr 1
  funext a
  apply Fin.ext
  match a with
  | ⟨0, _⟩ => show win0_3.index t 0 * 1 + 1 * 0 = t.val / 4; rw [e0]; omega
  | ⟨1, _⟩ => show win0_3.index t 1 * 2048 + 1 * r.val = r.val; rw [e1]; omega
  | ⟨2, _⟩ => show win0_3.index t 2 * 128 + 1 * d.val = 1536 + (t.val % 4 * 128 + d.val); rw [e2]; omega
theorem idx4 : ∀ t : Fin grid0.N, win0_4.index t = ![0, t.val % 4] := by decide +kernel
theorem rd4 (t : Fin cfg0.N) (d : Fin 128) : iblk m c 4 t (ix2 0 d) = aL m c (col (th t) d) := by
  have e0 : win0_4.index t 0 = 0 := congrFun (idx4 t) 0
  have e1 : win0_4.index t 1 = t.val % 4 := congrFun (idx4 t) 1
  unfold iblk
  rw [View.read_apply]
  show V m c main_arg1 _ = _
  unfold V
  dsimp only [aL]
  congr 1
  funext a
  apply Fin.ext
  match a with
  | ⟨0, _⟩ => show win0_4.index t 0 * 1 + 1 * 0 = 0; rw [e0]
  | ⟨1, _⟩ => show win0_4.index t 1 * 128 + 1 * d.val = t.val % 4 * 128 + d.val; rw [e1]; omega
theorem idx5 : ∀ t : Fin grid0.N, win0_5.index t = ![0, t.val % 4] := by decide +kernel
theorem rd5 (t : Fin cfg0.N) (d : Fin 128) : iblk m c 5 t (ix2 0 d) = aW m c (col (th t) d) := by
  have e0 : win0_5.index t 0 = 0 := congrFun (idx5 t) 0
  have e1 : win0_5.index t 1 = t.val % 4 := congrFun (idx5 t) 1
  unfold iblk
  rw [View.read_apply]
  show V m c main_arg2 _ = _
  unfold V
  dsimp only [aW]
  congr 1
  funext a
  apply Fin.ext
  match a with
  | ⟨0, _⟩ => show win0_5.index t 0 * 1 + 1 * 0 = 0; rw [e0]
  | ⟨1, _⟩ => show win0_5.index t 1 * 128 + 1 * d.val = t.val % 4 * 128 + d.val; rw [e1]; omega

/-- The block point `t` computes. -/
theorem blk_at (H : Finite (aZ m c) (aL m c)) (t : Fin cfg0.N) (r : Fin 2048) (a : Fin 128) :
    outsAt0 m c t (ix3 0 r a) = mixer (aZ m c) (aL m c) (aW m c) (tb t) r (col (th t) a) := by
  have hg : ∀ (r : Fin 2048) (d : Fin 128), k0_pay1 (F := Ideal) (iblk m c 1 t) (iblk m c 4 t) (ix2 r d) = gate (aZ m c) (aL m c) (tb t) r (col (th t) d) := by
    intro r d
    rw [pay1, rd1, rd4]
    rfl
  unfold outsAt0
  rw [out6, blk16 _ _ _ _ _ _ (seqOf (logs (aZ m c) (aL m c) (tb t) (th t))) (seqOf (keys (aZ m c) (aL m c) (tb t) (th t))) (seqOf (qrys (aZ m c) (tb t) (th t))) (seqOf (vals (aZ m c) (tb t) (th t)))
    (fun r d => by
      rw [← seqOf_eq _ r d (qrys_real H _ _ _ _), rd0]
      unfold qrys
      congr 1
      apply Fin.ext
      show 0 + ((th t).val * 128 + d.val) = (th t).val * 128 + d.val
      omega)
    (fun r d => by rw [hg, ← seqOf_eq _ r d (keys_real H _ _ _ _)]; rfl)
    (fun r d => by rw [hg, ← seqOf_eq _ r d (logs_real H _ _ _ _)]; rfl)
    (fun r d => by rw [← seqOf_eq _ r d (vals_real H _ _ _ _), rd2]; rfl)]
  have h1 : (⟨(col (th t) a).val / 128, by omega⟩ : Fin 4) = th t := Fin.ext (by show ((th t).val * 128 + a.val) / 128 = (th t).val; omega)
  have h2 : (⟨(col (th t) a).val % 128, by omega⟩ : Fin 128) = a := Fin.ext (by show ((th t).val * 128 + a.val) % 128 = a.val; omega)
  have h3 : (col (th t) a).val / 128 * 128 = (th t).val * 128 := by show ((th t).val * 128 + a.val) / 128 * 128 = (th t).val * 128; omega
  unfold mixer
  rw [h1, h2]
  unfold recur
  congr 1
  · funext y; exact rd5 m c t y
  · funext y
    rw [rd3]
    congr 1
    apply Fin.ext
    show 1536 + ((th t).val * 128 + y.val) = 1536 + ((col (th t) a).val / 128 * 128 + y.val)
    rw [h3]

theorem idx6 : ∀ t : Fin grid0.N, win0_6.index t = ![t.val / 4, 0, t.val % 4] := by decide +kernel
theorem fl6 (H : Finite (aZ m c) (aL m c)) (t : Fin cfg0.N) (hf : (cfg0.win 6).flush t = true) :
    (Gen.dats m 0 c).flushed 6 t = ((cfg0.win 6).blk t).view.read (Elt Ideal) (res m c) := by
  have e0 : win0_6.index t 0 = t.val / 4 := congrFun (idx6 t) 0
  have e1 : win0_6.index t 1 = 0 := congrFun (idx6 t) 1
  have e2 : win0_6.index t 2 = t.val % 4 := congrFun (idx6 t) 2
  rw [Value.flushed6]
  funext j
  have key : ∀ (r : Fin 2048) (d : Fin 128), outsAt0 m c t (ix3 0 r d) = ((cfg0.win 6).blk t).view.read (Elt Ideal) (res m c) (ix3 0 r d) := by
    intro r d
    have he : ((cfg0.win 6).blk t).view.emb (ix3 0 r d) = ix3 (tb t) r (col (th t) d) := by
      funext a
      apply Fin.ext
      match a with
      | ⟨0, _⟩ => show win0_6.index t 0 * 1 + 1 * 0 = t.val / 4; rw [e0]; omega
      | ⟨1, _⟩ => show win0_6.index t 1 * 2048 + 1 * r.val = r.val; rw [e1]; omega
      | ⟨2, _⟩ => show win0_6.index t 2 * 128 + 1 * d.val = t.val % 4 * 128 + d.val; rw [e2]; omega
    rw [View.read_apply, he, blk_at m c H t r d]
    rfl
  have hj : j = ix3 (⟨0, by decide⟩ : Fin 1) (⟨(j 1).val, (j 1).isLt⟩ : Fin 2048) (⟨(j 2).val, (j 2).isLt⟩ : Fin 128) := by
    funext a; apply Fin.ext
    match a with
    | ⟨0, _⟩ => have : (j 0).val < 1 := (j 0).isLt; show (j 0).val = 0; omega
    | ⟨1, _⟩ => rfl
    | ⟨2, _⟩ => rfl
  rw [hj]
  exact key _ _
theorem fin6 (H : Finite (aZ m c) (aL m c)) : (Gen.dats m 0 c).arrAt 6 cfg0.N = res m c :=
  (Gen.dats m 0 c).arrAt_eq_of_cover 6 (res m c) (fl6 m c H) fun i => by
    have h0 : (i 0 : Nat) < 4 := (i 0).isLt
    have h1 : (i 1 : Nat) < 2048 := (i 1).isLt
    have h2 : (i 2 : Nat) < 512 := (i 2).isLt
    let t : Fin cfg0.N := ⟨(i 0).val * 4 + (i 2).val / 128, by rw [show cfg0.N = 16 from N_0]; omega⟩
    have ht : t.val = (i 0).val * 4 + (i 2).val / 128 := rfl
    have e0 : win0_6.index t 0 = t.val / 4 := congrFun (idx6 t) 0
    have e1 : win0_6.index t 1 = 0 := congrFun (idx6 t) 1
    have e2 : win0_6.index t 2 = t.val % 4 := congrFun (idx6 t) 2
    refine ⟨t, flush0_6 t, ?_⟩
    show i ∈ ((View.whole main_v0).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [e0]; omega
    | ⟨1, _⟩ => show win0_6.index t 1 * 2048 ≤ (i 1 : Nat) ∧ (i 1 : Nat) < win0_6.index t 1 * 2048 + 2048
                rw [e1]; omega
    | ⟨2, _⟩ => show win0_6.index t 2 * 128 ≤ (i 2 : Nat) ∧ (i 2 : Nat) < win0_6.index t 2 * 128 + 128
                rw [e2]; omega
end Cert.HgrnFIdeal.Blocks
-- ==== Proof.HgRef.lean ====
/- The gated recurrence's reference, read at an index. -/
module
public import proofs.«01_k».proof.Proof.HgFun
public import proofs.«01_k».proof.Proof.Gen.HgrnFRefIdeal.Read
public import Idealize.ShloMosaic.Lib.Pointwise
@[expose] public section
set_option maxRecDepth 16384
noncomputable section
namespace Cert.HgrnFRefIdeal.Blocks
open Cert.HgrnFRefIdeal Cert.HgrnFRefIdeal.Gen Cert.HgrnFRefIdeal.Read Idealize.ShloMosaic Idealize.ShloMosaic.TcCoe Cert.Hgrn
open scoped BigOperators
variable (z : FVec Ideal S4x2048x3584 .f32) (lb onw : FVec Ideal S1x512 .f32)
/-- The arguments by their coordinates. -/
abbrev cz : Fin 4 → Fin 2048 → Fin 3584 → EReal := fun b t n => z (ix3 b t n)
abbrev cl : Fin 512 → EReal := fun n => lb (ix2 0 n)
theorem v20 (b : Fin 4) (t : Fin 2048) (n : Fin 512) : val_main_v20 (F := Ideal) z lb (ix3 b t n) = gate (cz z) (cl lb) b t n := by
  have e : val_main_v20 (F := Ideal) z lb (ix3 b t n) = lb (ix2 0 n) + (1 - lb (ix2 0 n)) * Ideal.div 1 (1 + Ideal.exp (-z (ix3 b t ⟨512 + n.val, by omega⟩))) := by
    pointwise [val_main_v20, val_main_v19, val_main_v18, val_main_v17, val_main_v16, val_main_v15, val_main_v14, val_main_v13, val_main_cst_1, val_main_v12, val_main_v11, val_main_cst_0, val_main_v10, val_main_v9, val_main_v8, val_main_v7, val_main_cst, val_main_v5, val_main_v2, val_main_v0]
  rw [e]; rfl
theorem v31 (b h : Fin 4) (t : Fin 2048) (d : Fin 128) : val_main_v31 (F := Ideal) z lb (ix4 b h t d) = logs (cz z) (cl lb) b h t d := by
  have e : val_main_v31 (F := Ideal) z lb (ix4 b h t d) = Ideal.log (val_main_v20 (F := Ideal) z lb (ix3 b t (col h d))) := by
    pointwise [val_main_v31, val_main_v30, val_main_v23]
  rw [e, v20]; rfl
theorem v27 (b h : Fin 4) (t : Fin 2048) (d : Fin 128) : val_main_v27 (F := Ideal) z lb (ix4 b h t d) = keys (cz z) (cl lb) b h t d := by
  have e : val_main_v27 (F := Ideal) z lb (ix4 b h t d) = 1 - val_main_v20 (F := Ideal) z lb (ix3 b t (col h d)) := by
    pointwise [val_main_v27, val_main_v26, val_main_v22, val_main_v21, val_main_cst_2]
  rw [e, v20]; rfl
theorem v25 (b h : Fin 4) (t : Fin 2048) (d : Fin 128) : val_main_v25 (F := Ideal) z (ix4 b h t d) = qrys (cz z) b h t d := by
  unfold qrys
  pointwise [val_main_v25, val_main_v24, val_main_v3, val_main_v1, val_main_v0]
theorem v29 (b h : Fin 4) (t : Fin 2048) (d : Fin 128) : val_main_v29 (F := Ideal) z (ix4 b h t d) = vals (cz z) b h t d := by
  unfold vals
  pointwise [val_main_v29, val_main_v28, val_main_v3, val_main_v1, val_main_v0]
theorem v33 (t s : Fin 2048) : val_main_v33 (F := Ideal) (ix2 t s) = if s.val ≤ t.val then 1#1 else 0#1 := by
  have e : val_main_v33 (F := Ideal) (ix2 t s) = Scalar.select (IntOp.cmpi .sge (IntOp.addi (BitVec.ofNat 32 t.val) 0#32) (BitVec.ofNat 32 s.val)) 1#1 0#1 := by
    pointwise [val_main_v33, val_main_v32, val_main_c, val_main_call0_v0, val_main_call0_v1, val_main_call0_v2, val_main_call0_v3, val_main_call0_v4, val_main_call0_v5, val_main_call0_c, val_main_call0_c_0]
  have ht : (BitVec.ofNat 32 t.val).toInt = t.val := by rw [BitVec.toInt_ofNat', Int.bmod_eq_of_le] <;> omega
  have hs : (BitVec.ofNat 32 s.val).toInt = s.val := by rw [BitVec.toInt_ofNat', Int.bmod_eq_of_le] <;> omega
  have h : IntOp.cmpi .sge (IntOp.addi (BitVec.ofNat 32 t.val) 0#32) (BitVec.ofNat 32 s.val) = BitVec.ofBool (decide (s.val ≤ t.val)) := by
    show BitVec.ofBool ((BitVec.ofNat 32 s.val).sle (BitVec.ofNat 32 t.val + 0#32)) = _
    rw [BitVec.add_zero]
    unfold BitVec.sle
    rw [ht, hs]
    congr 1
    simp
  rw [e, h]
  by_cases hc : s.val ≤ t.val
  · rw [if_pos hc, decide_eq_true hc]; rfl
  · rw [if_neg hc, decide_eq_false hc]; rfl
theorem toFloat (p : Prop) [Decidable p] : FloatOps.uitofp (F := Ideal) .f32 (if p then 1#1 else 0#1 : BitVec 1) = ((if p then 1 else 0 : ℝ) : EReal) := by
  by_cases h : p
  · rw [if_pos h, if_pos h]; show (((1#1 : BitVec 1).toNat : ℝ) : EReal) = _; norm_num
  · rw [if_neg h, if_neg h]; show (((0#1 : BitVec 1).toNat : ℝ) : EReal) = _; norm_num
/-- The running sum of a sequence as a sum over all rows. -/
theorem since_all (f : ℕ → Fin 128 → ℝ) (t : Fin 2048) (d : Fin 128) : ∑ s : Fin 2048, f s.val d * (if s.val ≤ t.val then 1 else 0) = since f t.val d := by
  rw [Fin.sum_univ_eq_sum_range (fun s => f s d * (if s ≤ t.val then 1 else 0)) 2048]
  unfold since
  rw [← Finset.sum_subset (s₁ := Finset.range (t.val + 1)) (fun a h => by have := Finset.mem_range.mp h; exact Finset.mem_range.mpr (by omega))
    (fun s _ h => by rw [if_neg (fun k => h (Finset.mem_range.mpr (by omega))), mul_zero])]
  exact Finset.sum_congr rfl fun s h => by rw [if_pos (by have := Finset.mem_range.mp h; omega), mul_one]
variable {z lb} (H : Finite (cz z) (cl lb))
include H
theorem v36 (b h : Fin 4) (t : Fin 2048) (d : Fin 128) : val_main_v36 (F := Ideal) z lb (ix4 b h t d) = ((since (seqOf (logs (cz z) (cl lb) b h)) t.val d : ℝ) : EReal) := by
  have e : val_main_v36 (F := Ideal) z lb (ix4 b h t d) = ∑ x, val_main_v31 (F := Ideal) z lb (ix4 b h x d) * FloatOps.uitofp (F := Ideal) .f32 (val_main_v33 (F := Ideal) (ix2 t x)) := by
    pointwise [val_main_v36, val_main_v35, val_main_v34]
  rw [e, ← since_all, ← Cert.Xattn.sum_real]
  exact Finset.sum_congr rfl fun x _ => by
    rw [v33, toFloat, v31, seqOf_eq _ x d (logs_real H _ _ _ _), ← EReal.coe_mul]
theorem v50 (b h : Fin 4) (t s : Fin 2048) : val_main_v50 (F := Ideal) z lb (ix4 b h t s)
    = ((if s.val ≤ t.val then weight (seqOf (logs (cz z) (cl lb) b h)) (seqOf (keys (cz z) (cl lb) b h)) (seqOf (qrys (cz z) b h)) t.val s.val else 0 : ℝ) : EReal) := by
  have e : val_main_v50 (F := Ideal) z lb (ix4 b h t s) = Scalar.select (val_main_v33 (F := Ideal) (ix2 t s))
      (∑ x, val_main_v25 (F := Ideal) z (ix4 b h t x) * Ideal.exp (val_main_v36 (F := Ideal) z lb (ix4 b h t x) - val_main_v36 (F := Ideal) z lb (ix4 b h s x)) * val_main_v27 (F := Ideal) z lb (ix4 b h s x)) 0 := by
    pointwise [val_main_v50, val_main_call1_v1, val_main_call1_v2, val_main_call1_v0, val_main_cst_4, val_main_v49, val_main_cst_3, val_main_v48, val_main_v47, val_main_v46, val_main_v45, val_main_v44, val_main_v43, val_main_v42, val_main_v41, val_main_v40, val_main_v39, val_main_v38, val_main_v37]
    exact congrArg (Scalar.select _ _) (by simp [constant, Ideal.ofBits, Ideal.ieee])
  rw [e, v33]
  by_cases hc : s.val ≤ t.val
  · rw [if_pos hc, if_pos hc]
    have hs : ∀ a b : EReal, Scalar.select 1#1 a b = a := fun _ _ => rfl
    rw [hs]
    unfold weight
    rw [← Cert.Xattn.sum_real]
    exact Finset.sum_congr rfl fun x _ => by
      rw [v36 H, v36 H, v25, v27, seqOf_eq _ t x (qrys_real H _ _ _ _), seqOf_eq _ s x (keys_real H _ _ _ _), ← EReal.coe_sub, Ideal.exp_coe, ← EReal.coe_mul, ← EReal.coe_mul]
  · rw [if_neg hc, if_neg hc]; rfl
theorem v51 (b h : Fin 4) (t : Fin 2048) (d : Fin 128) : val_main_v51 (F := Ideal) z lb (ix4 b h t d) = ((recur (cz z) (cl lb) b h t.val d : ℝ) : EReal) := by
  have e : val_main_v51 (F := Ideal) z lb (ix4 b h t d) = ∑ x, val_main_v50 (F := Ideal) z lb (ix4 b h t x) * val_main_v29 (F := Ideal) z (ix4 b h x d) := by
    pointwise [val_main_v51]
  rw [e]
  unfold recur solved
  rw [← Fin.sum_univ_eq_sum_range (fun s => (if s ≤ t.val then weight (seqOf (logs (cz z) (cl lb) b h)) (seqOf (keys (cz z) (cl lb) b h)) (seqOf (qrys (cz z) b h)) t.val s else 0) * seqOf (vals (cz z) b h) s d) 2048, ← Cert.Xattn.sum_real]
  exact Finset.sum_congr rfl fun s _ => by
    rw [v50 H, v29, seqOf_eq _ s d (vals_real H _ _ _ _), ← EReal.coe_mul]
theorem v68 (b : Fin 4) (t : Fin 2048) (n : Fin 512) : val_main_v68 (F := Ideal) z lb onw (ix3 b t n) = mixer (cz z) (cl lb) (cl onw) b t n := by
  have e : val_main_v68 (F := Ideal) z lb onw (ix3 b t n) = val_main_v51 (F := Ideal) z lb (ix4 b ⟨n.val / 128, by omega⟩ t ⟨n.val % 128, by omega⟩)
      * Ideal.rsqrt (Ideal.div (∑ x, val_main_v51 (F := Ideal) z lb (ix4 b ⟨n.val / 128, by omega⟩ t x) * val_main_v51 (F := Ideal) z lb (ix4 b ⟨n.val / 128, by omega⟩ t x)) (Ideal.ofBits .f32 0x43000000#32) + Ideal.ofBits .f32 0x358637BD#32)
      * onw (ix2 0 n) * (z (ix3 b t ⟨1536 + n.val, by omega⟩) * Ideal.div 1 (1 + Ideal.exp (-z (ix3 b t ⟨1536 + n.val, by omega⟩)))) := by
    pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_cst_5, val_main_cst_6, val_main_cst_7, val_main_v6, val_main_v4, val_main_v0, val_main_call2_v0, val_main_call2_v1, val_main_call2_v2, val_main_call2_v3, val_main_call2_v4, val_main_call2_v5, val_main_call2_cst, val_main_call2_cst_0]
  rw [e]
  simp only [v51 H]
  have hn : n.val / 128 * 128 + n.val % 128 = n.val := by omega
  unfold mixer finish
  have h1 : col ⟨n.val / 128, by omega⟩ ⟨n.val % 128, by omega⟩ = n := Fin.ext hn
  have h2 : (⟨1536 + (n.val / 128 * 128 + n.val % 128), by omega⟩ : Fin 3584) = ⟨1536 + n.val, by omega⟩ := Fin.ext (by show 1536 + (n.val / 128 * 128 + n.val % 128) = 1536 + n.val; rw [hn])
  dsimp only
  rw [h1, h2]
  rfl
end Cert.HgrnFRefIdeal.Blocks
-- ==== Proof.HgPre.lean ====
/- The precondition of the gated recurrence read: real queries, gate arguments and values, a bound between 0 and 1. -/
module
public import proofs.«01_k».proof.Proof.HgFun
public import proofs.«01_k».proof.Pre_finite_gates
public import Idealize.ShloMosaic.Lib.Pointwise
public import Idealize.ShloMosaic.Lib.ReduceAll
@[expose] public section
noncomputable section
namespace Cert.Pre_finite_gates
open Idealize.ShloMosaic Facts Cert.Hgrn
variable [Facts]

theorem top_eq : Ideal.ofBits .f32 0x7F800000#32 = ⊤ := by simp [Ideal.ofBits, Ideal.ieee]
theorem one_eq : Ideal.ofBits .f32 0x3F800000#32 = 1 := by
  simp [Ideal.ofBits, Ideal.ieee]
  rw [← EReal.coe_mul, ← EReal.coe_one]
  norm_num
theorem zero_eq : Ideal.ofBits .f32 0x00000000#32 = 0 := by simp [Ideal.ofBits, Ideal.ieee]
theorem real_of_lt (x : EReal) (h : Ideal.cmp .olt (max x (-x)) (Ideal.ofBits .f32 0x7F800000#32) = 1#1) : ∃ r : ℝ, x = r := by
  rw [top_eq] at h
  induction x with
  | bot => exact absurd h (by simp [Ideal.cmp])
  | top => exact absurd h (by simp [Ideal.cmp])
  | coe r => exact ⟨r, rfl⟩
theorem real_between (x : EReal) (h : Ideal.cmp .oge x (Ideal.ofBits .f32 0x00000000#32) = 1#1) (k : Ideal.cmp .ole x (Ideal.ofBits .f32 0x3F800000#32) = 1#1) :
    ∃ r : ℝ, x = r ∧ 0 ≤ r ∧ r ≤ 1 := by
  rw [zero_eq] at h
  rw [one_eq] at k
  have h0 : 0 ≤ x := by by_contra c; exact absurd h (by simp [Ideal.cmp, c])
  have h1 : x ≤ 1 := by by_contra c; exact absurd k (by simp [Ideal.cmp, c])
  induction x with
  | bot => exact absurd h0 (by simp)
  | top => exact absurd (top_le_iff.mp h1) (by rw [← EReal.coe_one]; exact EReal.coe_ne_top 1)
  | coe r => exact ⟨r, rfl, EReal.coe_nonneg.mp h0, EReal.coe_le_coe_iff.mp (h1.trans_eq EReal.coe_one.symm)⟩
instance : Subsingleton S_.Idx := ⟨fun a b => funext fun k => k.elim0⟩

theorem reals (z : FVec Ideal S4x2048x3584 .f32) (lb onw : FVec Ideal S1x512 .f32) (h : fn (F := Ideal) z lb onw = fun _ => 1#1) :
    Finite (fun b t n => z (ix3 b t n)) (fun n => lb (ix2 0 n)) := by
  dsimp only [fn, fn_part1] at h
  obtain ⟨h4, hle⟩ := IntOp.andi_eq_one.mp (congrFun h (fun k => k.elim0))
  obtain ⟨h3, hge⟩ := IntOp.andi_eq_one.mp h4
  obtain ⟨h2, hi⟩ := IntOp.andi_eq_one.mp h3
  obtain ⟨hq, hf⟩ := IntOp.andi_eq_one.mp h2
  constructor
  · intro b t n hn
    by_cases h0 : n.val < 512
    · have e := Host.reduce_andi_all _ _ _ _ _ hq (ix3 b t ⟨n.val, h0⟩)
      have e2 : extractStridedSlice S4x2048x512 ![0, 0, 0] (extractStridedSlice S4x2048x2048 ![0, 0, 0] z slices_S4x2048x3584_S4x2048x2048_0_0_0) slices_S4x2048x2048_S4x2048x512_0_0_0 (ix3 b t ⟨n.val, h0⟩) = z (ix3 b t n) := by
        pointwise []
      rw [← e2]
      exact real_of_lt _ e
    · by_cases h1 : n.val < 1024
      · have e := Host.reduce_andi_all _ _ _ _ _ hf (ix3 b t ⟨n.val - 512, by omega⟩)
        have e2 : extractStridedSlice S4x2048x512 ![0, 0, 512] (extractStridedSlice S4x2048x2048 ![0, 0, 0] z slices_S4x2048x3584_S4x2048x2048_0_0_0) slices_S4x2048x2048_S4x2048x512_0_0_512 (ix3 b t ⟨n.val - 512, by omega⟩) = z (ix3 b t n) := by
          have e3 : n = ⟨512 + (n.val - 512), by omega⟩ := Fin.ext (by show n.val = 512 + (n.val - 512); omega)
          conv_rhs => rw [e3]
          pointwise []
        rw [← e2]
        exact real_of_lt _ e
      · have e := Host.reduce_andi_all _ _ _ _ _ hi (ix3 b t ⟨n.val - 1024, by omega⟩)
        have e2 : extractStridedSlice S4x2048x512 ![0, 0, 1024] (extractStridedSlice S4x2048x2048 ![0, 0, 0] z slices_S4x2048x3584_S4x2048x2048_0_0_0) slices_S4x2048x2048_S4x2048x512_0_0_1024 (ix3 b t ⟨n.val - 1024, by omega⟩) = z (ix3 b t n) := by
          have e3 : n = ⟨1024 + (n.val - 1024), by omega⟩ := Fin.ext (by show n.val = 1024 + (n.val - 1024); omega)
          conv_rhs => rw [e3]
          pointwise []
        rw [← e2]
        exact real_of_lt _ e
  · intro n
    exact real_between _ (Host.reduce_andi_all _ _ _ _ _ hge (ix2 0 n)) (Host.reduce_andi_all _ _ _ _ _ hle (ix2 0 n))
end Cert.Pre_finite_gates
-- ==== Proof.HgrnF.lean ====
/- The gated recurrence forward: every claim about it. -/
module
public import proofs.«01_k».proof.Defs
public import proofs.«01_k».proof.Proof.Gen.HgrnF.Frame
public import proofs.«01_k».proof.Proof.Gen.Pre_finite_gates
public import proofs.«01_k».proof.Proof.Gen.HgrnFRefIdeal.Run
public import proofs.«01_k».proof.Proof.HgArr
public import proofs.«01_k».proof.Proof.HgRef
public import proofs.«01_k».proof.Proof.HgPre
public import Idealize.ShloMosaic.Lib.Quiescent
@[expose] public section
noncomputable section
namespace Cert.HgrnF
open Idealize.ShloMosaic Idealize.SL.Sem

theorem algebraic : algebraic_HgrnFIdeal_HgrnFRefIdeal_pre_finite_gates := by
  intro m g m' g' h e
  have H := fun c => Pre_finite_gates.reals _ _ _ (h c)
  refine ⟨fun c => HgrnFIdeal.Blocks.res m c, ?_, ?_⟩
  · refine (θ_run HgrnFIdeal.defs _ _).mono (fun r K c => ?_) (HgrnFIdeal.Value.run_blocks (F := Ideal) m g)
    exact ⟨(K c).1.trans (HgrnFIdeal.Blocks.fin6 m c (H c)), (K c).2⟩
  · refine (θ_run HgrnFRefIdeal.defs _ _).mono (fun r K c => ?_) (HgrnFRefIdeal.Value.run (F := Ideal) m' g')
    refine ⟨(K c).1.trans ?_, (K c).2⟩
    rw [HgrnFRefIdeal.Read.val_main_v68_eq, (e c).1, (e c).2.1, (e c).2.2]
    funext i
    idx_vars i
    exact HgrnFRefIdeal.Blocks.v68 _ (H c) _ _ _

theorem reference_frame : quiescent_HgrnFRefIdeal := fun m ρ _ =>
  (θ_run HgrnFRefIdeal.defs _ _).mono (fun r h => ⟨fun c => (h c).2, sem_eq_zero_of_no_sems (by decide) r.2⟩) (HgrnFRefIdeal.Value.run (F := Ideal) m ρ)
end Cert.HgrnF
-- ==== Proof.NormInBArr.lean ====
/- The gradient of the input normalisation, the call `b_norm_in0`: what its arrays hold after the run. -/
module
public import proofs.«01_k».proof.Proof.NormBwd
public import proofs.«01_k».proof.Proof.Product
public import proofs.«01_k».proof.Proof.Rows
public import proofs.«01_k».proof.Proof.Gen.NormInBIdeal.Value
@[expose] public section
set_option maxRecDepth 16384
noncomputable section
namespace Cert.NormInBIdeal.Blocks
open Cert.NormInBIdeal Cert.NormInBIdeal.Gen Idealize.ShloMosaic Idealize.ShloMosaic.TcCoe Idealize.SL.Sem Cert.RowsB Cert.Product Cert.Rows
open scoped BigOperators

section Words
variable {F : FTy → Type} [FloatOps F]
variable (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S1x1024 .f32) (h6 : a6.IsWhole)
  (x0 x1 x2 : Vec F S512x1024 .f32) (x3 : Vec F S1x1024 .f32) (y5 : Vec F S1x1024 .f32)
theorem out4A (hc0 : cond0_0 i) (hc1 : ¬cond0_1 i) : out0_A_4 c i a1 h1 a2 h2 a3 h3 a4 h4 a5 h5 a6 h6 hc0 hc1 x0 x1 x2 x3 = k0_pay5 x0 x1 x2 x3 := by
  unfold out0_A_4
  rw [View.read_writes_eq_canon _ _ _ (cover0_A_4 c i a1 h1 a2 h2 a3 h3 a4 h4 a5 h5 a6 h6 hc0 hc1 x0 x1 x2 x3)]
  unfold kernelRun0_A; dsimp only; (try sl_unfold_words)
  rw [View.canon_unit_zero hz]
  simp only [View.readAt_eq_ld, h1.read_unread, h2.read_unread, h3.read_unread, h4.read_unread, h6.read_unread, View.ld_unit_zero (S := S512x1024) hz, View.ld_unit_zero (S := S1x1024) hz]
theorem out4B (hc0 : ¬cond0_0 i) (hc1 : cond0_1 i) : out0_B_4 c i a1 h1 a2 h2 a3 h3 a4 h4 a5 h5 a6 h6 hc0 hc1 x0 x1 x2 x3 y5 = k0_pay5 x0 x1 x2 x3 := by
  unfold out0_B_4
  rw [View.read_writes_eq_canon _ _ _ (cover0_B_4 c i a1 h1 a2 h2 a3 h3 a4 h4 a5 h5 a6 h6 hc0 hc1 x0 x1 x2 x3 y5)]
  unfold kernelRun0_B; dsimp only; (try sl_unfold_words)
  rw [View.canon_unit_zero hz]
  simp only [View.readAt_eq_ld, h1.read_unread, h2.read_unread, h3.read_unread, h4.read_unread, h6.read_unread, View.ld_unit_zero (S := S512x1024) hz, View.ld_unit_zero (S := S1x1024) hz]
theorem out5A (hc0 : cond0_0 i) (hc1 : ¬cond0_1 i) : out0_A_5 c i a1 h1 a2 h2 a3 h3 a4 h4 a5 h5 a6 h6 hc0 hc1 x0 x1 x2 x3 = k0_pay4 x1 x2 := by
  unfold out0_A_5
  rw [View.read_writes_eq_canon _ _ _ (cover0_A_5 c i a1 h1 a2 h2 a3 h3 a4 h4 a5 h5 a6 h6 hc0 hc1 x0 x1 x2 x3)]
  unfold kernelRun0_A; dsimp only; (try sl_unfold_words)
  rw [View.canon_unit_zero hz]
  simp only [View.readAt_eq_ld, h1.read_unread, h2.read_unread, h3.read_unread, h4.read_unread, h6.read_unread, View.ld_unit_zero (S := S512x1024) hz, View.ld_unit_zero (S := S1x1024) hz]
theorem out5B (hc0 : ¬cond0_0 i) (hc1 : cond0_1 i) : out0_B_5 c i a1 h1 a2 h2 a3 h3 a4 h4 a5 h5 a6 h6 hc0 hc1 x0 x1 x2 x3 y5 = k0_pay1 (k0_pay4 x1 x2) y5 := by
  unfold out0_B_5
  rw [View.read_writes_eq_canon _ _ _ (cover0_B_5 c i a1 h1 a2 h2 a3 h3 a4 h4 a5 h5 a6 h6 hc0 hc1 x0 x1 x2 x3 y5)]
  unfold kernelRun0_B; dsimp only; (try sl_unfold_words)
  rw [View.canon_unit_zero hz]
  simp only [View.readAt_eq_ld, h1.read_unread, h2.read_unread, h3.read_unread, h4.read_unread, h6.read_unread, View.ld_unit_zero (S := S512x1024) hz, View.ld_unit_zero (S := S1x1024) hz]
end Words

theorem pay2_at (x2 : FVec Ideal S512x1024 .f32) (r : Fin 512) : k0_pay2 (F := Ideal) x2 (ix2 r 0) = rinv (fun k => x2 (ix2 r k)) := by
  unfold rinv msq
  pointwise [k0_pay2]
theorem pay3_at (x2 : FVec Ideal S512x1024 .f32) (r : Fin 512) (d : Fin 1024) : k0_pay3 (F := Ideal) x2 (ix2 r d) = x2 (ix2 r d) * rinv (fun k => x2 (ix2 r k)) := by
  rw [← pay2_at]
  pointwise [k0_pay3]
theorem row4 (x0 x1 x2 : FVec Ideal S512x1024 .f32) (x3 : FVec Ideal S1x1024 .f32) (r : Fin 512) (d : Fin 1024) :
    k0_pay5 (F := Ideal) x0 x1 x2 x3 (ix2 r d) = x0 (ix2 r d) + back (fun k => x2 (ix2 r k)) (fun k => x3 (ix2 0 k)) (fun k => x1 (ix2 r k)) d := by
  have e : k0_pay5 (F := Ideal) x0 x1 x2 x3 (ix2 r d) = x0 (ix2 r d) + k0_pay2 (F := Ideal) x2 (ix2 r 0) * (x1 (ix2 r d) * x3 (ix2 0 d) - k0_pay3 (F := Ideal) x2 (ix2 r d) * Ideal.div (∑ k, x1 (ix2 r k) * x3 (ix2 0 k) * k0_pay3 (F := Ideal) x2 (ix2 r k)) (Ideal.ofBits .f32 0x44800000#32)) := by
    pointwise [k0_pay5]
  rw [e]
  simp only [pay2_at, pay3_at]
  rfl
theorem sum5 (x1 x2 : FVec Ideal S512x1024 .f32) (d : Fin 1024) : k0_pay4 (F := Ideal) x1 x2 (ix2 0 d) = ∑ r : Fin 512, x1 (ix2 r d) * (x2 (ix2 r d) * rinv (fun k => x2 (ix2 r k))) := by
  have e : k0_pay4 (F := Ideal) x1 x2 (ix2 0 d) = ∑ r : Fin 512, x1 (ix2 r d) * k0_pay3 (F := Ideal) x2 (ix2 r d) := by
    pointwise [k0_pay4]
  rw [e]
  simp only [pay3_at]
theorem add5 (a b : FVec Ideal S1x1024 .f32) (d : Fin 1024) : k0_pay1 (F := Ideal) a b (ix2 0 d) = b (ix2 0 d) + a (ix2 0 d) := by
  pointwise [k0_pay1]

variable (m : (ℓ : Loc nD τ sig) → Buf (Elt Ideal) ℓ) (c : Dev nD)

theorem ltN (t : Fin cfg0.N) : t.val < 16 := by have h := t.isLt; have e : cfg0.N = 16 := N_0; omega
/-- The row a block's row stands for at point `t`, and the point before. -/
def row (t : Fin cfg0.N) (r : Fin 512) : Fin 8192 := ⟨t.val * 512 + r.val, by have := ltN t; omega⟩
def tile (r : Fin 8192) : Fin cfg0.N := ⟨r.val / 512, by rw [show cfg0.N = 16 from N_0]; omega⟩
abbrev prev (t : Fin cfg0.N) : Fin cfg0.N := ⟨t.val - 1, Nat.lt_of_le_of_lt (Nat.sub_le _ _) t.isLt⟩
abbrev A0 : Fin 8192 → Fin 1024 → EReal := fun i x => m ((c : Thread nD τ).loc main_arg0) (ix2 i x)
abbrev A1 : Fin 8192 → Fin 1024 → EReal := fun i x => m ((c : Thread nD τ).loc main_arg1) (ix2 i x)
abbrev A2 : Fin 8192 → Fin 1024 → EReal := fun i x => m ((c : Thread nD τ).loc main_arg2) (ix2 i x)
abbrev A3 : Fin 1 → Fin 1024 → EReal := fun i x => m ((c : Thread nD τ).loc main_arg3) (ix2 i x)
def res4 : Buf (Elt Ideal) ((c : Thread nD τ).loc main_v0_0) := fun i : S8192x1024.Idx => (fun i d => A0 m c i d + back (A2 m c i) (A3 m c 0) (A1 m c i) d) (i 0) (i 1)
def res5 : Buf (Elt Ideal) ((c : Thread nD τ).loc main_v0_1) := fun i : S1x1024.Idx => weight (A2 m c) (A1 m c) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![0, 0] := by decide +kernel
def b0 (t : Fin cfg0.N) : FVec Ideal S512x1024 .f32 := iblk m c 0 t
theorem at0 (t : Fin cfg0.N) (r : Fin 512) (x : Fin 1024) : b0 m c t (ix2 r x) = A0 m c (row t r) x := by
  unfold b0 iblk
  rw [View.read_apply]
  exact congrArg (m ((c : Thread nD τ).loc main_arg0)) (idx2_ext _ _ (off0 (idx0 t) 512 r.val) (off1z (idx0 t) 1024 x.val))
def b1 (t : Fin cfg0.N) : FVec Ideal S512x1024 .f32 := iblk m c 1 t
theorem at1 (t : Fin cfg0.N) (r : Fin 512) (x : Fin 1024) : b1 m c t (ix2 r x) = A1 m c (row t r) x := by
  unfold b1 iblk
  rw [View.read_apply]
  exact congrArg (m ((c : Thread nD τ).loc main_arg1)) (idx2_ext _ _ (off0 (idx1 t) 512 r.val) (off1z (idx1 t) 1024 x.val))
def b2 (t : Fin cfg0.N) : FVec Ideal S512x1024 .f32 := iblk m c 2 t
theorem at2 (t : Fin cfg0.N) (r : Fin 512) (x : Fin 1024) : b2 m c t (ix2 r x) = A2 m c (row t r) x := by
  unfold b2 iblk
  rw [View.read_apply]
  exact congrArg (m ((c : Thread nD τ).loc main_arg2)) (idx2_ext _ _ (off0 (idx2 t) 512 r.val) (off1z (idx2 t) 1024 x.val))
def b3 (t : Fin cfg0.N) : FVec Ideal S1x1024 .f32 := iblk m c 3 t
theorem at3 (t : Fin cfg0.N) (x : Fin 1024) : b3 m c t (ix2 0 x) = A3 m c 0 x := by
  unfold b3 iblk
  rw [View.read_apply]
  exact congrArg (m ((c : Thread nD τ).loc main_arg3)) (idx2_ext _ _ (off0z (idx3 t) 1 0) (off1z (idx3 t) 1024 x.val))
theorem outs4 (t : Fin cfg0.N) : (outsAt0 m c t.val t.isLt).1 = k0_pay5 (F := Ideal) (b0 m c t) (b1 m c t) (b2 m c t) (b3 m c t) := by
  have hn := ltN t
  rcases Nat.eq_zero_or_pos t.val with h | h
  · rw [outsAt0_A m c t (by omega) (by omega)]; dsimp only; exact out4A (F := Ideal) ..
  · rw [outsAt0_B m c t (by omega) h]; dsimp only; exact out4B (F := Ideal) ..
theorem first5 (t : Fin cfg0.N) (h : t.val = 0) : (outsAt0 m c t.val t.isLt).2 = k0_pay4 (F := Ideal) (b1 m c t) (b2 m c t) := by
  rw [outsAt0_A m c t (by omega) (by omega)]; dsimp only; exact out5A (F := Ideal) ..
theorem next5 (t : Fin cfg0.N) (h : 1 ≤ t.val) : (outsAt0 m c t.val t.isLt).2 = k0_pay1 (F := Ideal) (k0_pay4 (b1 m c t) (b2 m c t)) (outsAt0 m c (prev t).val (prev t).isLt).2 := by
  have hn := ltN t
  rw [outsAt0_B m c t (by omega) h]; dsimp only; exact out5B (F := Ideal) ..
theorem val4 (t : Fin cfg0.N) (r : Fin 512) (d : Fin 1024) : (outsAt0 m c t.val t.isLt).1 (ix2 r d) = (fun i d => A0 m c i d + back (A2 m c i) (A3 m c 0) (A1 m c i) d) (row t r) d := by
  rw [outs4, row4]
  simp only [at0, at1, at2, at3]
theorem flushes4 (t : Fin cfg0.N) (hf : (cfg0.win 4).flush t = true) :
    (Gen.dats m 0 c).flushed 4 t = ((cfg0.win 4).blk t).view.read (Elt Ideal) (res4 m c) := by
  rw [Value.flushed4]
  refine funext2 fun r d => ?_
  have he : ((cfg0.win 4).blk t).view.emb (ix2 r d) = ix2 (row t r) d := idx2_ext _ _
    (off0 (idx4 t) 512 r.val)
    (off1z (idx4 t) 1024 d.val)
  rw [View.read_apply, he]
  exact val4 m c t r d
theorem final4 : (Gen.dats m 0 c).arrAt 4 cfg0.N = res4 m c :=
  (Gen.dats m 0 c).arrAt_eq_of_cover 4 (res4 m c) (flushes4 m c) fun i => by
    let t := tile (i 0)
    refine ⟨t, flush0_4 t, ?_⟩
    show i ∈ ((View.whole main_v0_0).slice (win0_4.rect t)).set
    rw [View.set_slice_whole, Rect.mem_set_unit]
    exact inRows (s := ![512, 1024]) (i := fun a => (i a).val) (idx4 t) rfl (by decide) (i 1).isLt
/-- One stretch of the sum over the rows, and the sum after `q + 1` points. -/
def entry5 (d : Fin 1024) : Fin 8192 → EReal := fun i => A1 m c i d * (A2 m c i d * rinv (A2 m c i))
theorem stretch5 (t : Fin cfg0.N) (d : Fin 1024) : k0_pay4 (F := Ideal) (b1 m c t) (b2 m c t) (ix2 0 d) = ∑ r : Fin 512, entry5 m c d (row t r) := by
  rw [sum5]
  simp only [at1, at2]
  rfl
theorem held5 (q : ℕ) : ∀ (t : Fin cfg0.N), t.val = q → ∀ d : Fin 1024, (outsAt0 m c t.val t.isLt).2 (ix2 0 d) = upto (entry5 m c d) ((q + 1) * 512) := by
  induction q with
  | zero =>
    intro t h d
    rw [first5 m c t h, stretch5]
    refine (upto_first (entry5 m c d) 512 _ (by omega) fun x => congrArg _ (Fin.ext ?_)).symm
    show t.val * 512 + x.val = x.val
    omega
  | succ q ih =>
    intro t h d
    have ht := ltN t
    rw [next5 m c t (by omega), add5, ih (prev t) (by show t.val - 1 = q; omega) d, stretch5]
    refine (upto_add (entry5 m c d) ((q + 1) * 512) 512 _ (by omega) fun x => congrArg _ (Fin.ext ?_)).symm.trans (congrArg (upto _) (by omega))
    show t.val * 512 + x.val = (q + 1) * 512 + x.val
    rw [h]
theorem flushes5 (t : Fin cfg0.N) (hf : (cfg0.win 5).flush t = true) :
    (Gen.dats m 0 c).flushed 5 t = ((cfg0.win 5).blk t).view.read (Elt Ideal) (res5 m c) := by
  have hn := ltN t
  have h15 : t.val = 15 := by have := (flush0_5 t).mp hf; omega
  rw [Value.flushed5]
  have key : ∀ d : Fin 1024, (outsAt0 m c t.val t.isLt).2 (ix2 0 d) = ((cfg0.win 5).blk t).view.read (Elt Ideal) (res5 m c) (ix2 0 d) := by
    intro d
    have he : ((cfg0.win 5).blk t).view.emb (ix2 0 d) = ix2 0 d := idx2_ext _ _
      (off0z (idx5 t) 1 0)
      (off1z (idx5 t) 1024 d.val)
    rw [View.read_apply, he, held5 m c 15 t h15 d]
    exact upto_all _
  funext j
  have hj : j = ix2 (⟨0, by decide⟩ : Fin 1) (⟨(j 1).val, (j 1).isLt⟩ : Fin 1024) := by
    funext a; apply Fin.ext
    match a with
    | ⟨0, _⟩ => have : (j 0).val < 1 := (j 0).isLt; show (j 0).val = 0; omega
    | ⟨1, _⟩ => rfl
  rw [hj]
  exact key _
theorem final5 : (Gen.dats m 0 c).arrAt 5 cfg0.N = res5 m c :=
  (Gen.dats m 0 c).arrAt_eq_of_cover 5 (res5 m c) (flushes5 m c) fun i => by
    have h0 : (i 0 : Nat) < 1 := (i 0).isLt
    have h1 : (i 1 : Nat) < 1024 := (i 1).isLt
    let t : Fin cfg0.N := ⟨15, by rw [show cfg0.N = 16 from N_0]; omega⟩
    refine ⟨t, (flush0_5 t).mpr rfl, ?_⟩
    show i ∈ ((View.whole main_v0_1).slice (win0_5.rect t)).set
    rw [View.set_slice_whole, Rect.mem_set_unit]
    exact inBlock (s := ![1, 1024]) (i := fun a => (i a).val) (idx5 t) (by show (0) * 1 ≤ (i 0).val ∧ (i 0).val < (0) * 1 + 1; omega) (by show (0) * 1024 ≤ (i 1).val ∧ (i 1).val < (0) * 1024 + 1024; omega)
end Cert.NormInBIdeal.Blocks
-- ==== Proof.NormInBRef.lean ====
/- The gradient of the input normalisation as the reference writes it. -/
module
public import proofs.«01_k».proof.Proof.NormBwd
public import proofs.«01_k».proof.Proof.Gen.NormInBRefIdeal.Read
public import Idealize.ShloMosaic.Lib.Pointwise
@[expose] public section
set_option maxRecDepth 16384
noncomputable section
namespace Cert.NormInBRefIdeal.Blocks
open Idealize.ShloMosaic Cert.RowsB Cert.NormInBRefIdeal Cert.NormInBRefIdeal.Read
open scoped BigOperators

theorem v37 (g dh x : FVec Ideal S8192x1024 .f32) (w : FVec Ideal S1x1024 .f32) (i : Fin 8192) (d : Fin 1024) :
    val_main_v37 (F := Ideal) g dh x w (ix2 i d) = g (ix2 i d) + backRef (fun k => x (ix2 i k)) (fun k => w (ix2 0 k)) (fun k => dh (ix2 i k)) d := by
  unfold backRef part rinv msq
  pointwise [val_main_v37, val_main_v36, val_main_v34, val_main_v27, val_main_v21, val_main_v20, val_main_v14, val_main_v0, val_main_v26, val_main_v8, val_main_v7, val_main_v5, val_main_v3, val_main_v2, val_main_v1, val_main_cst, val_main_v4, val_main_cst_0, val_main_v6, val_main_cst_1, val_main_v33, val_main_v32, val_main_v31, val_main_v30, val_main_v28, val_main_v25, val_main_v24, val_main_v23, val_main_cst_5, val_main_v11, val_main_v10, val_main_cst_2, val_main_v9, val_main_v29, val_main_cst_6, val_main_cst_7, val_main_v35]
theorem v38 (dh x : FVec Ideal S8192x1024 .f32) (d : Fin 1024) :
    val_main_v38 (F := Ideal) dh x (ix2 0 d) = weight (fun i k => x (ix2 i k)) (fun i k => dh (ix2 i k)) d := by
  rw [weight_swap]
  unfold rinv msq
  pointwise [val_main_v38, val_main_v22, val_main_v19, val_main_v18, val_main_v17, val_main_v13, val_main_v12, val_main_v8, val_main_v7, val_main_v5, val_main_v3, val_main_v2, val_main_v1, val_main_cst, val_main_v4, val_main_cst_0, val_main_v6, val_main_cst_1, val_main_cst_3, val_main_cst_4]
end Cert.NormInBRefIdeal.Blocks
-- ==== Proof.NormInBPre.lean ====
/- The precondition of a normalisation gradient read: every entry is a real number. -/
module
public import proofs.«01_k».proof.Proof.NormBwd
public import proofs.«01_k».proof.Pre_finite_rows
public import Idealize.ShloMosaic.Lib.Pointwise
public import Idealize.ShloMosaic.Lib.ReduceAll
@[expose] public section
set_option maxRecDepth 16384
noncomputable section
namespace Cert.Pre_finite_rows
open Idealize.ShloMosaic Cert.RowsB Facts
open scoped BigOperators
variable [Facts]
instance : Subsingleton S_.Idx := ⟨fun a b => funext fun k => k.elim0⟩
theorem reals (x0 x1 x2 : FVec Ideal S8192x1024 .f32) (x3 : FVec Ideal S1x1024 .f32) (h : fn (F := Ideal) x0 x1 x2 x3 = fun _ => 1#1) :
    (∀ i k, ∃ r : ℝ, x1 (ix2 i k) = r) ∧ (∀ i k, ∃ r : ℝ, x2 (ix2 i k) = r) ∧ (∀ k, ∃ r : ℝ, x3 (ix2 0 k) = r) := by
  dsimp only [fn] at h
  obtain ⟨c2, r3⟩ := IntOp.andi_eq_one.mp (congrFun h (fun k => k.elim0))
  obtain ⟨r1, r2⟩ := IntOp.andi_eq_one.mp (c2)
  exact ⟨fun i k => real_of_lt _ (Host.reduce_andi_all _ _ _ _ _ r1 (ix2 i k)), fun i k => real_of_lt _ (Host.reduce_andi_all _ _ _ _ _ r2 (ix2 i k)), fun k => real_of_lt _ (Host.reduce_andi_all _ _ _ _ _ r3 (ix2 0 k))⟩
end Cert.Pre_finite_rows
-- ==== Proof.NormInB.lean ====
/- The gradient of the input normalisation: every claim about it. -/
module
public import proofs.«01_k».proof.Defs
public import proofs.«01_k».proof.Proof.Gen.NormInB.Frame
public import proofs.«01_k».proof.Proof.Gen.Pre_finite_rows
public import proofs.«01_k».proof.Proof.Gen.NormInBRefIdeal.Run
public import proofs.«01_k».proof.Proof.NormInBArr
public import proofs.«01_k».proof.Proof.NormInBRef
public import proofs.«01_k».proof.Proof.NormInBPre
public import Idealize.ShloMosaic.Lib.Quiescent
@[expose] public section
noncomputable section
namespace Cert.NormInB
open Idealize.ShloMosaic Idealize.SL.Sem Cert.RowsB

theorem algebraic : algebraic_NormInBIdeal_NormInBRefIdeal_pre_finite_rows := by
  intro m g m' g' h e
  have H := fun c => Pre_finite_rows.reals _ _ _ _ (h c)
  refine ⟨fun c => NormInBIdeal.Blocks.res4 m c, fun c => NormInBIdeal.Blocks.res5 m c, ?_, ?_⟩
  · refine (θ_run NormInBIdeal.defs _ _).mono (fun r K c => ?_) (NormInBIdeal.Value.run_blocks (F := Ideal) m g)
    exact ⟨(K c).1.trans (NormInBIdeal.Blocks.final4 m c), (K c).2.1.trans (NormInBIdeal.Blocks.final5 m c), (K c).2.2⟩
  · refine (θ_run NormInBRefIdeal.defs _ _).mono (fun r K c => ?_) (NormInBRefIdeal.Value.run (F := Ideal) m' g')
    have E := e c
    refine ⟨(K c).1.trans ?_, (K c).2.1.trans ?_, (K c).2.2⟩
    · rw [NormInBRefIdeal.Read.val_main_v37_eq, E.1, E.2.1, E.2.2.1, E.2.2.2]
      funext i
      idx_vars i
      obtain ⟨r, h1, h2⟩ := back_real ((H c).2.1 i0) ((H c).2.2) ((H c).1 i0) i1
      exact (NormInBRefIdeal.Blocks.v37 _ _ _ _ i0 i1).trans (congrArg _ (h2.trans h1.symm))
    · rw [NormInBRefIdeal.Read.val_main_v38_eq, E.2.1, E.2.2.1]
      funext i
      idx_vars i
      have hi : i0 = 0 := Fin.ext (by have := i0.isLt; omega)
      subst hi
      exact NormInBRefIdeal.Blocks.v38 _ _ i1

theorem reference_frame : quiescent_NormInBRefIdeal := fun m ρ _ =>
  (θ_run NormInBRefIdeal.defs _ _).mono (fun r h => ⟨fun c => (h c).2.2, sem_eq_zero_of_no_sems (by decide) r.2⟩) (NormInBRefIdeal.Value.run (F := Ideal) m ρ)
end Cert.NormInB
-- ==== Proof.ResNormBArr.lean ====
/- The gradient of the normalised branch and of the next normalisation, the call `b_resnorm`: what its arrays hold after the run. -/
module
public import proofs.«01_k».proof.Proof.NormBwd
public import proofs.«01_k».proof.Proof.Product
public import proofs.«01_k».proof.Proof.Rows
public import proofs.«01_k».proof.Proof.Gen.ResNormBIdeal.Value
@[expose] public section
set_option maxRecDepth 16384
noncomputable section
namespace Cert.ResNormBIdeal.Blocks
open Cert.ResNormBIdeal Cert.ResNormBIdeal.Gen Idealize.ShloMosaic Idealize.ShloMosaic.TcCoe Idealize.SL.Sem Cert.RowsB Cert.Product Cert.Rows
open scoped BigOperators

section Words
variable {F : FTy → Type} [FloatOps F]
variable (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .bf16) (h8 : a8.IsWhole) (a9 : Memref sig .tc .vmem S1x1024 .f32) (h9 : a9.IsWhole) (a10 : Memref sig .tc .vmem S1x1024 .f32) (h10 : a10.IsWhole)
  (x0 x1 : Vec F S512x1024 .f32) (x2 x3 : Vec F S512x1024 .f32) (x4 x5 : Vec F S1x1024 .f32) (y8 : Vec F S1x1024 .f32) (y9 : Vec F S1x1024 .f32)
theorem out6A (hc0 : cond0_0 i) (hc1 : ¬cond0_1 i) (hc2 : cond0_2 i) (hc3 : ¬cond0_3 i) : out0_A_6 c i a1 h1 a2 h2 a3 h3 a4 h4 a5 h5 a6 h6 a7 h7 a8 h8 a9 h9 a10 h10 hc0 hc1 hc2 hc3 x0 x1 x2 x3 x4 x5 = k0_pay10 x0 x1 x2 x4 := by
  unfold out0_A_6
  rw [View.read_writes_eq_canon _ _ _ (cover0_A_6 c i a1 h1 a2 h2 a3 h3 a4 h4 a5 h5 a6 h6 a7 h7 a8 h8 a9 h9 a10 h10 hc0 hc1 hc2 hc3 x0 x1 x2 x3 x4 x5)]
  unfold kernelRun0_A; dsimp only; (try sl_unfold_words)
  rw [View.canon_unit_zero hz]
  simp only [View.readAt_eq_ld, h1.read_unread, h2.read_unread, h3.read_unread, h4.read_unread, h5.read_unread, h6.read_unread, h9.read_unread, h10.read_unread, View.ld_unit_zero (S := S512x1024) hz, View.ld_unit_zero (S := S1x1024) hz]
theorem out6B (hc0 : ¬cond0_0 i) (hc1 : cond0_1 i) (hc2 : ¬cond0_2 i) (hc3 : cond0_3 i) : out0_B_6 c i a1 h1 a2 h2 a3 h3 a4 h4 a5 h5 a6 h6 a7 h7 a8 h8 a9 h9 a10 h10 hc0 hc1 hc2 hc3 x0 x1 x2 x3 x4 x5 y8 y9 = k0_pay10 x0 x1 x2 x4 := by
  unfold out0_B_6
  rw [View.read_writes_eq_canon _ _ _ (cover0_B_6 c i a1 h1 a2 h2 a3 h3 a4 h4 a5 h5 a6 h6 a7 h7 a8 h8 a9 h9 a10 h10 hc0 hc1 hc2 hc3 x0 x1 x2 x3 x4 x5 y8 y9)]
  unfold kernelRun0_B; dsimp only; (try sl_unfold_words)
  rw [View.canon_unit_zero hz]
  simp only [View.readAt_eq_ld, h1.read_unread, h2.read_unread, h3.read_unread, h4.read_unread, h5.read_unread, h6.read_unread, h9.read_unread, h10.read_unread, View.ld_unit_zero (S := S512x1024) hz, View.ld_unit_zero (S := S1x1024) hz]
theorem out7A (hc0 : cond0_0 i) (hc1 : ¬cond0_1 i) (hc2 : cond0_2 i) (hc3 : ¬cond0_3 i) : out0_A_7 c i a1 h1 a2 h2 a3 h3 a4 h4 a5 h5 a6 h6 a7 h7 a8 h8 a9 h9 a10 h10 hc0 hc1 hc2 hc3 x0 x1 x2 x3 x4 x5 = k0_pay4 x3 x5 (k0_pay10 x0 x1 x2 x4) (k0_pay11 x3) k0_pay12 := by
  unfold out0_A_7
  rw [View.read_writes_eq_canon _ _ _ (cover0_A_7 c i a1 h1 a2 h2 a3 h3 a4 h4 a5 h5 a6 h6 a7 h7 a8 h8 a9 h9 a10 h10 hc0 hc1 hc2 hc3 x0 x1 x2 x3 x4 x5)]
  unfold kernelRun0_A; dsimp only; (try sl_unfold_words)
  rw [View.canon_unit_zero hz]
  simp only [View.readAt_eq_ld, h1.read_unread, h2.read_unread, h3.read_unread, h4.read_unread, h5.read_unread, h6.read_unread, h9.read_unread, h10.read_unread, View.ld_unit_zero (S := S512x1024) hz, View.ld_unit_zero (S := S1x1024) hz]
theorem out7B (hc0 : ¬cond0_0 i) (hc1 : cond0_1 i) (hc2 : ¬cond0_2 i) (hc3 : cond0_3 i) : out0_B_7 c i a1 h1 a2 h2 a3 h3 a4 h4 a5 h5 a6 h6 a7 h7 a8 h8 a9 h9 a10 h10 hc0 hc1 hc2 hc3 x0 x1 x2 x3 x4 x5 y8 y9 = k0_pay4 x3 x5 (k0_pay10 x0 x1 x2 x4) (k0_pay11 x3) k0_pay12 := by
  unfold out0_B_7
  rw [View.read_writes_eq_canon _ _ _ (cover0_B_7 c i a1 h1 a2 h2 a3 h3 a4 h4 a5 h5 a6 h6 a7 h7 a8 h8 a9 h9 a10 h10 hc0 hc1 hc2 hc3 x0 x1 x2 x3 x4 x5 y8 y9)]
  unfold kernelRun0_B; dsimp only; (try sl_unfold_words)
  rw [View.canon_unit_zero hz]
  simp only [View.readAt_eq_ld, h1.read_unread, h2.read_unread, h3.read_unread, h4.read_unread, h5.read_unread, h6.read_unread, h9.read_unread, h10.read_unread, View.ld_unit_zero (S := S512x1024) hz, View.ld_unit_zero (S := S1x1024) hz]
theorem out8A (hc0 : cond0_0 i) (hc1 : ¬cond0_1 i) (hc2 : cond0_2 i) (hc3 : ¬cond0_3 i) : out0_A_8 c i a1 h1 a2 h2 a3 h3 a4 h4 a5 h5 a6 h6 a7 h7 a8 h8 a9 h9 a10 h10 hc0 hc1 hc2 hc3 x0 x1 x2 x3 x4 x5 = k0_pay9 x1 x2 := by
  unfold out0_A_8
  rw [View.read_writes_eq_canon _ _ _ (cover0_A_8 c i a1 h1 a2 h2 a3 h3 a4 h4 a5 h5 a6 h6 a7 h7 a8 h8 a9 h9 a10 h10 hc0 hc1 hc2 hc3 x0 x1 x2 x3 x4 x5)]
  unfold kernelRun0_A; dsimp only; (try sl_unfold_words)
  rw [View.canon_unit_zero hz]
  simp only [View.readAt_eq_ld, h1.read_unread, h2.read_unread, h3.read_unread, h4.read_unread, h5.read_unread, h6.read_unread, h9.read_unread, h10.read_unread, View.ld_unit_zero (S := S512x1024) hz, View.ld_unit_zero (S := S1x1024) hz]
theorem out8B (hc0 : ¬cond0_0 i) (hc1 : cond0_1 i) (hc2 : ¬cond0_2 i) (hc3 : cond0_3 i) : out0_B_8 c i a1 h1 a2 h2 a3 h3 a4 h4 a5 h5 a6 h6 a7 h7 a8 h8 a9 h9 a10 h10 hc0 hc1 hc2 hc3 x0 x1 x2 x3 x4 x5 y8 y9 = k0_pay5 (k0_pay9 x1 x2) y8 := by
  unfold out0_B_8
  rw [View.read_writes_eq_canon _ _ _ (cover0_B_8 c i a1 h1 a2 h2 a3 h3 a4 h4 a5 h5 a6 h6 a7 h7 a8 h8 a9 h9 a10 h10 hc0 hc1 hc2 hc3 x0 x1 x2 x3 x4 x5 y8 y9)]
  unfold kernelRun0_B; dsimp only; (try sl_unfold_words)
  rw [View.canon_unit_zero hz]
  simp only [View.readAt_eq_ld, h1.read_unread, h2.read_unread, h3.read_unread, h4.read_unread, h5.read_unread, h6.read_unread, h9.read_unread, h10.read_unread, View.ld_unit_zero (S := S512x1024) hz, View.ld_unit_zero (S := S1x1024) hz]
theorem out9A (hc0 : cond0_0 i) (hc1 : ¬cond0_1 i) (hc2 : cond0_2 i) (hc3 : ¬cond0_3 i) : out0_A_9 c i a1 h1 a2 h2 a3 h3 a4 h4 a5 h5 a6 h6 a7 h7 a8 h8 a9 h9 a10 h10 hc0 hc1 hc2 hc3 x0 x1 x2 x3 x4 x5 = k0_pay3 x3 (k0_pay10 x0 x1 x2 x4) (k0_pay11 x3) k0_pay12 := by
  unfold out0_A_9
  rw [View.read_writes_eq_canon _ _ _ (cover0_A_9 c i a1 h1 a2 h2 a3 h3 a4 h4 a5 h5 a6 h6 a7 h7 a8 h8 a9 h9 a10 h10 hc0 hc1 hc2 hc3 x0 x1 x2 x3 x4 x5)]
  unfold kernelRun0_A; dsimp only; (try sl_unfold_words)
  rw [View.canon_unit_zero hz]
  simp only [View.readAt_eq_ld, h1.read_unread, h2.read_unread, h3.read_unread, h4.read_unread, h5.read_unread, h6.read_unread, h9.read_unread, h10.read_unread, View.ld_unit_zero (S := S512x1024) hz, View.ld_unit_zero (S := S1x1024) hz]
theorem out9B (hc0 : ¬cond0_0 i) (hc1 : cond0_1 i) (hc2 : ¬cond0_2 i) (hc3 : cond0_3 i) : out0_B_9 c i a1 h1 a2 h2 a3 h3 a4 h4 a5 h5 a6 h6 a7 h7 a8 h8 a9 h9 a10 h10 hc0 hc1 hc2 hc3 x0 x1 x2 x3 x4 x5 y8 y9 = k0_pay6 x3 (k0_pay10 x0 x1 x2 x4) (k0_pay11 x3) k0_pay12 y9 := by
  unfold out0_B_9
  rw [View.read_writes_eq_canon _ _ _ (cover0_B_9 c i a1 h1 a2 h2 a3 h3 a4 h4 a5 h5 a6 h6 a7 h7 a8 h8 a9 h9 a10 h10 hc0 hc1 hc2 hc3 x0 x1 x2 x3 x4 x5 y8 y9)]
  unfold kernelRun0_B; dsimp only; (try sl_unfold_words)
  rw [View.canon_unit_zero hz]
  simp only [View.readAt_eq_ld, h1.read_unread, h2.read_unread, h3.read_unread, h4.read_unread, h5.read_unread, h6.read_unread, h9.read_unread, h10.read_unread, View.ld_unit_zero (S := S512x1024) hz, View.ld_unit_zero (S := S1x1024) hz]
end Words

theorem pay7_at (x2 : FVec Ideal S512x1024 .f32) (r : Fin 512) : k0_pay7 (F := Ideal) x2 (ix2 r 0) = rinv (fun k => x2 (ix2 r k)) := by
  unfold rinv msq
  pointwise [k0_pay7]
theorem pay8_at (x2 : FVec Ideal S512x1024 .f32) (r : Fin 512) (d : Fin 1024) : k0_pay8 (F := Ideal) x2 (ix2 r d) = x2 (ix2 r d) * rinv (fun k => x2 (ix2 r k)) := by
  rw [← pay7_at]
  pointwise [k0_pay8]
theorem pay1_at (x3 : FVec Ideal S512x1024 .f32) (r : Fin 512) : k0_pay1 (F := Ideal) (k0_pay11 x3) k0_pay12 (ix2 r 0) = rinv (fun k => x3 (ix2 r k)) := by
  unfold rinv msq
  pointwise [k0_pay1, k0_pay11, k0_pay12]
theorem pay2_at (x3 : FVec Ideal S512x1024 .f32) (r : Fin 512) (d : Fin 1024) : k0_pay2 (F := Ideal) x3 (k0_pay11 x3) k0_pay12 (ix2 r d) = x3 (ix2 r d) * rinv (fun k => x3 (ix2 r k)) := by
  rw [← pay1_at]
  pointwise [k0_pay2]
theorem row6 (x0 x1 x2 : FVec Ideal S512x1024 .f32) (x4 : FVec Ideal S1x1024 .f32) (r : Fin 512) (d : Fin 1024) :
    k0_pay10 (F := Ideal) x0 x1 x2 x4 (ix2 r d) = x0 (ix2 r d) + back (fun k => x2 (ix2 r k)) (fun k => x4 (ix2 0 k)) (fun k => x1 (ix2 r k)) d := by
  have e : k0_pay10 (F := Ideal) x0 x1 x2 x4 (ix2 r d) = x0 (ix2 r d) + k0_pay7 (F := Ideal) x2 (ix2 r 0) * (x1 (ix2 r d) * x4 (ix2 0 d) - k0_pay8 (F := Ideal) x2 (ix2 r d) * Ideal.div (∑ k, x1 (ix2 r k) * x4 (ix2 0 k) * k0_pay8 (F := Ideal) x2 (ix2 r k)) (Ideal.ofBits .f32 0x44800000#32)) := by
    pointwise [k0_pay10]
  rw [e]
  simp only [pay7_at, pay8_at]
  rfl
theorem row7 (x3 v : FVec Ideal S512x1024 .f32) (x5 : FVec Ideal S1x1024 .f32) (r : Fin 512) (d : Fin 1024) :
    k0_pay4 (F := Ideal) x3 x5 v (k0_pay11 x3) k0_pay12 (ix2 r d) = back (fun k => x3 (ix2 r k)) (fun k => x5 (ix2 0 k)) (fun k => v (ix2 r k)) d := by
  have e : k0_pay4 (F := Ideal) x3 x5 v (k0_pay11 x3) k0_pay12 (ix2 r d) = k0_pay1 (F := Ideal) (k0_pay11 x3) k0_pay12 (ix2 r 0) * (v (ix2 r d) * x5 (ix2 0 d) - k0_pay2 (F := Ideal) x3 (k0_pay11 x3) k0_pay12 (ix2 r d) * Ideal.div (∑ k, v (ix2 r k) * x5 (ix2 0 k) * k0_pay2 (F := Ideal) x3 (k0_pay11 x3) k0_pay12 (ix2 r k)) (Ideal.ofBits .f32 0x44800000#32)) := by
    pointwise [k0_pay4]
  rw [e]
  simp only [pay1_at, pay2_at]
  rfl
theorem sum8 (x1 x2 : FVec Ideal S512x1024 .f32) (d : Fin 1024) : k0_pay9 (F := Ideal) x1 x2 (ix2 0 d) = ∑ r : Fin 512, x1 (ix2 r d) * (x2 (ix2 r d) * rinv (fun k => x2 (ix2 r k))) := by
  have e : k0_pay9 (F := Ideal) x1 x2 (ix2 0 d) = ∑ r : Fin 512, x1 (ix2 r d) * k0_pay8 (F := Ideal) x2 (ix2 r d) := by
    pointwise [k0_pay9]
  rw [e]
  simp only [pay8_at]
theorem sum9 (x3 v : FVec Ideal S512x1024 .f32) (d : Fin 1024) : k0_pay3 (F := Ideal) x3 v (k0_pay11 x3) k0_pay12 (ix2 0 d) = ∑ r : Fin 512, v (ix2 r d) * (x3 (ix2 r d) * rinv (fun k => x3 (ix2 r k))) := by
  have e : k0_pay3 (F := Ideal) x3 v (k0_pay11 x3) k0_pay12 (ix2 0 d) = ∑ r : Fin 512, v (ix2 r d) * k0_pay2 (F := Ideal) x3 (k0_pay11 x3) k0_pay12 (ix2 r d) := by
    pointwise [k0_pay3]
  rw [e]
  simp only [pay2_at]
theorem add8 (a b : FVec Ideal S1x1024 .f32) (d : Fin 1024) : k0_pay5 (F := Ideal) a b (ix2 0 d) = b (ix2 0 d) + a (ix2 0 d) := by
  pointwise [k0_pay5]
theorem add9 (x3 v : FVec Ideal S512x1024 .f32) (b : FVec Ideal S1x1024 .f32) (d : Fin 1024) : k0_pay6 (F := Ideal) x3 v (k0_pay11 x3) k0_pay12 b (ix2 0 d) = b (ix2 0 d) + k0_pay3 (F := Ideal) x3 v (k0_pay11 x3) k0_pay12 (ix2 0 d) := by
  pointwise [k0_pay6]

variable (m : (ℓ : Loc nD τ sig) → Buf (Elt Ideal) ℓ) (c : Dev nD)

theorem ltN (t : Fin cfg0.N) : t.val < 16 := by have h := t.isLt; have e : cfg0.N = 16 := N_0; omega
/-- The row a block's row stands for at point `t`, and the point before. -/
def row (t : Fin cfg0.N) (r : Fin 512) : Fin 8192 := ⟨t.val * 512 + r.val, by have := ltN t; omega⟩
def tile (r : Fin 8192) : Fin cfg0.N := ⟨r.val / 512, by rw [show cfg0.N = 16 from N_0]; omega⟩
abbrev prev (t : Fin cfg0.N) : Fin cfg0.N := ⟨t.val - 1, Nat.lt_of_le_of_lt (Nat.sub_le _ _) t.isLt⟩
abbrev A0 : Fin 8192 → Fin 1024 → EReal := fun i x => m ((c : Thread nD τ).loc main_arg0) (ix2 i x)
abbrev A1 : Fin 8192 → Fin 1024 → EReal := fun i x => m ((c : Thread nD τ).loc main_arg1) (ix2 i x)
abbrev A2 : Fin 8192 → Fin 1024 → EReal := fun i x => m ((c : Thread nD τ).loc main_arg2) (ix2 i x)
abbrev A3 : Fin 8192 → Fin 1024 → EReal := fun i x => m ((c : Thread nD τ).loc main_arg3) (ix2 i x)
abbrev A4 : Fin 1 → Fin 1024 → EReal := fun i x => m ((c : Thread nD τ).loc main_arg4) (ix2 i x)
abbrev A5 : Fin 1 → Fin 1024 → EReal := fun i x => m ((c : Thread nD τ).loc main_arg5) (ix2 i x)
/-- The gradient of the stream. -/
def total : Fin 8192 → Fin 1024 → EReal := fun i d => A0 m c i d + back (A2 m c i) (A4 m c 0) (A1 m c i) d
def res6 : Buf (Elt Ideal) ((c : Thread nD τ).loc main_v0_0) := fun i : S8192x1024.Idx => (total m c) (i 0) (i 1)
def res7 : Buf (Elt Ideal) ((c : Thread nD τ).loc main_v0_1) := fun i : S8192x1024.Idx => (fun i d => back (A3 m c i) (A5 m c 0) (total m c i) d) (i 0) (i 1)
def res8 : Buf (Elt Ideal) ((c : Thread nD τ).loc main_v0_2) := fun i : S1x1024.Idx => weight (A2 m c) (A1 m c) (i 1)
def res9 : Buf (Elt Ideal) ((c : Thread nD τ).loc main_v0_3) := fun i : S1x1024.Idx => weight (A3 m c) (total m c) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![0, 0] := by decide +kernel
theorem idx9 : ∀ t : Fin grid0.N, win0_9.index t = ![0, 0] := by decide +kernel
def b0 (t : Fin cfg0.N) : FVec Ideal S512x1024 .f32 := iblk m c 0 t
theorem at0 (t : Fin cfg0.N) (r : Fin 512) (x : Fin 1024) : b0 m c t (ix2 r x) = A0 m c (row t r) x := by
  unfold b0 iblk
  rw [View.read_apply]
  exact congrArg (m ((c : Thread nD τ).loc main_arg0)) (idx2_ext _ _ (off0 (idx0 t) 512 r.val) (off1z (idx0 t) 1024 x.val))
def b1 (t : Fin cfg0.N) : FVec Ideal S512x1024 .f32 := iblk m c 1 t
theorem at1 (t : Fin cfg0.N) (r : Fin 512) (x : Fin 1024) : b1 m c t (ix2 r x) = A1 m c (row t r) x := by
  unfold b1 iblk
  rw [View.read_apply]
  exact congrArg (m ((c : Thread nD τ).loc main_arg1)) (idx2_ext _ _ (off0 (idx1 t) 512 r.val) (off1z (idx1 t) 1024 x.val))
def b2 (t : Fin cfg0.N) : FVec Ideal S512x1024 .f32 := iblk m c 2 t
theorem at2 (t : Fin cfg0.N) (r : Fin 512) (x : Fin 1024) : b2 m c t (ix2 r x) = A2 m c (row t r) x := by
  unfold b2 iblk
  rw [View.read_apply]
  exact congrArg (m ((c : Thread nD τ).loc main_arg2)) (idx2_ext _ _ (off0 (idx2 t) 512 r.val) (off1z (idx2 t) 1024 x.val))
def b3 (t : Fin cfg0.N) : FVec Ideal S512x1024 .f32 := iblk m c 3 t
theorem at3 (t : Fin cfg0.N) (r : Fin 512) (x : Fin 1024) : b3 m c t (ix2 r x) = A3 m c (row t r) x := by
  unfold b3 iblk
  rw [View.read_apply]
  exact congrArg (m ((c : Thread nD τ).loc main_arg3)) (idx2_ext _ _ (off0 (idx3 t) 512 r.val) (off1z (idx3 t) 1024 x.val))
def b4 (t : Fin cfg0.N) : FVec Ideal S1x1024 .f32 := iblk m c 4 t
theorem at4 (t : Fin cfg0.N) (x : Fin 1024) : b4 m c t (ix2 0 x) = A4 m c 0 x := by
  unfold b4 iblk
  rw [View.read_apply]
  exact congrArg (m ((c : Thread nD τ).loc main_arg4)) (idx2_ext _ _ (off0z (idx4 t) 1 0) (off1z (idx4 t) 1024 x.val))
def b5 (t : Fin cfg0.N) : FVec Ideal S1x1024 .f32 := iblk m c 5 t
theorem at5 (t : Fin cfg0.N) (x : Fin 1024) : b5 m c t (ix2 0 x) = A5 m c 0 x := by
  unfold b5 iblk
  rw [View.read_apply]
  exact congrArg (m ((c : Thread nD τ).loc main_arg5)) (idx2_ext _ _ (off0z (idx5 t) 1 0) (off1z (idx5 t) 1024 x.val))
theorem outs6 (t : Fin cfg0.N) : (outsAt0 m c t.val t.isLt).1 = k0_pay10 (F := Ideal) (b0 m c t) (b1 m c t) (b2 m c t) (b4 m c t) := by
  have hn := ltN t
  rcases Nat.eq_zero_or_pos t.val with h | h
  · rw [outsAt0_A m c t (by omega) (by omega) (by omega) (by omega)]; dsimp only; exact out6A (F := Ideal) ..
  · rw [outsAt0_B m c t (by omega) h (by omega) h]; dsimp only; exact out6B (F := Ideal) ..
theorem outs7 (t : Fin cfg0.N) : (outsAt0 m c t.val t.isLt).2.1 = k0_pay4 (F := Ideal) (b3 m c t) (b5 m c t) (k0_pay10 (b0 m c t) (b1 m c t) (b2 m c t) (b4 m c t)) (k0_pay11 (b3 m c t)) k0_pay12 := by
  have hn := ltN t
  rcases Nat.eq_zero_or_pos t.val with h | h
  · rw [outsAt0_A m c t (by omega) (by omega) (by omega) (by omega)]; dsimp only; exact out7A (F := Ideal) ..
  · rw [outsAt0_B m c t (by omega) h (by omega) h]; dsimp only; exact out7B (F := Ideal) ..
theorem first8 (t : Fin cfg0.N) (h : t.val = 0) : (outsAt0 m c t.val t.isLt).2.2.1 = k0_pay9 (F := Ideal) (b1 m c t) (b2 m c t) := by
  rw [outsAt0_A m c t (by omega) (by omega) (by omega) (by omega)]; dsimp only; exact out8A (F := Ideal) ..
theorem next8 (t : Fin cfg0.N) (h : 1 ≤ t.val) : (outsAt0 m c t.val t.isLt).2.2.1 = k0_pay5 (F := Ideal) (k0_pay9 (b1 m c t) (b2 m c t)) (outsAt0 m c (prev t).val (prev t).isLt).2.2.1 := by
  have hn := ltN t
  rw [outsAt0_B m c t (by omega) h (by omega) h]; dsimp only; exact out8B (F := Ideal) ..
theorem first9 (t : Fin cfg0.N) (h : t.val = 0) : (outsAt0 m c t.val t.isLt).2.2.2 = k0_pay3 (F := Ideal) (b3 m c t) (k0_pay10 (b0 m c t) (b1 m c t) (b2 m c t) (b4 m c t)) (k0_pay11 (b3 m c t)) k0_pay12 := by
  rw [outsAt0_A m c t (by omega) (by omega) (by omega) (by omega)]; dsimp only; exact out9A (F := Ideal) ..
theorem next9 (t : Fin cfg0.N) (h : 1 ≤ t.val) : (outsAt0 m c t.val t.isLt).2.2.2 = k0_pay6 (F := Ideal) (b3 m c t) (k0_pay10 (b0 m c t) (b1 m c t) (b2 m c t) (b4 m c t)) (k0_pay11 (b3 m c t)) k0_pay12 (outsAt0 m c (prev t).val (prev t).isLt).2.2.2 := by
  have hn := ltN t
  rw [outsAt0_B m c t (by omega) h (by omega) h]; dsimp only; exact out9B (F := Ideal) ..
theorem tot_at (t : Fin cfg0.N) (r : Fin 512) (d : Fin 1024) : k0_pay10 (F := Ideal) (b0 m c t) (b1 m c t) (b2 m c t) (b4 m c t) (ix2 r d) = total m c (row t r) d := by
  rw [row6]
  simp only [at0, at1, at2, at4]
  rfl
theorem val6 (t : Fin cfg0.N) (r : Fin 512) (d : Fin 1024) : (outsAt0 m c t.val t.isLt).1 (ix2 r d) = (total m c) (row t r) d := by
  rw [outs6, row6]
  simp only [at0, at1, at2, at4]
  rfl
theorem flushes6 (t : Fin cfg0.N) (hf : (cfg0.win 6).flush t = true) :
    (Gen.dats m 0 c).flushed 6 t = ((cfg0.win 6).blk t).view.read (Elt Ideal) (res6 m c) := by
  rw [Value.flushed6]
  refine funext2 fun r d => ?_
  have he : ((cfg0.win 6).blk t).view.emb (ix2 r d) = ix2 (row t r) d := idx2_ext _ _
    (off0 (idx6 t) 512 r.val)
    (off1z (idx6 t) 1024 d.val)
  rw [View.read_apply, he]
  exact val6 m c t r d
theorem final6 : (Gen.dats m 0 c).arrAt 6 cfg0.N = res6 m c :=
  (Gen.dats m 0 c).arrAt_eq_of_cover 6 (res6 m c) (flushes6 m c) fun i => by
    let t := tile (i 0)
    refine ⟨t, flush0_6 t, ?_⟩
    show i ∈ ((View.whole main_v0_0).slice (win0_6.rect t)).set
    rw [View.set_slice_whole, Rect.mem_set_unit]
    exact inRows (s := ![512, 1024]) (i := fun a => (i a).val) (idx6 t) rfl (by decide) (i 1).isLt
theorem val7 (t : Fin cfg0.N) (r : Fin 512) (d : Fin 1024) : (outsAt0 m c t.val t.isLt).2.1 (ix2 r d) = (fun i d => back (A3 m c i) (A5 m c 0) (total m c i) d) (row t r) d := by
  rw [outs7, row7]
  simp only [tot_at, at3, at5]
theorem flushes7 (t : Fin cfg0.N) (hf : (cfg0.win 7).flush t = true) :
    (Gen.dats m 0 c).flushed 7 t = ((cfg0.win 7).blk t).view.read (Elt Ideal) (res7 m c) := by
  rw [Value.flushed7]
  refine funext2 fun r d => ?_
  have he : ((cfg0.win 7).blk t).view.emb (ix2 r d) = ix2 (row t r) d := idx2_ext _ _
    (off0 (idx7 t) 512 r.val)
    (off1z (idx7 t) 1024 d.val)
  rw [View.read_apply, he]
  exact val7 m c t r d
theorem final7 : (Gen.dats m 0 c).arrAt 7 cfg0.N = res7 m c :=
  (Gen.dats m 0 c).arrAt_eq_of_cover 7 (res7 m c) (flushes7 m c) fun i => by
    let t := tile (i 0)
    refine ⟨t, flush0_7 t, ?_⟩
    show i ∈ ((View.whole main_v0_1).slice (win0_7.rect t)).set
    rw [View.set_slice_whole, Rect.mem_set_unit]
    exact inRows (s := ![512, 1024]) (i := fun a => (i a).val) (idx7 t) rfl (by decide) (i 1).isLt
/-- One stretch of the sum over the rows, and the sum after `q + 1` points. -/
def entry8 (d : Fin 1024) : Fin 8192 → EReal := fun i => A1 m c i d * (A2 m c i d * rinv (A2 m c i))
theorem stretch8 (t : Fin cfg0.N) (d : Fin 1024) : k0_pay9 (F := Ideal) (b1 m c t) (b2 m c t) (ix2 0 d) = ∑ r : Fin 512, entry8 m c d (row t r) := by
  rw [sum8]
  simp only [at1, at2]
  rfl
theorem held8 (q : ℕ) : ∀ (t : Fin cfg0.N), t.val = q → ∀ d : Fin 1024, (outsAt0 m c t.val t.isLt).2.2.1 (ix2 0 d) = upto (entry8 m c d) ((q + 1) * 512) := by
  induction q with
  | zero =>
    intro t h d
    rw [first8 m c t h, stretch8]
    refine (upto_first (entry8 m c d) 512 _ (by omega) fun x => congrArg _ (Fin.ext ?_)).symm
    show t.val * 512 + x.val = x.val
    omega
  | succ q ih =>
    intro t h d
    have ht := ltN t
    rw [next8 m c t (by omega), add8, ih (prev t) (by show t.val - 1 = q; omega) d, stretch8]
    refine (upto_add (entry8 m c d) ((q + 1) * 512) 512 _ (by omega) fun x => congrArg _ (Fin.ext ?_)).symm.trans (congrArg (upto _) (by omega))
    show t.val * 512 + x.val = (q + 1) * 512 + x.val
    rw [h]
theorem flushes8 (t : Fin cfg0.N) (hf : (cfg0.win 8).flush t = true) :
    (Gen.dats m 0 c).flushed 8 t = ((cfg0.win 8).blk t).view.read (Elt Ideal) (res8 m c) := by
  have hn := ltN t
  have h15 : t.val = 15 := by have := (flush0_8 t).mp hf; omega
  rw [Value.flushed8]
  have key : ∀ d : Fin 1024, (outsAt0 m c t.val t.isLt).2.2.1 (ix2 0 d) = ((cfg0.win 8).blk t).view.read (Elt Ideal) (res8 m c) (ix2 0 d) := by
    intro d
    have he : ((cfg0.win 8).blk t).view.emb (ix2 0 d) = ix2 0 d := idx2_ext _ _
      (off0z (idx8 t) 1 0)
      (off1z (idx8 t) 1024 d.val)
    rw [View.read_apply, he, held8 m c 15 t h15 d]
    exact upto_all _
  funext j
  have hj : j = ix2 (⟨0, by decide⟩ : Fin 1) (⟨(j 1).val, (j 1).isLt⟩ : Fin 1024) := by
    funext a; apply Fin.ext
    match a with
    | ⟨0, _⟩ => have : (j 0).val < 1 := (j 0).isLt; show (j 0).val = 0; omega
    | ⟨1, _⟩ => rfl
  rw [hj]
  exact key _
theorem final8 : (Gen.dats m 0 c).arrAt 8 cfg0.N = res8 m c :=
  (Gen.dats m 0 c).arrAt_eq_of_cover 8 (res8 m c) (flushes8 m c) fun i => by
    have h0 : (i 0 : Nat) < 1 := (i 0).isLt
    have h1 : (i 1 : Nat) < 1024 := (i 1).isLt
    let t : Fin cfg0.N := ⟨15, by rw [show cfg0.N = 16 from N_0]; omega⟩
    refine ⟨t, (flush0_8 t).mpr rfl, ?_⟩
    show i ∈ ((View.whole main_v0_2).slice (win0_8.rect t)).set
    rw [View.set_slice_whole, Rect.mem_set_unit]
    exact inBlock (s := ![1, 1024]) (i := fun a => (i a).val) (idx8 t) (by show (0) * 1 ≤ (i 0).val ∧ (i 0).val < (0) * 1 + 1; omega) (by show (0) * 1024 ≤ (i 1).val ∧ (i 1).val < (0) * 1024 + 1024; omega)
/-- One stretch of the sum over the rows, and the sum after `q + 1` points. -/
def entry9 (d : Fin 1024) : Fin 8192 → EReal := fun i => total m c i d * (A3 m c i d * rinv (A3 m c i))
theorem stretch9 (t : Fin cfg0.N) (d : Fin 1024) : k0_pay3 (F := Ideal) (b3 m c t) (k0_pay10 (b0 m c t) (b1 m c t) (b2 m c t) (b4 m c t)) (k0_pay11 (b3 m c t)) k0_pay12 (ix2 0 d) = ∑ r : Fin 512, entry9 m c d (row t r) := by
  rw [sum9]
  simp only [tot_at, at3]
  rfl
theorem held9 (q : ℕ) : ∀ (t : Fin cfg0.N), t.val = q → ∀ d : Fin 1024, (outsAt0 m c t.val t.isLt).2.2.2 (ix2 0 d) = upto (entry9 m c d) ((q + 1) * 512) := by
  induction q with
  | zero =>
    intro t h d
    rw [first9 m c t h, stretch9]
    refine (upto_first (entry9 m c d) 512 _ (by omega) fun x => congrArg _ (Fin.ext ?_)).symm
    show t.val * 512 + x.val = x.val
    omega
  | succ q ih =>
    intro t h d
    have ht := ltN t
    rw [next9 m c t (by omega), add9, ih (prev t) (by show t.val - 1 = q; omega) d, stretch9]
    refine (upto_add (entry9 m c d) ((q + 1) * 512) 512 _ (by omega) fun x => congrArg _ (Fin.ext ?_)).symm.trans (congrArg (upto _) (by omega))
    show t.val * 512 + x.val = (q + 1) * 512 + x.val
    rw [h]
theorem flushes9 (t : Fin cfg0.N) (hf : (cfg0.win 9).flush t = true) :
    (Gen.dats m 0 c).flushed 9 t = ((cfg0.win 9).blk t).view.read (Elt Ideal) (res9 m c) := by
  have hn := ltN t
  have h15 : t.val = 15 := by have := (flush0_9 t).mp hf; omega
  rw [Value.flushed9]
  have key : ∀ d : Fin 1024, (outsAt0 m c t.val t.isLt).2.2.2 (ix2 0 d) = ((cfg0.win 9).blk t).view.read (Elt Ideal) (res9 m c) (ix2 0 d) := by
    intro d
    have he : ((cfg0.win 9).blk t).view.emb (ix2 0 d) = ix2 0 d := idx2_ext _ _
      (off0z (idx9 t) 1 0)
      (off1z (idx9 t) 1024 d.val)
    rw [View.read_apply, he, held9 m c 15 t h15 d]
    exact upto_all _
  funext j
  have hj : j = ix2 (⟨0, by decide⟩ : Fin 1) (⟨(j 1).val, (j 1).isLt⟩ : Fin 1024) := by
    funext a; apply Fin.ext
    match a with
    | ⟨0, _⟩ => have : (j 0).val < 1 := (j 0).isLt; show (j 0).val = 0; omega
    | ⟨1, _⟩ => rfl
  rw [hj]
  exact key _
theorem final9 : (Gen.dats m 0 c).arrAt 9 cfg0.N = res9 m c :=
  (Gen.dats m 0 c).arrAt_eq_of_cover 9 (res9 m c) (flushes9 m c) fun i => by
    have h0 : (i 0 : Nat) < 1 := (i 0).isLt
    have h1 : (i 1 : Nat) < 1024 := (i 1).isLt
    let t : Fin cfg0.N := ⟨15, by rw [show cfg0.N = 16 from N_0]; omega⟩
    refine ⟨t, (flush0_9 t).mpr rfl, ?_⟩
    show i ∈ ((View.whole main_v0_3).slice (win0_9.rect t)).set
    rw [View.set_slice_whole, Rect.mem_set_unit]
    exact inBlock (s := ![1, 1024]) (i := fun a => (i a).val) (idx9 t) (by show (0) * 1 ≤ (i 0).val ∧ (i 0).val < (0) * 1 + 1; omega) (by show (0) * 1024 ≤ (i 1).val ∧ (i 1).val < (0) * 1024 + 1024; omega)
end Cert.ResNormBIdeal.Blocks
-- ==== Proof.ResNormBRef.lean ====
/- The gradient of a normalised branch and of the next normalisation as the reference writes it. -/
module
public import proofs.«01_k».proof.Proof.NormBwd
public import proofs.«01_k».proof.Proof.Gen.ResNormBRefIdeal.Read
public import Idealize.ShloMosaic.Lib.Pointwise
@[expose] public section
set_option maxRecDepth 16384
noncomputable section
namespace Cert.ResNormBRefIdeal.Blocks
open Idealize.ShloMosaic Cert.RowsB Cert.ResNormBRefIdeal Cert.ResNormBRefIdeal.Read
open scoped BigOperators

theorem v75 (g dh x : FVec Ideal S8192x1024 .f32) (w : FVec Ideal S1x1024 .f32) (i : Fin 8192) (d : Fin 1024) :
    val_main_v75 (F := Ideal) g dh x w (ix2 i d) = g (ix2 i d) + backRef (fun k => x (ix2 i k)) (fun k => w (ix2 0 k)) (fun k => dh (ix2 i k)) d := by
  unfold backRef part rinv msq
  pointwise [val_main_v75, val_main_v36, val_main_v34, val_main_v27, val_main_v21, val_main_v20, val_main_v14, val_main_v0, val_main_v26, val_main_v8, val_main_v7, val_main_v5, val_main_v3, val_main_v2, val_main_v1, val_main_cst, val_main_v4, val_main_cst_0, val_main_v6, val_main_cst_1, val_main_v33, val_main_v32, val_main_v31, val_main_v30, val_main_v28, val_main_v25, val_main_v24, val_main_v23, val_main_cst_5, val_main_v11, val_main_v10, val_main_cst_2, val_main_v9, val_main_v29, val_main_cst_6, val_main_cst_7, val_main_v35]
theorem v54 (g dh x : FVec Ideal S8192x1024 .f32) (w : FVec Ideal S1x1024 .f32) : val_main_v54 (F := Ideal) g dh x w = val_main_v75 (F := Ideal) g dh x w := rfl
theorem v77 (dh x : FVec Ideal S8192x1024 .f32) (d : Fin 1024) :
    val_main_v77 (F := Ideal) dh x (ix2 0 d) = weight (fun i k => x (ix2 i k)) (fun i k => dh (ix2 i k)) d := by
  rw [weight_swap]
  unfold rinv msq
  pointwise [val_main_v77, val_main_v22, val_main_v19, val_main_v18, val_main_v17, val_main_v13, val_main_v12, val_main_v8, val_main_v7, val_main_v5, val_main_v3, val_main_v2, val_main_v1, val_main_cst, val_main_v4, val_main_cst_0, val_main_v6, val_main_cst_1, val_main_cst_3, val_main_cst_4]
theorem v76 (g dh x y : FVec Ideal S8192x1024 .f32) (w v : FVec Ideal S1x1024 .f32) (i : Fin 8192) (d : Fin 1024) :
    val_main_v76 (F := Ideal) g dh x y w v (ix2 i d) = backRef (fun k => y (ix2 i k)) (fun k => v (ix2 0 k)) (fun k => val_main_v75 (F := Ideal) g dh x w (ix2 i k)) d := by
  rw [← v54]
  unfold backRef part rinv msq
  pointwise [val_main_v76, val_main_v74, val_main_v72, val_main_v65, val_main_v59, val_main_v58, val_main_v51, val_main_v37, val_main_v64, val_main_v45, val_main_v44, val_main_v42, val_main_v40, val_main_v39, val_main_v38, val_main_cst_8, val_main_v41, val_main_cst_9, val_main_v43, val_main_cst_10, val_main_v71, val_main_v70, val_main_v69, val_main_v68, val_main_v66, val_main_v63, val_main_v62, val_main_v61, val_main_cst_14, val_main_v48, val_main_v47, val_main_cst_11, val_main_v46, val_main_v67, val_main_cst_15, val_main_cst_16, val_main_v73]
theorem v78 (g dh x y : FVec Ideal S8192x1024 .f32) (w : FVec Ideal S1x1024 .f32) (d : Fin 1024) :
    val_main_v78 (F := Ideal) g dh x y w (ix2 0 d) = weight (fun i k => y (ix2 i k)) (fun i k => val_main_v75 (F := Ideal) g dh x w (ix2 i k)) d := by
  rw [← v54]
  rw [weight_swap]
  unfold rinv msq
  pointwise [val_main_v78, val_main_v60, val_main_v57, val_main_v56, val_main_v55, val_main_v50, val_main_v49, val_main_v45, val_main_v44, val_main_v42, val_main_v40, val_main_v39, val_main_v38, val_main_cst_8, val_main_v41, val_main_cst_9, val_main_v43, val_main_cst_10, val_main_cst_12, val_main_cst_13]
end Cert.ResNormBRefIdeal.Blocks
-- ==== Proof.ResNormBPre.lean ====
/- The precondition of a normalisation gradient read: every entry is a real number. -/
module
public import proofs.«01_k».proof.Proof.NormBwd
public import proofs.«01_k».proof.Pre_finite_stream
public import Idealize.ShloMosaic.Lib.Pointwise
public import Idealize.ShloMosaic.Lib.ReduceAll
@[expose] public section
set_option maxRecDepth 16384
noncomputable section
namespace Cert.Pre_finite_stream
open Idealize.ShloMosaic Cert.RowsB Facts
open scoped BigOperators
variable [Facts]
instance : Subsingleton S_.Idx := ⟨fun a b => funext fun k => k.elim0⟩
theorem reals (x0 x1 : FVec Ideal S8192x1024 .f32) (x2 x3 : FVec Ideal S8192x1024 .f32) (x4 x5 : FVec Ideal S1x1024 .f32) (h : fn (F := Ideal) x0 x1 x2 x3 x4 x5 = fun _ => 1#1) :
    (∀ i k, ∃ r : ℝ, x0 (ix2 i k) = r) ∧ (∀ i k, ∃ r : ℝ, x1 (ix2 i k) = r) ∧ (∀ i k, ∃ r : ℝ, x2 (ix2 i k) = r) ∧ (∀ i k, ∃ r : ℝ, x3 (ix2 i k) = r) ∧ (∀ k, ∃ r : ℝ, x4 (ix2 0 k) = r) ∧ (∀ k, ∃ r : ℝ, x5 (ix2 0 k) = r) := by
  dsimp only [fn, fn_part1] at h
  obtain ⟨c5, r5⟩ := IntOp.andi_eq_one.mp (congrFun h (fun k => k.elim0))
  obtain ⟨c4, r4⟩ := IntOp.andi_eq_one.mp (c5)
  obtain ⟨c3, r3⟩ := IntOp.andi_eq_one.mp (c4)
  obtain ⟨c2, r2⟩ := IntOp.andi_eq_one.mp (c3)
  obtain ⟨r0, r1⟩ := IntOp.andi_eq_one.mp (c2)
  exact ⟨fun i k => real_of_lt _ (Host.reduce_andi_all _ _ _ _ _ r0 (ix2 i k)), fun i k => real_of_lt _ (Host.reduce_andi_all _ _ _ _ _ r1 (ix2 i k)), fun i k => real_of_lt _ (Host.reduce_andi_all _ _ _ _ _ r2 (ix2 i k)), fun i k => real_of_lt _ (Host.reduce_andi_all _ _ _ _ _ r3 (ix2 i k)), fun k => real_of_lt _ (Host.reduce_andi_all _ _ _ _ _ r4 (ix2 0 k)), fun k => real_of_lt _ (Host.reduce_andi_all _ _ _ _ _ r5 (ix2 0 k))⟩
end Cert.Pre_finite_stream
-- ==== Proof.ResNormB.lean ====
/- The gradient of a normalised branch and of the next normalisation: every claim about it. -/
module
public import proofs.«01_k».proof.Defs
public import proofs.«01_k».proof.Proof.Gen.ResNormB.Frame
public import proofs.«01_k».proof.Proof.Gen.Pre_finite_stream
public import proofs.«01_k».proof.Proof.Gen.ResNormBRefIdeal.Run
public import proofs.«01_k».proof.Proof.ResNormBArr
public import proofs.«01_k».proof.Proof.ResNormBRef
public import proofs.«01_k».proof.Proof.ResNormBPre
public import Idealize.ShloMosaic.Lib.Quiescent
@[expose] public section
noncomputable section
namespace Cert.ResNormB
open Idealize.ShloMosaic Idealize.SL.Sem Cert.RowsB

section Stream
open ResNormBIdeal ResNormBIdeal.Blocks Idealize.ShloMosaic.TcCoe
variable (m : (ℓ : Loc nD τ sig) → Buf (Elt Ideal) ℓ) (c : Dev nD)
/-- Every argument holds real numbers. -/
abbrev Reals : Prop := (∀ i k, ∃ r : ℝ, A0 m c i k = r) ∧ (∀ i k, ∃ r : ℝ, A1 m c i k = r) ∧ (∀ i k, ∃ r : ℝ, A2 m c i k = r) ∧ (∀ i k, ∃ r : ℝ, A3 m c i k = r)
  ∧ (∀ k, ∃ r : ℝ, A4 m c 0 k = r) ∧ (∀ k, ∃ r : ℝ, A5 m c 0 k = r)
theorem total_real (H : Reals m c) (i : Fin 8192) (d : Fin 1024) : ∃ r : ℝ, total m c i d = r := by
  obtain ⟨a, ha⟩ := H.1 i d
  obtain ⟨r, h1, _⟩ := back_real (H.2.2.1 i) H.2.2.2.2.1 (H.2.1 i) d
  exact ⟨a + r, by unfold total; rw [ha, h1, EReal.coe_add]⟩
theorem stream (H : Reals m c) (i : Fin 8192) (d : Fin 1024) :
    ResNormBRefIdeal.Read.val_main_v75 (F := Ideal) (m ((c : Thread nD τ).loc main_arg0)) (m ((c : Thread nD τ).loc main_arg1)) (m ((c : Thread nD τ).loc main_arg2)) (m ((c : Thread nD τ).loc main_arg4)) (ix2 i d) = total m c i d := by
  obtain ⟨r, h1, h2⟩ := back_real (H.2.2.1 i) H.2.2.2.2.1 (H.2.1 i) d
  exact (ResNormBRefIdeal.Blocks.v75 _ _ _ _ i d).trans (congrArg _ (h2.trans h1.symm))
end Stream
theorem algebraic : algebraic_ResNormBIdeal_ResNormBRefIdeal_pre_finite_stream := by
  intro m g m' g' h e
  have H := fun c => Pre_finite_stream.reals _ _ _ _ _ _ (h c)
  refine ⟨fun c => ResNormBIdeal.Blocks.res6 m c, fun c => ResNormBIdeal.Blocks.res7 m c, fun c => ResNormBIdeal.Blocks.res8 m c, fun c => ResNormBIdeal.Blocks.res9 m c, ?_, ?_⟩
  · refine (θ_run ResNormBIdeal.defs _ _).mono (fun r K c => ?_) (ResNormBIdeal.Value.run_blocks (F := Ideal) m g)
    exact ⟨(K c).1.trans (ResNormBIdeal.Blocks.final6 m c), (K c).2.1.trans (ResNormBIdeal.Blocks.final7 m c), (K c).2.2.1.trans (ResNormBIdeal.Blocks.final8 m c), (K c).2.2.2.1.trans (ResNormBIdeal.Blocks.final9 m c), (K c).2.2.2.2⟩
  · refine (θ_run ResNormBRefIdeal.defs _ _).mono (fun r K c => ?_) (ResNormBRefIdeal.Value.run (F := Ideal) m' g')
    have E := e c
    refine ⟨(K c).1.trans ?_, (K c).2.1.trans ?_, (K c).2.2.1.trans ?_, (K c).2.2.2.1.trans ?_, (K c).2.2.2.2⟩
    · rw [ResNormBRefIdeal.Read.val_main_v75_eq, E.1, E.2.1, E.2.2.1, E.2.2.2.2.1]
      funext i
      idx_vars i
      exact stream m c (H c) i0 i1
    · rw [ResNormBRefIdeal.Read.val_main_v76_eq, E.1, E.2.1, E.2.2.1, E.2.2.2.1, E.2.2.2.2.1, E.2.2.2.2.2]
      funext i
      idx_vars i
      obtain ⟨r, h1, h2⟩ := back_real ((H c).2.2.2.1 i0) ((H c).2.2.2.2.2) (fun k => total_real m c (H c) i0 k) i1
      refine (ResNormBRefIdeal.Blocks.v76 _ _ _ _ _ _ i0 i1).trans ?_
      rw [show (fun k => ResNormBRefIdeal.Read.val_main_v75 (F := Ideal) _ _ _ _ (ix2 i0 k)) = _ from funext fun k => stream m c (H c) i0 k]
      exact h2.trans h1.symm
    · rw [ResNormBRefIdeal.Read.val_main_v77_eq, E.2.1, E.2.2.1]
      funext i
      idx_vars i
      have hi : i0 = 0 := Fin.ext (by have := i0.isLt; omega)
      subst hi
      exact ResNormBRefIdeal.Blocks.v77 _ _ i1
    · rw [ResNormBRefIdeal.Read.val_main_v78_eq, E.1, E.2.1, E.2.2.1, E.2.2.2.1, E.2.2.2.2.1]
      funext i
      idx_vars i
      have hi : i0 = 0 := Fin.ext (by have := i0.isLt; omega)
      subst hi
      refine (ResNormBRefIdeal.Blocks.v78 _ _ _ _ _ i1).trans ?_
      rw [show (fun i k => ResNormBRefIdeal.Read.val_main_v75 (F := Ideal) _ _ _ _ (ix2 i k)) = _ from funext fun i => funext fun k => stream m c (H c) i k]
      rfl

theorem reference_frame : quiescent_ResNormBRefIdeal := fun m ρ _ =>
  (θ_run ResNormBRefIdeal.defs _ _).mono (fun r h => ⟨fun c => (h c).2.2.2.2, sem_eq_zero_of_no_sems (by decide) r.2⟩) (ResNormBRefIdeal.Value.run (F := Ideal) m ρ)
end Cert.ResNormB
-- ==== Proof.GatePre.lean ====
/- The precondition of the gate's gradient read: every entry is a real number. -/
module
public import proofs.«01_k».proof.Pre_finite_gate
public import Idealize.ShloMosaic.Lib.Pointwise
public import Idealize.ShloMosaic.Lib.ReduceAll
@[expose] public section
set_option maxRecDepth 16384
noncomputable section
namespace Cert.Pre_finite_gate
open Idealize.ShloMosaic Facts
open scoped BigOperators
variable [Facts]
instance : Subsingleton S_.Idx := ⟨fun a b => funext fun k => k.elim0⟩
theorem real_of_lt (x : EReal) (h : Ideal.cmp .olt (max x (-x)) (Ideal.ofBits .bf16 0x7F80#16) = 1#1) : ∃ r : ℝ, x = r := by
  have e : Ideal.ofBits .bf16 0x7F80#16 = ⊤ := by simp [Ideal.ofBits, Ideal.ieee]
  rw [e] at h
  induction x with
  | bot => exact absurd h (by simp [Ideal.cmp])
  | top => exact absurd h (by simp [Ideal.cmp])
  | coe r => exact ⟨r, rfl⟩
theorem reals (x0 x1 x2 : FVec Ideal S8192x2816 .bf16) (h : fn (F := Ideal) x0 x1 x2 = fun _ => 1#1) :
    (∀ i k, ∃ r : ℝ, x1 (ix2 i k) = r) ∧ (∀ i k, ∃ r : ℝ, x2 (ix2 i k) = r) := by
  dsimp only [fn] at h
  obtain ⟨r1, r2⟩ := IntOp.andi_eq_one.mp (congrFun h (fun k => k.elim0))
  exact ⟨fun i k => real_of_lt _ (Host.reduce_andi_all _ _ _ _ _ r1 (ix2 i k)), fun i k => real_of_lt _ (Host.reduce_andi_all _ _ _ _ _ r2 (ix2 i k))⟩
end Cert.Pre_finite_gate
-- ==== Proof.SwigluB.lean ====
/- The row by row call `b_swiglu`: what its arrays hold after the run, and every claim about it. -/
module
public import proofs.«01_k».proof.Defs
public import proofs.«01_k».proof.Proof.Gen.SwigluB.Frame
public import proofs.«01_k».proof.Proof.Gen.SwigluBIdeal.Value
public import proofs.«01_k».proof.Proof.Gen.SwigluBRefIdeal.Run
public import proofs.«01_k».proof.Proof.Gen.SwigluBRefIdeal.Read
public import proofs.«01_k».proof.Proof.Rows
public import proofs.«01_k».proof.Proof.GatePre
public import proofs.«01_k».proof.Proof.Gen.Pre_finite_gate
public import Idealize.ShloMosaic.Lib.Quiescent
@[expose] public section
set_option maxRecDepth 16384
noncomputable section
namespace Cert.SwigluBIdeal.Blocks
open Cert.SwigluBIdeal Cert.SwigluBIdeal.Gen Idealize.ShloMosaic Idealize.ShloMosaic.TcCoe Idealize.SL.Sem Cert.Rows
open scoped BigOperators

/-- The gradient for the first half of the gate, as the kernel writes it, and as the derivative has it. -/
def first (a b d : EReal) : EReal := d * b * (Ideal.logistic a * (1 + a * (1 - Ideal.logistic a)))
theorem first_real (a : EReal) {b d : EReal} (hb : ∃ r : ℝ, b = r) (hd : ∃ r : ℝ, d = r) :
    d * b * Ideal.logistic a + a * (d * b) * (Ideal.logistic a * (1 - Ideal.logistic a)) = first a b d := by
  unfold first
  induction a with
  | bot => simp only [Ideal.logistic_bot, zero_mul, mul_zero, add_zero]
  | top =>
    have h : (1 : EReal) - 1 = 0 := by rw [← EReal.coe_one, ← EReal.coe_sub, sub_self, EReal.coe_zero]
    simp only [Ideal.logistic_top, h, mul_zero, add_zero, mul_one]
  | coe a =>
    obtain ⟨b, rfl⟩ := hb
    obtain ⟨d, rfl⟩ := hd
    rw [Ideal.logistic_coe]
    norm_cast
    ring
/-- The gradients of the two halves, side by side. -/
def back (za zb dy : Fin 2816 → EReal) (j : Fin 5632) : EReal := if hj : j.val < 2816 then first (za ⟨j.val, hj⟩) (zb ⟨j.val, hj⟩) (dy ⟨j.val, hj⟩) else dy ⟨j.val - 2816, by omega⟩ * (za ⟨j.val - 2816, by omega⟩ * Ideal.logistic (za ⟨j.val - 2816, by omega⟩))
theorem outW3 {F : FTy → Type} [FloatOps F] (x0 x1 x2 : Vec F S256x2816 .bf16) : out0_3 x0 x1 x2 = k0_pay1 x0 x1 x2 := by
  unfold out0_3
  rw [View.canon_unit_zero hz]
  simp only [View.ld_unit_zero (S := S256x2816) hz]
theorem pay3 (x0 x1 x2 : FVec Ideal S256x2816 .bf16) (r : Fin 256) (d : Fin 5632) :
    k0_pay1 (F := Ideal) x0 x1 x2 (ix2 r d) = back (fun x => x0 (ix2 r x)) (fun x => x1 (ix2 r x)) (fun x => x2 (ix2 r x)) d := by
  unfold back first
  pointwise [k0_pay1]

variable (m : (ℓ : Loc nD τ sig) → Buf (Elt Ideal) ℓ) (c : Dev nD)

theorem ltN (t : Fin cfg0.N) : t.val < 32 := by have h := t.isLt; have e : cfg0.N = 32 := N_0; omega
/-- The row a block's row stands for at point `t`. -/
def row (t : Fin cfg0.N) (r : Fin 256) : Fin 8192 := ⟨t.val * 256 + r.val, by have := ltN t; omega⟩
def tile (r : Fin 8192) : Fin cfg0.N := ⟨r.val / 256, by rw [show cfg0.N = 32 from N_0]; omega⟩
abbrev A0 : Fin 8192 → Fin 2816 → EReal := fun i x => m ((c : Thread nD τ).loc main_arg0) (ix2 i x)
abbrev A1 : Fin 8192 → Fin 2816 → EReal := fun i x => m ((c : Thread nD τ).loc main_arg1) (ix2 i x)
abbrev A2 : Fin 8192 → Fin 2816 → EReal := fun i x => m ((c : Thread nD τ).loc main_arg2) (ix2 i x)
def res3 : Buf (Elt Ideal) ((c : Thread nD τ).loc main_v0) := fun i : S8192x5632.Idx => back (A0 m c (i 0)) (A1 m c (i 0)) (A2 m c (i 0)) (i 1)
theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![t.val, 0] := by decide +kernel
theorem idx3 : ∀ t : Fin grid0.N, win0_3.index t = ![t.val, 0] := by decide +kernel
def b0 (t : Fin cfg0.N) : FVec Ideal S256x2816 .bf16 := iblk m c 0 t
theorem blk0 (t : Fin cfg0.N) (r : Fin 256) : (fun x => b0 m c t (ix2 r x)) = A0 m c (row t r) := funext fun x => by
  unfold b0 iblk
  rw [View.read_apply]
  exact congrArg (m ((c : Thread nD τ).loc main_arg0)) (idx2_ext _ _ (off0 (idx0 t) 256 r.val) (off1z (idx0 t) 2816 x.val))
def b1 (t : Fin cfg0.N) : FVec Ideal S256x2816 .bf16 := iblk m c 1 t
theorem blk1 (t : Fin cfg0.N) (r : Fin 256) : (fun x => b1 m c t (ix2 r x)) = A1 m c (row t r) := funext fun x => by
  unfold b1 iblk
  rw [View.read_apply]
  exact congrArg (m ((c : Thread nD τ).loc main_arg1)) (idx2_ext _ _ (off0 (idx1 t) 256 r.val) (off1z (idx1 t) 2816 x.val))
def b2 (t : Fin cfg0.N) : FVec Ideal S256x2816 .bf16 := iblk m c 2 t
theorem blk2 (t : Fin cfg0.N) (r : Fin 256) : (fun x => b2 m c t (ix2 r x)) = A2 m c (row t r) := funext fun x => by
  unfold b2 iblk
  rw [View.read_apply]
  exact congrArg (m ((c : Thread nD τ).loc main_arg2)) (idx2_ext _ _ (off0 (idx2 t) 256 r.val) (off1z (idx2 t) 2816 x.val))
theorem at_out3 (t : Fin cfg0.N) (r : Fin 256) (d : Fin 5632) :
    out0_3 (F := Ideal) (b0 m c t) (b1 m c t) (b2 m c t) (ix2 r d) = back (A0 m c (row t r)) (A1 m c (row t r)) (A2 m c (row t r)) d := by
  rw [outW3, pay3 (b0 m c t) (b1 m c t) (b2 m c t) r d]
  rw [blk0, blk1, blk2]
theorem flushes3 (t : Fin cfg0.N) (hf : (cfg0.win 3).flush t = true) :
    (Gen.dats m 0 c).flushed 3 t = ((cfg0.win 3).blk t).view.read (Elt Ideal) (res3 m c) := by
  rw [Value.flushed3]
  refine funext2 fun r d => ?_
  have he : ((cfg0.win 3).blk t).view.emb (ix2 r d) = ix2 (row t r) d := idx2_ext _ _
    (off0 (idx3 t) 256 r.val)
    (off1z (idx3 t) 5632 d.val)
  rw [View.read_apply, he]
  exact at_out3 m c t r d
theorem final3 : (Gen.dats m 0 c).arrAt 3 cfg0.N = res3 m c :=
  (Gen.dats m 0 c).arrAt_eq_of_cover 3 (res3 m c) (flushes3 m c) fun i => by
    let t := tile (i 0)
    refine ⟨t, flush0_3 t, ?_⟩
    show i ∈ ((View.whole main_v0).slice (win0_3.rect t)).set
    rw [View.set_slice_whole, Rect.mem_set_unit]
    exact inRows (s := ![256, 5632]) (i := fun a => (i a).val) (idx3 t) rfl (by decide) (i 1).isLt
end Cert.SwigluBIdeal.Blocks

namespace Cert.SwigluB
open Idealize.ShloMosaic Idealize.SL.Sem SwigluBIdeal SwigluBRefIdeal.Read Cert.Rows
open scoped BigOperators

/-- The reference's results, and that they are the kernel's. -/
theorem reference_at3 (x0 x1 x2 : FVec Ideal S8192x2816 .bf16) (h1 : ∀ i k, ∃ r : ℝ, x1 (ix2 i k) = r) (h2 : ∀ i k, ∃ r : ℝ, x2 (ix2 i k) = r) (i : Fin 8192) (j : Fin 5632) :
    val_main_v13 (F := Ideal) x0 x1 x2 (ix2 i j) = Blocks.back (fun x => x0 (ix2 i x)) (fun x => x1 (ix2 i x)) (fun x => x2 (ix2 i x)) j := by
  unfold Blocks.back
  by_cases hj : j.val < 2816
  · have hk : ¬ (2816 ≤ j.val ∧ j.val - 2816 < 2816) := by omega
    rw [dif_pos hj, ← Blocks.first_real _ (h1 i _) (h2 i _)]
    unfold Ideal.logistic
    pointwise [val_main_v13, val_main_v12, val_main_v9, val_main_v7, val_main_v3_0, val_main_v2, val_main_v1, val_main_v0, val_main_v3_2, val_main_call0_v4, val_main_call0_cst_0, val_main_call0_v3, val_main_call0_v2, val_main_call0_cst, val_main_call0_v1, val_main_call0_v0, val_main_v6, val_main_cst, val_main_v11, val_main_v10, val_main_call1_v1, val_main_v8, val_main_v4, val_main_call1_v2, val_main_call1_v0, val_main_v3_1, val_main_call0_v7, val_main_call0_v6, val_main_call0_cst_1, val_main_cst_0]
    simp only [hj, hk, dite_true, dite_false, zero_add]
  · have hk : 2816 ≤ j.val ∧ j.val - 2816 < 2816 := by omega
    rw [dif_neg hj, mul_comm]
    unfold Ideal.logistic
    pointwise [val_main_v13, val_main_v12, val_main_v9, val_main_v7, val_main_v3_0, val_main_v2, val_main_v1, val_main_v0, val_main_v3_2, val_main_call0_v4, val_main_call0_cst_0, val_main_call0_v3, val_main_call0_v2, val_main_call0_cst, val_main_call0_v1, val_main_call0_v0, val_main_v6, val_main_cst, val_main_v11, val_main_v10, val_main_call1_v1, val_main_v8, val_main_v4, val_main_call1_v2, val_main_call1_v0, val_main_v3_1, val_main_call0_v7, val_main_call0_v6, val_main_call0_cst_1, val_main_cst_0]
    simp only [hj, hk, hk.2, and_self, dite_true, dite_false, add_zero]

theorem algebraic : algebraic_SwigluBIdeal_SwigluBRefIdeal_pre_finite_gate := by
  intro m g m' g' h e
  have H0 := fun c => Pre_finite_gate.reals _ _ _ (h c)
  refine ⟨fun c => SwigluBIdeal.Blocks.res3 m c, ?_, ?_⟩
  · refine (θ_run SwigluBIdeal.defs _ _).mono (fun r H c => ?_) (SwigluBIdeal.Value.run_blocks (F := Ideal) m g)
    exact ⟨(H c).1.trans (SwigluBIdeal.Blocks.final3 m c), (H c).2⟩
  · refine (θ_run SwigluBRefIdeal.defs _ _).mono (fun r H c => ?_) (SwigluBRefIdeal.Value.run (F := Ideal) m' g')
    refine ⟨(H c).1.trans ?_, (H c).2⟩
    · rw [val_main_v13_eq, (e c).1, (e c).2.1, (e c).2.2]
      funext i
      idx_vars i
      exact reference_at3 _ _ _ (H0 c).1 (H0 c).2 i0 i1

theorem reference_frame : quiescent_SwigluBRefIdeal := fun m ρ _ =>
  (θ_run SwigluBRefIdeal.defs _ _).mono (fun r h => ⟨fun c => (h c).2, sem_eq_zero_of_no_sems (by decide) r.2⟩) (SwigluBRefIdeal.Value.run (F := Ideal) m ρ)
end Cert.SwigluB
-- ==== Proof.XOut.lean ====
/- What a grid point leaves in each output block, as the body's own words on the blocks it reads. -/
module
public import proofs.«01_k».proof.Proof.Gen.KernelIdeal.Value
@[expose] public section
set_option maxRecDepth 16384
noncomputable section
namespace Cert.KernelIdeal.Blocks
open Cert.KernelIdeal Cert.KernelIdeal.Gen Idealize.ShloMosaic Idealize.ShloMosaic.TcCoe Idealize.SL.Sem
variable {F : FTy → Type} [FloatOps F]
theorem hz : (![0, 0, 0] : Fin 3 → Nat) = fun _ => 0 := by funext a; fin_cases a <;> rfl
variable (c : Dev nD) (i : grid0.Coords) (a3 : Memref sig .tc .vmem S1x1024x256 .bf16) (h3 : a3.IsWhole) (a4 : Memref sig .tc .vmem S1x256x256 .bf16) (h4 : a4.IsWhole) (a5 : Memref sig .tc .vmem S1x256x256 .bf16) (h5 : a5.IsWhole) (a6 : Memref sig .tc .vmem S1x1024x256 .bf16) (h6 : a6.IsWhole) (a7 : Memref sig .tc .vmem S1x1024x256 .bf16) (h7 : a7.IsWhole) (a8 : Memref sig .tc .vmem S1x256x256 .f32) (h8 : a8.IsWhole) (a9 : Memref sig .tc .vmem S1x256x256 .f32) (h9 : a9.IsWhole)
  (x0 : Vec F S1x1024x256 .bf16) (x1 x2 : Vec F S1x256x256 .bf16) (x3 : Vec F S1x1024x256 .bf16) (xo5 xo6 : Vec F S1x256x256 .f32)
theorem out4A (hc0 : cond0_0 i) (hc1 : ¬cond0_1 i) :
    out0_A_4 c i a3 h3 a4 h4 a5 h5 a6 h6 a7 h7 a8 h8 a9 h9 hc0 hc1 x0 x1 x2 x3 = k0_pay1 (k0_pay13 x0 x1 x2 x3) := by
  unfold out0_A_4
  rw [View.read_writes_eq_canon _ _ _ (cover0_A_4 c i a3 h3 a4 h4 a5 h5 a6 h6 a7 h7 a8 h8 a9 h9 hc0 hc1 x0 x1 x2 x3)]
  unfold kernelRun0_A; dsimp only; (try sl_unfold_words)
  rw [View.canon_unit_zero hz]
  simp only [View.readAt_eq_ld, h3.read_unread, h4.read_unread, h5.read_unread, h6.read_unread, h8.read_unread, h9.read_unread, View.ld_unit_zero (S := S1x1024x256) hz, View.ld_unit_zero (S := S1x256x256) hz]
theorem out5A (hc0 : cond0_0 i) (hc1 : ¬cond0_1 i) :
    out0_A_5 c i a3 h3 a4 h4 a5 h5 a6 h6 a7 h7 a8 h8 a9 h9 hc0 hc1 x0 x1 x2 x3 = k0_pay4 (k0_pay8 x0) (k0_pay12 x0 x1 x2 x3) := by
  unfold out0_A_5
  rw [View.read_writes_eq_canon _ _ _ (cover0_A_5 c i a3 h3 a4 h4 a5 h5 a6 h6 a7 h7 a8 h8 a9 h9 hc0 hc1 x0 x1 x2 x3)]
  unfold kernelRun0_A; dsimp only; (try sl_unfold_words)
  rw [View.canon_unit_zero hz]
  simp only [View.readAt_eq_ld, h3.read_unread, h4.read_unread, h5.read_unread, h6.read_unread, h8.read_unread, h9.read_unread, View.ld_unit_zero (S := S1x1024x256) hz, View.ld_unit_zero (S := S1x256x256) hz]
theorem out6A (hc0 : cond0_0 i) (hc1 : ¬cond0_1 i) :
    out0_A_6 c i a3 h3 a4 h4 a5 h5 a6 h6 a7 h7 a8 h8 a9 h9 hc0 hc1 x0 x1 x2 x3 = k0_pay5 (k0_pay10 x3) (k0_pay11 x0 x1) := by
  unfold out0_A_6
  rw [View.read_writes_eq_canon _ _ _ (cover0_A_6 c i a3 h3 a4 h4 a5 h5 a6 h6 a7 h7 a8 h8 a9 h9 hc0 hc1 x0 x1 x2 x3)]
  unfold kernelRun0_A; dsimp only; (try sl_unfold_words)
  rw [View.canon_unit_zero hz]
  simp only [View.readAt_eq_ld, h3.read_unread, h4.read_unread, h5.read_unread, h6.read_unread, h8.read_unread, h9.read_unread, View.ld_unit_zero (S := S1x1024x256) hz, View.ld_unit_zero (S := S1x256x256) hz]
theorem out4B (hc0 : ¬cond0_0 i) (hc1 : cond0_1 i) :
    out0_B_4 c i a3 h3 a4 h4 a5 h5 a6 h6 a7 h7 a8 h8 a9 h9 hc0 hc1 x0 x1 x2 x3 xo5 xo6 = k0_pay1 (k0_pay13 x0 x1 x2 x3) := by
  unfold out0_B_4
  rw [View.read_writes_eq_canon _ _ _ (cover0_B_4 c i a3 h3 a4 h4 a5 h5 a6 h6 a7 h7 a8 h8 a9 h9 hc0 hc1 x0 x1 x2 x3 xo5 xo6)]
  unfold kernelRun0_B; dsimp only; (try sl_unfold_words)
  rw [View.canon_unit_zero hz]
  simp only [View.readAt_eq_ld, h3.read_unread, h4.read_unread, h5.read_unread, h6.read_unread, h8.read_unread, h9.read_unread, View.ld_unit_zero (S := S1x1024x256) hz, View.ld_unit_zero (S := S1x256x256) hz]
theorem out5B (hc0 : ¬cond0_0 i) (hc1 : cond0_1 i) :
    out0_B_5 c i a3 h3 a4 h4 a5 h5 a6 h6 a7 h7 a8 h8 a9 h9 hc0 hc1 x0 x1 x2 x3 xo5 xo6 = k0_pay6 (k0_pay8 x0) (k0_pay12 x0 x1 x2 x3) xo5 := by
  unfold out0_B_5
  rw [View.read_writes_eq_canon _ _ _ (cover0_B_5 c i a3 h3 a4 h4 a5 h5 a6 h6 a7 h7 a8 h8 a9 h9 hc0 hc1 x0 x1 x2 x3 xo5 xo6)]
  unfold kernelRun0_B; dsimp only; (try sl_unfold_words)
  rw [View.canon_unit_zero hz]
  simp only [View.readAt_eq_ld, h3.read_unread, h4.read_unread, h5.read_unread, h6.read_unread, h8.read_unread, h9.read_unread, View.ld_unit_zero (S := S1x1024x256) hz, View.ld_unit_zero (S := S1x256x256) hz]
theorem out6B (hc0 : ¬cond0_0 i) (hc1 : cond0_1 i) :
    out0_B_6 c i a3 h3 a4 h4 a5 h5 a6 h6 a7 h7 a8 h8 a9 h9 hc0 hc1 x0 x1 x2 x3 xo5 xo6 = k0_pay7 (k0_pay10 x3) (k0_pay11 x0 x1) xo6 := by
  unfold out0_B_6
  rw [View.read_writes_eq_canon _ _ _ (cover0_B_6 c i a3 h3 a4 h4 a5 h5 a6 h6 a7 h7 a8 h8 a9 h9 hc0 hc1 x0 x1 x2 x3 xo5 xo6)]
  unfold kernelRun0_B; dsimp only; (try sl_unfold_words)
  rw [View.canon_unit_zero hz]
  simp only [View.readAt_eq_ld, h3.read_unread, h4.read_unread, h5.read_unread, h6.read_unread, h8.read_unread, h9.read_unread, View.ld_unit_zero (S := S1x1024x256) hz, View.ld_unit_zero (S := S1x256x256) hz]
end Cert.KernelIdeal.Blocks
-- ==== Proof.XBlk.lean ====
/- The body's words on one block, read at an index. -/
module
public import proofs.«01_k».proof.Proof.XRows
public import proofs.«01_k».proof.Proof.Gen.KernelIdeal.Skeleton
public import Idealize.ShloMosaic.Lib.Pointwise
@[expose] public section
set_option maxRecDepth 16384
noncomputable section
namespace Cert.KernelIdeal.Blocks
open Cert.KernelIdeal Cert.KernelIdeal.Gen Idealize.ShloMosaic Cert.Xattn
variable (q g : FVec Ideal S1x1024x256 .bf16) (k v : FVec Ideal S1x256x256 .bf16) (o : FVec Ideal S1x256x256 .f32)

/-- The scores and the probabilities' gradient of row `r` of a block. -/
def blkS (r : Fin 1024) : Fin 256 → EReal := score (fun d => q (ix3 0 r d)) (fun j d => k (ix3 0 j d))
def blkD (r : Fin 1024) (j : Fin 256) : EReal := ∑ d : Fin 256, g (ix3 0 r d) * v (ix3 0 j d)

theorem pay11 (r : Fin 1024) (j : Fin 256) : k0_pay11 (F := Ideal) q k (ix2 r j) = prob (blkS q k r) j := by
  pointwise [k0_pay11, k0_pay8, k0_pay9]
  rfl
theorem pay12 (r : Fin 1024) (j : Fin 256) : k0_pay12 (F := Ideal) q k v g (ix2 r j) = gradK (blkS q k r) (blkD g v r) j := by
  have e : k0_pay12 (F := Ideal) q k v g (ix2 r j) = k0_pay11 (F := Ideal) q k (ix2 r j) * (∑ x, g (ix3 0 r x) * v (ix3 0 j x) -
      ∑ y, (∑ x, g (ix3 0 r x) * v (ix3 0 y x)) * k0_pay11 (F := Ideal) q k (ix2 r y)) * sc := by
    pointwise [k0_pay12, k0_pay10]
  rw [e]; simp only [pay11]; rfl
theorem blkQ (r : Fin 1024) (n : Fin 256) : k0_pay1 (F := Ideal) (k0_pay13 (F := Ideal) q k v g) (ix3 0 r n)
    = ∑ j : Fin 256, gradK (blkS q k r) (blkD g v r) j * k (ix3 0 j n) := by
  have e : k0_pay1 (F := Ideal) (k0_pay13 (F := Ideal) q k v g) (ix3 0 r n) = ∑ j : Fin 256, k0_pay12 (F := Ideal) q k v g (ix2 r j) * k (ix3 0 j n) := by
    pointwise [k0_pay1, k0_pay13, k0_pay9]
  rw [e]; simp only [pay12]
theorem blkK (j n : Fin 256) : k0_pay4 (F := Ideal) (k0_pay8 (F := Ideal) q) (k0_pay12 (F := Ideal) q k v g) (ix3 0 j n)
    = ∑ r : Fin 1024, gradK (blkS q k r) (blkD g v r) j * q (ix3 0 r n) := by
  have e : k0_pay4 (F := Ideal) (k0_pay8 (F := Ideal) q) (k0_pay12 (F := Ideal) q k v g) (ix3 0 j n) = ∑ r : Fin 1024, k0_pay12 (F := Ideal) q k v g (ix2 r j) * q (ix3 0 r n) := by
    pointwise [k0_pay4, k0_pay2, k0_pay8]
  rw [e]; simp only [pay12]
theorem blkV (j n : Fin 256) : k0_pay5 (F := Ideal) (k0_pay10 (F := Ideal) g) (k0_pay11 (F := Ideal) q k) (ix3 0 j n)
    = ∑ r : Fin 1024, prob (blkS q k r) j * g (ix3 0 r n) := by
  have e : k0_pay5 (F := Ideal) (k0_pay10 (F := Ideal) g) (k0_pay11 (F := Ideal) q k) (ix3 0 j n) = ∑ r : Fin 1024, k0_pay11 (F := Ideal) q k (ix2 r j) * g (ix3 0 r n) := by
    pointwise [k0_pay5, k0_pay3, k0_pay10]
  rw [e]; simp only [pay11]
theorem accK (j n : Fin 256) : k0_pay6 (F := Ideal) (k0_pay8 (F := Ideal) q) (k0_pay12 (F := Ideal) q k v g) o (ix3 0 j n)
    = o (ix3 0 j n) + ∑ r : Fin 1024, gradK (blkS q k r) (blkD g v r) j * q (ix3 0 r n) := by
  have e : k0_pay6 (F := Ideal) (k0_pay8 (F := Ideal) q) (k0_pay12 (F := Ideal) q k v g) o (ix3 0 j n) = o (ix3 0 j n) + ∑ r : Fin 1024, k0_pay12 (F := Ideal) q k v g (ix2 r j) * q (ix3 0 r n) := by
    pointwise [k0_pay6, k0_pay2, k0_pay8]
  rw [e]; simp only [pay12]
theorem accV (j n : Fin 256) : k0_pay7 (F := Ideal) (k0_pay10 (F := Ideal) g) (k0_pay11 (F := Ideal) q k) o (ix3 0 j n)
    = o (ix3 0 j n) + ∑ r : Fin 1024, prob (blkS q k r) j * g (ix3 0 r n) := by
  have e : k0_pay7 (F := Ideal) (k0_pay10 (F := Ideal) g) (k0_pay11 (F := Ideal) q k) o (ix3 0 j n) = o (ix3 0 j n) + ∑ r : Fin 1024, k0_pay11 (F := Ideal) q k (ix2 r j) * g (ix3 0 r n) := by
    pointwise [k0_pay7, k0_pay3, k0_pay10]
  rw [e]; simp only [pay11]
end Cert.KernelIdeal.Blocks
-- ==== Proof.XArr.lean ====
/- The three result arrays the kernel leaves, as functions of its arguments. -/
module
public import proofs.«01_k».proof.Proof.XOut
public import proofs.«01_k».proof.Proof.XBlk
@[expose] public section
set_option maxRecDepth 16384
noncomputable section
namespace Cert.KernelIdeal.Blocks
open Cert.KernelIdeal Cert.KernelIdeal.Gen Idealize.ShloMosaic Idealize.ShloMosaic.TcCoe Idealize.SL.Sem Cert.Xattn
open scoped BigOperators
variable (m : (ℓ : Loc nD τ sig) → Buf (Elt Ideal) ℓ) (c : Dev nD)

/-- The arguments, read by their coordinates. -/
abbrev aQ : Fin 4 → Fin 2048 → Fin 1024 → EReal := fun b i n => m ((c : Thread nD τ).loc main_arg0) (ix3 b i n)
abbrev aK : Fin 4 → Fin 256 → Fin 2048 → EReal := fun b j n => m ((c : Thread nD τ).loc main_arg1) (ix3 b j n)
abbrev aG : Fin 4 → Fin 2048 → Fin 1024 → EReal := fun b i n => m ((c : Thread nD τ).loc main_arg2) (ix3 b i n)

theorem lt32 (t : Fin cfg0.N) : t.val < 32 := by have h := t.isLt; have e : cfg0.N = 32 := N_0; omega
/-- The batch, the head, the row and the feature a block index of point `t` stands for. -/
def tb (t : Fin cfg0.N) : Fin 4 := ⟨t.val / 8, by have := lt32 t; omega⟩
def th (t : Fin cfg0.N) : Fin 4 := ⟨t.val / 2 % 4, by omega⟩
def row (t : Fin cfg0.N) (r : Fin 1024) : Fin 2048 := ⟨t.val % 2 * 1024 + r.val, by omega⟩
def feat (t : Fin cfg0.N) (d : Fin 256) : Fin 1024 := ⟨(th t).val * 256 + d.val, by have := (th t).isLt; omega⟩
theorem headOf_feat (t : Fin cfg0.N) (d : Fin 256) : headOf (feat t d) = th t := by
  apply Fin.ext; show ((th t).val * 256 + d.val) / 256 = (th t).val; omega

theorem idx0 : ∀ t : Fin grid0.N, win0_0.index t = ![t.val / 8, t.val % 2, t.val / 2 % 4] := by decide +kernel
theorem idx1 : ∀ t : Fin grid0.N, win0_1.index t = ![t.val / 8, 0, t.val / 2 % 4] := by decide +kernel
theorem idx2 : ∀ t : Fin grid0.N, win0_2.index t = ![t.val / 8, 0, 4 + t.val / 2 % 4] := by decide +kernel
theorem idx3 : ∀ t : Fin grid0.N, win0_3.index t = ![t.val / 8, t.val % 2, t.val / 2 % 4] := by decide +kernel
theorem idx4 : ∀ t : Fin grid0.N, win0_4.index t = ![t.val / 8, t.val % 2, t.val / 2 % 4] := by decide +kernel
theorem idx5 : ∀ t : Fin grid0.N, win0_5.index t = ![t.val / 8, 0, t.val / 2 % 4] := by decide +kernel
theorem idx6 : ∀ t : Fin grid0.N, win0_6.index t = ![t.val / 8, 0, t.val / 2 % 4] := by decide +kernel
theorem rd0 (t : Fin cfg0.N) (r : Fin 1024) (d : Fin 256) : iblk m c 0 t (ix3 0 r d) = m ((c : Thread nD τ).loc main_arg0) (ix3 (tb t) (row t r) (feat t d)) := by
  have hi : win0_0.index t = ![t.val / 8, t.val % 2, t.val / 2 % 4] := idx0 t
  have e0 : win0_0.index t 0 = t.val / 8 := congrFun hi 0
  have e1 := congrFun hi 1
  have e2 := congrFun hi 2
  unfold iblk
  rw [View.read_apply]
  show V m c main_arg0 _ = _
  unfold V
  congr 1
  funext a
  apply Fin.ext
  match a with
  | ⟨0, _⟩ => show win0_0.index t 0 * 1 + 1 * 0 = t.val / 8; rw [e0]; omega
  | ⟨1, _⟩ => show win0_0.index t 1 * 1024 + 1 * r.val = t.val % 2 * 1024 + r.val; rw [e1]; show t.val % 2 * 1024 + 1 * r.val = _; omega
  | ⟨2, _⟩ => show win0_0.index t 2 * 256 + 1 * d.val = t.val / 2 % 4 * 256 + d.val; rw [e2]; show t.val / 2 % 4 * 256 + 1 * d.val = _; omega
theorem rd1 (t : Fin cfg0.N) (r : Fin 256) (d : Fin 256) : iblk m c 1 t (ix3 0 r d) = m ((c : Thread nD τ).loc main_arg1) (ix3 (tb t) r ⟨(th t).val * 256 + d.val, by have := (th t).isLt; omega⟩) := by
  have hi : win0_1.index t = ![t.val / 8, 0, t.val / 2 % 4] := idx1 t
  have e0 : win0_1.index t 0 = t.val / 8 := congrFun hi 0
  have e1 := congrFun hi 1
  have e2 := congrFun hi 2
  unfold iblk
  rw [View.read_apply]
  show V m c main_arg1 _ = _
  unfold V
  congr 1
  funext a
  apply Fin.ext
  match a with
  | ⟨0, _⟩ => show win0_1.index t 0 * 1 + 1 * 0 = t.val / 8; rw [e0]; omega
  | ⟨1, _⟩ => show win0_1.index t 1 * 256 + 1 * r.val = r.val; rw [e1]; show 0 * 256 + 1 * r.val = _; omega
  | ⟨2, _⟩ => show win0_1.index t 2 * 256 + 1 * d.val = t.val / 2 % 4 * 256 + d.val; rw [e2]; show t.val / 2 % 4 * 256 + 1 * d.val = _; omega
theorem rd2 (t : Fin cfg0.N) (r : Fin 256) (d : Fin 256) : iblk m c 2 t (ix3 0 r d) = m ((c : Thread nD τ).loc main_arg1) (ix3 (tb t) r ⟨1024 + ((th t).val * 256 + d.val), by have := (th t).isLt; omega⟩) := by
  have hi : win0_2.index t = ![t.val / 8, 0, 4 + t.val / 2 % 4] := idx2 t
  have e0 : win0_2.index t 0 = t.val / 8 := congrFun hi 0
  have e1 := congrFun hi 1
  have e2 := congrFun hi 2
  unfold iblk
  rw [View.read_apply]
  show V m c main_arg1 _ = _
  unfold V
  congr 1
  funext a
  apply Fin.ext
  match a with
  | ⟨0, _⟩ => show win0_2.index t 0 * 1 + 1 * 0 = t.val / 8; rw [e0]; omega
  | ⟨1, _⟩ => show win0_2.index t 1 * 256 + 1 * r.val = r.val; rw [e1]; show 0 * 256 + 1 * r.val = _; omega
  | ⟨2, _⟩ => show win0_2.index t 2 * 256 + 1 * d.val = 1024 + (t.val / 2 % 4 * 256 + d.val); rw [e2]; show (4 + t.val / 2 % 4) * 256 + 1 * d.val = _; omega
theorem rd3 (t : Fin cfg0.N) (r : Fin 1024) (d : Fin 256) : iblk m c 3 t (ix3 0 r d) = m ((c : Thread nD τ).loc main_arg2) (ix3 (tb t) (row t r) (feat t d)) := by
  have hi : win0_3.index t = ![t.val / 8, t.val % 2, t.val / 2 % 4] := idx3 t
  have e0 : win0_3.index t 0 = t.val / 8 := congrFun hi 0
  have e1 := congrFun hi 1
  have e2 := congrFun hi 2
  unfold iblk
  rw [View.read_apply]
  show V m c main_arg2 _ = _
  unfold V
  congr 1
  funext a
  apply Fin.ext
  match a with
  | ⟨0, _⟩ => show win0_3.index t 0 * 1 + 1 * 0 = t.val / 8; rw [e0]; omega
  | ⟨1, _⟩ => show win0_3.index t 1 * 1024 + 1 * r.val = t.val % 2 * 1024 + r.val; rw [e1]; show t.val % 2 * 1024 + 1 * r.val = _; omega
  | ⟨2, _⟩ => show win0_3.index t 2 * 256 + 1 * d.val = t.val / 2 % 4 * 256 + d.val; rw [e2]; show t.val / 2 % 4 * 256 + 1 * d.val = _; omega

/-- The blocks point `t` reads. -/
def bq (t : Fin cfg0.N) : FVec Ideal S1x1024x256 .bf16 := iblk m c 0 t
def bk (t : Fin cfg0.N) : FVec Ideal S1x256x256 .bf16 := iblk m c 1 t
def bv (t : Fin cfg0.N) : FVec Ideal S1x256x256 .bf16 := iblk m c 2 t
def bg (t : Fin cfg0.N) : FVec Ideal S1x1024x256 .bf16 := iblk m c 3 t
theorem bq_at (t : Fin cfg0.N) (r : Fin 1024) (d : Fin 256) : bq m c t (ix3 0 r d) = aQ m c (tb t) (row t r) (feat t d) := rd0 m c t r d
theorem bg_at (t : Fin cfg0.N) (r : Fin 1024) (d : Fin 256) : bg m c t (ix3 0 r d) = aG m c (tb t) (row t r) (feat t d) := rd3 m c t r d
theorem bk_at (t : Fin cfg0.N) (r : Fin 256) (d : Fin 256) : bk m c t (ix3 0 r d) = aK m c (tb t) r ⟨(feat t d).val, by omega⟩ := rd1 m c t r d
theorem bv_at (t : Fin cfg0.N) (r : Fin 256) (d : Fin 256) : bv m c t (ix3 0 r d) = aK m c (tb t) r ⟨1024 + (feat t d).val, by omega⟩ := rd2 m c t r d
theorem blkS_eq (t : Fin cfg0.N) (r : Fin 1024) : blkS (bq m c t) (bk m c t) r = rowS (aQ m c) (aK m c) (tb t) (th t) (row t r) := by
  unfold blkS rowS
  congr 1
  · funext d; exact bq_at m c t r d
  · funext j d; exact bk_at m c t j d
theorem blkD_eq (t : Fin cfg0.N) (r : Fin 1024) : blkD (bg m c t) (bv m c t) r = rowD (aG m c) (aK m c) (tb t) (th t) (row t r) := by
  funext j
  unfold blkD rowD
  exact Finset.sum_congr rfl fun d _ => congrArg₂ (· * ·) (bg_at m c t r d) (bv_at m c t j d)

/-- The result arrays. -/
def resQ : Buf (Elt Ideal) ((c : Thread nD τ).loc main_v0_0) := fun i : S4x2048x1024.Idx => gradQ (aQ m c) (aG m c) (aK m c) (i 0) (i 1) (i 2)
def resK : Buf (Elt Ideal) ((c : Thread nD τ).loc main_v0_1) := fun i : S4x256x1024.Idx => gradKey (aQ m c) (aG m c) (aK m c) (i 0) (i 1) (i 2)
def resV : Buf (Elt Ideal) ((c : Thread nD τ).loc main_v0_2) := fun i : S4x256x1024.Idx => gradVal (aQ m c) (aG m c) (aK m c) (i 0) (i 1) (i 2)

/-- Half of the rows' sum: what one point adds to a key block and a value block. -/
def partK (t : Fin cfg0.N) (j n : Fin 256) : EReal := ∑ r : Fin 1024,
  gradK (rowS (aQ m c) (aK m c) (tb t) (th t) (row t r)) (rowD (aG m c) (aK m c) (tb t) (th t) (row t r)) j * aQ m c (tb t) (row t r) (feat t n)
def partV (t : Fin cfg0.N) (j n : Fin 256) : EReal := ∑ r : Fin 1024,
  prob (rowS (aQ m c) (aK m c) (tb t) (th t) (row t r)) j * aG m c (tb t) (row t r) (feat t n)

theorem outs4 (t : Fin cfg0.N) : (outsAt0 m c t.val t.isLt).1 = k0_pay1 (F := Ideal) (k0_pay13 (F := Ideal) (bq m c t) (bk m c t) (bv m c t) (bg m c t)) := by
  by_cases h : t.val % 2 = 0
  · rw [outsAt0_A m c t h (by omega)]; dsimp only; exact out4A (F := Ideal) ..
  · rw [outsAt0_B m c t h (by omega)]; dsimp only; exact out4B (F := Ideal) ..
theorem outs5A (t : Fin cfg0.N) (h : t.val % 2 = 0) : (outsAt0 m c t.val t.isLt).2.1 = k0_pay4 (F := Ideal) (k0_pay8 (F := Ideal) (bq m c t)) (k0_pay12 (F := Ideal) (bq m c t) (bk m c t) (bv m c t) (bg m c t)) := by
  rw [outsAt0_A m c t h (by omega)]; dsimp only; exact out5A (F := Ideal) ..
theorem outs6A (t : Fin cfg0.N) (h : t.val % 2 = 0) : (outsAt0 m c t.val t.isLt).2.2 = k0_pay5 (F := Ideal) (k0_pay10 (F := Ideal) (bg m c t)) (k0_pay11 (F := Ideal) (bq m c t) (bk m c t)) := by
  rw [outsAt0_A m c t h (by omega)]; dsimp only; exact out6A (F := Ideal) ..
/-- The point before. -/
abbrev prev (t : Fin cfg0.N) : Fin cfg0.N := ⟨t.val - 1, Nat.lt_of_le_of_lt (Nat.sub_le _ _) t.isLt⟩
theorem outs5B (t : Fin cfg0.N) (h : t.val % 2 = 1) : (outsAt0 m c t.val t.isLt).2.1 = k0_pay6 (F := Ideal) (k0_pay8 (F := Ideal) (bq m c t)) (k0_pay12 (F := Ideal) (bq m c t) (bk m c t) (bv m c t) (bg m c t)) (outsAt0 m c (prev t).val (prev t).isLt).2.1 := by
  rw [outsAt0_B m c t (by omega) h]; dsimp only; exact out5B (F := Ideal) ..
theorem outs6B (t : Fin cfg0.N) (h : t.val % 2 = 1) : (outsAt0 m c t.val t.isLt).2.2 = k0_pay7 (F := Ideal) (k0_pay10 (F := Ideal) (bg m c t)) (k0_pay11 (F := Ideal) (bq m c t) (bk m c t)) (outsAt0 m c (prev t).val (prev t).isLt).2.2 := by
  rw [outsAt0_B m c t (by omega) h]; dsimp only; exact out6B (F := Ideal) ..

theorem at4 (t : Fin cfg0.N) (r : Fin 1024) (n : Fin 256) : (outsAt0 m c t.val t.isLt).1 (ix3 0 r n) = gradQ (aQ m c) (aG m c) (aK m c) (tb t) (row t r) (feat t n) := by
  rw [outs4, blkQ]
  unfold gradQ
  simp only [headOf_feat, blkS_eq, blkD_eq, bk_at]
theorem part5 (t : Fin cfg0.N) (j n : Fin 256) : ∑ r : Fin 1024, gradK (blkS (bq m c t) (bk m c t) r) (blkD (bg m c t) (bv m c t) r) j * bq m c t (ix3 0 r n) = partK m c t j n := by
  unfold partK; simp only [blkS_eq, blkD_eq, bq_at]
theorem part6 (t : Fin cfg0.N) (j n : Fin 256) : ∑ r : Fin 1024, prob (blkS (bq m c t) (bk m c t) r) j * bg m c t (ix3 0 r n) = partV m c t j n := by
  unfold partV; simp only [blkS_eq, bg_at]
theorem at5A (t : Fin cfg0.N) (h : t.val % 2 = 0) (j n : Fin 256) : (outsAt0 m c t.val t.isLt).2.1 (ix3 0 j n) = partK m c t j n := by
  rw [outs5A m c t h, blkK, part5]
theorem at6A (t : Fin cfg0.N) (h : t.val % 2 = 0) (j n : Fin 256) : (outsAt0 m c t.val t.isLt).2.2 (ix3 0 j n) = partV m c t j n := by
  rw [outs6A m c t h, blkV, part6]
theorem at5B (t : Fin cfg0.N) (h : t.val % 2 = 1) (j n : Fin 256) : (outsAt0 m c t.val t.isLt).2.1 (ix3 0 j n) = partK m c (prev t) j n + partK m c t j n := by
  rw [outs5B m c t h, accK, part5, at5A m c (prev t) (by show (t.val - 1) % 2 = 0; omega)]
theorem at6B (t : Fin cfg0.N) (h : t.val % 2 = 1) (j n : Fin 256) : (outsAt0 m c t.val t.isLt).2.2 (ix3 0 j n) = partV m c (prev t) j n + partV m c t j n := by
  rw [outs6B m c t h, accV, part6, at6A m c (prev t) (by show (t.val - 1) % 2 = 0; omega)]

/-- The rows of the two points of a head are all of its rows. -/
theorem two_halves (t : Fin cfg0.N) (h : t.val % 2 = 1) (f : Fin 2048 → EReal) :
    (∑ r : Fin 1024, f (row (prev t) r)) + ∑ r : Fin 1024, f (row t r) = ∑ i : Fin 2048, f i := by
  rw [show (∑ i : Fin 2048, f i) = ∑ i : Fin (1024 + 1024), f i from rfl, Fin.sum_univ_add]
  refine congrArg₂ (· + ·) (Finset.sum_congr rfl fun r _ => congrArg f (Fin.ext ?_)) (Finset.sum_congr rfl fun r _ => congrArg f (Fin.ext ?_))
  · show (t.val - 1) % 2 * 1024 + r.val = r.val; omega
  · show t.val % 2 * 1024 + r.val = 1024 + r.val; omega
theorem tb_prev (t : Fin cfg0.N) (h : t.val % 2 = 1) : tb (prev t) = tb t := Fin.ext (by show (t.val - 1) / 8 = t.val / 8; omega)
theorem th_prev (t : Fin cfg0.N) (h : t.val % 2 = 1) : th (prev t) = th t := Fin.ext (by show (t.val - 1) / 2 % 4 = t.val / 2 % 4; omega)
theorem feat_prev (t : Fin cfg0.N) (h : t.val % 2 = 1) (n : Fin 256) : feat (prev t) n = feat t n :=
  Fin.ext (by show (th (prev t)).val * 256 + n.val = (th t).val * 256 + n.val; rw [th_prev t h])
theorem at5 (t : Fin cfg0.N) (h : t.val % 2 = 1) (j n : Fin 256) : (outsAt0 m c t.val t.isLt).2.1 (ix3 0 j n) = gradKey (aQ m c) (aG m c) (aK m c) (tb t) j (feat t n) := by
  rw [at5B m c t h]
  unfold partK gradKey
  rw [tb_prev t h, th_prev t h, feat_prev t h, headOf_feat]
  exact two_halves t h fun i => gradK (rowS (aQ m c) (aK m c) (tb t) (th t) i) (rowD (aG m c) (aK m c) (tb t) (th t) i) j * aQ m c (tb t) i (feat t n)
theorem at6 (t : Fin cfg0.N) (h : t.val % 2 = 1) (j n : Fin 256) : (outsAt0 m c t.val t.isLt).2.2 (ix3 0 j n) = gradVal (aQ m c) (aG m c) (aK m c) (tb t) j (feat t n) := by
  rw [at6B m c t h]
  unfold partV gradVal
  rw [tb_prev t h, th_prev t h, feat_prev t h, headOf_feat]
  exact two_halves t h fun i => prob (rowS (aQ m c) (aK m c) (tb t) (th t) i) j * aG m c (tb t) i (feat t n)

theorem fl4 (t : Fin cfg0.N) (hf : (cfg0.win 4).flush t = true) :
    (Gen.dats m 0 c).flushed 4 t = ((cfg0.win 4).blk t).view.read (Elt Ideal) (resQ m c) := by
  have hi : win0_4.index t = ![t.val / 8, t.val % 2, t.val / 2 % 4] := idx4 t
  have e0 : win0_4.index t 0 = t.val / 8 := congrFun hi 0
  have e1 : win0_4.index t 1 = t.val % 2 := congrFun hi 1
  have e2 : win0_4.index t 2 = t.val / 2 % 4 := congrFun hi 2
  rw [Value.flushed4]
  funext j
  have key : ∀ (r : Fin 1024) (d : Fin 256), (outsAt0 m c t.val t.isLt).1 (ix3 0 r d) = ((cfg0.win 4).blk t).view.read (Elt Ideal) (resQ m c) (ix3 0 r d) := by
    intro r d
    have he : ((cfg0.win 4).blk t).view.emb (ix3 0 r d) = ix3 (tb t) (row t r) (feat t d) := by
      funext a
      apply Fin.ext
      match a with
      | ⟨0, _⟩ => show win0_4.index t 0 * 1 + 1 * 0 = t.val / 8; rw [e0]; omega
      | ⟨1, _⟩ => show win0_4.index t 1 * 1024 + 1 * r.val = t.val % 2 * 1024 + r.val; rw [e1]; omega
      | ⟨2, _⟩ => show win0_4.index t 2 * 256 + 1 * d.val = t.val / 2 % 4 * 256 + d.val; rw [e2]; omega
    rw [View.read_apply, he, at4 m c t r d]
    unfold resQ; rfl
  have hj : j = ix3 (⟨0, by decide⟩ : Fin 1) (⟨(j 1).val, (j 1).isLt⟩ : Fin 1024) (⟨(j 2).val, (j 2).isLt⟩ : Fin 256) := by
    funext a; apply Fin.ext
    match a with
    | ⟨0, _⟩ => have : (j 0).val < 1 := (j 0).isLt; show (j 0).val = 0; omega
    | ⟨1, _⟩ => rfl
    | ⟨2, _⟩ => rfl
  rw [hj]
  exact key _ _
theorem fin4 : (Gen.dats m 0 c).arrAt 4 cfg0.N = resQ m c :=
  (Gen.dats m 0 c).arrAt_eq_of_cover 4 (resQ m c) (fl4 m c) fun i => by
    have h0 : (i 0 : Nat) < 4 := (i 0).isLt
    have h1 : (i 1 : Nat) < 2048 := (i 1).isLt
    have h2 : (i 2 : Nat) < 1024 := (i 2).isLt
    let t : Fin cfg0.N := ⟨(i 0).val * 8 + (i 2).val / 256 * 2 + (i 1).val / 1024, by rw [show cfg0.N = 32 from N_0]; omega⟩
    have ht : t.val = (i 0).val * 8 + (i 2).val / 256 * 2 + (i 1).val / 1024 := rfl
    have hi : win0_4.index t = ![t.val / 8, t.val % 2, t.val / 2 % 4] := idx4 t
    have e0 : win0_4.index t 0 = t.val / 8 := congrFun hi 0
    have e1 : win0_4.index t 1 = t.val % 2 := congrFun hi 1
    have e2 : win0_4.index t 2 = t.val / 2 % 4 := congrFun hi 2
    refine ⟨t, flush0_4 t, ?_⟩
    show i ∈ ((View.whole main_v0_0).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1
                rw [e0]; omega
    | ⟨1, _⟩ => show win0_4.index t 1 * 1024 ≤ (i 1 : Nat) ∧ (i 1 : Nat) < win0_4.index t 1 * 1024 + 1024
                rw [e1]; omega
    | ⟨2, _⟩ => show win0_4.index t 2 * 256 ≤ (i 2 : Nat) ∧ (i 2 : Nat) < win0_4.index t 2 * 256 + 256
                rw [e2]; omega

theorem fl5 (t : Fin cfg0.N) (hf : (cfg0.win 5).flush t = true) :
    (Gen.dats m 0 c).flushed 5 t = ((cfg0.win 5).blk t).view.read (Elt Ideal) (resK m c) := by
  have hi : win0_5.index t = ![t.val / 8, 0, t.val / 2 % 4] := idx5 t
  have e0 : win0_5.index t 0 = t.val / 8 := congrFun hi 0
  have e1 : win0_5.index t 1 = 0 := congrFun hi 1
  have e2 : win0_5.index t 2 = t.val / 2 % 4 := congrFun hi 2
  rw [Value.flushed5]
  funext j
  have key : ∀ (r : Fin 256) (d : Fin 256), (outsAt0 m c t.val t.isLt).2.1 (ix3 0 r d) = ((cfg0.win 5).blk t).view.read (Elt Ideal) (resK m c) (ix3 0 r d) := by
    intro r d
    have he : ((cfg0.win 5).blk t).view.emb (ix3 0 r d) = ix3 (tb t) r (feat t d) := by
      funext a
      apply Fin.ext
      match a with
      | ⟨0, _⟩ => show win0_5.index t 0 * 1 + 1 * 0 = t.val / 8; rw [e0]; omega
      | ⟨1, _⟩ => show win0_5.index t 1 * 256 + 1 * r.val = r.val; rw [e1]; omega
      | ⟨2, _⟩ => show win0_5.index t 2 * 256 + 1 * d.val = t.val / 2 % 4 * 256 + d.val; rw [e2]; omega
    rw [View.read_apply, he, at5 m c t ((flush0_5 t).mp hf) r d]
    unfold resK; rfl
  have hj : j = ix3 (⟨0, by decide⟩ : Fin 1) (⟨(j 1).val, (j 1).isLt⟩ : Fin 256) (⟨(j 2).val, (j 2).isLt⟩ : Fin 256) := by
    funext a; apply Fin.ext
    match a with
    | ⟨0, _⟩ => have : (j 0).val < 1 := (j 0).isLt; show (j 0).val = 0; omega
    | ⟨1, _⟩ => rfl
    | ⟨2, _⟩ => rfl
  rw [hj]
  exact key _ _
theorem fin5 : (Gen.dats m 0 c).arrAt 5 cfg0.N = resK m c :=
  (Gen.dats m 0 c).arrAt_eq_of_cover 5 (resK m c) (fl5 m c) fun i => by
    have h0 : (i 0 : Nat) < 4 := (i 0).isLt
    have h1 : (i 1 : Nat) < 256 := (i 1).isLt
    have h2 : (i 2 : Nat) < 1024 := (i 2).isLt
    let t : Fin cfg0.N := ⟨(i 0).val * 8 + (i 2).val / 256 * 2 + 1, by rw [show cfg0.N = 32 from N_0]; omega⟩
    have ht : t.val = (i 0).val * 8 + (i 2).val / 256 * 2 + 1 := rfl
    have hi : win0_5.index t = ![t.val / 8, 0, t.val / 2 % 4] := idx5 t
    have e0 : win0_5.index t 0 = t.val / 8 := congrFun hi 0
    have e1 : win0_5.index t 1 = 0 := congrFun hi 1
    have e2 : win0_5.index t 2 = t.val / 2 % 4 := congrFun hi 2
    refine ⟨t, (flush0_5 t).mpr (by show ((i 0).val * 8 + (i 2).val / 256 * 2 + 1) % 2 = 1; omega), ?_⟩
    show i ∈ ((View.whole main_v0_1).slice (win0_5.rect t)).set
    rw [View.set_slice_whole, Rect.mem_set_unit]
    intro a
    match a with
    | ⟨0, _⟩ => show win0_5.index t 0 * 1 ≤ (i 0 : Nat) ∧ (i 0 : Nat) < win0_5.index t 0 * 1 + 1
                rw [e0]; omega
    | ⟨1, _⟩ => show win0_5.index t 1 * 256 ≤ (i 1 : Nat) ∧ (i 1 : Nat) < win0_5.index t 1 * 256 + 256
                rw [e1]; omega
    | ⟨2, _⟩ => show win0_5.index t 2 * 256 ≤ (i 2 : Nat) ∧ (i 2 : Nat) < win0_5.index t 2 * 256 + 256
                rw [e2]; omega

theorem fl6 (t : Fin cfg0.N) (hf : (cfg0.win 6).flush t = true) :
    (Gen.dats m 0 c).flushed 6 t = ((cfg0.win 6).blk t).view.read (Elt Ideal) (resV m c) := by
  have hi : win0_6.index t = ![t.val / 8, 0, t.val / 2 % 4] := idx6 t
  have e0 : win0_6.index t 0 = t.val / 8 := congrFun hi 0
  have e1 : win0_6.index t 1 = 0 := congrFun hi 1
  have e2 : win0_6.index t 2 = t.val / 2 % 4 := congrFun hi 2
  rw [Value.flushed6]
  funext j
  have key : ∀ (r : Fin 256) (d : Fin 256), (outsAt0 m c t.val t.isLt).2.2 (ix3 0 r d) = ((cfg0.win 6).blk t).view.read (Elt Ideal) (resV m c) (ix3 0 r d) := by
    intro r d
    have he : ((cfg0.win 6).blk t).view.emb (ix3 0 r d) = ix3 (tb t) r (feat t d) := by
      funext a
      apply Fin.ext
      match a with
      | ⟨0, _⟩ => show win0_6.index t 0 * 1 + 1 * 0 = t.val / 8; rw [e0]; omega
      | ⟨1, _⟩ => show win0_6.index t 1 * 256 + 1 * r.val = r.val; rw [e1]; omega
      | ⟨2, _⟩ => show win0_6.index t 2 * 256 + 1 * d.val = t.val / 2 % 4 * 256 + d.val; rw [e2]; omega
    rw [View.read_apply, he, at6 m c t ((flush0_6 t).mp hf) r d]
    unfold resV; rfl
  have hj : j = ix3 (⟨0, by decide⟩ : Fin 1) (⟨(j 1).val, (j 1).isLt⟩ : Fin 256) (⟨(j 2).val, (j 2).isLt⟩ : Fin 256) := by
    funext a; apply Fin.ext
    match a with
    | ⟨0, _⟩ => have : (j 0).val < 1 := (j 0).isLt; show (j 0).val = 0; omega
    | ⟨1, _⟩ => rfl
    | ⟨2, _⟩ => rfl
  rw [hj]
  exact key _ _
theorem fin6 : (Gen.dats m 0 c).arrAt 6 cfg0.N = resV m c :=
  (Gen.dats m 0 c).arrAt_eq_of_cover 6 (resV m c) (fl6 m c) fun i => by
    have h0 : (i 0 : Nat) < 4 := (i 0).isLt
    have h1 : (i 1 : Nat) < 256 := (i 1).isLt
    have h2 : (i 2 : Nat) < 1024 := (i 2).isLt
    let t : Fin cfg0.N := ⟨(i 0).val * 8 + (i 2).val / 256 * 2 + 1, by rw [show cfg0.N = 32 from N_0]; omega⟩
    have ht : t.val = (i 0).val * 8 + (i 2).val / 256 * 2 + 1 := rfl
    have hi : win0_6.index t = ![t.val / 8, 0, t.val / 2 % 4] := idx6 t
    have e0 : win0_6.index t 0 = t.val / 8 := congrFun hi 0
    have e1 : win0_6.index t 1 = 0 := congrFun hi 1
    have e2 : win0_6.index t 2 = t.val / 2 % 4 := congrFun hi 2
    refine ⟨t, (flush0_6 t).mpr (by show ((i 0).val * 8 + (i 2).val / 256 * 2 + 1) % 2 = 1; omega), ?_⟩
    show i ∈ ((View.whole main_v0_2).slice (win0_6.rect t)).set
    rw [View.set_slice_whole, Rect.mem_set_unit]
    intro a
    match a with
    | ⟨0, _⟩ => show win0_6.index t 0 * 1 ≤ (i 0 : Nat) ∧ (i 0 : Nat) < win0_6.index t 0 * 1 + 1
                rw [e0]; omega
    | ⟨1, _⟩ => show win0_6.index t 1 * 256 ≤ (i 1 : Nat) ∧ (i 1 : Nat) < win0_6.index t 1 * 256 + 256
                rw [e1]; omega
    | ⟨2, _⟩ => show win0_6.index t 2 * 256 ≤ (i 2 : Nat) ∧ (i 2 : Nat) < win0_6.index t 2 * 256 + 256
                rw [e2]; omega
end Cert.KernelIdeal.Blocks
-- ==== Proof.XRef.lean ====
/- The reference's three results, row by row. -/
module
public import proofs.«01_k».proof.Proof.XRows
public import proofs.«01_k».proof.Proof.Gen.ReferenceIdeal.Read
public import Idealize.ShloMosaic.Lib.Pointwise
@[expose] public section
set_option maxRecDepth 16384
noncomputable section
namespace Cert.ReferenceIdeal.Rows
open Cert.ReferenceIdeal Cert.ReferenceIdeal.Gen Cert.ReferenceIdeal.Read Idealize.ShloMosaic Cert.Xattn
variable (x0 : (⟨S4x2048x1024, .bf16⟩ : BufTy).Contents (Elt Ideal)) (x1 : (⟨S4x256x2048, .bf16⟩ : BufTy).Contents (Elt Ideal)) (x2 : (⟨S4x2048x1024, .bf16⟩ : BufTy).Contents (Elt Ideal))

/-- An array of rows read by its three coordinates. -/
abbrev cq (x : (⟨S4x2048x1024, .bf16⟩ : BufTy).Contents (Elt Ideal)) : Fin 4 → Fin 2048 → Fin 1024 → EReal := fun b i n => x (ix3 b i n)
abbrev ck (x : (⟨S4x256x2048, .bf16⟩ : BufTy).Contents (Elt Ideal)) : Fin 4 → Fin 256 → Fin 2048 → EReal := fun b i n => x (ix3 b i n)

theorem rowMax (y : (⟨S4x4x2048x256, .f32⟩ : BufTy).Contents (Elt Ideal)) (b h : Fin 4) (i : Fin 2048) :
    Host.reduce (FloatOps.maximumf (F := Ideal) (φ := .f32)) y (val_main_cst_0 (F := Ideal)) reducesTo_S4x4x2048x256_S4x4x2048_d3 h_S_ (ix3 b h i)
      = Finset.univ.fold max lo (fun j : Fin 256 => y (ix4 b h i j)) := by
  pointwise [val_main_cst_0]
theorem v13 (b h : Fin 4) (i : Fin 2048) (j : Fin 256) : val_main_v13 (F := Ideal) x0 x1 (ix4 b h i j) = rowS (cq x0) (ck x1) b h i j := by
  pointwise [val_main_v13, val_main_v12, val_main_v11,val_main_cst, val_main_v6, val_main_v5, val_main_v8, val_main_v7, val_main_v3, val_main_v1, val_main_v0]
  rfl
theorem v21 (b h : Fin 4) (i : Fin 2048) : val_main_v21 (F := Ideal) x0 x1 (ix3 b h i) = Finset.univ.fold max lo (rowS (cq x0) (ck x1) b h i) := by
  rw [val_main_v21_apply]
  unfold val_main_v14
  rw [rowMax, val_main_v20_apply]
  simp only [v13]
  show max lo _ = _
  rw [lo_eq]; exact max_bot_left _
theorem v34 (b h : Fin 4) (i : Fin 2048) (j : Fin 256) : val_main_v34 (F := Ideal) x0 x1 (ix4 b h i j) = wt (rowS (cq x0) (ck x1) b h i) j := by
  rw [val_main_v34_apply, val_main_v33_apply, v13, val_main_v32_apply, val_main_v31_apply]
  have e : idx_main_v31 (idx_main_v32 (ix4 b h i j)) = ix3 b h i := by
    funext a; match a with
    | ⟨0, _⟩ => rfl
    | ⟨1, _⟩ => rfl
    | ⟨2, _⟩ => rfl
  rw [e, v21]; rfl
theorem v38 (b h : Fin 4) (i : Fin 2048) (j : Fin 256) : val_main_v38 (F := Ideal) x0 x1 (ix4 b h i j) = prob (rowS (cq x0) (ck x1) b h i) j := by
  have e : val_main_v38 (F := Ideal) x0 x1 (ix4 b h i j) = Ideal.div (val_main_v34 x0 x1 (ix4 b h i j)) (∑ x, val_main_v34 x0 x1 (ix4 b h i x)) := by
    pointwise [val_main_v38, val_main_v37, val_main_v36, val_main_v35,val_main_cst_8]
  rw [e]; simp only [v34]; rfl
theorem v49 (b h : Fin 4) (i : Fin 2048) (j : Fin 256) : val_main_v49 (F := Ideal) x1 x2 (ix4 b h i j) = rowD (cq x2) (ck x1) b h i j := by
  pointwise [val_main_v49, val_main_v46, val_main_v45, val_main_v2, val_main_v10,val_main_v9, val_main_v4, val_main_v1]
  rfl
theorem v63 (b h : Fin 4) (i : Fin 2048) (j : Fin 256) : val_main_v63 (F := Ideal) x0 x1 x2 (ix4 b h i j)
    = gradR (rowS (cq x0) (ck x1) b h i) (rowD (cq x2) (ck x1) b h i) j := by
  have e : val_main_v63 (F := Ideal) x0 x1 x2 (ix4 b h i j) = (Ideal.div (val_main_v49 x1 x2 (ix4 b h i j)) (∑ x, val_main_v34 x0 x1 (ix4 b h i x)) +
          ∑ x : Fin 1, -∑ x,
                val_main_v49 x1 x2 (ix4 b h i x) *
                    Ideal.div 1 ((∑ x, val_main_v34 x0 x1 (ix4 b h i x)) * ∑ x, val_main_v34 x0 x1 (ix4 b h i x)) *
                  val_main_v34 x0 x1 (ix4 b h i x)) *
        val_main_v34 x0 x1 (ix4 b h i j) * sc := by
    pointwise [val_main_v63, val_main_v62,val_main_cst_12,val_main_v61, val_main_v60,val_main_v59,val_main_v58,val_main_cst_11,val_main_v57,val_main_v56,val_main_v55,val_main_v54,val_main_v53,val_main_cst_10,val_main_v52,val_main_v51,val_main_v50, val_main_v41,val_main_v40,val_main_cst_9,val_main_v39,val_main_v36, val_main_v35,val_main_cst_8]
  rw [e]; simp only [v34, v49, Finset.univ_unique, Finset.sum_singleton]; rfl
theorem v72 (b : Fin 4) (i : Fin 2048) (n : Fin 1024) : val_main_v72 (F := Ideal) x0 x1 x2 (ix3 b i n)
    = ∑ j : Fin 256, gradR (rowS (cq x0) (ck x1) b (headOf n) i) (rowD (cq x2) (ck x1) b (headOf n) i) j * ck x1 b j ⟨n.val, by omega⟩ := by
  have e : val_main_v72 (F := Ideal) x0 x1 x2 (ix3 b i n) = ∑ j, val_main_v63 (F := Ideal) x0 x1 x2 (ix4 b (headOf n) i j) * x1 (ix3 b j ⟨n.val, by omega⟩) := by
    pointwise [val_main_v72, val_main_v71, val_main_v70, val_main_v65, val_main_v8, val_main_v7, val_main_v3, val_main_v1]
  rw [e]; simp only [v63]
theorem v69 (b : Fin 4) (j : Fin 256) (n : Fin 1024) : val_main_v69 (F := Ideal) x0 x1 x2 (ix3 b j n)
    = ∑ i : Fin 2048, gradR (rowS (cq x0) (ck x1) b (headOf n) i) (rowD (cq x2) (ck x1) b (headOf n) i) j * cq x0 b i n := by
  have e : val_main_v69 (F := Ideal) x0 x1 x2 (ix3 b j n) = ∑ i, val_main_v63 (F := Ideal) x0 x1 x2 (ix4 b (headOf n) i j) * x0 (ix3 b i n) := by
    pointwise [val_main_v69, val_main_v68, val_main_v64, val_main_v6, val_main_v5, val_main_v0]
  rw [e]; simp only [v63]
theorem v67 (b : Fin 4) (j : Fin 256) (n : Fin 1024) : val_main_v67 (F := Ideal) x0 x1 x2 (ix3 b j n)
    = gradVal (cq x0) (cq x2) (ck x1) b j n := by
  have e : val_main_v67 (F := Ideal) x0 x1 x2 (ix3 b j n) = ∑ i, x2 (ix3 b i n) * val_main_v38 (F := Ideal) x0 x1 (ix4 b (headOf n) i j) := by
    pointwise [val_main_v67, val_main_v66, val_main_v48, val_main_v47, val_main_v46, val_main_v45, val_main_v2]
  rw [e]; simp only [v38]
  exact Finset.sum_congr rfl fun i _ => mul_comm _ _
end Cert.ReferenceIdeal.Rows
-- ==== Proof.XPre.lean ====
/- The precondition read: the queries and the keys are real numbers. -/
module
public import proofs.«01_k».proof.Proof.XRows
public import proofs.«01_k».proof.Pre_finite_scores
public import Idealize.ShloMosaic.Lib.Pointwise
public import Idealize.ShloMosaic.Lib.ReduceAll
@[expose] public section
noncomputable section
namespace Cert.Pre_finite_scores
open Idealize.ShloMosaic Facts
variable [Facts]

theorem top_eq : Ideal.ofBits .bf16 0x7F80#16 = ⊤ := by simp [Ideal.ofBits, Ideal.ieee]
/-- A number whose size is below infinity is real. -/
theorem real_of_lt (x : EReal) (h : Ideal.cmp .olt (max x (-x)) (Ideal.ofBits .bf16 0x7F80#16) = 1#1) : ∃ r : ℝ, x = r := by
  rw [top_eq] at h
  induction x with
  | bot => exact absurd h (by simp [Ideal.cmp])
  | top => exact absurd h (by simp [Ideal.cmp])
  | coe r => exact ⟨r, rfl⟩
instance : Subsingleton S_.Idx := ⟨fun a b => funext fun k => k.elim0⟩

theorem reals (x : FVec Ideal S4x2048x1024 .bf16) (y : FVec Ideal S4x256x2048 .bf16) (z : FVec Ideal S4x2048x1024 .bf16)
    (h : fn (F := Ideal) x y z = fun _ => 1#1) :
    (∀ b i n, ∃ r : ℝ, x (ix3 b i n) = (r : EReal)) ∧ ∀ b j (n : Fin 1024), ∃ r : ℝ, y (ix3 b j ⟨n.val, by omega⟩) = (r : EReal) := by
  dsimp only [fn] at h
  have h0 := congrFun h (fun k => k.elim0)
  have h1 := IntOp.andi_eq_one.mp h0
  constructor
  · intro b i n
    have e := Host.reduce_andi_all _ _ _ _ _ h1.1 (ix3 b i n)
    exact real_of_lt _ e
  · intro b j n
    have e := Host.reduce_andi_all _ _ _ _ _ h1.2 (ix3 b j n)
    have e2 : extractStridedSlice S4x256x1024 ![0, 0, 0] y slices_S4x256x2048_S4x256x1024_0_0_0 (ix3 b j n) = y (ix3 b j ⟨n.val, by omega⟩) := by
      pointwise []
    rw [← e2]
    exact real_of_lt _ e
end Cert.Pre_finite_scores
-- ==== Proof.XAttn.lean ====
/- The gradient of the memory attention: every claim about it. -/
module
public import proofs.«01_k».proof.Defs
public import proofs.«01_k».proof.Proof.Gen.Kernel.Frame
public import proofs.«01_k».proof.Proof.Gen.Pre_finite_scores
public import proofs.«01_k».proof.Proof.Gen.ReferenceIdeal.Run
public import proofs.«01_k».proof.Proof.XArr
public import proofs.«01_k».proof.Proof.XRef
public import proofs.«01_k».proof.Proof.XPre
public import Idealize.ShloMosaic.Lib.Quiescent
@[expose] public section
noncomputable section
namespace Cert.XAttn
open Idealize.ShloMosaic Idealize.SL.Sem Cert.Xattn

/-- The reference's results are the kernel's, where the queries and the keys are real. -/
theorem results (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : Pre_KernelIdeal_finite_scores m)
    (e0 : m' ((c.tc : Thread ReferenceIdeal.nD ReferenceIdeal.τ).loc ReferenceIdeal.main_arg0) = m ((c.tc : Thread KernelIdeal.nD KernelIdeal.τ).loc KernelIdeal.main_arg0))
    (e1 : m' ((c.tc : Thread ReferenceIdeal.nD ReferenceIdeal.τ).loc ReferenceIdeal.main_arg1) = m ((c.tc : Thread KernelIdeal.nD KernelIdeal.τ).loc KernelIdeal.main_arg1))
    (e2 : m' ((c.tc : Thread ReferenceIdeal.nD ReferenceIdeal.τ).loc ReferenceIdeal.main_arg2) = m ((c.tc : Thread KernelIdeal.nD KernelIdeal.τ).loc KernelIdeal.main_arg2)) :
    ReferenceIdeal.Value.res_main_v72 m' c = KernelIdeal.Blocks.resQ m c
    ∧ ReferenceIdeal.Value.res_main_v69 m' c = KernelIdeal.Blocks.resK m c
    ∧ ReferenceIdeal.Value.res_main_v67 m' c = KernelIdeal.Blocks.resV m c := by
  obtain ⟨hq, hk⟩ := Pre_finite_scores.reals _ _ _ (h c)
  have hs := rowS_real (KernelIdeal.Blocks.aQ m c) (KernelIdeal.Blocks.aK m c) hq hk
  rw [ReferenceIdeal.Read.val_main_v72_eq, ReferenceIdeal.Read.val_main_v69_eq, ReferenceIdeal.Read.val_main_v67_eq, e0, e1, e2]
  refine ⟨?_, ?_, ?_⟩
  · funext i
    idx_vars i
    refine (ReferenceIdeal.Rows.v72 _ _ _ _ _ _).trans ?_
    exact Finset.sum_congr rfl fun j _ => congrArg (· * _) (grad_eq _ _ (hs _ _ _) j).symm
  · funext i
    idx_vars i
    refine (ReferenceIdeal.Rows.v69 _ _ _ _ _ _).trans ?_
    exact Finset.sum_congr rfl fun j _ => congrArg (· * _) (grad_eq _ _ (hs _ _ _) _).symm
  · funext i
    idx_vars i
    exact ReferenceIdeal.Rows.v67 _ _ _ _ _ _

theorem algebraic : algebraic_KernelIdeal_ReferenceIdeal_pre_finite_scores := by
  intro m g m' g' h e
  refine ⟨fun c => KernelIdeal.Blocks.resQ m c, fun c => KernelIdeal.Blocks.resK m c, fun c => KernelIdeal.Blocks.resV m c, ?_, ?_⟩
  · refine (θ_run KernelIdeal.defs _ _).mono (fun r H c => ?_) (KernelIdeal.Value.run_blocks (F := Ideal) m g)
    obtain ⟨a4, a5, a6, k⟩ := H c
    exact ⟨a4.trans (KernelIdeal.Blocks.fin4 m c), a5.trans (KernelIdeal.Blocks.fin5 m c), a6.trans (KernelIdeal.Blocks.fin6 m c), k⟩
  · refine (θ_run ReferenceIdeal.defs _ _).mono (fun r H c => ?_) (ReferenceIdeal.Value.run (F := Ideal) m' g')
    obtain ⟨a4, a5, a6, k⟩ := H c
    obtain ⟨r4, r5, r6⟩ := results m m' c h (e c).1 (e c).2.1 (e c).2.2
    exact ⟨a4.trans r4, a5.trans r5, a6.trans r6, k⟩

theorem reference_frame : quiescent_ReferenceIdeal := fun m ρ _ =>
  (θ_run ReferenceIdeal.defs _ _).mono (fun r h => ⟨fun c => (h c).2.2.2, sem_eq_zero_of_no_sems (by decide) r.2⟩) (ReferenceIdeal.Value.run (F := Ideal) m ρ)

end Cert.XAttn
-- ==== Proof.lean ====
module

public import proofs.«01_k».proof.Defs
public import proofs.«01_k».proof.Proof.Gen.Kernel.Frame
public import proofs.«01_k».proof.Proof.Gen.Pre_finite_scores
public import proofs.«01_k».proof.Proof.Gen.FfnOutDx.Frame
public import proofs.«01_k».proof.Proof.Gen.FfnOutDw.Frame
public import proofs.«01_k».proof.Proof.Gen.FfnInDx.Frame
public import proofs.«01_k».proof.Proof.Gen.FfnInDw.Frame
public import proofs.«01_k».proof.Proof.Gen.AbInDx.Frame
public import proofs.«01_k».proof.Proof.Gen.AbInDw.Frame
public import proofs.«01_k».proof.Proof.Gen.GluDx.Frame
public import proofs.«01_k».proof.Proof.Gen.GluDw.Frame
public import proofs.«01_k».proof.Proof.Gen.XqDx.Frame
public import proofs.«01_k».proof.Proof.Gen.XqDw.Frame
public import proofs.«01_k».proof.Proof.Gen.XoDx.Frame
public import proofs.«01_k».proof.Proof.Gen.XkvDx.Frame
public import proofs.«01_k».proof.Proof.Gen.XkvDw.Frame
public import proofs.«01_k».proof.Proof.Gen.AbOutDw.Frame
public import proofs.«01_k».proof.Proof.Gen.FfnOut.Frame
public import proofs.«01_k».proof.Proof.Gen.AbIn.Frame
public import proofs.«01_k».proof.Proof.Gen.AbOut.Frame
public import proofs.«01_k».proof.Proof.Gen.Xq.Frame
public import proofs.«01_k».proof.Proof.Gen.Xkv.Frame
public import proofs.«01_k».proof.Proof.Gen.Xo.Frame
public import proofs.«01_k».proof.Proof.Gen.FfnIn.Frame
public import proofs.«01_k».proof.Proof.Gen.Glu.Frame
public import proofs.«01_k».proof.Proof.Gen.XAttnF.Frame
public import proofs.«01_k».proof.Proof.Gen.AdamAbIn.Frame
public import proofs.«01_k».proof.Proof.Gen.AdamAbOut.Frame
public import proofs.«01_k».proof.Proof.Gen.AdamGlu.Frame
public import proofs.«01_k».proof.Proof.Gen.AdamXqo.Frame
public import proofs.«01_k».proof.Proof.Gen.AdamXkv.Frame
public import proofs.«01_k».proof.Proof.Gen.AdamFfnIn.Frame
public import proofs.«01_k».proof.Proof.Gen.AdamFfnOut.Frame
public import proofs.«01_k».proof.Proof.Gen.AdamSmall.Frame
public import proofs.«01_k».proof.Proof.Gen.NormIn.Frame
public import proofs.«01_k».proof.Proof.Gen.MemNorm.Frame
public import proofs.«01_k».proof.Proof.Gen.ResNorm.Frame
public import proofs.«01_k».proof.Proof.Gen.ResNormC.Frame
public import proofs.«01_k».proof.Proof.Gen.Gelu.Frame
public import proofs.«01_k».proof.Proof.Gen.GateB.Frame
public import proofs.«01_k».proof.Proof.Gen.SumSlots.Frame
public import proofs.«01_k».proof.Proof.Gen.MemNormB.Frame
public import proofs.«01_k».proof.Proof.Gen.HgrnF.Frame
public import proofs.«01_k».proof.Proof.Gen.Pre_finite_gates
public import proofs.«01_k».proof.Proof.Gen.NormInB.Frame
public import proofs.«01_k».proof.Proof.Gen.Pre_finite_rows
public import proofs.«01_k».proof.Proof.Gen.ResNormB.Frame
public import proofs.«01_k».proof.Proof.Gen.Pre_finite_stream
public import proofs.«01_k».proof.Proof.Gen.SwigluB.Frame
public import proofs.«01_k».proof.Proof.Gen.Pre_finite_gate
public import proofs.«01_k».proof.Proof.FfnOutDx
public import proofs.«01_k».proof.Proof.FfnOutDw
public import proofs.«01_k».proof.Proof.FfnInDx
public import proofs.«01_k».proof.Proof.FfnInDw
public import proofs.«01_k».proof.Proof.AbInDx
public import proofs.«01_k».proof.Proof.AbInDw
public import proofs.«01_k».proof.Proof.GluDx
public import proofs.«01_k».proof.Proof.GluDw
public import proofs.«01_k».proof.Proof.XqDx
public import proofs.«01_k».proof.Proof.XqDw
public import proofs.«01_k».proof.Proof.XoDx
public import proofs.«01_k».proof.Proof.XkvDx
public import proofs.«01_k».proof.Proof.XkvDw
public import proofs.«01_k».proof.Proof.AbOutDw
public import proofs.«01_k».proof.Proof.FfnOut
public import proofs.«01_k».proof.Proof.AbIn
public import proofs.«01_k».proof.Proof.AbOut
public import proofs.«01_k».proof.Proof.Xq
public import proofs.«01_k».proof.Proof.Xkv
public import proofs.«01_k».proof.Proof.Xo
public import proofs.«01_k».proof.Proof.FfnIn
public import proofs.«01_k».proof.Proof.Glu
public import proofs.«01_k».proof.Proof.XAttnF
public import proofs.«01_k».proof.Proof.AdamAbIn
public import proofs.«01_k».proof.Proof.AdamAbOut
public import proofs.«01_k».proof.Proof.AdamGlu
public import proofs.«01_k».proof.Proof.AdamXqo
public import proofs.«01_k».proof.Proof.AdamXkv
public import proofs.«01_k».proof.Proof.AdamFfnIn
public import proofs.«01_k».proof.Proof.AdamFfnOut
public import proofs.«01_k».proof.Proof.AdamSmall
public import proofs.«01_k».proof.Proof.NormIn
public import proofs.«01_k».proof.Proof.MemNorm
public import proofs.«01_k».proof.Proof.ResNorm
public import proofs.«01_k».proof.Proof.ResNormC
public import proofs.«01_k».proof.Proof.Gelu
public import proofs.«01_k».proof.Proof.GateB
public import proofs.«01_k».proof.Proof.SumSlots
public import proofs.«01_k».proof.Proof.MemNormB
public import proofs.«01_k».proof.Proof.HgrnF
public import proofs.«01_k».proof.Proof.NormInB
public import proofs.«01_k».proof.Proof.ResNormB
public import proofs.«01_k».proof.Proof.SwigluB
public import proofs.«01_k».proof.Proof.XAttn
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.FfnOutDx.Gen.facts, Cert.FfnOutDxIdeal.Gen.facts, Cert.FfnOutDxRefIdeal.Gen.facts,
  Cert.FfnOutDw.Gen.facts, Cert.FfnOutDwIdeal.Gen.facts, Cert.FfnOutDwRefIdeal.Gen.facts, Cert.FfnInDx.Gen.facts, Cert.FfnInDxIdeal.Gen.facts, Cert.FfnInDxRefIdeal.Gen.facts,
  Cert.FfnInDw.Gen.facts, Cert.FfnInDwIdeal.Gen.facts, Cert.FfnInDwRefIdeal.Gen.facts, Cert.AbInDx.Gen.facts, Cert.AbInDxIdeal.Gen.facts, Cert.AbInDxRefIdeal.Gen.facts,
  Cert.AbInDw.Gen.facts, Cert.AbInDwIdeal.Gen.facts, Cert.AbInDwRefIdeal.Gen.facts, Cert.GluDx.Gen.facts, Cert.GluDxIdeal.Gen.facts, Cert.GluDxRefIdeal.Gen.facts,
  Cert.GluDw.Gen.facts, Cert.GluDwIdeal.Gen.facts, Cert.GluDwRefIdeal.Gen.facts, Cert.XqDx.Gen.facts, Cert.XqDxIdeal.Gen.facts, Cert.XqDxRefIdeal.Gen.facts,
  Cert.XqDw.Gen.facts, Cert.XqDwIdeal.Gen.facts, Cert.XqDwRefIdeal.Gen.facts, Cert.XoDx.Gen.facts, Cert.XoDxIdeal.Gen.facts, Cert.XoDxRefIdeal.Gen.facts,
  Cert.XkvDx.Gen.facts, Cert.XkvDxIdeal.Gen.facts, Cert.XkvDxRefIdeal.Gen.facts, Cert.XkvDw.Gen.facts, Cert.XkvDwIdeal.Gen.facts, Cert.XkvDwRefIdeal.Gen.facts,
  Cert.AbOutDw.Gen.facts, Cert.AbOutDwIdeal.Gen.facts, Cert.AbOutDwRefIdeal.Gen.facts, Cert.FfnOut.Gen.facts, Cert.FfnOutIdeal.Gen.facts, Cert.FfnOutRefIdeal.Gen.facts,
  Cert.AbIn.Gen.facts, Cert.AbInIdeal.Gen.facts, Cert.AbInRefIdeal.Gen.facts, Cert.AbOut.Gen.facts, Cert.AbOutIdeal.Gen.facts, Cert.AbOutRefIdeal.Gen.facts,
  Cert.Xq.Gen.facts, Cert.XqIdeal.Gen.facts, Cert.XqRefIdeal.Gen.facts, Cert.Xkv.Gen.facts, Cert.XkvIdeal.Gen.facts, Cert.XkvRefIdeal.Gen.facts,
  Cert.Xo.Gen.facts, Cert.XoIdeal.Gen.facts, Cert.XoRefIdeal.Gen.facts, Cert.FfnIn.Gen.facts, Cert.FfnInIdeal.Gen.facts, Cert.FfnInRefIdeal.Gen.facts,
  Cert.Glu.Gen.facts, Cert.GluIdeal.Gen.facts, Cert.GluRefIdeal.Gen.facts, Cert.XAttnF.Gen.facts, Cert.XAttnFIdeal.Gen.facts, Cert.XAttnFRefIdeal.Gen.facts,
  Cert.AdamAbIn.Gen.facts, Cert.AdamAbInIdeal.Gen.facts, Cert.AdamAbInRefIdeal.Gen.facts, Cert.AdamAbOut.Gen.facts, Cert.AdamAbOutIdeal.Gen.facts, Cert.AdamAbOutRefIdeal.Gen.facts,
  Cert.AdamGlu.Gen.facts, Cert.AdamGluIdeal.Gen.facts, Cert.AdamGluRefIdeal.Gen.facts, Cert.AdamXqo.Gen.facts, Cert.AdamXqoIdeal.Gen.facts, Cert.AdamXqoRefIdeal.Gen.facts,
  Cert.AdamXkv.Gen.facts, Cert.AdamXkvIdeal.Gen.facts, Cert.AdamXkvRefIdeal.Gen.facts, Cert.AdamFfnIn.Gen.facts, Cert.AdamFfnInIdeal.Gen.facts, Cert.AdamFfnInRefIdeal.Gen.facts,
  Cert.AdamFfnOut.Gen.facts, Cert.AdamFfnOutIdeal.Gen.facts, Cert.AdamFfnOutRefIdeal.Gen.facts, Cert.AdamSmall.Gen.facts, Cert.AdamSmallIdeal.Gen.facts, Cert.AdamSmallRefIdeal.Gen.facts,
  Cert.NormIn.Gen.facts, Cert.NormInIdeal.Gen.facts, Cert.NormInRefIdeal.Gen.facts, Cert.MemNorm.Gen.facts, Cert.MemNormIdeal.Gen.facts, Cert.MemNormRefIdeal.Gen.facts,
  Cert.ResNorm.Gen.facts, Cert.ResNormIdeal.Gen.facts, Cert.ResNormRefIdeal.Gen.facts, Cert.ResNormC.Gen.facts, Cert.ResNormCIdeal.Gen.facts, Cert.ResNormCRefIdeal.Gen.facts,
  Cert.Gelu.Gen.facts, Cert.GeluIdeal.Gen.facts, Cert.GeluRefIdeal.Gen.facts, Cert.GateB.Gen.facts, Cert.GateBIdeal.Gen.facts, Cert.GateBRefIdeal.Gen.facts,
  Cert.SumSlots.Gen.facts, Cert.SumSlotsIdeal.Gen.facts, Cert.SumSlotsRefIdeal.Gen.facts, Cert.MemNormB.Gen.facts, Cert.MemNormBIdeal.Gen.facts, Cert.MemNormBRefIdeal.Gen.facts,
  Cert.HgrnF.Gen.facts, Cert.HgrnFIdeal.Gen.facts, Cert.HgrnFRefIdeal.Gen.facts, Cert.NormInB.Gen.facts, Cert.NormInBIdeal.Gen.facts, Cert.NormInBRefIdeal.Gen.facts,
  Cert.ResNormB.Gen.facts, Cert.ResNormBIdeal.Gen.facts, Cert.ResNormBRefIdeal.Gen.facts, Cert.SwigluB.Gen.facts, Cert.SwigluBIdeal.Gen.facts, Cert.SwigluBRefIdeal.Gen.facts, Cert.Pre_finite_scores.Gen.facts, Cert.Pre_finite_gates.Gen.facts, Cert.Pre_finite_rows.Gen.facts,
  Cert.Pre_finite_stream.Gen.facts, Cert.Pre_finite_gate.Gen.facts,
  fun m ρ _ => Cert.Kernel.Gen.frame m ρ, fun m ρ _ => Cert.KernelIdeal.Gen.frame m ρ, fun m ρ _ => Cert.KernelIdeal.Gen.frame m ρ,
  Cert.XAttn.reference_frame, fun m ρ _ => Cert.XAttn.reference_frame m ρ trivial,
  fun m ρ _ => Cert.FfnOutDx.Gen.frame m ρ, fun m ρ _ => Cert.FfnOutDxIdeal.Gen.frame m ρ, Cert.FfnOutDx.reference_frame,
  fun m ρ _ => Cert.FfnOutDw.Gen.frame m ρ, fun m ρ _ => Cert.FfnOutDwIdeal.Gen.frame m ρ, Cert.FfnOutDw.reference_frame,
  fun m ρ _ => Cert.FfnInDx.Gen.frame m ρ, fun m ρ _ => Cert.FfnInDxIdeal.Gen.frame m ρ, Cert.FfnInDx.reference_frame,
  fun m ρ _ => Cert.FfnInDw.Gen.frame m ρ, fun m ρ _ => Cert.FfnInDwIdeal.Gen.frame m ρ, Cert.FfnInDw.reference_frame,
  fun m ρ _ => Cert.AbInDx.Gen.frame m ρ, fun m ρ _ => Cert.AbInDxIdeal.Gen.frame m ρ, Cert.AbInDx.reference_frame,
  fun m ρ _ => Cert.AbInDw.Gen.frame m ρ, fun m ρ _ => Cert.AbInDwIdeal.Gen.frame m ρ, Cert.AbInDw.reference_frame,
  fun m ρ _ => Cert.GluDx.Gen.frame m ρ, fun m ρ _ => Cert.GluDxIdeal.Gen.frame m ρ, Cert.GluDx.reference_frame,
  fun m ρ _ => Cert.GluDw.Gen.frame m ρ, fun m ρ _ => Cert.GluDwIdeal.Gen.frame m ρ, Cert.GluDw.reference_frame,
  fun m ρ _ => Cert.XqDx.Gen.frame m ρ, fun m ρ _ => Cert.XqDxIdeal.Gen.frame m ρ, Cert.XqDx.reference_frame,
  fun m ρ _ => Cert.XqDw.Gen.frame m ρ, fun m ρ _ => Cert.XqDwIdeal.Gen.frame m ρ, Cert.XqDw.reference_frame,
  fun m ρ _ => Cert.XoDx.Gen.frame m ρ, fun m ρ _ => Cert.XoDxIdeal.Gen.frame m ρ, Cert.XoDx.reference_frame,
  fun m ρ _ => Cert.XkvDx.Gen.frame m ρ, fun m ρ _ => Cert.XkvDxIdeal.Gen.frame m ρ, Cert.XkvDx.reference_frame,
  fun m ρ _ => Cert.XkvDw.Gen.frame m ρ, fun m ρ _ => Cert.XkvDwIdeal.Gen.frame m ρ, Cert.XkvDw.reference_frame,
  fun m ρ _ => Cert.AbOutDw.Gen.frame m ρ, fun m ρ _ => Cert.AbOutDwIdeal.Gen.frame m ρ, Cert.AbOutDw.reference_frame,
  fun m ρ _ => Cert.FfnOut.Gen.frame m ρ, fun m ρ _ => Cert.FfnOutIdeal.Gen.frame m ρ, Cert.FfnOut.reference_frame,
  fun m ρ _ => Cert.AbIn.Gen.frame m ρ, fun m ρ _ => Cert.AbInIdeal.Gen.frame m ρ, Cert.AbIn.reference_frame,
  fun m ρ _ => Cert.AbOut.Gen.frame m ρ, fun m ρ _ => Cert.AbOutIdeal.Gen.frame m ρ, Cert.AbOut.reference_frame,
  fun m ρ _ => Cert.Xq.Gen.frame m ρ, fun m ρ _ => Cert.XqIdeal.Gen.frame m ρ, Cert.Xq.reference_frame,
  fun m ρ _ => Cert.Xkv.Gen.frame m ρ, fun m ρ _ => Cert.XkvIdeal.Gen.frame m ρ, Cert.Xkv.reference_frame,
  fun m ρ _ => Cert.Xo.Gen.frame m ρ, fun m ρ _ => Cert.XoIdeal.Gen.frame m ρ, Cert.Xo.reference_frame,
  fun m ρ _ => Cert.FfnIn.Gen.frame m ρ, fun m ρ _ => Cert.FfnInIdeal.Gen.frame m ρ, Cert.FfnIn.reference_frame,
  fun m ρ _ => Cert.Glu.Gen.frame m ρ, fun m ρ _ => Cert.GluIdeal.Gen.frame m ρ, Cert.Glu.reference_frame,
  fun m ρ _ => Cert.XAttnF.Gen.frame m ρ, fun m ρ _ => Cert.XAttnFIdeal.Gen.frame m ρ, Cert.XAttnF.reference_frame,
  fun m ρ _ => Cert.AdamAbIn.Gen.frame m ρ, fun m ρ _ => Cert.AdamAbInIdeal.Gen.frame m ρ, Cert.AdamAbIn.reference_frame,
  fun m ρ _ => Cert.AdamAbOut.Gen.frame m ρ, fun m ρ _ => Cert.AdamAbOutIdeal.Gen.frame m ρ, Cert.AdamAbOut.reference_frame,
  fun m ρ _ => Cert.AdamGlu.Gen.frame m ρ, fun m ρ _ => Cert.AdamGluIdeal.Gen.frame m ρ, Cert.AdamGlu.reference_frame,
  fun m ρ _ => Cert.AdamXqo.Gen.frame m ρ, fun m ρ _ => Cert.AdamXqoIdeal.Gen.frame m ρ, Cert.AdamXqo.reference_frame,
  fun m ρ _ => Cert.AdamXkv.Gen.frame m ρ, fun m ρ _ => Cert.AdamXkvIdeal.Gen.frame m ρ, Cert.AdamXkv.reference_frame,
  fun m ρ _ => Cert.AdamFfnIn.Gen.frame m ρ, fun m ρ _ => Cert.AdamFfnInIdeal.Gen.frame m ρ, Cert.AdamFfnIn.reference_frame,
  fun m ρ _ => Cert.AdamFfnOut.Gen.frame m ρ, fun m ρ _ => Cert.AdamFfnOutIdeal.Gen.frame m ρ, Cert.AdamFfnOut.reference_frame,
  fun m ρ _ => Cert.AdamSmall.Gen.frame m ρ, fun m ρ _ => Cert.AdamSmallIdeal.Gen.frame m ρ, Cert.AdamSmall.reference_frame,
  fun m ρ _ => Cert.NormIn.Gen.frame m ρ, fun m ρ _ => Cert.NormInIdeal.Gen.frame m ρ, Cert.NormIn.reference_frame,
  fun m ρ _ => Cert.MemNorm.Gen.frame m ρ, fun m ρ _ => Cert.MemNormIdeal.Gen.frame m ρ, Cert.MemNorm.reference_frame,
  fun m ρ _ => Cert.ResNorm.Gen.frame m ρ, fun m ρ _ => Cert.ResNormIdeal.Gen.frame m ρ, Cert.ResNorm.reference_frame,
  fun m ρ _ => Cert.ResNormC.Gen.frame m ρ, fun m ρ _ => Cert.ResNormCIdeal.Gen.frame m ρ, Cert.ResNormC.reference_frame,
  fun m ρ _ => Cert.Gelu.Gen.frame m ρ, fun m ρ _ => Cert.GeluIdeal.Gen.frame m ρ, Cert.Gelu.reference_frame,
  fun m ρ _ => Cert.GateB.Gen.frame m ρ, fun m ρ _ => Cert.GateBIdeal.Gen.frame m ρ, Cert.GateB.reference_frame,
  fun m ρ _ => Cert.SumSlots.Gen.frame m ρ, fun m ρ _ => Cert.SumSlotsIdeal.Gen.frame m ρ, Cert.SumSlots.reference_frame,
  fun m ρ _ => Cert.MemNormB.Gen.frame m ρ, fun m ρ _ => Cert.MemNormBIdeal.Gen.frame m ρ, Cert.MemNormB.reference_frame,
  fun m ρ _ => Cert.HgrnF.Gen.frame m ρ, fun m ρ _ => Cert.HgrnFIdeal.Gen.frame m ρ, fun m ρ _ => Cert.HgrnFIdeal.Gen.frame m ρ,
  Cert.HgrnF.reference_frame, fun m ρ _ => Cert.HgrnF.reference_frame m ρ trivial,
  fun m ρ _ => Cert.NormInB.Gen.frame m ρ, fun m ρ _ => Cert.NormInBIdeal.Gen.frame m ρ, fun m ρ _ => Cert.NormInBIdeal.Gen.frame m ρ,
  Cert.NormInB.reference_frame, fun m ρ _ => Cert.NormInB.reference_frame m ρ trivial,
  fun m ρ _ => Cert.ResNormB.Gen.frame m ρ, fun m ρ _ => Cert.ResNormBIdeal.Gen.frame m ρ, fun m ρ _ => Cert.ResNormBIdeal.Gen.frame m ρ,
  Cert.ResNormB.reference_frame, fun m ρ _ => Cert.ResNormB.reference_frame m ρ trivial,
  fun m ρ _ => Cert.SwigluB.Gen.frame m ρ, fun m ρ _ => Cert.SwigluBIdeal.Gen.frame m ρ, fun m ρ _ => Cert.SwigluBIdeal.Gen.frame m ρ,
  Cert.SwigluB.reference_frame, fun m ρ _ => Cert.SwigluB.reference_frame m ρ trivial,
  trivial, Cert.XAttn.algebraic,
  trivial, Cert.FfnOutDx.algebraic,
  trivial, Cert.FfnOutDw.algebraic,
  trivial, Cert.FfnInDx.algebraic,
  trivial, Cert.FfnInDw.algebraic,
  trivial, Cert.AbInDx.algebraic,
  trivial, Cert.AbInDw.algebraic,
  trivial, Cert.GluDx.algebraic,
  trivial, Cert.GluDw.algebraic,
  trivial, Cert.XqDx.algebraic,
  trivial, Cert.XqDw.algebraic,
  trivial, Cert.XoDx.algebraic,
  trivial, Cert.XkvDx.algebraic,
  trivial, Cert.XkvDw.algebraic,
  trivial, Cert.AbOutDw.algebraic,
  trivial, Cert.FfnOut.algebraic,
  trivial, Cert.AbIn.algebraic,
  trivial, Cert.AbOut.algebraic,
  trivial, Cert.Xq.algebraic,
  trivial, Cert.Xkv.algebraic,
  trivial, Cert.Xo.algebraic,
  trivial, Cert.FfnIn.algebraic,
  trivial, Cert.Glu.algebraic,
  trivial, Cert.XAttnF.algebraic,
  trivial, Cert.AdamAbIn.algebraic,
  trivial, Cert.AdamAbOut.algebraic,
  trivial, Cert.AdamGlu.algebraic,
  trivial, Cert.AdamXqo.algebraic,
  trivial, Cert.AdamXkv.algebraic,
  trivial, Cert.AdamFfnIn.algebraic,
  trivial, Cert.AdamFfnOut.algebraic,
  trivial, Cert.AdamSmall.algebraic,
  trivial, Cert.NormIn.algebraic,
  trivial, Cert.MemNorm.algebraic,
  trivial, Cert.ResNorm.algebraic,
  trivial, Cert.ResNormC.algebraic,
  trivial, Cert.Gelu.algebraic,
  trivial, Cert.GateB.algebraic,
  trivial, Cert.SumSlots.algebraic,
  trivial, Cert.MemNormB.algebraic,
  trivial, Cert.HgrnF.algebraic,
  trivial, Cert.NormInB.algebraic,
  trivial, Cert.ResNormB.algebraic,
  trivial, Cert.SwigluB.algebraic⟩

end Cert.Proof

end
